-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel) (hPre_pre := hPre_pre)
    ∧ quiescent_KernelIdeal (hKernelIdeal := hKernelIdeal) (hPre_pre := hPre_pre)
    ∧ quiescent_ReferenceIdeal (hReferenceIdeal := hReferenceIdeal) (hPre_pre := hPre_pre)
    ∧ preserves_Kernel_KernelIdeal
    ∧ algebraic_KernelIdeal_ReferenceIdeal (hKernelIdeal := hKernelIdeal) (hReferenceIdeal := hReferenceIdeal) (hPre_pre := hPre_pre)
-- ==== Pre_pre.lean ====
abbrev S2x1024 : Shape := ⟨2, ![2, 1024]⟩
abbrev S16000x2560 : Shape := ⟨2, ![16000, 2560]⟩
abbrev S16000x20 : Shape := ⟨2, ![16000, 20]⟩
abbrev S16000x160 : Shape := ⟨2, ![16000, 160]⟩
abbrev S_ : Shape := ⟨0, ![]⟩

class Facts : Prop where
  bcast_S_S2x1024 : S_.BroadcastsInDim S2x1024 (![] : Fin 0 → Fin S2x1024.rank)
  reducesTo_S2x1024_S_d0_1 : S2x1024.ReducesTo [0, 1] S_
  h_S_ : 0 < S_.numel

variable [Facts]

def fn {F : FTy → Type} [FloatOps F] (main_arg0 : IVec S2x1024 32) (main_arg1 : IVec S16000x2560 8) (main_arg2 : IVec S16000x20 16) (main_arg3 : IVec S16000x160 8) : IVec S_ 1 :=
  let main_c : IVec S_ 32 := constantI S_ 32 0#32
  let main_v0 : IVec S2x1024 32 := broadcastInDim S2x1024 ![] bcast_S_S2x1024 main_c
  let main_v1 : IVec S2x1024 1 := cmpi .sge main_arg0 main_v0
  let main_c_0 : IVec S_ 32 := constantI S_ 32 16000#32
  let main_v2 : IVec S2x1024 32 := broadcastInDim S2x1024 ![] bcast_S_S2x1024 main_c_0
  let main_v3 : IVec S2x1024 1 := cmpi .slt main_arg0 main_v2
  let main_v4 : IVec S2x1024 1 := andi main_v1 main_v3
  let main_c_1 : IVec S_ 1 := constantI S_ 1 1#1
  let main_v5 : IVec S_ 1 := (fun x v => Host.reduce IntOp.andi x v reducesTo_S2x1024_S_d0_1 h_S_) main_v4 main_c_1
  main_v5
-- ==== Kernel.lean ====
abbrev S2x1024 : Shape := ⟨2, ![2, 1024]⟩
abbrev S16000x2560 : Shape := ⟨2, ![16000, 2560]⟩
abbrev S16000x20 : Shape := ⟨2, ![16000, 20]⟩
abbrev S16000x160 : Shape := ⟨2, ![16000, 160]⟩
abbrev S4000x4x2560 : Shape := ⟨3, ![4000, 4, 2560]⟩
abbrev S4000x2560x4 : Shape := ⟨3, ![4000, 2560, 4]⟩
abbrev S4000x2560 : Shape := ⟨2, ![4000, 2560]⟩
abbrev S160x16000 : Shape := ⟨2, ![160, 16000]⟩
abbrev S20x16000 : Shape := ⟨2, ![20, 16000]⟩
abbrev S2x1024x5120 : Shape := ⟨3, ![2, 1024, 5120]⟩
abbrev S2048 : Shape := ⟨1, ![2048]⟩
abbrev S16000x128 : Shape := ⟨2, ![16000, 128]⟩
abbrev S64x128 : Shape := ⟨2, ![64, 128]⟩
abbrev S20x64x128 : Shape := ⟨3, ![20, 64, 128]⟩
abbrev S256x256 : Shape := ⟨2, ![256, 256]⟩
abbrev S11x64x2560 : Shape := ⟨3, ![11, 64, 2560]⟩
abbrev S2x64x5120 : Shape := ⟨3, ![2, 64, 5120]⟩
abbrev S3 : Shape := ⟨1, ![3]⟩
abbrev S11 : Shape := ⟨1, ![11]⟩
abbrev S2 : Shape := ⟨1, ![2]⟩
abbrev S1 : Shape := ⟨1, ![1]⟩
abbrev S_ : Shape := ⟨0, ![]⟩
abbrev S128 : Shape := ⟨1, ![128]⟩
abbrev S1x128 : Shape := ⟨2, ![1, 128]⟩
abbrev S1x64x2560 : Shape := ⟨3, ![1, 64, 2560]⟩
abbrev S64x2560 : Shape := ⟨2, ![64, 2560]⟩
abbrev S1x2560 : Shape := ⟨2, ![1, 2560]⟩
abbrev S64x256 : Shape := ⟨2, ![64, 256]⟩
abbrev S160x128 : Shape := ⟨2, ![160, 128]⟩
abbrev S40x128 : Shape := ⟨2, ![40, 128]⟩
abbrev S20x128 : Shape := ⟨2, ![20, 128]⟩
abbrev S3x128 : Shape := ⟨2, ![3, 128]⟩
abbrev S128x64 : Shape := ⟨2, ![128, 64]⟩
abbrev S8x128 : Shape := ⟨2, ![8, 128]⟩
abbrev S8x128x1 : Shape := ⟨3, ![8, 128, 1]⟩
abbrev S1x8x128 : Shape := ⟨3, ![1, 8, 128]⟩
abbrev S1x64x5120 : Shape := ⟨3, ![1, 64, 5120]⟩
abbrev S64x5120 : Shape := ⟨2, ![64, 5120]⟩
abbrev S1x64x128 : Shape := ⟨3, ![1, 64, 128]⟩
abbrev S1x64x256 : Shape := ⟨3, ![1, 64, 256]⟩

abbrev nBuf : Space → Nat
  | .hbm => 10
  | .vmem => 9
  | .smem => 1
  | _ => 0

abbrev bufTy : (tb : Table) → Fin (tcTables nBuf tb) → BufTy
  | .hbm, ⟨0, _⟩ => ⟨S2x1024, .i32⟩
  | .hbm, ⟨1, _⟩ => ⟨S16000x2560, .i8⟩
  | .hbm, ⟨2, _⟩ => ⟨S16000x20, .i16⟩
  | .hbm, ⟨3, _⟩ => ⟨S16000x160, .i8⟩
  | .hbm, ⟨4, _⟩ => ⟨S4000x4x2560, .i8⟩
  | .hbm, ⟨5, _⟩ => ⟨S4000x2560x4, .i8⟩
  | .hbm, ⟨6, _⟩ => ⟨S4000x2560, .i32⟩
  | .hbm, ⟨7, _⟩ => ⟨S160x16000, .i8⟩
  | .hbm, ⟨8, _⟩ => ⟨S20x16000, .i16⟩
  | .hbm, ⟨9, _⟩ => ⟨S2x1024x5120, .bf16⟩
  | .local _ .vmem, ⟨0, _⟩ => ⟨S160x16000, .i8⟩
  | .local _ .vmem, ⟨1, _⟩ => ⟨S20x16000, .i16⟩
  | .local _ .vmem, ⟨2, _⟩ => ⟨S16000x128, .i32⟩
  | .local _ .vmem, ⟨3, _⟩ => ⟨S64x128, .i32⟩
  | .local _ .vmem, ⟨4, _⟩ => ⟨S20x64x128, .f32⟩
  | .local _ .vmem, ⟨5, _⟩ => ⟨S64x128, .i32⟩
  | .local _ .vmem, ⟨6, _⟩ => ⟨S256x256, .bf16⟩
  | .local _ .vmem, ⟨7, _⟩ => ⟨S11x64x2560, .i32⟩
  | .local _ .vmem, ⟨8, _⟩ => ⟨S2x64x5120, .bf16⟩
  | .local _ .smem, ⟨0, _⟩ => ⟨S2048, .i32⟩
  | _, _ => ⟨S2x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_scratch1 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_scratch7 : Ref sig .tc := ⟨.vmem, 6, rfl⟩
abbrev cc0_scratch8 : Ref sig .tc := ⟨.vmem, 7, rfl⟩
abbrev cc0_scratch9 : Ref sig .tc := ⟨.vmem, 8, rfl⟩
abbrev cc0_scratch0 : Ref sig .tc := ⟨.smem, 0, rfl⟩

abbrev nD : Nat := 1
abbrev τ : Topo := Topo.v7x

variable {F : FTy → Type} [FloatOps F]

abbrev grid0 : Pipeline.Grid := .none

@[reducible] def k0_t1_loop : Scf.Loop 32 :=
  let c0_i32_112_r0 : BitVec 32 := 0#32
  let c10_i32_r0 : BitVec 32 := 10#32
  let v164_r0 : BitVec 32 := Scalar.addi c0_i32_112_r0 c10_i32_r0
  let c1_i32_113_r0 : BitVec 32 := 1#32
  ⟨c0_i32_112_r0, v164_r0, c1_i32_113_r0⟩
def k0_off1 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c0_i32_1841_r0 : BitVec 32 := 0#32
  let v4536_r0 : BitVec 32 := Scalar.addi v4535_r0 c0_i32_1841_r0
  let v4537_r0 : Index := Scalar.indexCast v4536_r0
  ![v4537_r0.toNat]
def k0_off2 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off3 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1843_r0 : BitVec 32 := 0#32
  let c0_i32_1844_r0 : BitVec 32 := 0#32
  ![v4534_r0.toNat, 0, 0]
def k0_off4 (v4538_r0 : BitVec 32) : Fin 2 → Nat :=
  let c2_i32_1842_r0 : BitVec 32 := 2#32
  let v4539_r0 : BitVec 32 := Scalar.shrsi v4538_r0 c2_i32_1842_r0
  let c0_i32_1847_r0 : BitVec 32 := 0#32
  ![v4539_r0.toNat, 0]

def k0_chk1 (v4538_r0 : BitVec 32) : Prop :=
  (∀ a, (k0_off4 v4538_r0) a + S1x2560.size a ≤ S4000x2560.size a)
theorem k0_off4_inb : ∀ (v4538_r0 : BitVec 32) (k0_hw1 : k0_chk1 v4538_r0), ∀ a, (k0_off4 v4538_r0) a + S1x2560.size a ≤ S4000x2560.size a := fun v4538_r0 k0_hw1 => k0_hw1

def k0_off5 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c1_i32_1848_r0 : BitVec 32 := 1#32
  let v4546_r0 : BitVec 32 := Scalar.addi v4535_r0 c1_i32_1848_r0
  let v4547_r0 : Index := Scalar.indexCast v4546_r0
  ![v4547_r0.toNat]
def k0_off6 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off7 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1850_r0 : BitVec 32 := 0#32
  let c0_i32_1851_r0 : BitVec 32 := 0#32
  ![v4534_r0.toNat, 0, 0]
def k0_off8 (v4548_r0 : BitVec 32) : Fin 2 → Nat :=
  let c2_i32_1849_r0 : BitVec 32 := 2#32
  let v4549_r0 : BitVec 32 := Scalar.shrsi v4548_r0 c2_i32_1849_r0
  let c0_i32_1854_r0 : BitVec 32 := 0#32
  ![v4549_r0.toNat, 0]

def k0_chk2 (v4548_r0 : BitVec 32) : Prop :=
  (∀ a, (k0_off8 v4548_r0) a + S1x2560.size a ≤ S4000x2560.size a)
theorem k0_off8_inb : ∀ (v4548_r0 : BitVec 32) (k0_hw2 : k0_chk2 v4548_r0), ∀ a, (k0_off8 v4548_r0) a + S1x2560.size a ≤ S4000x2560.size a := fun v4548_r0 k0_hw2 => k0_hw2

def k0_off9 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c2_i32_1855_r0 : BitVec 32 := 2#32
  let v4556_r0 : BitVec 32 := Scalar.addi v4535_r0 c2_i32_1855_r0
  let v4557_r0 : Index := Scalar.indexCast v4556_r0
  ![v4557_r0.toNat]
def k0_off10 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off11 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1857_r0 : BitVec 32 := 0#32
  let c0_i32_1858_r0 : BitVec 32 := 0#32
  ![v4534_r0.toNat, 0, 0]
def k0_off12 (v4558_r0 : BitVec 32) : Fin 2 → Nat :=
  let c2_i32_1856_r0 : BitVec 32 := 2#32
  let v4559_r0 : BitVec 32 := Scalar.shrsi v4558_r0 c2_i32_1856_r0
  let c0_i32_1861_r0 : BitVec 32 := 0#32
  ![v4559_r0.toNat, 0]

def k0_chk3 (v4558_r0 : BitVec 32) : Prop :=
  (∀ a, (k0_off12 v4558_r0) a + S1x2560.size a ≤ S4000x2560.size a)
theorem k0_off12_inb : ∀ (v4558_r0 : BitVec 32) (k0_hw3 : k0_chk3 v4558_r0), ∀ a, (k0_off12 v4558_r0) a + S1x2560.size a ≤ S4000x2560.size a := fun v4558_r0 k0_hw3 => k0_hw3

def k0_off13 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c3_i32_r0 : BitVec 32 := 3#32
  let v4566_r0 : BitVec 32 := Scalar.addi v4535_r0 c3_i32_r0
  let v4567_r0 : Index := Scalar.indexCast v4566_r0
  ![v4567_r0.toNat]
def k0_off14 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off15 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1863_r0 : BitVec 32 := 0#32
  let c0_i32_1864_r0 : BitVec 32 := 0#32
  ![v4534_r0.toNat, 0, 0]
def k0_off16 (v4568_r0 : BitVec 32) : Fin 2 → Nat :=
  let c2_i32_1862_r0 : BitVec 32 := 2#32
  let v4569_r0 : BitVec 32 := Scalar.shrsi v4568_r0 c2_i32_1862_r0
  let c0_i32_1867_r0 : BitVec 32 := 0#32
  ![v4569_r0.toNat, 0]

def k0_chk4 (v4568_r0 : BitVec 32) : Prop :=
  (∀ a, (k0_off16 v4568_r0) a + S1x2560.size a ≤ S4000x2560.size a)
theorem k0_off16_inb : ∀ (v4568_r0 : BitVec 32) (k0_hw4 : k0_chk4 v4568_r0), ∀ a, (k0_off16 v4568_r0) a + S1x2560.size a ≤ S4000x2560.size a := fun v4568_r0 k0_hw4 => k0_hw4

def k0_off17 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c4_i32_1868_r0 : BitVec 32 := 4#32
  let v4576_r0 : BitVec 32 := Scalar.addi v4535_r0 c4_i32_1868_r0
  let v4577_r0 : Index := Scalar.indexCast v4576_r0
  ![v4577_r0.toNat]
def k0_off18 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off19 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1870_r0 : BitVec 32 := 0#32
  let c0_i32_1871_r0 : BitVec 32 := 0#32
  ![v4534_r0.toNat, 0, 0]
def k0_off20 (v4578_r0 : BitVec 32) : Fin 2 → Nat :=
  let c2_i32_1869_r0 : BitVec 32 := 2#32
  let v4579_r0 : BitVec 32 := Scalar.shrsi v4578_r0 c2_i32_1869_r0
  let c0_i32_1874_r0 : BitVec 32 := 0#32
  ![v4579_r0.toNat, 0]

def k0_chk5 (v4578_r0 : BitVec 32) : Prop :=
  (∀ a, (k0_off20 v4578_r0) a + S1x2560.size a ≤ S4000x2560.size a)
theorem k0_off20_inb : ∀ (v4578_r0 : BitVec 32) (k0_hw5 : k0_chk5 v4578_r0), ∀ a, (k0_off20 v4578_r0) a + S1x2560.size a ≤ S4000x2560.size a := fun v4578_r0 k0_hw5 => k0_hw5

def k0_off21 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c5_i32_r0 : BitVec 32 := 5#32
  let v4586_r0 : BitVec 32 := Scalar.addi v4535_r0 c5_i32_r0
  let v4587_r0 : Index := Scalar.indexCast v4586_r0
  ![v4587_r0.toNat]
def k0_off22 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off23 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1876_r0 : BitVec 32 := 0#32
  let c0_i32_1877_r0 : BitVec 32 := 0#32
  ![v4534_r0.toNat, 0, 0]
def k0_off24 (v4588_r0 : BitVec 32) : Fin 2 → Nat :=
  let c2_i32_1875_r0 : BitVec 32 := 2#32
  let v4589_r0 : BitVec 32 := Scalar.shrsi v4588_r0 c2_i32_1875_r0
  let c0_i32_1880_r0 : BitVec 32 := 0#32
  ![v4589_r0.toNat, 0]

def k0_chk6 (v4588_r0 : BitVec 32) : Prop :=
  (∀ a, (k0_off24 v4588_r0) a + S1x2560.size a ≤ S4000x2560.size a)
theorem k0_off24_inb : ∀ (v4588_r0 : BitVec 32) (k0_hw6 : k0_chk6 v4588_r0), ∀ a, (k0_off24 v4588_r0) a + S1x2560.size a ≤ S4000x2560.size a := fun v4588_r0 k0_hw6 => k0_hw6

def k0_off25 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c6_i32_r0 : BitVec 32 := 6#32
  let v4596_r0 : BitVec 32 := Scalar.addi v4535_r0 c6_i32_r0
  let v4597_r0 : Index := Scalar.indexCast v4596_r0
  ![v4597_r0.toNat]
def k0_off26 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off27 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1882_r0 : BitVec 32 := 0#32
  let c0_i32_1883_r0 : BitVec 32 := 0#32
  ![v4534_r0.toNat, 0, 0]
def k0_off28 (v4598_r0 : BitVec 32) : Fin 2 → Nat :=
  let c2_i32_1881_r0 : BitVec 32 := 2#32
  let v4599_r0 : BitVec 32 := Scalar.shrsi v4598_r0 c2_i32_1881_r0
  let c0_i32_1886_r0 : BitVec 32 := 0#32
  ![v4599_r0.toNat, 0]

def k0_chk7 (v4598_r0 : BitVec 32) : Prop :=
  (∀ a, (k0_off28 v4598_r0) a + S1x2560.size a ≤ S4000x2560.size a)
theorem k0_off28_inb : ∀ (v4598_r0 : BitVec 32) (k0_hw7 : k0_chk7 v4598_r0), ∀ a, (k0_off28 v4598_r0) a + S1x2560.size a ≤ S4000x2560.size a := fun v4598_r0 k0_hw7 => k0_hw7

def k0_off29 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c7_i32_r0 : BitVec 32 := 7#32
  let v4606_r0 : BitVec 32 := Scalar.addi v4535_r0 c7_i32_r0
  let v4607_r0 : Index := Scalar.indexCast v4606_r0
  ![v4607_r0.toNat]
def k0_off30 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off31 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1888_r0 : BitVec 32 := 0#32
  let c0_i32_1889_r0 : BitVec 32 := 0#32
  ![v4534_r0.toNat, 0, 0]
def k0_off32 (v4608_r0 : BitVec 32) : Fin 2 → Nat :=
  let c2_i32_1887_r0 : BitVec 32 := 2#32
  let v4609_r0 : BitVec 32 := Scalar.shrsi v4608_r0 c2_i32_1887_r0
  let c0_i32_1892_r0 : BitVec 32 := 0#32
  ![v4609_r0.toNat, 0]

def k0_chk8 (v4608_r0 : BitVec 32) : Prop :=
  (∀ a, (k0_off32 v4608_r0) a + S1x2560.size a ≤ S4000x2560.size a)
theorem k0_off32_inb : ∀ (v4608_r0 : BitVec 32) (k0_hw8 : k0_chk8 v4608_r0), ∀ a, (k0_off32 v4608_r0) a + S1x2560.size a ≤ S4000x2560.size a := fun v4608_r0 k0_hw8 => k0_hw8

def k0_off33 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c8_i32_1893_r0 : BitVec 32 := 8#32
  let v4616_r0 : BitVec 32 := Scalar.addi v4535_r0 c8_i32_1893_r0
  let v4617_r0 : Index := Scalar.indexCast v4616_r0
  ![v4617_r0.toNat]
def k0_off34 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off35 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1895_r0 : BitVec 32 := 0#32
  let c0_i32_1896_r0 : BitVec 32 := 0#32
  ![v4534_r0.toNat, 0, 0]
def k0_off36 (v4618_r0 : BitVec 32) : Fin 2 → Nat :=
  let c2_i32_1894_r0 : BitVec 32 := 2#32
  let v4619_r0 : BitVec 32 := Scalar.shrsi v4618_r0 c2_i32_1894_r0
  let c0_i32_1899_r0 : BitVec 32 := 0#32
  ![v4619_r0.toNat, 0]

def k0_chk9 (v4618_r0 : BitVec 32) : Prop :=
  (∀ a, (k0_off36 v4618_r0) a + S1x2560.size a ≤ S4000x2560.size a)
theorem k0_off36_inb : ∀ (v4618_r0 : BitVec 32) (k0_hw9 : k0_chk9 v4618_r0), ∀ a, (k0_off36 v4618_r0) a + S1x2560.size a ≤ S4000x2560.size a := fun v4618_r0 k0_hw9 => k0_hw9

def k0_off37 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c9_i32_r0 : BitVec 32 := 9#32
  let v4626_r0 : BitVec 32 := Scalar.addi v4535_r0 c9_i32_r0
  let v4627_r0 : Index := Scalar.indexCast v4626_r0
  ![v4627_r0.toNat]
def k0_off38 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off39 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1901_r0 : BitVec 32 := 0#32
  let c0_i32_1902_r0 : BitVec 32 := 0#32
  ![v4534_r0.toNat, 0, 0]
def k0_off40 (v4628_r0 : BitVec 32) : Fin 2 → Nat :=
  let c2_i32_1900_r0 : BitVec 32 := 2#32
  let v4629_r0 : BitVec 32 := Scalar.shrsi v4628_r0 c2_i32_1900_r0
  let c0_i32_1905_r0 : BitVec 32 := 0#32
  ![v4629_r0.toNat, 0]

def k0_chk10 (v4628_r0 : BitVec 32) : Prop :=
  (∀ a, (k0_off40 v4628_r0) a + S1x2560.size a ≤ S4000x2560.size a)
theorem k0_off40_inb : ∀ (v4628_r0 : BitVec 32) (k0_hw10 : k0_chk10 v4628_r0), ∀ a, (k0_off40 v4628_r0) a + S1x2560.size a ≤ S4000x2560.size a := fun v4628_r0 k0_hw10 => k0_hw10

def k0_off41 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c10_i32_1906_r0 : BitVec 32 := 10#32
  let v4636_r0 : BitVec 32 := Scalar.addi v4535_r0 c10_i32_1906_r0
  let v4637_r0 : Index := Scalar.indexCast v4636_r0
  ![v4637_r0.toNat]
def k0_off42 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off43 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1908_r0 : BitVec 32 := 0#32
  let c0_i32_1909_r0 : BitVec 32 := 0#32
  ![v4534_r0.toNat, 0, 0]
def k0_off44 (v4638_r0 : BitVec 32) : Fin 2 → Nat :=
  let c2_i32_1907_r0 : BitVec 32 := 2#32
  let v4639_r0 : BitVec 32 := Scalar.shrsi v4638_r0 c2_i32_1907_r0
  let c0_i32_1912_r0 : BitVec 32 := 0#32
  ![v4639_r0.toNat, 0]

def k0_chk11 (v4638_r0 : BitVec 32) : Prop :=
  (∀ a, (k0_off44 v4638_r0) a + S1x2560.size a ≤ S4000x2560.size a)
theorem k0_off44_inb : ∀ (v4638_r0 : BitVec 32) (k0_hw11 : k0_chk11 v4638_r0), ∀ a, (k0_off44 v4638_r0) a + S1x2560.size a ≤ S4000x2560.size a := fun v4638_r0 k0_hw11 => k0_hw11

def k0_off45 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c11_i32_1913_r0 : BitVec 32 := 11#32
  let v4646_r0 : BitVec 32 := Scalar.addi v4535_r0 c11_i32_1913_r0
  let v4647_r0 : Index := Scalar.indexCast v4646_r0
  ![v4647_r0.toNat]
def k0_off46 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off47 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1915_r0 : BitVec 32 := 0#32
  let c0_i32_1916_r0 : BitVec 32 := 0#32
  ![v4534_r0.toNat, 0, 0]
def k0_off48 (v4648_r0 : BitVec 32) : Fin 2 → Nat :=
  let c2_i32_1914_r0 : BitVec 32 := 2#32
  let v4649_r0 : BitVec 32 := Scalar.shrsi v4648_r0 c2_i32_1914_r0
  let c0_i32_1919_r0 : BitVec 32 := 0#32
  ![v4649_r0.toNat, 0]

def k0_chk12 (v4648_r0 : BitVec 32) : Prop :=
  (∀ a, (k0_off48 v4648_r0) a + S1x2560.size a ≤ S4000x2560.size a)
theorem k0_off48_inb : ∀ (v4648_r0 : BitVec 32) (k0_hw12 : k0_chk12 v4648_r0), ∀ a, (k0_off48 v4648_r0) a + S1x2560.size a ≤ S4000x2560.size a := fun v4648_r0 k0_hw12 => k0_hw12

def k0_off49 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c12_i32_r0 : BitVec 32 := 12#32
  let v4656_r0 : BitVec 32 := Scalar.addi v4535_r0 c12_i32_r0
  let v4657_r0 : Index := Scalar.indexCast v4656_r0
  ![v4657_r0.toNat]
def k0_off50 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off51 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1921_r0 : BitVec 32 := 0#32
  let c0_i32_1922_r0 : BitVec 32 := 0#32
  ![v4534_r0.toNat, 0, 0]
def k0_off52 (v4658_r0 : BitVec 32) : Fin 2 → Nat :=
  let c2_i32_1920_r0 : BitVec 32 := 2#32
  let v4659_r0 : BitVec 32 := Scalar.shrsi v4658_r0 c2_i32_1920_r0
  let c0_i32_1925_r0 : BitVec 32 := 0#32
  ![v4659_r0.toNat, 0]

def k0_chk13 (v4658_r0 : BitVec 32) : Prop :=
  (∀ a, (k0_off52 v4658_r0) a + S1x2560.size a ≤ S4000x2560.size a)
theorem k0_off52_inb : ∀ (v4658_r0 : BitVec 32) (k0_hw13 : k0_chk13 v4658_r0), ∀ a, (k0_off52 v4658_r0) a + S1x2560.size a ≤ S4000x2560.size a := fun v4658_r0 k0_hw13 => k0_hw13

def k0_off53 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c13_i32_r0 : BitVec 32 := 13#32
  let v4666_r0 : BitVec 32 := Scalar.addi v4535_r0 c13_i32_r0
  let v4667_r0 : Index := Scalar.indexCast v4666_r0
  ![v4667_r0.toNat]
def k0_off54 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off55 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1927_r0 : BitVec 32 := 0#32
  let c0_i32_1928_r0 : BitVec 32 := 0#32
  ![v4534_r0.toNat, 0, 0]
def k0_off56 (v4668_r0 : BitVec 32) : Fin 2 → Nat :=
  let c2_i32_1926_r0 : BitVec 32 := 2#32
  let v4669_r0 : BitVec 32 := Scalar.shrsi v4668_r0 c2_i32_1926_r0
  let c0_i32_1931_r0 : BitVec 32 := 0#32
  ![v4669_r0.toNat, 0]

def k0_chk14 (v4668_r0 : BitVec 32) : Prop :=
  (∀ a, (k0_off56 v4668_r0) a + S1x2560.size a ≤ S4000x2560.size a)
theorem k0_off56_inb : ∀ (v4668_r0 : BitVec 32) (k0_hw14 : k0_chk14 v4668_r0), ∀ a, (k0_off56 v4668_r0) a + S1x2560.size a ≤ S4000x2560.size a := fun v4668_r0 k0_hw14 => k0_hw14

def k0_off57 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c14_i32_r0 : BitVec 32 := 14#32
  let v4676_r0 : BitVec 32 := Scalar.addi v4535_r0 c14_i32_r0
  let v4677_r0 : Index := Scalar.indexCast v4676_r0
  ![v4677_r0.toNat]
def k0_off58 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off59 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1933_r0 : BitVec 32 := 0#32
  let c0_i32_1934_r0 : BitVec 32 := 0#32
  ![v4534_r0.toNat, 0, 0]
def k0_off60 (v4678_r0 : BitVec 32) : Fin 2 → Nat :=
  let c2_i32_1932_r0 : BitVec 32 := 2#32
  let v4679_r0 : BitVec 32 := Scalar.shrsi v4678_r0 c2_i32_1932_r0
  let c0_i32_1937_r0 : BitVec 32 := 0#32
  ![v4679_r0.toNat, 0]

def k0_chk15 (v4678_r0 : BitVec 32) : Prop :=
  (∀ a, (k0_off60 v4678_r0) a + S1x2560.size a ≤ S4000x2560.size a)
theorem k0_off60_inb : ∀ (v4678_r0 : BitVec 32) (k0_hw15 : k0_chk15 v4678_r0), ∀ a, (k0_off60 v4678_r0) a + S1x2560.size a ≤ S4000x2560.size a := fun v4678_r0 k0_hw15 => k0_hw15

def k0_off61 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c15_i32_1938_r0 : BitVec 32 := 15#32
  let v4686_r0 : BitVec 32 := Scalar.addi v4535_r0 c15_i32_1938_r0
  let v4687_r0 : Index := Scalar.indexCast v4686_r0
  ![v4687_r0.toNat]
def k0_off62 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off63 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1940_r0 : BitVec 32 := 0#32
  let c0_i32_1941_r0 : BitVec 32 := 0#32
  ![v4534_r0.toNat, 0, 0]
def k0_off64 (v4688_r0 : BitVec 32) : Fin 2 → Nat :=
  let c2_i32_1939_r0 : BitVec 32 := 2#32
  let v4689_r0 : BitVec 32 := Scalar.shrsi v4688_r0 c2_i32_1939_r0
  let c0_i32_1944_r0 : BitVec 32 := 0#32
  ![v4689_r0.toNat, 0]

def k0_chk16 (v4688_r0 : BitVec 32) : Prop :=
  (∀ a, (k0_off64 v4688_r0) a + S1x2560.size a ≤ S4000x2560.size a)
theorem k0_off64_inb : ∀ (v4688_r0 : BitVec 32) (k0_hw16 : k0_chk16 v4688_r0), ∀ a, (k0_off64 v4688_r0) a + S1x2560.size a ≤ S4000x2560.size a := fun v4688_r0 k0_hw16 => k0_hw16

def k0_off65 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c16_i32_1945_r0 : BitVec 32 := 16#32
  let v4696_r0 : BitVec 32 := Scalar.addi v4535_r0 c16_i32_1945_r0
  let v4697_r0 : Index := Scalar.indexCast v4696_r0
  ![v4697_r0.toNat]
def k0_off66 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off67 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1947_r0 : BitVec 32 := 0#32
  let c0_i32_1948_r0 : BitVec 32 := 0#32
  ![v4534_r0.toNat, 0, 0]
def k0_off68 (v4698_r0 : BitVec 32) : Fin 2 → Nat :=
  let c2_i32_1946_r0 : BitVec 32 := 2#32
  let v4699_r0 : BitVec 32 := Scalar.shrsi v4698_r0 c2_i32_1946_r0
  let c0_i32_1951_r0 : BitVec 32 := 0#32
  ![v4699_r0.toNat, 0]

def k0_chk17 (v4698_r0 : BitVec 32) : Prop :=
  (∀ a, (k0_off68 v4698_r0) a + S1x2560.size a ≤ S4000x2560.size a)
theorem k0_off68_inb : ∀ (v4698_r0 : BitVec 32) (k0_hw17 : k0_chk17 v4698_r0), ∀ a, (k0_off68 v4698_r0) a + S1x2560.size a ≤ S4000x2560.size a := fun v4698_r0 k0_hw17 => k0_hw17

def k0_off69 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c17_i32_r0 : BitVec 32 := 17#32
  let v4706_r0 : BitVec 32 := Scalar.addi v4535_r0 c17_i32_r0
  let v4707_r0 : Index := Scalar.indexCast v4706_r0
  ![v4707_r0.toNat]
def k0_off70 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off71 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1953_r0 : BitVec 32 := 0#32
  let c0_i32_1954_r0 : BitVec 32 := 0#32
  ![v4534_r0.toNat, 0, 0]
def k0_off72 (v4708_r0 : BitVec 32) : Fin 2 → Nat :=
  let c2_i32_1952_r0 : BitVec 32 := 2#32
  let v4709_r0 : BitVec 32 := Scalar.shrsi v4708_r0 c2_i32_1952_r0
  let c0_i32_1957_r0 : BitVec 32 := 0#32
  ![v4709_r0.toNat, 0]

def k0_chk18 (v4708_r0 : BitVec 32) : Prop :=
  (∀ a, (k0_off72 v4708_r0) a + S1x2560.size a ≤ S4000x2560.size a)
theorem k0_off72_inb : ∀ (v4708_r0 : BitVec 32) (k0_hw18 : k0_chk18 v4708_r0), ∀ a, (k0_off72 v4708_r0) a + S1x2560.size a ≤ S4000x2560.size a := fun v4708_r0 k0_hw18 => k0_hw18

def k0_off73 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c18_i32_r0 : BitVec 32 := 18#32
  let v4716_r0 : BitVec 32 := Scalar.addi v4535_r0 c18_i32_r0
  let v4717_r0 : Index := Scalar.indexCast v4716_r0
  ![v4717_r0.toNat]
def k0_off74 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off75 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1959_r0 : BitVec 32 := 0#32
  let c0_i32_1960_r0 : BitVec 32 := 0#32
  ![v4534_r0.toNat, 0, 0]
def k0_off76 (v4718_r0 : BitVec 32) : Fin 2 → Nat :=
  let c2_i32_1958_r0 : BitVec 32 := 2#32
  let v4719_r0 : BitVec 32 := Scalar.shrsi v4718_r0 c2_i32_1958_r0
  let c0_i32_1963_r0 : BitVec 32 := 0#32
  ![v4719_r0.toNat, 0]

def k0_chk19 (v4718_r0 : BitVec 32) : Prop :=
  (∀ a, (k0_off76 v4718_r0) a + S1x2560.size a ≤ S4000x2560.size a)
theorem k0_off76_inb : ∀ (v4718_r0 : BitVec 32) (k0_hw19 : k0_chk19 v4718_r0), ∀ a, (k0_off76 v4718_r0) a + S1x2560.size a ≤ S4000x2560.size a := fun v4718_r0 k0_hw19 => k0_hw19

def k0_off77 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c19_i32_r0 : BitVec 32 := 19#32
  let v4726_r0 : BitVec 32 := Scalar.addi v4535_r0 c19_i32_r0
  let v4727_r0 : Index := Scalar.indexCast v4726_r0
  ![v4727_r0.toNat]
def k0_off78 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off79 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1965_r0 : BitVec 32 := 0#32
  let c0_i32_1966_r0 : BitVec 32 := 0#32
  ![v4534_r0.toNat, 0, 0]
def k0_off80 (v4728_r0 : BitVec 32) : Fin 2 → Nat :=
  let c2_i32_1964_r0 : BitVec 32 := 2#32
  let v4729_r0 : BitVec 32 := Scalar.shrsi v4728_r0 c2_i32_1964_r0
  let c0_i32_1969_r0 : BitVec 32 := 0#32
  ![v4729_r0.toNat, 0]

def k0_chk20 (v4728_r0 : BitVec 32) : Prop :=
  (∀ a, (k0_off80 v4728_r0) a + S1x2560.size a ≤ S4000x2560.size a)
theorem k0_off80_inb : ∀ (v4728_r0 : BitVec 32) (k0_hw20 : k0_chk20 v4728_r0), ∀ a, (k0_off80 v4728_r0) a + S1x2560.size a ≤ S4000x2560.size a := fun v4728_r0 k0_hw20 => k0_hw20

def k0_off81 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c20_i32_r0 : BitVec 32 := 20#32
  let v4736_r0 : BitVec 32 := Scalar.addi v4535_r0 c20_i32_r0
  let v4737_r0 : Index := Scalar.indexCast v4736_r0
  ![v4737_r0.toNat]
def k0_off82 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off83 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1971_r0 : BitVec 32 := 0#32
  let c0_i32_1972_r0 : BitVec 32 := 0#32
  ![v4534_r0.toNat, 0, 0]
def k0_off84 (v4738_r0 : BitVec 32) : Fin 2 → Nat :=
  let c2_i32_1970_r0 : BitVec 32 := 2#32
  let v4739_r0 : BitVec 32 := Scalar.shrsi v4738_r0 c2_i32_1970_r0
  let c0_i32_1975_r0 : BitVec 32 := 0#32
  ![v4739_r0.toNat, 0]

def k0_chk21 (v4738_r0 : BitVec 32) : Prop :=
  (∀ a, (k0_off84 v4738_r0) a + S1x2560.size a ≤ S4000x2560.size a)
theorem k0_off84_inb : ∀ (v4738_r0 : BitVec 32) (k0_hw21 : k0_chk21 v4738_r0), ∀ a, (k0_off84 v4738_r0) a + S1x2560.size a ≤ S4000x2560.size a := fun v4738_r0 k0_hw21 => k0_hw21

def k0_off85 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c21_i32_r0 : BitVec 32 := 21#32
  let v4746_r0 : BitVec 32 := Scalar.addi v4535_r0 c21_i32_r0
  let v4747_r0 : Index := Scalar.indexCast v4746_r0
  ![v4747_r0.toNat]
def k0_off86 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off87 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1977_r0 : BitVec 32 := 0#32
  let c0_i32_1978_r0 : BitVec 32 := 0#32
  ![v4534_r0.toNat, 0, 0]
def k0_off88 (v4748_r0 : BitVec 32) : Fin 2 → Nat :=
  let c2_i32_1976_r0 : BitVec 32 := 2#32
  let v4749_r0 : BitVec 32 := Scalar.shrsi v4748_r0 c2_i32_1976_r0
  let c0_i32_1981_r0 : BitVec 32 := 0#32
  ![v4749_r0.toNat, 0]

def k0_chk22 (v4748_r0 : BitVec 32) : Prop :=
  (∀ a, (k0_off88 v4748_r0) a + S1x2560.size a ≤ S4000x2560.size a)
theorem k0_off88_inb : ∀ (v4748_r0 : BitVec 32) (k0_hw22 : k0_chk22 v4748_r0), ∀ a, (k0_off88 v4748_r0) a + S1x2560.size a ≤ S4000x2560.size a := fun v4748_r0 k0_hw22 => k0_hw22

def k0_off89 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c22_i32_1982_r0 : BitVec 32 := 22#32
  let v4756_r0 : BitVec 32 := Scalar.addi v4535_r0 c22_i32_1982_r0
  let v4757_r0 : Index := Scalar.indexCast v4756_r0
  ![v4757_r0.toNat]
def k0_off90 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off91 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1984_r0 : BitVec 32 := 0#32
  let c0_i32_1985_r0 : BitVec 32 := 0#32
  ![v4534_r0.toNat, 0, 0]
def k0_off92 (v4758_r0 : BitVec 32) : Fin 2 → Nat :=
  let c2_i32_1983_r0 : BitVec 32 := 2#32
  let v4759_r0 : BitVec 32 := Scalar.shrsi v4758_r0 c2_i32_1983_r0
  let c0_i32_1988_r0 : BitVec 32 := 0#32
  ![v4759_r0.toNat, 0]

def k0_chk23 (v4758_r0 : BitVec 32) : Prop :=
  (∀ a, (k0_off92 v4758_r0) a + S1x2560.size a ≤ S4000x2560.size a)
theorem k0_off92_inb : ∀ (v4758_r0 : BitVec 32) (k0_hw23 : k0_chk23 v4758_r0), ∀ a, (k0_off92 v4758_r0) a + S1x2560.size a ≤ S4000x2560.size a := fun v4758_r0 k0_hw23 => k0_hw23

def k0_off93 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c23_i32_r0 : BitVec 32 := 23#32
  let v4766_r0 : BitVec 32 := Scalar.addi v4535_r0 c23_i32_r0
  let v4767_r0 : Index := Scalar.indexCast v4766_r0
  ![v4767_r0.toNat]
def k0_off94 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off95 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1990_r0 : BitVec 32 := 0#32
  let c0_i32_1991_r0 : BitVec 32 := 0#32
  ![v4534_r0.toNat, 0, 0]
def k0_off96 (v4768_r0 : BitVec 32) : Fin 2 → Nat :=
  let c2_i32_1989_r0 : BitVec 32 := 2#32
  let v4769_r0 : BitVec 32 := Scalar.shrsi v4768_r0 c2_i32_1989_r0
  let c0_i32_1994_r0 : BitVec 32 := 0#32
  ![v4769_r0.toNat, 0]

def k0_chk24 (v4768_r0 : BitVec 32) : Prop :=
  (∀ a, (k0_off96 v4768_r0) a + S1x2560.size a ≤ S4000x2560.size a)
theorem k0_off96_inb : ∀ (v4768_r0 : BitVec 32) (k0_hw24 : k0_chk24 v4768_r0), ∀ a, (k0_off96 v4768_r0) a + S1x2560.size a ≤ S4000x2560.size a := fun v4768_r0 k0_hw24 => k0_hw24

def k0_off97 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c24_i32_1995_r0 : BitVec 32 := 24#32
  let v4776_r0 : BitVec 32 := Scalar.addi v4535_r0 c24_i32_1995_r0
  let v4777_r0 : Index := Scalar.indexCast v4776_r0
  ![v4777_r0.toNat]
def k0_off98 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off99 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1997_r0 : BitVec 32 := 0#32
  let c0_i32_1998_r0 : BitVec 32 := 0#32
  ![v4534_r0.toNat, 0, 0]
def k0_off100 (v4778_r0 : BitVec 32) : Fin 2 → Nat :=
  let c2_i32_1996_r0 : BitVec 32 := 2#32
  let v4779_r0 : BitVec 32 := Scalar.shrsi v4778_r0 c2_i32_1996_r0
  let c0_i32_2001_r0 : BitVec 32 := 0#32
  ![v4779_r0.toNat, 0]

def k0_chk25 (v4778_r0 : BitVec 32) : Prop :=
  (∀ a, (k0_off100 v4778_r0) a + S1x2560.size a ≤ S4000x2560.size a)
theorem k0_off100_inb : ∀ (v4778_r0 : BitVec 32) (k0_hw25 : k0_chk25 v4778_r0), ∀ a, (k0_off100 v4778_r0) a + S1x2560.size a ≤ S4000x2560.size a := fun v4778_r0 k0_hw25 => k0_hw25

def k0_off101 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c25_i32_2002_r0 : BitVec 32 := 25#32
  let v4786_r0 : BitVec 32 := Scalar.addi v4535_r0 c25_i32_2002_r0
  let v4787_r0 : Index := Scalar.indexCast v4786_r0
  ![v4787_r0.toNat]
def k0_off102 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off103 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2004_r0 : BitVec 32 := 0#32
  let c0_i32_2005_r0 : BitVec 32 := 0#32
  ![v4534_r0.toNat, 0, 0]
def k0_off104 (v4788_r0 : BitVec 32) : Fin 2 → Nat :=
  let c2_i32_2003_r0 : BitVec 32 := 2#32
  let v4789_r0 : BitVec 32 := Scalar.shrsi v4788_r0 c2_i32_2003_r0
  let c0_i32_2008_r0 : BitVec 32 := 0#32
  ![v4789_r0.toNat, 0]

def k0_chk26 (v4788_r0 : BitVec 32) : Prop :=
  (∀ a, (k0_off104 v4788_r0) a + S1x2560.size a ≤ S4000x2560.size a)
theorem k0_off104_inb : ∀ (v4788_r0 : BitVec 32) (k0_hw26 : k0_chk26 v4788_r0), ∀ a, (k0_off104 v4788_r0) a + S1x2560.size a ≤ S4000x2560.size a := fun v4788_r0 k0_hw26 => k0_hw26

def k0_off105 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c26_i32_r0 : BitVec 32 := 26#32
  let v4796_r0 : BitVec 32 := Scalar.addi v4535_r0 c26_i32_r0
  let v4797_r0 : Index := Scalar.indexCast v4796_r0
  ![v4797_r0.toNat]
def k0_off106 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off107 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2010_r0 : BitVec 32 := 0#32
  let c0_i32_2011_r0 : BitVec 32 := 0#32
  ![v4534_r0.toNat, 0, 0]
def k0_off108 (v4798_r0 : BitVec 32) : Fin 2 → Nat :=
  let c2_i32_2009_r0 : BitVec 32 := 2#32
  let v4799_r0 : BitVec 32 := Scalar.shrsi v4798_r0 c2_i32_2009_r0
  let c0_i32_2014_r0 : BitVec 32 := 0#32
  ![v4799_r0.toNat, 0]

def k0_chk27 (v4798_r0 : BitVec 32) : Prop :=
  (∀ a, (k0_off108 v4798_r0) a + S1x2560.size a ≤ S4000x2560.size a)
theorem k0_off108_inb : ∀ (v4798_r0 : BitVec 32) (k0_hw27 : k0_chk27 v4798_r0), ∀ a, (k0_off108 v4798_r0) a + S1x2560.size a ≤ S4000x2560.size a := fun v4798_r0 k0_hw27 => k0_hw27

def k0_off109 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c27_i32_r0 : BitVec 32 := 27#32
  let v4806_r0 : BitVec 32 := Scalar.addi v4535_r0 c27_i32_r0
  let v4807_r0 : Index := Scalar.indexCast v4806_r0
  ![v4807_r0.toNat]
def k0_off110 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off111 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2016_r0 : BitVec 32 := 0#32
  let c0_i32_2017_r0 : BitVec 32 := 0#32
  ![v4534_r0.toNat, 0, 0]
def k0_off112 (v4808_r0 : BitVec 32) : Fin 2 → Nat :=
  let c2_i32_2015_r0 : BitVec 32 := 2#32
  let v4809_r0 : BitVec 32 := Scalar.shrsi v4808_r0 c2_i32_2015_r0
  let c0_i32_2020_r0 : BitVec 32 := 0#32
  ![v4809_r0.toNat, 0]

def k0_chk28 (v4808_r0 : BitVec 32) : Prop :=
  (∀ a, (k0_off112 v4808_r0) a + S1x2560.size a ≤ S4000x2560.size a)
theorem k0_off112_inb : ∀ (v4808_r0 : BitVec 32) (k0_hw28 : k0_chk28 v4808_r0), ∀ a, (k0_off112 v4808_r0) a + S1x2560.size a ≤ S4000x2560.size a := fun v4808_r0 k0_hw28 => k0_hw28

def k0_off113 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c28_i32_r0 : BitVec 32 := 28#32
  let v4816_r0 : BitVec 32 := Scalar.addi v4535_r0 c28_i32_r0
  let v4817_r0 : Index := Scalar.indexCast v4816_r0
  ![v4817_r0.toNat]
def k0_off114 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off115 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2022_r0 : BitVec 32 := 0#32
  let c0_i32_2023_r0 : BitVec 32 := 0#32
  ![v4534_r0.toNat, 0, 0]
def k0_off116 (v4818_r0 : BitVec 32) : Fin 2 → Nat :=
  let c2_i32_2021_r0 : BitVec 32 := 2#32
  let v4819_r0 : BitVec 32 := Scalar.shrsi v4818_r0 c2_i32_2021_r0
  let c0_i32_2026_r0 : BitVec 32 := 0#32
  ![v4819_r0.toNat, 0]

def k0_chk29 (v4818_r0 : BitVec 32) : Prop :=
  (∀ a, (k0_off116 v4818_r0) a + S1x2560.size a ≤ S4000x2560.size a)
theorem k0_off116_inb : ∀ (v4818_r0 : BitVec 32) (k0_hw29 : k0_chk29 v4818_r0), ∀ a, (k0_off116 v4818_r0) a + S1x2560.size a ≤ S4000x2560.size a := fun v4818_r0 k0_hw29 => k0_hw29

def k0_off117 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c29_i32_r0 : BitVec 32 := 29#32
  let v4826_r0 : BitVec 32 := Scalar.addi v4535_r0 c29_i32_r0
  let v4827_r0 : Index := Scalar.indexCast v4826_r0
  ![v4827_r0.toNat]
def k0_off118 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off119 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2028_r0 : BitVec 32 := 0#32
  let c0_i32_2029_r0 : BitVec 32 := 0#32
  ![v4534_r0.toNat, 0, 0]
def k0_off120 (v4828_r0 : BitVec 32) : Fin 2 → Nat :=
  let c2_i32_2027_r0 : BitVec 32 := 2#32
  let v4829_r0 : BitVec 32 := Scalar.shrsi v4828_r0 c2_i32_2027_r0
  let c0_i32_2032_r0 : BitVec 32 := 0#32
  ![v4829_r0.toNat, 0]

def k0_chk30 (v4828_r0 : BitVec 32) : Prop :=
  (∀ a, (k0_off120 v4828_r0) a + S1x2560.size a ≤ S4000x2560.size a)
theorem k0_off120_inb : ∀ (v4828_r0 : BitVec 32) (k0_hw30 : k0_chk30 v4828_r0), ∀ a, (k0_off120 v4828_r0) a + S1x2560.size a ≤ S4000x2560.size a := fun v4828_r0 k0_hw30 => k0_hw30

def k0_off121 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c30_i32_2033_r0 : BitVec 32 := 30#32
  let v4836_r0 : BitVec 32 := Scalar.addi v4535_r0 c30_i32_2033_r0
  let v4837_r0 : Index := Scalar.indexCast v4836_r0
  ![v4837_r0.toNat]
def k0_off122 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off123 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2035_r0 : BitVec 32 := 0#32
  let c0_i32_2036_r0 : BitVec 32 := 0#32
  ![v4534_r0.toNat, 0, 0]
def k0_off124 (v4838_r0 : BitVec 32) : Fin 2 → Nat :=
  let c2_i32_2034_r0 : BitVec 32 := 2#32
  let v4839_r0 : BitVec 32 := Scalar.shrsi v4838_r0 c2_i32_2034_r0
  let c0_i32_2039_r0 : BitVec 32 := 0#32
  ![v4839_r0.toNat, 0]

def k0_chk31 (v4838_r0 : BitVec 32) : Prop :=
  (∀ a, (k0_off124 v4838_r0) a + S1x2560.size a ≤ S4000x2560.size a)
theorem k0_off124_inb : ∀ (v4838_r0 : BitVec 32) (k0_hw31 : k0_chk31 v4838_r0), ∀ a, (k0_off124 v4838_r0) a + S1x2560.size a ≤ S4000x2560.size a := fun v4838_r0 k0_hw31 => k0_hw31

def k0_off125 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c31_i32_2040_r0 : BitVec 32 := 31#32
  let v4846_r0 : BitVec 32 := Scalar.addi v4535_r0 c31_i32_2040_r0
  let v4847_r0 : Index := Scalar.indexCast v4846_r0
  ![v4847_r0.toNat]
def k0_off126 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off127 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2042_r0 : BitVec 32 := 0#32
  let c0_i32_2043_r0 : BitVec 32 := 0#32
  ![v4534_r0.toNat, 0, 0]
def k0_off128 (v4848_r0 : BitVec 32) : Fin 2 → Nat :=
  let c2_i32_2041_r0 : BitVec 32 := 2#32
  let v4849_r0 : BitVec 32 := Scalar.shrsi v4848_r0 c2_i32_2041_r0
  let c0_i32_2046_r0 : BitVec 32 := 0#32
  ![v4849_r0.toNat, 0]

def k0_chk32 (v4848_r0 : BitVec 32) : Prop :=
  (∀ a, (k0_off128 v4848_r0) a + S1x2560.size a ≤ S4000x2560.size a)
theorem k0_off128_inb : ∀ (v4848_r0 : BitVec 32) (k0_hw32 : k0_chk32 v4848_r0), ∀ a, (k0_off128 v4848_r0) a + S1x2560.size a ≤ S4000x2560.size a := fun v4848_r0 k0_hw32 => k0_hw32

def k0_off129 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c32_i32_2047_r0 : BitVec 32 := 32#32
  let v4856_r0 : BitVec 32 := Scalar.addi v4535_r0 c32_i32_2047_r0
  let v4857_r0 : Index := Scalar.indexCast v4856_r0
  ![v4857_r0.toNat]
def k0_off130 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off131 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2049_r0 : BitVec 32 := 0#32
  let c0_i32_2050_r0 : BitVec 32 := 0#32
  ![v4534_r0.toNat, 0, 0]
def k0_off132 (v4858_r0 : BitVec 32) : Fin 2 → Nat :=
  let c2_i32_2048_r0 : BitVec 32 := 2#32
  let v4859_r0 : BitVec 32 := Scalar.shrsi v4858_r0 c2_i32_2048_r0
  let c0_i32_2053_r0 : BitVec 32 := 0#32
  ![v4859_r0.toNat, 0]

def k0_chk33 (v4858_r0 : BitVec 32) : Prop :=
  (∀ a, (k0_off132 v4858_r0) a + S1x2560.size a ≤ S4000x2560.size a)
theorem k0_off132_inb : ∀ (v4858_r0 : BitVec 32) (k0_hw33 : k0_chk33 v4858_r0), ∀ a, (k0_off132 v4858_r0) a + S1x2560.size a ≤ S4000x2560.size a := fun v4858_r0 k0_hw33 => k0_hw33

def k0_off133 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c33_i32_r0 : BitVec 32 := 33#32
  let v4866_r0 : BitVec 32 := Scalar.addi v4535_r0 c33_i32_r0
  let v4867_r0 : Index := Scalar.indexCast v4866_r0
  ![v4867_r0.toNat]
def k0_off134 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off135 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2055_r0 : BitVec 32 := 0#32
  let c0_i32_2056_r0 : BitVec 32 := 0#32
  ![v4534_r0.toNat, 0, 0]
def k0_off136 (v4868_r0 : BitVec 32) : Fin 2 → Nat :=
  let c2_i32_2054_r0 : BitVec 32 := 2#32
  let v4869_r0 : BitVec 32 := Scalar.shrsi v4868_r0 c2_i32_2054_r0
  let c0_i32_2059_r0 : BitVec 32 := 0#32
  ![v4869_r0.toNat, 0]

def k0_chk34 (v4868_r0 : BitVec 32) : Prop :=
  (∀ a, (k0_off136 v4868_r0) a + S1x2560.size a ≤ S4000x2560.size a)
theorem k0_off136_inb : ∀ (v4868_r0 : BitVec 32) (k0_hw34 : k0_chk34 v4868_r0), ∀ a, (k0_off136 v4868_r0) a + S1x2560.size a ≤ S4000x2560.size a := fun v4868_r0 k0_hw34 => k0_hw34

def k0_off137 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c34_i32_r0 : BitVec 32 := 34#32
  let v4876_r0 : BitVec 32 := Scalar.addi v4535_r0 c34_i32_r0
  let v4877_r0 : Index := Scalar.indexCast v4876_r0
  ![v4877_r0.toNat]
def k0_off138 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off139 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2061_r0 : BitVec 32 := 0#32
  let c0_i32_2062_r0 : BitVec 32 := 0#32
  ![v4534_r0.toNat, 0, 0]
def k0_off140 (v4878_r0 : BitVec 32) : Fin 2 → Nat :=
  let c2_i32_2060_r0 : BitVec 32 := 2#32
  let v4879_r0 : BitVec 32 := Scalar.shrsi v4878_r0 c2_i32_2060_r0
  let c0_i32_2065_r0 : BitVec 32 := 0#32
  ![v4879_r0.toNat, 0]

def k0_chk35 (v4878_r0 : BitVec 32) : Prop :=
  (∀ a, (k0_off140 v4878_r0) a + S1x2560.size a ≤ S4000x2560.size a)
theorem k0_off140_inb : ∀ (v4878_r0 : BitVec 32) (k0_hw35 : k0_chk35 v4878_r0), ∀ a, (k0_off140 v4878_r0) a + S1x2560.size a ≤ S4000x2560.size a := fun v4878_r0 k0_hw35 => k0_hw35

def k0_off141 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c35_i32_r0 : BitVec 32 := 35#32
  let v4886_r0 : BitVec 32 := Scalar.addi v4535_r0 c35_i32_r0
  let v4887_r0 : Index := Scalar.indexCast v4886_r0
  ![v4887_r0.toNat]
def k0_off142 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off143 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2067_r0 : BitVec 32 := 0#32
  let c0_i32_2068_r0 : BitVec 32 := 0#32
  ![v4534_r0.toNat, 0, 0]
def k0_off144 (v4888_r0 : BitVec 32) : Fin 2 → Nat :=
  let c2_i32_2066_r0 : BitVec 32 := 2#32
  let v4889_r0 : BitVec 32 := Scalar.shrsi v4888_r0 c2_i32_2066_r0
  let c0_i32_2071_r0 : BitVec 32 := 0#32
  ![v4889_r0.toNat, 0]

def k0_chk36 (v4888_r0 : BitVec 32) : Prop :=
  (∀ a, (k0_off144 v4888_r0) a + S1x2560.size a ≤ S4000x2560.size a)
theorem k0_off144_inb : ∀ (v4888_r0 : BitVec 32) (k0_hw36 : k0_chk36 v4888_r0), ∀ a, (k0_off144 v4888_r0) a + S1x2560.size a ≤ S4000x2560.size a := fun v4888_r0 k0_hw36 => k0_hw36

def k0_off145 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c36_i32_r0 : BitVec 32 := 36#32
  let v4896_r0 : BitVec 32 := Scalar.addi v4535_r0 c36_i32_r0
  let v4897_r0 : Index := Scalar.indexCast v4896_r0
  ![v4897_r0.toNat]
def k0_off146 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off147 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2073_r0 : BitVec 32 := 0#32
  let c0_i32_2074_r0 : BitVec 32 := 0#32
  ![v4534_r0.toNat, 0, 0]
def k0_off148 (v4898_r0 : BitVec 32) : Fin 2 → Nat :=
  let c2_i32_2072_r0 : BitVec 32 := 2#32
  let v4899_r0 : BitVec 32 := Scalar.shrsi v4898_r0 c2_i32_2072_r0
  let c0_i32_2077_r0 : BitVec 32 := 0#32
  ![v4899_r0.toNat, 0]

def k0_chk37 (v4898_r0 : BitVec 32) : Prop :=
  (∀ a, (k0_off148 v4898_r0) a + S1x2560.size a ≤ S4000x2560.size a)
theorem k0_off148_inb : ∀ (v4898_r0 : BitVec 32) (k0_hw37 : k0_chk37 v4898_r0), ∀ a, (k0_off148 v4898_r0) a + S1x2560.size a ≤ S4000x2560.size a := fun v4898_r0 k0_hw37 => k0_hw37

def k0_off149 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c37_i32_r0 : BitVec 32 := 37#32
  let v4906_r0 : BitVec 32 := Scalar.addi v4535_r0 c37_i32_r0
  let v4907_r0 : Index := Scalar.indexCast v4906_r0
  ![v4907_r0.toNat]
def k0_off150 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off151 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2079_r0 : BitVec 32 := 0#32
  let c0_i32_2080_r0 : BitVec 32 := 0#32
  ![v4534_r0.toNat, 0, 0]
def k0_off152 (v4908_r0 : BitVec 32) : Fin 2 → Nat :=
  let c2_i32_2078_r0 : BitVec 32 := 2#32
  let v4909_r0 : BitVec 32 := Scalar.shrsi v4908_r0 c2_i32_2078_r0
  let c0_i32_2083_r0 : BitVec 32 := 0#32
  ![v4909_r0.toNat, 0]

def k0_chk38 (v4908_r0 : BitVec 32) : Prop :=
  (∀ a, (k0_off152 v4908_r0) a + S1x2560.size a ≤ S4000x2560.size a)
theorem k0_off152_inb : ∀ (v4908_r0 : BitVec 32) (k0_hw38 : k0_chk38 v4908_r0), ∀ a, (k0_off152 v4908_r0) a + S1x2560.size a ≤ S4000x2560.size a := fun v4908_r0 k0_hw38 => k0_hw38

def k0_off153 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c38_i32_r0 : BitVec 32 := 38#32
  let v4916_r0 : BitVec 32 := Scalar.addi v4535_r0 c38_i32_r0
  let v4917_r0 : Index := Scalar.indexCast v4916_r0
  ![v4917_r0.toNat]
def k0_off154 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off155 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2085_r0 : BitVec 32 := 0#32
  let c0_i32_2086_r0 : BitVec 32 := 0#32
  ![v4534_r0.toNat, 0, 0]
def k0_off156 (v4918_r0 : BitVec 32) : Fin 2 → Nat :=
  let c2_i32_2084_r0 : BitVec 32 := 2#32
  let v4919_r0 : BitVec 32 := Scalar.shrsi v4918_r0 c2_i32_2084_r0
  let c0_i32_2089_r0 : BitVec 32 := 0#32
  ![v4919_r0.toNat, 0]

def k0_chk39 (v4918_r0 : BitVec 32) : Prop :=
  (∀ a, (k0_off156 v4918_r0) a + S1x2560.size a ≤ S4000x2560.size a)
theorem k0_off156_inb : ∀ (v4918_r0 : BitVec 32) (k0_hw39 : k0_chk39 v4918_r0), ∀ a, (k0_off156 v4918_r0) a + S1x2560.size a ≤ S4000x2560.size a := fun v4918_r0 k0_hw39 => k0_hw39

def k0_off157 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c39_i32_r0 : BitVec 32 := 39#32
  let v4926_r0 : BitVec 32 := Scalar.addi v4535_r0 c39_i32_r0
  let v4927_r0 : Index := Scalar.indexCast v4926_r0
  ![v4927_r0.toNat]
def k0_off158 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off159 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2091_r0 : BitVec 32 := 0#32
  let c0_i32_2092_r0 : BitVec 32 := 0#32
  ![v4534_r0.toNat, 0, 0]
def k0_off160 (v4928_r0 : BitVec 32) : Fin 2 → Nat :=
  let c2_i32_2090_r0 : BitVec 32 := 2#32
  let v4929_r0 : BitVec 32 := Scalar.shrsi v4928_r0 c2_i32_2090_r0
  let c0_i32_2095_r0 : BitVec 32 := 0#32
  ![v4929_r0.toNat, 0]

def k0_chk40 (v4928_r0 : BitVec 32) : Prop :=
  (∀ a, (k0_off160 v4928_r0) a + S1x2560.size a ≤ S4000x2560.size a)
theorem k0_off160_inb : ∀ (v4928_r0 : BitVec 32) (k0_hw40 : k0_chk40 v4928_r0), ∀ a, (k0_off160 v4928_r0) a + S1x2560.size a ≤ S4000x2560.size a := fun v4928_r0 k0_hw40 => k0_hw40

def k0_off161 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c40_i32_2096_r0 : BitVec 32 := 40#32
  let v4936_r0 : BitVec 32 := Scalar.addi v4535_r0 c40_i32_2096_r0
  let v4937_r0 : Index := Scalar.indexCast v4936_r0
  ![v4937_r0.toNat]
def k0_off162 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off163 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2098_r0 : BitVec 32 := 0#32
  let c0_i32_2099_r0 : BitVec 32 := 0#32
  ![v4534_r0.toNat, 0, 0]
def k0_off164 (v4938_r0 : BitVec 32) : Fin 2 → Nat :=
  let c2_i32_2097_r0 : BitVec 32 := 2#32
  let v4939_r0 : BitVec 32 := Scalar.shrsi v4938_r0 c2_i32_2097_r0
  let c0_i32_2102_r0 : BitVec 32 := 0#32
  ![v4939_r0.toNat, 0]

def k0_chk41 (v4938_r0 : BitVec 32) : Prop :=
  (∀ a, (k0_off164 v4938_r0) a + S1x2560.size a ≤ S4000x2560.size a)
theorem k0_off164_inb : ∀ (v4938_r0 : BitVec 32) (k0_hw41 : k0_chk41 v4938_r0), ∀ a, (k0_off164 v4938_r0) a + S1x2560.size a ≤ S4000x2560.size a := fun v4938_r0 k0_hw41 => k0_hw41

def k0_off165 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c41_i32_r0 : BitVec 32 := 41#32
  let v4946_r0 : BitVec 32 := Scalar.addi v4535_r0 c41_i32_r0
  let v4947_r0 : Index := Scalar.indexCast v4946_r0
  ![v4947_r0.toNat]
def k0_off166 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off167 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2104_r0 : BitVec 32 := 0#32
  let c0_i32_2105_r0 : BitVec 32 := 0#32
  ![v4534_r0.toNat, 0, 0]
def k0_off168 (v4948_r0 : BitVec 32) : Fin 2 → Nat :=
  let c2_i32_2103_r0 : BitVec 32 := 2#32
  let v4949_r0 : BitVec 32 := Scalar.shrsi v4948_r0 c2_i32_2103_r0
  let c0_i32_2108_r0 : BitVec 32 := 0#32
  ![v4949_r0.toNat, 0]

def k0_chk42 (v4948_r0 : BitVec 32) : Prop :=
  (∀ a, (k0_off168 v4948_r0) a + S1x2560.size a ≤ S4000x2560.size a)
theorem k0_off168_inb : ∀ (v4948_r0 : BitVec 32) (k0_hw42 : k0_chk42 v4948_r0), ∀ a, (k0_off168 v4948_r0) a + S1x2560.size a ≤ S4000x2560.size a := fun v4948_r0 k0_hw42 => k0_hw42

def k0_off169 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c42_i32_r0 : BitVec 32 := 42#32
  let v4956_r0 : BitVec 32 := Scalar.addi v4535_r0 c42_i32_r0
  let v4957_r0 : Index := Scalar.indexCast v4956_r0
  ![v4957_r0.toNat]
def k0_off170 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off171 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2110_r0 : BitVec 32 := 0#32
  let c0_i32_2111_r0 : BitVec 32 := 0#32
  ![v4534_r0.toNat, 0, 0]
def k0_off172 (v4958_r0 : BitVec 32) : Fin 2 → Nat :=
  let c2_i32_2109_r0 : BitVec 32 := 2#32
  let v4959_r0 : BitVec 32 := Scalar.shrsi v4958_r0 c2_i32_2109_r0
  let c0_i32_2114_r0 : BitVec 32 := 0#32
  ![v4959_r0.toNat, 0]

def k0_chk43 (v4958_r0 : BitVec 32) : Prop :=
  (∀ a, (k0_off172 v4958_r0) a + S1x2560.size a ≤ S4000x2560.size a)
theorem k0_off172_inb : ∀ (v4958_r0 : BitVec 32) (k0_hw43 : k0_chk43 v4958_r0), ∀ a, (k0_off172 v4958_r0) a + S1x2560.size a ≤ S4000x2560.size a := fun v4958_r0 k0_hw43 => k0_hw43

def k0_off173 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c43_i32_r0 : BitVec 32 := 43#32
  let v4966_r0 : BitVec 32 := Scalar.addi v4535_r0 c43_i32_r0
  let v4967_r0 : Index := Scalar.indexCast v4966_r0
  ![v4967_r0.toNat]
def k0_off174 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off175 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2116_r0 : BitVec 32 := 0#32
  let c0_i32_2117_r0 : BitVec 32 := 0#32
  ![v4534_r0.toNat, 0, 0]
def k0_off176 (v4968_r0 : BitVec 32) : Fin 2 → Nat :=
  let c2_i32_2115_r0 : BitVec 32 := 2#32
  let v4969_r0 : BitVec 32 := Scalar.shrsi v4968_r0 c2_i32_2115_r0
  let c0_i32_2120_r0 : BitVec 32 := 0#32
  ![v4969_r0.toNat, 0]

def k0_chk44 (v4968_r0 : BitVec 32) : Prop :=
  (∀ a, (k0_off176 v4968_r0) a + S1x2560.size a ≤ S4000x2560.size a)
theorem k0_off176_inb : ∀ (v4968_r0 : BitVec 32) (k0_hw44 : k0_chk44 v4968_r0), ∀ a, (k0_off176 v4968_r0) a + S1x2560.size a ≤ S4000x2560.size a := fun v4968_r0 k0_hw44 => k0_hw44

def k0_off177 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c44_i32_r0 : BitVec 32 := 44#32
  let v4976_r0 : BitVec 32 := Scalar.addi v4535_r0 c44_i32_r0
  let v4977_r0 : Index := Scalar.indexCast v4976_r0
  ![v4977_r0.toNat]
def k0_off178 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off179 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2122_r0 : BitVec 32 := 0#32
  let c0_i32_2123_r0 : BitVec 32 := 0#32
  ![v4534_r0.toNat, 0, 0]
def k0_off180 (v4978_r0 : BitVec 32) : Fin 2 → Nat :=
  let c2_i32_2121_r0 : BitVec 32 := 2#32
  let v4979_r0 : BitVec 32 := Scalar.shrsi v4978_r0 c2_i32_2121_r0
  let c0_i32_2126_r0 : BitVec 32 := 0#32
  ![v4979_r0.toNat, 0]

def k0_chk45 (v4978_r0 : BitVec 32) : Prop :=
  (∀ a, (k0_off180 v4978_r0) a + S1x2560.size a ≤ S4000x2560.size a)
theorem k0_off180_inb : ∀ (v4978_r0 : BitVec 32) (k0_hw45 : k0_chk45 v4978_r0), ∀ a, (k0_off180 v4978_r0) a + S1x2560.size a ≤ S4000x2560.size a := fun v4978_r0 k0_hw45 => k0_hw45

def k0_off181 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c45_i32_r0 : BitVec 32 := 45#32
  let v4986_r0 : BitVec 32 := Scalar.addi v4535_r0 c45_i32_r0
  let v4987_r0 : Index := Scalar.indexCast v4986_r0
  ![v4987_r0.toNat]
def k0_off182 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off183 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2128_r0 : BitVec 32 := 0#32
  let c0_i32_2129_r0 : BitVec 32 := 0#32
  ![v4534_r0.toNat, 0, 0]
def k0_off184 (v4988_r0 : BitVec 32) : Fin 2 → Nat :=
  let c2_i32_2127_r0 : BitVec 32 := 2#32
  let v4989_r0 : BitVec 32 := Scalar.shrsi v4988_r0 c2_i32_2127_r0
  let c0_i32_2132_r0 : BitVec 32 := 0#32
  ![v4989_r0.toNat, 0]

def k0_chk46 (v4988_r0 : BitVec 32) : Prop :=
  (∀ a, (k0_off184 v4988_r0) a + S1x2560.size a ≤ S4000x2560.size a)
theorem k0_off184_inb : ∀ (v4988_r0 : BitVec 32) (k0_hw46 : k0_chk46 v4988_r0), ∀ a, (k0_off184 v4988_r0) a + S1x2560.size a ≤ S4000x2560.size a := fun v4988_r0 k0_hw46 => k0_hw46

def k0_off185 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c46_i32_r0 : BitVec 32 := 46#32
  let v4996_r0 : BitVec 32 := Scalar.addi v4535_r0 c46_i32_r0
  let v4997_r0 : Index := Scalar.indexCast v4996_r0
  ![v4997_r0.toNat]
def k0_off186 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off187 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2134_r0 : BitVec 32 := 0#32
  let c0_i32_2135_r0 : BitVec 32 := 0#32
  ![v4534_r0.toNat, 0, 0]
def k0_off188 (v4998_r0 : BitVec 32) : Fin 2 → Nat :=
  let c2_i32_2133_r0 : BitVec 32 := 2#32
  let v4999_r0 : BitVec 32 := Scalar.shrsi v4998_r0 c2_i32_2133_r0
  let c0_i32_2138_r0 : BitVec 32 := 0#32
  ![v4999_r0.toNat, 0]

def k0_chk47 (v4998_r0 : BitVec 32) : Prop :=
  (∀ a, (k0_off188 v4998_r0) a + S1x2560.size a ≤ S4000x2560.size a)
theorem k0_off188_inb : ∀ (v4998_r0 : BitVec 32) (k0_hw47 : k0_chk47 v4998_r0), ∀ a, (k0_off188 v4998_r0) a + S1x2560.size a ≤ S4000x2560.size a := fun v4998_r0 k0_hw47 => k0_hw47

def k0_off189 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c47_i32_r0 : BitVec 32 := 47#32
  let v5006_r0 : BitVec 32 := Scalar.addi v4535_r0 c47_i32_r0
  let v5007_r0 : Index := Scalar.indexCast v5006_r0
  ![v5007_r0.toNat]
def k0_off190 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off191 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2140_r0 : BitVec 32 := 0#32
  let c0_i32_2141_r0 : BitVec 32 := 0#32
  ![v4534_r0.toNat, 0, 0]
def k0_off192 (v5008_r0 : BitVec 32) : Fin 2 → Nat :=
  let c2_i32_2139_r0 : BitVec 32 := 2#32
  let v5009_r0 : BitVec 32 := Scalar.shrsi v5008_r0 c2_i32_2139_r0
  let c0_i32_2144_r0 : BitVec 32 := 0#32
  ![v5009_r0.toNat, 0]

def k0_chk48 (v5008_r0 : BitVec 32) : Prop :=
  (∀ a, (k0_off192 v5008_r0) a + S1x2560.size a ≤ S4000x2560.size a)
theorem k0_off192_inb : ∀ (v5008_r0 : BitVec 32) (k0_hw48 : k0_chk48 v5008_r0), ∀ a, (k0_off192 v5008_r0) a + S1x2560.size a ≤ S4000x2560.size a := fun v5008_r0 k0_hw48 => k0_hw48

def k0_off193 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c48_i32_2145_r0 : BitVec 32 := 48#32
  let v5016_r0 : BitVec 32 := Scalar.addi v4535_r0 c48_i32_2145_r0
  let v5017_r0 : Index := Scalar.indexCast v5016_r0
  ![v5017_r0.toNat]
def k0_off194 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off195 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2147_r0 : BitVec 32 := 0#32
  let c0_i32_2148_r0 : BitVec 32 := 0#32
  ![v4534_r0.toNat, 0, 0]
def k0_off196 (v5018_r0 : BitVec 32) : Fin 2 → Nat :=
  let c2_i32_2146_r0 : BitVec 32 := 2#32
  let v5019_r0 : BitVec 32 := Scalar.shrsi v5018_r0 c2_i32_2146_r0
  let c0_i32_2151_r0 : BitVec 32 := 0#32
  ![v5019_r0.toNat, 0]

def k0_chk49 (v5018_r0 : BitVec 32) : Prop :=
  (∀ a, (k0_off196 v5018_r0) a + S1x2560.size a ≤ S4000x2560.size a)
theorem k0_off196_inb : ∀ (v5018_r0 : BitVec 32) (k0_hw49 : k0_chk49 v5018_r0), ∀ a, (k0_off196 v5018_r0) a + S1x2560.size a ≤ S4000x2560.size a := fun v5018_r0 k0_hw49 => k0_hw49

def k0_off197 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c49_i32_r0 : BitVec 32 := 49#32
  let v5026_r0 : BitVec 32 := Scalar.addi v4535_r0 c49_i32_r0
  let v5027_r0 : Index := Scalar.indexCast v5026_r0
  ![v5027_r0.toNat]
def k0_off198 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off199 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2153_r0 : BitVec 32 := 0#32
  let c0_i32_2154_r0 : BitVec 32 := 0#32
  ![v4534_r0.toNat, 0, 0]
def k0_off200 (v5028_r0 : BitVec 32) : Fin 2 → Nat :=
  let c2_i32_2152_r0 : BitVec 32 := 2#32
  let v5029_r0 : BitVec 32 := Scalar.shrsi v5028_r0 c2_i32_2152_r0
  let c0_i32_2157_r0 : BitVec 32 := 0#32
  ![v5029_r0.toNat, 0]

def k0_chk50 (v5028_r0 : BitVec 32) : Prop :=
  (∀ a, (k0_off200 v5028_r0) a + S1x2560.size a ≤ S4000x2560.size a)
theorem k0_off200_inb : ∀ (v5028_r0 : BitVec 32) (k0_hw50 : k0_chk50 v5028_r0), ∀ a, (k0_off200 v5028_r0) a + S1x2560.size a ≤ S4000x2560.size a := fun v5028_r0 k0_hw50 => k0_hw50

def k0_off201 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c50_i32_r0 : BitVec 32 := 50#32
  let v5036_r0 : BitVec 32 := Scalar.addi v4535_r0 c50_i32_r0
  let v5037_r0 : Index := Scalar.indexCast v5036_r0
  ![v5037_r0.toNat]
def k0_off202 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off203 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2159_r0 : BitVec 32 := 0#32
  let c0_i32_2160_r0 : BitVec 32 := 0#32
  ![v4534_r0.toNat, 0, 0]
def k0_off204 (v5038_r0 : BitVec 32) : Fin 2 → Nat :=
  let c2_i32_2158_r0 : BitVec 32 := 2#32
  let v5039_r0 : BitVec 32 := Scalar.shrsi v5038_r0 c2_i32_2158_r0
  let c0_i32_2163_r0 : BitVec 32 := 0#32
  ![v5039_r0.toNat, 0]

def k0_chk51 (v5038_r0 : BitVec 32) : Prop :=
  (∀ a, (k0_off204 v5038_r0) a + S1x2560.size a ≤ S4000x2560.size a)
theorem k0_off204_inb : ∀ (v5038_r0 : BitVec 32) (k0_hw51 : k0_chk51 v5038_r0), ∀ a, (k0_off204 v5038_r0) a + S1x2560.size a ≤ S4000x2560.size a := fun v5038_r0 k0_hw51 => k0_hw51

def k0_off205 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c51_i32_r0 : BitVec 32 := 51#32
  let v5046_r0 : BitVec 32 := Scalar.addi v4535_r0 c51_i32_r0
  let v5047_r0 : Index := Scalar.indexCast v5046_r0
  ![v5047_r0.toNat]
def k0_off206 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off207 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2165_r0 : BitVec 32 := 0#32
  let c0_i32_2166_r0 : BitVec 32 := 0#32
  ![v4534_r0.toNat, 0, 0]
def k0_off208 (v5048_r0 : BitVec 32) : Fin 2 → Nat :=
  let c2_i32_2164_r0 : BitVec 32 := 2#32
  let v5049_r0 : BitVec 32 := Scalar.shrsi v5048_r0 c2_i32_2164_r0
  let c0_i32_2169_r0 : BitVec 32 := 0#32
  ![v5049_r0.toNat, 0]

def k0_chk52 (v5048_r0 : BitVec 32) : Prop :=
  (∀ a, (k0_off208 v5048_r0) a + S1x2560.size a ≤ S4000x2560.size a)
theorem k0_off208_inb : ∀ (v5048_r0 : BitVec 32) (k0_hw52 : k0_chk52 v5048_r0), ∀ a, (k0_off208 v5048_r0) a + S1x2560.size a ≤ S4000x2560.size a := fun v5048_r0 k0_hw52 => k0_hw52

def k0_off209 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c52_i32_r0 : BitVec 32 := 52#32
  let v5056_r0 : BitVec 32 := Scalar.addi v4535_r0 c52_i32_r0
  let v5057_r0 : Index := Scalar.indexCast v5056_r0
  ![v5057_r0.toNat]
def k0_off210 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off211 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2171_r0 : BitVec 32 := 0#32
  let c0_i32_2172_r0 : BitVec 32 := 0#32
  ![v4534_r0.toNat, 0, 0]
def k0_off212 (v5058_r0 : BitVec 32) : Fin 2 → Nat :=
  let c2_i32_2170_r0 : BitVec 32 := 2#32
  let v5059_r0 : BitVec 32 := Scalar.shrsi v5058_r0 c2_i32_2170_r0
  let c0_i32_2175_r0 : BitVec 32 := 0#32
  ![v5059_r0.toNat, 0]

def k0_chk53 (v5058_r0 : BitVec 32) : Prop :=
  (∀ a, (k0_off212 v5058_r0) a + S1x2560.size a ≤ S4000x2560.size a)
theorem k0_off212_inb : ∀ (v5058_r0 : BitVec 32) (k0_hw53 : k0_chk53 v5058_r0), ∀ a, (k0_off212 v5058_r0) a + S1x2560.size a ≤ S4000x2560.size a := fun v5058_r0 k0_hw53 => k0_hw53

def k0_off213 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c53_i32_r0 : BitVec 32 := 53#32
  let v5066_r0 : BitVec 32 := Scalar.addi v4535_r0 c53_i32_r0
  let v5067_r0 : Index := Scalar.indexCast v5066_r0
  ![v5067_r0.toNat]
def k0_off214 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off215 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2177_r0 : BitVec 32 := 0#32
  let c0_i32_2178_r0 : BitVec 32 := 0#32
  ![v4534_r0.toNat, 0, 0]
def k0_off216 (v5068_r0 : BitVec 32) : Fin 2 → Nat :=
  let c2_i32_2176_r0 : BitVec 32 := 2#32
  let v5069_r0 : BitVec 32 := Scalar.shrsi v5068_r0 c2_i32_2176_r0
  let c0_i32_2181_r0 : BitVec 32 := 0#32
  ![v5069_r0.toNat, 0]

def k0_chk54 (v5068_r0 : BitVec 32) : Prop :=
  (∀ a, (k0_off216 v5068_r0) a + S1x2560.size a ≤ S4000x2560.size a)
theorem k0_off216_inb : ∀ (v5068_r0 : BitVec 32) (k0_hw54 : k0_chk54 v5068_r0), ∀ a, (k0_off216 v5068_r0) a + S1x2560.size a ≤ S4000x2560.size a := fun v5068_r0 k0_hw54 => k0_hw54

def k0_off217 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c54_i32_r0 : BitVec 32 := 54#32
  let v5076_r0 : BitVec 32 := Scalar.addi v4535_r0 c54_i32_r0
  let v5077_r0 : Index := Scalar.indexCast v5076_r0
  ![v5077_r0.toNat]
def k0_off218 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off219 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2183_r0 : BitVec 32 := 0#32
  let c0_i32_2184_r0 : BitVec 32 := 0#32
  ![v4534_r0.toNat, 0, 0]
def k0_off220 (v5078_r0 : BitVec 32) : Fin 2 → Nat :=
  let c2_i32_2182_r0 : BitVec 32 := 2#32
  let v5079_r0 : BitVec 32 := Scalar.shrsi v5078_r0 c2_i32_2182_r0
  let c0_i32_2187_r0 : BitVec 32 := 0#32
  ![v5079_r0.toNat, 0]

def k0_chk55 (v5078_r0 : BitVec 32) : Prop :=
  (∀ a, (k0_off220 v5078_r0) a + S1x2560.size a ≤ S4000x2560.size a)
theorem k0_off220_inb : ∀ (v5078_r0 : BitVec 32) (k0_hw55 : k0_chk55 v5078_r0), ∀ a, (k0_off220 v5078_r0) a + S1x2560.size a ≤ S4000x2560.size a := fun v5078_r0 k0_hw55 => k0_hw55

def k0_off221 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c55_i32_r0 : BitVec 32 := 55#32
  let v5086_r0 : BitVec 32 := Scalar.addi v4535_r0 c55_i32_r0
  let v5087_r0 : Index := Scalar.indexCast v5086_r0
  ![v5087_r0.toNat]
def k0_off222 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off223 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2189_r0 : BitVec 32 := 0#32
  let c0_i32_2190_r0 : BitVec 32 := 0#32
  ![v4534_r0.toNat, 0, 0]
def k0_off224 (v5088_r0 : BitVec 32) : Fin 2 → Nat :=
  let c2_i32_2188_r0 : BitVec 32 := 2#32
  let v5089_r0 : BitVec 32 := Scalar.shrsi v5088_r0 c2_i32_2188_r0
  let c0_i32_2193_r0 : BitVec 32 := 0#32
  ![v5089_r0.toNat, 0]

def k0_chk56 (v5088_r0 : BitVec 32) : Prop :=
  (∀ a, (k0_off224 v5088_r0) a + S1x2560.size a ≤ S4000x2560.size a)
theorem k0_off224_inb : ∀ (v5088_r0 : BitVec 32) (k0_hw56 : k0_chk56 v5088_r0), ∀ a, (k0_off224 v5088_r0) a + S1x2560.size a ≤ S4000x2560.size a := fun v5088_r0 k0_hw56 => k0_hw56

def k0_off225 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c56_i32_2194_r0 : BitVec 32 := 56#32
  let v5096_r0 : BitVec 32 := Scalar.addi v4535_r0 c56_i32_2194_r0
  let v5097_r0 : Index := Scalar.indexCast v5096_r0
  ![v5097_r0.toNat]
def k0_off226 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off227 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2196_r0 : BitVec 32 := 0#32
  let c0_i32_2197_r0 : BitVec 32 := 0#32
  ![v4534_r0.toNat, 0, 0]
def k0_off228 (v5098_r0 : BitVec 32) : Fin 2 → Nat :=
  let c2_i32_2195_r0 : BitVec 32 := 2#32
  let v5099_r0 : BitVec 32 := Scalar.shrsi v5098_r0 c2_i32_2195_r0
  let c0_i32_2200_r0 : BitVec 32 := 0#32
  ![v5099_r0.toNat, 0]

def k0_chk57 (v5098_r0 : BitVec 32) : Prop :=
  (∀ a, (k0_off228 v5098_r0) a + S1x2560.size a ≤ S4000x2560.size a)
theorem k0_off228_inb : ∀ (v5098_r0 : BitVec 32) (k0_hw57 : k0_chk57 v5098_r0), ∀ a, (k0_off228 v5098_r0) a + S1x2560.size a ≤ S4000x2560.size a := fun v5098_r0 k0_hw57 => k0_hw57

def k0_off229 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c57_i32_r0 : BitVec 32 := 57#32
  let v5106_r0 : BitVec 32 := Scalar.addi v4535_r0 c57_i32_r0
  let v5107_r0 : Index := Scalar.indexCast v5106_r0
  ![v5107_r0.toNat]
def k0_off230 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off231 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2202_r0 : BitVec 32 := 0#32
  let c0_i32_2203_r0 : BitVec 32 := 0#32
  ![v4534_r0.toNat, 0, 0]
def k0_off232 (v5108_r0 : BitVec 32) : Fin 2 → Nat :=
  let c2_i32_2201_r0 : BitVec 32 := 2#32
  let v5109_r0 : BitVec 32 := Scalar.shrsi v5108_r0 c2_i32_2201_r0
  let c0_i32_2206_r0 : BitVec 32 := 0#32
  ![v5109_r0.toNat, 0]

def k0_chk58 (v5108_r0 : BitVec 32) : Prop :=
  (∀ a, (k0_off232 v5108_r0) a + S1x2560.size a ≤ S4000x2560.size a)
theorem k0_off232_inb : ∀ (v5108_r0 : BitVec 32) (k0_hw58 : k0_chk58 v5108_r0), ∀ a, (k0_off232 v5108_r0) a + S1x2560.size a ≤ S4000x2560.size a := fun v5108_r0 k0_hw58 => k0_hw58

def k0_off233 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c58_i32_r0 : BitVec 32 := 58#32
  let v5116_r0 : BitVec 32 := Scalar.addi v4535_r0 c58_i32_r0
  let v5117_r0 : Index := Scalar.indexCast v5116_r0
  ![v5117_r0.toNat]
def k0_off234 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off235 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2208_r0 : BitVec 32 := 0#32
  let c0_i32_2209_r0 : BitVec 32 := 0#32
  ![v4534_r0.toNat, 0, 0]
def k0_off236 (v5118_r0 : BitVec 32) : Fin 2 → Nat :=
  let c2_i32_2207_r0 : BitVec 32 := 2#32
  let v5119_r0 : BitVec 32 := Scalar.shrsi v5118_r0 c2_i32_2207_r0
  let c0_i32_2212_r0 : BitVec 32 := 0#32
  ![v5119_r0.toNat, 0]

def k0_chk59 (v5118_r0 : BitVec 32) : Prop :=
  (∀ a, (k0_off236 v5118_r0) a + S1x2560.size a ≤ S4000x2560.size a)
theorem k0_off236_inb : ∀ (v5118_r0 : BitVec 32) (k0_hw59 : k0_chk59 v5118_r0), ∀ a, (k0_off236 v5118_r0) a + S1x2560.size a ≤ S4000x2560.size a := fun v5118_r0 k0_hw59 => k0_hw59

def k0_off237 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c59_i32_r0 : BitVec 32 := 59#32
  let v5126_r0 : BitVec 32 := Scalar.addi v4535_r0 c59_i32_r0
  let v5127_r0 : Index := Scalar.indexCast v5126_r0
  ![v5127_r0.toNat]
def k0_off238 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off239 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2214_r0 : BitVec 32 := 0#32
  let c0_i32_2215_r0 : BitVec 32 := 0#32
  ![v4534_r0.toNat, 0, 0]
def k0_off240 (v5128_r0 : BitVec 32) : Fin 2 → Nat :=
  let c2_i32_2213_r0 : BitVec 32 := 2#32
  let v5129_r0 : BitVec 32 := Scalar.shrsi v5128_r0 c2_i32_2213_r0
  let c0_i32_2218_r0 : BitVec 32 := 0#32
  ![v5129_r0.toNat, 0]

def k0_chk60 (v5128_r0 : BitVec 32) : Prop :=
  (∀ a, (k0_off240 v5128_r0) a + S1x2560.size a ≤ S4000x2560.size a)
theorem k0_off240_inb : ∀ (v5128_r0 : BitVec 32) (k0_hw60 : k0_chk60 v5128_r0), ∀ a, (k0_off240 v5128_r0) a + S1x2560.size a ≤ S4000x2560.size a := fun v5128_r0 k0_hw60 => k0_hw60

def k0_off241 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c60_i32_r0 : BitVec 32 := 60#32
  let v5136_r0 : BitVec 32 := Scalar.addi v4535_r0 c60_i32_r0
  let v5137_r0 : Index := Scalar.indexCast v5136_r0
  ![v5137_r0.toNat]
def k0_off242 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off243 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2220_r0 : BitVec 32 := 0#32
  let c0_i32_2221_r0 : BitVec 32 := 0#32
  ![v4534_r0.toNat, 0, 0]
def k0_off244 (v5138_r0 : BitVec 32) : Fin 2 → Nat :=
  let c2_i32_2219_r0 : BitVec 32 := 2#32
  let v5139_r0 : BitVec 32 := Scalar.shrsi v5138_r0 c2_i32_2219_r0
  let c0_i32_2224_r0 : BitVec 32 := 0#32
  ![v5139_r0.toNat, 0]

def k0_chk61 (v5138_r0 : BitVec 32) : Prop :=
  (∀ a, (k0_off244 v5138_r0) a + S1x2560.size a ≤ S4000x2560.size a)
theorem k0_off244_inb : ∀ (v5138_r0 : BitVec 32) (k0_hw61 : k0_chk61 v5138_r0), ∀ a, (k0_off244 v5138_r0) a + S1x2560.size a ≤ S4000x2560.size a := fun v5138_r0 k0_hw61 => k0_hw61

def k0_off245 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c61_i32_r0 : BitVec 32 := 61#32
  let v5146_r0 : BitVec 32 := Scalar.addi v4535_r0 c61_i32_r0
  let v5147_r0 : Index := Scalar.indexCast v5146_r0
  ![v5147_r0.toNat]
def k0_off246 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off247 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2226_r0 : BitVec 32 := 0#32
  let c0_i32_2227_r0 : BitVec 32 := 0#32
  ![v4534_r0.toNat, 0, 0]
def k0_off248 (v5148_r0 : BitVec 32) : Fin 2 → Nat :=
  let c2_i32_2225_r0 : BitVec 32 := 2#32
  let v5149_r0 : BitVec 32 := Scalar.shrsi v5148_r0 c2_i32_2225_r0
  let c0_i32_2230_r0 : BitVec 32 := 0#32
  ![v5149_r0.toNat, 0]

def k0_chk62 (v5148_r0 : BitVec 32) : Prop :=
  (∀ a, (k0_off248 v5148_r0) a + S1x2560.size a ≤ S4000x2560.size a)
theorem k0_off248_inb : ∀ (v5148_r0 : BitVec 32) (k0_hw62 : k0_chk62 v5148_r0), ∀ a, (k0_off248 v5148_r0) a + S1x2560.size a ≤ S4000x2560.size a := fun v5148_r0 k0_hw62 => k0_hw62

def k0_off249 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c62_i32_r0 : BitVec 32 := 62#32
  let v5156_r0 : BitVec 32 := Scalar.addi v4535_r0 c62_i32_r0
  let v5157_r0 : Index := Scalar.indexCast v5156_r0
  ![v5157_r0.toNat]
def k0_off250 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off251 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2232_r0 : BitVec 32 := 0#32
  let c0_i32_2233_r0 : BitVec 32 := 0#32
  ![v4534_r0.toNat, 0, 0]
def k0_off252 (v5158_r0 : BitVec 32) : Fin 2 → Nat :=
  let c2_i32_2231_r0 : BitVec 32 := 2#32
  let v5159_r0 : BitVec 32 := Scalar.shrsi v5158_r0 c2_i32_2231_r0
  let c0_i32_2236_r0 : BitVec 32 := 0#32
  ![v5159_r0.toNat, 0]

def k0_chk63 (v5158_r0 : BitVec 32) : Prop :=
  (∀ a, (k0_off252 v5158_r0) a + S1x2560.size a ≤ S4000x2560.size a)
theorem k0_off252_inb : ∀ (v5158_r0 : BitVec 32) (k0_hw63 : k0_chk63 v5158_r0), ∀ a, (k0_off252 v5158_r0) a + S1x2560.size a ≤ S4000x2560.size a := fun v5158_r0 k0_hw63 => k0_hw63

def k0_off253 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c64_i32_1840_r0 : BitVec 32 := 64#32
  let v4535_r0 : BitVec 32 := Scalar.muli v4533_r0 c64_i32_1840_r0
  let c63_i32_2237_r0 : BitVec 32 := 63#32
  let v5166_r0 : BitVec 32 := Scalar.addi v4535_r0 c63_i32_2237_r0
  let v5167_r0 : Index := Scalar.indexCast v5166_r0
  ![v5167_r0.toNat]
def k0_off254 (k0_t1 : Fin k0_t1_loop.trips) : Fin 1 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off255 (k0_t1 : Fin k0_t1_loop.trips) : Fin 3 → Nat :=
  let c0_i32_1839_r0 : BitVec 32 := 0#32
  let c0_i32_112_r0 : BitVec 32 := 0#32
  let c1_i32_113_r0 : BitVec 32 := 1#32
  let arg18_r0 : BitVec 32 := Scf.iv c0_i32_112_r0 c1_i32_113_r0 k0_t1
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_2239_r0 : BitVec 32 := 0#32
  let c0_i32_2240_r0 : BitVec 32 := 0#32
  ![v4534_r0.toNat, 0, 0]
def k0_off256 (v5168_r0 : BitVec 32) : Fin 2 → Nat :=
  let c2_i32_2238_r0 : BitVec 32 := 2#32
  let v5169_r0 : BitVec 32 := Scalar.shrsi v5168_r0 c2_i32_2238_r0
  let c0_i32_2243_r0 : BitVec 32 := 0#32
  ![v5169_r0.toNat, 0]

def k0_chk64 (v5168_r0 : BitVec 32) : Prop :=
  (∀ a, (k0_off256 v5168_r0) a + S1x2560.size a ≤ S4000x2560.size a)
theorem k0_off256_inb : ∀ (v5168_r0 : BitVec 32) (k0_hw64 : k0_chk64 v5168_r0), ∀ a, (k0_off256 v5168_r0) a + S1x2560.size a ≤ S4000x2560.size a := fun v5168_r0 k0_hw64 => k0_hw64

@[reducible] def k0_t2_loop : Scf.Loop 32 :=
  let c0_i32_149_r0 : BitVec 32 := 0#32
  let c25_i32_r0 : BitVec 32 := 25#32
  let v272_r0 : BitVec 32 := Scalar.addi c0_i32_149_r0 c25_i32_r0
  let c1_i32_150_r0 : BitVec 32 := 1#32
  ⟨c0_i32_149_r0, v272_r0, c1_i32_150_r0⟩
def k0_mult1 (k0_t2 : Fin k0_t2_loop.trips) : BitVec 32 :=
  let c0_i32_1839_r0 : BitVec 32 := 0#32
  let c0_i32_149_r0 : BitVec 32 := 0#32
  let c1_i32_150_r0 : BitVec 32 := 1#32
  let arg18_r0 : BitVec 32 := Scf.iv c0_i32_149_r0 c1_i32_150_r0 k0_t2
  let c1_i32_1838_r0 : BitVec 32 := 1#32
  let v4532_r0 : BitVec 32 := Scalar.muli arg18_r0 c1_i32_1838_r0
  let v4533_r0 : BitVec 32 := Scalar.addi c0_i32_1839_r0 v4532_r0
  let c5_i32_r0 : BitVec 32 := 5#32
  let v4534_r0 : BitVec 32 := Scalar.muli v4533_r0 c5_i32_r0
  let c0_i32_1840_r0 : BitVec 32 := 0#32
  let v4535_r0 : BitVec 32 := Scalar.addi v4534_r0 c0_i32_1840_r0
  let c128_i32_1841_r0 : BitVec 32 := 128#32
  let v4536_r0 : BitVec 32 := Scalar.muli v4535_r0 c128_i32_1841_r0
  v4536_r0
def k0_off257 (k0_t2 : Fin k0_t2_loop.trips) (c0_i32_1840_r0 : BitVec 32) : Fin 2 → Nat :=
  let c0_1842_r0 : Index := 0#32
  let c0_i32_1839_r0 : BitVec 32 := 0#32
  let c0_i32_149_r0 : BitVec 32 := 0#32
  let c1_i32_150_r0 : BitVec 32 := 1#32
  let arg18_r0 : BitVec 32 := Scf.iv c0_i32_149_r0 c1_i32_150_r0 k0_t2
  let c1_i32_1838_r0 : BitVec 32 := 1#32
  let v4532_r0 : BitVec 32 := Scalar.muli arg18_r0 c1_i32_1838_r0
  let v4533_r0 : BitVec 32 := Scalar.addi c0_i32_1839_r0 v4532_r0
  let c5_i32_r0 : BitVec 32 := 5#32
  let v4534_r0 : BitVec 32 := Scalar.muli v4533_r0 c5_i32_r0
  let v4535_r0 : BitVec 32 := Scalar.addi v4534_r0 c0_i32_1840_r0
  let c128_i32_1841_r0 : BitVec 32 := 128#32
  let v4536_r0 : BitVec 32 := Scalar.muli v4535_r0 c128_i32_1841_r0
  let v4537_r0 : BitVec 32 := v4536_r0
  let v4538_r0 : Index := Scalar.indexCast v4537_r0
  ![0, v4538_r0.toNat]
def k0_off258 (k0_t2 : Fin k0_t2_loop.trips) (c0_i32_1840_r0 : BitVec 32) : Fin 2 → Nat :=
  let c0_1843_r0 : Index := 0#32
  let c0_i32_1839_r0 : BitVec 32 := 0#32
  let c0_i32_149_r0 : BitVec 32 := 0#32
  let c1_i32_150_r0 : BitVec 32 := 1#32
  let arg18_r0 : BitVec 32 := Scf.iv c0_i32_149_r0 c1_i32_150_r0 k0_t2
  let c1_i32_1838_r0 : BitVec 32 := 1#32
  let v4532_r0 : BitVec 32 := Scalar.muli arg18_r0 c1_i32_1838_r0
  let v4533_r0 : BitVec 32 := Scalar.addi c0_i32_1839_r0 v4532_r0
  let c5_i32_r0 : BitVec 32 := 5#32
  let v4534_r0 : BitVec 32 := Scalar.muli v4533_r0 c5_i32_r0
  let v4535_r0 : BitVec 32 := Scalar.addi v4534_r0 c0_i32_1840_r0
  let c128_i32_1841_r0 : BitVec 32 := 128#32
  let v4536_r0 : BitVec 32 := Scalar.muli v4535_r0 c128_i32_1841_r0
  let v4537_r0 : BitVec 32 := v4536_r0
  let v4541_r0 : Index := Scalar.indexCast v4537_r0
  ![0, v4541_r0.toNat]
def k0_off259 (k0_t2 : Fin k0_t2_loop.trips) (c0_i32_1840_r0 : BitVec 32) : Fin 2 → Nat :=
  let c0_i32_1839_r0 : BitVec 32 := 0#32
  let c0_i32_149_r0 : BitVec 32 := 0#32
  let c1_i32_150_r0 : BitVec 32 := 1#32
  let arg18_r0 : BitVec 32 := Scf.iv c0_i32_149_r0 c1_i32_150_r0 k0_t2
  let c1_i32_1838_r0 : BitVec 32 := 1#32
  let v4532_r0 : BitVec 32 := Scalar.muli arg18_r0 c1_i32_1838_r0
  let v4533_r0 : BitVec 32 := Scalar.addi c0_i32_1839_r0 v4532_r0
  let c5_i32_r0 : BitVec 32 := 5#32
  let v4534_r0 : BitVec 32 := Scalar.muli v4533_r0 c5_i32_r0
  let v4535_r0 : BitVec 32 := Scalar.addi v4534_r0 c0_i32_1840_r0
  let c128_i32_1841_r0 : BitVec 32 := 128#32
  let v4536_r0 : BitVec 32 := Scalar.muli v4535_r0 c128_i32_1841_r0
  let v4537_r0 : BitVec 32 := v4536_r0
  let v4584_r0 : Index := Scalar.indexCast v4537_r0
  let c0_1851_r0 : Index := 0#32
  ![v4584_r0.toNat, 0]
def k0_mult2 (k0_t2 : Fin k0_t2_loop.trips) : BitVec 32 :=
  let c0_i32_1839_r0 : BitVec 32 := 0#32
  let c0_i32_149_r0 : BitVec 32 := 0#32
  let c1_i32_150_r0 : BitVec 32 := 1#32
  let arg18_r0 : BitVec 32 := Scf.iv c0_i32_149_r0 c1_i32_150_r0 k0_t2
  let c1_i32_1838_r0 : BitVec 32 := 1#32
  let v4532_r0 : BitVec 32 := Scalar.muli arg18_r0 c1_i32_1838_r0
  let v4533_r0 : BitVec 32 := Scalar.addi c0_i32_1839_r0 v4532_r0
  let c5_i32_1852_r0 : BitVec 32 := 5#32
  let v4588_r0 : BitVec 32 := Scalar.muli v4533_r0 c5_i32_1852_r0
  let c1_i32_1853_r0 : BitVec 32 := 1#32
  let v4589_r0 : BitVec 32 := Scalar.addi v4588_r0 c1_i32_1853_r0
  let c128_i32_1854_r0 : BitVec 32 := 128#32
  let v4590_r0 : BitVec 32 := Scalar.muli v4589_r0 c128_i32_1854_r0
  v4590_r0
def k0_mult3 (k0_t2 : Fin k0_t2_loop.trips) : BitVec 32 :=
  let c0_i32_1839_r0 : BitVec 32 := 0#32
  let c0_i32_149_r0 : BitVec 32 := 0#32
  let c1_i32_150_r0 : BitVec 32 := 1#32
  let arg18_r0 : BitVec 32 := Scf.iv c0_i32_149_r0 c1_i32_150_r0 k0_t2
  let c1_i32_1838_r0 : BitVec 32 := 1#32
  let v4532_r0 : BitVec 32 := Scalar.muli arg18_r0 c1_i32_1838_r0
  let v4533_r0 : BitVec 32 := Scalar.addi c0_i32_1839_r0 v4532_r0
  let c5_i32_1874_r0 : BitVec 32 := 5#32
  let v4642_r0 : BitVec 32 := Scalar.muli v4533_r0 c5_i32_1874_r0
  let c2_i32_1875_r0 : BitVec 32 := 2#32
  let v4643_r0 : BitVec 32 := Scalar.addi v4642_r0 c2_i32_1875_r0
  let c128_i32_1876_r0 : BitVec 32 := 128#32
  let v4644_r0 : BitVec 32 := Scalar.muli v4643_r0 c128_i32_1876_r0
  v4644_r0
def k0_mult4 (k0_t2 : Fin k0_t2_loop.trips) : BitVec 32 :=
  let c0_i32_1839_r0 : BitVec 32 := 0#32
  let c0_i32_149_r0 : BitVec 32 := 0#32
  let c1_i32_150_r0 : BitVec 32 := 1#32
  let arg18_r0 : BitVec 32 := Scf.iv c0_i32_149_r0 c1_i32_150_r0 k0_t2
  let c1_i32_1838_r0 : BitVec 32 := 1#32
  let v4532_r0 : BitVec 32 := Scalar.muli arg18_r0 c1_i32_1838_r0
  let v4533_r0 : BitVec 32 := Scalar.addi c0_i32_1839_r0 v4532_r0
  let c5_i32_1896_r0 : BitVec 32 := 5#32
  let v4696_r0 : BitVec 32 := Scalar.muli v4533_r0 c5_i32_1896_r0
  let c3_i32_1897_r0 : BitVec 32 := 3#32
  let v4697_r0 : BitVec 32 := Scalar.addi v4696_r0 c3_i32_1897_r0
  let c128_i32_1898_r0 : BitVec 32 := 128#32
  let v4698_r0 : BitVec 32 := Scalar.muli v4697_r0 c128_i32_1898_r0
  v4698_r0
def k0_mult5 (k0_t2 : Fin k0_t2_loop.trips) : BitVec 32 :=
  let c0_i32_1839_r0 : BitVec 32 := 0#32
  let c0_i32_149_r0 : BitVec 32 := 0#32
  let c1_i32_150_r0 : BitVec 32 := 1#32
  let arg18_r0 : BitVec 32 := Scf.iv c0_i32_149_r0 c1_i32_150_r0 k0_t2
  let c1_i32_1838_r0 : BitVec 32 := 1#32
  let v4532_r0 : BitVec 32 := Scalar.muli arg18_r0 c1_i32_1838_r0
  let v4533_r0 : BitVec 32 := Scalar.addi c0_i32_1839_r0 v4532_r0
  let c5_i32_1918_r0 : BitVec 32 := 5#32
  let v4750_r0 : BitVec 32 := Scalar.muli v4533_r0 c5_i32_1918_r0
  let c4_i32_1919_r0 : BitVec 32 := 4#32
  let v4751_r0 : BitVec 32 := Scalar.addi v4750_r0 c4_i32_1919_r0
  let c128_i32_1920_r0 : BitVec 32 := 128#32
  let v4752_r0 : BitVec 32 := Scalar.muli v4751_r0 c128_i32_1920_r0
  v4752_r0
def k0_off260 (v274_r0 : BitVec 32) : Fin 2 → Nat :=
  let v275_r0 : Index := Scalar.indexCast v274_r0
  let c0_153_r0 : Index := 0#32
  ![v275_r0.toNat, 0]

def k0_chk65 (v274_r0 : BitVec 32) : Prop :=
  (∀ a, (k0_off260 v274_r0) a + S1x128.size a ≤ S16000x128.size a)
theorem k0_off260_inb : ∀ (v274_r0 : BitVec 32) (k0_hw65 : k0_chk65 v274_r0), ∀ a, (k0_off260 v274_r0) a + S1x128.size a ≤ S16000x128.size a := fun v274_r0 k0_hw65 => k0_hw65

def k0_off261 (v280_r0 : BitVec 32) : Fin 2 → Nat :=
  let v281_r0 : Index := Scalar.indexCast v280_r0
  let c0_156_r0 : Index := 0#32
  ![v281_r0.toNat, 0]

def k0_chk66 (v280_r0 : BitVec 32) : Prop :=
  (∀ a, (k0_off261 v280_r0) a + S1x128.size a ≤ S16000x128.size a)
theorem k0_off261_inb : ∀ (v280_r0 : BitVec 32) (k0_hw66 : k0_chk66 v280_r0), ∀ a, (k0_off261 v280_r0) a + S1x128.size a ≤ S16000x128.size a := fun v280_r0 k0_hw66 => k0_hw66

def k0_off262 (v286_r0 : BitVec 32) : Fin 2 → Nat :=
  let v287_r0 : Index := Scalar.indexCast v286_r0
  let c0_159_r0 : Index := 0#32
  ![v287_r0.toNat, 0]

def k0_chk67 (v286_r0 : BitVec 32) : Prop :=
  (∀ a, (k0_off262 v286_r0) a + S1x128.size a ≤ S16000x128.size a)
theorem k0_off262_inb : ∀ (v286_r0 : BitVec 32) (k0_hw67 : k0_chk67 v286_r0), ∀ a, (k0_off262 v286_r0) a + S1x128.size a ≤ S16000x128.size a := fun v286_r0 k0_hw67 => k0_hw67

def k0_off263 (v292_r0 : BitVec 32) : Fin 2 → Nat :=
  let v293_r0 : Index := Scalar.indexCast v292_r0
  let c0_162_r0 : Index := 0#32
  ![v293_r0.toNat, 0]

def k0_chk68 (v292_r0 : BitVec 32) : Prop :=
  (∀ a, (k0_off263 v292_r0) a + S1x128.size a ≤ S16000x128.size a)
theorem k0_off263_inb : ∀ (v292_r0 : BitVec 32) (k0_hw68 : k0_chk68 v292_r0), ∀ a, (k0_off263 v292_r0) a + S1x128.size a ≤ S16000x128.size a := fun v292_r0 k0_hw68 => k0_hw68

def k0_off264 (v298_r0 : BitVec 32) : Fin 2 → Nat :=
  let v299_r0 : Index := Scalar.indexCast v298_r0
  let c0_165_r0 : Index := 0#32
  ![v299_r0.toNat, 0]

def k0_chk69 (v298_r0 : BitVec 32) : Prop :=
  (∀ a, (k0_off264 v298_r0) a + S1x128.size a ≤ S16000x128.size a)
theorem k0_off264_inb : ∀ (v298_r0 : BitVec 32) (k0_hw69 : k0_chk69 v298_r0), ∀ a, (k0_off264 v298_r0) a + S1x128.size a ≤ S16000x128.size a := fun v298_r0 k0_hw69 => k0_hw69

def k0_off265 (v304_r0 : BitVec 32) : Fin 2 → Nat :=
  let v305_r0 : Index := Scalar.indexCast v304_r0
  let c0_168_r0 : Index := 0#32
  ![v305_r0.toNat, 0]

def k0_chk70 (v304_r0 : BitVec 32) : Prop :=
  (∀ a, (k0_off265 v304_r0) a + S1x128.size a ≤ S16000x128.size a)
theorem k0_off265_inb : ∀ (v304_r0 : BitVec 32) (k0_hw70 : k0_chk70 v304_r0), ∀ a, (k0_off265 v304_r0) a + S1x128.size a ≤ S16000x128.size a := fun v304_r0 k0_hw70 => k0_hw70

def k0_off266 (v310_r0 : BitVec 32) : Fin 2 → Nat :=
  let v311_r0 : Index := Scalar.indexCast v310_r0
  let c0_171_r0 : Index := 0#32
  ![v311_r0.toNat, 0]

def k0_chk71 (v310_r0 : BitVec 32) : Prop :=
  (∀ a, (k0_off266 v310_r0) a + S1x128.size a ≤ S16000x128.size a)
theorem k0_off266_inb : ∀ (v310_r0 : BitVec 32) (k0_hw71 : k0_chk71 v310_r0), ∀ a, (k0_off266 v310_r0) a + S1x128.size a ≤ S16000x128.size a := fun v310_r0 k0_hw71 => k0_hw71

def k0_off267 (v316_r0 : BitVec 32) : Fin 2 → Nat :=
  let v317_r0 : Index := Scalar.indexCast v316_r0
  let c0_174_r0 : Index := 0#32
  ![v317_r0.toNat, 0]

def k0_chk72 (v316_r0 : BitVec 32) : Prop :=
  (∀ a, (k0_off267 v316_r0) a + S1x128.size a ≤ S16000x128.size a)
theorem k0_off267_inb : ∀ (v316_r0 : BitVec 32) (k0_hw72 : k0_chk72 v316_r0), ∀ a, (k0_off267 v316_r0) a + S1x128.size a ≤ S16000x128.size a := fun v316_r0 k0_hw72 => k0_hw72

def k0_off268 (v322_r0 : BitVec 32) : Fin 2 → Nat :=
  let v323_r0 : Index := Scalar.indexCast v322_r0
  let c0_177_r0 : Index := 0#32
  ![v323_r0.toNat, 0]

def k0_chk73 (v322_r0 : BitVec 32) : Prop :=
  (∀ a, (k0_off268 v322_r0) a + S1x128.size a ≤ S16000x128.size a)
theorem k0_off268_inb : ∀ (v322_r0 : BitVec 32) (k0_hw73 : k0_chk73 v322_r0), ∀ a, (k0_off268 v322_r0) a + S1x128.size a ≤ S16000x128.size a := fun v322_r0 k0_hw73 => k0_hw73

def k0_off269 (v328_r0 : BitVec 32) : Fin 2 → Nat :=
  let v329_r0 : Index := Scalar.indexCast v328_r0
  let c0_180_r0 : Index := 0#32
  ![v329_r0.toNat, 0]

def k0_chk74 (v328_r0 : BitVec 32) : Prop :=
  (∀ a, (k0_off269 v328_r0) a + S1x128.size a ≤ S16000x128.size a)
theorem k0_off269_inb : ∀ (v328_r0 : BitVec 32) (k0_hw74 : k0_chk74 v328_r0), ∀ a, (k0_off269 v328_r0) a + S1x128.size a ≤ S16000x128.size a := fun v328_r0 k0_hw74 => k0_hw74

def k0_off270 (v334_r0 : BitVec 32) : Fin 2 → Nat :=
  let v335_r0 : Index := Scalar.indexCast v334_r0
  let c0_183_r0 : Index := 0#32
  ![v335_r0.toNat, 0]

def k0_chk75 (v334_r0 : BitVec 32) : Prop :=
  (∀ a, (k0_off270 v334_r0) a + S1x128.size a ≤ S16000x128.size a)
theorem k0_off270_inb : ∀ (v334_r0 : BitVec 32) (k0_hw75 : k0_chk75 v334_r0), ∀ a, (k0_off270 v334_r0) a + S1x128.size a ≤ S16000x128.size a := fun v334_r0 k0_hw75 => k0_hw75

def k0_off271 (v340_r0 : BitVec 32) : Fin 2 → Nat :=
  let v341_r0 : Index := Scalar.indexCast v340_r0
  let c0_186_r0 : Index := 0#32
  ![v341_r0.toNat, 0]

def k0_chk76 (v340_r0 : BitVec 32) : Prop :=
  (∀ a, (k0_off271 v340_r0) a + S1x128.size a ≤ S16000x128.size a)
theorem k0_off271_inb : ∀ (v340_r0 : BitVec 32) (k0_hw76 : k0_chk76 v340_r0), ∀ a, (k0_off271 v340_r0) a + S1x128.size a ≤ S16000x128.size a := fun v340_r0 k0_hw76 => k0_hw76

def k0_off272 (v346_r0 : BitVec 32) : Fin 2 → Nat :=
  let v347_r0 : Index := Scalar.indexCast v346_r0
  let c0_189_r0 : Index := 0#32
  ![v347_r0.toNat, 0]

def k0_chk77 (v346_r0 : BitVec 32) : Prop :=
  (∀ a, (k0_off272 v346_r0) a + S1x128.size a ≤ S16000x128.size a)
theorem k0_off272_inb : ∀ (v346_r0 : BitVec 32) (k0_hw77 : k0_chk77 v346_r0), ∀ a, (k0_off272 v346_r0) a + S1x128.size a ≤ S16000x128.size a := fun v346_r0 k0_hw77 => k0_hw77

def k0_off273 (v352_r0 : BitVec 32) : Fin 2 → Nat :=
  let v353_r0 : Index := Scalar.indexCast v352_r0
  let c0_192_r0 : Index := 0#32
  ![v353_r0.toNat, 0]

def k0_chk78 (v352_r0 : BitVec 32) : Prop :=
  (∀ a, (k0_off273 v352_r0) a + S1x128.size a ≤ S16000x128.size a)
theorem k0_off273_inb : ∀ (v352_r0 : BitVec 32) (k0_hw78 : k0_chk78 v352_r0), ∀ a, (k0_off273 v352_r0) a + S1x128.size a ≤ S16000x128.size a := fun v352_r0 k0_hw78 => k0_hw78

def k0_off274 (v358_r0 : BitVec 32) : Fin 2 → Nat :=
  let v359_r0 : Index := Scalar.indexCast v358_r0
  let c0_195_r0 : Index := 0#32
  ![v359_r0.toNat, 0]

def k0_chk79 (v358_r0 : BitVec 32) : Prop :=
  (∀ a, (k0_off274 v358_r0) a + S1x128.size a ≤ S16000x128.size a)
theorem k0_off274_inb : ∀ (v358_r0 : BitVec 32) (k0_hw79 : k0_chk79 v358_r0), ∀ a, (k0_off274 v358_r0) a + S1x128.size a ≤ S16000x128.size a := fun v358_r0 k0_hw79 => k0_hw79

def k0_off275 (v364_r0 : BitVec 32) : Fin 2 → Nat :=
  let v365_r0 : Index := Scalar.indexCast v364_r0
  let c0_198_r0 : Index := 0#32
  ![v365_r0.toNat, 0]

def k0_chk80 (v364_r0 : BitVec 32) : Prop :=
  (∀ a, (k0_off275 v364_r0) a + S1x128.size a ≤ S16000x128.size a)
theorem k0_off275_inb : ∀ (v364_r0 : BitVec 32) (k0_hw80 : k0_chk80 v364_r0), ∀ a, (k0_off275 v364_r0) a + S1x128.size a ≤ S16000x128.size a := fun v364_r0 k0_hw80 => k0_hw80

def k0_off276 (v370_r0 : BitVec 32) : Fin 2 → Nat :=
  let v371_r0 : Index := Scalar.indexCast v370_r0
  let c0_201_r0 : Index := 0#32
  ![v371_r0.toNat, 0]

def k0_chk81 (v370_r0 : BitVec 32) : Prop :=
  (∀ a, (k0_off276 v370_r0) a + S1x128.size a ≤ S16000x128.size a)
theorem k0_off276_inb : ∀ (v370_r0 : BitVec 32) (k0_hw81 : k0_chk81 v370_r0), ∀ a, (k0_off276 v370_r0) a + S1x128.size a ≤ S16000x128.size a := fun v370_r0 k0_hw81 => k0_hw81

def k0_off277 (v376_r0 : BitVec 32) : Fin 2 → Nat :=
  let v377_r0 : Index := Scalar.indexCast v376_r0
  let c0_204_r0 : Index := 0#32
  ![v377_r0.toNat, 0]

def k0_chk82 (v376_r0 : BitVec 32) : Prop :=
  (∀ a, (k0_off277 v376_r0) a + S1x128.size a ≤ S16000x128.size a)
theorem k0_off277_inb : ∀ (v376_r0 : BitVec 32) (k0_hw82 : k0_chk82 v376_r0), ∀ a, (k0_off277 v376_r0) a + S1x128.size a ≤ S16000x128.size a := fun v376_r0 k0_hw82 => k0_hw82

def k0_off278 (v382_r0 : BitVec 32) : Fin 2 → Nat :=
  let v383_r0 : Index := Scalar.indexCast v382_r0
  let c0_207_r0 : Index := 0#32
  ![v383_r0.toNat, 0]

def k0_chk83 (v382_r0 : BitVec 32) : Prop :=
  (∀ a, (k0_off278 v382_r0) a + S1x128.size a ≤ S16000x128.size a)
theorem k0_off278_inb : ∀ (v382_r0 : BitVec 32) (k0_hw83 : k0_chk83 v382_r0), ∀ a, (k0_off278 v382_r0) a + S1x128.size a ≤ S16000x128.size a := fun v382_r0 k0_hw83 => k0_hw83

def k0_off279 (v388_r0 : BitVec 32) : Fin 2 → Nat :=
  let v389_r0 : Index := Scalar.indexCast v388_r0
  let c0_210_r0 : Index := 0#32
  ![v389_r0.toNat, 0]

def k0_chk84 (v388_r0 : BitVec 32) : Prop :=
  (∀ a, (k0_off279 v388_r0) a + S1x128.size a ≤ S16000x128.size a)
theorem k0_off279_inb : ∀ (v388_r0 : BitVec 32) (k0_hw84 : k0_chk84 v388_r0), ∀ a, (k0_off279 v388_r0) a + S1x128.size a ≤ S16000x128.size a := fun v388_r0 k0_hw84 => k0_hw84

def k0_off280 (v394_r0 : BitVec 32) : Fin 2 → Nat :=
  let v395_r0 : Index := Scalar.indexCast v394_r0
  let c0_213_r0 : Index := 0#32
  ![v395_r0.toNat, 0]

def k0_chk85 (v394_r0 : BitVec 32) : Prop :=
  (∀ a, (k0_off280 v394_r0) a + S1x128.size a ≤ S16000x128.size a)
theorem k0_off280_inb : ∀ (v394_r0 : BitVec 32) (k0_hw85 : k0_chk85 v394_r0), ∀ a, (k0_off280 v394_r0) a + S1x128.size a ≤ S16000x128.size a := fun v394_r0 k0_hw85 => k0_hw85

def k0_off281 (v400_r0 : BitVec 32) : Fin 2 → Nat :=
  let v401_r0 : Index := Scalar.indexCast v400_r0
  let c0_216_r0 : Index := 0#32
  ![v401_r0.toNat, 0]

def k0_chk86 (v400_r0 : BitVec 32) : Prop :=
  (∀ a, (k0_off281 v400_r0) a + S1x128.size a ≤ S16000x128.size a)
theorem k0_off281_inb : ∀ (v400_r0 : BitVec 32) (k0_hw86 : k0_chk86 v400_r0), ∀ a, (k0_off281 v400_r0) a + S1x128.size a ≤ S16000x128.size a := fun v400_r0 k0_hw86 => k0_hw86

def k0_off282 (v406_r0 : BitVec 32) : Fin 2 → Nat :=
  let v407_r0 : Index := Scalar.indexCast v406_r0
  let c0_219_r0 : Index := 0#32
  ![v407_r0.toNat, 0]

def k0_chk87 (v406_r0 : BitVec 32) : Prop :=
  (∀ a, (k0_off282 v406_r0) a + S1x128.size a ≤ S16000x128.size a)
theorem k0_off282_inb : ∀ (v406_r0 : BitVec 32) (k0_hw87 : k0_chk87 v406_r0), ∀ a, (k0_off282 v406_r0) a + S1x128.size a ≤ S16000x128.size a := fun v406_r0 k0_hw87 => k0_hw87

def k0_off283 (v412_r0 : BitVec 32) : Fin 2 → Nat :=
  let v413_r0 : Index := Scalar.indexCast v412_r0
  let c0_222_r0 : Index := 0#32
  ![v413_r0.toNat, 0]

def k0_chk88 (v412_r0 : BitVec 32) : Prop :=
  (∀ a, (k0_off283 v412_r0) a + S1x128.size a ≤ S16000x128.size a)
theorem k0_off283_inb : ∀ (v412_r0 : BitVec 32) (k0_hw88 : k0_chk88 v412_r0), ∀ a, (k0_off283 v412_r0) a + S1x128.size a ≤ S16000x128.size a := fun v412_r0 k0_hw88 => k0_hw88

def k0_off284 (v418_r0 : BitVec 32) : Fin 2 → Nat :=
  let v419_r0 : Index := Scalar.indexCast v418_r0
  let c0_225_r0 : Index := 0#32
  ![v419_r0.toNat, 0]

def k0_chk89 (v418_r0 : BitVec 32) : Prop :=
  (∀ a, (k0_off284 v418_r0) a + S1x128.size a ≤ S16000x128.size a)
theorem k0_off284_inb : ∀ (v418_r0 : BitVec 32) (k0_hw89 : k0_chk89 v418_r0), ∀ a, (k0_off284 v418_r0) a + S1x128.size a ≤ S16000x128.size a := fun v418_r0 k0_hw89 => k0_hw89

def k0_off285 (v424_r0 : BitVec 32) : Fin 2 → Nat :=
  let v425_r0 : Index := Scalar.indexCast v424_r0
  let c0_228_r0 : Index := 0#32
  ![v425_r0.toNat, 0]

def k0_chk90 (v424_r0 : BitVec 32) : Prop :=
  (∀ a, (k0_off285 v424_r0) a + S1x128.size a ≤ S16000x128.size a)
theorem k0_off285_inb : ∀ (v424_r0 : BitVec 32) (k0_hw90 : k0_chk90 v424_r0), ∀ a, (k0_off285 v424_r0) a + S1x128.size a ≤ S16000x128.size a := fun v424_r0 k0_hw90 => k0_hw90

def k0_off286 (v430_r0 : BitVec 32) : Fin 2 → Nat :=
  let v431_r0 : Index := Scalar.indexCast v430_r0
  let c0_231_r0 : Index := 0#32
  ![v431_r0.toNat, 0]

def k0_chk91 (v430_r0 : BitVec 32) : Prop :=
  (∀ a, (k0_off286 v430_r0) a + S1x128.size a ≤ S16000x128.size a)
theorem k0_off286_inb : ∀ (v430_r0 : BitVec 32) (k0_hw91 : k0_chk91 v430_r0), ∀ a, (k0_off286 v430_r0) a + S1x128.size a ≤ S16000x128.size a := fun v430_r0 k0_hw91 => k0_hw91

def k0_off287 (v436_r0 : BitVec 32) : Fin 2 → Nat :=
  let v437_r0 : Index := Scalar.indexCast v436_r0
  let c0_234_r0 : Index := 0#32
  ![v437_r0.toNat, 0]

def k0_chk92 (v436_r0 : BitVec 32) : Prop :=
  (∀ a, (k0_off287 v436_r0) a + S1x128.size a ≤ S16000x128.size a)
theorem k0_off287_inb : ∀ (v436_r0 : BitVec 32) (k0_hw92 : k0_chk92 v436_r0), ∀ a, (k0_off287 v436_r0) a + S1x128.size a ≤ S16000x128.size a := fun v436_r0 k0_hw92 => k0_hw92

def k0_off288 (v442_r0 : BitVec 32) : Fin 2 → Nat :=
  let v443_r0 : Index := Scalar.indexCast v442_r0
  let c0_237_r0 : Index := 0#32
  ![v443_r0.toNat, 0]

def k0_chk93 (v442_r0 : BitVec 32) : Prop :=
  (∀ a, (k0_off288 v442_r0) a + S1x128.size a ≤ S16000x128.size a)
theorem k0_off288_inb : ∀ (v442_r0 : BitVec 32) (k0_hw93 : k0_chk93 v442_r0), ∀ a, (k0_off288 v442_r0) a + S1x128.size a ≤ S16000x128.size a := fun v442_r0 k0_hw93 => k0_hw93

def k0_off289 (v448_r0 : BitVec 32) : Fin 2 → Nat :=
  let v449_r0 : Index := Scalar.indexCast v448_r0
  let c0_240_r0 : Index := 0#32
  ![v449_r0.toNat, 0]

def k0_chk94 (v448_r0 : BitVec 32) : Prop :=
  (∀ a, (k0_off289 v448_r0) a + S1x128.size a ≤ S16000x128.size a)
theorem k0_off289_inb : ∀ (v448_r0 : BitVec 32) (k0_hw94 : k0_chk94 v448_r0), ∀ a, (k0_off289 v448_r0) a + S1x128.size a ≤ S16000x128.size a := fun v448_r0 k0_hw94 => k0_hw94

def k0_off290 (v454_r0 : BitVec 32) : Fin 2 → Nat :=
  let v455_r0 : Index := Scalar.indexCast v454_r0
  let c0_243_r0 : Index := 0#32
  ![v455_r0.toNat, 0]

def k0_chk95 (v454_r0 : BitVec 32) : Prop :=
  (∀ a, (k0_off290 v454_r0) a + S1x128.size a ≤ S16000x128.size a)
theorem k0_off290_inb : ∀ (v454_r0 : BitVec 32) (k0_hw95 : k0_chk95 v454_r0), ∀ a, (k0_off290 v454_r0) a + S1x128.size a ≤ S16000x128.size a := fun v454_r0 k0_hw95 => k0_hw95

def k0_off291 (v460_r0 : BitVec 32) : Fin 2 → Nat :=
  let v461_r0 : Index := Scalar.indexCast v460_r0
  let c0_246_r0 : Index := 0#32
  ![v461_r0.toNat, 0]

def k0_chk96 (v460_r0 : BitVec 32) : Prop :=
  (∀ a, (k0_off291 v460_r0) a + S1x128.size a ≤ S16000x128.size a)
theorem k0_off291_inb : ∀ (v460_r0 : BitVec 32) (k0_hw96 : k0_chk96 v460_r0), ∀ a, (k0_off291 v460_r0) a + S1x128.size a ≤ S16000x128.size a := fun v460_r0 k0_hw96 => k0_hw96

def k0_off292 (v466_r0 : BitVec 32) : Fin 2 → Nat :=
  let v467_r0 : Index := Scalar.indexCast v466_r0
  let c0_249_r0 : Index := 0#32
  ![v467_r0.toNat, 0]

def k0_chk97 (v466_r0 : BitVec 32) : Prop :=
  (∀ a, (k0_off292 v466_r0) a + S1x128.size a ≤ S16000x128.size a)
theorem k0_off292_inb : ∀ (v466_r0 : BitVec 32) (k0_hw97 : k0_chk97 v466_r0), ∀ a, (k0_off292 v466_r0) a + S1x128.size a ≤ S16000x128.size a := fun v466_r0 k0_hw97 => k0_hw97

def k0_off293 (v472_r0 : BitVec 32) : Fin 2 → Nat :=
  let v473_r0 : Index := Scalar.indexCast v472_r0
  let c0_252_r0 : Index := 0#32
  ![v473_r0.toNat, 0]

def k0_chk98 (v472_r0 : BitVec 32) : Prop :=
  (∀ a, (k0_off293 v472_r0) a + S1x128.size a ≤ S16000x128.size a)
theorem k0_off293_inb : ∀ (v472_r0 : BitVec 32) (k0_hw98 : k0_chk98 v472_r0), ∀ a, (k0_off293 v472_r0) a + S1x128.size a ≤ S16000x128.size a := fun v472_r0 k0_hw98 => k0_hw98

def k0_off294 (v478_r0 : BitVec 32) : Fin 2 → Nat :=
  let v479_r0 : Index := Scalar.indexCast v478_r0
  let c0_255_r0 : Index := 0#32
  ![v479_r0.toNat, 0]

def k0_chk99 (v478_r0 : BitVec 32) : Prop :=
  (∀ a, (k0_off294 v478_r0) a + S1x128.size a ≤ S16000x128.size a)
theorem k0_off294_inb : ∀ (v478_r0 : BitVec 32) (k0_hw99 : k0_chk99 v478_r0), ∀ a, (k0_off294 v478_r0) a + S1x128.size a ≤ S16000x128.size a := fun v478_r0 k0_hw99 => k0_hw99

def k0_off295 (v484_r0 : BitVec 32) : Fin 2 → Nat :=
  let v485_r0 : Index := Scalar.indexCast v484_r0
  let c0_258_r0 : Index := 0#32
  ![v485_r0.toNat, 0]

def k0_chk100 (v484_r0 : BitVec 32) : Prop :=
  (∀ a, (k0_off295 v484_r0) a + S1x128.size a ≤ S16000x128.size a)
theorem k0_off295_inb : ∀ (v484_r0 : BitVec 32) (k0_hw100 : k0_chk100 v484_r0), ∀ a, (k0_off295 v484_r0) a + S1x128.size a ≤ S16000x128.size a := fun v484_r0 k0_hw100 => k0_hw100

def k0_off296 (v490_r0 : BitVec 32) : Fin 2 → Nat :=
  let v491_r0 : Index := Scalar.indexCast v490_r0
  let c0_261_r0 : Index := 0#32
  ![v491_r0.toNat, 0]

def k0_chk101 (v490_r0 : BitVec 32) : Prop :=
  (∀ a, (k0_off296 v490_r0) a + S1x128.size a ≤ S16000x128.size a)
theorem k0_off296_inb : ∀ (v490_r0 : BitVec 32) (k0_hw101 : k0_chk101 v490_r0), ∀ a, (k0_off296 v490_r0) a + S1x128.size a ≤ S16000x128.size a := fun v490_r0 k0_hw101 => k0_hw101

def k0_off297 (v496_r0 : BitVec 32) : Fin 2 → Nat :=
  let v497_r0 : Index := Scalar.indexCast v496_r0
  let c0_264_r0 : Index := 0#32
  ![v497_r0.toNat, 0]

def k0_chk102 (v496_r0 : BitVec 32) : Prop :=
  (∀ a, (k0_off297 v496_r0) a + S1x128.size a ≤ S16000x128.size a)
theorem k0_off297_inb : ∀ (v496_r0 : BitVec 32) (k0_hw102 : k0_chk102 v496_r0), ∀ a, (k0_off297 v496_r0) a + S1x128.size a ≤ S16000x128.size a := fun v496_r0 k0_hw102 => k0_hw102

def k0_off298 (v502_r0 : BitVec 32) : Fin 2 → Nat :=
  let v503_r0 : Index := Scalar.indexCast v502_r0
  let c0_267_r0 : Index := 0#32
  ![v503_r0.toNat, 0]

def k0_chk103 (v502_r0 : BitVec 32) : Prop :=
  (∀ a, (k0_off298 v502_r0) a + S1x128.size a ≤ S16000x128.size a)
theorem k0_off298_inb : ∀ (v502_r0 : BitVec 32) (k0_hw103 : k0_chk103 v502_r0), ∀ a, (k0_off298 v502_r0) a + S1x128.size a ≤ S16000x128.size a := fun v502_r0 k0_hw103 => k0_hw103

def k0_off299 (v508_r0 : BitVec 32) : Fin 2 → Nat :=
  let v509_r0 : Index := Scalar.indexCast v508_r0
  let c0_270_r0 : Index := 0#32
  ![v509_r0.toNat, 0]

def k0_chk104 (v508_r0 : BitVec 32) : Prop :=
  (∀ a, (k0_off299 v508_r0) a + S1x128.size a ≤ S16000x128.size a)
theorem k0_off299_inb : ∀ (v508_r0 : BitVec 32) (k0_hw104 : k0_chk104 v508_r0), ∀ a, (k0_off299 v508_r0) a + S1x128.size a ≤ S16000x128.size a := fun v508_r0 k0_hw104 => k0_hw104

def k0_off300 (v514_r0 : BitVec 32) : Fin 2 → Nat :=
  let v515_r0 : Index := Scalar.indexCast v514_r0
  let c0_273_r0 : Index := 0#32
  ![v515_r0.toNat, 0]

def k0_chk105 (v514_r0 : BitVec 32) : Prop :=
  (∀ a, (k0_off300 v514_r0) a + S1x128.size a ≤ S16000x128.size a)
theorem k0_off300_inb : ∀ (v514_r0 : BitVec 32) (k0_hw105 : k0_chk105 v514_r0), ∀ a, (k0_off300 v514_r0) a + S1x128.size a ≤ S16000x128.size a := fun v514_r0 k0_hw105 => k0_hw105

def k0_off301 (v520_r0 : BitVec 32) : Fin 2 → Nat :=
  let v521_r0 : Index := Scalar.indexCast v520_r0
  let c0_276_r0 : Index := 0#32
  ![v521_r0.toNat, 0]

def k0_chk106 (v520_r0 : BitVec 32) : Prop :=
  (∀ a, (k0_off301 v520_r0) a + S1x128.size a ≤ S16000x128.size a)
theorem k0_off301_inb : ∀ (v520_r0 : BitVec 32) (k0_hw106 : k0_chk106 v520_r0), ∀ a, (k0_off301 v520_r0) a + S1x128.size a ≤ S16000x128.size a := fun v520_r0 k0_hw106 => k0_hw106

def k0_off302 (v526_r0 : BitVec 32) : Fin 2 → Nat :=
  let v527_r0 : Index := Scalar.indexCast v526_r0
  let c0_279_r0 : Index := 0#32
  ![v527_r0.toNat, 0]

def k0_chk107 (v526_r0 : BitVec 32) : Prop :=
  (∀ a, (k0_off302 v526_r0) a + S1x128.size a ≤ S16000x128.size a)
theorem k0_off302_inb : ∀ (v526_r0 : BitVec 32) (k0_hw107 : k0_chk107 v526_r0), ∀ a, (k0_off302 v526_r0) a + S1x128.size a ≤ S16000x128.size a := fun v526_r0 k0_hw107 => k0_hw107

def k0_off303 (v532_r0 : BitVec 32) : Fin 2 → Nat :=
  let v533_r0 : Index := Scalar.indexCast v532_r0
  let c0_282_r0 : Index := 0#32
  ![v533_r0.toNat, 0]

def k0_chk108 (v532_r0 : BitVec 32) : Prop :=
  (∀ a, (k0_off303 v532_r0) a + S1x128.size a ≤ S16000x128.size a)
theorem k0_off303_inb : ∀ (v532_r0 : BitVec 32) (k0_hw108 : k0_chk108 v532_r0), ∀ a, (k0_off303 v532_r0) a + S1x128.size a ≤ S16000x128.size a := fun v532_r0 k0_hw108 => k0_hw108

def k0_off304 (v538_r0 : BitVec 32) : Fin 2 → Nat :=
  let v539_r0 : Index := Scalar.indexCast v538_r0
  let c0_285_r0 : Index := 0#32
  ![v539_r0.toNat, 0]

def k0_chk109 (v538_r0 : BitVec 32) : Prop :=
  (∀ a, (k0_off304 v538_r0) a + S1x128.size a ≤ S16000x128.size a)
theorem k0_off304_inb : ∀ (v538_r0 : BitVec 32) (k0_hw109 : k0_chk109 v538_r0), ∀ a, (k0_off304 v538_r0) a + S1x128.size a ≤ S16000x128.size a := fun v538_r0 k0_hw109 => k0_hw109

def k0_off305 (v544_r0 : BitVec 32) : Fin 2 → Nat :=
  let v545_r0 : Index := Scalar.indexCast v544_r0
  let c0_288_r0 : Index := 0#32
  ![v545_r0.toNat, 0]

def k0_chk110 (v544_r0 : BitVec 32) : Prop :=
  (∀ a, (k0_off305 v544_r0) a + S1x128.size a ≤ S16000x128.size a)
theorem k0_off305_inb : ∀ (v544_r0 : BitVec 32) (k0_hw110 : k0_chk110 v544_r0), ∀ a, (k0_off305 v544_r0) a + S1x128.size a ≤ S16000x128.size a := fun v544_r0 k0_hw110 => k0_hw110

def k0_off306 (v550_r0 : BitVec 32) : Fin 2 → Nat :=
  let v551_r0 : Index := Scalar.indexCast v550_r0
  let c0_291_r0 : Index := 0#32
  ![v551_r0.toNat, 0]

def k0_chk111 (v550_r0 : BitVec 32) : Prop :=
  (∀ a, (k0_off306 v550_r0) a + S1x128.size a ≤ S16000x128.size a)
theorem k0_off306_inb : ∀ (v550_r0 : BitVec 32) (k0_hw111 : k0_chk111 v550_r0), ∀ a, (k0_off306 v550_r0) a + S1x128.size a ≤ S16000x128.size a := fun v550_r0 k0_hw111 => k0_hw111

def k0_off307 (v556_r0 : BitVec 32) : Fin 2 → Nat :=
  let v557_r0 : Index := Scalar.indexCast v556_r0
  let c0_294_r0 : Index := 0#32
  ![v557_r0.toNat, 0]

def k0_chk112 (v556_r0 : BitVec 32) : Prop :=
  (∀ a, (k0_off307 v556_r0) a + S1x128.size a ≤ S16000x128.size a)
theorem k0_off307_inb : ∀ (v556_r0 : BitVec 32) (k0_hw112 : k0_chk112 v556_r0), ∀ a, (k0_off307 v556_r0) a + S1x128.size a ≤ S16000x128.size a := fun v556_r0 k0_hw112 => k0_hw112

def k0_off308 (v562_r0 : BitVec 32) : Fin 2 → Nat :=
  let v563_r0 : Index := Scalar.indexCast v562_r0
  let c0_297_r0 : Index := 0#32
  ![v563_r0.toNat, 0]

def k0_chk113 (v562_r0 : BitVec 32) : Prop :=
  (∀ a, (k0_off308 v562_r0) a + S1x128.size a ≤ S16000x128.size a)
theorem k0_off308_inb : ∀ (v562_r0 : BitVec 32) (k0_hw113 : k0_chk113 v562_r0), ∀ a, (k0_off308 v562_r0) a + S1x128.size a ≤ S16000x128.size a := fun v562_r0 k0_hw113 => k0_hw113

def k0_off309 (v568_r0 : BitVec 32) : Fin 2 → Nat :=
  let v569_r0 : Index := Scalar.indexCast v568_r0
  let c0_300_r0 : Index := 0#32
  ![v569_r0.toNat, 0]

def k0_chk114 (v568_r0 : BitVec 32) : Prop :=
  (∀ a, (k0_off309 v568_r0) a + S1x128.size a ≤ S16000x128.size a)
theorem k0_off309_inb : ∀ (v568_r0 : BitVec 32) (k0_hw114 : k0_chk114 v568_r0), ∀ a, (k0_off309 v568_r0) a + S1x128.size a ≤ S16000x128.size a := fun v568_r0 k0_hw114 => k0_hw114

def k0_off310 (v574_r0 : BitVec 32) : Fin 2 → Nat :=
  let v575_r0 : Index := Scalar.indexCast v574_r0
  let c0_303_r0 : Index := 0#32
  ![v575_r0.toNat, 0]

def k0_chk115 (v574_r0 : BitVec 32) : Prop :=
  (∀ a, (k0_off310 v574_r0) a + S1x128.size a ≤ S16000x128.size a)
theorem k0_off310_inb : ∀ (v574_r0 : BitVec 32) (k0_hw115 : k0_chk115 v574_r0), ∀ a, (k0_off310 v574_r0) a + S1x128.size a ≤ S16000x128.size a := fun v574_r0 k0_hw115 => k0_hw115

def k0_off311 (v580_r0 : BitVec 32) : Fin 2 → Nat :=
  let v581_r0 : Index := Scalar.indexCast v580_r0
  let c0_306_r0 : Index := 0#32
  ![v581_r0.toNat, 0]

def k0_chk116 (v580_r0 : BitVec 32) : Prop :=
  (∀ a, (k0_off311 v580_r0) a + S1x128.size a ≤ S16000x128.size a)
theorem k0_off311_inb : ∀ (v580_r0 : BitVec 32) (k0_hw116 : k0_chk116 v580_r0), ∀ a, (k0_off311 v580_r0) a + S1x128.size a ≤ S16000x128.size a := fun v580_r0 k0_hw116 => k0_hw116

def k0_off312 (v586_r0 : BitVec 32) : Fin 2 → Nat :=
  let v587_r0 : Index := Scalar.indexCast v586_r0
  let c0_309_r0 : Index := 0#32
  ![v587_r0.toNat, 0]

def k0_chk117 (v586_r0 : BitVec 32) : Prop :=
  (∀ a, (k0_off312 v586_r0) a + S1x128.size a ≤ S16000x128.size a)
theorem k0_off312_inb : ∀ (v586_r0 : BitVec 32) (k0_hw117 : k0_chk117 v586_r0), ∀ a, (k0_off312 v586_r0) a + S1x128.size a ≤ S16000x128.size a := fun v586_r0 k0_hw117 => k0_hw117

def k0_off313 (v592_r0 : BitVec 32) : Fin 2 → Nat :=
  let v593_r0 : Index := Scalar.indexCast v592_r0
  let c0_312_r0 : Index := 0#32
  ![v593_r0.toNat, 0]

def k0_chk118 (v592_r0 : BitVec 32) : Prop :=
  (∀ a, (k0_off313 v592_r0) a + S1x128.size a ≤ S16000x128.size a)
theorem k0_off313_inb : ∀ (v592_r0 : BitVec 32) (k0_hw118 : k0_chk118 v592_r0), ∀ a, (k0_off313 v592_r0) a + S1x128.size a ≤ S16000x128.size a := fun v592_r0 k0_hw118 => k0_hw118

def k0_off314 (v598_r0 : BitVec 32) : Fin 2 → Nat :=
  let v599_r0 : Index := Scalar.indexCast v598_r0
  let c0_315_r0 : Index := 0#32
  ![v599_r0.toNat, 0]

def k0_chk119 (v598_r0 : BitVec 32) : Prop :=
  (∀ a, (k0_off314 v598_r0) a + S1x128.size a ≤ S16000x128.size a)
theorem k0_off314_inb : ∀ (v598_r0 : BitVec 32) (k0_hw119 : k0_chk119 v598_r0), ∀ a, (k0_off314 v598_r0) a + S1x128.size a ≤ S16000x128.size a := fun v598_r0 k0_hw119 => k0_hw119

def k0_off315 (v604_r0 : BitVec 32) : Fin 2 → Nat :=
  let v605_r0 : Index := Scalar.indexCast v604_r0
  let c0_318_r0 : Index := 0#32
  ![v605_r0.toNat, 0]

def k0_chk120 (v604_r0 : BitVec 32) : Prop :=
  (∀ a, (k0_off315 v604_r0) a + S1x128.size a ≤ S16000x128.size a)
theorem k0_off315_inb : ∀ (v604_r0 : BitVec 32) (k0_hw120 : k0_chk120 v604_r0), ∀ a, (k0_off315 v604_r0) a + S1x128.size a ≤ S16000x128.size a := fun v604_r0 k0_hw120 => k0_hw120

def k0_off316 (v610_r0 : BitVec 32) : Fin 2 → Nat :=
  let v611_r0 : Index := Scalar.indexCast v610_r0
  let c0_321_r0 : Index := 0#32
  ![v611_r0.toNat, 0]

def k0_chk121 (v610_r0 : BitVec 32) : Prop :=
  (∀ a, (k0_off316 v610_r0) a + S1x128.size a ≤ S16000x128.size a)
theorem k0_off316_inb : ∀ (v610_r0 : BitVec 32) (k0_hw121 : k0_chk121 v610_r0), ∀ a, (k0_off316 v610_r0) a + S1x128.size a ≤ S16000x128.size a := fun v610_r0 k0_hw121 => k0_hw121

def k0_off317 (v616_r0 : BitVec 32) : Fin 2 → Nat :=
  let v617_r0 : Index := Scalar.indexCast v616_r0
  let c0_324_r0 : Index := 0#32
  ![v617_r0.toNat, 0]

def k0_chk122 (v616_r0 : BitVec 32) : Prop :=
  (∀ a, (k0_off317 v616_r0) a + S1x128.size a ≤ S16000x128.size a)
theorem k0_off317_inb : ∀ (v616_r0 : BitVec 32) (k0_hw122 : k0_chk122 v616_r0), ∀ a, (k0_off317 v616_r0) a + S1x128.size a ≤ S16000x128.size a := fun v616_r0 k0_hw122 => k0_hw122

def k0_off318 (v622_r0 : BitVec 32) : Fin 2 → Nat :=
  let v623_r0 : Index := Scalar.indexCast v622_r0
  let c0_327_r0 : Index := 0#32
  ![v623_r0.toNat, 0]

def k0_chk123 (v622_r0 : BitVec 32) : Prop :=
  (∀ a, (k0_off318 v622_r0) a + S1x128.size a ≤ S16000x128.size a)
theorem k0_off318_inb : ∀ (v622_r0 : BitVec 32) (k0_hw123 : k0_chk123 v622_r0), ∀ a, (k0_off318 v622_r0) a + S1x128.size a ≤ S16000x128.size a := fun v622_r0 k0_hw123 => k0_hw123

def k0_off319 (v628_r0 : BitVec 32) : Fin 2 → Nat :=
  let v629_r0 : Index := Scalar.indexCast v628_r0
  let c0_330_r0 : Index := 0#32
  ![v629_r0.toNat, 0]

def k0_chk124 (v628_r0 : BitVec 32) : Prop :=
  (∀ a, (k0_off319 v628_r0) a + S1x128.size a ≤ S16000x128.size a)
theorem k0_off319_inb : ∀ (v628_r0 : BitVec 32) (k0_hw124 : k0_chk124 v628_r0), ∀ a, (k0_off319 v628_r0) a + S1x128.size a ≤ S16000x128.size a := fun v628_r0 k0_hw124 => k0_hw124

def k0_off320 (v634_r0 : BitVec 32) : Fin 2 → Nat :=
  let v635_r0 : Index := Scalar.indexCast v634_r0
  let c0_333_r0 : Index := 0#32
  ![v635_r0.toNat, 0]

def k0_chk125 (v634_r0 : BitVec 32) : Prop :=
  (∀ a, (k0_off320 v634_r0) a + S1x128.size a ≤ S16000x128.size a)
theorem k0_off320_inb : ∀ (v634_r0 : BitVec 32) (k0_hw125 : k0_chk125 v634_r0), ∀ a, (k0_off320 v634_r0) a + S1x128.size a ≤ S16000x128.size a := fun v634_r0 k0_hw125 => k0_hw125

def k0_off321 (v640_r0 : BitVec 32) : Fin 2 → Nat :=
  let v641_r0 : Index := Scalar.indexCast v640_r0
  let c0_336_r0 : Index := 0#32
  ![v641_r0.toNat, 0]

def k0_chk126 (v640_r0 : BitVec 32) : Prop :=
  (∀ a, (k0_off321 v640_r0) a + S1x128.size a ≤ S16000x128.size a)
theorem k0_off321_inb : ∀ (v640_r0 : BitVec 32) (k0_hw126 : k0_chk126 v640_r0), ∀ a, (k0_off321 v640_r0) a + S1x128.size a ≤ S16000x128.size a := fun v640_r0 k0_hw126 => k0_hw126

def k0_off322 (v646_r0 : BitVec 32) : Fin 2 → Nat :=
  let v647_r0 : Index := Scalar.indexCast v646_r0
  let c0_339_r0 : Index := 0#32
  ![v647_r0.toNat, 0]

def k0_chk127 (v646_r0 : BitVec 32) : Prop :=
  (∀ a, (k0_off322 v646_r0) a + S1x128.size a ≤ S16000x128.size a)
theorem k0_off322_inb : ∀ (v646_r0 : BitVec 32) (k0_hw127 : k0_chk127 v646_r0), ∀ a, (k0_off322 v646_r0) a + S1x128.size a ≤ S16000x128.size a := fun v646_r0 k0_hw127 => k0_hw127

def k0_off323 (v652_r0 : BitVec 32) : Fin 2 → Nat :=
  let v653_r0 : Index := Scalar.indexCast v652_r0
  let c0_342_r0 : Index := 0#32
  ![v653_r0.toNat, 0]

def k0_chk128 (v652_r0 : BitVec 32) : Prop :=
  (∀ a, (k0_off323 v652_r0) a + S1x128.size a ≤ S16000x128.size a)
theorem k0_off323_inb : ∀ (v652_r0 : BitVec 32) (k0_hw128 : k0_chk128 v652_r0), ∀ a, (k0_off323 v652_r0) a + S1x128.size a ≤ S16000x128.size a := fun v652_r0 k0_hw128 => k0_hw128

@[reducible] def k0_t3_loop : Scf.Loop 32 :=
  let c0_i32_1812_r0 : BitVec 32 := 0#32
  let c22_i32_r0 : BitVec 32 := 22#32
  let v4506_r0 : BitVec 32 := Scalar.addi c0_i32_1812_r0 c22_i32_r0
  let c1_i32_1813_r0 : BitVec 32 := 1#32
  ⟨c0_i32_1812_r0, v4506_r0, c1_i32_1813_r0⟩
def k0_off324 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  ![v4534_r0.toNat]
def k0_off325 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let c0_i32_1841_r0 : BitVec 32 := 0#32
  let c0_i32_1842_r0 : BitVec 32 := 0#32
  ![v4534_r0.toNat, 0, 0]
def k0_cond1 (k0_t3 : Fin k0_t3_loop.trips) : BitVec 1 :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1845_r0 : BitVec 32 := 2#32
  let v4541_r0 : BitVec 1 := Scalar.cmpi .sge v4533_r0 c2_i32_1845_r0
  let v4542_r0 : BitVec 32 := Scalar.extui v4541_r0
  let c0_i32_1846_r0 : BitVec 32 := 0#32
  let v4543_r0 : BitVec 1 := Scalar.cmpi .ne v4542_r0 c0_i32_1846_r0
  v4543_r0

def k0_mult6 (k0_t3 : Fin k0_t3_loop.trips) : BitVec 32 :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_4343_r0 : BitVec 32 := 2#32
  let v10274_r0 : BitVec 32 := Scalar.subi v4533_r0 c2_i32_4343_r0
  let c0_i32_4346_r0 : BitVec 32 := 0#32
  let v10277_r0 : BitVec 1 := Scalar.cmpi .sgt v10274_r0 c0_i32_4346_r0
  let v10278_r0 : BitVec 32 := Scalar.extui v10277_r0
  let c0_i32_4347_r0 : BitVec 32 := 0#32
  let v10279_r0 : BitVec 1 := Scalar.cmpi .slt v10274_r0 c0_i32_4347_r0
  let v10280_r0 : BitVec 32 := Scalar.extui v10279_r0
  let v10281_r0 : BitVec 32 := Scalar.subi v10278_r0 v10280_r0
  let c2_i32_4345_r0 : BitVec 32 := 2#32
  let c0_i32_4348_r0 : BitVec 32 := 0#32
  let v10282_r0 : BitVec 1 := Scalar.cmpi .sgt c2_i32_4345_r0 c0_i32_4348_r0
  let v10283_r0 : BitVec 32 := Scalar.extui v10282_r0
  let c0_i32_4349_r0 : BitVec 32 := 0#32
  let v10284_r0 : BitVec 1 := Scalar.cmpi .slt c2_i32_4345_r0 c0_i32_4349_r0
  let v10285_r0 : BitVec 32 := Scalar.extui v10284_r0
  let v10286_r0 : BitVec 32 := Scalar.subi v10283_r0 v10285_r0
  let v10287_r0 : BitVec 1 := Scalar.cmpi .ne v10281_r0 v10286_r0
  let v10288_r0 : BitVec 32 := Scalar.remsi v10274_r0 c2_i32_4345_r0
  let c0_i32_4350_r0 : BitVec 32 := 0#32
  let v10289_r0 : BitVec 1 := Scalar.cmpi .ne v10288_r0 c0_i32_4350_r0
  let v10290_r0 : BitVec 1 := Scalar.andi v10287_r0 v10289_r0
  let v10276_r0 : BitVec 32 := Scalar.divsi v10274_r0 c2_i32_4345_r0
  let c1_i32_4351_r0 : BitVec 32 := 1#32
  let v10291_r0 : BitVec 32 := Scalar.subi v10276_r0 c1_i32_4351_r0
  let v10292_r0 : BitVec 32 := Scalar.select v10290_r0 v10291_r0 v10276_r0
  let c0_i32_4353_r0 : BitVec 32 := 0#32
  let v10294_r0 : BitVec 1 := Scalar.cmpi .sgt v10292_r0 c0_i32_4353_r0
  let v10295_r0 : BitVec 32 := Scalar.extui v10294_r0
  let c0_i32_4354_r0 : BitVec 32 := 0#32
  let v10296_r0 : BitVec 1 := Scalar.cmpi .slt v10292_r0 c0_i32_4354_r0
  let v10297_r0 : BitVec 32 := Scalar.extui v10296_r0
  let v10298_r0 : BitVec 32 := Scalar.subi v10295_r0 v10297_r0
  let c2_i32_4352_r0 : BitVec 32 := 2#32
  let c0_i32_4355_r0 : BitVec 32 := 0#32
  let v10299_r0 : BitVec 1 := Scalar.cmpi .sgt c2_i32_4352_r0 c0_i32_4355_r0
  let v10300_r0 : BitVec 32 := Scalar.extui v10299_r0
  let c0_i32_4356_r0 : BitVec 32 := 0#32
  let v10301_r0 : BitVec 1 := Scalar.cmpi .slt c2_i32_4352_r0 c0_i32_4356_r0
  let v10302_r0 : BitVec 32 := Scalar.extui v10301_r0
  let v10303_r0 : BitVec 32 := Scalar.subi v10300_r0 v10302_r0
  let v10304_r0 : BitVec 1 := Scalar.cmpi .ne v10298_r0 v10303_r0
  let v10305_r0 : BitVec 32 := Scalar.remsi v10292_r0 c2_i32_4352_r0
  let c0_i32_4357_r0 : BitVec 32 := 0#32
  let v10306_r0 : BitVec 1 := Scalar.cmpi .ne v10305_r0 c0_i32_4357_r0
  let v10307_r0 : BitVec 1 := Scalar.andi v10304_r0 v10306_r0
  let v10293_r0 : BitVec 32 := Scalar.divsi v10292_r0 c2_i32_4352_r0
  let c1_i32_4358_r0 : BitVec 32 := 1#32
  let v10308_r0 : BitVec 32 := Scalar.subi v10293_r0 c1_i32_4358_r0
  let v10309_r0 : BitVec 32 := Scalar.select v10307_r0 v10308_r0 v10293_r0
  let c128_i32_4359_r0 : BitVec 32 := 128#32
  let v10310_r0 : BitVec 32 := Scalar.muli v10309_r0 c128_i32_4359_r0
  let c2_i32_4360_r0 : BitVec 32 := 2#32
  let v10311_r0 : BitVec 32 := Scalar.remsi v10274_r0 c2_i32_4360_r0
  let c64_i32_4361_r0 : BitVec 32 := 64#32
  let v10312_r0 : BitVec 32 := Scalar.muli v10311_r0 c64_i32_4361_r0
  let v10313_r0 : BitVec 32 := Scalar.addi v10310_r0 v10312_r0
  v10313_r0
def k0_off326 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_4343_r0 : BitVec 32 := 2#32
  let v10274_r0 : BitVec 32 := Scalar.subi v4533_r0 c2_i32_4343_r0
  let c2_i32_4344_r0 : BitVec 32 := 2#32
  let v10275_r0 : BitVec 32 := Scalar.remsi v10274_r0 c2_i32_4344_r0
  ![v10275_r0.toNat]
def k0_off327 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_4343_r0 : BitVec 32 := 2#32
  let v10274_r0 : BitVec 32 := Scalar.subi v4533_r0 c2_i32_4343_r0
  let c0_i32_4346_r0 : BitVec 32 := 0#32
  let v10277_r0 : BitVec 1 := Scalar.cmpi .sgt v10274_r0 c0_i32_4346_r0
  let v10278_r0 : BitVec 32 := Scalar.extui v10277_r0
  let c0_i32_4347_r0 : BitVec 32 := 0#32
  let v10279_r0 : BitVec 1 := Scalar.cmpi .slt v10274_r0 c0_i32_4347_r0
  let v10280_r0 : BitVec 32 := Scalar.extui v10279_r0
  let v10281_r0 : BitVec 32 := Scalar.subi v10278_r0 v10280_r0
  let c2_i32_4345_r0 : BitVec 32 := 2#32
  let c0_i32_4348_r0 : BitVec 32 := 0#32
  let v10282_r0 : BitVec 1 := Scalar.cmpi .sgt c2_i32_4345_r0 c0_i32_4348_r0
  let v10283_r0 : BitVec 32 := Scalar.extui v10282_r0
  let c0_i32_4349_r0 : BitVec 32 := 0#32
  let v10284_r0 : BitVec 1 := Scalar.cmpi .slt c2_i32_4345_r0 c0_i32_4349_r0
  let v10285_r0 : BitVec 32 := Scalar.extui v10284_r0
  let v10286_r0 : BitVec 32 := Scalar.subi v10283_r0 v10285_r0
  let v10287_r0 : BitVec 1 := Scalar.cmpi .ne v10281_r0 v10286_r0
  let v10288_r0 : BitVec 32 := Scalar.remsi v10274_r0 c2_i32_4345_r0
  let c0_i32_4350_r0 : BitVec 32 := 0#32
  let v10289_r0 : BitVec 1 := Scalar.cmpi .ne v10288_r0 c0_i32_4350_r0
  let v10290_r0 : BitVec 1 := Scalar.andi v10287_r0 v10289_r0
  let v10276_r0 : BitVec 32 := Scalar.divsi v10274_r0 c2_i32_4345_r0
  let c1_i32_4351_r0 : BitVec 32 := 1#32
  let v10291_r0 : BitVec 32 := Scalar.subi v10276_r0 c1_i32_4351_r0
  let v10292_r0 : BitVec 32 := Scalar.select v10290_r0 v10291_r0 v10276_r0
  let c2_i32_4362_r0 : BitVec 32 := 2#32
  let v10314_r0 : BitVec 32 := Scalar.remsi v10292_r0 c2_i32_4362_r0
  let c0_i32_4353_r0 : BitVec 32 := 0#32
  let v10294_r0 : BitVec 1 := Scalar.cmpi .sgt v10292_r0 c0_i32_4353_r0
  let v10295_r0 : BitVec 32 := Scalar.extui v10294_r0
  let c0_i32_4354_r0 : BitVec 32 := 0#32
  let v10296_r0 : BitVec 1 := Scalar.cmpi .slt v10292_r0 c0_i32_4354_r0
  let v10297_r0 : BitVec 32 := Scalar.extui v10296_r0
  let v10298_r0 : BitVec 32 := Scalar.subi v10295_r0 v10297_r0
  let c2_i32_4352_r0 : BitVec 32 := 2#32
  let c0_i32_4355_r0 : BitVec 32 := 0#32
  let v10299_r0 : BitVec 1 := Scalar.cmpi .sgt c2_i32_4352_r0 c0_i32_4355_r0
  let v10300_r0 : BitVec 32 := Scalar.extui v10299_r0
  let c0_i32_4356_r0 : BitVec 32 := 0#32
  let v10301_r0 : BitVec 1 := Scalar.cmpi .slt c2_i32_4352_r0 c0_i32_4356_r0
  let v10302_r0 : BitVec 32 := Scalar.extui v10301_r0
  let v10303_r0 : BitVec 32 := Scalar.subi v10300_r0 v10302_r0
  let v10304_r0 : BitVec 1 := Scalar.cmpi .ne v10298_r0 v10303_r0
  let v10305_r0 : BitVec 32 := Scalar.remsi v10292_r0 c2_i32_4352_r0
  let c0_i32_4357_r0 : BitVec 32 := 0#32
  let v10306_r0 : BitVec 1 := Scalar.cmpi .ne v10305_r0 c0_i32_4357_r0
  let v10307_r0 : BitVec 1 := Scalar.andi v10304_r0 v10306_r0
  let v10293_r0 : BitVec 32 := Scalar.divsi v10292_r0 c2_i32_4352_r0
  let c1_i32_4358_r0 : BitVec 32 := 1#32
  let v10308_r0 : BitVec 32 := Scalar.subi v10293_r0 c1_i32_4358_r0
  let v10309_r0 : BitVec 32 := Scalar.select v10307_r0 v10308_r0 v10293_r0
  let c128_i32_4359_r0 : BitVec 32 := 128#32
  let v10310_r0 : BitVec 32 := Scalar.muli v10309_r0 c128_i32_4359_r0
  let c2_i32_4360_r0 : BitVec 32 := 2#32
  let v10311_r0 : BitVec 32 := Scalar.remsi v10274_r0 c2_i32_4360_r0
  let c64_i32_4361_r0 : BitVec 32 := 64#32
  let v10312_r0 : BitVec 32 := Scalar.muli v10311_r0 c64_i32_4361_r0
  let v10313_r0 : BitVec 32 := Scalar.addi v10310_r0 v10312_r0
  let v10315_r0 : BitVec 32 := v10313_r0
  let c0_i32_4363_r0 : BitVec 32 := 0#32
  ![v10314_r0.toNat, v10315_r0.toNat, 0]
def k0_off328 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_4343_r0 : BitVec 32 := 2#32
  let v10274_r0 : BitVec 32 := Scalar.subi v4533_r0 c2_i32_4343_r0
  let c2_i32_4344_r0 : BitVec 32 := 2#32
  let v10275_r0 : BitVec 32 := Scalar.remsi v10274_r0 c2_i32_4344_r0
  let c0_i32_4364_r0 : BitVec 32 := 0#32
  let c0_i32_4365_r0 : BitVec 32 := 0#32
  ![v10275_r0.toNat, 0, 0]
def k0_off329 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c0_i32_1850_r0 : BitVec 32 := 0#32
  let v4547_r0 : BitVec 32 := Scalar.addi v4546_r0 c0_i32_1850_r0
  let v4548_r0 : Index := Scalar.indexCast v4547_r0
  ![v4548_r0.toNat]
def k0_off330 (v4549_r0 : BitVec 32) : Fin 2 → Nat :=
  let v4550_r0 : Index := Scalar.indexCast v4549_r0
  let c0_1851_r0 : Index := 0#32
  ![v4550_r0.toNat, 0]

def k0_chk129 (v4549_r0 : BitVec 32) : Prop :=
  (∀ a, (k0_off330 v4549_r0) a + S1x128.size a ≤ S16000x128.size a)
theorem k0_off330_inb : ∀ (v4549_r0 : BitVec 32) (k0_hw129 : k0_chk129 v4549_r0), ∀ a, (k0_off330 v4549_r0) a + S1x128.size a ≤ S16000x128.size a := fun v4549_r0 k0_hw129 => k0_hw129

def k0_off331 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c1_i32_1854_r0 : BitVec 32 := 1#32
  let v4555_r0 : BitVec 32 := Scalar.addi v4546_r0 c1_i32_1854_r0
  let v4556_r0 : Index := Scalar.indexCast v4555_r0
  ![v4556_r0.toNat]
def k0_off332 (v4557_r0 : BitVec 32) : Fin 2 → Nat :=
  let v4558_r0 : Index := Scalar.indexCast v4557_r0
  let c0_1855_r0 : Index := 0#32
  ![v4558_r0.toNat, 0]

def k0_chk130 (v4557_r0 : BitVec 32) : Prop :=
  (∀ a, (k0_off332 v4557_r0) a + S1x128.size a ≤ S16000x128.size a)
theorem k0_off332_inb : ∀ (v4557_r0 : BitVec 32) (k0_hw130 : k0_chk130 v4557_r0), ∀ a, (k0_off332 v4557_r0) a + S1x128.size a ≤ S16000x128.size a := fun v4557_r0 k0_hw130 => k0_hw130

def k0_off333 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c2_i32_1858_r0 : BitVec 32 := 2#32
  let v4563_r0 : BitVec 32 := Scalar.addi v4546_r0 c2_i32_1858_r0
  let v4564_r0 : Index := Scalar.indexCast v4563_r0
  ![v4564_r0.toNat]
def k0_off334 (v4565_r0 : BitVec 32) : Fin 2 → Nat :=
  let v4566_r0 : Index := Scalar.indexCast v4565_r0
  let c0_1859_r0 : Index := 0#32
  ![v4566_r0.toNat, 0]

def k0_chk131 (v4565_r0 : BitVec 32) : Prop :=
  (∀ a, (k0_off334 v4565_r0) a + S1x128.size a ≤ S16000x128.size a)
theorem k0_off334_inb : ∀ (v4565_r0 : BitVec 32) (k0_hw131 : k0_chk131 v4565_r0), ∀ a, (k0_off334 v4565_r0) a + S1x128.size a ≤ S16000x128.size a := fun v4565_r0 k0_hw131 => k0_hw131

def k0_off335 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c3_i32_r0 : BitVec 32 := 3#32
  let v4571_r0 : BitVec 32 := Scalar.addi v4546_r0 c3_i32_r0
  let v4572_r0 : Index := Scalar.indexCast v4571_r0
  ![v4572_r0.toNat]
def k0_off336 (v4573_r0 : BitVec 32) : Fin 2 → Nat :=
  let v4574_r0 : Index := Scalar.indexCast v4573_r0
  let c0_1862_r0 : Index := 0#32
  ![v4574_r0.toNat, 0]

def k0_chk132 (v4573_r0 : BitVec 32) : Prop :=
  (∀ a, (k0_off336 v4573_r0) a + S1x128.size a ≤ S16000x128.size a)
theorem k0_off336_inb : ∀ (v4573_r0 : BitVec 32) (k0_hw132 : k0_chk132 v4573_r0), ∀ a, (k0_off336 v4573_r0) a + S1x128.size a ≤ S16000x128.size a := fun v4573_r0 k0_hw132 => k0_hw132

def k0_off337 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c4_i32_1865_r0 : BitVec 32 := 4#32
  let v4579_r0 : BitVec 32 := Scalar.addi v4546_r0 c4_i32_1865_r0
  let v4580_r0 : Index := Scalar.indexCast v4579_r0
  ![v4580_r0.toNat]
def k0_off338 (v4581_r0 : BitVec 32) : Fin 2 → Nat :=
  let v4582_r0 : Index := Scalar.indexCast v4581_r0
  let c0_1866_r0 : Index := 0#32
  ![v4582_r0.toNat, 0]

def k0_chk133 (v4581_r0 : BitVec 32) : Prop :=
  (∀ a, (k0_off338 v4581_r0) a + S1x128.size a ≤ S16000x128.size a)
theorem k0_off338_inb : ∀ (v4581_r0 : BitVec 32) (k0_hw133 : k0_chk133 v4581_r0), ∀ a, (k0_off338 v4581_r0) a + S1x128.size a ≤ S16000x128.size a := fun v4581_r0 k0_hw133 => k0_hw133

def k0_off339 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c5_i32_r0 : BitVec 32 := 5#32
  let v4587_r0 : BitVec 32 := Scalar.addi v4546_r0 c5_i32_r0
  let v4588_r0 : Index := Scalar.indexCast v4587_r0
  ![v4588_r0.toNat]
def k0_off340 (v4589_r0 : BitVec 32) : Fin 2 → Nat :=
  let v4590_r0 : Index := Scalar.indexCast v4589_r0
  let c0_1869_r0 : Index := 0#32
  ![v4590_r0.toNat, 0]

def k0_chk134 (v4589_r0 : BitVec 32) : Prop :=
  (∀ a, (k0_off340 v4589_r0) a + S1x128.size a ≤ S16000x128.size a)
theorem k0_off340_inb : ∀ (v4589_r0 : BitVec 32) (k0_hw134 : k0_chk134 v4589_r0), ∀ a, (k0_off340 v4589_r0) a + S1x128.size a ≤ S16000x128.size a := fun v4589_r0 k0_hw134 => k0_hw134

def k0_off341 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c6_i32_r0 : BitVec 32 := 6#32
  let v4595_r0 : BitVec 32 := Scalar.addi v4546_r0 c6_i32_r0
  let v4596_r0 : Index := Scalar.indexCast v4595_r0
  ![v4596_r0.toNat]
def k0_off342 (v4597_r0 : BitVec 32) : Fin 2 → Nat :=
  let v4598_r0 : Index := Scalar.indexCast v4597_r0
  let c0_1872_r0 : Index := 0#32
  ![v4598_r0.toNat, 0]

def k0_chk135 (v4597_r0 : BitVec 32) : Prop :=
  (∀ a, (k0_off342 v4597_r0) a + S1x128.size a ≤ S16000x128.size a)
theorem k0_off342_inb : ∀ (v4597_r0 : BitVec 32) (k0_hw135 : k0_chk135 v4597_r0), ∀ a, (k0_off342 v4597_r0) a + S1x128.size a ≤ S16000x128.size a := fun v4597_r0 k0_hw135 => k0_hw135

def k0_off343 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c7_i32_r0 : BitVec 32 := 7#32
  let v4603_r0 : BitVec 32 := Scalar.addi v4546_r0 c7_i32_r0
  let v4604_r0 : Index := Scalar.indexCast v4603_r0
  ![v4604_r0.toNat]
def k0_off344 (v4605_r0 : BitVec 32) : Fin 2 → Nat :=
  let v4606_r0 : Index := Scalar.indexCast v4605_r0
  let c0_1875_r0 : Index := 0#32
  ![v4606_r0.toNat, 0]

def k0_chk136 (v4605_r0 : BitVec 32) : Prop :=
  (∀ a, (k0_off344 v4605_r0) a + S1x128.size a ≤ S16000x128.size a)
theorem k0_off344_inb : ∀ (v4605_r0 : BitVec 32) (k0_hw136 : k0_chk136 v4605_r0), ∀ a, (k0_off344 v4605_r0) a + S1x128.size a ≤ S16000x128.size a := fun v4605_r0 k0_hw136 => k0_hw136

def k0_off345 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c8_i32_1878_r0 : BitVec 32 := 8#32
  let v4611_r0 : BitVec 32 := Scalar.addi v4546_r0 c8_i32_1878_r0
  let v4612_r0 : Index := Scalar.indexCast v4611_r0
  ![v4612_r0.toNat]
def k0_off346 (v4613_r0 : BitVec 32) : Fin 2 → Nat :=
  let v4614_r0 : Index := Scalar.indexCast v4613_r0
  let c0_1879_r0 : Index := 0#32
  ![v4614_r0.toNat, 0]

def k0_chk137 (v4613_r0 : BitVec 32) : Prop :=
  (∀ a, (k0_off346 v4613_r0) a + S1x128.size a ≤ S16000x128.size a)
theorem k0_off346_inb : ∀ (v4613_r0 : BitVec 32) (k0_hw137 : k0_chk137 v4613_r0), ∀ a, (k0_off346 v4613_r0) a + S1x128.size a ≤ S16000x128.size a := fun v4613_r0 k0_hw137 => k0_hw137

def k0_off347 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c9_i32_r0 : BitVec 32 := 9#32
  let v4619_r0 : BitVec 32 := Scalar.addi v4546_r0 c9_i32_r0
  let v4620_r0 : Index := Scalar.indexCast v4619_r0
  ![v4620_r0.toNat]
def k0_off348 (v4621_r0 : BitVec 32) : Fin 2 → Nat :=
  let v4622_r0 : Index := Scalar.indexCast v4621_r0
  let c0_1882_r0 : Index := 0#32
  ![v4622_r0.toNat, 0]

def k0_chk138 (v4621_r0 : BitVec 32) : Prop :=
  (∀ a, (k0_off348 v4621_r0) a + S1x128.size a ≤ S16000x128.size a)
theorem k0_off348_inb : ∀ (v4621_r0 : BitVec 32) (k0_hw138 : k0_chk138 v4621_r0), ∀ a, (k0_off348 v4621_r0) a + S1x128.size a ≤ S16000x128.size a := fun v4621_r0 k0_hw138 => k0_hw138

def k0_off349 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c10_i32_1885_r0 : BitVec 32 := 10#32
  let v4627_r0 : BitVec 32 := Scalar.addi v4546_r0 c10_i32_1885_r0
  let v4628_r0 : Index := Scalar.indexCast v4627_r0
  ![v4628_r0.toNat]
def k0_off350 (v4629_r0 : BitVec 32) : Fin 2 → Nat :=
  let v4630_r0 : Index := Scalar.indexCast v4629_r0
  let c0_1886_r0 : Index := 0#32
  ![v4630_r0.toNat, 0]

def k0_chk139 (v4629_r0 : BitVec 32) : Prop :=
  (∀ a, (k0_off350 v4629_r0) a + S1x128.size a ≤ S16000x128.size a)
theorem k0_off350_inb : ∀ (v4629_r0 : BitVec 32) (k0_hw139 : k0_chk139 v4629_r0), ∀ a, (k0_off350 v4629_r0) a + S1x128.size a ≤ S16000x128.size a := fun v4629_r0 k0_hw139 => k0_hw139

def k0_off351 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c11_i32_1889_r0 : BitVec 32 := 11#32
  let v4635_r0 : BitVec 32 := Scalar.addi v4546_r0 c11_i32_1889_r0
  let v4636_r0 : Index := Scalar.indexCast v4635_r0
  ![v4636_r0.toNat]
def k0_off352 (v4637_r0 : BitVec 32) : Fin 2 → Nat :=
  let v4638_r0 : Index := Scalar.indexCast v4637_r0
  let c0_1890_r0 : Index := 0#32
  ![v4638_r0.toNat, 0]

def k0_chk140 (v4637_r0 : BitVec 32) : Prop :=
  (∀ a, (k0_off352 v4637_r0) a + S1x128.size a ≤ S16000x128.size a)
theorem k0_off352_inb : ∀ (v4637_r0 : BitVec 32) (k0_hw140 : k0_chk140 v4637_r0), ∀ a, (k0_off352 v4637_r0) a + S1x128.size a ≤ S16000x128.size a := fun v4637_r0 k0_hw140 => k0_hw140

def k0_off353 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c12_i32_r0 : BitVec 32 := 12#32
  let v4643_r0 : BitVec 32 := Scalar.addi v4546_r0 c12_i32_r0
  let v4644_r0 : Index := Scalar.indexCast v4643_r0
  ![v4644_r0.toNat]
def k0_off354 (v4645_r0 : BitVec 32) : Fin 2 → Nat :=
  let v4646_r0 : Index := Scalar.indexCast v4645_r0
  let c0_1893_r0 : Index := 0#32
  ![v4646_r0.toNat, 0]

def k0_chk141 (v4645_r0 : BitVec 32) : Prop :=
  (∀ a, (k0_off354 v4645_r0) a + S1x128.size a ≤ S16000x128.size a)
theorem k0_off354_inb : ∀ (v4645_r0 : BitVec 32) (k0_hw141 : k0_chk141 v4645_r0), ∀ a, (k0_off354 v4645_r0) a + S1x128.size a ≤ S16000x128.size a := fun v4645_r0 k0_hw141 => k0_hw141

def k0_off355 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c13_i32_r0 : BitVec 32 := 13#32
  let v4651_r0 : BitVec 32 := Scalar.addi v4546_r0 c13_i32_r0
  let v4652_r0 : Index := Scalar.indexCast v4651_r0
  ![v4652_r0.toNat]
def k0_off356 (v4653_r0 : BitVec 32) : Fin 2 → Nat :=
  let v4654_r0 : Index := Scalar.indexCast v4653_r0
  let c0_1896_r0 : Index := 0#32
  ![v4654_r0.toNat, 0]

def k0_chk142 (v4653_r0 : BitVec 32) : Prop :=
  (∀ a, (k0_off356 v4653_r0) a + S1x128.size a ≤ S16000x128.size a)
theorem k0_off356_inb : ∀ (v4653_r0 : BitVec 32) (k0_hw142 : k0_chk142 v4653_r0), ∀ a, (k0_off356 v4653_r0) a + S1x128.size a ≤ S16000x128.size a := fun v4653_r0 k0_hw142 => k0_hw142

def k0_off357 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c14_i32_r0 : BitVec 32 := 14#32
  let v4659_r0 : BitVec 32 := Scalar.addi v4546_r0 c14_i32_r0
  let v4660_r0 : Index := Scalar.indexCast v4659_r0
  ![v4660_r0.toNat]
def k0_off358 (v4661_r0 : BitVec 32) : Fin 2 → Nat :=
  let v4662_r0 : Index := Scalar.indexCast v4661_r0
  let c0_1899_r0 : Index := 0#32
  ![v4662_r0.toNat, 0]

def k0_chk143 (v4661_r0 : BitVec 32) : Prop :=
  (∀ a, (k0_off358 v4661_r0) a + S1x128.size a ≤ S16000x128.size a)
theorem k0_off358_inb : ∀ (v4661_r0 : BitVec 32) (k0_hw143 : k0_chk143 v4661_r0), ∀ a, (k0_off358 v4661_r0) a + S1x128.size a ≤ S16000x128.size a := fun v4661_r0 k0_hw143 => k0_hw143

def k0_off359 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c15_i32_1902_r0 : BitVec 32 := 15#32
  let v4667_r0 : BitVec 32 := Scalar.addi v4546_r0 c15_i32_1902_r0
  let v4668_r0 : Index := Scalar.indexCast v4667_r0
  ![v4668_r0.toNat]
def k0_off360 (v4669_r0 : BitVec 32) : Fin 2 → Nat :=
  let v4670_r0 : Index := Scalar.indexCast v4669_r0
  let c0_1903_r0 : Index := 0#32
  ![v4670_r0.toNat, 0]

def k0_chk144 (v4669_r0 : BitVec 32) : Prop :=
  (∀ a, (k0_off360 v4669_r0) a + S1x128.size a ≤ S16000x128.size a)
theorem k0_off360_inb : ∀ (v4669_r0 : BitVec 32) (k0_hw144 : k0_chk144 v4669_r0), ∀ a, (k0_off360 v4669_r0) a + S1x128.size a ≤ S16000x128.size a := fun v4669_r0 k0_hw144 => k0_hw144

def k0_off361 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c16_i32_1906_r0 : BitVec 32 := 16#32
  let v4675_r0 : BitVec 32 := Scalar.addi v4546_r0 c16_i32_1906_r0
  let v4676_r0 : Index := Scalar.indexCast v4675_r0
  ![v4676_r0.toNat]
def k0_off362 (v4677_r0 : BitVec 32) : Fin 2 → Nat :=
  let v4678_r0 : Index := Scalar.indexCast v4677_r0
  let c0_1907_r0 : Index := 0#32
  ![v4678_r0.toNat, 0]

def k0_chk145 (v4677_r0 : BitVec 32) : Prop :=
  (∀ a, (k0_off362 v4677_r0) a + S1x128.size a ≤ S16000x128.size a)
theorem k0_off362_inb : ∀ (v4677_r0 : BitVec 32) (k0_hw145 : k0_chk145 v4677_r0), ∀ a, (k0_off362 v4677_r0) a + S1x128.size a ≤ S16000x128.size a := fun v4677_r0 k0_hw145 => k0_hw145

def k0_off363 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c17_i32_r0 : BitVec 32 := 17#32
  let v4683_r0 : BitVec 32 := Scalar.addi v4546_r0 c17_i32_r0
  let v4684_r0 : Index := Scalar.indexCast v4683_r0
  ![v4684_r0.toNat]
def k0_off364 (v4685_r0 : BitVec 32) : Fin 2 → Nat :=
  let v4686_r0 : Index := Scalar.indexCast v4685_r0
  let c0_1910_r0 : Index := 0#32
  ![v4686_r0.toNat, 0]

def k0_chk146 (v4685_r0 : BitVec 32) : Prop :=
  (∀ a, (k0_off364 v4685_r0) a + S1x128.size a ≤ S16000x128.size a)
theorem k0_off364_inb : ∀ (v4685_r0 : BitVec 32) (k0_hw146 : k0_chk146 v4685_r0), ∀ a, (k0_off364 v4685_r0) a + S1x128.size a ≤ S16000x128.size a := fun v4685_r0 k0_hw146 => k0_hw146

def k0_off365 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c18_i32_r0 : BitVec 32 := 18#32
  let v4691_r0 : BitVec 32 := Scalar.addi v4546_r0 c18_i32_r0
  let v4692_r0 : Index := Scalar.indexCast v4691_r0
  ![v4692_r0.toNat]
def k0_off366 (v4693_r0 : BitVec 32) : Fin 2 → Nat :=
  let v4694_r0 : Index := Scalar.indexCast v4693_r0
  let c0_1913_r0 : Index := 0#32
  ![v4694_r0.toNat, 0]

def k0_chk147 (v4693_r0 : BitVec 32) : Prop :=
  (∀ a, (k0_off366 v4693_r0) a + S1x128.size a ≤ S16000x128.size a)
theorem k0_off366_inb : ∀ (v4693_r0 : BitVec 32) (k0_hw147 : k0_chk147 v4693_r0), ∀ a, (k0_off366 v4693_r0) a + S1x128.size a ≤ S16000x128.size a := fun v4693_r0 k0_hw147 => k0_hw147

def k0_off367 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c19_i32_r0 : BitVec 32 := 19#32
  let v4699_r0 : BitVec 32 := Scalar.addi v4546_r0 c19_i32_r0
  let v4700_r0 : Index := Scalar.indexCast v4699_r0
  ![v4700_r0.toNat]
def k0_off368 (v4701_r0 : BitVec 32) : Fin 2 → Nat :=
  let v4702_r0 : Index := Scalar.indexCast v4701_r0
  let c0_1916_r0 : Index := 0#32
  ![v4702_r0.toNat, 0]

def k0_chk148 (v4701_r0 : BitVec 32) : Prop :=
  (∀ a, (k0_off368 v4701_r0) a + S1x128.size a ≤ S16000x128.size a)
theorem k0_off368_inb : ∀ (v4701_r0 : BitVec 32) (k0_hw148 : k0_chk148 v4701_r0), ∀ a, (k0_off368 v4701_r0) a + S1x128.size a ≤ S16000x128.size a := fun v4701_r0 k0_hw148 => k0_hw148

def k0_off369 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c20_i32_r0 : BitVec 32 := 20#32
  let v4707_r0 : BitVec 32 := Scalar.addi v4546_r0 c20_i32_r0
  let v4708_r0 : Index := Scalar.indexCast v4707_r0
  ![v4708_r0.toNat]
def k0_off370 (v4709_r0 : BitVec 32) : Fin 2 → Nat :=
  let v4710_r0 : Index := Scalar.indexCast v4709_r0
  let c0_1919_r0 : Index := 0#32
  ![v4710_r0.toNat, 0]

def k0_chk149 (v4709_r0 : BitVec 32) : Prop :=
  (∀ a, (k0_off370 v4709_r0) a + S1x128.size a ≤ S16000x128.size a)
theorem k0_off370_inb : ∀ (v4709_r0 : BitVec 32) (k0_hw149 : k0_chk149 v4709_r0), ∀ a, (k0_off370 v4709_r0) a + S1x128.size a ≤ S16000x128.size a := fun v4709_r0 k0_hw149 => k0_hw149

def k0_off371 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c21_i32_r0 : BitVec 32 := 21#32
  let v4715_r0 : BitVec 32 := Scalar.addi v4546_r0 c21_i32_r0
  let v4716_r0 : Index := Scalar.indexCast v4715_r0
  ![v4716_r0.toNat]
def k0_off372 (v4717_r0 : BitVec 32) : Fin 2 → Nat :=
  let v4718_r0 : Index := Scalar.indexCast v4717_r0
  let c0_1922_r0 : Index := 0#32
  ![v4718_r0.toNat, 0]

def k0_chk150 (v4717_r0 : BitVec 32) : Prop :=
  (∀ a, (k0_off372 v4717_r0) a + S1x128.size a ≤ S16000x128.size a)
theorem k0_off372_inb : ∀ (v4717_r0 : BitVec 32) (k0_hw150 : k0_chk150 v4717_r0), ∀ a, (k0_off372 v4717_r0) a + S1x128.size a ≤ S16000x128.size a := fun v4717_r0 k0_hw150 => k0_hw150

def k0_off373 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c22_i32_1925_r0 : BitVec 32 := 22#32
  let v4723_r0 : BitVec 32 := Scalar.addi v4546_r0 c22_i32_1925_r0
  let v4724_r0 : Index := Scalar.indexCast v4723_r0
  ![v4724_r0.toNat]
def k0_off374 (v4725_r0 : BitVec 32) : Fin 2 → Nat :=
  let v4726_r0 : Index := Scalar.indexCast v4725_r0
  let c0_1926_r0 : Index := 0#32
  ![v4726_r0.toNat, 0]

def k0_chk151 (v4725_r0 : BitVec 32) : Prop :=
  (∀ a, (k0_off374 v4725_r0) a + S1x128.size a ≤ S16000x128.size a)
theorem k0_off374_inb : ∀ (v4725_r0 : BitVec 32) (k0_hw151 : k0_chk151 v4725_r0), ∀ a, (k0_off374 v4725_r0) a + S1x128.size a ≤ S16000x128.size a := fun v4725_r0 k0_hw151 => k0_hw151

def k0_off375 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c23_i32_r0 : BitVec 32 := 23#32
  let v4731_r0 : BitVec 32 := Scalar.addi v4546_r0 c23_i32_r0
  let v4732_r0 : Index := Scalar.indexCast v4731_r0
  ![v4732_r0.toNat]
def k0_off376 (v4733_r0 : BitVec 32) : Fin 2 → Nat :=
  let v4734_r0 : Index := Scalar.indexCast v4733_r0
  let c0_1929_r0 : Index := 0#32
  ![v4734_r0.toNat, 0]

def k0_chk152 (v4733_r0 : BitVec 32) : Prop :=
  (∀ a, (k0_off376 v4733_r0) a + S1x128.size a ≤ S16000x128.size a)
theorem k0_off376_inb : ∀ (v4733_r0 : BitVec 32) (k0_hw152 : k0_chk152 v4733_r0), ∀ a, (k0_off376 v4733_r0) a + S1x128.size a ≤ S16000x128.size a := fun v4733_r0 k0_hw152 => k0_hw152

def k0_off377 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c24_i32_1932_r0 : BitVec 32 := 24#32
  let v4739_r0 : BitVec 32 := Scalar.addi v4546_r0 c24_i32_1932_r0
  let v4740_r0 : Index := Scalar.indexCast v4739_r0
  ![v4740_r0.toNat]
def k0_off378 (v4741_r0 : BitVec 32) : Fin 2 → Nat :=
  let v4742_r0 : Index := Scalar.indexCast v4741_r0
  let c0_1933_r0 : Index := 0#32
  ![v4742_r0.toNat, 0]

def k0_chk153 (v4741_r0 : BitVec 32) : Prop :=
  (∀ a, (k0_off378 v4741_r0) a + S1x128.size a ≤ S16000x128.size a)
theorem k0_off378_inb : ∀ (v4741_r0 : BitVec 32) (k0_hw153 : k0_chk153 v4741_r0), ∀ a, (k0_off378 v4741_r0) a + S1x128.size a ≤ S16000x128.size a := fun v4741_r0 k0_hw153 => k0_hw153

def k0_off379 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c25_i32_1936_r0 : BitVec 32 := 25#32
  let v4747_r0 : BitVec 32 := Scalar.addi v4546_r0 c25_i32_1936_r0
  let v4748_r0 : Index := Scalar.indexCast v4747_r0
  ![v4748_r0.toNat]
def k0_off380 (v4749_r0 : BitVec 32) : Fin 2 → Nat :=
  let v4750_r0 : Index := Scalar.indexCast v4749_r0
  let c0_1937_r0 : Index := 0#32
  ![v4750_r0.toNat, 0]

def k0_chk154 (v4749_r0 : BitVec 32) : Prop :=
  (∀ a, (k0_off380 v4749_r0) a + S1x128.size a ≤ S16000x128.size a)
theorem k0_off380_inb : ∀ (v4749_r0 : BitVec 32) (k0_hw154 : k0_chk154 v4749_r0), ∀ a, (k0_off380 v4749_r0) a + S1x128.size a ≤ S16000x128.size a := fun v4749_r0 k0_hw154 => k0_hw154

def k0_off381 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c26_i32_r0 : BitVec 32 := 26#32
  let v4755_r0 : BitVec 32 := Scalar.addi v4546_r0 c26_i32_r0
  let v4756_r0 : Index := Scalar.indexCast v4755_r0
  ![v4756_r0.toNat]
def k0_off382 (v4757_r0 : BitVec 32) : Fin 2 → Nat :=
  let v4758_r0 : Index := Scalar.indexCast v4757_r0
  let c0_1940_r0 : Index := 0#32
  ![v4758_r0.toNat, 0]

def k0_chk155 (v4757_r0 : BitVec 32) : Prop :=
  (∀ a, (k0_off382 v4757_r0) a + S1x128.size a ≤ S16000x128.size a)
theorem k0_off382_inb : ∀ (v4757_r0 : BitVec 32) (k0_hw155 : k0_chk155 v4757_r0), ∀ a, (k0_off382 v4757_r0) a + S1x128.size a ≤ S16000x128.size a := fun v4757_r0 k0_hw155 => k0_hw155

def k0_off383 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c27_i32_r0 : BitVec 32 := 27#32
  let v4763_r0 : BitVec 32 := Scalar.addi v4546_r0 c27_i32_r0
  let v4764_r0 : Index := Scalar.indexCast v4763_r0
  ![v4764_r0.toNat]
def k0_off384 (v4765_r0 : BitVec 32) : Fin 2 → Nat :=
  let v4766_r0 : Index := Scalar.indexCast v4765_r0
  let c0_1943_r0 : Index := 0#32
  ![v4766_r0.toNat, 0]

def k0_chk156 (v4765_r0 : BitVec 32) : Prop :=
  (∀ a, (k0_off384 v4765_r0) a + S1x128.size a ≤ S16000x128.size a)
theorem k0_off384_inb : ∀ (v4765_r0 : BitVec 32) (k0_hw156 : k0_chk156 v4765_r0), ∀ a, (k0_off384 v4765_r0) a + S1x128.size a ≤ S16000x128.size a := fun v4765_r0 k0_hw156 => k0_hw156

def k0_off385 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c28_i32_r0 : BitVec 32 := 28#32
  let v4771_r0 : BitVec 32 := Scalar.addi v4546_r0 c28_i32_r0
  let v4772_r0 : Index := Scalar.indexCast v4771_r0
  ![v4772_r0.toNat]
def k0_off386 (v4773_r0 : BitVec 32) : Fin 2 → Nat :=
  let v4774_r0 : Index := Scalar.indexCast v4773_r0
  let c0_1946_r0 : Index := 0#32
  ![v4774_r0.toNat, 0]

def k0_chk157 (v4773_r0 : BitVec 32) : Prop :=
  (∀ a, (k0_off386 v4773_r0) a + S1x128.size a ≤ S16000x128.size a)
theorem k0_off386_inb : ∀ (v4773_r0 : BitVec 32) (k0_hw157 : k0_chk157 v4773_r0), ∀ a, (k0_off386 v4773_r0) a + S1x128.size a ≤ S16000x128.size a := fun v4773_r0 k0_hw157 => k0_hw157

def k0_off387 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c29_i32_r0 : BitVec 32 := 29#32
  let v4779_r0 : BitVec 32 := Scalar.addi v4546_r0 c29_i32_r0
  let v4780_r0 : Index := Scalar.indexCast v4779_r0
  ![v4780_r0.toNat]
def k0_off388 (v4781_r0 : BitVec 32) : Fin 2 → Nat :=
  let v4782_r0 : Index := Scalar.indexCast v4781_r0
  let c0_1949_r0 : Index := 0#32
  ![v4782_r0.toNat, 0]

def k0_chk158 (v4781_r0 : BitVec 32) : Prop :=
  (∀ a, (k0_off388 v4781_r0) a + S1x128.size a ≤ S16000x128.size a)
theorem k0_off388_inb : ∀ (v4781_r0 : BitVec 32) (k0_hw158 : k0_chk158 v4781_r0), ∀ a, (k0_off388 v4781_r0) a + S1x128.size a ≤ S16000x128.size a := fun v4781_r0 k0_hw158 => k0_hw158

def k0_off389 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c30_i32_1952_r0 : BitVec 32 := 30#32
  let v4787_r0 : BitVec 32 := Scalar.addi v4546_r0 c30_i32_1952_r0
  let v4788_r0 : Index := Scalar.indexCast v4787_r0
  ![v4788_r0.toNat]
def k0_off390 (v4789_r0 : BitVec 32) : Fin 2 → Nat :=
  let v4790_r0 : Index := Scalar.indexCast v4789_r0
  let c0_1953_r0 : Index := 0#32
  ![v4790_r0.toNat, 0]

def k0_chk159 (v4789_r0 : BitVec 32) : Prop :=
  (∀ a, (k0_off390 v4789_r0) a + S1x128.size a ≤ S16000x128.size a)
theorem k0_off390_inb : ∀ (v4789_r0 : BitVec 32) (k0_hw159 : k0_chk159 v4789_r0), ∀ a, (k0_off390 v4789_r0) a + S1x128.size a ≤ S16000x128.size a := fun v4789_r0 k0_hw159 => k0_hw159

def k0_off391 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c31_i32_1956_r0 : BitVec 32 := 31#32
  let v4795_r0 : BitVec 32 := Scalar.addi v4546_r0 c31_i32_1956_r0
  let v4796_r0 : Index := Scalar.indexCast v4795_r0
  ![v4796_r0.toNat]
def k0_off392 (v4797_r0 : BitVec 32) : Fin 2 → Nat :=
  let v4798_r0 : Index := Scalar.indexCast v4797_r0
  let c0_1957_r0 : Index := 0#32
  ![v4798_r0.toNat, 0]

def k0_chk160 (v4797_r0 : BitVec 32) : Prop :=
  (∀ a, (k0_off392 v4797_r0) a + S1x128.size a ≤ S16000x128.size a)
theorem k0_off392_inb : ∀ (v4797_r0 : BitVec 32) (k0_hw160 : k0_chk160 v4797_r0), ∀ a, (k0_off392 v4797_r0) a + S1x128.size a ≤ S16000x128.size a := fun v4797_r0 k0_hw160 => k0_hw160

def k0_off393 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c32_i32_1960_r0 : BitVec 32 := 32#32
  let v4803_r0 : BitVec 32 := Scalar.addi v4546_r0 c32_i32_1960_r0
  let v4804_r0 : Index := Scalar.indexCast v4803_r0
  ![v4804_r0.toNat]
def k0_off394 (v4805_r0 : BitVec 32) : Fin 2 → Nat :=
  let v4806_r0 : Index := Scalar.indexCast v4805_r0
  let c0_1961_r0 : Index := 0#32
  ![v4806_r0.toNat, 0]

def k0_chk161 (v4805_r0 : BitVec 32) : Prop :=
  (∀ a, (k0_off394 v4805_r0) a + S1x128.size a ≤ S16000x128.size a)
theorem k0_off394_inb : ∀ (v4805_r0 : BitVec 32) (k0_hw161 : k0_chk161 v4805_r0), ∀ a, (k0_off394 v4805_r0) a + S1x128.size a ≤ S16000x128.size a := fun v4805_r0 k0_hw161 => k0_hw161

def k0_off395 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c33_i32_r0 : BitVec 32 := 33#32
  let v4811_r0 : BitVec 32 := Scalar.addi v4546_r0 c33_i32_r0
  let v4812_r0 : Index := Scalar.indexCast v4811_r0
  ![v4812_r0.toNat]
def k0_off396 (v4813_r0 : BitVec 32) : Fin 2 → Nat :=
  let v4814_r0 : Index := Scalar.indexCast v4813_r0
  let c0_1964_r0 : Index := 0#32
  ![v4814_r0.toNat, 0]

def k0_chk162 (v4813_r0 : BitVec 32) : Prop :=
  (∀ a, (k0_off396 v4813_r0) a + S1x128.size a ≤ S16000x128.size a)
theorem k0_off396_inb : ∀ (v4813_r0 : BitVec 32) (k0_hw162 : k0_chk162 v4813_r0), ∀ a, (k0_off396 v4813_r0) a + S1x128.size a ≤ S16000x128.size a := fun v4813_r0 k0_hw162 => k0_hw162

def k0_off397 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c34_i32_r0 : BitVec 32 := 34#32
  let v4819_r0 : BitVec 32 := Scalar.addi v4546_r0 c34_i32_r0
  let v4820_r0 : Index := Scalar.indexCast v4819_r0
  ![v4820_r0.toNat]
def k0_off398 (v4821_r0 : BitVec 32) : Fin 2 → Nat :=
  let v4822_r0 : Index := Scalar.indexCast v4821_r0
  let c0_1967_r0 : Index := 0#32
  ![v4822_r0.toNat, 0]

def k0_chk163 (v4821_r0 : BitVec 32) : Prop :=
  (∀ a, (k0_off398 v4821_r0) a + S1x128.size a ≤ S16000x128.size a)
theorem k0_off398_inb : ∀ (v4821_r0 : BitVec 32) (k0_hw163 : k0_chk163 v4821_r0), ∀ a, (k0_off398 v4821_r0) a + S1x128.size a ≤ S16000x128.size a := fun v4821_r0 k0_hw163 => k0_hw163

def k0_off399 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c35_i32_r0 : BitVec 32 := 35#32
  let v4827_r0 : BitVec 32 := Scalar.addi v4546_r0 c35_i32_r0
  let v4828_r0 : Index := Scalar.indexCast v4827_r0
  ![v4828_r0.toNat]
def k0_off400 (v4829_r0 : BitVec 32) : Fin 2 → Nat :=
  let v4830_r0 : Index := Scalar.indexCast v4829_r0
  let c0_1970_r0 : Index := 0#32
  ![v4830_r0.toNat, 0]

def k0_chk164 (v4829_r0 : BitVec 32) : Prop :=
  (∀ a, (k0_off400 v4829_r0) a + S1x128.size a ≤ S16000x128.size a)
theorem k0_off400_inb : ∀ (v4829_r0 : BitVec 32) (k0_hw164 : k0_chk164 v4829_r0), ∀ a, (k0_off400 v4829_r0) a + S1x128.size a ≤ S16000x128.size a := fun v4829_r0 k0_hw164 => k0_hw164

def k0_off401 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c36_i32_r0 : BitVec 32 := 36#32
  let v4835_r0 : BitVec 32 := Scalar.addi v4546_r0 c36_i32_r0
  let v4836_r0 : Index := Scalar.indexCast v4835_r0
  ![v4836_r0.toNat]
def k0_off402 (v4837_r0 : BitVec 32) : Fin 2 → Nat :=
  let v4838_r0 : Index := Scalar.indexCast v4837_r0
  let c0_1973_r0 : Index := 0#32
  ![v4838_r0.toNat, 0]

def k0_chk165 (v4837_r0 : BitVec 32) : Prop :=
  (∀ a, (k0_off402 v4837_r0) a + S1x128.size a ≤ S16000x128.size a)
theorem k0_off402_inb : ∀ (v4837_r0 : BitVec 32) (k0_hw165 : k0_chk165 v4837_r0), ∀ a, (k0_off402 v4837_r0) a + S1x128.size a ≤ S16000x128.size a := fun v4837_r0 k0_hw165 => k0_hw165

def k0_off403 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c37_i32_r0 : BitVec 32 := 37#32
  let v4843_r0 : BitVec 32 := Scalar.addi v4546_r0 c37_i32_r0
  let v4844_r0 : Index := Scalar.indexCast v4843_r0
  ![v4844_r0.toNat]
def k0_off404 (v4845_r0 : BitVec 32) : Fin 2 → Nat :=
  let v4846_r0 : Index := Scalar.indexCast v4845_r0
  let c0_1976_r0 : Index := 0#32
  ![v4846_r0.toNat, 0]

def k0_chk166 (v4845_r0 : BitVec 32) : Prop :=
  (∀ a, (k0_off404 v4845_r0) a + S1x128.size a ≤ S16000x128.size a)
theorem k0_off404_inb : ∀ (v4845_r0 : BitVec 32) (k0_hw166 : k0_chk166 v4845_r0), ∀ a, (k0_off404 v4845_r0) a + S1x128.size a ≤ S16000x128.size a := fun v4845_r0 k0_hw166 => k0_hw166

def k0_off405 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c38_i32_r0 : BitVec 32 := 38#32
  let v4851_r0 : BitVec 32 := Scalar.addi v4546_r0 c38_i32_r0
  let v4852_r0 : Index := Scalar.indexCast v4851_r0
  ![v4852_r0.toNat]
def k0_off406 (v4853_r0 : BitVec 32) : Fin 2 → Nat :=
  let v4854_r0 : Index := Scalar.indexCast v4853_r0
  let c0_1979_r0 : Index := 0#32
  ![v4854_r0.toNat, 0]

def k0_chk167 (v4853_r0 : BitVec 32) : Prop :=
  (∀ a, (k0_off406 v4853_r0) a + S1x128.size a ≤ S16000x128.size a)
theorem k0_off406_inb : ∀ (v4853_r0 : BitVec 32) (k0_hw167 : k0_chk167 v4853_r0), ∀ a, (k0_off406 v4853_r0) a + S1x128.size a ≤ S16000x128.size a := fun v4853_r0 k0_hw167 => k0_hw167

def k0_off407 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c39_i32_r0 : BitVec 32 := 39#32
  let v4859_r0 : BitVec 32 := Scalar.addi v4546_r0 c39_i32_r0
  let v4860_r0 : Index := Scalar.indexCast v4859_r0
  ![v4860_r0.toNat]
def k0_off408 (v4861_r0 : BitVec 32) : Fin 2 → Nat :=
  let v4862_r0 : Index := Scalar.indexCast v4861_r0
  let c0_1982_r0 : Index := 0#32
  ![v4862_r0.toNat, 0]

def k0_chk168 (v4861_r0 : BitVec 32) : Prop :=
  (∀ a, (k0_off408 v4861_r0) a + S1x128.size a ≤ S16000x128.size a)
theorem k0_off408_inb : ∀ (v4861_r0 : BitVec 32) (k0_hw168 : k0_chk168 v4861_r0), ∀ a, (k0_off408 v4861_r0) a + S1x128.size a ≤ S16000x128.size a := fun v4861_r0 k0_hw168 => k0_hw168

def k0_off409 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c40_i32_1985_r0 : BitVec 32 := 40#32
  let v4867_r0 : BitVec 32 := Scalar.addi v4546_r0 c40_i32_1985_r0
  let v4868_r0 : Index := Scalar.indexCast v4867_r0
  ![v4868_r0.toNat]
def k0_off410 (v4869_r0 : BitVec 32) : Fin 2 → Nat :=
  let v4870_r0 : Index := Scalar.indexCast v4869_r0
  let c0_1986_r0 : Index := 0#32
  ![v4870_r0.toNat, 0]

def k0_chk169 (v4869_r0 : BitVec 32) : Prop :=
  (∀ a, (k0_off410 v4869_r0) a + S1x128.size a ≤ S16000x128.size a)
theorem k0_off410_inb : ∀ (v4869_r0 : BitVec 32) (k0_hw169 : k0_chk169 v4869_r0), ∀ a, (k0_off410 v4869_r0) a + S1x128.size a ≤ S16000x128.size a := fun v4869_r0 k0_hw169 => k0_hw169

def k0_off411 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c41_i32_r0 : BitVec 32 := 41#32
  let v4875_r0 : BitVec 32 := Scalar.addi v4546_r0 c41_i32_r0
  let v4876_r0 : Index := Scalar.indexCast v4875_r0
  ![v4876_r0.toNat]
def k0_off412 (v4877_r0 : BitVec 32) : Fin 2 → Nat :=
  let v4878_r0 : Index := Scalar.indexCast v4877_r0
  let c0_1989_r0 : Index := 0#32
  ![v4878_r0.toNat, 0]

def k0_chk170 (v4877_r0 : BitVec 32) : Prop :=
  (∀ a, (k0_off412 v4877_r0) a + S1x128.size a ≤ S16000x128.size a)
theorem k0_off412_inb : ∀ (v4877_r0 : BitVec 32) (k0_hw170 : k0_chk170 v4877_r0), ∀ a, (k0_off412 v4877_r0) a + S1x128.size a ≤ S16000x128.size a := fun v4877_r0 k0_hw170 => k0_hw170

def k0_off413 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c42_i32_r0 : BitVec 32 := 42#32
  let v4883_r0 : BitVec 32 := Scalar.addi v4546_r0 c42_i32_r0
  let v4884_r0 : Index := Scalar.indexCast v4883_r0
  ![v4884_r0.toNat]
def k0_off414 (v4885_r0 : BitVec 32) : Fin 2 → Nat :=
  let v4886_r0 : Index := Scalar.indexCast v4885_r0
  let c0_1992_r0 : Index := 0#32
  ![v4886_r0.toNat, 0]

def k0_chk171 (v4885_r0 : BitVec 32) : Prop :=
  (∀ a, (k0_off414 v4885_r0) a + S1x128.size a ≤ S16000x128.size a)
theorem k0_off414_inb : ∀ (v4885_r0 : BitVec 32) (k0_hw171 : k0_chk171 v4885_r0), ∀ a, (k0_off414 v4885_r0) a + S1x128.size a ≤ S16000x128.size a := fun v4885_r0 k0_hw171 => k0_hw171

def k0_off415 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c43_i32_r0 : BitVec 32 := 43#32
  let v4891_r0 : BitVec 32 := Scalar.addi v4546_r0 c43_i32_r0
  let v4892_r0 : Index := Scalar.indexCast v4891_r0
  ![v4892_r0.toNat]
def k0_off416 (v4893_r0 : BitVec 32) : Fin 2 → Nat :=
  let v4894_r0 : Index := Scalar.indexCast v4893_r0
  let c0_1995_r0 : Index := 0#32
  ![v4894_r0.toNat, 0]

def k0_chk172 (v4893_r0 : BitVec 32) : Prop :=
  (∀ a, (k0_off416 v4893_r0) a + S1x128.size a ≤ S16000x128.size a)
theorem k0_off416_inb : ∀ (v4893_r0 : BitVec 32) (k0_hw172 : k0_chk172 v4893_r0), ∀ a, (k0_off416 v4893_r0) a + S1x128.size a ≤ S16000x128.size a := fun v4893_r0 k0_hw172 => k0_hw172

def k0_off417 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c44_i32_r0 : BitVec 32 := 44#32
  let v4899_r0 : BitVec 32 := Scalar.addi v4546_r0 c44_i32_r0
  let v4900_r0 : Index := Scalar.indexCast v4899_r0
  ![v4900_r0.toNat]
def k0_off418 (v4901_r0 : BitVec 32) : Fin 2 → Nat :=
  let v4902_r0 : Index := Scalar.indexCast v4901_r0
  let c0_1998_r0 : Index := 0#32
  ![v4902_r0.toNat, 0]

def k0_chk173 (v4901_r0 : BitVec 32) : Prop :=
  (∀ a, (k0_off418 v4901_r0) a + S1x128.size a ≤ S16000x128.size a)
theorem k0_off418_inb : ∀ (v4901_r0 : BitVec 32) (k0_hw173 : k0_chk173 v4901_r0), ∀ a, (k0_off418 v4901_r0) a + S1x128.size a ≤ S16000x128.size a := fun v4901_r0 k0_hw173 => k0_hw173

def k0_off419 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c45_i32_r0 : BitVec 32 := 45#32
  let v4907_r0 : BitVec 32 := Scalar.addi v4546_r0 c45_i32_r0
  let v4908_r0 : Index := Scalar.indexCast v4907_r0
  ![v4908_r0.toNat]
def k0_off420 (v4909_r0 : BitVec 32) : Fin 2 → Nat :=
  let v4910_r0 : Index := Scalar.indexCast v4909_r0
  let c0_2001_r0 : Index := 0#32
  ![v4910_r0.toNat, 0]

def k0_chk174 (v4909_r0 : BitVec 32) : Prop :=
  (∀ a, (k0_off420 v4909_r0) a + S1x128.size a ≤ S16000x128.size a)
theorem k0_off420_inb : ∀ (v4909_r0 : BitVec 32) (k0_hw174 : k0_chk174 v4909_r0), ∀ a, (k0_off420 v4909_r0) a + S1x128.size a ≤ S16000x128.size a := fun v4909_r0 k0_hw174 => k0_hw174

def k0_off421 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c46_i32_r0 : BitVec 32 := 46#32
  let v4915_r0 : BitVec 32 := Scalar.addi v4546_r0 c46_i32_r0
  let v4916_r0 : Index := Scalar.indexCast v4915_r0
  ![v4916_r0.toNat]
def k0_off422 (v4917_r0 : BitVec 32) : Fin 2 → Nat :=
  let v4918_r0 : Index := Scalar.indexCast v4917_r0
  let c0_2004_r0 : Index := 0#32
  ![v4918_r0.toNat, 0]

def k0_chk175 (v4917_r0 : BitVec 32) : Prop :=
  (∀ a, (k0_off422 v4917_r0) a + S1x128.size a ≤ S16000x128.size a)
theorem k0_off422_inb : ∀ (v4917_r0 : BitVec 32) (k0_hw175 : k0_chk175 v4917_r0), ∀ a, (k0_off422 v4917_r0) a + S1x128.size a ≤ S16000x128.size a := fun v4917_r0 k0_hw175 => k0_hw175

def k0_off423 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c47_i32_r0 : BitVec 32 := 47#32
  let v4923_r0 : BitVec 32 := Scalar.addi v4546_r0 c47_i32_r0
  let v4924_r0 : Index := Scalar.indexCast v4923_r0
  ![v4924_r0.toNat]
def k0_off424 (v4925_r0 : BitVec 32) : Fin 2 → Nat :=
  let v4926_r0 : Index := Scalar.indexCast v4925_r0
  let c0_2007_r0 : Index := 0#32
  ![v4926_r0.toNat, 0]

def k0_chk176 (v4925_r0 : BitVec 32) : Prop :=
  (∀ a, (k0_off424 v4925_r0) a + S1x128.size a ≤ S16000x128.size a)
theorem k0_off424_inb : ∀ (v4925_r0 : BitVec 32) (k0_hw176 : k0_chk176 v4925_r0), ∀ a, (k0_off424 v4925_r0) a + S1x128.size a ≤ S16000x128.size a := fun v4925_r0 k0_hw176 => k0_hw176

def k0_off425 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c48_i32_2010_r0 : BitVec 32 := 48#32
  let v4931_r0 : BitVec 32 := Scalar.addi v4546_r0 c48_i32_2010_r0
  let v4932_r0 : Index := Scalar.indexCast v4931_r0
  ![v4932_r0.toNat]
def k0_off426 (v4933_r0 : BitVec 32) : Fin 2 → Nat :=
  let v4934_r0 : Index := Scalar.indexCast v4933_r0
  let c0_2011_r0 : Index := 0#32
  ![v4934_r0.toNat, 0]

def k0_chk177 (v4933_r0 : BitVec 32) : Prop :=
  (∀ a, (k0_off426 v4933_r0) a + S1x128.size a ≤ S16000x128.size a)
theorem k0_off426_inb : ∀ (v4933_r0 : BitVec 32) (k0_hw177 : k0_chk177 v4933_r0), ∀ a, (k0_off426 v4933_r0) a + S1x128.size a ≤ S16000x128.size a := fun v4933_r0 k0_hw177 => k0_hw177

def k0_off427 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c49_i32_r0 : BitVec 32 := 49#32
  let v4939_r0 : BitVec 32 := Scalar.addi v4546_r0 c49_i32_r0
  let v4940_r0 : Index := Scalar.indexCast v4939_r0
  ![v4940_r0.toNat]
def k0_off428 (v4941_r0 : BitVec 32) : Fin 2 → Nat :=
  let v4942_r0 : Index := Scalar.indexCast v4941_r0
  let c0_2014_r0 : Index := 0#32
  ![v4942_r0.toNat, 0]

def k0_chk178 (v4941_r0 : BitVec 32) : Prop :=
  (∀ a, (k0_off428 v4941_r0) a + S1x128.size a ≤ S16000x128.size a)
theorem k0_off428_inb : ∀ (v4941_r0 : BitVec 32) (k0_hw178 : k0_chk178 v4941_r0), ∀ a, (k0_off428 v4941_r0) a + S1x128.size a ≤ S16000x128.size a := fun v4941_r0 k0_hw178 => k0_hw178

def k0_off429 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c50_i32_r0 : BitVec 32 := 50#32
  let v4947_r0 : BitVec 32 := Scalar.addi v4546_r0 c50_i32_r0
  let v4948_r0 : Index := Scalar.indexCast v4947_r0
  ![v4948_r0.toNat]
def k0_off430 (v4949_r0 : BitVec 32) : Fin 2 → Nat :=
  let v4950_r0 : Index := Scalar.indexCast v4949_r0
  let c0_2017_r0 : Index := 0#32
  ![v4950_r0.toNat, 0]

def k0_chk179 (v4949_r0 : BitVec 32) : Prop :=
  (∀ a, (k0_off430 v4949_r0) a + S1x128.size a ≤ S16000x128.size a)
theorem k0_off430_inb : ∀ (v4949_r0 : BitVec 32) (k0_hw179 : k0_chk179 v4949_r0), ∀ a, (k0_off430 v4949_r0) a + S1x128.size a ≤ S16000x128.size a := fun v4949_r0 k0_hw179 => k0_hw179

def k0_off431 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c51_i32_r0 : BitVec 32 := 51#32
  let v4955_r0 : BitVec 32 := Scalar.addi v4546_r0 c51_i32_r0
  let v4956_r0 : Index := Scalar.indexCast v4955_r0
  ![v4956_r0.toNat]
def k0_off432 (v4957_r0 : BitVec 32) : Fin 2 → Nat :=
  let v4958_r0 : Index := Scalar.indexCast v4957_r0
  let c0_2020_r0 : Index := 0#32
  ![v4958_r0.toNat, 0]

def k0_chk180 (v4957_r0 : BitVec 32) : Prop :=
  (∀ a, (k0_off432 v4957_r0) a + S1x128.size a ≤ S16000x128.size a)
theorem k0_off432_inb : ∀ (v4957_r0 : BitVec 32) (k0_hw180 : k0_chk180 v4957_r0), ∀ a, (k0_off432 v4957_r0) a + S1x128.size a ≤ S16000x128.size a := fun v4957_r0 k0_hw180 => k0_hw180

def k0_off433 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c52_i32_r0 : BitVec 32 := 52#32
  let v4963_r0 : BitVec 32 := Scalar.addi v4546_r0 c52_i32_r0
  let v4964_r0 : Index := Scalar.indexCast v4963_r0
  ![v4964_r0.toNat]
def k0_off434 (v4965_r0 : BitVec 32) : Fin 2 → Nat :=
  let v4966_r0 : Index := Scalar.indexCast v4965_r0
  let c0_2023_r0 : Index := 0#32
  ![v4966_r0.toNat, 0]

def k0_chk181 (v4965_r0 : BitVec 32) : Prop :=
  (∀ a, (k0_off434 v4965_r0) a + S1x128.size a ≤ S16000x128.size a)
theorem k0_off434_inb : ∀ (v4965_r0 : BitVec 32) (k0_hw181 : k0_chk181 v4965_r0), ∀ a, (k0_off434 v4965_r0) a + S1x128.size a ≤ S16000x128.size a := fun v4965_r0 k0_hw181 => k0_hw181

def k0_off435 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c53_i32_r0 : BitVec 32 := 53#32
  let v4971_r0 : BitVec 32 := Scalar.addi v4546_r0 c53_i32_r0
  let v4972_r0 : Index := Scalar.indexCast v4971_r0
  ![v4972_r0.toNat]
def k0_off436 (v4973_r0 : BitVec 32) : Fin 2 → Nat :=
  let v4974_r0 : Index := Scalar.indexCast v4973_r0
  let c0_2026_r0 : Index := 0#32
  ![v4974_r0.toNat, 0]

def k0_chk182 (v4973_r0 : BitVec 32) : Prop :=
  (∀ a, (k0_off436 v4973_r0) a + S1x128.size a ≤ S16000x128.size a)
theorem k0_off436_inb : ∀ (v4973_r0 : BitVec 32) (k0_hw182 : k0_chk182 v4973_r0), ∀ a, (k0_off436 v4973_r0) a + S1x128.size a ≤ S16000x128.size a := fun v4973_r0 k0_hw182 => k0_hw182

def k0_off437 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c54_i32_r0 : BitVec 32 := 54#32
  let v4979_r0 : BitVec 32 := Scalar.addi v4546_r0 c54_i32_r0
  let v4980_r0 : Index := Scalar.indexCast v4979_r0
  ![v4980_r0.toNat]
def k0_off438 (v4981_r0 : BitVec 32) : Fin 2 → Nat :=
  let v4982_r0 : Index := Scalar.indexCast v4981_r0
  let c0_2029_r0 : Index := 0#32
  ![v4982_r0.toNat, 0]

def k0_chk183 (v4981_r0 : BitVec 32) : Prop :=
  (∀ a, (k0_off438 v4981_r0) a + S1x128.size a ≤ S16000x128.size a)
theorem k0_off438_inb : ∀ (v4981_r0 : BitVec 32) (k0_hw183 : k0_chk183 v4981_r0), ∀ a, (k0_off438 v4981_r0) a + S1x128.size a ≤ S16000x128.size a := fun v4981_r0 k0_hw183 => k0_hw183

def k0_off439 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c55_i32_r0 : BitVec 32 := 55#32
  let v4987_r0 : BitVec 32 := Scalar.addi v4546_r0 c55_i32_r0
  let v4988_r0 : Index := Scalar.indexCast v4987_r0
  ![v4988_r0.toNat]
def k0_off440 (v4989_r0 : BitVec 32) : Fin 2 → Nat :=
  let v4990_r0 : Index := Scalar.indexCast v4989_r0
  let c0_2032_r0 : Index := 0#32
  ![v4990_r0.toNat, 0]

def k0_chk184 (v4989_r0 : BitVec 32) : Prop :=
  (∀ a, (k0_off440 v4989_r0) a + S1x128.size a ≤ S16000x128.size a)
theorem k0_off440_inb : ∀ (v4989_r0 : BitVec 32) (k0_hw184 : k0_chk184 v4989_r0), ∀ a, (k0_off440 v4989_r0) a + S1x128.size a ≤ S16000x128.size a := fun v4989_r0 k0_hw184 => k0_hw184

def k0_off441 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c56_i32_2035_r0 : BitVec 32 := 56#32
  let v4995_r0 : BitVec 32 := Scalar.addi v4546_r0 c56_i32_2035_r0
  let v4996_r0 : Index := Scalar.indexCast v4995_r0
  ![v4996_r0.toNat]
def k0_off442 (v4997_r0 : BitVec 32) : Fin 2 → Nat :=
  let v4998_r0 : Index := Scalar.indexCast v4997_r0
  let c0_2036_r0 : Index := 0#32
  ![v4998_r0.toNat, 0]

def k0_chk185 (v4997_r0 : BitVec 32) : Prop :=
  (∀ a, (k0_off442 v4997_r0) a + S1x128.size a ≤ S16000x128.size a)
theorem k0_off442_inb : ∀ (v4997_r0 : BitVec 32) (k0_hw185 : k0_chk185 v4997_r0), ∀ a, (k0_off442 v4997_r0) a + S1x128.size a ≤ S16000x128.size a := fun v4997_r0 k0_hw185 => k0_hw185

def k0_off443 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c57_i32_r0 : BitVec 32 := 57#32
  let v5003_r0 : BitVec 32 := Scalar.addi v4546_r0 c57_i32_r0
  let v5004_r0 : Index := Scalar.indexCast v5003_r0
  ![v5004_r0.toNat]
def k0_off444 (v5005_r0 : BitVec 32) : Fin 2 → Nat :=
  let v5006_r0 : Index := Scalar.indexCast v5005_r0
  let c0_2039_r0 : Index := 0#32
  ![v5006_r0.toNat, 0]

def k0_chk186 (v5005_r0 : BitVec 32) : Prop :=
  (∀ a, (k0_off444 v5005_r0) a + S1x128.size a ≤ S16000x128.size a)
theorem k0_off444_inb : ∀ (v5005_r0 : BitVec 32) (k0_hw186 : k0_chk186 v5005_r0), ∀ a, (k0_off444 v5005_r0) a + S1x128.size a ≤ S16000x128.size a := fun v5005_r0 k0_hw186 => k0_hw186

def k0_off445 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c58_i32_r0 : BitVec 32 := 58#32
  let v5011_r0 : BitVec 32 := Scalar.addi v4546_r0 c58_i32_r0
  let v5012_r0 : Index := Scalar.indexCast v5011_r0
  ![v5012_r0.toNat]
def k0_off446 (v5013_r0 : BitVec 32) : Fin 2 → Nat :=
  let v5014_r0 : Index := Scalar.indexCast v5013_r0
  let c0_2042_r0 : Index := 0#32
  ![v5014_r0.toNat, 0]

def k0_chk187 (v5013_r0 : BitVec 32) : Prop :=
  (∀ a, (k0_off446 v5013_r0) a + S1x128.size a ≤ S16000x128.size a)
theorem k0_off446_inb : ∀ (v5013_r0 : BitVec 32) (k0_hw187 : k0_chk187 v5013_r0), ∀ a, (k0_off446 v5013_r0) a + S1x128.size a ≤ S16000x128.size a := fun v5013_r0 k0_hw187 => k0_hw187

def k0_off447 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c59_i32_r0 : BitVec 32 := 59#32
  let v5019_r0 : BitVec 32 := Scalar.addi v4546_r0 c59_i32_r0
  let v5020_r0 : Index := Scalar.indexCast v5019_r0
  ![v5020_r0.toNat]
def k0_off448 (v5021_r0 : BitVec 32) : Fin 2 → Nat :=
  let v5022_r0 : Index := Scalar.indexCast v5021_r0
  let c0_2045_r0 : Index := 0#32
  ![v5022_r0.toNat, 0]

def k0_chk188 (v5021_r0 : BitVec 32) : Prop :=
  (∀ a, (k0_off448 v5021_r0) a + S1x128.size a ≤ S16000x128.size a)
theorem k0_off448_inb : ∀ (v5021_r0 : BitVec 32) (k0_hw188 : k0_chk188 v5021_r0), ∀ a, (k0_off448 v5021_r0) a + S1x128.size a ≤ S16000x128.size a := fun v5021_r0 k0_hw188 => k0_hw188

def k0_off449 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c60_i32_r0 : BitVec 32 := 60#32
  let v5027_r0 : BitVec 32 := Scalar.addi v4546_r0 c60_i32_r0
  let v5028_r0 : Index := Scalar.indexCast v5027_r0
  ![v5028_r0.toNat]
def k0_off450 (v5029_r0 : BitVec 32) : Fin 2 → Nat :=
  let v5030_r0 : Index := Scalar.indexCast v5029_r0
  let c0_2048_r0 : Index := 0#32
  ![v5030_r0.toNat, 0]

def k0_chk189 (v5029_r0 : BitVec 32) : Prop :=
  (∀ a, (k0_off450 v5029_r0) a + S1x128.size a ≤ S16000x128.size a)
theorem k0_off450_inb : ∀ (v5029_r0 : BitVec 32) (k0_hw189 : k0_chk189 v5029_r0), ∀ a, (k0_off450 v5029_r0) a + S1x128.size a ≤ S16000x128.size a := fun v5029_r0 k0_hw189 => k0_hw189

def k0_off451 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c61_i32_r0 : BitVec 32 := 61#32
  let v5035_r0 : BitVec 32 := Scalar.addi v4546_r0 c61_i32_r0
  let v5036_r0 : Index := Scalar.indexCast v5035_r0
  ![v5036_r0.toNat]
def k0_off452 (v5037_r0 : BitVec 32) : Fin 2 → Nat :=
  let v5038_r0 : Index := Scalar.indexCast v5037_r0
  let c0_2051_r0 : Index := 0#32
  ![v5038_r0.toNat, 0]

def k0_chk190 (v5037_r0 : BitVec 32) : Prop :=
  (∀ a, (k0_off452 v5037_r0) a + S1x128.size a ≤ S16000x128.size a)
theorem k0_off452_inb : ∀ (v5037_r0 : BitVec 32) (k0_hw190 : k0_chk190 v5037_r0), ∀ a, (k0_off452 v5037_r0) a + S1x128.size a ≤ S16000x128.size a := fun v5037_r0 k0_hw190 => k0_hw190

def k0_off453 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c62_i32_r0 : BitVec 32 := 62#32
  let v5043_r0 : BitVec 32 := Scalar.addi v4546_r0 c62_i32_r0
  let v5044_r0 : Index := Scalar.indexCast v5043_r0
  ![v5044_r0.toNat]
def k0_off454 (v5045_r0 : BitVec 32) : Fin 2 → Nat :=
  let v5046_r0 : Index := Scalar.indexCast v5045_r0
  let c0_2054_r0 : Index := 0#32
  ![v5046_r0.toNat, 0]

def k0_chk191 (v5045_r0 : BitVec 32) : Prop :=
  (∀ a, (k0_off454 v5045_r0) a + S1x128.size a ≤ S16000x128.size a)
theorem k0_off454_inb : ∀ (v5045_r0 : BitVec 32) (k0_hw191 : k0_chk191 v5045_r0), ∀ a, (k0_off454 v5045_r0) a + S1x128.size a ≤ S16000x128.size a := fun v5045_r0 k0_hw191 => k0_hw191

def k0_off455 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c63_i32_2057_r0 : BitVec 32 := 63#32
  let v5051_r0 : BitVec 32 := Scalar.addi v4546_r0 c63_i32_2057_r0
  let v5052_r0 : Index := Scalar.indexCast v5051_r0
  ![v5052_r0.toNat]
def k0_off456 (v5053_r0 : BitVec 32) : Fin 2 → Nat :=
  let v5054_r0 : Index := Scalar.indexCast v5053_r0
  let c0_2058_r0 : Index := 0#32
  ![v5054_r0.toNat, 0]

def k0_chk192 (v5053_r0 : BitVec 32) : Prop :=
  (∀ a, (k0_off456 v5053_r0) a + S1x128.size a ≤ S16000x128.size a)
theorem k0_off456_inb : ∀ (v5053_r0 : BitVec 32) (k0_hw192 : k0_chk192 v5053_r0), ∀ a, (k0_off456 v5053_r0) a + S1x128.size a ≤ S16000x128.size a := fun v5053_r0 k0_hw192 => k0_hw192

def k0_off457 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2569_r0 : BitVec 32 := 10#32
  let v6603_r0 : BitVec 32 := Scalar.addi v4533_r0 c10_i32_2569_r0
  let c64_i32_2571_r0 : BitVec 32 := 64#32
  let v6605_r0 : BitVec 32 := Scalar.muli v6603_r0 c64_i32_2571_r0
  let c0_i32_2572_r0 : BitVec 32 := 0#32
  let v6606_r0 : BitVec 32 := Scalar.addi v6605_r0 c0_i32_2572_r0
  let v6607_r0 : Index := Scalar.indexCast v6606_r0
  ![v6607_r0.toNat]
def k0_off458 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2569_r0 : BitVec 32 := 10#32
  let v6603_r0 : BitVec 32 := Scalar.addi v4533_r0 c10_i32_2569_r0
  let c11_i32_2570_r0 : BitVec 32 := 11#32
  let v6604_r0 : BitVec 32 := Scalar.remsi v6603_r0 c11_i32_2570_r0
  ![v6604_r0.toNat]
def k0_off459 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2569_r0 : BitVec 32 := 10#32
  let v6603_r0 : BitVec 32 := Scalar.addi v4533_r0 c10_i32_2569_r0
  let c11_i32_2570_r0 : BitVec 32 := 11#32
  let v6604_r0 : BitVec 32 := Scalar.remsi v6603_r0 c11_i32_2570_r0
  let c0_i32_2574_r0 : BitVec 32 := 0#32
  let c0_i32_2575_r0 : BitVec 32 := 0#32
  ![v6604_r0.toNat, 0, 0]
def k0_off460 (v6608_r0 : BitVec 32) : Fin 2 → Nat :=
  let c2_i32_2573_r0 : BitVec 32 := 2#32
  let v6609_r0 : BitVec 32 := Scalar.shrsi v6608_r0 c2_i32_2573_r0
  let c0_i32_2578_r0 : BitVec 32 := 0#32
  ![v6609_r0.toNat, 0]

def k0_chk193 (v6608_r0 : BitVec 32) : Prop :=
  (∀ a, (k0_off460 v6608_r0) a + S1x2560.size a ≤ S4000x2560.size a)
theorem k0_off460_inb : ∀ (v6608_r0 : BitVec 32) (k0_hw193 : k0_chk193 v6608_r0), ∀ a, (k0_off460 v6608_r0) a + S1x2560.size a ≤ S4000x2560.size a := fun v6608_r0 k0_hw193 => k0_hw193

def k0_off461 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2569_r0 : BitVec 32 := 10#32
  let v6603_r0 : BitVec 32 := Scalar.addi v4533_r0 c10_i32_2569_r0
  let c64_i32_2571_r0 : BitVec 32 := 64#32
  let v6605_r0 : BitVec 32 := Scalar.muli v6603_r0 c64_i32_2571_r0
  let c1_i32_2579_r0 : BitVec 32 := 1#32
  let v6616_r0 : BitVec 32 := Scalar.addi v6605_r0 c1_i32_2579_r0
  let v6617_r0 : Index := Scalar.indexCast v6616_r0
  ![v6617_r0.toNat]
def k0_off462 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2569_r0 : BitVec 32 := 10#32
  let v6603_r0 : BitVec 32 := Scalar.addi v4533_r0 c10_i32_2569_r0
  let c11_i32_2570_r0 : BitVec 32 := 11#32
  let v6604_r0 : BitVec 32 := Scalar.remsi v6603_r0 c11_i32_2570_r0
  ![v6604_r0.toNat]
def k0_off463 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2569_r0 : BitVec 32 := 10#32
  let v6603_r0 : BitVec 32 := Scalar.addi v4533_r0 c10_i32_2569_r0
  let c11_i32_2570_r0 : BitVec 32 := 11#32
  let v6604_r0 : BitVec 32 := Scalar.remsi v6603_r0 c11_i32_2570_r0
  let c0_i32_2581_r0 : BitVec 32 := 0#32
  let c0_i32_2582_r0 : BitVec 32 := 0#32
  ![v6604_r0.toNat, 0, 0]
def k0_off464 (v6618_r0 : BitVec 32) : Fin 2 → Nat :=
  let c2_i32_2580_r0 : BitVec 32 := 2#32
  let v6619_r0 : BitVec 32 := Scalar.shrsi v6618_r0 c2_i32_2580_r0
  let c0_i32_2585_r0 : BitVec 32 := 0#32
  ![v6619_r0.toNat, 0]

def k0_chk194 (v6618_r0 : BitVec 32) : Prop :=
  (∀ a, (k0_off464 v6618_r0) a + S1x2560.size a ≤ S4000x2560.size a)
theorem k0_off464_inb : ∀ (v6618_r0 : BitVec 32) (k0_hw194 : k0_chk194 v6618_r0), ∀ a, (k0_off464 v6618_r0) a + S1x2560.size a ≤ S4000x2560.size a := fun v6618_r0 k0_hw194 => k0_hw194

def k0_off465 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2569_r0 : BitVec 32 := 10#32
  let v6603_r0 : BitVec 32 := Scalar.addi v4533_r0 c10_i32_2569_r0
  let c64_i32_2571_r0 : BitVec 32 := 64#32
  let v6605_r0 : BitVec 32 := Scalar.muli v6603_r0 c64_i32_2571_r0
  let c2_i32_2586_r0 : BitVec 32 := 2#32
  let v6626_r0 : BitVec 32 := Scalar.addi v6605_r0 c2_i32_2586_r0
  let v6627_r0 : Index := Scalar.indexCast v6626_r0
  ![v6627_r0.toNat]
def k0_off466 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2569_r0 : BitVec 32 := 10#32
  let v6603_r0 : BitVec 32 := Scalar.addi v4533_r0 c10_i32_2569_r0
  let c11_i32_2570_r0 : BitVec 32 := 11#32
  let v6604_r0 : BitVec 32 := Scalar.remsi v6603_r0 c11_i32_2570_r0
  ![v6604_r0.toNat]
def k0_off467 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2569_r0 : BitVec 32 := 10#32
  let v6603_r0 : BitVec 32 := Scalar.addi v4533_r0 c10_i32_2569_r0
  let c11_i32_2570_r0 : BitVec 32 := 11#32
  let v6604_r0 : BitVec 32 := Scalar.remsi v6603_r0 c11_i32_2570_r0
  let c0_i32_2588_r0 : BitVec 32 := 0#32
  let c0_i32_2589_r0 : BitVec 32 := 0#32
  ![v6604_r0.toNat, 0, 0]
def k0_off468 (v6628_r0 : BitVec 32) : Fin 2 → Nat :=
  let c2_i32_2587_r0 : BitVec 32 := 2#32
  let v6629_r0 : BitVec 32 := Scalar.shrsi v6628_r0 c2_i32_2587_r0
  let c0_i32_2592_r0 : BitVec 32 := 0#32
  ![v6629_r0.toNat, 0]

def k0_chk195 (v6628_r0 : BitVec 32) : Prop :=
  (∀ a, (k0_off468 v6628_r0) a + S1x2560.size a ≤ S4000x2560.size a)
theorem k0_off468_inb : ∀ (v6628_r0 : BitVec 32) (k0_hw195 : k0_chk195 v6628_r0), ∀ a, (k0_off468 v6628_r0) a + S1x2560.size a ≤ S4000x2560.size a := fun v6628_r0 k0_hw195 => k0_hw195

def k0_off469 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v6636_r0 : Index := Scalar.indexCast v4534_r0
  let c0_2593_r0 : Index := 0#32
  let c0_2594_r0 : Index := 0#32
  ![v6636_r0.toNat, 0, 0]
def k0_off470 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2651_r0 : BitVec 32 := 10#32
  let v6775_r0 : BitVec 32 := Scalar.addi v4533_r0 c10_i32_2651_r0
  let c64_i32_2653_r0 : BitVec 32 := 64#32
  let v6777_r0 : BitVec 32 := Scalar.muli v6775_r0 c64_i32_2653_r0
  let c3_i32_2654_r0 : BitVec 32 := 3#32
  let v6778_r0 : BitVec 32 := Scalar.addi v6777_r0 c3_i32_2654_r0
  let v6779_r0 : Index := Scalar.indexCast v6778_r0
  ![v6779_r0.toNat]
def k0_off471 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2651_r0 : BitVec 32 := 10#32
  let v6775_r0 : BitVec 32 := Scalar.addi v4533_r0 c10_i32_2651_r0
  let c11_i32_2652_r0 : BitVec 32 := 11#32
  let v6776_r0 : BitVec 32 := Scalar.remsi v6775_r0 c11_i32_2652_r0
  ![v6776_r0.toNat]
def k0_off472 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2651_r0 : BitVec 32 := 10#32
  let v6775_r0 : BitVec 32 := Scalar.addi v4533_r0 c10_i32_2651_r0
  let c11_i32_2652_r0 : BitVec 32 := 11#32
  let v6776_r0 : BitVec 32 := Scalar.remsi v6775_r0 c11_i32_2652_r0
  let c0_i32_2656_r0 : BitVec 32 := 0#32
  let c0_i32_2657_r0 : BitVec 32 := 0#32
  ![v6776_r0.toNat, 0, 0]
def k0_off473 (v6780_r0 : BitVec 32) : Fin 2 → Nat :=
  let c2_i32_2655_r0 : BitVec 32 := 2#32
  let v6781_r0 : BitVec 32 := Scalar.shrsi v6780_r0 c2_i32_2655_r0
  let c0_i32_2660_r0 : BitVec 32 := 0#32
  ![v6781_r0.toNat, 0]

def k0_chk196 (v6780_r0 : BitVec 32) : Prop :=
  (∀ a, (k0_off473 v6780_r0) a + S1x2560.size a ≤ S4000x2560.size a)
theorem k0_off473_inb : ∀ (v6780_r0 : BitVec 32) (k0_hw196 : k0_chk196 v6780_r0), ∀ a, (k0_off473 v6780_r0) a + S1x2560.size a ≤ S4000x2560.size a := fun v6780_r0 k0_hw196 => k0_hw196

def k0_off474 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2651_r0 : BitVec 32 := 10#32
  let v6775_r0 : BitVec 32 := Scalar.addi v4533_r0 c10_i32_2651_r0
  let c64_i32_2653_r0 : BitVec 32 := 64#32
  let v6777_r0 : BitVec 32 := Scalar.muli v6775_r0 c64_i32_2653_r0
  let c4_i32_2661_r0 : BitVec 32 := 4#32
  let v6788_r0 : BitVec 32 := Scalar.addi v6777_r0 c4_i32_2661_r0
  let v6789_r0 : Index := Scalar.indexCast v6788_r0
  ![v6789_r0.toNat]
def k0_off475 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2651_r0 : BitVec 32 := 10#32
  let v6775_r0 : BitVec 32 := Scalar.addi v4533_r0 c10_i32_2651_r0
  let c11_i32_2652_r0 : BitVec 32 := 11#32
  let v6776_r0 : BitVec 32 := Scalar.remsi v6775_r0 c11_i32_2652_r0
  ![v6776_r0.toNat]
def k0_off476 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2651_r0 : BitVec 32 := 10#32
  let v6775_r0 : BitVec 32 := Scalar.addi v4533_r0 c10_i32_2651_r0
  let c11_i32_2652_r0 : BitVec 32 := 11#32
  let v6776_r0 : BitVec 32 := Scalar.remsi v6775_r0 c11_i32_2652_r0
  let c0_i32_2663_r0 : BitVec 32 := 0#32
  let c0_i32_2664_r0 : BitVec 32 := 0#32
  ![v6776_r0.toNat, 0, 0]
def k0_off477 (v6790_r0 : BitVec 32) : Fin 2 → Nat :=
  let c2_i32_2662_r0 : BitVec 32 := 2#32
  let v6791_r0 : BitVec 32 := Scalar.shrsi v6790_r0 c2_i32_2662_r0
  let c0_i32_2667_r0 : BitVec 32 := 0#32
  ![v6791_r0.toNat, 0]

def k0_chk197 (v6790_r0 : BitVec 32) : Prop :=
  (∀ a, (k0_off477 v6790_r0) a + S1x2560.size a ≤ S4000x2560.size a)
theorem k0_off477_inb : ∀ (v6790_r0 : BitVec 32) (k0_hw197 : k0_chk197 v6790_r0), ∀ a, (k0_off477 v6790_r0) a + S1x2560.size a ≤ S4000x2560.size a := fun v6790_r0 k0_hw197 => k0_hw197

def k0_off478 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2651_r0 : BitVec 32 := 10#32
  let v6775_r0 : BitVec 32 := Scalar.addi v4533_r0 c10_i32_2651_r0
  let c64_i32_2653_r0 : BitVec 32 := 64#32
  let v6777_r0 : BitVec 32 := Scalar.muli v6775_r0 c64_i32_2653_r0
  let c5_i32_2668_r0 : BitVec 32 := 5#32
  let v6798_r0 : BitVec 32 := Scalar.addi v6777_r0 c5_i32_2668_r0
  let v6799_r0 : Index := Scalar.indexCast v6798_r0
  ![v6799_r0.toNat]
def k0_off479 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2651_r0 : BitVec 32 := 10#32
  let v6775_r0 : BitVec 32 := Scalar.addi v4533_r0 c10_i32_2651_r0
  let c11_i32_2652_r0 : BitVec 32 := 11#32
  let v6776_r0 : BitVec 32 := Scalar.remsi v6775_r0 c11_i32_2652_r0
  ![v6776_r0.toNat]
def k0_off480 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2651_r0 : BitVec 32 := 10#32
  let v6775_r0 : BitVec 32 := Scalar.addi v4533_r0 c10_i32_2651_r0
  let c11_i32_2652_r0 : BitVec 32 := 11#32
  let v6776_r0 : BitVec 32 := Scalar.remsi v6775_r0 c11_i32_2652_r0
  let c0_i32_2670_r0 : BitVec 32 := 0#32
  let c0_i32_2671_r0 : BitVec 32 := 0#32
  ![v6776_r0.toNat, 0, 0]
def k0_off481 (v6800_r0 : BitVec 32) : Fin 2 → Nat :=
  let c2_i32_2669_r0 : BitVec 32 := 2#32
  let v6801_r0 : BitVec 32 := Scalar.shrsi v6800_r0 c2_i32_2669_r0
  let c0_i32_2674_r0 : BitVec 32 := 0#32
  ![v6801_r0.toNat, 0]

def k0_chk198 (v6800_r0 : BitVec 32) : Prop :=
  (∀ a, (k0_off481 v6800_r0) a + S1x2560.size a ≤ S4000x2560.size a)
theorem k0_off481_inb : ∀ (v6800_r0 : BitVec 32) (k0_hw198 : k0_chk198 v6800_r0), ∀ a, (k0_off481 v6800_r0) a + S1x2560.size a ≤ S4000x2560.size a := fun v6800_r0 k0_hw198 => k0_hw198

def k0_off482 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v6808_r0 : Index := Scalar.indexCast v4534_r0
  let c0_2675_r0 : Index := 0#32
  let c128_r0 : Index := 128#32
  ![v6808_r0.toNat, 0, 128]
def k0_off483 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2735_r0 : BitVec 32 := 10#32
  let v6947_r0 : BitVec 32 := Scalar.addi v4533_r0 c10_i32_2735_r0
  let c64_i32_2737_r0 : BitVec 32 := 64#32
  let v6949_r0 : BitVec 32 := Scalar.muli v6947_r0 c64_i32_2737_r0
  let c6_i32_2738_r0 : BitVec 32 := 6#32
  let v6950_r0 : BitVec 32 := Scalar.addi v6949_r0 c6_i32_2738_r0
  let v6951_r0 : Index := Scalar.indexCast v6950_r0
  ![v6951_r0.toNat]
def k0_off484 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2735_r0 : BitVec 32 := 10#32
  let v6947_r0 : BitVec 32 := Scalar.addi v4533_r0 c10_i32_2735_r0
  let c11_i32_2736_r0 : BitVec 32 := 11#32
  let v6948_r0 : BitVec 32 := Scalar.remsi v6947_r0 c11_i32_2736_r0
  ![v6948_r0.toNat]
def k0_off485 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2735_r0 : BitVec 32 := 10#32
  let v6947_r0 : BitVec 32 := Scalar.addi v4533_r0 c10_i32_2735_r0
  let c11_i32_2736_r0 : BitVec 32 := 11#32
  let v6948_r0 : BitVec 32 := Scalar.remsi v6947_r0 c11_i32_2736_r0
  let c0_i32_2740_r0 : BitVec 32 := 0#32
  let c0_i32_2741_r0 : BitVec 32 := 0#32
  ![v6948_r0.toNat, 0, 0]
def k0_off486 (v6952_r0 : BitVec 32) : Fin 2 → Nat :=
  let c2_i32_2739_r0 : BitVec 32 := 2#32
  let v6953_r0 : BitVec 32 := Scalar.shrsi v6952_r0 c2_i32_2739_r0
  let c0_i32_2744_r0 : BitVec 32 := 0#32
  ![v6953_r0.toNat, 0]

def k0_chk199 (v6952_r0 : BitVec 32) : Prop :=
  (∀ a, (k0_off486 v6952_r0) a + S1x2560.size a ≤ S4000x2560.size a)
theorem k0_off486_inb : ∀ (v6952_r0 : BitVec 32) (k0_hw199 : k0_chk199 v6952_r0), ∀ a, (k0_off486 v6952_r0) a + S1x2560.size a ≤ S4000x2560.size a := fun v6952_r0 k0_hw199 => k0_hw199

def k0_off487 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2735_r0 : BitVec 32 := 10#32
  let v6947_r0 : BitVec 32 := Scalar.addi v4533_r0 c10_i32_2735_r0
  let c64_i32_2737_r0 : BitVec 32 := 64#32
  let v6949_r0 : BitVec 32 := Scalar.muli v6947_r0 c64_i32_2737_r0
  let c7_i32_2745_r0 : BitVec 32 := 7#32
  let v6960_r0 : BitVec 32 := Scalar.addi v6949_r0 c7_i32_2745_r0
  let v6961_r0 : Index := Scalar.indexCast v6960_r0
  ![v6961_r0.toNat]
def k0_off488 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2735_r0 : BitVec 32 := 10#32
  let v6947_r0 : BitVec 32 := Scalar.addi v4533_r0 c10_i32_2735_r0
  let c11_i32_2736_r0 : BitVec 32 := 11#32
  let v6948_r0 : BitVec 32 := Scalar.remsi v6947_r0 c11_i32_2736_r0
  ![v6948_r0.toNat]
def k0_off489 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2735_r0 : BitVec 32 := 10#32
  let v6947_r0 : BitVec 32 := Scalar.addi v4533_r0 c10_i32_2735_r0
  let c11_i32_2736_r0 : BitVec 32 := 11#32
  let v6948_r0 : BitVec 32 := Scalar.remsi v6947_r0 c11_i32_2736_r0
  let c0_i32_2747_r0 : BitVec 32 := 0#32
  let c0_i32_2748_r0 : BitVec 32 := 0#32
  ![v6948_r0.toNat, 0, 0]
def k0_off490 (v6962_r0 : BitVec 32) : Fin 2 → Nat :=
  let c2_i32_2746_r0 : BitVec 32 := 2#32
  let v6963_r0 : BitVec 32 := Scalar.shrsi v6962_r0 c2_i32_2746_r0
  let c0_i32_2751_r0 : BitVec 32 := 0#32
  ![v6963_r0.toNat, 0]

def k0_chk200 (v6962_r0 : BitVec 32) : Prop :=
  (∀ a, (k0_off490 v6962_r0) a + S1x2560.size a ≤ S4000x2560.size a)
theorem k0_off490_inb : ∀ (v6962_r0 : BitVec 32) (k0_hw200 : k0_chk200 v6962_r0), ∀ a, (k0_off490 v6962_r0) a + S1x2560.size a ≤ S4000x2560.size a := fun v6962_r0 k0_hw200 => k0_hw200

def k0_off491 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2735_r0 : BitVec 32 := 10#32
  let v6947_r0 : BitVec 32 := Scalar.addi v4533_r0 c10_i32_2735_r0
  let c64_i32_2737_r0 : BitVec 32 := 64#32
  let v6949_r0 : BitVec 32 := Scalar.muli v6947_r0 c64_i32_2737_r0
  let c8_i32_2752_r0 : BitVec 32 := 8#32
  let v6970_r0 : BitVec 32 := Scalar.addi v6949_r0 c8_i32_2752_r0
  let v6971_r0 : Index := Scalar.indexCast v6970_r0
  ![v6971_r0.toNat]
def k0_off492 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2735_r0 : BitVec 32 := 10#32
  let v6947_r0 : BitVec 32 := Scalar.addi v4533_r0 c10_i32_2735_r0
  let c11_i32_2736_r0 : BitVec 32 := 11#32
  let v6948_r0 : BitVec 32 := Scalar.remsi v6947_r0 c11_i32_2736_r0
  ![v6948_r0.toNat]
def k0_off493 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2735_r0 : BitVec 32 := 10#32
  let v6947_r0 : BitVec 32 := Scalar.addi v4533_r0 c10_i32_2735_r0
  let c11_i32_2736_r0 : BitVec 32 := 11#32
  let v6948_r0 : BitVec 32 := Scalar.remsi v6947_r0 c11_i32_2736_r0
  let c0_i32_2754_r0 : BitVec 32 := 0#32
  let c0_i32_2755_r0 : BitVec 32 := 0#32
  ![v6948_r0.toNat, 0, 0]
def k0_off494 (v6972_r0 : BitVec 32) : Fin 2 → Nat :=
  let c2_i32_2753_r0 : BitVec 32 := 2#32
  let v6973_r0 : BitVec 32 := Scalar.shrsi v6972_r0 c2_i32_2753_r0
  let c0_i32_2758_r0 : BitVec 32 := 0#32
  ![v6973_r0.toNat, 0]

def k0_chk201 (v6972_r0 : BitVec 32) : Prop :=
  (∀ a, (k0_off494 v6972_r0) a + S1x2560.size a ≤ S4000x2560.size a)
theorem k0_off494_inb : ∀ (v6972_r0 : BitVec 32) (k0_hw201 : k0_chk201 v6972_r0), ∀ a, (k0_off494 v6972_r0) a + S1x2560.size a ≤ S4000x2560.size a := fun v6972_r0 k0_hw201 => k0_hw201

def k0_off495 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v6980_r0 : Index := Scalar.indexCast v4534_r0
  let c0_2759_r0 : Index := 0#32
  let c256_r0 : Index := 256#32
  ![v6980_r0.toNat, 0, 256]
def k0_off496 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2819_r0 : BitVec 32 := 10#32
  let v7119_r0 : BitVec 32 := Scalar.addi v4533_r0 c10_i32_2819_r0
  let c64_i32_2821_r0 : BitVec 32 := 64#32
  let v7121_r0 : BitVec 32 := Scalar.muli v7119_r0 c64_i32_2821_r0
  let c9_i32_2822_r0 : BitVec 32 := 9#32
  let v7122_r0 : BitVec 32 := Scalar.addi v7121_r0 c9_i32_2822_r0
  let v7123_r0 : Index := Scalar.indexCast v7122_r0
  ![v7123_r0.toNat]
def k0_off497 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2819_r0 : BitVec 32 := 10#32
  let v7119_r0 : BitVec 32 := Scalar.addi v4533_r0 c10_i32_2819_r0
  let c11_i32_2820_r0 : BitVec 32 := 11#32
  let v7120_r0 : BitVec 32 := Scalar.remsi v7119_r0 c11_i32_2820_r0
  ![v7120_r0.toNat]
def k0_off498 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2819_r0 : BitVec 32 := 10#32
  let v7119_r0 : BitVec 32 := Scalar.addi v4533_r0 c10_i32_2819_r0
  let c11_i32_2820_r0 : BitVec 32 := 11#32
  let v7120_r0 : BitVec 32 := Scalar.remsi v7119_r0 c11_i32_2820_r0
  let c0_i32_2824_r0 : BitVec 32 := 0#32
  let c0_i32_2825_r0 : BitVec 32 := 0#32
  ![v7120_r0.toNat, 0, 0]
def k0_off499 (v7124_r0 : BitVec 32) : Fin 2 → Nat :=
  let c2_i32_2823_r0 : BitVec 32 := 2#32
  let v7125_r0 : BitVec 32 := Scalar.shrsi v7124_r0 c2_i32_2823_r0
  let c0_i32_2828_r0 : BitVec 32 := 0#32
  ![v7125_r0.toNat, 0]

def k0_chk202 (v7124_r0 : BitVec 32) : Prop :=
  (∀ a, (k0_off499 v7124_r0) a + S1x2560.size a ≤ S4000x2560.size a)
theorem k0_off499_inb : ∀ (v7124_r0 : BitVec 32) (k0_hw202 : k0_chk202 v7124_r0), ∀ a, (k0_off499 v7124_r0) a + S1x2560.size a ≤ S4000x2560.size a := fun v7124_r0 k0_hw202 => k0_hw202

def k0_off500 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2819_r0 : BitVec 32 := 10#32
  let v7119_r0 : BitVec 32 := Scalar.addi v4533_r0 c10_i32_2819_r0
  let c64_i32_2821_r0 : BitVec 32 := 64#32
  let v7121_r0 : BitVec 32 := Scalar.muli v7119_r0 c64_i32_2821_r0
  let c10_i32_2829_r0 : BitVec 32 := 10#32
  let v7132_r0 : BitVec 32 := Scalar.addi v7121_r0 c10_i32_2829_r0
  let v7133_r0 : Index := Scalar.indexCast v7132_r0
  ![v7133_r0.toNat]
def k0_off501 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2819_r0 : BitVec 32 := 10#32
  let v7119_r0 : BitVec 32 := Scalar.addi v4533_r0 c10_i32_2819_r0
  let c11_i32_2820_r0 : BitVec 32 := 11#32
  let v7120_r0 : BitVec 32 := Scalar.remsi v7119_r0 c11_i32_2820_r0
  ![v7120_r0.toNat]
def k0_off502 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2819_r0 : BitVec 32 := 10#32
  let v7119_r0 : BitVec 32 := Scalar.addi v4533_r0 c10_i32_2819_r0
  let c11_i32_2820_r0 : BitVec 32 := 11#32
  let v7120_r0 : BitVec 32 := Scalar.remsi v7119_r0 c11_i32_2820_r0
  let c0_i32_2831_r0 : BitVec 32 := 0#32
  let c0_i32_2832_r0 : BitVec 32 := 0#32
  ![v7120_r0.toNat, 0, 0]
def k0_off503 (v7134_r0 : BitVec 32) : Fin 2 → Nat :=
  let c2_i32_2830_r0 : BitVec 32 := 2#32
  let v7135_r0 : BitVec 32 := Scalar.shrsi v7134_r0 c2_i32_2830_r0
  let c0_i32_2835_r0 : BitVec 32 := 0#32
  ![v7135_r0.toNat, 0]

def k0_chk203 (v7134_r0 : BitVec 32) : Prop :=
  (∀ a, (k0_off503 v7134_r0) a + S1x2560.size a ≤ S4000x2560.size a)
theorem k0_off503_inb : ∀ (v7134_r0 : BitVec 32) (k0_hw203 : k0_chk203 v7134_r0), ∀ a, (k0_off503 v7134_r0) a + S1x2560.size a ≤ S4000x2560.size a := fun v7134_r0 k0_hw203 => k0_hw203

def k0_off504 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2819_r0 : BitVec 32 := 10#32
  let v7119_r0 : BitVec 32 := Scalar.addi v4533_r0 c10_i32_2819_r0
  let c64_i32_2821_r0 : BitVec 32 := 64#32
  let v7121_r0 : BitVec 32 := Scalar.muli v7119_r0 c64_i32_2821_r0
  let c11_i32_2836_r0 : BitVec 32 := 11#32
  let v7142_r0 : BitVec 32 := Scalar.addi v7121_r0 c11_i32_2836_r0
  let v7143_r0 : Index := Scalar.indexCast v7142_r0
  ![v7143_r0.toNat]
def k0_off505 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2819_r0 : BitVec 32 := 10#32
  let v7119_r0 : BitVec 32 := Scalar.addi v4533_r0 c10_i32_2819_r0
  let c11_i32_2820_r0 : BitVec 32 := 11#32
  let v7120_r0 : BitVec 32 := Scalar.remsi v7119_r0 c11_i32_2820_r0
  ![v7120_r0.toNat]
def k0_off506 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2819_r0 : BitVec 32 := 10#32
  let v7119_r0 : BitVec 32 := Scalar.addi v4533_r0 c10_i32_2819_r0
  let c11_i32_2820_r0 : BitVec 32 := 11#32
  let v7120_r0 : BitVec 32 := Scalar.remsi v7119_r0 c11_i32_2820_r0
  let c0_i32_2838_r0 : BitVec 32 := 0#32
  let c0_i32_2839_r0 : BitVec 32 := 0#32
  ![v7120_r0.toNat, 0, 0]
def k0_off507 (v7144_r0 : BitVec 32) : Fin 2 → Nat :=
  let c2_i32_2837_r0 : BitVec 32 := 2#32
  let v7145_r0 : BitVec 32 := Scalar.shrsi v7144_r0 c2_i32_2837_r0
  let c0_i32_2842_r0 : BitVec 32 := 0#32
  ![v7145_r0.toNat, 0]

def k0_chk204 (v7144_r0 : BitVec 32) : Prop :=
  (∀ a, (k0_off507 v7144_r0) a + S1x2560.size a ≤ S4000x2560.size a)
theorem k0_off507_inb : ∀ (v7144_r0 : BitVec 32) (k0_hw204 : k0_chk204 v7144_r0), ∀ a, (k0_off507 v7144_r0) a + S1x2560.size a ≤ S4000x2560.size a := fun v7144_r0 k0_hw204 => k0_hw204

def k0_off508 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v7152_r0 : Index := Scalar.indexCast v4534_r0
  let c0_2843_r0 : Index := 0#32
  let c384_r0 : Index := 384#32
  ![v7152_r0.toNat, 0, 384]
def k0_off509 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c64_i32_2905_r0 : BitVec 32 := 64#32
  let v7293_r0 : BitVec 32 := Scalar.muli v7291_r0 c64_i32_2905_r0
  let c12_i32_2906_r0 : BitVec 32 := 12#32
  let v7294_r0 : BitVec 32 := Scalar.addi v7293_r0 c12_i32_2906_r0
  let v7295_r0 : Index := Scalar.indexCast v7294_r0
  ![v7295_r0.toNat]
def k0_off510 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c11_i32_2904_r0 : BitVec 32 := 11#32
  let v7292_r0 : BitVec 32 := Scalar.remsi v7291_r0 c11_i32_2904_r0
  ![v7292_r0.toNat]
def k0_off511 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c11_i32_2904_r0 : BitVec 32 := 11#32
  let v7292_r0 : BitVec 32 := Scalar.remsi v7291_r0 c11_i32_2904_r0
  let c0_i32_2908_r0 : BitVec 32 := 0#32
  let c0_i32_2909_r0 : BitVec 32 := 0#32
  ![v7292_r0.toNat, 0, 0]
def k0_off512 (v7296_r0 : BitVec 32) : Fin 2 → Nat :=
  let c2_i32_2907_r0 : BitVec 32 := 2#32
  let v7297_r0 : BitVec 32 := Scalar.shrsi v7296_r0 c2_i32_2907_r0
  let c0_i32_2912_r0 : BitVec 32 := 0#32
  ![v7297_r0.toNat, 0]

def k0_chk205 (v7296_r0 : BitVec 32) : Prop :=
  (∀ a, (k0_off512 v7296_r0) a + S1x2560.size a ≤ S4000x2560.size a)
theorem k0_off512_inb : ∀ (v7296_r0 : BitVec 32) (k0_hw205 : k0_chk205 v7296_r0), ∀ a, (k0_off512 v7296_r0) a + S1x2560.size a ≤ S4000x2560.size a := fun v7296_r0 k0_hw205 => k0_hw205

def k0_off513 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c64_i32_2905_r0 : BitVec 32 := 64#32
  let v7293_r0 : BitVec 32 := Scalar.muli v7291_r0 c64_i32_2905_r0
  let c13_i32_2913_r0 : BitVec 32 := 13#32
  let v7304_r0 : BitVec 32 := Scalar.addi v7293_r0 c13_i32_2913_r0
  let v7305_r0 : Index := Scalar.indexCast v7304_r0
  ![v7305_r0.toNat]
def k0_off514 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c11_i32_2904_r0 : BitVec 32 := 11#32
  let v7292_r0 : BitVec 32 := Scalar.remsi v7291_r0 c11_i32_2904_r0
  ![v7292_r0.toNat]
def k0_off515 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c11_i32_2904_r0 : BitVec 32 := 11#32
  let v7292_r0 : BitVec 32 := Scalar.remsi v7291_r0 c11_i32_2904_r0
  let c0_i32_2915_r0 : BitVec 32 := 0#32
  let c0_i32_2916_r0 : BitVec 32 := 0#32
  ![v7292_r0.toNat, 0, 0]
def k0_off516 (v7306_r0 : BitVec 32) : Fin 2 → Nat :=
  let c2_i32_2914_r0 : BitVec 32 := 2#32
  let v7307_r0 : BitVec 32 := Scalar.shrsi v7306_r0 c2_i32_2914_r0
  let c0_i32_2919_r0 : BitVec 32 := 0#32
  ![v7307_r0.toNat, 0]

def k0_chk206 (v7306_r0 : BitVec 32) : Prop :=
  (∀ a, (k0_off516 v7306_r0) a + S1x2560.size a ≤ S4000x2560.size a)
theorem k0_off516_inb : ∀ (v7306_r0 : BitVec 32) (k0_hw206 : k0_chk206 v7306_r0), ∀ a, (k0_off516 v7306_r0) a + S1x2560.size a ≤ S4000x2560.size a := fun v7306_r0 k0_hw206 => k0_hw206

def k0_off517 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c64_i32_2905_r0 : BitVec 32 := 64#32
  let v7293_r0 : BitVec 32 := Scalar.muli v7291_r0 c64_i32_2905_r0
  let c14_i32_2920_r0 : BitVec 32 := 14#32
  let v7314_r0 : BitVec 32 := Scalar.addi v7293_r0 c14_i32_2920_r0
  let v7315_r0 : Index := Scalar.indexCast v7314_r0
  ![v7315_r0.toNat]
def k0_off518 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c11_i32_2904_r0 : BitVec 32 := 11#32
  let v7292_r0 : BitVec 32 := Scalar.remsi v7291_r0 c11_i32_2904_r0
  ![v7292_r0.toNat]
def k0_off519 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c11_i32_2904_r0 : BitVec 32 := 11#32
  let v7292_r0 : BitVec 32 := Scalar.remsi v7291_r0 c11_i32_2904_r0
  let c0_i32_2922_r0 : BitVec 32 := 0#32
  let c0_i32_2923_r0 : BitVec 32 := 0#32
  ![v7292_r0.toNat, 0, 0]
def k0_off520 (v7316_r0 : BitVec 32) : Fin 2 → Nat :=
  let c2_i32_2921_r0 : BitVec 32 := 2#32
  let v7317_r0 : BitVec 32 := Scalar.shrsi v7316_r0 c2_i32_2921_r0
  let c0_i32_2926_r0 : BitVec 32 := 0#32
  ![v7317_r0.toNat, 0]

def k0_chk207 (v7316_r0 : BitVec 32) : Prop :=
  (∀ a, (k0_off520 v7316_r0) a + S1x2560.size a ≤ S4000x2560.size a)
theorem k0_off520_inb : ∀ (v7316_r0 : BitVec 32) (k0_hw207 : k0_chk207 v7316_r0), ∀ a, (k0_off520 v7316_r0) a + S1x2560.size a ≤ S4000x2560.size a := fun v7316_r0 k0_hw207 => k0_hw207

def k0_off521 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c64_i32_2905_r0 : BitVec 32 := 64#32
  let v7293_r0 : BitVec 32 := Scalar.muli v7291_r0 c64_i32_2905_r0
  let c15_i32_2927_r0 : BitVec 32 := 15#32
  let v7324_r0 : BitVec 32 := Scalar.addi v7293_r0 c15_i32_2927_r0
  let v7325_r0 : Index := Scalar.indexCast v7324_r0
  ![v7325_r0.toNat]
def k0_off522 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c11_i32_2904_r0 : BitVec 32 := 11#32
  let v7292_r0 : BitVec 32 := Scalar.remsi v7291_r0 c11_i32_2904_r0
  ![v7292_r0.toNat]
def k0_off523 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2903_r0 : BitVec 32 := 10#32
  let v7291_r0 : BitVec 32 := Scalar.addi v4533_r0 c10_i32_2903_r0
  let c11_i32_2904_r0 : BitVec 32 := 11#32
  let v7292_r0 : BitVec 32 := Scalar.remsi v7291_r0 c11_i32_2904_r0
  let c0_i32_2929_r0 : BitVec 32 := 0#32
  let c0_i32_2930_r0 : BitVec 32 := 0#32
  ![v7292_r0.toNat, 0, 0]
def k0_off524 (v7326_r0 : BitVec 32) : Fin 2 → Nat :=
  let c2_i32_2928_r0 : BitVec 32 := 2#32
  let v7327_r0 : BitVec 32 := Scalar.shrsi v7326_r0 c2_i32_2928_r0
  let c0_i32_2933_r0 : BitVec 32 := 0#32
  ![v7327_r0.toNat, 0]

def k0_chk208 (v7326_r0 : BitVec 32) : Prop :=
  (∀ a, (k0_off524 v7326_r0) a + S1x2560.size a ≤ S4000x2560.size a)
theorem k0_off524_inb : ∀ (v7326_r0 : BitVec 32) (k0_hw208 : k0_chk208 v7326_r0), ∀ a, (k0_off524 v7326_r0) a + S1x2560.size a ≤ S4000x2560.size a := fun v7326_r0 k0_hw208 => k0_hw208

def k0_off525 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v7334_r0 : Index := Scalar.indexCast v4534_r0
  let c0_2934_r0 : Index := 0#32
  let c512_r0 : Index := 512#32
  ![v7334_r0.toNat, 0, 512]
def k0_off526 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v7475_r0 : Index := Scalar.indexCast v4535_r0
  let c0_2994_r0 : Index := 0#32
  let c0_2995_r0 : Index := 0#32
  ![v7475_r0.toNat, 0, 0]
def k0_off527 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2996_r0 : BitVec 32 := 10#32
  let v7479_r0 : BitVec 32 := Scalar.addi v4533_r0 c10_i32_2996_r0
  let c64_i32_2998_r0 : BitVec 32 := 64#32
  let v7481_r0 : BitVec 32 := Scalar.muli v7479_r0 c64_i32_2998_r0
  let c16_i32_2999_r0 : BitVec 32 := 16#32
  let v7482_r0 : BitVec 32 := Scalar.addi v7481_r0 c16_i32_2999_r0
  let v7483_r0 : Index := Scalar.indexCast v7482_r0
  ![v7483_r0.toNat]
def k0_off528 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2996_r0 : BitVec 32 := 10#32
  let v7479_r0 : BitVec 32 := Scalar.addi v4533_r0 c10_i32_2996_r0
  let c11_i32_2997_r0 : BitVec 32 := 11#32
  let v7480_r0 : BitVec 32 := Scalar.remsi v7479_r0 c11_i32_2997_r0
  ![v7480_r0.toNat]
def k0_off529 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2996_r0 : BitVec 32 := 10#32
  let v7479_r0 : BitVec 32 := Scalar.addi v4533_r0 c10_i32_2996_r0
  let c11_i32_2997_r0 : BitVec 32 := 11#32
  let v7480_r0 : BitVec 32 := Scalar.remsi v7479_r0 c11_i32_2997_r0
  let c0_i32_3001_r0 : BitVec 32 := 0#32
  let c0_i32_3002_r0 : BitVec 32 := 0#32
  ![v7480_r0.toNat, 0, 0]
def k0_off530 (v7484_r0 : BitVec 32) : Fin 2 → Nat :=
  let c2_i32_3000_r0 : BitVec 32 := 2#32
  let v7485_r0 : BitVec 32 := Scalar.shrsi v7484_r0 c2_i32_3000_r0
  let c0_i32_3005_r0 : BitVec 32 := 0#32
  ![v7485_r0.toNat, 0]

def k0_chk209 (v7484_r0 : BitVec 32) : Prop :=
  (∀ a, (k0_off530 v7484_r0) a + S1x2560.size a ≤ S4000x2560.size a)
theorem k0_off530_inb : ∀ (v7484_r0 : BitVec 32) (k0_hw209 : k0_chk209 v7484_r0), ∀ a, (k0_off530 v7484_r0) a + S1x2560.size a ≤ S4000x2560.size a := fun v7484_r0 k0_hw209 => k0_hw209

def k0_off531 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2996_r0 : BitVec 32 := 10#32
  let v7479_r0 : BitVec 32 := Scalar.addi v4533_r0 c10_i32_2996_r0
  let c64_i32_2998_r0 : BitVec 32 := 64#32
  let v7481_r0 : BitVec 32 := Scalar.muli v7479_r0 c64_i32_2998_r0
  let c17_i32_3006_r0 : BitVec 32 := 17#32
  let v7492_r0 : BitVec 32 := Scalar.addi v7481_r0 c17_i32_3006_r0
  let v7493_r0 : Index := Scalar.indexCast v7492_r0
  ![v7493_r0.toNat]
def k0_off532 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2996_r0 : BitVec 32 := 10#32
  let v7479_r0 : BitVec 32 := Scalar.addi v4533_r0 c10_i32_2996_r0
  let c11_i32_2997_r0 : BitVec 32 := 11#32
  let v7480_r0 : BitVec 32 := Scalar.remsi v7479_r0 c11_i32_2997_r0
  ![v7480_r0.toNat]
def k0_off533 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2996_r0 : BitVec 32 := 10#32
  let v7479_r0 : BitVec 32 := Scalar.addi v4533_r0 c10_i32_2996_r0
  let c11_i32_2997_r0 : BitVec 32 := 11#32
  let v7480_r0 : BitVec 32 := Scalar.remsi v7479_r0 c11_i32_2997_r0
  let c0_i32_3008_r0 : BitVec 32 := 0#32
  let c0_i32_3009_r0 : BitVec 32 := 0#32
  ![v7480_r0.toNat, 0, 0]
def k0_off534 (v7494_r0 : BitVec 32) : Fin 2 → Nat :=
  let c2_i32_3007_r0 : BitVec 32 := 2#32
  let v7495_r0 : BitVec 32 := Scalar.shrsi v7494_r0 c2_i32_3007_r0
  let c0_i32_3012_r0 : BitVec 32 := 0#32
  ![v7495_r0.toNat, 0]

def k0_chk210 (v7494_r0 : BitVec 32) : Prop :=
  (∀ a, (k0_off534 v7494_r0) a + S1x2560.size a ≤ S4000x2560.size a)
theorem k0_off534_inb : ∀ (v7494_r0 : BitVec 32) (k0_hw210 : k0_chk210 v7494_r0), ∀ a, (k0_off534 v7494_r0) a + S1x2560.size a ≤ S4000x2560.size a := fun v7494_r0 k0_hw210 => k0_hw210

def k0_off535 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2996_r0 : BitVec 32 := 10#32
  let v7479_r0 : BitVec 32 := Scalar.addi v4533_r0 c10_i32_2996_r0
  let c64_i32_2998_r0 : BitVec 32 := 64#32
  let v7481_r0 : BitVec 32 := Scalar.muli v7479_r0 c64_i32_2998_r0
  let c18_i32_3013_r0 : BitVec 32 := 18#32
  let v7502_r0 : BitVec 32 := Scalar.addi v7481_r0 c18_i32_3013_r0
  let v7503_r0 : Index := Scalar.indexCast v7502_r0
  ![v7503_r0.toNat]
def k0_off536 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2996_r0 : BitVec 32 := 10#32
  let v7479_r0 : BitVec 32 := Scalar.addi v4533_r0 c10_i32_2996_r0
  let c11_i32_2997_r0 : BitVec 32 := 11#32
  let v7480_r0 : BitVec 32 := Scalar.remsi v7479_r0 c11_i32_2997_r0
  ![v7480_r0.toNat]
def k0_off537 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_2996_r0 : BitVec 32 := 10#32
  let v7479_r0 : BitVec 32 := Scalar.addi v4533_r0 c10_i32_2996_r0
  let c11_i32_2997_r0 : BitVec 32 := 11#32
  let v7480_r0 : BitVec 32 := Scalar.remsi v7479_r0 c11_i32_2997_r0
  let c0_i32_3015_r0 : BitVec 32 := 0#32
  let c0_i32_3016_r0 : BitVec 32 := 0#32
  ![v7480_r0.toNat, 0, 0]
def k0_off538 (v7504_r0 : BitVec 32) : Fin 2 → Nat :=
  let c2_i32_3014_r0 : BitVec 32 := 2#32
  let v7505_r0 : BitVec 32 := Scalar.shrsi v7504_r0 c2_i32_3014_r0
  let c0_i32_3019_r0 : BitVec 32 := 0#32
  ![v7505_r0.toNat, 0]

def k0_chk211 (v7504_r0 : BitVec 32) : Prop :=
  (∀ a, (k0_off538 v7504_r0) a + S1x2560.size a ≤ S4000x2560.size a)
theorem k0_off538_inb : ∀ (v7504_r0 : BitVec 32) (k0_hw211 : k0_chk211 v7504_r0), ∀ a, (k0_off538 v7504_r0) a + S1x2560.size a ≤ S4000x2560.size a := fun v7504_r0 k0_hw211 => k0_hw211

def k0_off539 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v7512_r0 : Index := Scalar.indexCast v4534_r0
  let c0_3020_r0 : Index := 0#32
  let c640_r0 : Index := 640#32
  ![v7512_r0.toNat, 0, 640]
def k0_off540 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v7653_r0 : Index := Scalar.indexCast v4535_r0
  let c0_3080_r0 : Index := 0#32
  let c256_3081_r0 : Index := 256#32
  ![v7653_r0.toNat, 0, 256]
def k0_off541 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3082_r0 : BitVec 32 := 10#32
  let v7657_r0 : BitVec 32 := Scalar.addi v4533_r0 c10_i32_3082_r0
  let c64_i32_3084_r0 : BitVec 32 := 64#32
  let v7659_r0 : BitVec 32 := Scalar.muli v7657_r0 c64_i32_3084_r0
  let c19_i32_3085_r0 : BitVec 32 := 19#32
  let v7660_r0 : BitVec 32 := Scalar.addi v7659_r0 c19_i32_3085_r0
  let v7661_r0 : Index := Scalar.indexCast v7660_r0
  ![v7661_r0.toNat]
def k0_off542 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3082_r0 : BitVec 32 := 10#32
  let v7657_r0 : BitVec 32 := Scalar.addi v4533_r0 c10_i32_3082_r0
  let c11_i32_3083_r0 : BitVec 32 := 11#32
  let v7658_r0 : BitVec 32 := Scalar.remsi v7657_r0 c11_i32_3083_r0
  ![v7658_r0.toNat]
def k0_off543 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3082_r0 : BitVec 32 := 10#32
  let v7657_r0 : BitVec 32 := Scalar.addi v4533_r0 c10_i32_3082_r0
  let c11_i32_3083_r0 : BitVec 32 := 11#32
  let v7658_r0 : BitVec 32 := Scalar.remsi v7657_r0 c11_i32_3083_r0
  let c0_i32_3087_r0 : BitVec 32 := 0#32
  let c0_i32_3088_r0 : BitVec 32 := 0#32
  ![v7658_r0.toNat, 0, 0]
def k0_off544 (v7662_r0 : BitVec 32) : Fin 2 → Nat :=
  let c2_i32_3086_r0 : BitVec 32 := 2#32
  let v7663_r0 : BitVec 32 := Scalar.shrsi v7662_r0 c2_i32_3086_r0
  let c0_i32_3091_r0 : BitVec 32 := 0#32
  ![v7663_r0.toNat, 0]

def k0_chk212 (v7662_r0 : BitVec 32) : Prop :=
  (∀ a, (k0_off544 v7662_r0) a + S1x2560.size a ≤ S4000x2560.size a)
theorem k0_off544_inb : ∀ (v7662_r0 : BitVec 32) (k0_hw212 : k0_chk212 v7662_r0), ∀ a, (k0_off544 v7662_r0) a + S1x2560.size a ≤ S4000x2560.size a := fun v7662_r0 k0_hw212 => k0_hw212

def k0_off545 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3082_r0 : BitVec 32 := 10#32
  let v7657_r0 : BitVec 32 := Scalar.addi v4533_r0 c10_i32_3082_r0
  let c64_i32_3084_r0 : BitVec 32 := 64#32
  let v7659_r0 : BitVec 32 := Scalar.muli v7657_r0 c64_i32_3084_r0
  let c20_i32_3092_r0 : BitVec 32 := 20#32
  let v7670_r0 : BitVec 32 := Scalar.addi v7659_r0 c20_i32_3092_r0
  let v7671_r0 : Index := Scalar.indexCast v7670_r0
  ![v7671_r0.toNat]
def k0_off546 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3082_r0 : BitVec 32 := 10#32
  let v7657_r0 : BitVec 32 := Scalar.addi v4533_r0 c10_i32_3082_r0
  let c11_i32_3083_r0 : BitVec 32 := 11#32
  let v7658_r0 : BitVec 32 := Scalar.remsi v7657_r0 c11_i32_3083_r0
  ![v7658_r0.toNat]
def k0_off547 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3082_r0 : BitVec 32 := 10#32
  let v7657_r0 : BitVec 32 := Scalar.addi v4533_r0 c10_i32_3082_r0
  let c11_i32_3083_r0 : BitVec 32 := 11#32
  let v7658_r0 : BitVec 32 := Scalar.remsi v7657_r0 c11_i32_3083_r0
  let c0_i32_3094_r0 : BitVec 32 := 0#32
  let c0_i32_3095_r0 : BitVec 32 := 0#32
  ![v7658_r0.toNat, 0, 0]
def k0_off548 (v7672_r0 : BitVec 32) : Fin 2 → Nat :=
  let c2_i32_3093_r0 : BitVec 32 := 2#32
  let v7673_r0 : BitVec 32 := Scalar.shrsi v7672_r0 c2_i32_3093_r0
  let c0_i32_3098_r0 : BitVec 32 := 0#32
  ![v7673_r0.toNat, 0]

def k0_chk213 (v7672_r0 : BitVec 32) : Prop :=
  (∀ a, (k0_off548 v7672_r0) a + S1x2560.size a ≤ S4000x2560.size a)
theorem k0_off548_inb : ∀ (v7672_r0 : BitVec 32) (k0_hw213 : k0_chk213 v7672_r0), ∀ a, (k0_off548 v7672_r0) a + S1x2560.size a ≤ S4000x2560.size a := fun v7672_r0 k0_hw213 => k0_hw213

def k0_off549 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3082_r0 : BitVec 32 := 10#32
  let v7657_r0 : BitVec 32 := Scalar.addi v4533_r0 c10_i32_3082_r0
  let c64_i32_3084_r0 : BitVec 32 := 64#32
  let v7659_r0 : BitVec 32 := Scalar.muli v7657_r0 c64_i32_3084_r0
  let c21_i32_3099_r0 : BitVec 32 := 21#32
  let v7680_r0 : BitVec 32 := Scalar.addi v7659_r0 c21_i32_3099_r0
  let v7681_r0 : Index := Scalar.indexCast v7680_r0
  ![v7681_r0.toNat]
def k0_off550 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3082_r0 : BitVec 32 := 10#32
  let v7657_r0 : BitVec 32 := Scalar.addi v4533_r0 c10_i32_3082_r0
  let c11_i32_3083_r0 : BitVec 32 := 11#32
  let v7658_r0 : BitVec 32 := Scalar.remsi v7657_r0 c11_i32_3083_r0
  ![v7658_r0.toNat]
def k0_off551 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3082_r0 : BitVec 32 := 10#32
  let v7657_r0 : BitVec 32 := Scalar.addi v4533_r0 c10_i32_3082_r0
  let c11_i32_3083_r0 : BitVec 32 := 11#32
  let v7658_r0 : BitVec 32 := Scalar.remsi v7657_r0 c11_i32_3083_r0
  let c0_i32_3101_r0 : BitVec 32 := 0#32
  let c0_i32_3102_r0 : BitVec 32 := 0#32
  ![v7658_r0.toNat, 0, 0]
def k0_off552 (v7682_r0 : BitVec 32) : Fin 2 → Nat :=
  let c2_i32_3100_r0 : BitVec 32 := 2#32
  let v7683_r0 : BitVec 32 := Scalar.shrsi v7682_r0 c2_i32_3100_r0
  let c0_i32_3105_r0 : BitVec 32 := 0#32
  ![v7683_r0.toNat, 0]

def k0_chk214 (v7682_r0 : BitVec 32) : Prop :=
  (∀ a, (k0_off552 v7682_r0) a + S1x2560.size a ≤ S4000x2560.size a)
theorem k0_off552_inb : ∀ (v7682_r0 : BitVec 32) (k0_hw214 : k0_chk214 v7682_r0), ∀ a, (k0_off552 v7682_r0) a + S1x2560.size a ≤ S4000x2560.size a := fun v7682_r0 k0_hw214 => k0_hw214

def k0_off553 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v7690_r0 : Index := Scalar.indexCast v4534_r0
  let c0_3106_r0 : Index := 0#32
  let c768_r0 : Index := 768#32
  ![v7690_r0.toNat, 0, 768]
def k0_off554 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v7831_r0 : Index := Scalar.indexCast v4535_r0
  let c0_3166_r0 : Index := 0#32
  let c512_3167_r0 : Index := 512#32
  ![v7831_r0.toNat, 0, 512]
def k0_off555 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3168_r0 : BitVec 32 := 10#32
  let v7835_r0 : BitVec 32 := Scalar.addi v4533_r0 c10_i32_3168_r0
  let c64_i32_3170_r0 : BitVec 32 := 64#32
  let v7837_r0 : BitVec 32 := Scalar.muli v7835_r0 c64_i32_3170_r0
  let c22_i32_3171_r0 : BitVec 32 := 22#32
  let v7838_r0 : BitVec 32 := Scalar.addi v7837_r0 c22_i32_3171_r0
  let v7839_r0 : Index := Scalar.indexCast v7838_r0
  ![v7839_r0.toNat]
def k0_off556 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3168_r0 : BitVec 32 := 10#32
  let v7835_r0 : BitVec 32 := Scalar.addi v4533_r0 c10_i32_3168_r0
  let c11_i32_3169_r0 : BitVec 32 := 11#32
  let v7836_r0 : BitVec 32 := Scalar.remsi v7835_r0 c11_i32_3169_r0
  ![v7836_r0.toNat]
def k0_off557 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3168_r0 : BitVec 32 := 10#32
  let v7835_r0 : BitVec 32 := Scalar.addi v4533_r0 c10_i32_3168_r0
  let c11_i32_3169_r0 : BitVec 32 := 11#32
  let v7836_r0 : BitVec 32 := Scalar.remsi v7835_r0 c11_i32_3169_r0
  let c0_i32_3173_r0 : BitVec 32 := 0#32
  let c0_i32_3174_r0 : BitVec 32 := 0#32
  ![v7836_r0.toNat, 0, 0]
def k0_off558 (v7840_r0 : BitVec 32) : Fin 2 → Nat :=
  let c2_i32_3172_r0 : BitVec 32 := 2#32
  let v7841_r0 : BitVec 32 := Scalar.shrsi v7840_r0 c2_i32_3172_r0
  let c0_i32_3177_r0 : BitVec 32 := 0#32
  ![v7841_r0.toNat, 0]

def k0_chk215 (v7840_r0 : BitVec 32) : Prop :=
  (∀ a, (k0_off558 v7840_r0) a + S1x2560.size a ≤ S4000x2560.size a)
theorem k0_off558_inb : ∀ (v7840_r0 : BitVec 32) (k0_hw215 : k0_chk215 v7840_r0), ∀ a, (k0_off558 v7840_r0) a + S1x2560.size a ≤ S4000x2560.size a := fun v7840_r0 k0_hw215 => k0_hw215

def k0_off559 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3168_r0 : BitVec 32 := 10#32
  let v7835_r0 : BitVec 32 := Scalar.addi v4533_r0 c10_i32_3168_r0
  let c64_i32_3170_r0 : BitVec 32 := 64#32
  let v7837_r0 : BitVec 32 := Scalar.muli v7835_r0 c64_i32_3170_r0
  let c23_i32_3178_r0 : BitVec 32 := 23#32
  let v7848_r0 : BitVec 32 := Scalar.addi v7837_r0 c23_i32_3178_r0
  let v7849_r0 : Index := Scalar.indexCast v7848_r0
  ![v7849_r0.toNat]
def k0_off560 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3168_r0 : BitVec 32 := 10#32
  let v7835_r0 : BitVec 32 := Scalar.addi v4533_r0 c10_i32_3168_r0
  let c11_i32_3169_r0 : BitVec 32 := 11#32
  let v7836_r0 : BitVec 32 := Scalar.remsi v7835_r0 c11_i32_3169_r0
  ![v7836_r0.toNat]
def k0_off561 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3168_r0 : BitVec 32 := 10#32
  let v7835_r0 : BitVec 32 := Scalar.addi v4533_r0 c10_i32_3168_r0
  let c11_i32_3169_r0 : BitVec 32 := 11#32
  let v7836_r0 : BitVec 32 := Scalar.remsi v7835_r0 c11_i32_3169_r0
  let c0_i32_3180_r0 : BitVec 32 := 0#32
  let c0_i32_3181_r0 : BitVec 32 := 0#32
  ![v7836_r0.toNat, 0, 0]
def k0_off562 (v7850_r0 : BitVec 32) : Fin 2 → Nat :=
  let c2_i32_3179_r0 : BitVec 32 := 2#32
  let v7851_r0 : BitVec 32 := Scalar.shrsi v7850_r0 c2_i32_3179_r0
  let c0_i32_3184_r0 : BitVec 32 := 0#32
  ![v7851_r0.toNat, 0]

def k0_chk216 (v7850_r0 : BitVec 32) : Prop :=
  (∀ a, (k0_off562 v7850_r0) a + S1x2560.size a ≤ S4000x2560.size a)
theorem k0_off562_inb : ∀ (v7850_r0 : BitVec 32) (k0_hw216 : k0_chk216 v7850_r0), ∀ a, (k0_off562 v7850_r0) a + S1x2560.size a ≤ S4000x2560.size a := fun v7850_r0 k0_hw216 => k0_hw216

def k0_off563 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3168_r0 : BitVec 32 := 10#32
  let v7835_r0 : BitVec 32 := Scalar.addi v4533_r0 c10_i32_3168_r0
  let c64_i32_3170_r0 : BitVec 32 := 64#32
  let v7837_r0 : BitVec 32 := Scalar.muli v7835_r0 c64_i32_3170_r0
  let c24_i32_3185_r0 : BitVec 32 := 24#32
  let v7858_r0 : BitVec 32 := Scalar.addi v7837_r0 c24_i32_3185_r0
  let v7859_r0 : Index := Scalar.indexCast v7858_r0
  ![v7859_r0.toNat]
def k0_off564 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3168_r0 : BitVec 32 := 10#32
  let v7835_r0 : BitVec 32 := Scalar.addi v4533_r0 c10_i32_3168_r0
  let c11_i32_3169_r0 : BitVec 32 := 11#32
  let v7836_r0 : BitVec 32 := Scalar.remsi v7835_r0 c11_i32_3169_r0
  ![v7836_r0.toNat]
def k0_off565 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3168_r0 : BitVec 32 := 10#32
  let v7835_r0 : BitVec 32 := Scalar.addi v4533_r0 c10_i32_3168_r0
  let c11_i32_3169_r0 : BitVec 32 := 11#32
  let v7836_r0 : BitVec 32 := Scalar.remsi v7835_r0 c11_i32_3169_r0
  let c0_i32_3187_r0 : BitVec 32 := 0#32
  let c0_i32_3188_r0 : BitVec 32 := 0#32
  ![v7836_r0.toNat, 0, 0]
def k0_off566 (v7860_r0 : BitVec 32) : Fin 2 → Nat :=
  let c2_i32_3186_r0 : BitVec 32 := 2#32
  let v7861_r0 : BitVec 32 := Scalar.shrsi v7860_r0 c2_i32_3186_r0
  let c0_i32_3191_r0 : BitVec 32 := 0#32
  ![v7861_r0.toNat, 0]

def k0_chk217 (v7860_r0 : BitVec 32) : Prop :=
  (∀ a, (k0_off566 v7860_r0) a + S1x2560.size a ≤ S4000x2560.size a)
theorem k0_off566_inb : ∀ (v7860_r0 : BitVec 32) (k0_hw217 : k0_chk217 v7860_r0), ∀ a, (k0_off566 v7860_r0) a + S1x2560.size a ≤ S4000x2560.size a := fun v7860_r0 k0_hw217 => k0_hw217

def k0_off567 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v7868_r0 : Index := Scalar.indexCast v4534_r0
  let c0_3192_r0 : Index := 0#32
  let c896_r0 : Index := 896#32
  ![v7868_r0.toNat, 0, 896]
def k0_off568 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v8009_r0 : Index := Scalar.indexCast v4535_r0
  let c0_3252_r0 : Index := 0#32
  let c768_3253_r0 : Index := 768#32
  ![v8009_r0.toNat, 0, 768]
def k0_off569 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3254_r0 : BitVec 32 := 10#32
  let v8013_r0 : BitVec 32 := Scalar.addi v4533_r0 c10_i32_3254_r0
  let c64_i32_3256_r0 : BitVec 32 := 64#32
  let v8015_r0 : BitVec 32 := Scalar.muli v8013_r0 c64_i32_3256_r0
  let c25_i32_3257_r0 : BitVec 32 := 25#32
  let v8016_r0 : BitVec 32 := Scalar.addi v8015_r0 c25_i32_3257_r0
  let v8017_r0 : Index := Scalar.indexCast v8016_r0
  ![v8017_r0.toNat]
def k0_off570 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3254_r0 : BitVec 32 := 10#32
  let v8013_r0 : BitVec 32 := Scalar.addi v4533_r0 c10_i32_3254_r0
  let c11_i32_3255_r0 : BitVec 32 := 11#32
  let v8014_r0 : BitVec 32 := Scalar.remsi v8013_r0 c11_i32_3255_r0
  ![v8014_r0.toNat]
def k0_off571 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3254_r0 : BitVec 32 := 10#32
  let v8013_r0 : BitVec 32 := Scalar.addi v4533_r0 c10_i32_3254_r0
  let c11_i32_3255_r0 : BitVec 32 := 11#32
  let v8014_r0 : BitVec 32 := Scalar.remsi v8013_r0 c11_i32_3255_r0
  let c0_i32_3259_r0 : BitVec 32 := 0#32
  let c0_i32_3260_r0 : BitVec 32 := 0#32
  ![v8014_r0.toNat, 0, 0]
def k0_off572 (v8018_r0 : BitVec 32) : Fin 2 → Nat :=
  let c2_i32_3258_r0 : BitVec 32 := 2#32
  let v8019_r0 : BitVec 32 := Scalar.shrsi v8018_r0 c2_i32_3258_r0
  let c0_i32_3263_r0 : BitVec 32 := 0#32
  ![v8019_r0.toNat, 0]

def k0_chk218 (v8018_r0 : BitVec 32) : Prop :=
  (∀ a, (k0_off572 v8018_r0) a + S1x2560.size a ≤ S4000x2560.size a)
theorem k0_off572_inb : ∀ (v8018_r0 : BitVec 32) (k0_hw218 : k0_chk218 v8018_r0), ∀ a, (k0_off572 v8018_r0) a + S1x2560.size a ≤ S4000x2560.size a := fun v8018_r0 k0_hw218 => k0_hw218

def k0_off573 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3254_r0 : BitVec 32 := 10#32
  let v8013_r0 : BitVec 32 := Scalar.addi v4533_r0 c10_i32_3254_r0
  let c64_i32_3256_r0 : BitVec 32 := 64#32
  let v8015_r0 : BitVec 32 := Scalar.muli v8013_r0 c64_i32_3256_r0
  let c26_i32_3264_r0 : BitVec 32 := 26#32
  let v8026_r0 : BitVec 32 := Scalar.addi v8015_r0 c26_i32_3264_r0
  let v8027_r0 : Index := Scalar.indexCast v8026_r0
  ![v8027_r0.toNat]
def k0_off574 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3254_r0 : BitVec 32 := 10#32
  let v8013_r0 : BitVec 32 := Scalar.addi v4533_r0 c10_i32_3254_r0
  let c11_i32_3255_r0 : BitVec 32 := 11#32
  let v8014_r0 : BitVec 32 := Scalar.remsi v8013_r0 c11_i32_3255_r0
  ![v8014_r0.toNat]
def k0_off575 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3254_r0 : BitVec 32 := 10#32
  let v8013_r0 : BitVec 32 := Scalar.addi v4533_r0 c10_i32_3254_r0
  let c11_i32_3255_r0 : BitVec 32 := 11#32
  let v8014_r0 : BitVec 32 := Scalar.remsi v8013_r0 c11_i32_3255_r0
  let c0_i32_3266_r0 : BitVec 32 := 0#32
  let c0_i32_3267_r0 : BitVec 32 := 0#32
  ![v8014_r0.toNat, 0, 0]
def k0_off576 (v8028_r0 : BitVec 32) : Fin 2 → Nat :=
  let c2_i32_3265_r0 : BitVec 32 := 2#32
  let v8029_r0 : BitVec 32 := Scalar.shrsi v8028_r0 c2_i32_3265_r0
  let c0_i32_3270_r0 : BitVec 32 := 0#32
  ![v8029_r0.toNat, 0]

def k0_chk219 (v8028_r0 : BitVec 32) : Prop :=
  (∀ a, (k0_off576 v8028_r0) a + S1x2560.size a ≤ S4000x2560.size a)
theorem k0_off576_inb : ∀ (v8028_r0 : BitVec 32) (k0_hw219 : k0_chk219 v8028_r0), ∀ a, (k0_off576 v8028_r0) a + S1x2560.size a ≤ S4000x2560.size a := fun v8028_r0 k0_hw219 => k0_hw219

def k0_off577 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3254_r0 : BitVec 32 := 10#32
  let v8013_r0 : BitVec 32 := Scalar.addi v4533_r0 c10_i32_3254_r0
  let c64_i32_3256_r0 : BitVec 32 := 64#32
  let v8015_r0 : BitVec 32 := Scalar.muli v8013_r0 c64_i32_3256_r0
  let c27_i32_3271_r0 : BitVec 32 := 27#32
  let v8036_r0 : BitVec 32 := Scalar.addi v8015_r0 c27_i32_3271_r0
  let v8037_r0 : Index := Scalar.indexCast v8036_r0
  ![v8037_r0.toNat]
def k0_off578 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3254_r0 : BitVec 32 := 10#32
  let v8013_r0 : BitVec 32 := Scalar.addi v4533_r0 c10_i32_3254_r0
  let c11_i32_3255_r0 : BitVec 32 := 11#32
  let v8014_r0 : BitVec 32 := Scalar.remsi v8013_r0 c11_i32_3255_r0
  ![v8014_r0.toNat]
def k0_off579 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3254_r0 : BitVec 32 := 10#32
  let v8013_r0 : BitVec 32 := Scalar.addi v4533_r0 c10_i32_3254_r0
  let c11_i32_3255_r0 : BitVec 32 := 11#32
  let v8014_r0 : BitVec 32 := Scalar.remsi v8013_r0 c11_i32_3255_r0
  let c0_i32_3273_r0 : BitVec 32 := 0#32
  let c0_i32_3274_r0 : BitVec 32 := 0#32
  ![v8014_r0.toNat, 0, 0]
def k0_off580 (v8038_r0 : BitVec 32) : Fin 2 → Nat :=
  let c2_i32_3272_r0 : BitVec 32 := 2#32
  let v8039_r0 : BitVec 32 := Scalar.shrsi v8038_r0 c2_i32_3272_r0
  let c0_i32_3277_r0 : BitVec 32 := 0#32
  ![v8039_r0.toNat, 0]

def k0_chk220 (v8038_r0 : BitVec 32) : Prop :=
  (∀ a, (k0_off580 v8038_r0) a + S1x2560.size a ≤ S4000x2560.size a)
theorem k0_off580_inb : ∀ (v8038_r0 : BitVec 32) (k0_hw220 : k0_chk220 v8038_r0), ∀ a, (k0_off580 v8038_r0) a + S1x2560.size a ≤ S4000x2560.size a := fun v8038_r0 k0_hw220 => k0_hw220

def k0_off581 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v8046_r0 : Index := Scalar.indexCast v4534_r0
  let c0_3278_r0 : Index := 0#32
  let c1024_r0 : Index := 1024#32
  ![v8046_r0.toNat, 0, 1024]
def k0_off582 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v8187_r0 : Index := Scalar.indexCast v4535_r0
  let c0_3338_r0 : Index := 0#32
  let c1024_3339_r0 : Index := 1024#32
  ![v8187_r0.toNat, 0, 1024]
def k0_off583 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c64_i32_3342_r0 : BitVec 32 := 64#32
  let v8193_r0 : BitVec 32 := Scalar.muli v8191_r0 c64_i32_3342_r0
  let c28_i32_3343_r0 : BitVec 32 := 28#32
  let v8194_r0 : BitVec 32 := Scalar.addi v8193_r0 c28_i32_3343_r0
  let v8195_r0 : Index := Scalar.indexCast v8194_r0
  ![v8195_r0.toNat]
def k0_off584 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c11_i32_3341_r0 : BitVec 32 := 11#32
  let v8192_r0 : BitVec 32 := Scalar.remsi v8191_r0 c11_i32_3341_r0
  ![v8192_r0.toNat]
def k0_off585 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c11_i32_3341_r0 : BitVec 32 := 11#32
  let v8192_r0 : BitVec 32 := Scalar.remsi v8191_r0 c11_i32_3341_r0
  let c0_i32_3345_r0 : BitVec 32 := 0#32
  let c0_i32_3346_r0 : BitVec 32 := 0#32
  ![v8192_r0.toNat, 0, 0]
def k0_off586 (v8196_r0 : BitVec 32) : Fin 2 → Nat :=
  let c2_i32_3344_r0 : BitVec 32 := 2#32
  let v8197_r0 : BitVec 32 := Scalar.shrsi v8196_r0 c2_i32_3344_r0
  let c0_i32_3349_r0 : BitVec 32 := 0#32
  ![v8197_r0.toNat, 0]

def k0_chk221 (v8196_r0 : BitVec 32) : Prop :=
  (∀ a, (k0_off586 v8196_r0) a + S1x2560.size a ≤ S4000x2560.size a)
theorem k0_off586_inb : ∀ (v8196_r0 : BitVec 32) (k0_hw221 : k0_chk221 v8196_r0), ∀ a, (k0_off586 v8196_r0) a + S1x2560.size a ≤ S4000x2560.size a := fun v8196_r0 k0_hw221 => k0_hw221

def k0_off587 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c64_i32_3342_r0 : BitVec 32 := 64#32
  let v8193_r0 : BitVec 32 := Scalar.muli v8191_r0 c64_i32_3342_r0
  let c29_i32_3350_r0 : BitVec 32 := 29#32
  let v8204_r0 : BitVec 32 := Scalar.addi v8193_r0 c29_i32_3350_r0
  let v8205_r0 : Index := Scalar.indexCast v8204_r0
  ![v8205_r0.toNat]
def k0_off588 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c11_i32_3341_r0 : BitVec 32 := 11#32
  let v8192_r0 : BitVec 32 := Scalar.remsi v8191_r0 c11_i32_3341_r0
  ![v8192_r0.toNat]
def k0_off589 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c11_i32_3341_r0 : BitVec 32 := 11#32
  let v8192_r0 : BitVec 32 := Scalar.remsi v8191_r0 c11_i32_3341_r0
  let c0_i32_3352_r0 : BitVec 32 := 0#32
  let c0_i32_3353_r0 : BitVec 32 := 0#32
  ![v8192_r0.toNat, 0, 0]
def k0_off590 (v8206_r0 : BitVec 32) : Fin 2 → Nat :=
  let c2_i32_3351_r0 : BitVec 32 := 2#32
  let v8207_r0 : BitVec 32 := Scalar.shrsi v8206_r0 c2_i32_3351_r0
  let c0_i32_3356_r0 : BitVec 32 := 0#32
  ![v8207_r0.toNat, 0]

def k0_chk222 (v8206_r0 : BitVec 32) : Prop :=
  (∀ a, (k0_off590 v8206_r0) a + S1x2560.size a ≤ S4000x2560.size a)
theorem k0_off590_inb : ∀ (v8206_r0 : BitVec 32) (k0_hw222 : k0_chk222 v8206_r0), ∀ a, (k0_off590 v8206_r0) a + S1x2560.size a ≤ S4000x2560.size a := fun v8206_r0 k0_hw222 => k0_hw222

def k0_off591 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c64_i32_3342_r0 : BitVec 32 := 64#32
  let v8193_r0 : BitVec 32 := Scalar.muli v8191_r0 c64_i32_3342_r0
  let c30_i32_3357_r0 : BitVec 32 := 30#32
  let v8214_r0 : BitVec 32 := Scalar.addi v8193_r0 c30_i32_3357_r0
  let v8215_r0 : Index := Scalar.indexCast v8214_r0
  ![v8215_r0.toNat]
def k0_off592 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c11_i32_3341_r0 : BitVec 32 := 11#32
  let v8192_r0 : BitVec 32 := Scalar.remsi v8191_r0 c11_i32_3341_r0
  ![v8192_r0.toNat]
def k0_off593 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c11_i32_3341_r0 : BitVec 32 := 11#32
  let v8192_r0 : BitVec 32 := Scalar.remsi v8191_r0 c11_i32_3341_r0
  let c0_i32_3359_r0 : BitVec 32 := 0#32
  let c0_i32_3360_r0 : BitVec 32 := 0#32
  ![v8192_r0.toNat, 0, 0]
def k0_off594 (v8216_r0 : BitVec 32) : Fin 2 → Nat :=
  let c2_i32_3358_r0 : BitVec 32 := 2#32
  let v8217_r0 : BitVec 32 := Scalar.shrsi v8216_r0 c2_i32_3358_r0
  let c0_i32_3363_r0 : BitVec 32 := 0#32
  ![v8217_r0.toNat, 0]

def k0_chk223 (v8216_r0 : BitVec 32) : Prop :=
  (∀ a, (k0_off594 v8216_r0) a + S1x2560.size a ≤ S4000x2560.size a)
theorem k0_off594_inb : ∀ (v8216_r0 : BitVec 32) (k0_hw223 : k0_chk223 v8216_r0), ∀ a, (k0_off594 v8216_r0) a + S1x2560.size a ≤ S4000x2560.size a := fun v8216_r0 k0_hw223 => k0_hw223

def k0_off595 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c64_i32_3342_r0 : BitVec 32 := 64#32
  let v8193_r0 : BitVec 32 := Scalar.muli v8191_r0 c64_i32_3342_r0
  let c31_i32_3364_r0 : BitVec 32 := 31#32
  let v8224_r0 : BitVec 32 := Scalar.addi v8193_r0 c31_i32_3364_r0
  let v8225_r0 : Index := Scalar.indexCast v8224_r0
  ![v8225_r0.toNat]
def k0_off596 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c11_i32_3341_r0 : BitVec 32 := 11#32
  let v8192_r0 : BitVec 32 := Scalar.remsi v8191_r0 c11_i32_3341_r0
  ![v8192_r0.toNat]
def k0_off597 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3340_r0 : BitVec 32 := 10#32
  let v8191_r0 : BitVec 32 := Scalar.addi v4533_r0 c10_i32_3340_r0
  let c11_i32_3341_r0 : BitVec 32 := 11#32
  let v8192_r0 : BitVec 32 := Scalar.remsi v8191_r0 c11_i32_3341_r0
  let c0_i32_3366_r0 : BitVec 32 := 0#32
  let c0_i32_3367_r0 : BitVec 32 := 0#32
  ![v8192_r0.toNat, 0, 0]
def k0_off598 (v8226_r0 : BitVec 32) : Fin 2 → Nat :=
  let c2_i32_3365_r0 : BitVec 32 := 2#32
  let v8227_r0 : BitVec 32 := Scalar.shrsi v8226_r0 c2_i32_3365_r0
  let c0_i32_3370_r0 : BitVec 32 := 0#32
  ![v8227_r0.toNat, 0]

def k0_chk224 (v8226_r0 : BitVec 32) : Prop :=
  (∀ a, (k0_off598 v8226_r0) a + S1x2560.size a ≤ S4000x2560.size a)
theorem k0_off598_inb : ∀ (v8226_r0 : BitVec 32) (k0_hw224 : k0_chk224 v8226_r0), ∀ a, (k0_off598 v8226_r0) a + S1x2560.size a ≤ S4000x2560.size a := fun v8226_r0 k0_hw224 => k0_hw224

def k0_off599 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v8234_r0 : Index := Scalar.indexCast v4534_r0
  let c0_3371_r0 : Index := 0#32
  let c1152_r0 : Index := 1152#32
  ![v8234_r0.toNat, 0, 1152]
def k0_off600 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v8375_r0 : Index := Scalar.indexCast v4535_r0
  let c0_3431_r0 : Index := 0#32
  let c1280_r0 : Index := 1280#32
  ![v8375_r0.toNat, 0, 1280]
def k0_off601 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3432_r0 : BitVec 32 := 10#32
  let v8379_r0 : BitVec 32 := Scalar.addi v4533_r0 c10_i32_3432_r0
  let c64_i32_3434_r0 : BitVec 32 := 64#32
  let v8381_r0 : BitVec 32 := Scalar.muli v8379_r0 c64_i32_3434_r0
  let c32_i32_3435_r0 : BitVec 32 := 32#32
  let v8382_r0 : BitVec 32 := Scalar.addi v8381_r0 c32_i32_3435_r0
  let v8383_r0 : Index := Scalar.indexCast v8382_r0
  ![v8383_r0.toNat]
def k0_off602 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3432_r0 : BitVec 32 := 10#32
  let v8379_r0 : BitVec 32 := Scalar.addi v4533_r0 c10_i32_3432_r0
  let c11_i32_3433_r0 : BitVec 32 := 11#32
  let v8380_r0 : BitVec 32 := Scalar.remsi v8379_r0 c11_i32_3433_r0
  ![v8380_r0.toNat]
def k0_off603 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3432_r0 : BitVec 32 := 10#32
  let v8379_r0 : BitVec 32 := Scalar.addi v4533_r0 c10_i32_3432_r0
  let c11_i32_3433_r0 : BitVec 32 := 11#32
  let v8380_r0 : BitVec 32 := Scalar.remsi v8379_r0 c11_i32_3433_r0
  let c0_i32_3437_r0 : BitVec 32 := 0#32
  let c0_i32_3438_r0 : BitVec 32 := 0#32
  ![v8380_r0.toNat, 0, 0]
def k0_off604 (v8384_r0 : BitVec 32) : Fin 2 → Nat :=
  let c2_i32_3436_r0 : BitVec 32 := 2#32
  let v8385_r0 : BitVec 32 := Scalar.shrsi v8384_r0 c2_i32_3436_r0
  let c0_i32_3441_r0 : BitVec 32 := 0#32
  ![v8385_r0.toNat, 0]

def k0_chk225 (v8384_r0 : BitVec 32) : Prop :=
  (∀ a, (k0_off604 v8384_r0) a + S1x2560.size a ≤ S4000x2560.size a)
theorem k0_off604_inb : ∀ (v8384_r0 : BitVec 32) (k0_hw225 : k0_chk225 v8384_r0), ∀ a, (k0_off604 v8384_r0) a + S1x2560.size a ≤ S4000x2560.size a := fun v8384_r0 k0_hw225 => k0_hw225

def k0_off605 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3432_r0 : BitVec 32 := 10#32
  let v8379_r0 : BitVec 32 := Scalar.addi v4533_r0 c10_i32_3432_r0
  let c64_i32_3434_r0 : BitVec 32 := 64#32
  let v8381_r0 : BitVec 32 := Scalar.muli v8379_r0 c64_i32_3434_r0
  let c33_i32_3442_r0 : BitVec 32 := 33#32
  let v8392_r0 : BitVec 32 := Scalar.addi v8381_r0 c33_i32_3442_r0
  let v8393_r0 : Index := Scalar.indexCast v8392_r0
  ![v8393_r0.toNat]
def k0_off606 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3432_r0 : BitVec 32 := 10#32
  let v8379_r0 : BitVec 32 := Scalar.addi v4533_r0 c10_i32_3432_r0
  let c11_i32_3433_r0 : BitVec 32 := 11#32
  let v8380_r0 : BitVec 32 := Scalar.remsi v8379_r0 c11_i32_3433_r0
  ![v8380_r0.toNat]
def k0_off607 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3432_r0 : BitVec 32 := 10#32
  let v8379_r0 : BitVec 32 := Scalar.addi v4533_r0 c10_i32_3432_r0
  let c11_i32_3433_r0 : BitVec 32 := 11#32
  let v8380_r0 : BitVec 32 := Scalar.remsi v8379_r0 c11_i32_3433_r0
  let c0_i32_3444_r0 : BitVec 32 := 0#32
  let c0_i32_3445_r0 : BitVec 32 := 0#32
  ![v8380_r0.toNat, 0, 0]
def k0_off608 (v8394_r0 : BitVec 32) : Fin 2 → Nat :=
  let c2_i32_3443_r0 : BitVec 32 := 2#32
  let v8395_r0 : BitVec 32 := Scalar.shrsi v8394_r0 c2_i32_3443_r0
  let c0_i32_3448_r0 : BitVec 32 := 0#32
  ![v8395_r0.toNat, 0]

def k0_chk226 (v8394_r0 : BitVec 32) : Prop :=
  (∀ a, (k0_off608 v8394_r0) a + S1x2560.size a ≤ S4000x2560.size a)
theorem k0_off608_inb : ∀ (v8394_r0 : BitVec 32) (k0_hw226 : k0_chk226 v8394_r0), ∀ a, (k0_off608 v8394_r0) a + S1x2560.size a ≤ S4000x2560.size a := fun v8394_r0 k0_hw226 => k0_hw226

def k0_off609 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3432_r0 : BitVec 32 := 10#32
  let v8379_r0 : BitVec 32 := Scalar.addi v4533_r0 c10_i32_3432_r0
  let c64_i32_3434_r0 : BitVec 32 := 64#32
  let v8381_r0 : BitVec 32 := Scalar.muli v8379_r0 c64_i32_3434_r0
  let c34_i32_3449_r0 : BitVec 32 := 34#32
  let v8402_r0 : BitVec 32 := Scalar.addi v8381_r0 c34_i32_3449_r0
  let v8403_r0 : Index := Scalar.indexCast v8402_r0
  ![v8403_r0.toNat]
def k0_off610 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3432_r0 : BitVec 32 := 10#32
  let v8379_r0 : BitVec 32 := Scalar.addi v4533_r0 c10_i32_3432_r0
  let c11_i32_3433_r0 : BitVec 32 := 11#32
  let v8380_r0 : BitVec 32 := Scalar.remsi v8379_r0 c11_i32_3433_r0
  ![v8380_r0.toNat]
def k0_off611 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3432_r0 : BitVec 32 := 10#32
  let v8379_r0 : BitVec 32 := Scalar.addi v4533_r0 c10_i32_3432_r0
  let c11_i32_3433_r0 : BitVec 32 := 11#32
  let v8380_r0 : BitVec 32 := Scalar.remsi v8379_r0 c11_i32_3433_r0
  let c0_i32_3451_r0 : BitVec 32 := 0#32
  let c0_i32_3452_r0 : BitVec 32 := 0#32
  ![v8380_r0.toNat, 0, 0]
def k0_off612 (v8404_r0 : BitVec 32) : Fin 2 → Nat :=
  let c2_i32_3450_r0 : BitVec 32 := 2#32
  let v8405_r0 : BitVec 32 := Scalar.shrsi v8404_r0 c2_i32_3450_r0
  let c0_i32_3455_r0 : BitVec 32 := 0#32
  ![v8405_r0.toNat, 0]

def k0_chk227 (v8404_r0 : BitVec 32) : Prop :=
  (∀ a, (k0_off612 v8404_r0) a + S1x2560.size a ≤ S4000x2560.size a)
theorem k0_off612_inb : ∀ (v8404_r0 : BitVec 32) (k0_hw227 : k0_chk227 v8404_r0), ∀ a, (k0_off612 v8404_r0) a + S1x2560.size a ≤ S4000x2560.size a := fun v8404_r0 k0_hw227 => k0_hw227

def k0_off613 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v8412_r0 : Index := Scalar.indexCast v4534_r0
  let c0_3456_r0 : Index := 0#32
  let c1280_3457_r0 : Index := 1280#32
  ![v8412_r0.toNat, 0, 1280]
def k0_off614 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v8553_r0 : Index := Scalar.indexCast v4535_r0
  let c0_3517_r0 : Index := 0#32
  let c1536_r0 : Index := 1536#32
  ![v8553_r0.toNat, 0, 1536]
def k0_off615 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3518_r0 : BitVec 32 := 10#32
  let v8557_r0 : BitVec 32 := Scalar.addi v4533_r0 c10_i32_3518_r0
  let c64_i32_3520_r0 : BitVec 32 := 64#32
  let v8559_r0 : BitVec 32 := Scalar.muli v8557_r0 c64_i32_3520_r0
  let c35_i32_3521_r0 : BitVec 32 := 35#32
  let v8560_r0 : BitVec 32 := Scalar.addi v8559_r0 c35_i32_3521_r0
  let v8561_r0 : Index := Scalar.indexCast v8560_r0
  ![v8561_r0.toNat]
def k0_off616 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3518_r0 : BitVec 32 := 10#32
  let v8557_r0 : BitVec 32 := Scalar.addi v4533_r0 c10_i32_3518_r0
  let c11_i32_3519_r0 : BitVec 32 := 11#32
  let v8558_r0 : BitVec 32 := Scalar.remsi v8557_r0 c11_i32_3519_r0
  ![v8558_r0.toNat]
def k0_off617 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3518_r0 : BitVec 32 := 10#32
  let v8557_r0 : BitVec 32 := Scalar.addi v4533_r0 c10_i32_3518_r0
  let c11_i32_3519_r0 : BitVec 32 := 11#32
  let v8558_r0 : BitVec 32 := Scalar.remsi v8557_r0 c11_i32_3519_r0
  let c0_i32_3523_r0 : BitVec 32 := 0#32
  let c0_i32_3524_r0 : BitVec 32 := 0#32
  ![v8558_r0.toNat, 0, 0]
def k0_off618 (v8562_r0 : BitVec 32) : Fin 2 → Nat :=
  let c2_i32_3522_r0 : BitVec 32 := 2#32
  let v8563_r0 : BitVec 32 := Scalar.shrsi v8562_r0 c2_i32_3522_r0
  let c0_i32_3527_r0 : BitVec 32 := 0#32
  ![v8563_r0.toNat, 0]

def k0_chk228 (v8562_r0 : BitVec 32) : Prop :=
  (∀ a, (k0_off618 v8562_r0) a + S1x2560.size a ≤ S4000x2560.size a)
theorem k0_off618_inb : ∀ (v8562_r0 : BitVec 32) (k0_hw228 : k0_chk228 v8562_r0), ∀ a, (k0_off618 v8562_r0) a + S1x2560.size a ≤ S4000x2560.size a := fun v8562_r0 k0_hw228 => k0_hw228

def k0_off619 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3518_r0 : BitVec 32 := 10#32
  let v8557_r0 : BitVec 32 := Scalar.addi v4533_r0 c10_i32_3518_r0
  let c64_i32_3520_r0 : BitVec 32 := 64#32
  let v8559_r0 : BitVec 32 := Scalar.muli v8557_r0 c64_i32_3520_r0
  let c36_i32_3528_r0 : BitVec 32 := 36#32
  let v8570_r0 : BitVec 32 := Scalar.addi v8559_r0 c36_i32_3528_r0
  let v8571_r0 : Index := Scalar.indexCast v8570_r0
  ![v8571_r0.toNat]
def k0_off620 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3518_r0 : BitVec 32 := 10#32
  let v8557_r0 : BitVec 32 := Scalar.addi v4533_r0 c10_i32_3518_r0
  let c11_i32_3519_r0 : BitVec 32 := 11#32
  let v8558_r0 : BitVec 32 := Scalar.remsi v8557_r0 c11_i32_3519_r0
  ![v8558_r0.toNat]
def k0_off621 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3518_r0 : BitVec 32 := 10#32
  let v8557_r0 : BitVec 32 := Scalar.addi v4533_r0 c10_i32_3518_r0
  let c11_i32_3519_r0 : BitVec 32 := 11#32
  let v8558_r0 : BitVec 32 := Scalar.remsi v8557_r0 c11_i32_3519_r0
  let c0_i32_3530_r0 : BitVec 32 := 0#32
  let c0_i32_3531_r0 : BitVec 32 := 0#32
  ![v8558_r0.toNat, 0, 0]
def k0_off622 (v8572_r0 : BitVec 32) : Fin 2 → Nat :=
  let c2_i32_3529_r0 : BitVec 32 := 2#32
  let v8573_r0 : BitVec 32 := Scalar.shrsi v8572_r0 c2_i32_3529_r0
  let c0_i32_3534_r0 : BitVec 32 := 0#32
  ![v8573_r0.toNat, 0]

def k0_chk229 (v8572_r0 : BitVec 32) : Prop :=
  (∀ a, (k0_off622 v8572_r0) a + S1x2560.size a ≤ S4000x2560.size a)
theorem k0_off622_inb : ∀ (v8572_r0 : BitVec 32) (k0_hw229 : k0_chk229 v8572_r0), ∀ a, (k0_off622 v8572_r0) a + S1x2560.size a ≤ S4000x2560.size a := fun v8572_r0 k0_hw229 => k0_hw229

def k0_off623 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3518_r0 : BitVec 32 := 10#32
  let v8557_r0 : BitVec 32 := Scalar.addi v4533_r0 c10_i32_3518_r0
  let c64_i32_3520_r0 : BitVec 32 := 64#32
  let v8559_r0 : BitVec 32 := Scalar.muli v8557_r0 c64_i32_3520_r0
  let c37_i32_3535_r0 : BitVec 32 := 37#32
  let v8580_r0 : BitVec 32 := Scalar.addi v8559_r0 c37_i32_3535_r0
  let v8581_r0 : Index := Scalar.indexCast v8580_r0
  ![v8581_r0.toNat]
def k0_off624 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3518_r0 : BitVec 32 := 10#32
  let v8557_r0 : BitVec 32 := Scalar.addi v4533_r0 c10_i32_3518_r0
  let c11_i32_3519_r0 : BitVec 32 := 11#32
  let v8558_r0 : BitVec 32 := Scalar.remsi v8557_r0 c11_i32_3519_r0
  ![v8558_r0.toNat]
def k0_off625 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3518_r0 : BitVec 32 := 10#32
  let v8557_r0 : BitVec 32 := Scalar.addi v4533_r0 c10_i32_3518_r0
  let c11_i32_3519_r0 : BitVec 32 := 11#32
  let v8558_r0 : BitVec 32 := Scalar.remsi v8557_r0 c11_i32_3519_r0
  let c0_i32_3537_r0 : BitVec 32 := 0#32
  let c0_i32_3538_r0 : BitVec 32 := 0#32
  ![v8558_r0.toNat, 0, 0]
def k0_off626 (v8582_r0 : BitVec 32) : Fin 2 → Nat :=
  let c2_i32_3536_r0 : BitVec 32 := 2#32
  let v8583_r0 : BitVec 32 := Scalar.shrsi v8582_r0 c2_i32_3536_r0
  let c0_i32_3541_r0 : BitVec 32 := 0#32
  ![v8583_r0.toNat, 0]

def k0_chk230 (v8582_r0 : BitVec 32) : Prop :=
  (∀ a, (k0_off626 v8582_r0) a + S1x2560.size a ≤ S4000x2560.size a)
theorem k0_off626_inb : ∀ (v8582_r0 : BitVec 32) (k0_hw230 : k0_chk230 v8582_r0), ∀ a, (k0_off626 v8582_r0) a + S1x2560.size a ≤ S4000x2560.size a := fun v8582_r0 k0_hw230 => k0_hw230

def k0_off627 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v8590_r0 : Index := Scalar.indexCast v4534_r0
  let c0_3542_r0 : Index := 0#32
  let c1408_r0 : Index := 1408#32
  ![v8590_r0.toNat, 0, 1408]
def k0_off628 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v8731_r0 : Index := Scalar.indexCast v4535_r0
  let c0_3602_r0 : Index := 0#32
  let c1792_r0 : Index := 1792#32
  ![v8731_r0.toNat, 0, 1792]
def k0_off629 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3603_r0 : BitVec 32 := 10#32
  let v8735_r0 : BitVec 32 := Scalar.addi v4533_r0 c10_i32_3603_r0
  let c64_i32_3605_r0 : BitVec 32 := 64#32
  let v8737_r0 : BitVec 32 := Scalar.muli v8735_r0 c64_i32_3605_r0
  let c38_i32_3606_r0 : BitVec 32 := 38#32
  let v8738_r0 : BitVec 32 := Scalar.addi v8737_r0 c38_i32_3606_r0
  let v8739_r0 : Index := Scalar.indexCast v8738_r0
  ![v8739_r0.toNat]
def k0_off630 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3603_r0 : BitVec 32 := 10#32
  let v8735_r0 : BitVec 32 := Scalar.addi v4533_r0 c10_i32_3603_r0
  let c11_i32_3604_r0 : BitVec 32 := 11#32
  let v8736_r0 : BitVec 32 := Scalar.remsi v8735_r0 c11_i32_3604_r0
  ![v8736_r0.toNat]
def k0_off631 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3603_r0 : BitVec 32 := 10#32
  let v8735_r0 : BitVec 32 := Scalar.addi v4533_r0 c10_i32_3603_r0
  let c11_i32_3604_r0 : BitVec 32 := 11#32
  let v8736_r0 : BitVec 32 := Scalar.remsi v8735_r0 c11_i32_3604_r0
  let c0_i32_3608_r0 : BitVec 32 := 0#32
  let c0_i32_3609_r0 : BitVec 32 := 0#32
  ![v8736_r0.toNat, 0, 0]
def k0_off632 (v8740_r0 : BitVec 32) : Fin 2 → Nat :=
  let c2_i32_3607_r0 : BitVec 32 := 2#32
  let v8741_r0 : BitVec 32 := Scalar.shrsi v8740_r0 c2_i32_3607_r0
  let c0_i32_3612_r0 : BitVec 32 := 0#32
  ![v8741_r0.toNat, 0]

def k0_chk231 (v8740_r0 : BitVec 32) : Prop :=
  (∀ a, (k0_off632 v8740_r0) a + S1x2560.size a ≤ S4000x2560.size a)
theorem k0_off632_inb : ∀ (v8740_r0 : BitVec 32) (k0_hw231 : k0_chk231 v8740_r0), ∀ a, (k0_off632 v8740_r0) a + S1x2560.size a ≤ S4000x2560.size a := fun v8740_r0 k0_hw231 => k0_hw231

def k0_off633 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3603_r0 : BitVec 32 := 10#32
  let v8735_r0 : BitVec 32 := Scalar.addi v4533_r0 c10_i32_3603_r0
  let c64_i32_3605_r0 : BitVec 32 := 64#32
  let v8737_r0 : BitVec 32 := Scalar.muli v8735_r0 c64_i32_3605_r0
  let c39_i32_3613_r0 : BitVec 32 := 39#32
  let v8748_r0 : BitVec 32 := Scalar.addi v8737_r0 c39_i32_3613_r0
  let v8749_r0 : Index := Scalar.indexCast v8748_r0
  ![v8749_r0.toNat]
def k0_off634 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3603_r0 : BitVec 32 := 10#32
  let v8735_r0 : BitVec 32 := Scalar.addi v4533_r0 c10_i32_3603_r0
  let c11_i32_3604_r0 : BitVec 32 := 11#32
  let v8736_r0 : BitVec 32 := Scalar.remsi v8735_r0 c11_i32_3604_r0
  ![v8736_r0.toNat]
def k0_off635 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3603_r0 : BitVec 32 := 10#32
  let v8735_r0 : BitVec 32 := Scalar.addi v4533_r0 c10_i32_3603_r0
  let c11_i32_3604_r0 : BitVec 32 := 11#32
  let v8736_r0 : BitVec 32 := Scalar.remsi v8735_r0 c11_i32_3604_r0
  let c0_i32_3615_r0 : BitVec 32 := 0#32
  let c0_i32_3616_r0 : BitVec 32 := 0#32
  ![v8736_r0.toNat, 0, 0]
def k0_off636 (v8750_r0 : BitVec 32) : Fin 2 → Nat :=
  let c2_i32_3614_r0 : BitVec 32 := 2#32
  let v8751_r0 : BitVec 32 := Scalar.shrsi v8750_r0 c2_i32_3614_r0
  let c0_i32_3619_r0 : BitVec 32 := 0#32
  ![v8751_r0.toNat, 0]

def k0_chk232 (v8750_r0 : BitVec 32) : Prop :=
  (∀ a, (k0_off636 v8750_r0) a + S1x2560.size a ≤ S4000x2560.size a)
theorem k0_off636_inb : ∀ (v8750_r0 : BitVec 32) (k0_hw232 : k0_chk232 v8750_r0), ∀ a, (k0_off636 v8750_r0) a + S1x2560.size a ≤ S4000x2560.size a := fun v8750_r0 k0_hw232 => k0_hw232

def k0_off637 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3603_r0 : BitVec 32 := 10#32
  let v8735_r0 : BitVec 32 := Scalar.addi v4533_r0 c10_i32_3603_r0
  let c64_i32_3605_r0 : BitVec 32 := 64#32
  let v8737_r0 : BitVec 32 := Scalar.muli v8735_r0 c64_i32_3605_r0
  let c40_i32_3620_r0 : BitVec 32 := 40#32
  let v8758_r0 : BitVec 32 := Scalar.addi v8737_r0 c40_i32_3620_r0
  let v8759_r0 : Index := Scalar.indexCast v8758_r0
  ![v8759_r0.toNat]
def k0_off638 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3603_r0 : BitVec 32 := 10#32
  let v8735_r0 : BitVec 32 := Scalar.addi v4533_r0 c10_i32_3603_r0
  let c11_i32_3604_r0 : BitVec 32 := 11#32
  let v8736_r0 : BitVec 32 := Scalar.remsi v8735_r0 c11_i32_3604_r0
  ![v8736_r0.toNat]
def k0_off639 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3603_r0 : BitVec 32 := 10#32
  let v8735_r0 : BitVec 32 := Scalar.addi v4533_r0 c10_i32_3603_r0
  let c11_i32_3604_r0 : BitVec 32 := 11#32
  let v8736_r0 : BitVec 32 := Scalar.remsi v8735_r0 c11_i32_3604_r0
  let c0_i32_3622_r0 : BitVec 32 := 0#32
  let c0_i32_3623_r0 : BitVec 32 := 0#32
  ![v8736_r0.toNat, 0, 0]
def k0_off640 (v8760_r0 : BitVec 32) : Fin 2 → Nat :=
  let c2_i32_3621_r0 : BitVec 32 := 2#32
  let v8761_r0 : BitVec 32 := Scalar.shrsi v8760_r0 c2_i32_3621_r0
  let c0_i32_3626_r0 : BitVec 32 := 0#32
  ![v8761_r0.toNat, 0]

def k0_chk233 (v8760_r0 : BitVec 32) : Prop :=
  (∀ a, (k0_off640 v8760_r0) a + S1x2560.size a ≤ S4000x2560.size a)
theorem k0_off640_inb : ∀ (v8760_r0 : BitVec 32) (k0_hw233 : k0_chk233 v8760_r0), ∀ a, (k0_off640 v8760_r0) a + S1x2560.size a ≤ S4000x2560.size a := fun v8760_r0 k0_hw233 => k0_hw233

def k0_off641 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v8768_r0 : Index := Scalar.indexCast v4534_r0
  let c0_3627_r0 : Index := 0#32
  let c1536_3628_r0 : Index := 1536#32
  ![v8768_r0.toNat, 0, 1536]
def k0_off642 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v8909_r0 : Index := Scalar.indexCast v4535_r0
  let c0_3688_r0 : Index := 0#32
  let c2048_r0 : Index := 2048#32
  ![v8909_r0.toNat, 0, 2048]
def k0_off643 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3689_r0 : BitVec 32 := 10#32
  let v8913_r0 : BitVec 32 := Scalar.addi v4533_r0 c10_i32_3689_r0
  let c64_i32_3691_r0 : BitVec 32 := 64#32
  let v8915_r0 : BitVec 32 := Scalar.muli v8913_r0 c64_i32_3691_r0
  let c41_i32_3692_r0 : BitVec 32 := 41#32
  let v8916_r0 : BitVec 32 := Scalar.addi v8915_r0 c41_i32_3692_r0
  let v8917_r0 : Index := Scalar.indexCast v8916_r0
  ![v8917_r0.toNat]
def k0_off644 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3689_r0 : BitVec 32 := 10#32
  let v8913_r0 : BitVec 32 := Scalar.addi v4533_r0 c10_i32_3689_r0
  let c11_i32_3690_r0 : BitVec 32 := 11#32
  let v8914_r0 : BitVec 32 := Scalar.remsi v8913_r0 c11_i32_3690_r0
  ![v8914_r0.toNat]
def k0_off645 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3689_r0 : BitVec 32 := 10#32
  let v8913_r0 : BitVec 32 := Scalar.addi v4533_r0 c10_i32_3689_r0
  let c11_i32_3690_r0 : BitVec 32 := 11#32
  let v8914_r0 : BitVec 32 := Scalar.remsi v8913_r0 c11_i32_3690_r0
  let c0_i32_3694_r0 : BitVec 32 := 0#32
  let c0_i32_3695_r0 : BitVec 32 := 0#32
  ![v8914_r0.toNat, 0, 0]
def k0_off646 (v8918_r0 : BitVec 32) : Fin 2 → Nat :=
  let c2_i32_3693_r0 : BitVec 32 := 2#32
  let v8919_r0 : BitVec 32 := Scalar.shrsi v8918_r0 c2_i32_3693_r0
  let c0_i32_3698_r0 : BitVec 32 := 0#32
  ![v8919_r0.toNat, 0]

def k0_chk234 (v8918_r0 : BitVec 32) : Prop :=
  (∀ a, (k0_off646 v8918_r0) a + S1x2560.size a ≤ S4000x2560.size a)
theorem k0_off646_inb : ∀ (v8918_r0 : BitVec 32) (k0_hw234 : k0_chk234 v8918_r0), ∀ a, (k0_off646 v8918_r0) a + S1x2560.size a ≤ S4000x2560.size a := fun v8918_r0 k0_hw234 => k0_hw234

def k0_off647 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3689_r0 : BitVec 32 := 10#32
  let v8913_r0 : BitVec 32 := Scalar.addi v4533_r0 c10_i32_3689_r0
  let c64_i32_3691_r0 : BitVec 32 := 64#32
  let v8915_r0 : BitVec 32 := Scalar.muli v8913_r0 c64_i32_3691_r0
  let c42_i32_3699_r0 : BitVec 32 := 42#32
  let v8926_r0 : BitVec 32 := Scalar.addi v8915_r0 c42_i32_3699_r0
  let v8927_r0 : Index := Scalar.indexCast v8926_r0
  ![v8927_r0.toNat]
def k0_off648 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3689_r0 : BitVec 32 := 10#32
  let v8913_r0 : BitVec 32 := Scalar.addi v4533_r0 c10_i32_3689_r0
  let c11_i32_3690_r0 : BitVec 32 := 11#32
  let v8914_r0 : BitVec 32 := Scalar.remsi v8913_r0 c11_i32_3690_r0
  ![v8914_r0.toNat]
def k0_off649 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3689_r0 : BitVec 32 := 10#32
  let v8913_r0 : BitVec 32 := Scalar.addi v4533_r0 c10_i32_3689_r0
  let c11_i32_3690_r0 : BitVec 32 := 11#32
  let v8914_r0 : BitVec 32 := Scalar.remsi v8913_r0 c11_i32_3690_r0
  let c0_i32_3701_r0 : BitVec 32 := 0#32
  let c0_i32_3702_r0 : BitVec 32 := 0#32
  ![v8914_r0.toNat, 0, 0]
def k0_off650 (v8928_r0 : BitVec 32) : Fin 2 → Nat :=
  let c2_i32_3700_r0 : BitVec 32 := 2#32
  let v8929_r0 : BitVec 32 := Scalar.shrsi v8928_r0 c2_i32_3700_r0
  let c0_i32_3705_r0 : BitVec 32 := 0#32
  ![v8929_r0.toNat, 0]

def k0_chk235 (v8928_r0 : BitVec 32) : Prop :=
  (∀ a, (k0_off650 v8928_r0) a + S1x2560.size a ≤ S4000x2560.size a)
theorem k0_off650_inb : ∀ (v8928_r0 : BitVec 32) (k0_hw235 : k0_chk235 v8928_r0), ∀ a, (k0_off650 v8928_r0) a + S1x2560.size a ≤ S4000x2560.size a := fun v8928_r0 k0_hw235 => k0_hw235

def k0_off651 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3689_r0 : BitVec 32 := 10#32
  let v8913_r0 : BitVec 32 := Scalar.addi v4533_r0 c10_i32_3689_r0
  let c64_i32_3691_r0 : BitVec 32 := 64#32
  let v8915_r0 : BitVec 32 := Scalar.muli v8913_r0 c64_i32_3691_r0
  let c43_i32_3706_r0 : BitVec 32 := 43#32
  let v8936_r0 : BitVec 32 := Scalar.addi v8915_r0 c43_i32_3706_r0
  let v8937_r0 : Index := Scalar.indexCast v8936_r0
  ![v8937_r0.toNat]
def k0_off652 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3689_r0 : BitVec 32 := 10#32
  let v8913_r0 : BitVec 32 := Scalar.addi v4533_r0 c10_i32_3689_r0
  let c11_i32_3690_r0 : BitVec 32 := 11#32
  let v8914_r0 : BitVec 32 := Scalar.remsi v8913_r0 c11_i32_3690_r0
  ![v8914_r0.toNat]
def k0_off653 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3689_r0 : BitVec 32 := 10#32
  let v8913_r0 : BitVec 32 := Scalar.addi v4533_r0 c10_i32_3689_r0
  let c11_i32_3690_r0 : BitVec 32 := 11#32
  let v8914_r0 : BitVec 32 := Scalar.remsi v8913_r0 c11_i32_3690_r0
  let c0_i32_3708_r0 : BitVec 32 := 0#32
  let c0_i32_3709_r0 : BitVec 32 := 0#32
  ![v8914_r0.toNat, 0, 0]
def k0_off654 (v8938_r0 : BitVec 32) : Fin 2 → Nat :=
  let c2_i32_3707_r0 : BitVec 32 := 2#32
  let v8939_r0 : BitVec 32 := Scalar.shrsi v8938_r0 c2_i32_3707_r0
  let c0_i32_3712_r0 : BitVec 32 := 0#32
  ![v8939_r0.toNat, 0]

def k0_chk236 (v8938_r0 : BitVec 32) : Prop :=
  (∀ a, (k0_off654 v8938_r0) a + S1x2560.size a ≤ S4000x2560.size a)
theorem k0_off654_inb : ∀ (v8938_r0 : BitVec 32) (k0_hw236 : k0_chk236 v8938_r0), ∀ a, (k0_off654 v8938_r0) a + S1x2560.size a ≤ S4000x2560.size a := fun v8938_r0 k0_hw236 => k0_hw236

def k0_off655 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v8946_r0 : Index := Scalar.indexCast v4534_r0
  let c0_3713_r0 : Index := 0#32
  let c1664_r0 : Index := 1664#32
  ![v8946_r0.toNat, 0, 1664]
def k0_off656 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v9087_r0 : Index := Scalar.indexCast v4535_r0
  let c0_3773_r0 : Index := 0#32
  let c2304_r0 : Index := 2304#32
  ![v9087_r0.toNat, 0, 2304]
def k0_off657 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c64_i32_3776_r0 : BitVec 32 := 64#32
  let v9093_r0 : BitVec 32 := Scalar.muli v9091_r0 c64_i32_3776_r0
  let c44_i32_3777_r0 : BitVec 32 := 44#32
  let v9094_r0 : BitVec 32 := Scalar.addi v9093_r0 c44_i32_3777_r0
  let v9095_r0 : Index := Scalar.indexCast v9094_r0
  ![v9095_r0.toNat]
def k0_off658 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c11_i32_3775_r0 : BitVec 32 := 11#32
  let v9092_r0 : BitVec 32 := Scalar.remsi v9091_r0 c11_i32_3775_r0
  ![v9092_r0.toNat]
def k0_off659 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c11_i32_3775_r0 : BitVec 32 := 11#32
  let v9092_r0 : BitVec 32 := Scalar.remsi v9091_r0 c11_i32_3775_r0
  let c0_i32_3779_r0 : BitVec 32 := 0#32
  let c0_i32_3780_r0 : BitVec 32 := 0#32
  ![v9092_r0.toNat, 0, 0]
def k0_off660 (v9096_r0 : BitVec 32) : Fin 2 → Nat :=
  let c2_i32_3778_r0 : BitVec 32 := 2#32
  let v9097_r0 : BitVec 32 := Scalar.shrsi v9096_r0 c2_i32_3778_r0
  let c0_i32_3783_r0 : BitVec 32 := 0#32
  ![v9097_r0.toNat, 0]

def k0_chk237 (v9096_r0 : BitVec 32) : Prop :=
  (∀ a, (k0_off660 v9096_r0) a + S1x2560.size a ≤ S4000x2560.size a)
theorem k0_off660_inb : ∀ (v9096_r0 : BitVec 32) (k0_hw237 : k0_chk237 v9096_r0), ∀ a, (k0_off660 v9096_r0) a + S1x2560.size a ≤ S4000x2560.size a := fun v9096_r0 k0_hw237 => k0_hw237

def k0_off661 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c64_i32_3776_r0 : BitVec 32 := 64#32
  let v9093_r0 : BitVec 32 := Scalar.muli v9091_r0 c64_i32_3776_r0
  let c45_i32_3784_r0 : BitVec 32 := 45#32
  let v9104_r0 : BitVec 32 := Scalar.addi v9093_r0 c45_i32_3784_r0
  let v9105_r0 : Index := Scalar.indexCast v9104_r0
  ![v9105_r0.toNat]
def k0_off662 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c11_i32_3775_r0 : BitVec 32 := 11#32
  let v9092_r0 : BitVec 32 := Scalar.remsi v9091_r0 c11_i32_3775_r0
  ![v9092_r0.toNat]
def k0_off663 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c11_i32_3775_r0 : BitVec 32 := 11#32
  let v9092_r0 : BitVec 32 := Scalar.remsi v9091_r0 c11_i32_3775_r0
  let c0_i32_3786_r0 : BitVec 32 := 0#32
  let c0_i32_3787_r0 : BitVec 32 := 0#32
  ![v9092_r0.toNat, 0, 0]
def k0_off664 (v9106_r0 : BitVec 32) : Fin 2 → Nat :=
  let c2_i32_3785_r0 : BitVec 32 := 2#32
  let v9107_r0 : BitVec 32 := Scalar.shrsi v9106_r0 c2_i32_3785_r0
  let c0_i32_3790_r0 : BitVec 32 := 0#32
  ![v9107_r0.toNat, 0]

def k0_chk238 (v9106_r0 : BitVec 32) : Prop :=
  (∀ a, (k0_off664 v9106_r0) a + S1x2560.size a ≤ S4000x2560.size a)
theorem k0_off664_inb : ∀ (v9106_r0 : BitVec 32) (k0_hw238 : k0_chk238 v9106_r0), ∀ a, (k0_off664 v9106_r0) a + S1x2560.size a ≤ S4000x2560.size a := fun v9106_r0 k0_hw238 => k0_hw238

def k0_off665 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c64_i32_3776_r0 : BitVec 32 := 64#32
  let v9093_r0 : BitVec 32 := Scalar.muli v9091_r0 c64_i32_3776_r0
  let c46_i32_3791_r0 : BitVec 32 := 46#32
  let v9114_r0 : BitVec 32 := Scalar.addi v9093_r0 c46_i32_3791_r0
  let v9115_r0 : Index := Scalar.indexCast v9114_r0
  ![v9115_r0.toNat]
def k0_off666 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c11_i32_3775_r0 : BitVec 32 := 11#32
  let v9092_r0 : BitVec 32 := Scalar.remsi v9091_r0 c11_i32_3775_r0
  ![v9092_r0.toNat]
def k0_off667 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c11_i32_3775_r0 : BitVec 32 := 11#32
  let v9092_r0 : BitVec 32 := Scalar.remsi v9091_r0 c11_i32_3775_r0
  let c0_i32_3793_r0 : BitVec 32 := 0#32
  let c0_i32_3794_r0 : BitVec 32 := 0#32
  ![v9092_r0.toNat, 0, 0]
def k0_off668 (v9116_r0 : BitVec 32) : Fin 2 → Nat :=
  let c2_i32_3792_r0 : BitVec 32 := 2#32
  let v9117_r0 : BitVec 32 := Scalar.shrsi v9116_r0 c2_i32_3792_r0
  let c0_i32_3797_r0 : BitVec 32 := 0#32
  ![v9117_r0.toNat, 0]

def k0_chk239 (v9116_r0 : BitVec 32) : Prop :=
  (∀ a, (k0_off668 v9116_r0) a + S1x2560.size a ≤ S4000x2560.size a)
theorem k0_off668_inb : ∀ (v9116_r0 : BitVec 32) (k0_hw239 : k0_chk239 v9116_r0), ∀ a, (k0_off668 v9116_r0) a + S1x2560.size a ≤ S4000x2560.size a := fun v9116_r0 k0_hw239 => k0_hw239

def k0_off669 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c64_i32_3776_r0 : BitVec 32 := 64#32
  let v9093_r0 : BitVec 32 := Scalar.muli v9091_r0 c64_i32_3776_r0
  let c47_i32_3798_r0 : BitVec 32 := 47#32
  let v9124_r0 : BitVec 32 := Scalar.addi v9093_r0 c47_i32_3798_r0
  let v9125_r0 : Index := Scalar.indexCast v9124_r0
  ![v9125_r0.toNat]
def k0_off670 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c11_i32_3775_r0 : BitVec 32 := 11#32
  let v9092_r0 : BitVec 32 := Scalar.remsi v9091_r0 c11_i32_3775_r0
  ![v9092_r0.toNat]
def k0_off671 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3774_r0 : BitVec 32 := 10#32
  let v9091_r0 : BitVec 32 := Scalar.addi v4533_r0 c10_i32_3774_r0
  let c11_i32_3775_r0 : BitVec 32 := 11#32
  let v9092_r0 : BitVec 32 := Scalar.remsi v9091_r0 c11_i32_3775_r0
  let c0_i32_3800_r0 : BitVec 32 := 0#32
  let c0_i32_3801_r0 : BitVec 32 := 0#32
  ![v9092_r0.toNat, 0, 0]
def k0_off672 (v9126_r0 : BitVec 32) : Fin 2 → Nat :=
  let c2_i32_3799_r0 : BitVec 32 := 2#32
  let v9127_r0 : BitVec 32 := Scalar.shrsi v9126_r0 c2_i32_3799_r0
  let c0_i32_3804_r0 : BitVec 32 := 0#32
  ![v9127_r0.toNat, 0]

def k0_chk240 (v9126_r0 : BitVec 32) : Prop :=
  (∀ a, (k0_off672 v9126_r0) a + S1x2560.size a ≤ S4000x2560.size a)
theorem k0_off672_inb : ∀ (v9126_r0 : BitVec 32) (k0_hw240 : k0_chk240 v9126_r0), ∀ a, (k0_off672 v9126_r0) a + S1x2560.size a ≤ S4000x2560.size a := fun v9126_r0 k0_hw240 => k0_hw240

def k0_off673 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v9134_r0 : Index := Scalar.indexCast v4534_r0
  let c0_3805_r0 : Index := 0#32
  let c1792_3806_r0 : Index := 1792#32
  ![v9134_r0.toNat, 0, 1792]
def k0_off674 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v9275_r0 : Index := Scalar.indexCast v4535_r0
  let c0_3866_r0 : Index := 0#32
  let c2560_r0 : Index := 2560#32
  ![v9275_r0.toNat, 0, 2560]
def k0_off675 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3867_r0 : BitVec 32 := 10#32
  let v9279_r0 : BitVec 32 := Scalar.addi v4533_r0 c10_i32_3867_r0
  let c64_i32_3869_r0 : BitVec 32 := 64#32
  let v9281_r0 : BitVec 32 := Scalar.muli v9279_r0 c64_i32_3869_r0
  let c48_i32_3870_r0 : BitVec 32 := 48#32
  let v9282_r0 : BitVec 32 := Scalar.addi v9281_r0 c48_i32_3870_r0
  let v9283_r0 : Index := Scalar.indexCast v9282_r0
  ![v9283_r0.toNat]
def k0_off676 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3867_r0 : BitVec 32 := 10#32
  let v9279_r0 : BitVec 32 := Scalar.addi v4533_r0 c10_i32_3867_r0
  let c11_i32_3868_r0 : BitVec 32 := 11#32
  let v9280_r0 : BitVec 32 := Scalar.remsi v9279_r0 c11_i32_3868_r0
  ![v9280_r0.toNat]
def k0_off677 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3867_r0 : BitVec 32 := 10#32
  let v9279_r0 : BitVec 32 := Scalar.addi v4533_r0 c10_i32_3867_r0
  let c11_i32_3868_r0 : BitVec 32 := 11#32
  let v9280_r0 : BitVec 32 := Scalar.remsi v9279_r0 c11_i32_3868_r0
  let c0_i32_3872_r0 : BitVec 32 := 0#32
  let c0_i32_3873_r0 : BitVec 32 := 0#32
  ![v9280_r0.toNat, 0, 0]
def k0_off678 (v9284_r0 : BitVec 32) : Fin 2 → Nat :=
  let c2_i32_3871_r0 : BitVec 32 := 2#32
  let v9285_r0 : BitVec 32 := Scalar.shrsi v9284_r0 c2_i32_3871_r0
  let c0_i32_3876_r0 : BitVec 32 := 0#32
  ![v9285_r0.toNat, 0]

def k0_chk241 (v9284_r0 : BitVec 32) : Prop :=
  (∀ a, (k0_off678 v9284_r0) a + S1x2560.size a ≤ S4000x2560.size a)
theorem k0_off678_inb : ∀ (v9284_r0 : BitVec 32) (k0_hw241 : k0_chk241 v9284_r0), ∀ a, (k0_off678 v9284_r0) a + S1x2560.size a ≤ S4000x2560.size a := fun v9284_r0 k0_hw241 => k0_hw241

def k0_off679 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3867_r0 : BitVec 32 := 10#32
  let v9279_r0 : BitVec 32 := Scalar.addi v4533_r0 c10_i32_3867_r0
  let c64_i32_3869_r0 : BitVec 32 := 64#32
  let v9281_r0 : BitVec 32 := Scalar.muli v9279_r0 c64_i32_3869_r0
  let c49_i32_3877_r0 : BitVec 32 := 49#32
  let v9292_r0 : BitVec 32 := Scalar.addi v9281_r0 c49_i32_3877_r0
  let v9293_r0 : Index := Scalar.indexCast v9292_r0
  ![v9293_r0.toNat]
def k0_off680 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3867_r0 : BitVec 32 := 10#32
  let v9279_r0 : BitVec 32 := Scalar.addi v4533_r0 c10_i32_3867_r0
  let c11_i32_3868_r0 : BitVec 32 := 11#32
  let v9280_r0 : BitVec 32 := Scalar.remsi v9279_r0 c11_i32_3868_r0
  ![v9280_r0.toNat]
def k0_off681 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3867_r0 : BitVec 32 := 10#32
  let v9279_r0 : BitVec 32 := Scalar.addi v4533_r0 c10_i32_3867_r0
  let c11_i32_3868_r0 : BitVec 32 := 11#32
  let v9280_r0 : BitVec 32 := Scalar.remsi v9279_r0 c11_i32_3868_r0
  let c0_i32_3879_r0 : BitVec 32 := 0#32
  let c0_i32_3880_r0 : BitVec 32 := 0#32
  ![v9280_r0.toNat, 0, 0]
def k0_off682 (v9294_r0 : BitVec 32) : Fin 2 → Nat :=
  let c2_i32_3878_r0 : BitVec 32 := 2#32
  let v9295_r0 : BitVec 32 := Scalar.shrsi v9294_r0 c2_i32_3878_r0
  let c0_i32_3883_r0 : BitVec 32 := 0#32
  ![v9295_r0.toNat, 0]

def k0_chk242 (v9294_r0 : BitVec 32) : Prop :=
  (∀ a, (k0_off682 v9294_r0) a + S1x2560.size a ≤ S4000x2560.size a)
theorem k0_off682_inb : ∀ (v9294_r0 : BitVec 32) (k0_hw242 : k0_chk242 v9294_r0), ∀ a, (k0_off682 v9294_r0) a + S1x2560.size a ≤ S4000x2560.size a := fun v9294_r0 k0_hw242 => k0_hw242

def k0_off683 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3867_r0 : BitVec 32 := 10#32
  let v9279_r0 : BitVec 32 := Scalar.addi v4533_r0 c10_i32_3867_r0
  let c64_i32_3869_r0 : BitVec 32 := 64#32
  let v9281_r0 : BitVec 32 := Scalar.muli v9279_r0 c64_i32_3869_r0
  let c50_i32_3884_r0 : BitVec 32 := 50#32
  let v9302_r0 : BitVec 32 := Scalar.addi v9281_r0 c50_i32_3884_r0
  let v9303_r0 : Index := Scalar.indexCast v9302_r0
  ![v9303_r0.toNat]
def k0_off684 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3867_r0 : BitVec 32 := 10#32
  let v9279_r0 : BitVec 32 := Scalar.addi v4533_r0 c10_i32_3867_r0
  let c11_i32_3868_r0 : BitVec 32 := 11#32
  let v9280_r0 : BitVec 32 := Scalar.remsi v9279_r0 c11_i32_3868_r0
  ![v9280_r0.toNat]
def k0_off685 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3867_r0 : BitVec 32 := 10#32
  let v9279_r0 : BitVec 32 := Scalar.addi v4533_r0 c10_i32_3867_r0
  let c11_i32_3868_r0 : BitVec 32 := 11#32
  let v9280_r0 : BitVec 32 := Scalar.remsi v9279_r0 c11_i32_3868_r0
  let c0_i32_3886_r0 : BitVec 32 := 0#32
  let c0_i32_3887_r0 : BitVec 32 := 0#32
  ![v9280_r0.toNat, 0, 0]
def k0_off686 (v9304_r0 : BitVec 32) : Fin 2 → Nat :=
  let c2_i32_3885_r0 : BitVec 32 := 2#32
  let v9305_r0 : BitVec 32 := Scalar.shrsi v9304_r0 c2_i32_3885_r0
  let c0_i32_3890_r0 : BitVec 32 := 0#32
  ![v9305_r0.toNat, 0]

def k0_chk243 (v9304_r0 : BitVec 32) : Prop :=
  (∀ a, (k0_off686 v9304_r0) a + S1x2560.size a ≤ S4000x2560.size a)
theorem k0_off686_inb : ∀ (v9304_r0 : BitVec 32) (k0_hw243 : k0_chk243 v9304_r0), ∀ a, (k0_off686 v9304_r0) a + S1x2560.size a ≤ S4000x2560.size a := fun v9304_r0 k0_hw243 => k0_hw243

def k0_off687 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v9312_r0 : Index := Scalar.indexCast v4534_r0
  let c0_3891_r0 : Index := 0#32
  let c1920_r0 : Index := 1920#32
  ![v9312_r0.toNat, 0, 1920]
def k0_off688 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v9453_r0 : Index := Scalar.indexCast v4535_r0
  let c0_3951_r0 : Index := 0#32
  let c2816_r0 : Index := 2816#32
  ![v9453_r0.toNat, 0, 2816]
def k0_off689 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3952_r0 : BitVec 32 := 10#32
  let v9457_r0 : BitVec 32 := Scalar.addi v4533_r0 c10_i32_3952_r0
  let c64_i32_3954_r0 : BitVec 32 := 64#32
  let v9459_r0 : BitVec 32 := Scalar.muli v9457_r0 c64_i32_3954_r0
  let c51_i32_3955_r0 : BitVec 32 := 51#32
  let v9460_r0 : BitVec 32 := Scalar.addi v9459_r0 c51_i32_3955_r0
  let v9461_r0 : Index := Scalar.indexCast v9460_r0
  ![v9461_r0.toNat]
def k0_off690 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3952_r0 : BitVec 32 := 10#32
  let v9457_r0 : BitVec 32 := Scalar.addi v4533_r0 c10_i32_3952_r0
  let c11_i32_3953_r0 : BitVec 32 := 11#32
  let v9458_r0 : BitVec 32 := Scalar.remsi v9457_r0 c11_i32_3953_r0
  ![v9458_r0.toNat]
def k0_off691 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3952_r0 : BitVec 32 := 10#32
  let v9457_r0 : BitVec 32 := Scalar.addi v4533_r0 c10_i32_3952_r0
  let c11_i32_3953_r0 : BitVec 32 := 11#32
  let v9458_r0 : BitVec 32 := Scalar.remsi v9457_r0 c11_i32_3953_r0
  let c0_i32_3957_r0 : BitVec 32 := 0#32
  let c0_i32_3958_r0 : BitVec 32 := 0#32
  ![v9458_r0.toNat, 0, 0]
def k0_off692 (v9462_r0 : BitVec 32) : Fin 2 → Nat :=
  let c2_i32_3956_r0 : BitVec 32 := 2#32
  let v9463_r0 : BitVec 32 := Scalar.shrsi v9462_r0 c2_i32_3956_r0
  let c0_i32_3961_r0 : BitVec 32 := 0#32
  ![v9463_r0.toNat, 0]

def k0_chk244 (v9462_r0 : BitVec 32) : Prop :=
  (∀ a, (k0_off692 v9462_r0) a + S1x2560.size a ≤ S4000x2560.size a)
theorem k0_off692_inb : ∀ (v9462_r0 : BitVec 32) (k0_hw244 : k0_chk244 v9462_r0), ∀ a, (k0_off692 v9462_r0) a + S1x2560.size a ≤ S4000x2560.size a := fun v9462_r0 k0_hw244 => k0_hw244

def k0_off693 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3952_r0 : BitVec 32 := 10#32
  let v9457_r0 : BitVec 32 := Scalar.addi v4533_r0 c10_i32_3952_r0
  let c64_i32_3954_r0 : BitVec 32 := 64#32
  let v9459_r0 : BitVec 32 := Scalar.muli v9457_r0 c64_i32_3954_r0
  let c52_i32_3962_r0 : BitVec 32 := 52#32
  let v9470_r0 : BitVec 32 := Scalar.addi v9459_r0 c52_i32_3962_r0
  let v9471_r0 : Index := Scalar.indexCast v9470_r0
  ![v9471_r0.toNat]
def k0_off694 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3952_r0 : BitVec 32 := 10#32
  let v9457_r0 : BitVec 32 := Scalar.addi v4533_r0 c10_i32_3952_r0
  let c11_i32_3953_r0 : BitVec 32 := 11#32
  let v9458_r0 : BitVec 32 := Scalar.remsi v9457_r0 c11_i32_3953_r0
  ![v9458_r0.toNat]
def k0_off695 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3952_r0 : BitVec 32 := 10#32
  let v9457_r0 : BitVec 32 := Scalar.addi v4533_r0 c10_i32_3952_r0
  let c11_i32_3953_r0 : BitVec 32 := 11#32
  let v9458_r0 : BitVec 32 := Scalar.remsi v9457_r0 c11_i32_3953_r0
  let c0_i32_3964_r0 : BitVec 32 := 0#32
  let c0_i32_3965_r0 : BitVec 32 := 0#32
  ![v9458_r0.toNat, 0, 0]
def k0_off696 (v9472_r0 : BitVec 32) : Fin 2 → Nat :=
  let c2_i32_3963_r0 : BitVec 32 := 2#32
  let v9473_r0 : BitVec 32 := Scalar.shrsi v9472_r0 c2_i32_3963_r0
  let c0_i32_3968_r0 : BitVec 32 := 0#32
  ![v9473_r0.toNat, 0]

def k0_chk245 (v9472_r0 : BitVec 32) : Prop :=
  (∀ a, (k0_off696 v9472_r0) a + S1x2560.size a ≤ S4000x2560.size a)
theorem k0_off696_inb : ∀ (v9472_r0 : BitVec 32) (k0_hw245 : k0_chk245 v9472_r0), ∀ a, (k0_off696 v9472_r0) a + S1x2560.size a ≤ S4000x2560.size a := fun v9472_r0 k0_hw245 => k0_hw245

def k0_off697 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3952_r0 : BitVec 32 := 10#32
  let v9457_r0 : BitVec 32 := Scalar.addi v4533_r0 c10_i32_3952_r0
  let c64_i32_3954_r0 : BitVec 32 := 64#32
  let v9459_r0 : BitVec 32 := Scalar.muli v9457_r0 c64_i32_3954_r0
  let c53_i32_3969_r0 : BitVec 32 := 53#32
  let v9480_r0 : BitVec 32 := Scalar.addi v9459_r0 c53_i32_3969_r0
  let v9481_r0 : Index := Scalar.indexCast v9480_r0
  ![v9481_r0.toNat]
def k0_off698 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3952_r0 : BitVec 32 := 10#32
  let v9457_r0 : BitVec 32 := Scalar.addi v4533_r0 c10_i32_3952_r0
  let c11_i32_3953_r0 : BitVec 32 := 11#32
  let v9458_r0 : BitVec 32 := Scalar.remsi v9457_r0 c11_i32_3953_r0
  ![v9458_r0.toNat]
def k0_off699 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_3952_r0 : BitVec 32 := 10#32
  let v9457_r0 : BitVec 32 := Scalar.addi v4533_r0 c10_i32_3952_r0
  let c11_i32_3953_r0 : BitVec 32 := 11#32
  let v9458_r0 : BitVec 32 := Scalar.remsi v9457_r0 c11_i32_3953_r0
  let c0_i32_3971_r0 : BitVec 32 := 0#32
  let c0_i32_3972_r0 : BitVec 32 := 0#32
  ![v9458_r0.toNat, 0, 0]
def k0_off700 (v9482_r0 : BitVec 32) : Fin 2 → Nat :=
  let c2_i32_3970_r0 : BitVec 32 := 2#32
  let v9483_r0 : BitVec 32 := Scalar.shrsi v9482_r0 c2_i32_3970_r0
  let c0_i32_3975_r0 : BitVec 32 := 0#32
  ![v9483_r0.toNat, 0]

def k0_chk246 (v9482_r0 : BitVec 32) : Prop :=
  (∀ a, (k0_off700 v9482_r0) a + S1x2560.size a ≤ S4000x2560.size a)
theorem k0_off700_inb : ∀ (v9482_r0 : BitVec 32) (k0_hw246 : k0_chk246 v9482_r0), ∀ a, (k0_off700 v9482_r0) a + S1x2560.size a ≤ S4000x2560.size a := fun v9482_r0 k0_hw246 => k0_hw246

def k0_off701 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v9490_r0 : Index := Scalar.indexCast v4534_r0
  let c0_3976_r0 : Index := 0#32
  let c2048_3977_r0 : Index := 2048#32
  ![v9490_r0.toNat, 0, 2048]
def k0_off702 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v9631_r0 : Index := Scalar.indexCast v4535_r0
  let c0_4037_r0 : Index := 0#32
  let c3072_r0 : Index := 3072#32
  ![v9631_r0.toNat, 0, 3072]
def k0_off703 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4038_r0 : BitVec 32 := 10#32
  let v9635_r0 : BitVec 32 := Scalar.addi v4533_r0 c10_i32_4038_r0
  let c64_i32_4040_r0 : BitVec 32 := 64#32
  let v9637_r0 : BitVec 32 := Scalar.muli v9635_r0 c64_i32_4040_r0
  let c54_i32_4041_r0 : BitVec 32 := 54#32
  let v9638_r0 : BitVec 32 := Scalar.addi v9637_r0 c54_i32_4041_r0
  let v9639_r0 : Index := Scalar.indexCast v9638_r0
  ![v9639_r0.toNat]
def k0_off704 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4038_r0 : BitVec 32 := 10#32
  let v9635_r0 : BitVec 32 := Scalar.addi v4533_r0 c10_i32_4038_r0
  let c11_i32_4039_r0 : BitVec 32 := 11#32
  let v9636_r0 : BitVec 32 := Scalar.remsi v9635_r0 c11_i32_4039_r0
  ![v9636_r0.toNat]
def k0_off705 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4038_r0 : BitVec 32 := 10#32
  let v9635_r0 : BitVec 32 := Scalar.addi v4533_r0 c10_i32_4038_r0
  let c11_i32_4039_r0 : BitVec 32 := 11#32
  let v9636_r0 : BitVec 32 := Scalar.remsi v9635_r0 c11_i32_4039_r0
  let c0_i32_4043_r0 : BitVec 32 := 0#32
  let c0_i32_4044_r0 : BitVec 32 := 0#32
  ![v9636_r0.toNat, 0, 0]
def k0_off706 (v9640_r0 : BitVec 32) : Fin 2 → Nat :=
  let c2_i32_4042_r0 : BitVec 32 := 2#32
  let v9641_r0 : BitVec 32 := Scalar.shrsi v9640_r0 c2_i32_4042_r0
  let c0_i32_4047_r0 : BitVec 32 := 0#32
  ![v9641_r0.toNat, 0]

def k0_chk247 (v9640_r0 : BitVec 32) : Prop :=
  (∀ a, (k0_off706 v9640_r0) a + S1x2560.size a ≤ S4000x2560.size a)
theorem k0_off706_inb : ∀ (v9640_r0 : BitVec 32) (k0_hw247 : k0_chk247 v9640_r0), ∀ a, (k0_off706 v9640_r0) a + S1x2560.size a ≤ S4000x2560.size a := fun v9640_r0 k0_hw247 => k0_hw247

def k0_off707 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4038_r0 : BitVec 32 := 10#32
  let v9635_r0 : BitVec 32 := Scalar.addi v4533_r0 c10_i32_4038_r0
  let c64_i32_4040_r0 : BitVec 32 := 64#32
  let v9637_r0 : BitVec 32 := Scalar.muli v9635_r0 c64_i32_4040_r0
  let c55_i32_4048_r0 : BitVec 32 := 55#32
  let v9648_r0 : BitVec 32 := Scalar.addi v9637_r0 c55_i32_4048_r0
  let v9649_r0 : Index := Scalar.indexCast v9648_r0
  ![v9649_r0.toNat]
def k0_off708 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4038_r0 : BitVec 32 := 10#32
  let v9635_r0 : BitVec 32 := Scalar.addi v4533_r0 c10_i32_4038_r0
  let c11_i32_4039_r0 : BitVec 32 := 11#32
  let v9636_r0 : BitVec 32 := Scalar.remsi v9635_r0 c11_i32_4039_r0
  ![v9636_r0.toNat]
def k0_off709 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4038_r0 : BitVec 32 := 10#32
  let v9635_r0 : BitVec 32 := Scalar.addi v4533_r0 c10_i32_4038_r0
  let c11_i32_4039_r0 : BitVec 32 := 11#32
  let v9636_r0 : BitVec 32 := Scalar.remsi v9635_r0 c11_i32_4039_r0
  let c0_i32_4050_r0 : BitVec 32 := 0#32
  let c0_i32_4051_r0 : BitVec 32 := 0#32
  ![v9636_r0.toNat, 0, 0]
def k0_off710 (v9650_r0 : BitVec 32) : Fin 2 → Nat :=
  let c2_i32_4049_r0 : BitVec 32 := 2#32
  let v9651_r0 : BitVec 32 := Scalar.shrsi v9650_r0 c2_i32_4049_r0
  let c0_i32_4054_r0 : BitVec 32 := 0#32
  ![v9651_r0.toNat, 0]

def k0_chk248 (v9650_r0 : BitVec 32) : Prop :=
  (∀ a, (k0_off710 v9650_r0) a + S1x2560.size a ≤ S4000x2560.size a)
theorem k0_off710_inb : ∀ (v9650_r0 : BitVec 32) (k0_hw248 : k0_chk248 v9650_r0), ∀ a, (k0_off710 v9650_r0) a + S1x2560.size a ≤ S4000x2560.size a := fun v9650_r0 k0_hw248 => k0_hw248

def k0_off711 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4038_r0 : BitVec 32 := 10#32
  let v9635_r0 : BitVec 32 := Scalar.addi v4533_r0 c10_i32_4038_r0
  let c64_i32_4040_r0 : BitVec 32 := 64#32
  let v9637_r0 : BitVec 32 := Scalar.muli v9635_r0 c64_i32_4040_r0
  let c56_i32_4055_r0 : BitVec 32 := 56#32
  let v9658_r0 : BitVec 32 := Scalar.addi v9637_r0 c56_i32_4055_r0
  let v9659_r0 : Index := Scalar.indexCast v9658_r0
  ![v9659_r0.toNat]
def k0_off712 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4038_r0 : BitVec 32 := 10#32
  let v9635_r0 : BitVec 32 := Scalar.addi v4533_r0 c10_i32_4038_r0
  let c11_i32_4039_r0 : BitVec 32 := 11#32
  let v9636_r0 : BitVec 32 := Scalar.remsi v9635_r0 c11_i32_4039_r0
  ![v9636_r0.toNat]
def k0_off713 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4038_r0 : BitVec 32 := 10#32
  let v9635_r0 : BitVec 32 := Scalar.addi v4533_r0 c10_i32_4038_r0
  let c11_i32_4039_r0 : BitVec 32 := 11#32
  let v9636_r0 : BitVec 32 := Scalar.remsi v9635_r0 c11_i32_4039_r0
  let c0_i32_4057_r0 : BitVec 32 := 0#32
  let c0_i32_4058_r0 : BitVec 32 := 0#32
  ![v9636_r0.toNat, 0, 0]
def k0_off714 (v9660_r0 : BitVec 32) : Fin 2 → Nat :=
  let c2_i32_4056_r0 : BitVec 32 := 2#32
  let v9661_r0 : BitVec 32 := Scalar.shrsi v9660_r0 c2_i32_4056_r0
  let c0_i32_4061_r0 : BitVec 32 := 0#32
  ![v9661_r0.toNat, 0]

def k0_chk249 (v9660_r0 : BitVec 32) : Prop :=
  (∀ a, (k0_off714 v9660_r0) a + S1x2560.size a ≤ S4000x2560.size a)
theorem k0_off714_inb : ∀ (v9660_r0 : BitVec 32) (k0_hw249 : k0_chk249 v9660_r0), ∀ a, (k0_off714 v9660_r0) a + S1x2560.size a ≤ S4000x2560.size a := fun v9660_r0 k0_hw249 => k0_hw249

def k0_off715 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v9668_r0 : Index := Scalar.indexCast v4534_r0
  let c0_4062_r0 : Index := 0#32
  let c2176_r0 : Index := 2176#32
  ![v9668_r0.toNat, 0, 2176]
def k0_off716 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v9809_r0 : Index := Scalar.indexCast v4535_r0
  let c0_4122_r0 : Index := 0#32
  let c3328_r0 : Index := 3328#32
  ![v9809_r0.toNat, 0, 3328]
def k0_off717 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4123_r0 : BitVec 32 := 10#32
  let v9813_r0 : BitVec 32 := Scalar.addi v4533_r0 c10_i32_4123_r0
  let c64_i32_4125_r0 : BitVec 32 := 64#32
  let v9815_r0 : BitVec 32 := Scalar.muli v9813_r0 c64_i32_4125_r0
  let c57_i32_4126_r0 : BitVec 32 := 57#32
  let v9816_r0 : BitVec 32 := Scalar.addi v9815_r0 c57_i32_4126_r0
  let v9817_r0 : Index := Scalar.indexCast v9816_r0
  ![v9817_r0.toNat]
def k0_off718 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4123_r0 : BitVec 32 := 10#32
  let v9813_r0 : BitVec 32 := Scalar.addi v4533_r0 c10_i32_4123_r0
  let c11_i32_4124_r0 : BitVec 32 := 11#32
  let v9814_r0 : BitVec 32 := Scalar.remsi v9813_r0 c11_i32_4124_r0
  ![v9814_r0.toNat]
def k0_off719 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4123_r0 : BitVec 32 := 10#32
  let v9813_r0 : BitVec 32 := Scalar.addi v4533_r0 c10_i32_4123_r0
  let c11_i32_4124_r0 : BitVec 32 := 11#32
  let v9814_r0 : BitVec 32 := Scalar.remsi v9813_r0 c11_i32_4124_r0
  let c0_i32_4128_r0 : BitVec 32 := 0#32
  let c0_i32_4129_r0 : BitVec 32 := 0#32
  ![v9814_r0.toNat, 0, 0]
def k0_off720 (v9818_r0 : BitVec 32) : Fin 2 → Nat :=
  let c2_i32_4127_r0 : BitVec 32 := 2#32
  let v9819_r0 : BitVec 32 := Scalar.shrsi v9818_r0 c2_i32_4127_r0
  let c0_i32_4132_r0 : BitVec 32 := 0#32
  ![v9819_r0.toNat, 0]

def k0_chk250 (v9818_r0 : BitVec 32) : Prop :=
  (∀ a, (k0_off720 v9818_r0) a + S1x2560.size a ≤ S4000x2560.size a)
theorem k0_off720_inb : ∀ (v9818_r0 : BitVec 32) (k0_hw250 : k0_chk250 v9818_r0), ∀ a, (k0_off720 v9818_r0) a + S1x2560.size a ≤ S4000x2560.size a := fun v9818_r0 k0_hw250 => k0_hw250

def k0_off721 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4123_r0 : BitVec 32 := 10#32
  let v9813_r0 : BitVec 32 := Scalar.addi v4533_r0 c10_i32_4123_r0
  let c64_i32_4125_r0 : BitVec 32 := 64#32
  let v9815_r0 : BitVec 32 := Scalar.muli v9813_r0 c64_i32_4125_r0
  let c58_i32_4133_r0 : BitVec 32 := 58#32
  let v9826_r0 : BitVec 32 := Scalar.addi v9815_r0 c58_i32_4133_r0
  let v9827_r0 : Index := Scalar.indexCast v9826_r0
  ![v9827_r0.toNat]
def k0_off722 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4123_r0 : BitVec 32 := 10#32
  let v9813_r0 : BitVec 32 := Scalar.addi v4533_r0 c10_i32_4123_r0
  let c11_i32_4124_r0 : BitVec 32 := 11#32
  let v9814_r0 : BitVec 32 := Scalar.remsi v9813_r0 c11_i32_4124_r0
  ![v9814_r0.toNat]
def k0_off723 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4123_r0 : BitVec 32 := 10#32
  let v9813_r0 : BitVec 32 := Scalar.addi v4533_r0 c10_i32_4123_r0
  let c11_i32_4124_r0 : BitVec 32 := 11#32
  let v9814_r0 : BitVec 32 := Scalar.remsi v9813_r0 c11_i32_4124_r0
  let c0_i32_4135_r0 : BitVec 32 := 0#32
  let c0_i32_4136_r0 : BitVec 32 := 0#32
  ![v9814_r0.toNat, 0, 0]
def k0_off724 (v9828_r0 : BitVec 32) : Fin 2 → Nat :=
  let c2_i32_4134_r0 : BitVec 32 := 2#32
  let v9829_r0 : BitVec 32 := Scalar.shrsi v9828_r0 c2_i32_4134_r0
  let c0_i32_4139_r0 : BitVec 32 := 0#32
  ![v9829_r0.toNat, 0]

def k0_chk251 (v9828_r0 : BitVec 32) : Prop :=
  (∀ a, (k0_off724 v9828_r0) a + S1x2560.size a ≤ S4000x2560.size a)
theorem k0_off724_inb : ∀ (v9828_r0 : BitVec 32) (k0_hw251 : k0_chk251 v9828_r0), ∀ a, (k0_off724 v9828_r0) a + S1x2560.size a ≤ S4000x2560.size a := fun v9828_r0 k0_hw251 => k0_hw251

def k0_off725 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4123_r0 : BitVec 32 := 10#32
  let v9813_r0 : BitVec 32 := Scalar.addi v4533_r0 c10_i32_4123_r0
  let c64_i32_4125_r0 : BitVec 32 := 64#32
  let v9815_r0 : BitVec 32 := Scalar.muli v9813_r0 c64_i32_4125_r0
  let c59_i32_4140_r0 : BitVec 32 := 59#32
  let v9836_r0 : BitVec 32 := Scalar.addi v9815_r0 c59_i32_4140_r0
  let v9837_r0 : Index := Scalar.indexCast v9836_r0
  ![v9837_r0.toNat]
def k0_off726 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4123_r0 : BitVec 32 := 10#32
  let v9813_r0 : BitVec 32 := Scalar.addi v4533_r0 c10_i32_4123_r0
  let c11_i32_4124_r0 : BitVec 32 := 11#32
  let v9814_r0 : BitVec 32 := Scalar.remsi v9813_r0 c11_i32_4124_r0
  ![v9814_r0.toNat]
def k0_off727 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4123_r0 : BitVec 32 := 10#32
  let v9813_r0 : BitVec 32 := Scalar.addi v4533_r0 c10_i32_4123_r0
  let c11_i32_4124_r0 : BitVec 32 := 11#32
  let v9814_r0 : BitVec 32 := Scalar.remsi v9813_r0 c11_i32_4124_r0
  let c0_i32_4142_r0 : BitVec 32 := 0#32
  let c0_i32_4143_r0 : BitVec 32 := 0#32
  ![v9814_r0.toNat, 0, 0]
def k0_off728 (v9838_r0 : BitVec 32) : Fin 2 → Nat :=
  let c2_i32_4141_r0 : BitVec 32 := 2#32
  let v9839_r0 : BitVec 32 := Scalar.shrsi v9838_r0 c2_i32_4141_r0
  let c0_i32_4146_r0 : BitVec 32 := 0#32
  ![v9839_r0.toNat, 0]

def k0_chk252 (v9838_r0 : BitVec 32) : Prop :=
  (∀ a, (k0_off728 v9838_r0) a + S1x2560.size a ≤ S4000x2560.size a)
theorem k0_off728_inb : ∀ (v9838_r0 : BitVec 32) (k0_hw252 : k0_chk252 v9838_r0), ∀ a, (k0_off728 v9838_r0) a + S1x2560.size a ≤ S4000x2560.size a := fun v9838_r0 k0_hw252 => k0_hw252

def k0_off729 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v9846_r0 : Index := Scalar.indexCast v4534_r0
  let c0_4147_r0 : Index := 0#32
  let c2304_4148_r0 : Index := 2304#32
  ![v9846_r0.toNat, 0, 2304]
def k0_off730 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v9987_r0 : Index := Scalar.indexCast v4535_r0
  let c0_4208_r0 : Index := 0#32
  let c3584_r0 : Index := 3584#32
  ![v9987_r0.toNat, 0, 3584]
def k0_off731 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c64_i32_4211_r0 : BitVec 32 := 64#32
  let v9993_r0 : BitVec 32 := Scalar.muli v9991_r0 c64_i32_4211_r0
  let c60_i32_4212_r0 : BitVec 32 := 60#32
  let v9994_r0 : BitVec 32 := Scalar.addi v9993_r0 c60_i32_4212_r0
  let v9995_r0 : Index := Scalar.indexCast v9994_r0
  ![v9995_r0.toNat]
def k0_off732 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c11_i32_4210_r0 : BitVec 32 := 11#32
  let v9992_r0 : BitVec 32 := Scalar.remsi v9991_r0 c11_i32_4210_r0
  ![v9992_r0.toNat]
def k0_off733 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c11_i32_4210_r0 : BitVec 32 := 11#32
  let v9992_r0 : BitVec 32 := Scalar.remsi v9991_r0 c11_i32_4210_r0
  let c0_i32_4214_r0 : BitVec 32 := 0#32
  let c0_i32_4215_r0 : BitVec 32 := 0#32
  ![v9992_r0.toNat, 0, 0]
def k0_off734 (v9996_r0 : BitVec 32) : Fin 2 → Nat :=
  let c2_i32_4213_r0 : BitVec 32 := 2#32
  let v9997_r0 : BitVec 32 := Scalar.shrsi v9996_r0 c2_i32_4213_r0
  let c0_i32_4218_r0 : BitVec 32 := 0#32
  ![v9997_r0.toNat, 0]

def k0_chk253 (v9996_r0 : BitVec 32) : Prop :=
  (∀ a, (k0_off734 v9996_r0) a + S1x2560.size a ≤ S4000x2560.size a)
theorem k0_off734_inb : ∀ (v9996_r0 : BitVec 32) (k0_hw253 : k0_chk253 v9996_r0), ∀ a, (k0_off734 v9996_r0) a + S1x2560.size a ≤ S4000x2560.size a := fun v9996_r0 k0_hw253 => k0_hw253

def k0_off735 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c64_i32_4211_r0 : BitVec 32 := 64#32
  let v9993_r0 : BitVec 32 := Scalar.muli v9991_r0 c64_i32_4211_r0
  let c61_i32_4219_r0 : BitVec 32 := 61#32
  let v10004_r0 : BitVec 32 := Scalar.addi v9993_r0 c61_i32_4219_r0
  let v10005_r0 : Index := Scalar.indexCast v10004_r0
  ![v10005_r0.toNat]
def k0_off736 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c11_i32_4210_r0 : BitVec 32 := 11#32
  let v9992_r0 : BitVec 32 := Scalar.remsi v9991_r0 c11_i32_4210_r0
  ![v9992_r0.toNat]
def k0_off737 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c11_i32_4210_r0 : BitVec 32 := 11#32
  let v9992_r0 : BitVec 32 := Scalar.remsi v9991_r0 c11_i32_4210_r0
  let c0_i32_4221_r0 : BitVec 32 := 0#32
  let c0_i32_4222_r0 : BitVec 32 := 0#32
  ![v9992_r0.toNat, 0, 0]
def k0_off738 (v10006_r0 : BitVec 32) : Fin 2 → Nat :=
  let c2_i32_4220_r0 : BitVec 32 := 2#32
  let v10007_r0 : BitVec 32 := Scalar.shrsi v10006_r0 c2_i32_4220_r0
  let c0_i32_4225_r0 : BitVec 32 := 0#32
  ![v10007_r0.toNat, 0]

def k0_chk254 (v10006_r0 : BitVec 32) : Prop :=
  (∀ a, (k0_off738 v10006_r0) a + S1x2560.size a ≤ S4000x2560.size a)
theorem k0_off738_inb : ∀ (v10006_r0 : BitVec 32) (k0_hw254 : k0_chk254 v10006_r0), ∀ a, (k0_off738 v10006_r0) a + S1x2560.size a ≤ S4000x2560.size a := fun v10006_r0 k0_hw254 => k0_hw254

def k0_off739 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c64_i32_4211_r0 : BitVec 32 := 64#32
  let v9993_r0 : BitVec 32 := Scalar.muli v9991_r0 c64_i32_4211_r0
  let c62_i32_4226_r0 : BitVec 32 := 62#32
  let v10014_r0 : BitVec 32 := Scalar.addi v9993_r0 c62_i32_4226_r0
  let v10015_r0 : Index := Scalar.indexCast v10014_r0
  ![v10015_r0.toNat]
def k0_off740 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c11_i32_4210_r0 : BitVec 32 := 11#32
  let v9992_r0 : BitVec 32 := Scalar.remsi v9991_r0 c11_i32_4210_r0
  ![v9992_r0.toNat]
def k0_off741 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c11_i32_4210_r0 : BitVec 32 := 11#32
  let v9992_r0 : BitVec 32 := Scalar.remsi v9991_r0 c11_i32_4210_r0
  let c0_i32_4228_r0 : BitVec 32 := 0#32
  let c0_i32_4229_r0 : BitVec 32 := 0#32
  ![v9992_r0.toNat, 0, 0]
def k0_off742 (v10016_r0 : BitVec 32) : Fin 2 → Nat :=
  let c2_i32_4227_r0 : BitVec 32 := 2#32
  let v10017_r0 : BitVec 32 := Scalar.shrsi v10016_r0 c2_i32_4227_r0
  let c0_i32_4232_r0 : BitVec 32 := 0#32
  ![v10017_r0.toNat, 0]

def k0_chk255 (v10016_r0 : BitVec 32) : Prop :=
  (∀ a, (k0_off742 v10016_r0) a + S1x2560.size a ≤ S4000x2560.size a)
theorem k0_off742_inb : ∀ (v10016_r0 : BitVec 32) (k0_hw255 : k0_chk255 v10016_r0), ∀ a, (k0_off742 v10016_r0) a + S1x2560.size a ≤ S4000x2560.size a := fun v10016_r0 k0_hw255 => k0_hw255

def k0_off743 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c64_i32_4211_r0 : BitVec 32 := 64#32
  let v9993_r0 : BitVec 32 := Scalar.muli v9991_r0 c64_i32_4211_r0
  let c63_i32_4233_r0 : BitVec 32 := 63#32
  let v10024_r0 : BitVec 32 := Scalar.addi v9993_r0 c63_i32_4233_r0
  let v10025_r0 : Index := Scalar.indexCast v10024_r0
  ![v10025_r0.toNat]
def k0_off744 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c11_i32_4210_r0 : BitVec 32 := 11#32
  let v9992_r0 : BitVec 32 := Scalar.remsi v9991_r0 c11_i32_4210_r0
  ![v9992_r0.toNat]
def k0_off745 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c10_i32_4209_r0 : BitVec 32 := 10#32
  let v9991_r0 : BitVec 32 := Scalar.addi v4533_r0 c10_i32_4209_r0
  let c11_i32_4210_r0 : BitVec 32 := 11#32
  let v9992_r0 : BitVec 32 := Scalar.remsi v9991_r0 c11_i32_4210_r0
  let c0_i32_4235_r0 : BitVec 32 := 0#32
  let c0_i32_4236_r0 : BitVec 32 := 0#32
  ![v9992_r0.toNat, 0, 0]
def k0_off746 (v10026_r0 : BitVec 32) : Fin 2 → Nat :=
  let c2_i32_4234_r0 : BitVec 32 := 2#32
  let v10027_r0 : BitVec 32 := Scalar.shrsi v10026_r0 c2_i32_4234_r0
  let c0_i32_4239_r0 : BitVec 32 := 0#32
  ![v10027_r0.toNat, 0]

def k0_chk256 (v10026_r0 : BitVec 32) : Prop :=
  (∀ a, (k0_off746 v10026_r0) a + S1x2560.size a ≤ S4000x2560.size a)
theorem k0_off746_inb : ∀ (v10026_r0 : BitVec 32) (k0_hw256 : k0_chk256 v10026_r0), ∀ a, (k0_off746 v10026_r0) a + S1x2560.size a ≤ S4000x2560.size a := fun v10026_r0 k0_hw256 => k0_hw256

def k0_off747 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c11_i32_r0 : BitVec 32 := 11#32
  let v4534_r0 : BitVec 32 := Scalar.remsi v4533_r0 c11_i32_r0
  let v10034_r0 : Index := Scalar.indexCast v4534_r0
  let c0_4240_r0 : Index := 0#32
  let c2432_r0 : Index := 2432#32
  ![v10034_r0.toNat, 0, 2432]
def k0_off748 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v10175_r0 : Index := Scalar.indexCast v4535_r0
  let c0_4300_r0 : Index := 0#32
  let c3840_r0 : Index := 3840#32
  ![v10175_r0.toNat, 0, 3840]
def k0_off749 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v10181_r0 : Index := Scalar.indexCast v4535_r0
  let c0_4301_r0 : Index := 0#32
  let c4096_r0 : Index := 4096#32
  ![v10181_r0.toNat, 0, 4096]
def k0_off750 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v10187_r0 : Index := Scalar.indexCast v4535_r0
  let c0_4302_r0 : Index := 0#32
  let c4352_r0 : Index := 4352#32
  ![v10187_r0.toNat, 0, 4352]
def k0_off751 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v10193_r0 : Index := Scalar.indexCast v4535_r0
  let c0_4303_r0 : Index := 0#32
  let c4608_r0 : Index := 4608#32
  ![v10193_r0.toNat, 0, 4608]
def k0_off752 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_1840_r0 : BitVec 32 := 2#32
  let v4535_r0 : BitVec 32 := Scalar.remsi v4533_r0 c2_i32_1840_r0
  let v10199_r0 : Index := Scalar.indexCast v4535_r0
  let c0_4304_r0 : Index := 0#32
  let c4864_r0 : Index := 4864#32
  ![v10199_r0.toNat, 0, 4864]
def k0_mult7 (k0_t3 : Fin k0_t3_loop.trips) : BitVec 32 :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c0_i32_4323_r0 : BitVec 32 := 0#32
  let v10229_r0 : BitVec 1 := Scalar.cmpi .sgt v4533_r0 c0_i32_4323_r0
  let v10230_r0 : BitVec 32 := Scalar.extui v10229_r0
  let c0_i32_4324_r0 : BitVec 32 := 0#32
  let v10231_r0 : BitVec 1 := Scalar.cmpi .slt v4533_r0 c0_i32_4324_r0
  let v10232_r0 : BitVec 32 := Scalar.extui v10231_r0
  let v10233_r0 : BitVec 32 := Scalar.subi v10230_r0 v10232_r0
  let c2_i32_4322_r0 : BitVec 32 := 2#32
  let c0_i32_4325_r0 : BitVec 32 := 0#32
  let v10234_r0 : BitVec 1 := Scalar.cmpi .sgt c2_i32_4322_r0 c0_i32_4325_r0
  let v10235_r0 : BitVec 32 := Scalar.extui v10234_r0
  let c0_i32_4326_r0 : BitVec 32 := 0#32
  let v10236_r0 : BitVec 1 := Scalar.cmpi .slt c2_i32_4322_r0 c0_i32_4326_r0
  let v10237_r0 : BitVec 32 := Scalar.extui v10236_r0
  let v10238_r0 : BitVec 32 := Scalar.subi v10235_r0 v10237_r0
  let v10239_r0 : BitVec 1 := Scalar.cmpi .ne v10233_r0 v10238_r0
  let v10240_r0 : BitVec 32 := Scalar.remsi v4533_r0 c2_i32_4322_r0
  let c0_i32_4327_r0 : BitVec 32 := 0#32
  let v10241_r0 : BitVec 1 := Scalar.cmpi .ne v10240_r0 c0_i32_4327_r0
  let v10242_r0 : BitVec 1 := Scalar.andi v10239_r0 v10241_r0
  let v10228_r0 : BitVec 32 := Scalar.divsi v4533_r0 c2_i32_4322_r0
  let c1_i32_4328_r0 : BitVec 32 := 1#32
  let v10243_r0 : BitVec 32 := Scalar.subi v10228_r0 c1_i32_4328_r0
  let v10244_r0 : BitVec 32 := Scalar.select v10242_r0 v10243_r0 v10228_r0
  let c0_i32_4330_r0 : BitVec 32 := 0#32
  let v10246_r0 : BitVec 1 := Scalar.cmpi .sgt v10244_r0 c0_i32_4330_r0
  let v10247_r0 : BitVec 32 := Scalar.extui v10246_r0
  let c0_i32_4331_r0 : BitVec 32 := 0#32
  let v10248_r0 : BitVec 1 := Scalar.cmpi .slt v10244_r0 c0_i32_4331_r0
  let v10249_r0 : BitVec 32 := Scalar.extui v10248_r0
  let v10250_r0 : BitVec 32 := Scalar.subi v10247_r0 v10249_r0
  let c2_i32_4329_r0 : BitVec 32 := 2#32
  let c0_i32_4332_r0 : BitVec 32 := 0#32
  let v10251_r0 : BitVec 1 := Scalar.cmpi .sgt c2_i32_4329_r0 c0_i32_4332_r0
  let v10252_r0 : BitVec 32 := Scalar.extui v10251_r0
  let c0_i32_4333_r0 : BitVec 32 := 0#32
  let v10253_r0 : BitVec 1 := Scalar.cmpi .slt c2_i32_4329_r0 c0_i32_4333_r0
  let v10254_r0 : BitVec 32 := Scalar.extui v10253_r0
  let v10255_r0 : BitVec 32 := Scalar.subi v10252_r0 v10254_r0
  let v10256_r0 : BitVec 1 := Scalar.cmpi .ne v10250_r0 v10255_r0
  let v10257_r0 : BitVec 32 := Scalar.remsi v10244_r0 c2_i32_4329_r0
  let c0_i32_4334_r0 : BitVec 32 := 0#32
  let v10258_r0 : BitVec 1 := Scalar.cmpi .ne v10257_r0 c0_i32_4334_r0
  let v10259_r0 : BitVec 1 := Scalar.andi v10256_r0 v10258_r0
  let v10245_r0 : BitVec 32 := Scalar.divsi v10244_r0 c2_i32_4329_r0
  let c1_i32_4335_r0 : BitVec 32 := 1#32
  let v10260_r0 : BitVec 32 := Scalar.subi v10245_r0 c1_i32_4335_r0
  let v10261_r0 : BitVec 32 := Scalar.select v10259_r0 v10260_r0 v10245_r0
  let c128_i32_4336_r0 : BitVec 32 := 128#32
  let v10262_r0 : BitVec 32 := Scalar.muli v10261_r0 c128_i32_4336_r0
  let c2_i32_4337_r0 : BitVec 32 := 2#32
  let v10263_r0 : BitVec 32 := Scalar.remsi v4533_r0 c2_i32_4337_r0
  let c64_i32_4338_r0 : BitVec 32 := 64#32
  let v10264_r0 : BitVec 32 := Scalar.muli v10263_r0 c64_i32_4338_r0
  let v10265_r0 : BitVec 32 := Scalar.addi v10262_r0 v10264_r0
  v10265_r0
def k0_off753 (k0_t3 : Fin k0_t3_loop.trips) : Fin 1 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_4321_r0 : BitVec 32 := 2#32
  let v10227_r0 : BitVec 32 := Scalar.remsi v4533_r0 c2_i32_4321_r0
  ![v10227_r0.toNat]
def k0_off754 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c0_i32_4323_r0 : BitVec 32 := 0#32
  let v10229_r0 : BitVec 1 := Scalar.cmpi .sgt v4533_r0 c0_i32_4323_r0
  let v10230_r0 : BitVec 32 := Scalar.extui v10229_r0
  let c0_i32_4324_r0 : BitVec 32 := 0#32
  let v10231_r0 : BitVec 1 := Scalar.cmpi .slt v4533_r0 c0_i32_4324_r0
  let v10232_r0 : BitVec 32 := Scalar.extui v10231_r0
  let v10233_r0 : BitVec 32 := Scalar.subi v10230_r0 v10232_r0
  let c2_i32_4322_r0 : BitVec 32 := 2#32
  let c0_i32_4325_r0 : BitVec 32 := 0#32
  let v10234_r0 : BitVec 1 := Scalar.cmpi .sgt c2_i32_4322_r0 c0_i32_4325_r0
  let v10235_r0 : BitVec 32 := Scalar.extui v10234_r0
  let c0_i32_4326_r0 : BitVec 32 := 0#32
  let v10236_r0 : BitVec 1 := Scalar.cmpi .slt c2_i32_4322_r0 c0_i32_4326_r0
  let v10237_r0 : BitVec 32 := Scalar.extui v10236_r0
  let v10238_r0 : BitVec 32 := Scalar.subi v10235_r0 v10237_r0
  let v10239_r0 : BitVec 1 := Scalar.cmpi .ne v10233_r0 v10238_r0
  let v10240_r0 : BitVec 32 := Scalar.remsi v4533_r0 c2_i32_4322_r0
  let c0_i32_4327_r0 : BitVec 32 := 0#32
  let v10241_r0 : BitVec 1 := Scalar.cmpi .ne v10240_r0 c0_i32_4327_r0
  let v10242_r0 : BitVec 1 := Scalar.andi v10239_r0 v10241_r0
  let v10228_r0 : BitVec 32 := Scalar.divsi v4533_r0 c2_i32_4322_r0
  let c1_i32_4328_r0 : BitVec 32 := 1#32
  let v10243_r0 : BitVec 32 := Scalar.subi v10228_r0 c1_i32_4328_r0
  let v10244_r0 : BitVec 32 := Scalar.select v10242_r0 v10243_r0 v10228_r0
  let c2_i32_4339_r0 : BitVec 32 := 2#32
  let v10266_r0 : BitVec 32 := Scalar.remsi v10244_r0 c2_i32_4339_r0
  let c0_i32_4330_r0 : BitVec 32 := 0#32
  let v10246_r0 : BitVec 1 := Scalar.cmpi .sgt v10244_r0 c0_i32_4330_r0
  let v10247_r0 : BitVec 32 := Scalar.extui v10246_r0
  let c0_i32_4331_r0 : BitVec 32 := 0#32
  let v10248_r0 : BitVec 1 := Scalar.cmpi .slt v10244_r0 c0_i32_4331_r0
  let v10249_r0 : BitVec 32 := Scalar.extui v10248_r0
  let v10250_r0 : BitVec 32 := Scalar.subi v10247_r0 v10249_r0
  let c2_i32_4329_r0 : BitVec 32 := 2#32
  let c0_i32_4332_r0 : BitVec 32 := 0#32
  let v10251_r0 : BitVec 1 := Scalar.cmpi .sgt c2_i32_4329_r0 c0_i32_4332_r0
  let v10252_r0 : BitVec 32 := Scalar.extui v10251_r0
  let c0_i32_4333_r0 : BitVec 32 := 0#32
  let v10253_r0 : BitVec 1 := Scalar.cmpi .slt c2_i32_4329_r0 c0_i32_4333_r0
  let v10254_r0 : BitVec 32 := Scalar.extui v10253_r0
  let v10255_r0 : BitVec 32 := Scalar.subi v10252_r0 v10254_r0
  let v10256_r0 : BitVec 1 := Scalar.cmpi .ne v10250_r0 v10255_r0
  let v10257_r0 : BitVec 32 := Scalar.remsi v10244_r0 c2_i32_4329_r0
  let c0_i32_4334_r0 : BitVec 32 := 0#32
  let v10258_r0 : BitVec 1 := Scalar.cmpi .ne v10257_r0 c0_i32_4334_r0
  let v10259_r0 : BitVec 1 := Scalar.andi v10256_r0 v10258_r0
  let v10245_r0 : BitVec 32 := Scalar.divsi v10244_r0 c2_i32_4329_r0
  let c1_i32_4335_r0 : BitVec 32 := 1#32
  let v10260_r0 : BitVec 32 := Scalar.subi v10245_r0 c1_i32_4335_r0
  let v10261_r0 : BitVec 32 := Scalar.select v10259_r0 v10260_r0 v10245_r0
  let c128_i32_4336_r0 : BitVec 32 := 128#32
  let v10262_r0 : BitVec 32 := Scalar.muli v10261_r0 c128_i32_4336_r0
  let c2_i32_4337_r0 : BitVec 32 := 2#32
  let v10263_r0 : BitVec 32 := Scalar.remsi v4533_r0 c2_i32_4337_r0
  let c64_i32_4338_r0 : BitVec 32 := 64#32
  let v10264_r0 : BitVec 32 := Scalar.muli v10263_r0 c64_i32_4338_r0
  let v10265_r0 : BitVec 32 := Scalar.addi v10262_r0 v10264_r0
  let v10267_r0 : BitVec 32 := v10265_r0
  let c0_i32_4340_r0 : BitVec 32 := 0#32
  ![v10266_r0.toNat, v10267_r0.toNat, 0]
def k0_off755 (k0_t3 : Fin k0_t3_loop.trips) : Fin 3 → Nat :=
  let c0_i32_1839_r0 : BitVec 32 := 0#32
  let c0_i32_1812_r0 : BitVec 32 := 0#32
  let c1_i32_1813_r0 : BitVec 32 := 1#32
  let arg18_r0 : BitVec 32 := Scf.iv c0_i32_1812_r0 c1_i32_1813_r0 k0_t3
  let c1_i32_1838_r0 : BitVec 32 := 1#32
  let v4532_r0 : BitVec 32 := Scalar.muli arg18_r0 c1_i32_1838_r0
  let v4533_r0 : BitVec 32 := Scalar.addi c0_i32_1839_r0 v4532_r0
  let c2_i32_4321_r0 : BitVec 32 := 2#32
  let v10227_r0 : BitVec 32 := Scalar.remsi v4533_r0 c2_i32_4321_r0
  let c0_i32_4341_r0 : BitVec 32 := 0#32
  let c0_i32_4342_r0 : BitVec 32 := 0#32
  ![v10227_r0.toNat, 0, 0]
@[reducible] def k0_t4_loop : Scf.Loop 32 :=
  let c0_i32_1815_r0 : BitVec 32 := 0#32
  let c10_i32_1816_r0 : BitVec 32 := 10#32
  let v4507_r0 : BitVec 32 := Scalar.addi c0_i32_1815_r0 c10_i32_1816_r0
  let c1_i32_1817_r0 : BitVec 32 := 1#32
  ⟨c0_i32_1815_r0, v4507_r0, c1_i32_1817_r0⟩
def k0_off756 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  ![v4534_r0.toNat]
def k0_off757 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let c0_i32_1841_r0 : BitVec 32 := 0#32
  let c0_i32_1842_r0 : BitVec 32 := 0#32
  ![v4534_r0.toNat, 0, 0]
def k0_cond2 (k0_t4 : Fin k0_t4_loop.trips) : BitVec 1 :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1845_r0 : BitVec 32 := 2#32
  let v4541_r0 : BitVec 1 := Scalar.cmpi .sge v4533_r0 c2_i32_1845_r0
  let v4542_r0 : BitVec 32 := Scalar.extui v4541_r0
  let c0_i32_1846_r0 : BitVec 32 := 0#32
  let v4543_r0 : BitVec 1 := Scalar.cmpi .ne v4542_r0 c0_i32_1846_r0
  v4543_r0

def k0_mult8 (k0_t4 : Fin k0_t4_loop.trips) : BitVec 32 :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_3835_r0 : BitVec 32 := 2#32
  let v9574_r0 : BitVec 32 := Scalar.subi v4533_r0 c2_i32_3835_r0
  let c0_i32_3838_r0 : BitVec 32 := 0#32
  let v9577_r0 : BitVec 1 := Scalar.cmpi .sgt v9574_r0 c0_i32_3838_r0
  let v9578_r0 : BitVec 32 := Scalar.extui v9577_r0
  let c0_i32_3839_r0 : BitVec 32 := 0#32
  let v9579_r0 : BitVec 1 := Scalar.cmpi .slt v9574_r0 c0_i32_3839_r0
  let v9580_r0 : BitVec 32 := Scalar.extui v9579_r0
  let v9581_r0 : BitVec 32 := Scalar.subi v9578_r0 v9580_r0
  let c2_i32_3837_r0 : BitVec 32 := 2#32
  let c0_i32_3840_r0 : BitVec 32 := 0#32
  let v9582_r0 : BitVec 1 := Scalar.cmpi .sgt c2_i32_3837_r0 c0_i32_3840_r0
  let v9583_r0 : BitVec 32 := Scalar.extui v9582_r0
  let c0_i32_3841_r0 : BitVec 32 := 0#32
  let v9584_r0 : BitVec 1 := Scalar.cmpi .slt c2_i32_3837_r0 c0_i32_3841_r0
  let v9585_r0 : BitVec 32 := Scalar.extui v9584_r0
  let v9586_r0 : BitVec 32 := Scalar.subi v9583_r0 v9585_r0
  let v9587_r0 : BitVec 1 := Scalar.cmpi .ne v9581_r0 v9586_r0
  let v9588_r0 : BitVec 32 := Scalar.remsi v9574_r0 c2_i32_3837_r0
  let c0_i32_3842_r0 : BitVec 32 := 0#32
  let v9589_r0 : BitVec 1 := Scalar.cmpi .ne v9588_r0 c0_i32_3842_r0
  let v9590_r0 : BitVec 1 := Scalar.andi v9587_r0 v9589_r0
  let v9576_r0 : BitVec 32 := Scalar.divsi v9574_r0 c2_i32_3837_r0
  let c1_i32_3843_r0 : BitVec 32 := 1#32
  let v9591_r0 : BitVec 32 := Scalar.subi v9576_r0 c1_i32_3843_r0
  let v9592_r0 : BitVec 32 := Scalar.select v9590_r0 v9591_r0 v9576_r0
  let c0_i32_3845_r0 : BitVec 32 := 0#32
  let v9594_r0 : BitVec 1 := Scalar.cmpi .sgt v9592_r0 c0_i32_3845_r0
  let v9595_r0 : BitVec 32 := Scalar.extui v9594_r0
  let c0_i32_3846_r0 : BitVec 32 := 0#32
  let v9596_r0 : BitVec 1 := Scalar.cmpi .slt v9592_r0 c0_i32_3846_r0
  let v9597_r0 : BitVec 32 := Scalar.extui v9596_r0
  let v9598_r0 : BitVec 32 := Scalar.subi v9595_r0 v9597_r0
  let c2_i32_3844_r0 : BitVec 32 := 2#32
  let c0_i32_3847_r0 : BitVec 32 := 0#32
  let v9599_r0 : BitVec 1 := Scalar.cmpi .sgt c2_i32_3844_r0 c0_i32_3847_r0
  let v9600_r0 : BitVec 32 := Scalar.extui v9599_r0
  let c0_i32_3848_r0 : BitVec 32 := 0#32
  let v9601_r0 : BitVec 1 := Scalar.cmpi .slt c2_i32_3844_r0 c0_i32_3848_r0
  let v9602_r0 : BitVec 32 := Scalar.extui v9601_r0
  let v9603_r0 : BitVec 32 := Scalar.subi v9600_r0 v9602_r0
  let v9604_r0 : BitVec 1 := Scalar.cmpi .ne v9598_r0 v9603_r0
  let v9605_r0 : BitVec 32 := Scalar.remsi v9592_r0 c2_i32_3844_r0
  let c0_i32_3849_r0 : BitVec 32 := 0#32
  let v9606_r0 : BitVec 1 := Scalar.cmpi .ne v9605_r0 c0_i32_3849_r0
  let v9607_r0 : BitVec 1 := Scalar.andi v9604_r0 v9606_r0
  let v9593_r0 : BitVec 32 := Scalar.divsi v9592_r0 c2_i32_3844_r0
  let c1_i32_3850_r0 : BitVec 32 := 1#32
  let v9608_r0 : BitVec 32 := Scalar.subi v9593_r0 c1_i32_3850_r0
  let v9609_r0 : BitVec 32 := Scalar.select v9607_r0 v9608_r0 v9593_r0
  let c128_i32_3851_r0 : BitVec 32 := 128#32
  let v9610_r0 : BitVec 32 := Scalar.muli v9609_r0 c128_i32_3851_r0
  let c2_i32_3852_r0 : BitVec 32 := 2#32
  let v9611_r0 : BitVec 32 := Scalar.remsi v9574_r0 c2_i32_3852_r0
  let c64_i32_3853_r0 : BitVec 32 := 64#32
  let v9612_r0 : BitVec 32 := Scalar.muli v9611_r0 c64_i32_3853_r0
  let v9613_r0 : BitVec 32 := Scalar.addi v9610_r0 v9612_r0
  v9613_r0
def k0_off758 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_3835_r0 : BitVec 32 := 2#32
  let v9574_r0 : BitVec 32 := Scalar.subi v4533_r0 c2_i32_3835_r0
  let c2_i32_3836_r0 : BitVec 32 := 2#32
  let v9575_r0 : BitVec 32 := Scalar.remsi v9574_r0 c2_i32_3836_r0
  ![v9575_r0.toNat]
def k0_off759 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_3835_r0 : BitVec 32 := 2#32
  let v9574_r0 : BitVec 32 := Scalar.subi v4533_r0 c2_i32_3835_r0
  let c0_i32_3838_r0 : BitVec 32 := 0#32
  let v9577_r0 : BitVec 1 := Scalar.cmpi .sgt v9574_r0 c0_i32_3838_r0
  let v9578_r0 : BitVec 32 := Scalar.extui v9577_r0
  let c0_i32_3839_r0 : BitVec 32 := 0#32
  let v9579_r0 : BitVec 1 := Scalar.cmpi .slt v9574_r0 c0_i32_3839_r0
  let v9580_r0 : BitVec 32 := Scalar.extui v9579_r0
  let v9581_r0 : BitVec 32 := Scalar.subi v9578_r0 v9580_r0
  let c2_i32_3837_r0 : BitVec 32 := 2#32
  let c0_i32_3840_r0 : BitVec 32 := 0#32
  let v9582_r0 : BitVec 1 := Scalar.cmpi .sgt c2_i32_3837_r0 c0_i32_3840_r0
  let v9583_r0 : BitVec 32 := Scalar.extui v9582_r0
  let c0_i32_3841_r0 : BitVec 32 := 0#32
  let v9584_r0 : BitVec 1 := Scalar.cmpi .slt c2_i32_3837_r0 c0_i32_3841_r0
  let v9585_r0 : BitVec 32 := Scalar.extui v9584_r0
  let v9586_r0 : BitVec 32 := Scalar.subi v9583_r0 v9585_r0
  let v9587_r0 : BitVec 1 := Scalar.cmpi .ne v9581_r0 v9586_r0
  let v9588_r0 : BitVec 32 := Scalar.remsi v9574_r0 c2_i32_3837_r0
  let c0_i32_3842_r0 : BitVec 32 := 0#32
  let v9589_r0 : BitVec 1 := Scalar.cmpi .ne v9588_r0 c0_i32_3842_r0
  let v9590_r0 : BitVec 1 := Scalar.andi v9587_r0 v9589_r0
  let v9576_r0 : BitVec 32 := Scalar.divsi v9574_r0 c2_i32_3837_r0
  let c1_i32_3843_r0 : BitVec 32 := 1#32
  let v9591_r0 : BitVec 32 := Scalar.subi v9576_r0 c1_i32_3843_r0
  let v9592_r0 : BitVec 32 := Scalar.select v9590_r0 v9591_r0 v9576_r0
  let c2_i32_3854_r0 : BitVec 32 := 2#32
  let v9614_r0 : BitVec 32 := Scalar.remsi v9592_r0 c2_i32_3854_r0
  let c0_i32_3845_r0 : BitVec 32 := 0#32
  let v9594_r0 : BitVec 1 := Scalar.cmpi .sgt v9592_r0 c0_i32_3845_r0
  let v9595_r0 : BitVec 32 := Scalar.extui v9594_r0
  let c0_i32_3846_r0 : BitVec 32 := 0#32
  let v9596_r0 : BitVec 1 := Scalar.cmpi .slt v9592_r0 c0_i32_3846_r0
  let v9597_r0 : BitVec 32 := Scalar.extui v9596_r0
  let v9598_r0 : BitVec 32 := Scalar.subi v9595_r0 v9597_r0
  let c2_i32_3844_r0 : BitVec 32 := 2#32
  let c0_i32_3847_r0 : BitVec 32 := 0#32
  let v9599_r0 : BitVec 1 := Scalar.cmpi .sgt c2_i32_3844_r0 c0_i32_3847_r0
  let v9600_r0 : BitVec 32 := Scalar.extui v9599_r0
  let c0_i32_3848_r0 : BitVec 32 := 0#32
  let v9601_r0 : BitVec 1 := Scalar.cmpi .slt c2_i32_3844_r0 c0_i32_3848_r0
  let v9602_r0 : BitVec 32 := Scalar.extui v9601_r0
  let v9603_r0 : BitVec 32 := Scalar.subi v9600_r0 v9602_r0
  let v9604_r0 : BitVec 1 := Scalar.cmpi .ne v9598_r0 v9603_r0
  let v9605_r0 : BitVec 32 := Scalar.remsi v9592_r0 c2_i32_3844_r0
  let c0_i32_3849_r0 : BitVec 32 := 0#32
  let v9606_r0 : BitVec 1 := Scalar.cmpi .ne v9605_r0 c0_i32_3849_r0
  let v9607_r0 : BitVec 1 := Scalar.andi v9604_r0 v9606_r0
  let v9593_r0 : BitVec 32 := Scalar.divsi v9592_r0 c2_i32_3844_r0
  let c1_i32_3850_r0 : BitVec 32 := 1#32
  let v9608_r0 : BitVec 32 := Scalar.subi v9593_r0 c1_i32_3850_r0
  let v9609_r0 : BitVec 32 := Scalar.select v9607_r0 v9608_r0 v9593_r0
  let c128_i32_3851_r0 : BitVec 32 := 128#32
  let v9610_r0 : BitVec 32 := Scalar.muli v9609_r0 c128_i32_3851_r0
  let c2_i32_3852_r0 : BitVec 32 := 2#32
  let v9611_r0 : BitVec 32 := Scalar.remsi v9574_r0 c2_i32_3852_r0
  let c64_i32_3853_r0 : BitVec 32 := 64#32
  let v9612_r0 : BitVec 32 := Scalar.muli v9611_r0 c64_i32_3853_r0
  let v9613_r0 : BitVec 32 := Scalar.addi v9610_r0 v9612_r0
  let v9615_r0 : BitVec 32 := v9613_r0
  let c0_i32_3855_r0 : BitVec 32 := 0#32
  ![v9614_r0.toNat, v9615_r0.toNat, 0]
def k0_off760 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_3835_r0 : BitVec 32 := 2#32
  let v9574_r0 : BitVec 32 := Scalar.subi v4533_r0 c2_i32_3835_r0
  let c2_i32_3836_r0 : BitVec 32 := 2#32
  let v9575_r0 : BitVec 32 := Scalar.remsi v9574_r0 c2_i32_3836_r0
  let c0_i32_3856_r0 : BitVec 32 := 0#32
  let c0_i32_3857_r0 : BitVec 32 := 0#32
  ![v9575_r0.toNat, 0, 0]
def k0_off761 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c0_i32_1850_r0 : BitVec 32 := 0#32
  let v4547_r0 : BitVec 32 := Scalar.addi v4546_r0 c0_i32_1850_r0
  let v4548_r0 : Index := Scalar.indexCast v4547_r0
  ![v4548_r0.toNat]
def k0_off762 (v4549_r0 : BitVec 32) : Fin 2 → Nat :=
  let v4550_r0 : Index := Scalar.indexCast v4549_r0
  let c0_1851_r0 : Index := 0#32
  ![v4550_r0.toNat, 0]

def k0_chk257 (v4549_r0 : BitVec 32) : Prop :=
  (∀ a, (k0_off762 v4549_r0) a + S1x128.size a ≤ S16000x128.size a)
theorem k0_off762_inb : ∀ (v4549_r0 : BitVec 32) (k0_hw257 : k0_chk257 v4549_r0), ∀ a, (k0_off762 v4549_r0) a + S1x128.size a ≤ S16000x128.size a := fun v4549_r0 k0_hw257 => k0_hw257

def k0_off763 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c1_i32_1854_r0 : BitVec 32 := 1#32
  let v4555_r0 : BitVec 32 := Scalar.addi v4546_r0 c1_i32_1854_r0
  let v4556_r0 : Index := Scalar.indexCast v4555_r0
  ![v4556_r0.toNat]
def k0_off764 (v4557_r0 : BitVec 32) : Fin 2 → Nat :=
  let v4558_r0 : Index := Scalar.indexCast v4557_r0
  let c0_1855_r0 : Index := 0#32
  ![v4558_r0.toNat, 0]

def k0_chk258 (v4557_r0 : BitVec 32) : Prop :=
  (∀ a, (k0_off764 v4557_r0) a + S1x128.size a ≤ S16000x128.size a)
theorem k0_off764_inb : ∀ (v4557_r0 : BitVec 32) (k0_hw258 : k0_chk258 v4557_r0), ∀ a, (k0_off764 v4557_r0) a + S1x128.size a ≤ S16000x128.size a := fun v4557_r0 k0_hw258 => k0_hw258

def k0_off765 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c2_i32_1858_r0 : BitVec 32 := 2#32
  let v4563_r0 : BitVec 32 := Scalar.addi v4546_r0 c2_i32_1858_r0
  let v4564_r0 : Index := Scalar.indexCast v4563_r0
  ![v4564_r0.toNat]
def k0_off766 (v4565_r0 : BitVec 32) : Fin 2 → Nat :=
  let v4566_r0 : Index := Scalar.indexCast v4565_r0
  let c0_1859_r0 : Index := 0#32
  ![v4566_r0.toNat, 0]

def k0_chk259 (v4565_r0 : BitVec 32) : Prop :=
  (∀ a, (k0_off766 v4565_r0) a + S1x128.size a ≤ S16000x128.size a)
theorem k0_off766_inb : ∀ (v4565_r0 : BitVec 32) (k0_hw259 : k0_chk259 v4565_r0), ∀ a, (k0_off766 v4565_r0) a + S1x128.size a ≤ S16000x128.size a := fun v4565_r0 k0_hw259 => k0_hw259

def k0_off767 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c3_i32_r0 : BitVec 32 := 3#32
  let v4571_r0 : BitVec 32 := Scalar.addi v4546_r0 c3_i32_r0
  let v4572_r0 : Index := Scalar.indexCast v4571_r0
  ![v4572_r0.toNat]
def k0_off768 (v4573_r0 : BitVec 32) : Fin 2 → Nat :=
  let v4574_r0 : Index := Scalar.indexCast v4573_r0
  let c0_1862_r0 : Index := 0#32
  ![v4574_r0.toNat, 0]

def k0_chk260 (v4573_r0 : BitVec 32) : Prop :=
  (∀ a, (k0_off768 v4573_r0) a + S1x128.size a ≤ S16000x128.size a)
theorem k0_off768_inb : ∀ (v4573_r0 : BitVec 32) (k0_hw260 : k0_chk260 v4573_r0), ∀ a, (k0_off768 v4573_r0) a + S1x128.size a ≤ S16000x128.size a := fun v4573_r0 k0_hw260 => k0_hw260

def k0_off769 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c4_i32_1865_r0 : BitVec 32 := 4#32
  let v4579_r0 : BitVec 32 := Scalar.addi v4546_r0 c4_i32_1865_r0
  let v4580_r0 : Index := Scalar.indexCast v4579_r0
  ![v4580_r0.toNat]
def k0_off770 (v4581_r0 : BitVec 32) : Fin 2 → Nat :=
  let v4582_r0 : Index := Scalar.indexCast v4581_r0
  let c0_1866_r0 : Index := 0#32
  ![v4582_r0.toNat, 0]

def k0_chk261 (v4581_r0 : BitVec 32) : Prop :=
  (∀ a, (k0_off770 v4581_r0) a + S1x128.size a ≤ S16000x128.size a)
theorem k0_off770_inb : ∀ (v4581_r0 : BitVec 32) (k0_hw261 : k0_chk261 v4581_r0), ∀ a, (k0_off770 v4581_r0) a + S1x128.size a ≤ S16000x128.size a := fun v4581_r0 k0_hw261 => k0_hw261

def k0_off771 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c5_i32_r0 : BitVec 32 := 5#32
  let v4587_r0 : BitVec 32 := Scalar.addi v4546_r0 c5_i32_r0
  let v4588_r0 : Index := Scalar.indexCast v4587_r0
  ![v4588_r0.toNat]
def k0_off772 (v4589_r0 : BitVec 32) : Fin 2 → Nat :=
  let v4590_r0 : Index := Scalar.indexCast v4589_r0
  let c0_1869_r0 : Index := 0#32
  ![v4590_r0.toNat, 0]

def k0_chk262 (v4589_r0 : BitVec 32) : Prop :=
  (∀ a, (k0_off772 v4589_r0) a + S1x128.size a ≤ S16000x128.size a)
theorem k0_off772_inb : ∀ (v4589_r0 : BitVec 32) (k0_hw262 : k0_chk262 v4589_r0), ∀ a, (k0_off772 v4589_r0) a + S1x128.size a ≤ S16000x128.size a := fun v4589_r0 k0_hw262 => k0_hw262

def k0_off773 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c6_i32_r0 : BitVec 32 := 6#32
  let v4595_r0 : BitVec 32 := Scalar.addi v4546_r0 c6_i32_r0
  let v4596_r0 : Index := Scalar.indexCast v4595_r0
  ![v4596_r0.toNat]
def k0_off774 (v4597_r0 : BitVec 32) : Fin 2 → Nat :=
  let v4598_r0 : Index := Scalar.indexCast v4597_r0
  let c0_1872_r0 : Index := 0#32
  ![v4598_r0.toNat, 0]

def k0_chk263 (v4597_r0 : BitVec 32) : Prop :=
  (∀ a, (k0_off774 v4597_r0) a + S1x128.size a ≤ S16000x128.size a)
theorem k0_off774_inb : ∀ (v4597_r0 : BitVec 32) (k0_hw263 : k0_chk263 v4597_r0), ∀ a, (k0_off774 v4597_r0) a + S1x128.size a ≤ S16000x128.size a := fun v4597_r0 k0_hw263 => k0_hw263

def k0_off775 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c7_i32_r0 : BitVec 32 := 7#32
  let v4603_r0 : BitVec 32 := Scalar.addi v4546_r0 c7_i32_r0
  let v4604_r0 : Index := Scalar.indexCast v4603_r0
  ![v4604_r0.toNat]
def k0_off776 (v4605_r0 : BitVec 32) : Fin 2 → Nat :=
  let v4606_r0 : Index := Scalar.indexCast v4605_r0
  let c0_1875_r0 : Index := 0#32
  ![v4606_r0.toNat, 0]

def k0_chk264 (v4605_r0 : BitVec 32) : Prop :=
  (∀ a, (k0_off776 v4605_r0) a + S1x128.size a ≤ S16000x128.size a)
theorem k0_off776_inb : ∀ (v4605_r0 : BitVec 32) (k0_hw264 : k0_chk264 v4605_r0), ∀ a, (k0_off776 v4605_r0) a + S1x128.size a ≤ S16000x128.size a := fun v4605_r0 k0_hw264 => k0_hw264

def k0_off777 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c8_i32_1878_r0 : BitVec 32 := 8#32
  let v4611_r0 : BitVec 32 := Scalar.addi v4546_r0 c8_i32_1878_r0
  let v4612_r0 : Index := Scalar.indexCast v4611_r0
  ![v4612_r0.toNat]
def k0_off778 (v4613_r0 : BitVec 32) : Fin 2 → Nat :=
  let v4614_r0 : Index := Scalar.indexCast v4613_r0
  let c0_1879_r0 : Index := 0#32
  ![v4614_r0.toNat, 0]

def k0_chk265 (v4613_r0 : BitVec 32) : Prop :=
  (∀ a, (k0_off778 v4613_r0) a + S1x128.size a ≤ S16000x128.size a)
theorem k0_off778_inb : ∀ (v4613_r0 : BitVec 32) (k0_hw265 : k0_chk265 v4613_r0), ∀ a, (k0_off778 v4613_r0) a + S1x128.size a ≤ S16000x128.size a := fun v4613_r0 k0_hw265 => k0_hw265

def k0_off779 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c9_i32_r0 : BitVec 32 := 9#32
  let v4619_r0 : BitVec 32 := Scalar.addi v4546_r0 c9_i32_r0
  let v4620_r0 : Index := Scalar.indexCast v4619_r0
  ![v4620_r0.toNat]
def k0_off780 (v4621_r0 : BitVec 32) : Fin 2 → Nat :=
  let v4622_r0 : Index := Scalar.indexCast v4621_r0
  let c0_1882_r0 : Index := 0#32
  ![v4622_r0.toNat, 0]

def k0_chk266 (v4621_r0 : BitVec 32) : Prop :=
  (∀ a, (k0_off780 v4621_r0) a + S1x128.size a ≤ S16000x128.size a)
theorem k0_off780_inb : ∀ (v4621_r0 : BitVec 32) (k0_hw266 : k0_chk266 v4621_r0), ∀ a, (k0_off780 v4621_r0) a + S1x128.size a ≤ S16000x128.size a := fun v4621_r0 k0_hw266 => k0_hw266

def k0_off781 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c10_i32_1885_r0 : BitVec 32 := 10#32
  let v4627_r0 : BitVec 32 := Scalar.addi v4546_r0 c10_i32_1885_r0
  let v4628_r0 : Index := Scalar.indexCast v4627_r0
  ![v4628_r0.toNat]
def k0_off782 (v4629_r0 : BitVec 32) : Fin 2 → Nat :=
  let v4630_r0 : Index := Scalar.indexCast v4629_r0
  let c0_1886_r0 : Index := 0#32
  ![v4630_r0.toNat, 0]

def k0_chk267 (v4629_r0 : BitVec 32) : Prop :=
  (∀ a, (k0_off782 v4629_r0) a + S1x128.size a ≤ S16000x128.size a)
theorem k0_off782_inb : ∀ (v4629_r0 : BitVec 32) (k0_hw267 : k0_chk267 v4629_r0), ∀ a, (k0_off782 v4629_r0) a + S1x128.size a ≤ S16000x128.size a := fun v4629_r0 k0_hw267 => k0_hw267

def k0_off783 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c11_i32_1889_r0 : BitVec 32 := 11#32
  let v4635_r0 : BitVec 32 := Scalar.addi v4546_r0 c11_i32_1889_r0
  let v4636_r0 : Index := Scalar.indexCast v4635_r0
  ![v4636_r0.toNat]
def k0_off784 (v4637_r0 : BitVec 32) : Fin 2 → Nat :=
  let v4638_r0 : Index := Scalar.indexCast v4637_r0
  let c0_1890_r0 : Index := 0#32
  ![v4638_r0.toNat, 0]

def k0_chk268 (v4637_r0 : BitVec 32) : Prop :=
  (∀ a, (k0_off784 v4637_r0) a + S1x128.size a ≤ S16000x128.size a)
theorem k0_off784_inb : ∀ (v4637_r0 : BitVec 32) (k0_hw268 : k0_chk268 v4637_r0), ∀ a, (k0_off784 v4637_r0) a + S1x128.size a ≤ S16000x128.size a := fun v4637_r0 k0_hw268 => k0_hw268

def k0_off785 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c12_i32_r0 : BitVec 32 := 12#32
  let v4643_r0 : BitVec 32 := Scalar.addi v4546_r0 c12_i32_r0
  let v4644_r0 : Index := Scalar.indexCast v4643_r0
  ![v4644_r0.toNat]
def k0_off786 (v4645_r0 : BitVec 32) : Fin 2 → Nat :=
  let v4646_r0 : Index := Scalar.indexCast v4645_r0
  let c0_1893_r0 : Index := 0#32
  ![v4646_r0.toNat, 0]

def k0_chk269 (v4645_r0 : BitVec 32) : Prop :=
  (∀ a, (k0_off786 v4645_r0) a + S1x128.size a ≤ S16000x128.size a)
theorem k0_off786_inb : ∀ (v4645_r0 : BitVec 32) (k0_hw269 : k0_chk269 v4645_r0), ∀ a, (k0_off786 v4645_r0) a + S1x128.size a ≤ S16000x128.size a := fun v4645_r0 k0_hw269 => k0_hw269

def k0_off787 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c13_i32_r0 : BitVec 32 := 13#32
  let v4651_r0 : BitVec 32 := Scalar.addi v4546_r0 c13_i32_r0
  let v4652_r0 : Index := Scalar.indexCast v4651_r0
  ![v4652_r0.toNat]
def k0_off788 (v4653_r0 : BitVec 32) : Fin 2 → Nat :=
  let v4654_r0 : Index := Scalar.indexCast v4653_r0
  let c0_1896_r0 : Index := 0#32
  ![v4654_r0.toNat, 0]

def k0_chk270 (v4653_r0 : BitVec 32) : Prop :=
  (∀ a, (k0_off788 v4653_r0) a + S1x128.size a ≤ S16000x128.size a)
theorem k0_off788_inb : ∀ (v4653_r0 : BitVec 32) (k0_hw270 : k0_chk270 v4653_r0), ∀ a, (k0_off788 v4653_r0) a + S1x128.size a ≤ S16000x128.size a := fun v4653_r0 k0_hw270 => k0_hw270

def k0_off789 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c14_i32_r0 : BitVec 32 := 14#32
  let v4659_r0 : BitVec 32 := Scalar.addi v4546_r0 c14_i32_r0
  let v4660_r0 : Index := Scalar.indexCast v4659_r0
  ![v4660_r0.toNat]
def k0_off790 (v4661_r0 : BitVec 32) : Fin 2 → Nat :=
  let v4662_r0 : Index := Scalar.indexCast v4661_r0
  let c0_1899_r0 : Index := 0#32
  ![v4662_r0.toNat, 0]

def k0_chk271 (v4661_r0 : BitVec 32) : Prop :=
  (∀ a, (k0_off790 v4661_r0) a + S1x128.size a ≤ S16000x128.size a)
theorem k0_off790_inb : ∀ (v4661_r0 : BitVec 32) (k0_hw271 : k0_chk271 v4661_r0), ∀ a, (k0_off790 v4661_r0) a + S1x128.size a ≤ S16000x128.size a := fun v4661_r0 k0_hw271 => k0_hw271

def k0_off791 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c15_i32_1902_r0 : BitVec 32 := 15#32
  let v4667_r0 : BitVec 32 := Scalar.addi v4546_r0 c15_i32_1902_r0
  let v4668_r0 : Index := Scalar.indexCast v4667_r0
  ![v4668_r0.toNat]
def k0_off792 (v4669_r0 : BitVec 32) : Fin 2 → Nat :=
  let v4670_r0 : Index := Scalar.indexCast v4669_r0
  let c0_1903_r0 : Index := 0#32
  ![v4670_r0.toNat, 0]

def k0_chk272 (v4669_r0 : BitVec 32) : Prop :=
  (∀ a, (k0_off792 v4669_r0) a + S1x128.size a ≤ S16000x128.size a)
theorem k0_off792_inb : ∀ (v4669_r0 : BitVec 32) (k0_hw272 : k0_chk272 v4669_r0), ∀ a, (k0_off792 v4669_r0) a + S1x128.size a ≤ S16000x128.size a := fun v4669_r0 k0_hw272 => k0_hw272

def k0_off793 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c16_i32_1906_r0 : BitVec 32 := 16#32
  let v4675_r0 : BitVec 32 := Scalar.addi v4546_r0 c16_i32_1906_r0
  let v4676_r0 : Index := Scalar.indexCast v4675_r0
  ![v4676_r0.toNat]
def k0_off794 (v4677_r0 : BitVec 32) : Fin 2 → Nat :=
  let v4678_r0 : Index := Scalar.indexCast v4677_r0
  let c0_1907_r0 : Index := 0#32
  ![v4678_r0.toNat, 0]

def k0_chk273 (v4677_r0 : BitVec 32) : Prop :=
  (∀ a, (k0_off794 v4677_r0) a + S1x128.size a ≤ S16000x128.size a)
theorem k0_off794_inb : ∀ (v4677_r0 : BitVec 32) (k0_hw273 : k0_chk273 v4677_r0), ∀ a, (k0_off794 v4677_r0) a + S1x128.size a ≤ S16000x128.size a := fun v4677_r0 k0_hw273 => k0_hw273

def k0_off795 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c17_i32_r0 : BitVec 32 := 17#32
  let v4683_r0 : BitVec 32 := Scalar.addi v4546_r0 c17_i32_r0
  let v4684_r0 : Index := Scalar.indexCast v4683_r0
  ![v4684_r0.toNat]
def k0_off796 (v4685_r0 : BitVec 32) : Fin 2 → Nat :=
  let v4686_r0 : Index := Scalar.indexCast v4685_r0
  let c0_1910_r0 : Index := 0#32
  ![v4686_r0.toNat, 0]

def k0_chk274 (v4685_r0 : BitVec 32) : Prop :=
  (∀ a, (k0_off796 v4685_r0) a + S1x128.size a ≤ S16000x128.size a)
theorem k0_off796_inb : ∀ (v4685_r0 : BitVec 32) (k0_hw274 : k0_chk274 v4685_r0), ∀ a, (k0_off796 v4685_r0) a + S1x128.size a ≤ S16000x128.size a := fun v4685_r0 k0_hw274 => k0_hw274

def k0_off797 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c18_i32_r0 : BitVec 32 := 18#32
  let v4691_r0 : BitVec 32 := Scalar.addi v4546_r0 c18_i32_r0
  let v4692_r0 : Index := Scalar.indexCast v4691_r0
  ![v4692_r0.toNat]
def k0_off798 (v4693_r0 : BitVec 32) : Fin 2 → Nat :=
  let v4694_r0 : Index := Scalar.indexCast v4693_r0
  let c0_1913_r0 : Index := 0#32
  ![v4694_r0.toNat, 0]

def k0_chk275 (v4693_r0 : BitVec 32) : Prop :=
  (∀ a, (k0_off798 v4693_r0) a + S1x128.size a ≤ S16000x128.size a)
theorem k0_off798_inb : ∀ (v4693_r0 : BitVec 32) (k0_hw275 : k0_chk275 v4693_r0), ∀ a, (k0_off798 v4693_r0) a + S1x128.size a ≤ S16000x128.size a := fun v4693_r0 k0_hw275 => k0_hw275

def k0_off799 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c19_i32_r0 : BitVec 32 := 19#32
  let v4699_r0 : BitVec 32 := Scalar.addi v4546_r0 c19_i32_r0
  let v4700_r0 : Index := Scalar.indexCast v4699_r0
  ![v4700_r0.toNat]
def k0_off800 (v4701_r0 : BitVec 32) : Fin 2 → Nat :=
  let v4702_r0 : Index := Scalar.indexCast v4701_r0
  let c0_1916_r0 : Index := 0#32
  ![v4702_r0.toNat, 0]

def k0_chk276 (v4701_r0 : BitVec 32) : Prop :=
  (∀ a, (k0_off800 v4701_r0) a + S1x128.size a ≤ S16000x128.size a)
theorem k0_off800_inb : ∀ (v4701_r0 : BitVec 32) (k0_hw276 : k0_chk276 v4701_r0), ∀ a, (k0_off800 v4701_r0) a + S1x128.size a ≤ S16000x128.size a := fun v4701_r0 k0_hw276 => k0_hw276

def k0_off801 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c20_i32_r0 : BitVec 32 := 20#32
  let v4707_r0 : BitVec 32 := Scalar.addi v4546_r0 c20_i32_r0
  let v4708_r0 : Index := Scalar.indexCast v4707_r0
  ![v4708_r0.toNat]
def k0_off802 (v4709_r0 : BitVec 32) : Fin 2 → Nat :=
  let v4710_r0 : Index := Scalar.indexCast v4709_r0
  let c0_1919_r0 : Index := 0#32
  ![v4710_r0.toNat, 0]

def k0_chk277 (v4709_r0 : BitVec 32) : Prop :=
  (∀ a, (k0_off802 v4709_r0) a + S1x128.size a ≤ S16000x128.size a)
theorem k0_off802_inb : ∀ (v4709_r0 : BitVec 32) (k0_hw277 : k0_chk277 v4709_r0), ∀ a, (k0_off802 v4709_r0) a + S1x128.size a ≤ S16000x128.size a := fun v4709_r0 k0_hw277 => k0_hw277

def k0_off803 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c21_i32_r0 : BitVec 32 := 21#32
  let v4715_r0 : BitVec 32 := Scalar.addi v4546_r0 c21_i32_r0
  let v4716_r0 : Index := Scalar.indexCast v4715_r0
  ![v4716_r0.toNat]
def k0_off804 (v4717_r0 : BitVec 32) : Fin 2 → Nat :=
  let v4718_r0 : Index := Scalar.indexCast v4717_r0
  let c0_1922_r0 : Index := 0#32
  ![v4718_r0.toNat, 0]

def k0_chk278 (v4717_r0 : BitVec 32) : Prop :=
  (∀ a, (k0_off804 v4717_r0) a + S1x128.size a ≤ S16000x128.size a)
theorem k0_off804_inb : ∀ (v4717_r0 : BitVec 32) (k0_hw278 : k0_chk278 v4717_r0), ∀ a, (k0_off804 v4717_r0) a + S1x128.size a ≤ S16000x128.size a := fun v4717_r0 k0_hw278 => k0_hw278

def k0_off805 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c22_i32_1925_r0 : BitVec 32 := 22#32
  let v4723_r0 : BitVec 32 := Scalar.addi v4546_r0 c22_i32_1925_r0
  let v4724_r0 : Index := Scalar.indexCast v4723_r0
  ![v4724_r0.toNat]
def k0_off806 (v4725_r0 : BitVec 32) : Fin 2 → Nat :=
  let v4726_r0 : Index := Scalar.indexCast v4725_r0
  let c0_1926_r0 : Index := 0#32
  ![v4726_r0.toNat, 0]

def k0_chk279 (v4725_r0 : BitVec 32) : Prop :=
  (∀ a, (k0_off806 v4725_r0) a + S1x128.size a ≤ S16000x128.size a)
theorem k0_off806_inb : ∀ (v4725_r0 : BitVec 32) (k0_hw279 : k0_chk279 v4725_r0), ∀ a, (k0_off806 v4725_r0) a + S1x128.size a ≤ S16000x128.size a := fun v4725_r0 k0_hw279 => k0_hw279

def k0_off807 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c23_i32_r0 : BitVec 32 := 23#32
  let v4731_r0 : BitVec 32 := Scalar.addi v4546_r0 c23_i32_r0
  let v4732_r0 : Index := Scalar.indexCast v4731_r0
  ![v4732_r0.toNat]
def k0_off808 (v4733_r0 : BitVec 32) : Fin 2 → Nat :=
  let v4734_r0 : Index := Scalar.indexCast v4733_r0
  let c0_1929_r0 : Index := 0#32
  ![v4734_r0.toNat, 0]

def k0_chk280 (v4733_r0 : BitVec 32) : Prop :=
  (∀ a, (k0_off808 v4733_r0) a + S1x128.size a ≤ S16000x128.size a)
theorem k0_off808_inb : ∀ (v4733_r0 : BitVec 32) (k0_hw280 : k0_chk280 v4733_r0), ∀ a, (k0_off808 v4733_r0) a + S1x128.size a ≤ S16000x128.size a := fun v4733_r0 k0_hw280 => k0_hw280

def k0_off809 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c24_i32_1932_r0 : BitVec 32 := 24#32
  let v4739_r0 : BitVec 32 := Scalar.addi v4546_r0 c24_i32_1932_r0
  let v4740_r0 : Index := Scalar.indexCast v4739_r0
  ![v4740_r0.toNat]
def k0_off810 (v4741_r0 : BitVec 32) : Fin 2 → Nat :=
  let v4742_r0 : Index := Scalar.indexCast v4741_r0
  let c0_1933_r0 : Index := 0#32
  ![v4742_r0.toNat, 0]

def k0_chk281 (v4741_r0 : BitVec 32) : Prop :=
  (∀ a, (k0_off810 v4741_r0) a + S1x128.size a ≤ S16000x128.size a)
theorem k0_off810_inb : ∀ (v4741_r0 : BitVec 32) (k0_hw281 : k0_chk281 v4741_r0), ∀ a, (k0_off810 v4741_r0) a + S1x128.size a ≤ S16000x128.size a := fun v4741_r0 k0_hw281 => k0_hw281

def k0_off811 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c25_i32_1936_r0 : BitVec 32 := 25#32
  let v4747_r0 : BitVec 32 := Scalar.addi v4546_r0 c25_i32_1936_r0
  let v4748_r0 : Index := Scalar.indexCast v4747_r0
  ![v4748_r0.toNat]
def k0_off812 (v4749_r0 : BitVec 32) : Fin 2 → Nat :=
  let v4750_r0 : Index := Scalar.indexCast v4749_r0
  let c0_1937_r0 : Index := 0#32
  ![v4750_r0.toNat, 0]

def k0_chk282 (v4749_r0 : BitVec 32) : Prop :=
  (∀ a, (k0_off812 v4749_r0) a + S1x128.size a ≤ S16000x128.size a)
theorem k0_off812_inb : ∀ (v4749_r0 : BitVec 32) (k0_hw282 : k0_chk282 v4749_r0), ∀ a, (k0_off812 v4749_r0) a + S1x128.size a ≤ S16000x128.size a := fun v4749_r0 k0_hw282 => k0_hw282

def k0_off813 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c26_i32_r0 : BitVec 32 := 26#32
  let v4755_r0 : BitVec 32 := Scalar.addi v4546_r0 c26_i32_r0
  let v4756_r0 : Index := Scalar.indexCast v4755_r0
  ![v4756_r0.toNat]
def k0_off814 (v4757_r0 : BitVec 32) : Fin 2 → Nat :=
  let v4758_r0 : Index := Scalar.indexCast v4757_r0
  let c0_1940_r0 : Index := 0#32
  ![v4758_r0.toNat, 0]

def k0_chk283 (v4757_r0 : BitVec 32) : Prop :=
  (∀ a, (k0_off814 v4757_r0) a + S1x128.size a ≤ S16000x128.size a)
theorem k0_off814_inb : ∀ (v4757_r0 : BitVec 32) (k0_hw283 : k0_chk283 v4757_r0), ∀ a, (k0_off814 v4757_r0) a + S1x128.size a ≤ S16000x128.size a := fun v4757_r0 k0_hw283 => k0_hw283

def k0_off815 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c27_i32_r0 : BitVec 32 := 27#32
  let v4763_r0 : BitVec 32 := Scalar.addi v4546_r0 c27_i32_r0
  let v4764_r0 : Index := Scalar.indexCast v4763_r0
  ![v4764_r0.toNat]
def k0_off816 (v4765_r0 : BitVec 32) : Fin 2 → Nat :=
  let v4766_r0 : Index := Scalar.indexCast v4765_r0
  let c0_1943_r0 : Index := 0#32
  ![v4766_r0.toNat, 0]

def k0_chk284 (v4765_r0 : BitVec 32) : Prop :=
  (∀ a, (k0_off816 v4765_r0) a + S1x128.size a ≤ S16000x128.size a)
theorem k0_off816_inb : ∀ (v4765_r0 : BitVec 32) (k0_hw284 : k0_chk284 v4765_r0), ∀ a, (k0_off816 v4765_r0) a + S1x128.size a ≤ S16000x128.size a := fun v4765_r0 k0_hw284 => k0_hw284

def k0_off817 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c28_i32_r0 : BitVec 32 := 28#32
  let v4771_r0 : BitVec 32 := Scalar.addi v4546_r0 c28_i32_r0
  let v4772_r0 : Index := Scalar.indexCast v4771_r0
  ![v4772_r0.toNat]
def k0_off818 (v4773_r0 : BitVec 32) : Fin 2 → Nat :=
  let v4774_r0 : Index := Scalar.indexCast v4773_r0
  let c0_1946_r0 : Index := 0#32
  ![v4774_r0.toNat, 0]

def k0_chk285 (v4773_r0 : BitVec 32) : Prop :=
  (∀ a, (k0_off818 v4773_r0) a + S1x128.size a ≤ S16000x128.size a)
theorem k0_off818_inb : ∀ (v4773_r0 : BitVec 32) (k0_hw285 : k0_chk285 v4773_r0), ∀ a, (k0_off818 v4773_r0) a + S1x128.size a ≤ S16000x128.size a := fun v4773_r0 k0_hw285 => k0_hw285

def k0_off819 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c29_i32_r0 : BitVec 32 := 29#32
  let v4779_r0 : BitVec 32 := Scalar.addi v4546_r0 c29_i32_r0
  let v4780_r0 : Index := Scalar.indexCast v4779_r0
  ![v4780_r0.toNat]
def k0_off820 (v4781_r0 : BitVec 32) : Fin 2 → Nat :=
  let v4782_r0 : Index := Scalar.indexCast v4781_r0
  let c0_1949_r0 : Index := 0#32
  ![v4782_r0.toNat, 0]

def k0_chk286 (v4781_r0 : BitVec 32) : Prop :=
  (∀ a, (k0_off820 v4781_r0) a + S1x128.size a ≤ S16000x128.size a)
theorem k0_off820_inb : ∀ (v4781_r0 : BitVec 32) (k0_hw286 : k0_chk286 v4781_r0), ∀ a, (k0_off820 v4781_r0) a + S1x128.size a ≤ S16000x128.size a := fun v4781_r0 k0_hw286 => k0_hw286

def k0_off821 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c30_i32_1952_r0 : BitVec 32 := 30#32
  let v4787_r0 : BitVec 32 := Scalar.addi v4546_r0 c30_i32_1952_r0
  let v4788_r0 : Index := Scalar.indexCast v4787_r0
  ![v4788_r0.toNat]
def k0_off822 (v4789_r0 : BitVec 32) : Fin 2 → Nat :=
  let v4790_r0 : Index := Scalar.indexCast v4789_r0
  let c0_1953_r0 : Index := 0#32
  ![v4790_r0.toNat, 0]

def k0_chk287 (v4789_r0 : BitVec 32) : Prop :=
  (∀ a, (k0_off822 v4789_r0) a + S1x128.size a ≤ S16000x128.size a)
theorem k0_off822_inb : ∀ (v4789_r0 : BitVec 32) (k0_hw287 : k0_chk287 v4789_r0), ∀ a, (k0_off822 v4789_r0) a + S1x128.size a ≤ S16000x128.size a := fun v4789_r0 k0_hw287 => k0_hw287

def k0_off823 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c31_i32_1956_r0 : BitVec 32 := 31#32
  let v4795_r0 : BitVec 32 := Scalar.addi v4546_r0 c31_i32_1956_r0
  let v4796_r0 : Index := Scalar.indexCast v4795_r0
  ![v4796_r0.toNat]
def k0_off824 (v4797_r0 : BitVec 32) : Fin 2 → Nat :=
  let v4798_r0 : Index := Scalar.indexCast v4797_r0
  let c0_1957_r0 : Index := 0#32
  ![v4798_r0.toNat, 0]

def k0_chk288 (v4797_r0 : BitVec 32) : Prop :=
  (∀ a, (k0_off824 v4797_r0) a + S1x128.size a ≤ S16000x128.size a)
theorem k0_off824_inb : ∀ (v4797_r0 : BitVec 32) (k0_hw288 : k0_chk288 v4797_r0), ∀ a, (k0_off824 v4797_r0) a + S1x128.size a ≤ S16000x128.size a := fun v4797_r0 k0_hw288 => k0_hw288

def k0_off825 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c32_i32_1960_r0 : BitVec 32 := 32#32
  let v4803_r0 : BitVec 32 := Scalar.addi v4546_r0 c32_i32_1960_r0
  let v4804_r0 : Index := Scalar.indexCast v4803_r0
  ![v4804_r0.toNat]
def k0_off826 (v4805_r0 : BitVec 32) : Fin 2 → Nat :=
  let v4806_r0 : Index := Scalar.indexCast v4805_r0
  let c0_1961_r0 : Index := 0#32
  ![v4806_r0.toNat, 0]

def k0_chk289 (v4805_r0 : BitVec 32) : Prop :=
  (∀ a, (k0_off826 v4805_r0) a + S1x128.size a ≤ S16000x128.size a)
theorem k0_off826_inb : ∀ (v4805_r0 : BitVec 32) (k0_hw289 : k0_chk289 v4805_r0), ∀ a, (k0_off826 v4805_r0) a + S1x128.size a ≤ S16000x128.size a := fun v4805_r0 k0_hw289 => k0_hw289

def k0_off827 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c33_i32_r0 : BitVec 32 := 33#32
  let v4811_r0 : BitVec 32 := Scalar.addi v4546_r0 c33_i32_r0
  let v4812_r0 : Index := Scalar.indexCast v4811_r0
  ![v4812_r0.toNat]
def k0_off828 (v4813_r0 : BitVec 32) : Fin 2 → Nat :=
  let v4814_r0 : Index := Scalar.indexCast v4813_r0
  let c0_1964_r0 : Index := 0#32
  ![v4814_r0.toNat, 0]

def k0_chk290 (v4813_r0 : BitVec 32) : Prop :=
  (∀ a, (k0_off828 v4813_r0) a + S1x128.size a ≤ S16000x128.size a)
theorem k0_off828_inb : ∀ (v4813_r0 : BitVec 32) (k0_hw290 : k0_chk290 v4813_r0), ∀ a, (k0_off828 v4813_r0) a + S1x128.size a ≤ S16000x128.size a := fun v4813_r0 k0_hw290 => k0_hw290

def k0_off829 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c34_i32_r0 : BitVec 32 := 34#32
  let v4819_r0 : BitVec 32 := Scalar.addi v4546_r0 c34_i32_r0
  let v4820_r0 : Index := Scalar.indexCast v4819_r0
  ![v4820_r0.toNat]
def k0_off830 (v4821_r0 : BitVec 32) : Fin 2 → Nat :=
  let v4822_r0 : Index := Scalar.indexCast v4821_r0
  let c0_1967_r0 : Index := 0#32
  ![v4822_r0.toNat, 0]

def k0_chk291 (v4821_r0 : BitVec 32) : Prop :=
  (∀ a, (k0_off830 v4821_r0) a + S1x128.size a ≤ S16000x128.size a)
theorem k0_off830_inb : ∀ (v4821_r0 : BitVec 32) (k0_hw291 : k0_chk291 v4821_r0), ∀ a, (k0_off830 v4821_r0) a + S1x128.size a ≤ S16000x128.size a := fun v4821_r0 k0_hw291 => k0_hw291

def k0_off831 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c35_i32_r0 : BitVec 32 := 35#32
  let v4827_r0 : BitVec 32 := Scalar.addi v4546_r0 c35_i32_r0
  let v4828_r0 : Index := Scalar.indexCast v4827_r0
  ![v4828_r0.toNat]
def k0_off832 (v4829_r0 : BitVec 32) : Fin 2 → Nat :=
  let v4830_r0 : Index := Scalar.indexCast v4829_r0
  let c0_1970_r0 : Index := 0#32
  ![v4830_r0.toNat, 0]

def k0_chk292 (v4829_r0 : BitVec 32) : Prop :=
  (∀ a, (k0_off832 v4829_r0) a + S1x128.size a ≤ S16000x128.size a)
theorem k0_off832_inb : ∀ (v4829_r0 : BitVec 32) (k0_hw292 : k0_chk292 v4829_r0), ∀ a, (k0_off832 v4829_r0) a + S1x128.size a ≤ S16000x128.size a := fun v4829_r0 k0_hw292 => k0_hw292

def k0_off833 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c36_i32_r0 : BitVec 32 := 36#32
  let v4835_r0 : BitVec 32 := Scalar.addi v4546_r0 c36_i32_r0
  let v4836_r0 : Index := Scalar.indexCast v4835_r0
  ![v4836_r0.toNat]
def k0_off834 (v4837_r0 : BitVec 32) : Fin 2 → Nat :=
  let v4838_r0 : Index := Scalar.indexCast v4837_r0
  let c0_1973_r0 : Index := 0#32
  ![v4838_r0.toNat, 0]

def k0_chk293 (v4837_r0 : BitVec 32) : Prop :=
  (∀ a, (k0_off834 v4837_r0) a + S1x128.size a ≤ S16000x128.size a)
theorem k0_off834_inb : ∀ (v4837_r0 : BitVec 32) (k0_hw293 : k0_chk293 v4837_r0), ∀ a, (k0_off834 v4837_r0) a + S1x128.size a ≤ S16000x128.size a := fun v4837_r0 k0_hw293 => k0_hw293

def k0_off835 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c37_i32_r0 : BitVec 32 := 37#32
  let v4843_r0 : BitVec 32 := Scalar.addi v4546_r0 c37_i32_r0
  let v4844_r0 : Index := Scalar.indexCast v4843_r0
  ![v4844_r0.toNat]
def k0_off836 (v4845_r0 : BitVec 32) : Fin 2 → Nat :=
  let v4846_r0 : Index := Scalar.indexCast v4845_r0
  let c0_1976_r0 : Index := 0#32
  ![v4846_r0.toNat, 0]

def k0_chk294 (v4845_r0 : BitVec 32) : Prop :=
  (∀ a, (k0_off836 v4845_r0) a + S1x128.size a ≤ S16000x128.size a)
theorem k0_off836_inb : ∀ (v4845_r0 : BitVec 32) (k0_hw294 : k0_chk294 v4845_r0), ∀ a, (k0_off836 v4845_r0) a + S1x128.size a ≤ S16000x128.size a := fun v4845_r0 k0_hw294 => k0_hw294

def k0_off837 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c38_i32_r0 : BitVec 32 := 38#32
  let v4851_r0 : BitVec 32 := Scalar.addi v4546_r0 c38_i32_r0
  let v4852_r0 : Index := Scalar.indexCast v4851_r0
  ![v4852_r0.toNat]
def k0_off838 (v4853_r0 : BitVec 32) : Fin 2 → Nat :=
  let v4854_r0 : Index := Scalar.indexCast v4853_r0
  let c0_1979_r0 : Index := 0#32
  ![v4854_r0.toNat, 0]

def k0_chk295 (v4853_r0 : BitVec 32) : Prop :=
  (∀ a, (k0_off838 v4853_r0) a + S1x128.size a ≤ S16000x128.size a)
theorem k0_off838_inb : ∀ (v4853_r0 : BitVec 32) (k0_hw295 : k0_chk295 v4853_r0), ∀ a, (k0_off838 v4853_r0) a + S1x128.size a ≤ S16000x128.size a := fun v4853_r0 k0_hw295 => k0_hw295

def k0_off839 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c39_i32_r0 : BitVec 32 := 39#32
  let v4859_r0 : BitVec 32 := Scalar.addi v4546_r0 c39_i32_r0
  let v4860_r0 : Index := Scalar.indexCast v4859_r0
  ![v4860_r0.toNat]
def k0_off840 (v4861_r0 : BitVec 32) : Fin 2 → Nat :=
  let v4862_r0 : Index := Scalar.indexCast v4861_r0
  let c0_1982_r0 : Index := 0#32
  ![v4862_r0.toNat, 0]

def k0_chk296 (v4861_r0 : BitVec 32) : Prop :=
  (∀ a, (k0_off840 v4861_r0) a + S1x128.size a ≤ S16000x128.size a)
theorem k0_off840_inb : ∀ (v4861_r0 : BitVec 32) (k0_hw296 : k0_chk296 v4861_r0), ∀ a, (k0_off840 v4861_r0) a + S1x128.size a ≤ S16000x128.size a := fun v4861_r0 k0_hw296 => k0_hw296

def k0_off841 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c40_i32_1985_r0 : BitVec 32 := 40#32
  let v4867_r0 : BitVec 32 := Scalar.addi v4546_r0 c40_i32_1985_r0
  let v4868_r0 : Index := Scalar.indexCast v4867_r0
  ![v4868_r0.toNat]
def k0_off842 (v4869_r0 : BitVec 32) : Fin 2 → Nat :=
  let v4870_r0 : Index := Scalar.indexCast v4869_r0
  let c0_1986_r0 : Index := 0#32
  ![v4870_r0.toNat, 0]

def k0_chk297 (v4869_r0 : BitVec 32) : Prop :=
  (∀ a, (k0_off842 v4869_r0) a + S1x128.size a ≤ S16000x128.size a)
theorem k0_off842_inb : ∀ (v4869_r0 : BitVec 32) (k0_hw297 : k0_chk297 v4869_r0), ∀ a, (k0_off842 v4869_r0) a + S1x128.size a ≤ S16000x128.size a := fun v4869_r0 k0_hw297 => k0_hw297

def k0_off843 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c41_i32_r0 : BitVec 32 := 41#32
  let v4875_r0 : BitVec 32 := Scalar.addi v4546_r0 c41_i32_r0
  let v4876_r0 : Index := Scalar.indexCast v4875_r0
  ![v4876_r0.toNat]
def k0_off844 (v4877_r0 : BitVec 32) : Fin 2 → Nat :=
  let v4878_r0 : Index := Scalar.indexCast v4877_r0
  let c0_1989_r0 : Index := 0#32
  ![v4878_r0.toNat, 0]

def k0_chk298 (v4877_r0 : BitVec 32) : Prop :=
  (∀ a, (k0_off844 v4877_r0) a + S1x128.size a ≤ S16000x128.size a)
theorem k0_off844_inb : ∀ (v4877_r0 : BitVec 32) (k0_hw298 : k0_chk298 v4877_r0), ∀ a, (k0_off844 v4877_r0) a + S1x128.size a ≤ S16000x128.size a := fun v4877_r0 k0_hw298 => k0_hw298

def k0_off845 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c42_i32_r0 : BitVec 32 := 42#32
  let v4883_r0 : BitVec 32 := Scalar.addi v4546_r0 c42_i32_r0
  let v4884_r0 : Index := Scalar.indexCast v4883_r0
  ![v4884_r0.toNat]
def k0_off846 (v4885_r0 : BitVec 32) : Fin 2 → Nat :=
  let v4886_r0 : Index := Scalar.indexCast v4885_r0
  let c0_1992_r0 : Index := 0#32
  ![v4886_r0.toNat, 0]

def k0_chk299 (v4885_r0 : BitVec 32) : Prop :=
  (∀ a, (k0_off846 v4885_r0) a + S1x128.size a ≤ S16000x128.size a)
theorem k0_off846_inb : ∀ (v4885_r0 : BitVec 32) (k0_hw299 : k0_chk299 v4885_r0), ∀ a, (k0_off846 v4885_r0) a + S1x128.size a ≤ S16000x128.size a := fun v4885_r0 k0_hw299 => k0_hw299

def k0_off847 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c43_i32_r0 : BitVec 32 := 43#32
  let v4891_r0 : BitVec 32 := Scalar.addi v4546_r0 c43_i32_r0
  let v4892_r0 : Index := Scalar.indexCast v4891_r0
  ![v4892_r0.toNat]
def k0_off848 (v4893_r0 : BitVec 32) : Fin 2 → Nat :=
  let v4894_r0 : Index := Scalar.indexCast v4893_r0
  let c0_1995_r0 : Index := 0#32
  ![v4894_r0.toNat, 0]

def k0_chk300 (v4893_r0 : BitVec 32) : Prop :=
  (∀ a, (k0_off848 v4893_r0) a + S1x128.size a ≤ S16000x128.size a)
theorem k0_off848_inb : ∀ (v4893_r0 : BitVec 32) (k0_hw300 : k0_chk300 v4893_r0), ∀ a, (k0_off848 v4893_r0) a + S1x128.size a ≤ S16000x128.size a := fun v4893_r0 k0_hw300 => k0_hw300

def k0_off849 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c44_i32_r0 : BitVec 32 := 44#32
  let v4899_r0 : BitVec 32 := Scalar.addi v4546_r0 c44_i32_r0
  let v4900_r0 : Index := Scalar.indexCast v4899_r0
  ![v4900_r0.toNat]
def k0_off850 (v4901_r0 : BitVec 32) : Fin 2 → Nat :=
  let v4902_r0 : Index := Scalar.indexCast v4901_r0
  let c0_1998_r0 : Index := 0#32
  ![v4902_r0.toNat, 0]

def k0_chk301 (v4901_r0 : BitVec 32) : Prop :=
  (∀ a, (k0_off850 v4901_r0) a + S1x128.size a ≤ S16000x128.size a)
theorem k0_off850_inb : ∀ (v4901_r0 : BitVec 32) (k0_hw301 : k0_chk301 v4901_r0), ∀ a, (k0_off850 v4901_r0) a + S1x128.size a ≤ S16000x128.size a := fun v4901_r0 k0_hw301 => k0_hw301

def k0_off851 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c45_i32_r0 : BitVec 32 := 45#32
  let v4907_r0 : BitVec 32 := Scalar.addi v4546_r0 c45_i32_r0
  let v4908_r0 : Index := Scalar.indexCast v4907_r0
  ![v4908_r0.toNat]
def k0_off852 (v4909_r0 : BitVec 32) : Fin 2 → Nat :=
  let v4910_r0 : Index := Scalar.indexCast v4909_r0
  let c0_2001_r0 : Index := 0#32
  ![v4910_r0.toNat, 0]

def k0_chk302 (v4909_r0 : BitVec 32) : Prop :=
  (∀ a, (k0_off852 v4909_r0) a + S1x128.size a ≤ S16000x128.size a)
theorem k0_off852_inb : ∀ (v4909_r0 : BitVec 32) (k0_hw302 : k0_chk302 v4909_r0), ∀ a, (k0_off852 v4909_r0) a + S1x128.size a ≤ S16000x128.size a := fun v4909_r0 k0_hw302 => k0_hw302

def k0_off853 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c46_i32_r0 : BitVec 32 := 46#32
  let v4915_r0 : BitVec 32 := Scalar.addi v4546_r0 c46_i32_r0
  let v4916_r0 : Index := Scalar.indexCast v4915_r0
  ![v4916_r0.toNat]
def k0_off854 (v4917_r0 : BitVec 32) : Fin 2 → Nat :=
  let v4918_r0 : Index := Scalar.indexCast v4917_r0
  let c0_2004_r0 : Index := 0#32
  ![v4918_r0.toNat, 0]

def k0_chk303 (v4917_r0 : BitVec 32) : Prop :=
  (∀ a, (k0_off854 v4917_r0) a + S1x128.size a ≤ S16000x128.size a)
theorem k0_off854_inb : ∀ (v4917_r0 : BitVec 32) (k0_hw303 : k0_chk303 v4917_r0), ∀ a, (k0_off854 v4917_r0) a + S1x128.size a ≤ S16000x128.size a := fun v4917_r0 k0_hw303 => k0_hw303

def k0_off855 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c47_i32_r0 : BitVec 32 := 47#32
  let v4923_r0 : BitVec 32 := Scalar.addi v4546_r0 c47_i32_r0
  let v4924_r0 : Index := Scalar.indexCast v4923_r0
  ![v4924_r0.toNat]
def k0_off856 (v4925_r0 : BitVec 32) : Fin 2 → Nat :=
  let v4926_r0 : Index := Scalar.indexCast v4925_r0
  let c0_2007_r0 : Index := 0#32
  ![v4926_r0.toNat, 0]

def k0_chk304 (v4925_r0 : BitVec 32) : Prop :=
  (∀ a, (k0_off856 v4925_r0) a + S1x128.size a ≤ S16000x128.size a)
theorem k0_off856_inb : ∀ (v4925_r0 : BitVec 32) (k0_hw304 : k0_chk304 v4925_r0), ∀ a, (k0_off856 v4925_r0) a + S1x128.size a ≤ S16000x128.size a := fun v4925_r0 k0_hw304 => k0_hw304

def k0_off857 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c48_i32_2010_r0 : BitVec 32 := 48#32
  let v4931_r0 : BitVec 32 := Scalar.addi v4546_r0 c48_i32_2010_r0
  let v4932_r0 : Index := Scalar.indexCast v4931_r0
  ![v4932_r0.toNat]
def k0_off858 (v4933_r0 : BitVec 32) : Fin 2 → Nat :=
  let v4934_r0 : Index := Scalar.indexCast v4933_r0
  let c0_2011_r0 : Index := 0#32
  ![v4934_r0.toNat, 0]

def k0_chk305 (v4933_r0 : BitVec 32) : Prop :=
  (∀ a, (k0_off858 v4933_r0) a + S1x128.size a ≤ S16000x128.size a)
theorem k0_off858_inb : ∀ (v4933_r0 : BitVec 32) (k0_hw305 : k0_chk305 v4933_r0), ∀ a, (k0_off858 v4933_r0) a + S1x128.size a ≤ S16000x128.size a := fun v4933_r0 k0_hw305 => k0_hw305

def k0_off859 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c49_i32_r0 : BitVec 32 := 49#32
  let v4939_r0 : BitVec 32 := Scalar.addi v4546_r0 c49_i32_r0
  let v4940_r0 : Index := Scalar.indexCast v4939_r0
  ![v4940_r0.toNat]
def k0_off860 (v4941_r0 : BitVec 32) : Fin 2 → Nat :=
  let v4942_r0 : Index := Scalar.indexCast v4941_r0
  let c0_2014_r0 : Index := 0#32
  ![v4942_r0.toNat, 0]

def k0_chk306 (v4941_r0 : BitVec 32) : Prop :=
  (∀ a, (k0_off860 v4941_r0) a + S1x128.size a ≤ S16000x128.size a)
theorem k0_off860_inb : ∀ (v4941_r0 : BitVec 32) (k0_hw306 : k0_chk306 v4941_r0), ∀ a, (k0_off860 v4941_r0) a + S1x128.size a ≤ S16000x128.size a := fun v4941_r0 k0_hw306 => k0_hw306

def k0_off861 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c50_i32_r0 : BitVec 32 := 50#32
  let v4947_r0 : BitVec 32 := Scalar.addi v4546_r0 c50_i32_r0
  let v4948_r0 : Index := Scalar.indexCast v4947_r0
  ![v4948_r0.toNat]
def k0_off862 (v4949_r0 : BitVec 32) : Fin 2 → Nat :=
  let v4950_r0 : Index := Scalar.indexCast v4949_r0
  let c0_2017_r0 : Index := 0#32
  ![v4950_r0.toNat, 0]

def k0_chk307 (v4949_r0 : BitVec 32) : Prop :=
  (∀ a, (k0_off862 v4949_r0) a + S1x128.size a ≤ S16000x128.size a)
theorem k0_off862_inb : ∀ (v4949_r0 : BitVec 32) (k0_hw307 : k0_chk307 v4949_r0), ∀ a, (k0_off862 v4949_r0) a + S1x128.size a ≤ S16000x128.size a := fun v4949_r0 k0_hw307 => k0_hw307

def k0_off863 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c51_i32_r0 : BitVec 32 := 51#32
  let v4955_r0 : BitVec 32 := Scalar.addi v4546_r0 c51_i32_r0
  let v4956_r0 : Index := Scalar.indexCast v4955_r0
  ![v4956_r0.toNat]
def k0_off864 (v4957_r0 : BitVec 32) : Fin 2 → Nat :=
  let v4958_r0 : Index := Scalar.indexCast v4957_r0
  let c0_2020_r0 : Index := 0#32
  ![v4958_r0.toNat, 0]

def k0_chk308 (v4957_r0 : BitVec 32) : Prop :=
  (∀ a, (k0_off864 v4957_r0) a + S1x128.size a ≤ S16000x128.size a)
theorem k0_off864_inb : ∀ (v4957_r0 : BitVec 32) (k0_hw308 : k0_chk308 v4957_r0), ∀ a, (k0_off864 v4957_r0) a + S1x128.size a ≤ S16000x128.size a := fun v4957_r0 k0_hw308 => k0_hw308

def k0_off865 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c52_i32_r0 : BitVec 32 := 52#32
  let v4963_r0 : BitVec 32 := Scalar.addi v4546_r0 c52_i32_r0
  let v4964_r0 : Index := Scalar.indexCast v4963_r0
  ![v4964_r0.toNat]
def k0_off866 (v4965_r0 : BitVec 32) : Fin 2 → Nat :=
  let v4966_r0 : Index := Scalar.indexCast v4965_r0
  let c0_2023_r0 : Index := 0#32
  ![v4966_r0.toNat, 0]

def k0_chk309 (v4965_r0 : BitVec 32) : Prop :=
  (∀ a, (k0_off866 v4965_r0) a + S1x128.size a ≤ S16000x128.size a)
theorem k0_off866_inb : ∀ (v4965_r0 : BitVec 32) (k0_hw309 : k0_chk309 v4965_r0), ∀ a, (k0_off866 v4965_r0) a + S1x128.size a ≤ S16000x128.size a := fun v4965_r0 k0_hw309 => k0_hw309

def k0_off867 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c53_i32_r0 : BitVec 32 := 53#32
  let v4971_r0 : BitVec 32 := Scalar.addi v4546_r0 c53_i32_r0
  let v4972_r0 : Index := Scalar.indexCast v4971_r0
  ![v4972_r0.toNat]
def k0_off868 (v4973_r0 : BitVec 32) : Fin 2 → Nat :=
  let v4974_r0 : Index := Scalar.indexCast v4973_r0
  let c0_2026_r0 : Index := 0#32
  ![v4974_r0.toNat, 0]

def k0_chk310 (v4973_r0 : BitVec 32) : Prop :=
  (∀ a, (k0_off868 v4973_r0) a + S1x128.size a ≤ S16000x128.size a)
theorem k0_off868_inb : ∀ (v4973_r0 : BitVec 32) (k0_hw310 : k0_chk310 v4973_r0), ∀ a, (k0_off868 v4973_r0) a + S1x128.size a ≤ S16000x128.size a := fun v4973_r0 k0_hw310 => k0_hw310

def k0_off869 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c54_i32_r0 : BitVec 32 := 54#32
  let v4979_r0 : BitVec 32 := Scalar.addi v4546_r0 c54_i32_r0
  let v4980_r0 : Index := Scalar.indexCast v4979_r0
  ![v4980_r0.toNat]
def k0_off870 (v4981_r0 : BitVec 32) : Fin 2 → Nat :=
  let v4982_r0 : Index := Scalar.indexCast v4981_r0
  let c0_2029_r0 : Index := 0#32
  ![v4982_r0.toNat, 0]

def k0_chk311 (v4981_r0 : BitVec 32) : Prop :=
  (∀ a, (k0_off870 v4981_r0) a + S1x128.size a ≤ S16000x128.size a)
theorem k0_off870_inb : ∀ (v4981_r0 : BitVec 32) (k0_hw311 : k0_chk311 v4981_r0), ∀ a, (k0_off870 v4981_r0) a + S1x128.size a ≤ S16000x128.size a := fun v4981_r0 k0_hw311 => k0_hw311

def k0_off871 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c55_i32_r0 : BitVec 32 := 55#32
  let v4987_r0 : BitVec 32 := Scalar.addi v4546_r0 c55_i32_r0
  let v4988_r0 : Index := Scalar.indexCast v4987_r0
  ![v4988_r0.toNat]
def k0_off872 (v4989_r0 : BitVec 32) : Fin 2 → Nat :=
  let v4990_r0 : Index := Scalar.indexCast v4989_r0
  let c0_2032_r0 : Index := 0#32
  ![v4990_r0.toNat, 0]

def k0_chk312 (v4989_r0 : BitVec 32) : Prop :=
  (∀ a, (k0_off872 v4989_r0) a + S1x128.size a ≤ S16000x128.size a)
theorem k0_off872_inb : ∀ (v4989_r0 : BitVec 32) (k0_hw312 : k0_chk312 v4989_r0), ∀ a, (k0_off872 v4989_r0) a + S1x128.size a ≤ S16000x128.size a := fun v4989_r0 k0_hw312 => k0_hw312

def k0_off873 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c56_i32_2035_r0 : BitVec 32 := 56#32
  let v4995_r0 : BitVec 32 := Scalar.addi v4546_r0 c56_i32_2035_r0
  let v4996_r0 : Index := Scalar.indexCast v4995_r0
  ![v4996_r0.toNat]
def k0_off874 (v4997_r0 : BitVec 32) : Fin 2 → Nat :=
  let v4998_r0 : Index := Scalar.indexCast v4997_r0
  let c0_2036_r0 : Index := 0#32
  ![v4998_r0.toNat, 0]

def k0_chk313 (v4997_r0 : BitVec 32) : Prop :=
  (∀ a, (k0_off874 v4997_r0) a + S1x128.size a ≤ S16000x128.size a)
theorem k0_off874_inb : ∀ (v4997_r0 : BitVec 32) (k0_hw313 : k0_chk313 v4997_r0), ∀ a, (k0_off874 v4997_r0) a + S1x128.size a ≤ S16000x128.size a := fun v4997_r0 k0_hw313 => k0_hw313

def k0_off875 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c57_i32_r0 : BitVec 32 := 57#32
  let v5003_r0 : BitVec 32 := Scalar.addi v4546_r0 c57_i32_r0
  let v5004_r0 : Index := Scalar.indexCast v5003_r0
  ![v5004_r0.toNat]
def k0_off876 (v5005_r0 : BitVec 32) : Fin 2 → Nat :=
  let v5006_r0 : Index := Scalar.indexCast v5005_r0
  let c0_2039_r0 : Index := 0#32
  ![v5006_r0.toNat, 0]

def k0_chk314 (v5005_r0 : BitVec 32) : Prop :=
  (∀ a, (k0_off876 v5005_r0) a + S1x128.size a ≤ S16000x128.size a)
theorem k0_off876_inb : ∀ (v5005_r0 : BitVec 32) (k0_hw314 : k0_chk314 v5005_r0), ∀ a, (k0_off876 v5005_r0) a + S1x128.size a ≤ S16000x128.size a := fun v5005_r0 k0_hw314 => k0_hw314

def k0_off877 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c58_i32_r0 : BitVec 32 := 58#32
  let v5011_r0 : BitVec 32 := Scalar.addi v4546_r0 c58_i32_r0
  let v5012_r0 : Index := Scalar.indexCast v5011_r0
  ![v5012_r0.toNat]
def k0_off878 (v5013_r0 : BitVec 32) : Fin 2 → Nat :=
  let v5014_r0 : Index := Scalar.indexCast v5013_r0
  let c0_2042_r0 : Index := 0#32
  ![v5014_r0.toNat, 0]

def k0_chk315 (v5013_r0 : BitVec 32) : Prop :=
  (∀ a, (k0_off878 v5013_r0) a + S1x128.size a ≤ S16000x128.size a)
theorem k0_off878_inb : ∀ (v5013_r0 : BitVec 32) (k0_hw315 : k0_chk315 v5013_r0), ∀ a, (k0_off878 v5013_r0) a + S1x128.size a ≤ S16000x128.size a := fun v5013_r0 k0_hw315 => k0_hw315

def k0_off879 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c59_i32_r0 : BitVec 32 := 59#32
  let v5019_r0 : BitVec 32 := Scalar.addi v4546_r0 c59_i32_r0
  let v5020_r0 : Index := Scalar.indexCast v5019_r0
  ![v5020_r0.toNat]
def k0_off880 (v5021_r0 : BitVec 32) : Fin 2 → Nat :=
  let v5022_r0 : Index := Scalar.indexCast v5021_r0
  let c0_2045_r0 : Index := 0#32
  ![v5022_r0.toNat, 0]

def k0_chk316 (v5021_r0 : BitVec 32) : Prop :=
  (∀ a, (k0_off880 v5021_r0) a + S1x128.size a ≤ S16000x128.size a)
theorem k0_off880_inb : ∀ (v5021_r0 : BitVec 32) (k0_hw316 : k0_chk316 v5021_r0), ∀ a, (k0_off880 v5021_r0) a + S1x128.size a ≤ S16000x128.size a := fun v5021_r0 k0_hw316 => k0_hw316

def k0_off881 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c60_i32_r0 : BitVec 32 := 60#32
  let v5027_r0 : BitVec 32 := Scalar.addi v4546_r0 c60_i32_r0
  let v5028_r0 : Index := Scalar.indexCast v5027_r0
  ![v5028_r0.toNat]
def k0_off882 (v5029_r0 : BitVec 32) : Fin 2 → Nat :=
  let v5030_r0 : Index := Scalar.indexCast v5029_r0
  let c0_2048_r0 : Index := 0#32
  ![v5030_r0.toNat, 0]

def k0_chk317 (v5029_r0 : BitVec 32) : Prop :=
  (∀ a, (k0_off882 v5029_r0) a + S1x128.size a ≤ S16000x128.size a)
theorem k0_off882_inb : ∀ (v5029_r0 : BitVec 32) (k0_hw317 : k0_chk317 v5029_r0), ∀ a, (k0_off882 v5029_r0) a + S1x128.size a ≤ S16000x128.size a := fun v5029_r0 k0_hw317 => k0_hw317

def k0_off883 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c61_i32_r0 : BitVec 32 := 61#32
  let v5035_r0 : BitVec 32 := Scalar.addi v4546_r0 c61_i32_r0
  let v5036_r0 : Index := Scalar.indexCast v5035_r0
  ![v5036_r0.toNat]
def k0_off884 (v5037_r0 : BitVec 32) : Fin 2 → Nat :=
  let v5038_r0 : Index := Scalar.indexCast v5037_r0
  let c0_2051_r0 : Index := 0#32
  ![v5038_r0.toNat, 0]

def k0_chk318 (v5037_r0 : BitVec 32) : Prop :=
  (∀ a, (k0_off884 v5037_r0) a + S1x128.size a ≤ S16000x128.size a)
theorem k0_off884_inb : ∀ (v5037_r0 : BitVec 32) (k0_hw318 : k0_chk318 v5037_r0), ∀ a, (k0_off884 v5037_r0) a + S1x128.size a ≤ S16000x128.size a := fun v5037_r0 k0_hw318 => k0_hw318

def k0_off885 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c62_i32_r0 : BitVec 32 := 62#32
  let v5043_r0 : BitVec 32 := Scalar.addi v4546_r0 c62_i32_r0
  let v5044_r0 : Index := Scalar.indexCast v5043_r0
  ![v5044_r0.toNat]
def k0_off886 (v5045_r0 : BitVec 32) : Fin 2 → Nat :=
  let v5046_r0 : Index := Scalar.indexCast v5045_r0
  let c0_2054_r0 : Index := 0#32
  ![v5046_r0.toNat, 0]

def k0_chk319 (v5045_r0 : BitVec 32) : Prop :=
  (∀ a, (k0_off886 v5045_r0) a + S1x128.size a ≤ S16000x128.size a)
theorem k0_off886_inb : ∀ (v5045_r0 : BitVec 32) (k0_hw319 : k0_chk319 v5045_r0), ∀ a, (k0_off886 v5045_r0) a + S1x128.size a ≤ S16000x128.size a := fun v5045_r0 k0_hw319 => k0_hw319

def k0_off887 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c1_i32_1847_r0 : BitVec 32 := 1#32
  let v4544_r0 : BitVec 32 := Scalar.addi v4533_r0 c1_i32_1847_r0
  let c31_i32_1848_r0 : BitVec 32 := 31#32
  let v4545_r0 : BitVec 32 := Scalar.minsi v4544_r0 c31_i32_1848_r0
  let c64_i32_1849_r0 : BitVec 32 := 64#32
  let v4546_r0 : BitVec 32 := Scalar.muli v4545_r0 c64_i32_1849_r0
  let c63_i32_2057_r0 : BitVec 32 := 63#32
  let v5051_r0 : BitVec 32 := Scalar.addi v4546_r0 c63_i32_2057_r0
  let v5052_r0 : Index := Scalar.indexCast v5051_r0
  ![v5052_r0.toNat]
def k0_off888 (v5053_r0 : BitVec 32) : Fin 2 → Nat :=
  let v5054_r0 : Index := Scalar.indexCast v5053_r0
  let c0_2058_r0 : Index := 0#32
  ![v5054_r0.toNat, 0]

def k0_chk320 (v5053_r0 : BitVec 32) : Prop :=
  (∀ a, (k0_off888 v5053_r0) a + S1x128.size a ≤ S16000x128.size a)
theorem k0_off888_inb : ∀ (v5053_r0 : BitVec 32) (k0_hw320 : k0_chk320 v5053_r0), ∀ a, (k0_off888 v5053_r0) a + S1x128.size a ≤ S16000x128.size a := fun v5053_r0 k0_hw320 => k0_hw320

def k0_off889 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v6603_r0 : Index := Scalar.indexCast v4534_r0
  let c0_2569_r0 : Index := 0#32
  let c0_2570_r0 : Index := 0#32
  ![v6603_r0.toNat, 0, 0]
def k0_off890 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v6742_r0 : Index := Scalar.indexCast v4534_r0
  let c0_2627_r0 : Index := 0#32
  let c128_r0 : Index := 128#32
  ![v6742_r0.toNat, 0, 128]
def k0_off891 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v6881_r0 : Index := Scalar.indexCast v4534_r0
  let c0_2687_r0 : Index := 0#32
  let c256_r0 : Index := 256#32
  ![v6881_r0.toNat, 0, 256]
def k0_off892 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v7020_r0 : Index := Scalar.indexCast v4534_r0
  let c0_2747_r0 : Index := 0#32
  let c384_r0 : Index := 384#32
  ![v7020_r0.toNat, 0, 384]
def k0_off893 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v7159_r0 : Index := Scalar.indexCast v4534_r0
  let c0_2807_r0 : Index := 0#32
  let c512_r0 : Index := 512#32
  ![v7159_r0.toNat, 0, 512]
def k0_off894 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v7300_r0 : Index := Scalar.indexCast v4535_r0
  let c0_2867_r0 : Index := 0#32
  let c0_2868_r0 : Index := 0#32
  ![v7300_r0.toNat, 0, 0]
def k0_off895 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v7304_r0 : Index := Scalar.indexCast v4534_r0
  let c0_2869_r0 : Index := 0#32
  let c640_r0 : Index := 640#32
  ![v7304_r0.toNat, 0, 640]
def k0_off896 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v7445_r0 : Index := Scalar.indexCast v4535_r0
  let c0_2929_r0 : Index := 0#32
  let c256_2930_r0 : Index := 256#32
  ![v7445_r0.toNat, 0, 256]
def k0_off897 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v7449_r0 : Index := Scalar.indexCast v4534_r0
  let c0_2931_r0 : Index := 0#32
  let c768_r0 : Index := 768#32
  ![v7449_r0.toNat, 0, 768]
def k0_off898 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v7590_r0 : Index := Scalar.indexCast v4535_r0
  let c0_2991_r0 : Index := 0#32
  let c512_2992_r0 : Index := 512#32
  ![v7590_r0.toNat, 0, 512]
def k0_off899 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v7594_r0 : Index := Scalar.indexCast v4534_r0
  let c0_2993_r0 : Index := 0#32
  let c896_r0 : Index := 896#32
  ![v7594_r0.toNat, 0, 896]
def k0_off900 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v7735_r0 : Index := Scalar.indexCast v4535_r0
  let c0_3053_r0 : Index := 0#32
  let c768_3054_r0 : Index := 768#32
  ![v7735_r0.toNat, 0, 768]
def k0_off901 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v7739_r0 : Index := Scalar.indexCast v4534_r0
  let c0_3055_r0 : Index := 0#32
  let c1024_r0 : Index := 1024#32
  ![v7739_r0.toNat, 0, 1024]
def k0_off902 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v7880_r0 : Index := Scalar.indexCast v4535_r0
  let c0_3115_r0 : Index := 0#32
  let c1024_3116_r0 : Index := 1024#32
  ![v7880_r0.toNat, 0, 1024]
def k0_off903 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v7884_r0 : Index := Scalar.indexCast v4534_r0
  let c0_3117_r0 : Index := 0#32
  let c1152_r0 : Index := 1152#32
  ![v7884_r0.toNat, 0, 1152]
def k0_off904 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v8025_r0 : Index := Scalar.indexCast v4535_r0
  let c0_3177_r0 : Index := 0#32
  let c1280_r0 : Index := 1280#32
  ![v8025_r0.toNat, 0, 1280]
def k0_off905 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v8029_r0 : Index := Scalar.indexCast v4534_r0
  let c0_3178_r0 : Index := 0#32
  let c1280_3179_r0 : Index := 1280#32
  ![v8029_r0.toNat, 0, 1280]
def k0_off906 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v8170_r0 : Index := Scalar.indexCast v4535_r0
  let c0_3239_r0 : Index := 0#32
  let c1536_r0 : Index := 1536#32
  ![v8170_r0.toNat, 0, 1536]
def k0_off907 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v8174_r0 : Index := Scalar.indexCast v4534_r0
  let c0_3240_r0 : Index := 0#32
  let c1408_r0 : Index := 1408#32
  ![v8174_r0.toNat, 0, 1408]
def k0_off908 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v8315_r0 : Index := Scalar.indexCast v4535_r0
  let c0_3300_r0 : Index := 0#32
  let c1792_r0 : Index := 1792#32
  ![v8315_r0.toNat, 0, 1792]
def k0_off909 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v8319_r0 : Index := Scalar.indexCast v4534_r0
  let c0_3301_r0 : Index := 0#32
  let c1536_3302_r0 : Index := 1536#32
  ![v8319_r0.toNat, 0, 1536]
def k0_off910 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v8460_r0 : Index := Scalar.indexCast v4535_r0
  let c0_3362_r0 : Index := 0#32
  let c2048_r0 : Index := 2048#32
  ![v8460_r0.toNat, 0, 2048]
def k0_off911 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v8464_r0 : Index := Scalar.indexCast v4534_r0
  let c0_3363_r0 : Index := 0#32
  let c1664_r0 : Index := 1664#32
  ![v8464_r0.toNat, 0, 1664]
def k0_off912 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v8605_r0 : Index := Scalar.indexCast v4535_r0
  let c0_3423_r0 : Index := 0#32
  let c2304_r0 : Index := 2304#32
  ![v8605_r0.toNat, 0, 2304]
def k0_off913 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v8609_r0 : Index := Scalar.indexCast v4534_r0
  let c0_3424_r0 : Index := 0#32
  let c1792_3425_r0 : Index := 1792#32
  ![v8609_r0.toNat, 0, 1792]
def k0_off914 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v8750_r0 : Index := Scalar.indexCast v4535_r0
  let c0_3485_r0 : Index := 0#32
  let c2560_r0 : Index := 2560#32
  ![v8750_r0.toNat, 0, 2560]
def k0_off915 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v8754_r0 : Index := Scalar.indexCast v4534_r0
  let c0_3486_r0 : Index := 0#32
  let c1920_r0 : Index := 1920#32
  ![v8754_r0.toNat, 0, 1920]
def k0_off916 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v8895_r0 : Index := Scalar.indexCast v4535_r0
  let c0_3546_r0 : Index := 0#32
  let c2816_r0 : Index := 2816#32
  ![v8895_r0.toNat, 0, 2816]
def k0_off917 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v8899_r0 : Index := Scalar.indexCast v4534_r0
  let c0_3547_r0 : Index := 0#32
  let c2048_3548_r0 : Index := 2048#32
  ![v8899_r0.toNat, 0, 2048]
def k0_off918 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v9040_r0 : Index := Scalar.indexCast v4535_r0
  let c0_3608_r0 : Index := 0#32
  let c3072_r0 : Index := 3072#32
  ![v9040_r0.toNat, 0, 3072]
def k0_off919 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v9044_r0 : Index := Scalar.indexCast v4534_r0
  let c0_3609_r0 : Index := 0#32
  let c2176_r0 : Index := 2176#32
  ![v9044_r0.toNat, 0, 2176]
def k0_off920 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v9185_r0 : Index := Scalar.indexCast v4535_r0
  let c0_3669_r0 : Index := 0#32
  let c3328_r0 : Index := 3328#32
  ![v9185_r0.toNat, 0, 3328]
def k0_off921 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v9189_r0 : Index := Scalar.indexCast v4534_r0
  let c0_3670_r0 : Index := 0#32
  let c2304_3671_r0 : Index := 2304#32
  ![v9189_r0.toNat, 0, 2304]
def k0_off922 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v9330_r0 : Index := Scalar.indexCast v4535_r0
  let c0_3731_r0 : Index := 0#32
  let c3584_r0 : Index := 3584#32
  ![v9330_r0.toNat, 0, 3584]
def k0_off923 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c11_i32_r0 : BitVec 32 := 11#32
  let v4534_r0 : BitVec 32 := Scalar.remsi v4533_r0 c11_i32_r0
  let v9334_r0 : Index := Scalar.indexCast v4534_r0
  let c0_3732_r0 : Index := 0#32
  let c2432_r0 : Index := 2432#32
  ![v9334_r0.toNat, 0, 2432]
def k0_off924 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v9475_r0 : Index := Scalar.indexCast v4535_r0
  let c0_3792_r0 : Index := 0#32
  let c3840_r0 : Index := 3840#32
  ![v9475_r0.toNat, 0, 3840]
def k0_off925 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v9481_r0 : Index := Scalar.indexCast v4535_r0
  let c0_3793_r0 : Index := 0#32
  let c4096_r0 : Index := 4096#32
  ![v9481_r0.toNat, 0, 4096]
def k0_off926 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v9487_r0 : Index := Scalar.indexCast v4535_r0
  let c0_3794_r0 : Index := 0#32
  let c4352_r0 : Index := 4352#32
  ![v9487_r0.toNat, 0, 4352]
def k0_off927 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v9493_r0 : Index := Scalar.indexCast v4535_r0
  let c0_3795_r0 : Index := 0#32
  let c4608_r0 : Index := 4608#32
  ![v9493_r0.toNat, 0, 4608]
def k0_off928 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_1840_r0 : BitVec 32 := 2#32
  let v4535_r0 : BitVec 32 := Scalar.remsi v4533_r0 c2_i32_1840_r0
  let v9499_r0 : Index := Scalar.indexCast v4535_r0
  let c0_3796_r0 : Index := 0#32
  let c4864_r0 : Index := 4864#32
  ![v9499_r0.toNat, 0, 4864]
def k0_mult9 (k0_t4 : Fin k0_t4_loop.trips) : BitVec 32 :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c0_i32_3815_r0 : BitVec 32 := 0#32
  let v9529_r0 : BitVec 1 := Scalar.cmpi .sgt v4533_r0 c0_i32_3815_r0
  let v9530_r0 : BitVec 32 := Scalar.extui v9529_r0
  let c0_i32_3816_r0 : BitVec 32 := 0#32
  let v9531_r0 : BitVec 1 := Scalar.cmpi .slt v4533_r0 c0_i32_3816_r0
  let v9532_r0 : BitVec 32 := Scalar.extui v9531_r0
  let v9533_r0 : BitVec 32 := Scalar.subi v9530_r0 v9532_r0
  let c2_i32_3814_r0 : BitVec 32 := 2#32
  let c0_i32_3817_r0 : BitVec 32 := 0#32
  let v9534_r0 : BitVec 1 := Scalar.cmpi .sgt c2_i32_3814_r0 c0_i32_3817_r0
  let v9535_r0 : BitVec 32 := Scalar.extui v9534_r0
  let c0_i32_3818_r0 : BitVec 32 := 0#32
  let v9536_r0 : BitVec 1 := Scalar.cmpi .slt c2_i32_3814_r0 c0_i32_3818_r0
  let v9537_r0 : BitVec 32 := Scalar.extui v9536_r0
  let v9538_r0 : BitVec 32 := Scalar.subi v9535_r0 v9537_r0
  let v9539_r0 : BitVec 1 := Scalar.cmpi .ne v9533_r0 v9538_r0
  let v9540_r0 : BitVec 32 := Scalar.remsi v4533_r0 c2_i32_3814_r0
  let c0_i32_3819_r0 : BitVec 32 := 0#32
  let v9541_r0 : BitVec 1 := Scalar.cmpi .ne v9540_r0 c0_i32_3819_r0
  let v9542_r0 : BitVec 1 := Scalar.andi v9539_r0 v9541_r0
  let v9528_r0 : BitVec 32 := Scalar.divsi v4533_r0 c2_i32_3814_r0
  let c1_i32_3820_r0 : BitVec 32 := 1#32
  let v9543_r0 : BitVec 32 := Scalar.subi v9528_r0 c1_i32_3820_r0
  let v9544_r0 : BitVec 32 := Scalar.select v9542_r0 v9543_r0 v9528_r0
  let c0_i32_3822_r0 : BitVec 32 := 0#32
  let v9546_r0 : BitVec 1 := Scalar.cmpi .sgt v9544_r0 c0_i32_3822_r0
  let v9547_r0 : BitVec 32 := Scalar.extui v9546_r0
  let c0_i32_3823_r0 : BitVec 32 := 0#32
  let v9548_r0 : BitVec 1 := Scalar.cmpi .slt v9544_r0 c0_i32_3823_r0
  let v9549_r0 : BitVec 32 := Scalar.extui v9548_r0
  let v9550_r0 : BitVec 32 := Scalar.subi v9547_r0 v9549_r0
  let c2_i32_3821_r0 : BitVec 32 := 2#32
  let c0_i32_3824_r0 : BitVec 32 := 0#32
  let v9551_r0 : BitVec 1 := Scalar.cmpi .sgt c2_i32_3821_r0 c0_i32_3824_r0
  let v9552_r0 : BitVec 32 := Scalar.extui v9551_r0
  let c0_i32_3825_r0 : BitVec 32 := 0#32
  let v9553_r0 : BitVec 1 := Scalar.cmpi .slt c2_i32_3821_r0 c0_i32_3825_r0
  let v9554_r0 : BitVec 32 := Scalar.extui v9553_r0
  let v9555_r0 : BitVec 32 := Scalar.subi v9552_r0 v9554_r0
  let v9556_r0 : BitVec 1 := Scalar.cmpi .ne v9550_r0 v9555_r0
  let v9557_r0 : BitVec 32 := Scalar.remsi v9544_r0 c2_i32_3821_r0
  let c0_i32_3826_r0 : BitVec 32 := 0#32
  let v9558_r0 : BitVec 1 := Scalar.cmpi .ne v9557_r0 c0_i32_3826_r0
  let v9559_r0 : BitVec 1 := Scalar.andi v9556_r0 v9558_r0
  let v9545_r0 : BitVec 32 := Scalar.divsi v9544_r0 c2_i32_3821_r0
  let c1_i32_3827_r0 : BitVec 32 := 1#32
  let v9560_r0 : BitVec 32 := Scalar.subi v9545_r0 c1_i32_3827_r0
  let v9561_r0 : BitVec 32 := Scalar.select v9559_r0 v9560_r0 v9545_r0
  let c128_i32_3828_r0 : BitVec 32 := 128#32
  let v9562_r0 : BitVec 32 := Scalar.muli v9561_r0 c128_i32_3828_r0
  let c2_i32_3829_r0 : BitVec 32 := 2#32
  let v9563_r0 : BitVec 32 := Scalar.remsi v4533_r0 c2_i32_3829_r0
  let c64_i32_3830_r0 : BitVec 32 := 64#32
  let v9564_r0 : BitVec 32 := Scalar.muli v9563_r0 c64_i32_3830_r0
  let v9565_r0 : BitVec 32 := Scalar.addi v9562_r0 v9564_r0
  v9565_r0
def k0_off929 (k0_t4 : Fin k0_t4_loop.trips) : Fin 1 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_3813_r0 : BitVec 32 := 2#32
  let v9527_r0 : BitVec 32 := Scalar.remsi v4533_r0 c2_i32_3813_r0
  ![v9527_r0.toNat]
def k0_off930 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c0_i32_3815_r0 : BitVec 32 := 0#32
  let v9529_r0 : BitVec 1 := Scalar.cmpi .sgt v4533_r0 c0_i32_3815_r0
  let v9530_r0 : BitVec 32 := Scalar.extui v9529_r0
  let c0_i32_3816_r0 : BitVec 32 := 0#32
  let v9531_r0 : BitVec 1 := Scalar.cmpi .slt v4533_r0 c0_i32_3816_r0
  let v9532_r0 : BitVec 32 := Scalar.extui v9531_r0
  let v9533_r0 : BitVec 32 := Scalar.subi v9530_r0 v9532_r0
  let c2_i32_3814_r0 : BitVec 32 := 2#32
  let c0_i32_3817_r0 : BitVec 32 := 0#32
  let v9534_r0 : BitVec 1 := Scalar.cmpi .sgt c2_i32_3814_r0 c0_i32_3817_r0
  let v9535_r0 : BitVec 32 := Scalar.extui v9534_r0
  let c0_i32_3818_r0 : BitVec 32 := 0#32
  let v9536_r0 : BitVec 1 := Scalar.cmpi .slt c2_i32_3814_r0 c0_i32_3818_r0
  let v9537_r0 : BitVec 32 := Scalar.extui v9536_r0
  let v9538_r0 : BitVec 32 := Scalar.subi v9535_r0 v9537_r0
  let v9539_r0 : BitVec 1 := Scalar.cmpi .ne v9533_r0 v9538_r0
  let v9540_r0 : BitVec 32 := Scalar.remsi v4533_r0 c2_i32_3814_r0
  let c0_i32_3819_r0 : BitVec 32 := 0#32
  let v9541_r0 : BitVec 1 := Scalar.cmpi .ne v9540_r0 c0_i32_3819_r0
  let v9542_r0 : BitVec 1 := Scalar.andi v9539_r0 v9541_r0
  let v9528_r0 : BitVec 32 := Scalar.divsi v4533_r0 c2_i32_3814_r0
  let c1_i32_3820_r0 : BitVec 32 := 1#32
  let v9543_r0 : BitVec 32 := Scalar.subi v9528_r0 c1_i32_3820_r0
  let v9544_r0 : BitVec 32 := Scalar.select v9542_r0 v9543_r0 v9528_r0
  let c2_i32_3831_r0 : BitVec 32 := 2#32
  let v9566_r0 : BitVec 32 := Scalar.remsi v9544_r0 c2_i32_3831_r0
  let c0_i32_3822_r0 : BitVec 32 := 0#32
  let v9546_r0 : BitVec 1 := Scalar.cmpi .sgt v9544_r0 c0_i32_3822_r0
  let v9547_r0 : BitVec 32 := Scalar.extui v9546_r0
  let c0_i32_3823_r0 : BitVec 32 := 0#32
  let v9548_r0 : BitVec 1 := Scalar.cmpi .slt v9544_r0 c0_i32_3823_r0
  let v9549_r0 : BitVec 32 := Scalar.extui v9548_r0
  let v9550_r0 : BitVec 32 := Scalar.subi v9547_r0 v9549_r0
  let c2_i32_3821_r0 : BitVec 32 := 2#32
  let c0_i32_3824_r0 : BitVec 32 := 0#32
  let v9551_r0 : BitVec 1 := Scalar.cmpi .sgt c2_i32_3821_r0 c0_i32_3824_r0
  let v9552_r0 : BitVec 32 := Scalar.extui v9551_r0
  let c0_i32_3825_r0 : BitVec 32 := 0#32
  let v9553_r0 : BitVec 1 := Scalar.cmpi .slt c2_i32_3821_r0 c0_i32_3825_r0
  let v9554_r0 : BitVec 32 := Scalar.extui v9553_r0
  let v9555_r0 : BitVec 32 := Scalar.subi v9552_r0 v9554_r0
  let v9556_r0 : BitVec 1 := Scalar.cmpi .ne v9550_r0 v9555_r0
  let v9557_r0 : BitVec 32 := Scalar.remsi v9544_r0 c2_i32_3821_r0
  let c0_i32_3826_r0 : BitVec 32 := 0#32
  let v9558_r0 : BitVec 1 := Scalar.cmpi .ne v9557_r0 c0_i32_3826_r0
  let v9559_r0 : BitVec 1 := Scalar.andi v9556_r0 v9558_r0
  let v9545_r0 : BitVec 32 := Scalar.divsi v9544_r0 c2_i32_3821_r0
  let c1_i32_3827_r0 : BitVec 32 := 1#32
  let v9560_r0 : BitVec 32 := Scalar.subi v9545_r0 c1_i32_3827_r0
  let v9561_r0 : BitVec 32 := Scalar.select v9559_r0 v9560_r0 v9545_r0
  let c128_i32_3828_r0 : BitVec 32 := 128#32
  let v9562_r0 : BitVec 32 := Scalar.muli v9561_r0 c128_i32_3828_r0
  let c2_i32_3829_r0 : BitVec 32 := 2#32
  let v9563_r0 : BitVec 32 := Scalar.remsi v4533_r0 c2_i32_3829_r0
  let c64_i32_3830_r0 : BitVec 32 := 64#32
  let v9564_r0 : BitVec 32 := Scalar.muli v9563_r0 c64_i32_3830_r0
  let v9565_r0 : BitVec 32 := Scalar.addi v9562_r0 v9564_r0
  let v9567_r0 : BitVec 32 := v9565_r0
  let c0_i32_3832_r0 : BitVec 32 := 0#32
  ![v9566_r0.toNat, v9567_r0.toNat, 0]
def k0_off931 (k0_t4 : Fin k0_t4_loop.trips) : Fin 3 → Nat :=
  let c22_i32_1839_r0 : BitVec 32 := 22#32
  let c0_i32_1815_r0 : BitVec 32 := 0#32
  let c1_i32_1817_r0 : BitVec 32 := 1#32
  let arg18_r0 : BitVec 32 := Scf.iv c0_i32_1815_r0 c1_i32_1817_r0 k0_t4
  let c1_i32_1838_r0 : BitVec 32 := 1#32
  let v4532_r0 : BitVec 32 := Scalar.muli arg18_r0 c1_i32_1838_r0
  let v4533_r0 : BitVec 32 := Scalar.addi c22_i32_1839_r0 v4532_r0
  let c2_i32_3813_r0 : BitVec 32 := 2#32
  let v9527_r0 : BitVec 32 := Scalar.remsi v4533_r0 c2_i32_3813_r0
  let c0_i32_3833_r0 : BitVec 32 := 0#32
  let c0_i32_3834_r0 : BitVec 32 := 0#32
  ![v9527_r0.toNat, 0, 0]
def k0_mult10 : BitVec 32 :=
  let c896_i32_1823_r0 : BitVec 32 := 896#32
  let c30_i32_1820_r0 : BitVec 32 := 30#32
  let c2_i32_1821_r0 : BitVec 32 := 2#32
  let v4509_r0 : BitVec 32 := Scalar.remsi c30_i32_1820_r0 c2_i32_1821_r0
  let c64_i32_1822_r0 : BitVec 32 := 64#32
  let v4510_r0 : BitVec 32 := Scalar.muli v4509_r0 c64_i32_1822_r0
  let v4511_r0 : BitVec 32 := Scalar.addi c896_i32_1823_r0 v4510_r0
  v4511_r0
def k0_off932 (c30_i32_r0 : BitVec 32) : Fin 1 → Nat :=
  let c2_i32_1819_r0 : BitVec 32 := 2#32
  let v4508_r0 : BitVec 32 := Scalar.remsi c30_i32_r0 c2_i32_1819_r0
  ![v4508_r0.toNat]
def k0_off933 (c30_i32_1820_r0 : BitVec 32) : Fin 3 → Nat :=
  let c15_i32_r0 : BitVec 32 := 15#32
  let c2_i32_1824_r0 : BitVec 32 := 2#32
  let v4512_r0 : BitVec 32 := Scalar.remsi c15_i32_r0 c2_i32_1824_r0
  let c896_i32_1823_r0 : BitVec 32 := 896#32
  let c2_i32_1821_r0 : BitVec 32 := 2#32
  let v4509_r0 : BitVec 32 := Scalar.remsi c30_i32_1820_r0 c2_i32_1821_r0
  let c64_i32_1822_r0 : BitVec 32 := 64#32
  let v4510_r0 : BitVec 32 := Scalar.muli v4509_r0 c64_i32_1822_r0
  let v4511_r0 : BitVec 32 := Scalar.addi c896_i32_1823_r0 v4510_r0
  let v4513_r0 : BitVec 32 := v4511_r0
  let c0_i32_1825_r0 : BitVec 32 := 0#32
  ![v4512_r0.toNat, v4513_r0.toNat, 0]
def k0_off934 (c30_i32_r0 : BitVec 32) : Fin 3 → Nat :=
  let c2_i32_1819_r0 : BitVec 32 := 2#32
  let v4508_r0 : BitVec 32 := Scalar.remsi c30_i32_r0 c2_i32_1819_r0
  let c0_i32_1826_r0 : BitVec 32 := 0#32
  let c0_i32_1827_r0 : BitVec 32 := 0#32
  ![v4508_r0.toNat, 0, 0]
def k0_mult11 : BitVec 32 :=
  let c896_i32_1832_r0 : BitVec 32 := 896#32
  let c31_i32_1829_r0 : BitVec 32 := 31#32
  let c2_i32_1830_r0 : BitVec 32 := 2#32
  let v4521_r0 : BitVec 32 := Scalar.remsi c31_i32_1829_r0 c2_i32_1830_r0
  let c64_i32_1831_r0 : BitVec 32 := 64#32
  let v4522_r0 : BitVec 32 := Scalar.muli v4521_r0 c64_i32_1831_r0
  let v4523_r0 : BitVec 32 := Scalar.addi c896_i32_1832_r0 v4522_r0
  v4523_r0
-- ==== ReferenceIdeal.lean ====
abbrev S2x1024 : Shape := ⟨2, ![2, 1024]⟩
abbrev S16000x2560 : Shape := ⟨2, ![16000, 2560]⟩
abbrev S16000x20 : Shape := ⟨2, ![16000, 20]⟩
abbrev S16000x160 : Shape := ⟨2, ![16000, 160]⟩
abbrev S2 : Shape := ⟨1, ![2]⟩
abbrev S_ : Shape := ⟨0, ![]⟩
abbrev S2x1024x1 : Shape := ⟨3, ![2, 1024, 1]⟩
abbrev S2x1024x2560 : Shape := ⟨3, ![2, 1024, 2560]⟩
abbrev S2x1024x160x1x16 : Shape := ⟨5, ![2, 1024, 160, 1, 16]⟩
abbrev S2x1024x20 : Shape := ⟨3, ![2, 1024, 20]⟩
abbrev S2x1024x160 : Shape := ⟨3, ![2, 1024, 160]⟩
abbrev S2x1024x20x8 : Shape := ⟨4, ![2, 1024, 20, 8]⟩
abbrev S2x1024x20x1 : Shape := ⟨4, ![2, 1024, 20, 1]⟩
abbrev S2x1024x160x1x1 : Shape := ⟨5, ![2, 1024, 160, 1, 1]⟩
abbrev S2x1 : Shape := ⟨2, ![2, 1]⟩
abbrev S1x1x1x2x1 : Shape := ⟨5, ![1, 1, 1, 2, 1]⟩
abbrev S2x1024x160x2x16 : Shape := ⟨5, ![2, 1024, 160, 2, 16]⟩
abbrev S2x1024x5120 : Shape := ⟨3, ![2, 1024, 5120]⟩

abbrev nBuf : Space → Nat
  | .hbm => 58
  | .vmem => 2
  | .smem => 0
  | _ => 0

abbrev bufTy : (tb : Table) → Fin (tcTables nBuf tb) → BufTy
  | .hbm, ⟨0, _⟩ => ⟨S2x1024, .i32⟩
  | .hbm, ⟨1, _⟩ => ⟨S16000x2560, .i8⟩
  | .hbm, ⟨2, _⟩ => ⟨S16000x20, .i16⟩
  | .hbm, ⟨3, _⟩ => ⟨S16000x160, .i8⟩
  | .hbm, ⟨4, _⟩ => ⟨S2, .i32⟩
  | .hbm, ⟨5, _⟩ => ⟨S_, .i32⟩
  | .hbm, ⟨6, _⟩ => ⟨S2x1024, .i32⟩
  | .hbm, ⟨7, _⟩ => ⟨S2x1024, .i1⟩
  | .hbm, ⟨8, _⟩ => ⟨S_, .i32⟩
  | .hbm, ⟨9, _⟩ => ⟨S2x1024, .i32⟩
  | .hbm, ⟨10, _⟩ => ⟨S2x1024, .i32⟩
  | .hbm, ⟨11, _⟩ => ⟨S2x1024, .i32⟩
  | .hbm, ⟨12, _⟩ => ⟨S2x1024x1, .i32⟩
  | .hbm, ⟨13, _⟩ => ⟨S2x1024x2560, .i8⟩
  | .hbm, ⟨14, _⟩ => ⟨S2x1024x160x1x16, .i8⟩
  | .hbm, ⟨15, _⟩ => ⟨S2x1024x160x1x16, .i32⟩
  | .hbm, ⟨16, _⟩ => ⟨S16000x20, .f32⟩
  | .hbm, ⟨17, _⟩ => ⟨S_, .i32⟩
  | .hbm, ⟨18, _⟩ => ⟨S2x1024, .i32⟩
  | .hbm, ⟨19, _⟩ => ⟨S2x1024, .i1⟩
  | .hbm, ⟨20, _⟩ => ⟨S_, .i32⟩
  | .hbm, ⟨21, _⟩ => ⟨S2x1024, .i32⟩
  | .hbm, ⟨22, _⟩ => ⟨S2x1024, .i32⟩
  | .hbm, ⟨23, _⟩ => ⟨S2x1024, .i32⟩
  | .hbm, ⟨24, _⟩ => ⟨S2x1024x1, .i32⟩
  | .hbm, ⟨25, _⟩ => ⟨S2x1024x20, .f32⟩
  | .hbm, ⟨26, _⟩ => ⟨S_, .i32⟩
  | .hbm, ⟨27, _⟩ => ⟨S2x1024, .i32⟩
  | .hbm, ⟨28, _⟩ => ⟨S2x1024, .i1⟩
  | .hbm, ⟨29, _⟩ => ⟨S_, .i32⟩
  | .hbm, ⟨30, _⟩ => ⟨S2x1024, .i32⟩
  | .hbm, ⟨31, _⟩ => ⟨S2x1024, .i32⟩
  | .hbm, ⟨32, _⟩ => ⟨S2x1024, .i32⟩
  | .hbm, ⟨33, _⟩ => ⟨S2x1024x1, .i32⟩
  | .hbm, ⟨34, _⟩ => ⟨S2x1024x160, .i8⟩
  | .hbm, ⟨35, _⟩ => ⟨S2x1024x160, .i32⟩
  | .hbm, ⟨36, _⟩ => ⟨S2x1024x160, .f32⟩
  | .hbm, ⟨37, _⟩ => ⟨S2x1024x20x8, .f32⟩
  | .hbm, ⟨38, _⟩ => ⟨S2x1024x20x1, .f32⟩
  | .hbm, ⟨39, _⟩ => ⟨S2x1024x20x8, .f32⟩
  | .hbm, ⟨40, _⟩ => ⟨S2x1024x20x8, .f32⟩
  | .hbm, ⟨41, _⟩ => ⟨S2x1024x160x1x1, .f32⟩
  | .hbm, ⟨42, _⟩ => ⟨S2x1, .i32⟩
  | .hbm, ⟨43, _⟩ => ⟨S1x1x1x2x1, .i32⟩
  | .hbm, ⟨44, _⟩ => ⟨S2x1024x160x2x16, .i32⟩
  | .hbm, ⟨45, _⟩ => ⟨S2x1024x160x2x16, .i32⟩
  | .hbm, ⟨46, _⟩ => ⟨S2x1024x160x2x16, .i32⟩
  | .hbm, ⟨47, _⟩ => ⟨S_, .i32⟩
  | .hbm, ⟨48, _⟩ => ⟨S2x1024x160x2x16, .i32⟩
  | .hbm, ⟨49, _⟩ => ⟨S2x1024x160x2x16, .i32⟩
  | .hbm, ⟨50, _⟩ => ⟨S_, .i32⟩
  | .hbm, ⟨51, _⟩ => ⟨S2x1024x160x2x16, .i32⟩
  | .hbm, ⟨52, _⟩ => ⟨S2x1024x160x2x16, .i32⟩
  | .hbm, ⟨53, _⟩ => ⟨S2x1024x160x2x16, .f32⟩
  | .hbm, ⟨54, _⟩ => ⟨S2x1024x160x2x16, .f32⟩
  | .hbm, ⟨55, _⟩ => ⟨S2x1024x160x2x16, .f32⟩
  | .hbm, ⟨56, _⟩ => ⟨S2x1024x5120, .f32⟩
  | .hbm, ⟨57, _⟩ => ⟨S2x1024x5120, .bf16⟩
  | .local _ .vmem, ⟨0, _⟩ => ⟨S16000x20, .i16⟩
  | .local _ .vmem, ⟨1, _⟩ => ⟨S16000x20, .f32⟩
  | _, _ => ⟨S2x1024, .i32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_6 : Ref sig .tc := ⟨.hbm, 47, rfl⟩
abbrev main_v36 : Ref sig .tc := ⟨.hbm, 48, rfl⟩
abbrev main_v37 : Ref sig .tc := ⟨.hbm, 49, rfl⟩
abbrev main_c_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S16000x20 .i16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16000x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Words.lean ====
/- What the precondition says of the ids: each names a vocabulary entry. -/
module
public import proofs.«01_k».proof.Defs
public import Idealize.ShloMosaic.Lib.ReduceAll
@[expose] public section
noncomputable section
namespace Cert.Lookup
open Idealize.ShloMosaic

/-- A word that is at least 0 and below 16000, both signed, is below 16000. -/
theorem word_lt {v : BitVec 32} (h : IntOp.andi (IntOp.cmpi .sge v 0#32) (IntOp.cmpi .slt v 16000#32) = 1#1) : v.toNat < 16000 := by
  have ha : ∀ (p q : Bool), IntOp.andi (BitVec.ofBool p) (BitVec.ofBool q) = BitVec.ofBool (p && q) := by
    intro p q; cases p <;> cases q <;> decide
  have ho : ∀ p : Bool, (BitVec.ofBool p = 1#1) ↔ p = true := fun p => by cases p <;> decide
  simp only [IntOp.cmpi, ha, ho, Bool.and_eq_true, BitVec.sle_eq_decide, BitVec.slt_eq_decide, decide_eq_true_eq] at h
  have h0 : (0#32 : BitVec 32).toInt = 0 := by decide
  have h1 : (16000#32 : BitVec 32).toInt = 16000 := by decide
  have h2 := BitVec.toInt_eq_toNat_cond v
  have h3 := v.isLt
  split at h2 <;> omega

instance : Subsingleton Cert.Pre_pre.S_.Idx := ⟨fun _ _ => funext fun a => a.elim0⟩

/-- The precondition at any arguments: every id is below 16000. -/
theorem ids_of_pre {F : FTy → Type} [FloatOps F] [Cert.Pre_pre.Facts] {a0 a1 a2 a3}
    (h : Cert.Pre_pre.fn (F := F) a0 a1 a2 a3 = fun _ => 1#1) (y : Cert.Pre_pre.S2x1024.Idx) : (a0 y).toNat < 16000 :=
  word_lt (Host.reduce_andi_all _ _ _ _ (fun a => a.elim0) (congrFun h _) y)

end Cert.Lookup
end
-- ==== Proof.Body.lean ====
/-
  The kernel's body as a structured program: the same effects in the same order, with the unrolled
  statements folded back into recursions over rows, row groups and blocks.
-/
module
public import proofs.«01_k».proof.Proof.Gen.Kernel.Skeleton
public import Idealize.ShloMosaic.Lib.Tactic
public import Idealize.ShloMosaic.Lib.Mxu
@[expose] public section
noncomputable section
namespace Cert.Kernel.Lookup
open Cert.Kernel
open Idealize.ShloMosaic Idealize.ShloMosaic.TcCoe Idealize.ShloMosaic.Tactic
open Idealize.SL Idealize.SL.Sem
open Shapes1.Facts₀ K0.Facts₀
variable {F : FTy → Type} [FloatOps F]

/-- The kernel's operands and buffers. -/
structure Refs where
  ids : Memref sig .tc .hbm S2x1024 .i32
  words : Memref sig .tc .hbm S4000x2560 .i32
  subT : Memref sig .tc .hbm S160x16000 .i8
  supT : Memref sig .tc .hbm S20x16000 .i16
  out : Memref sig .tc .hbm S2x1024x5120 .bf16
  idw : Memref sig .tc .smem S2048 .i32
  sub : Memref sig .tc .vmem S160x16000 .i8
  sup : Memref sig .tc .vmem S20x16000 .i16
  table : Memref sig .tc .vmem S16000x128 .i32
  rows : Memref sig .tc .vmem S64x128 .i32
  scale : Memref sig .tc .vmem S20x64x128 .f32
  shift : Memref sig .tc .vmem S64x128 .i32
  perm : Memref sig .tc .vmem S256x256 .bf16
  ring : Memref sig .tc .vmem S11x64x2560 .i32
  outs : Memref sig .tc .vmem S2x64x5120 .bf16
  semIn : DmaSems sig S3
  semRing : DmaSems sig S11
  semOut : DmaSems sig S2
  hsubT : subT.IsWhole
  hsupT : supT.IsWhole
  hout : out.IsWhole
  hsub : sub.IsWhole
  hsup : sup.IsWhole
  hperm : perm.IsWhole
  houts : outs.IsWhole

/-- Programs of the body. -/
abbrev P (F : FTy → Type) [FloatOps F] (α : Type) := Prog (TpuEff nD τ sig (Elt F) Λ₀ .tc) α

theorem of32 (Q : BitVec 32 → Prop) (h : ∀ n : Fin 32, Q (BitVec.ofNat 32 n.val)) (w : BitVec 32) (hw : w.toNat < 32) : Q w := by
  have := h ⟨w.toNat, hw⟩
  rwa [show BitVec.ofNat 32 w.toNat = w from BitVec.eq_of_toNat_eq (by simp)] at this

/-! ## Offsets -/

/-- Where word `r` of the chunk starting at `base` lies in the copied ids. -/
def gOff (base : BitVec 32) (r : Nat) : Fin 1 → Nat := ![(Scalar.indexCast (Scalar.addi base (BitVec.ofNat 32 r))).toNat]
theorem gOff_val (base : BitVec 32) (hb : base.toNat ≤ 1984) (r : Nat) (hr : r < 64) : gOff base r 0 = base.toNat + r := by
  show (Scalar.addi base (BitVec.ofNat 32 r)).toNat = _
  show (base + BitVec.ofNat 32 r).toNat = _
  rw [BitVec.toNat_add, BitVec.toNat_ofNat]; omega
theorem gOff_inb (base : BitVec 32) (hb : base.toNat ≤ 1984) (r : Nat) (hr : r < 64) : ∀ a, gOff base r a + S1.size a ≤ S2048.size a := by
  intro a; obtain rfl : a = 0 := Subsingleton.elim _ _
  rw [gOff_val base hb r hr]; show base.toNat + r + 1 ≤ 2048; omega
theorem mul64 (w : BitVec 32) (hw : w.toNat < 32) : (Scalar.muli w 64#32).toNat = 64 * w.toNat := by
  show (w * 64#32).toNat = _
  rw [BitVec.toNat_mul]; simp; omega
theorem mul64_le (w : BitVec 32) (hw : w.toNat < 32) : (Scalar.muli w 64#32).toNat ≤ 1984 := by rw [mul64 w hw]; omega

def slotOff1 (w : BitVec 32) : Fin 1 → Nat := ![(Scalar.remsi w 11#32).toNat]
def slotOff3 (w : BitVec 32) (c : Nat) : Fin 3 → Nat := ![(Scalar.indexCast (Scalar.remsi w 11#32)).toNat, 0, c]
theorem slot_val (w : BitVec 32) (hw : w.toNat < 32) : (Scalar.remsi w 11#32).toNat = w.toNat % 11 :=
  of32 (fun w => (Scalar.remsi w 11#32).toNat = w.toNat % 11) (by decide) w hw
theorem slotOff1_inb (w : BitVec 32) (hw : w.toNat < 32) : ∀ a, slotOff1 w a + S1.size a ≤ S11.size a := by
  intro a; obtain rfl : a = 0 := Subsingleton.elim _ _
  show (Scalar.remsi w 11#32).toNat + 1 ≤ 11; rw [slot_val w hw]; omega
theorem slotOff3_inb (w : BitVec 32) (hw : w.toNat < 32) : ∀ a, slotOff3 w 0 a + S1x64x2560.size a ≤ S11x64x2560.size a := by
  intro a; fin_cases a
  · show (Scalar.remsi w 11#32).toNat + 1 ≤ 11; rw [slot_val w hw]; omega
  · exact Nat.le_refl _
  · exact Nat.le_refl _
theorem slotOff3b_inb (w : BitVec 32) (hw : w.toNat < 32) (j : Nat) (hj : j < 20) :
    ∀ a, slotOff3 w (128 * j) a + S1x64x128.size a ≤ S11x64x2560.size a := by
  intro a; fin_cases a
  · show (Scalar.remsi w 11#32).toNat + 1 ≤ 11; rw [slot_val w hw]; omega
  · exact Nat.le_refl _
  · show 128 * j + 128 ≤ 2560; omega
theorem ringRow_inb (r : Nat) (hr : r < 64) : ∀ a, (![r, 0] : Fin 2 → Nat) a + S1x2560.size a ≤ S64x2560.size a := by
  intro a; fin_cases a
  · show r + 1 ≤ 64; omega
  · exact Nat.le_refl _
theorem row_inb (r : Nat) (hr : r < 64) : ∀ a, (![r, 0] : Fin 2 → Nat) a + S1x128.size a ≤ S64x128.size a := by
  intro a; fin_cases a
  · show r + 1 ≤ 64; omega
  · exact Nat.le_refl _
theorem grp_inb (g : Nat) (hg : g < 8) : ∀ a, (![8 * g, 0] : Fin 2 → Nat) a + S8x128.size a ≤ S64x128.size a := by
  intro a; fin_cases a
  · show 8 * g + 8 ≤ 64; omega
  · exact Nat.le_refl _
theorem scale_inb (j : Nat) (hj : j < 20) : ∀ a, (![j, 0, 0] : Fin 3 → Nat) a + S1x64x128.size a ≤ S20x64x128.size a := by
  intro a; fin_cases a
  · show j + 1 ≤ 20; omega
  · exact Nat.le_refl _
  · exact Nat.le_refl _
theorem scaleg_inb (j : Nat) (hj : j < 20) (g : Nat) (hg : g < 8) :
    ∀ a, (![j, 8 * g, 0] : Fin 3 → Nat) a + S1x8x128.size a ≤ S20x64x128.size a := by
  intro a; fin_cases a
  · show j + 1 ≤ 20; omega
  · show 8 * g + 8 ≤ 64; omega
  · exact Nat.le_refl _
def outOff1 (w : BitVec 32) : Fin 1 → Nat := ![(Scalar.remsi w 2#32).toNat]
def outOff3 (w : BitVec 32) (c : Nat) : Fin 3 → Nat := ![(Scalar.indexCast (Scalar.remsi w 2#32)).toNat, 0, c]
theorem par_val (w : BitVec 32) (hw : w.toNat < 32) : (Scalar.remsi w 2#32).toNat = w.toNat % 2 :=
  of32 (fun w => (Scalar.remsi w 2#32).toNat = w.toNat % 2) (by decide) w hw
theorem outOff1_inb (w : BitVec 32) (hw : w.toNat < 32) : ∀ a, outOff1 w a + S1.size a ≤ S2.size a := by
  intro a; obtain rfl : a = 0 := Subsingleton.elim _ _
  show (Scalar.remsi w 2#32).toNat + 1 ≤ 2; rw [par_val w hw]; omega
theorem outOff3_inb (w : BitVec 32) (hw : w.toNat < 32) : ∀ a, outOff3 w 0 a + S1x64x5120.size a ≤ S2x64x5120.size a := by
  intro a; fin_cases a
  · show (Scalar.remsi w 2#32).toNat + 1 ≤ 2; rw [par_val w hw]; omega
  · exact Nat.le_refl _
  · exact Nat.le_refl _
theorem outOff3b_inb (w : BitVec 32) (hw : w.toNat < 32) (j : Nat) (hj : j < 20) :
    ∀ a, outOff3 w (256 * j) a + S1x64x256.size a ≤ S2x64x5120.size a := by
  intro a; fin_cases a
  · show (Scalar.remsi w 2#32).toNat + 1 ≤ 2; rw [par_val w hw]; omega
  · exact Nat.le_refl _
  · show 256 * j + 256 ≤ 5120; omega
theorem outOff3b_packed (w : BitVec 32) (hw : w.toNat < 32) (j : Nat) (hj : j < 20) :
    (Rect.unit (s := S2x64x5120) (outOff3 w (256 * j)) S1x64x256.size (outOff3b_inb w hw j hj)).PackedRows (EltTy.packing .bf16) := by
  have h : ∀ (b : Fin 2) (j : Fin 20) (h : ∀ a, (![b.val, 0, 256 * j.val] : Fin 3 → Nat) a + S1x64x256.size a ≤ S2x64x5120.size a),
      (Rect.unit (s := S2x64x5120) ![b.val, 0, 256 * j.val] S1x64x256.size h).PackedRows (EltTy.packing .bf16) := by decide
  have e : outOff3 w (256 * j) = ![w.toNat % 2, 0, 256 * j] := by
    show ![(Scalar.remsi w 2#32).toNat, 0, 256 * j] = _; rw [par_val w hw]
  have := h ⟨w.toNat % 2, Nat.mod_lt _ (by decide)⟩ ⟨j, hj⟩ (e ▸ outOff3b_inb w hw j hj)
  simp only [e]; exact this
theorem outOff3_words (w : BitVec 32) (hw : w.toNat < 32) :
    (Rect.unit (s := S2x64x5120) (outOff3 w 0) S1x64x5120.size (outOff3_inb w hw)).WholeWords (EltTy.packing .bf16) := by
  have h : ∀ (b : Fin 2) (h : ∀ a, (![b.val, 0, 0] : Fin 3 → Nat) a + S1x64x5120.size a ≤ S2x64x5120.size a),
      (Rect.unit (s := S2x64x5120) ![b.val, 0, 0] S1x64x5120.size h).WholeWords (EltTy.packing .bf16) := by decide
  have e : outOff3 w 0 = ![w.toNat % 2, 0, 0] := by
    show ![(Scalar.remsi w 2#32).toNat, 0, 0] = _; rw [par_val w hw]
  have := h ⟨w.toNat % 2, Nat.mod_lt _ (by decide)⟩ (e ▸ outOff3_inb w hw)
  simp only [e]; exact this

/-- Division of a nonnegative-or-negative word rounded down, as the scalar unit computes it. -/
def sFloorDiv (x n : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt n 0#32)) (Scalar.extui (Scalar.cmpi .slt n 0#32))))
      (Scalar.cmpi .ne (Scalar.remsi x n) 0#32))
    (Scalar.subi (Scalar.divsi x n) 1#32) (Scalar.divsi x n)
/-- Where chunk `w` of the result lies: batch row, sequence position. -/
def hbmOff (w : BitVec 32) : Fin 3 → Nat :=
  ![(Scalar.remsi (sFloorDiv w 2#32) 2#32).toNat,
    (Scalar.addi (Scalar.muli (sFloorDiv (sFloorDiv w 2#32) 2#32) 128#32) (Scalar.muli (Scalar.remsi w 2#32) 64#32)).toNat, 0]
theorem hbm_val (w : BitVec 32) (hw : w.toNat < 32) : hbmOff w = ![w.toNat / 2 % 2, w.toNat / 4 * 128 + w.toNat % 2 * 64, 0] :=
  of32 (fun w => hbmOff w = ![w.toNat / 2 % 2, w.toNat / 4 * 128 + w.toNat % 2 * 64, 0]) (by decide) w hw
theorem hbmOff_inb (w : BitVec 32) (hw : w.toNat < 32) : ∀ a, hbmOff w a + S1x64x5120.size a ≤ S2x1024x5120.size a := by
  rw [hbm_val w hw]; intro a; fin_cases a
  · show w.toNat / 2 % 2 + 1 ≤ 2; omega
  · show w.toNat / 4 * 128 + w.toNat % 2 * 64 + 64 ≤ 1024; omega
  · exact Nat.le_refl _
theorem hbmOff_words (w : BitVec 32) (hw : w.toNat < 32) :
    (Rect.unit (s := S2x1024x5120) (hbmOff w) S1x64x5120.size (hbmOff_inb w hw)).WholeWords (EltTy.packing .bf16) := by
  have h : 2 ∣ hbmOff w 1 := by
    rw [hbm_val w hw]; show 2 ∣ w.toNat / 4 * 128 + w.toNat % 2 * 64; omega
  have h2 : 2 ≤ S2x1024x5120.rank := by decide
  exact .inl (.inr ⟨h2, rfl, .inl ⟨h, ⟨32, rfl⟩⟩⟩)

/-! ## Views -/

/-- Slot of chunk `w` in the ring of code words. -/
abbrev Refs.slot (R : Refs) (w : BitVec 32) (hw : w.toNat < 32) : Memref sig .tc .vmem S64x2560 .i32 :=
  (R.ring.slice (Rect.unit (s := S11x64x2560) (slotOff3 w 0) S1x64x2560.size (slotOff3_inb w hw)) (fun _ => rfl)).squeeze S64x2560 squeezes_S1x64x2560_S64x2560
abbrev Refs.slotSem (R : Refs) (w : BitVec 32) (hw : w.toNat < 32) : DmaSem sig :=
  ((R.semRing.slice (Rect.unit (s := S11) (slotOff1 w) S1.size (slotOff1_inb w hw))).squeeze S_ squeezes_S1_S_).sem
abbrev Refs.outSlot (R : Refs) (w : BitVec 32) (hw : w.toNat < 32) : Memref sig .tc .vmem S64x5120 .bf16 :=
  (R.outs.slice (Rect.unit (s := S2x64x5120) (outOff3 w 0) S1x64x5120.size (outOff3_inb w hw)) (fun _ => rfl)).squeeze S64x5120 squeezes_S1x64x5120_S64x5120
abbrev Refs.outHbm (R : Refs) (w : BitVec 32) (hw : w.toNat < 32) : Memref sig .tc .hbm S64x5120 .bf16 :=
  (R.out.slice (Rect.unit (s := S2x1024x5120) (hbmOff w) S1x64x5120.size (hbmOff_inb w hw)) (fun _ => rfl)).squeeze S64x5120 squeezes_S1x64x5120_S64x5120
abbrev Refs.outSem (R : Refs) (w : BitVec 32) (hw : w.toNat < 32) : DmaSem sig :=
  ((R.semOut.slice (Rect.unit (s := S2) (outOff1 w) S1.size (outOff1_inb w hw))).squeeze S_ squeezes_S1_S_).sem

variable (R : Refs)

/-! ## The fetch of code words -/

/-- Row `r` of chunk `w`: read the id, start the copy of its line of code words into the ring. -/
def fetchRow {α : Type} (w : BitVec 32) (hw : w.toNat < 32) (r : Nat) (hr : r < 64) (K : P F α) : P F α :=
  smemLoad R.idw (Rect.unit (s := S2048) (gOff (Scalar.muli w 64#32) r) S1.size (gOff_inb _ (mul64_le w hw) r hr)) numel1_S1 rfl >>= fun v =>
  .op (TpuEff.assume (k0_chk1 v) (k0_chk1.dec v)) fun h =>
  .op (.enqueueDma (R.words.slice (Rect.unit (s := S4000x2560) (k0_off4 v) S1x2560.size (k0_off4_inb v h.down)) (fun _ => rfl))
    (.here ((R.slot w hw).slice (Rect.unit (s := S64x2560) ![r, 0] S1x2560.size (ringRow_inb r hr)) (fun _ => rfl)))
    (.dma (R.slotSem w hw)) (View.wordExact_bits rfl) (View.wordExact_bits rfl) ⟨Or.inl rfl, trivial⟩) fun _ => K

def fetchRows {α : Type} (w : BitVec 32) (hw : w.toNat < 32) (K : P F α) : (n r : Nat) → r + n ≤ 64 → P F α
  | 0, _, _ => K
  | n + 1, r, h => fetchRow R w hw r (by omega) (fetchRows w hw K n (r + 1) (by omega))

/-! ## The scales -/

/-- Row `r` of the narrow table rows of the chunk whose ids start at `base`. -/
def gatherRow {α : Type} (base : BitVec 32) (hb : base.toNat ≤ 1984) (r : Nat) (hr : r < 64) (K : P F α) : P F α :=
  smemLoad R.idw (Rect.unit (s := S2048) (gOff base r) S1.size (gOff_inb base hb r hr)) numel1_S1 rfl >>= fun v =>
  .op (TpuEff.assume (k0_chk257 v) (k0_chk257.dec v)) fun h =>
  .op (.load R.table (Rect.unit (s := S16000x128) (k0_off762 v) S1x128.size (k0_off762_inb v h.down)).toLoadRect (View.loadsAt_vmem h_S1x128)) fun x =>
  .op (.load R.rows (Rect.unit (s := S64x128) ![r, 0] S1x128.size (row_inb r hr)).toLoadRect (View.loadsAt_vmem h_S1x128)) fun _ =>
  .op (.store R.rows (Rect.unit (s := S64x128) ![r, 0] S1x128.size (row_inb r hr)) (shapeCast S1x128 (x : Vec F S1x128 .i32) shapeCasts_S1x128_S1x128) Finset.univ
    (View.stores_vmem_bits_univ h_S1x128 rfl) (.inl rfl)) fun _ => K

def gatherRows {α : Type} (base : BitVec 32) (hb : base.toNat ≤ 1984) (K : P F α) : (n r : Nat) → r + n ≤ 64 → P F α
  | 0, _, _ => K
  | n + 1, r, h => gatherRow R base hb r (by omega) (gatherRows base hb K n (r + 1) (by omega))

/-- A family of values with the one at `g` replaced. -/
def upd {β : Type} (f : Nat → β) (g : Nat) (x : β) : Nat → β := fun i => cond (Nat.beq i g) x (f i)

/-- The eight row groups of the narrow rows, read in order. -/
def loadGroups {α : Type} (K : (Nat → IVec S8x128 32) → P F α) : (n g : Nat) → g + n ≤ 8 → (Nat → IVec S8x128 32) → P F α
  | 0, _, _, ws => K ws
  | n + 1, g, h, ws =>
    .op (.load R.rows (Rect.unit (s := S64x128) ![8 * g, 0] S8x128.size (grp_inb g (by omega))).toLoadRect (View.loadsAt_vmem h_S8x128)) fun x =>
    loadGroups K n (g + 1) (by omega) (upd ws g x)

/-- The lane number. -/
def lane : IVec S8x128 32 := iota .tc S8x128 32 [1] iota_S8x128_d1_w32

/-- Division of every element rounded down, as the vector unit computes it. -/
def vFloorDiv {s : Shape} (x : IVec s 32) (n : BitVec 32) : IVec s 32 :=
  select (andi
      (cmpi .ne (subi (extui 32 (cmpi .sgt x (broadcast s 0#32)) natLt_1_32) (extui 32 (cmpi .slt x (broadcast s 0#32)) natLt_1_32))
        (broadcast s (Scalar.subi (Scalar.extui (Scalar.cmpi .sgt n 0#32)) (Scalar.extui (Scalar.cmpi .slt n 0#32)))))
      (cmpi .ne (remsi x (broadcast s n)) (broadcast s 0#32)))
    (subi (divsi x (broadcast s n)) (broadcast s 1#32)) (divsi x (broadcast s n))

/-- A divisor, a zero one replaced by one. -/
def sDivisor (n : BitVec 32) : BitVec 32 := Scalar.select (Scalar.cmpi .eq n 0#32) 1#32 n
/-- The remainder that goes with `vFloorDiv`. -/
def vFloorMod {s : Shape} (x : IVec s 32) (n : BitVec 32) (hb : s.Broadcasts s) : IVec s 32 :=
  select (andi (xori (cmpi .slt (remsi x (broadcast s (sDivisor n))) (broadcast s 0#32))
        (broadcastTo s (broadcast s (Scalar.cmpi .slt (sDivisor n) 0#32) : IVec s 1) hb))
      (cmpi .ne (remsi x (broadcast s (sDivisor n))) (broadcast s 0#32)))
    (addi (remsi x (broadcast s (sDivisor n))) (broadcast s (sDivisor n))) (remsi x (broadcast s (sDivisor n)))

/-- A lane index, a negative one counted from the end. -/
def wrapIdx (x : IVec S8x128 32) : IVec S8x128 32 :=
  shapeCast S8x128 (shapeCast S8x128x1 (select (cmpi .slt x (broadcast S8x128 0#32)) (addi x (broadcast S8x128 128#32)) x)
    shapeCasts_S8x128_S8x128x1) shapeCasts_S8x128x1_S8x128

/-- The group of each lane, lanes past the last group repeating it. -/
def group (first : BitVec 32) : IVec S8x128 32 := minsi (addi (broadcast S8x128 first) lane) (broadcast S8x128 159#32)

/-- The scales of 128 groups from eight narrow rows. -/
def part (first : BitVec 32) (w : IVec S8x128 32) : FVec F S8x128 .f32 :=
  mulf (sitofp .f32 (andi (shrsi (dynamicGather 1 w (wrapIdx (vFloorDiv (group first) 4#32)))
        (muli (vFloorMod (group first) 4#32 broadcasts_S8x128_S8x128) (broadcast S8x128 8#32))) (broadcast S8x128 255#32)))
    (dynamicGather 1 (bitcastToFloat .f32 w) (wrapIdx (addi (broadcast S8x128 40#32) (vFloorDiv (group first) 8#32))))

/-- The shifts of eight rows. -/
def shiftOf (w : IVec S8x128 32) : IVec S8x128 32 := dynamicGather 1 w (wrapIdx (broadcast S8x128 63#32))

/-- A chunk's narrow rows, read three times. -/
def narrow {α : Type} (base : BitVec 32) (hb : base.toNat ≤ 1984)
    (K : (Nat → IVec S8x128 32) → (Nat → IVec S8x128 32) → (Nat → IVec S8x128 32) → P F α) : P F α :=
  gatherRows R base hb
    (loadGroups R (fun w0 => loadGroups R (fun w1 => loadGroups R (fun w2 => K w0 w1 w2) 8 0 (by omega) fun _ _ => 0#32) 8 0 (by omega) fun _ _ => 0#32)
      8 0 (by omega) fun _ _ => 0#32)
    64 0 (by omega)

/-- The scales of block `j` for one row group: each of eight groups' scales on sixteen lanes. -/
def spreadVal (j : Nat) (p0 p1 : FVec F S8x128 .f32) : FVec F S8x128 .f32 :=
  dynamicGather 1 (cond (Nat.blt j 16) p0 p1)
    (wrapIdx (addi (broadcast S8x128 (BitVec.ofNat 32 (j * 8 % 128))) (vFloorDiv lane 16#32)))

def spreadGroups {α : Type} (j : Nat) (hj : j < 20) (p0 p1 : Nat → FVec F S8x128 .f32) (K : P F α) : (n g : Nat) → g + n ≤ 8 → P F α
  | 0, _, _ => K
  | n + 1, g, h =>
    .op (.load R.scale (Rect.unit (s := S20x64x128) ![j, 8 * g, 0] S1x8x128.size (scaleg_inb j hj g (by omega))).toLoadRect (View.loadsAt_vmem h_S1x8x128)) fun _ =>
    .op (.store R.scale (Rect.unit (s := S20x64x128) ![j, 8 * g, 0] S1x8x128.size (scaleg_inb j hj g (by omega)))
      (shapeCast S1x8x128 (spreadVal j (p0 g) (p1 g)) shapeCasts_S8x128_S1x8x128) Finset.univ (View.stores_vmem_bits_univ h_S1x8x128 rfl) (.inl rfl)) fun _ =>
    spreadGroups j hj p0 p1 K n (g + 1) (by omega)

def storeShifts {α : Type} (sh : Nat → IVec S8x128 32) (K : P F α) : (n g : Nat) → g + n ≤ 8 → P F α
  | 0, _, _ => K
  | n + 1, g, h =>
    .op (.load R.shift (Rect.unit (s := S64x128) ![8 * g, 0] S8x128.size (grp_inb g (by omega))).toLoadRect (View.loadsAt_vmem h_S8x128)) fun _ =>
    .op (.store R.shift (Rect.unit (s := S64x128) ![8 * g, 0] S8x128.size (grp_inb g (by omega)))
      (shapeCast S8x128 (sh g) shapeCasts_S8x128_S8x128) Finset.univ (View.stores_vmem_bits_univ h_S8x128 rfl) (.inl rfl)) fun _ =>
    storeShifts sh K n (g + 1) (by omega)

/-! ## A block -/

/-- Sixty-four rows of one block: nibbles to values, times the scales, low nibbles beside high ones. -/
def lhsOf (c : IVec S64x128 32) (sh : IVec S64x128 32) (s : FVec F S64x128 .f32) : FVec F S64x256 .bf16 :=
  truncf .bf16 (concatenate S64x256 1
    [⟨S64x128, mulf (subf (bitcastToFloat .f32 (ori (andi (shrui c sh) (broadcast S64x128 15#32)) (broadcast S64x128 1258291200#32)))
        (broadcast S64x128 (Scalar.ofBits .f32 0x4B000008#32))) s⟩,
     ⟨S64x128, mulf (subf (bitcastToFloat .f32 (ori (andi (shrui c sh) (broadcast S64x128 240#32)) (broadcast S64x128 1224736768#32)))
        (broadcast S64x128 (Scalar.ofBits .f32 0x49000080#32))) s⟩]
    concatenates_S64x128_S64x128_S64x256_d1) bitsLt_bf16_f32

theorem accFits (j : Nat) (hj : j < 20) : Mxu.Fits (16 * (j / 2)) 64 := ⟨by omega, by decide, by omega⟩
abbrev unitOf (j : Nat) : Fin 2 := ⟨j % 2, Nat.mod_lt _ (by decide)⟩

def dequant {α : Type} (w : BitVec 32) (hw : w.toNat < 32) (j : Nat) (hj : j < 20) (mx : Mxu F) (K : Mxu F → P F α) : P F α :=
  .op (.load R.ring (Rect.unit (s := S11x64x2560) (slotOff3 w (128 * j)) S1x64x128.size (slotOff3b_inb w hw j hj)).toLoadRect (View.loadsAt_vmem h_S1x64x128)) fun c =>
  .op (.load R.shift (Rect.unit (s := S64x128) ![0, 0] S64x128.size inb_S64x128_S64x128_0_0).toLoadRect (View.loadsAt_vmem h_S64x128)) fun sh =>
  .op (.load R.scale (Rect.unit (s := S20x64x128) ![j, 0, 0] S1x64x128.size (scale_inb j hj)).toLoadRect (View.loadsAt_vmem h_S1x64x128)) fun s =>
  mx.accLhsLoaded (unitOf j) (16 * (j / 2))
    (lhsOf (shapeCast S64x128 (c : Vec F S1x64x128 .i32) shapeCasts_S1x64x128_S64x128) sh (shapeCast S64x128 (s : Vec F S1x64x128 .f32) shapeCasts_S1x64x128_S64x128))
    (accFits j hj) >>= K

def readOut {α : Type} (w : BitVec 32) (hw : w.toNat < 32) (j : Nat) (hj : j < 20) (mx : Mxu F) (K : Mxu F → P F α) : P F α :=
  .op (.load R.outs (Rect.unit (s := S2x64x5120) (outOff3 w (256 * j)) S1x64x256.size (outOff3b_inb w hw j hj)).toLoadRect (View.loadsAt_vmem h_S1x64x256)) fun _ =>
  .op (.store R.outs (Rect.unit (s := S2x64x5120) (outOff3 w (256 * j)) S1x64x256.size (outOff3b_inb w hw j hj))
    (shapeCast S1x64x256 (truncf .bf16 (mx.read (unitOf j) (16 * (j / 2)) (accFits j hj)) bitsLt_bf16_f32 : FVec F S64x256 .bf16) shapeCasts_S64x256_S1x64x256) Finset.univ
    (View.stores_vmem h_S1x64x256 (R.houts.storeExact_slice rfl _ (outOff3b_packed w hw j hj)) (fun _ => rfl)) (.inl rfl)) fun _ =>
  K (mx.pop (unitOf j) (16 * (j / 2)) 64 (accFits j hj))

/-- What a step fetches while it computes block `j`. -/
abbrev Fetcher (F : FTy → Type) [FloatOps F] (α : Type) := (j : Nat) → j < 20 → P F α → P F α

def fillBlock {α : Type} (fe : Fetcher F α) (w : BitVec 32) (hw : w.toNat < 32) (p0 p1 : Nat → FVec F S8x128 .f32) (j : Nat) (hj : j < 20)
    (mx : Mxu F) (K : Mxu F → P F α) : P F α :=
  fe j hj (dequant R w hw j hj mx fun mx' => spreadGroups R j hj p0 p1 (K mx') 8 0 (by omega))

def blocksA {α : Type} (fe : Fetcher F α) (w : BitVec 32) (hw : w.toNat < 32) (p0 p1 : Nat → FVec F S8x128 .f32) (K : Mxu F → P F α) :
    (n j : Nat) → j + n ≤ 4 → Mxu F → P F α
  | 0, _, _, mx => K mx
  | n + 1, j, h, mx => fillBlock R fe w hw p0 p1 j (by omega) mx fun mx => blocksA fe w hw p0 p1 K n (j + 1) (by omega) mx
def blocksB {α : Type} (fe : Fetcher F α) (w : BitVec 32) (hw : w.toNat < 32) (p0 p1 : Nat → FVec F S8x128 .f32) (K : Mxu F → P F α) :
    (n j : Nat) → j + n ≤ 16 → Mxu F → P F α
  | 0, _, _, mx => K mx
  | n + 1, j, h, mx => fillBlock R fe w hw p0 p1 (j + 4) (by omega) mx fun mx => readOut R w hw j (by omega) mx fun mx =>
      blocksB fe w hw p0 p1 K n (j + 1) (by omega) mx
def blocksC {α : Type} (w : BitVec 32) (hw : w.toNat < 32) (K : Mxu F → P F α) :
    (n j : Nat) → j + n ≤ 20 → Mxu F → P F α
  | 0, _, _, mx => K mx
  | n + 1, j, h, mx => readOut R w hw j (by omega) mx fun mx => blocksC w hw K n (j + 1) (by omega) mx

/-! ## A step -/

def waitSlot {α : Type} (w : BitVec 32) (hw : w.toNat < 32) (K : P F α) : P F α :=
  .op (.waitDma2 (R.slotSem w hw) (R.words.slice (Rect.unit (s := S4000x2560) ![0, 0] S64x2560.size inb_S4000x2560_S64x2560_0_0) (fun _ => rfl)) (R.slot w hw)
    (View.wordExact_bits rfl) ((View.wordExact_bits rfl).reshape _ _)) fun _ => K
def waitOut {α : Type} (w : BitVec 32) (hw : w.toNat < 32) (K : P F α) : P F α :=
  .op (.waitDma2 (R.outSem w hw) (R.outSlot w hw) (R.outHbm w hw) ((R.houts.wordExact_slice rfl _ (outOff3_words w hw)).reshape _ _)
    ((R.hout.wordExact_slice rfl _ (hbmOff_words w hw)).reshape _ _)) fun _ => K
def startOut {α : Type} (w : BitVec 32) (hw : w.toNat < 32) (K : P F α) : P F α :=
  .op (.enqueueDma (R.outSlot w hw) (.here (R.outHbm w hw)) (.dma (R.outSem w hw)) ((R.houts.wordExact_slice rfl _ (outOff3_words w hw)).reshape _ _)
    ((R.hout.wordExact_slice rfl _ (hbmOff_words w hw)).reshape _ _) ⟨Or.inl rfl, trivial⟩) fun _ => K

def hasOut (w : BitVec 32) : BitVec 1 := Scalar.cmpi .ne (Scalar.extui (Scalar.cmpi .sge w 2#32)) 0#32
theorem hasOut_iff (w : BitVec 32) (hw : w.toNat < 32) : hasOut w = 1#1 ↔ 2 ≤ w.toNat :=
  of32 (fun w => hasOut w = 1#1 ↔ 2 ≤ w.toNat) (by decide) w hw
theorem prev_val (w : BitVec 32) (hw : w.toNat < 32) (h : 2 ≤ w.toNat) : (Scalar.subi w 2#32).toNat = w.toNat - 2 :=
  of32 (fun w => 2 ≤ w.toNat → (Scalar.subi w 2#32).toNat = w.toNat - 2) (by decide) w hw h
theorem prev_lt (w : BitVec 32) (hw : w.toNat < 32) (h : hasOut w = 1#1) : (Scalar.subi w 2#32).toNat < 32 := by
  rw [prev_val w hw ((hasOut_iff w hw).1 h)]; omega
def next (w : BitVec 32) : BitVec 32 := Scalar.minsi (Scalar.addi w 1#32) 31#32
theorem next_val (w : BitVec 32) (hw : w.toNat < 32) : (next w).toNat = min (w.toNat + 1) 31 :=
  of32 (fun w => (next w).toNat = min (w.toNat + 1) 31) (by decide) w hw
theorem next_lt (w : BitVec 32) (hw : w.toNat < 32) : (next w).toNat < 32 := by rw [next_val w hw]; omega

def step (fe : Fetcher F (Mxu F)) (w : BitVec 32) (hw : w.toNat < 32) (mx : Mxu F) : P F (Mxu F) :=
  waitSlot R w hw <|
  (if h : hasOut w = 1#1 then waitOut R (Scalar.subi w 2#32) (prev_lt w hw h) (.ret ⟨⟩) else (.ret ⟨⟩ : P F PUnit)) >>= fun _ =>
  narrow R (Scalar.muli (next w) 64#32) (mul64_le _ (next_lt w hw)) fun w0 w1 w2 =>
  blocksA R fe w hw (fun g => part 0#32 (w0 g)) (fun g => part 128#32 (w1 g))
    (blocksB R fe w hw (fun g => part 0#32 (w0 g)) (fun g => part 128#32 (w1 g))
      (blocksC R w hw (fun mx => storeShifts R (fun g => shiftOf (w2 g)) (startOut R w hw (.ret mx)) 8 0 (by omega)) 4 16 (by omega))
      16 0 (by omega))
    4 0 (by omega) mx

/-- The step that also fetches the chunk ten ahead, three or four rows a block. -/
def fetchAhead {α : Type} (w : BitVec 32) (hw : w.toNat < 32) : Fetcher F α := fun j hj K =>
  fetchRows R w hw K (64 * (j + 1) / 20 - 64 * j / 20) (64 * j / 20) (by omega)
def fetchNone {α : Type} : Fetcher F α := fun _ _ K => K

def w1 (k : Nat) : BitVec 32 := Scalar.addi 0#32 (Scalar.muli (Scf.iv 0#32 1#32 k) 1#32)
def w4 (k : Nat) : BitVec 32 := Scalar.addi 22#32 (Scalar.muli (Scf.iv 0#32 1#32 k) 1#32)
theorem w1_val (k : Fin 32) : (w1 k.val).toNat = k.val := by revert k; decide
theorem w4_val (k : Fin 10) : (w4 k.val).toNat = 22 + k.val := by revert k; decide
theorem w1_add (k : Fin 22) : (Scalar.addi (w1 k.val) 10#32).toNat = k.val + 10 := by revert k; decide
theorem w1_lt (k : Nat) (hk : k < 32) : (w1 k).toNat < 32 := by rw [w1_val ⟨k, hk⟩]; exact hk
theorem w4_lt (k : Nat) (hk : k < 10) : (w4 k).toNat < 32 := by rw [w4_val ⟨k, hk⟩]; show 22 + k < 32; omega
theorem w1_add_lt (k : Nat) (hk : k < 22) : (Scalar.addi (w1 k) 10#32).toNat < 32 := by rw [w1_add ⟨k, hk⟩]; show k + 10 < 32; omega
theorem t1_trips : k0_t1_loop.trips = 10 := by decide
theorem t2_trips : k0_t2_loop.trips = 25 := by decide
theorem t3_trips : k0_t3_loop.trips = 22 := by decide
theorem t4_trips : k0_t4_loop.trips = 10 := by decide
theorem lt1 (k : Fin k0_t1_loop.trips) : k.val < 10 := t1_trips ▸ k.isLt
theorem lt2 (k : Fin k0_t2_loop.trips) : k.val < 25 := t2_trips ▸ k.isLt
theorem lt3 (k : Fin k0_t3_loop.trips) : k.val < 22 := t3_trips ▸ k.isLt
theorem lt4 (k : Fin k0_t4_loop.trips) : k.val < 10 := t4_trips ▸ k.isLt

/-! ## The ids -/

theorem idSrc_inb (n : Nat) (hn : n < 16) : ∀ a, (![n % 2, 128 * (n / 2)] : Fin 2 → Nat) a + S1x128.size a ≤ S2x1024.size a := by
  intro a; fin_cases a
  · show n % 2 + 1 ≤ 2; omega
  · show 128 * (n / 2) + 128 ≤ 1024; omega
theorem idDst_inb (n : Nat) (hn : n < 16) : ∀ a, (![128 * n] : Fin 1 → Nat) a + S128.size a ≤ S2048.size a := by
  intro a; obtain rfl : a = 0 := Subsingleton.elim _ _
  show 128 * n + 128 ≤ 2048; omega

/-- Strip `n` of the ids, in the argument and in scalar memory. -/
abbrev Refs.idSrc (n : Nat) (hn : n < 16) : Memref sig .tc .hbm S128 .i32 :=
  (R.ids.slice (Rect.unit (s := S2x1024) ![n % 2, 128 * (n / 2)] S1x128.size (idSrc_inb n hn)) (fun _ => rfl)).squeeze S128 squeezes_S1x128_S128
abbrev Refs.idDst (n : Nat) (hn : n < 16) : Memref sig .tc .smem S128 .i32 :=
  R.idw.slice (Rect.unit (s := S2048) ![128 * n] S128.size (idDst_inb n hn)) (fun _ => rfl)
abbrev Refs.idSem : DmaSem sig := ((R.semIn.slice (Rect.unit (s := S3) ![0] S1.size inb_S3_S1_0)).squeeze S_ squeezes_S1_S_).sem
abbrev Refs.subSem : DmaSem sig := ((R.semIn.slice (Rect.unit (s := S3) ![1] S1.size inb_S3_S1_1)).squeeze S_ squeezes_S1_S_).sem
abbrev Refs.supSem : DmaSem sig := ((R.semIn.slice (Rect.unit (s := S3) ![2] S1.size inb_S3_S1_2)).squeeze S_ squeezes_S1_S_).sem

def startIds {α : Type} (K : P F α) : (n r : Nat) → r + n ≤ 16 → P F α
  | 0, _, _ => K
  | n + 1, r, h => .op (.enqueueDma (R.idSrc r (by omega)) (.here (R.idDst r (by omega))) (.dma R.idSem)
      ((View.wordExact_bits rfl).reshape _ _) (View.wordExact_bits rfl) ⟨Or.inl rfl, trivial⟩) fun _ => startIds K n (r + 1) (by omega)
def waitIds {α : Type} (K : P F α) : (n r : Nat) → r + n ≤ 16 → P F α
  | 0, _, _ => K
  | n + 1, r, h => .op (.waitDma2 R.idSem (R.idSrc r (by omega)) (R.idDst r (by omega))
      ((View.wordExact_bits rfl).reshape _ _) (View.wordExact_bits rfl)) fun _ => waitIds K n (r + 1) (by omega)

/-! ## The permutation -/

/-- The source row of each column of the permutation. -/
def permSrc : IVec S256x256 32 :=
  let n : IVec S256x256 32 := iota .tc S256x256 32 [1] iota_S256x256_d1_w32
  addi (addi (muli (vFloorDiv n 32#32) (broadcast S256x256 16#32)) (vFloorMod n 16#32 broadcasts_S256x256_S256x256))
    (muli (vFloorDiv (vFloorMod n 32#32 broadcasts_S256x256_S256x256) 16#32) (broadcast S256x256 128#32))
def permVal : FVec F S256x256 .bf16 :=
  truncf .bf16 (sitofp .f32 (extui 32 (cmpi .eq (iota .tc S256x256 32 [0] iota_S256x256_d0_w32) permSrc) natLt_1_32)) bitsLt_bf16_f32
def zeroLhs : FVec F S64x256 .bf16 := broadcast S64x256 (Scalar.ofBits .bf16 0x0000#16 : F .bf16)

theorem fits0 : Mxu.Fits 0 64 := fits_0_64

/-- Loading the permutation into one unit. -/
def loadUnit {α : Type} (q : Fin 2) (mx : Mxu F) (K : Mxu F → P F α) : P F α :=
  .op (.load R.perm (Rect.unit (s := S256x256) ![0, 0] S256x256.size inb_S256x256_S256x256_0_0).toLoadRect (View.loadsAt_vmem h_S256x256)) fun p =>
  mx.pushRhs q 0 false (p : Vec F S256x256 .bf16) >>= fun mx =>
  K ((((mx.pop q 0 64 fits_0_64).accLhs q 0 0 zeroLhs fits_0_64)).pop q 0 64 fits_0_64)

def storePerm {α : Type} (K : P F α) : P F α :=
  .op (.load R.perm (Rect.unit (s := S256x256) ![0, 0] S256x256.size inb_S256x256_S256x256_0_0).toLoadRect (View.loadsAt_vmem h_S256x256)) fun _ =>
  .op (.store R.perm (Rect.unit (s := S256x256) ![0, 0] S256x256.size inb_S256x256_S256x256_0_0) (shapeCast S256x256 permVal shapeCasts_S256x256_S256x256) Finset.univ
    (View.stores_vmem h_S256x256 (R.hperm.storeExact_slice rfl _ packedbf16_S256x256_S256x256_0_0) (fun _ => rfl)) (.inl rfl)) fun _ => K

/-! ## The narrow table -/

/-- An `f16` word as `f32` bits, in integers. -/
def widenBits (h : IVec S20x128 32) : IVec S20x128 32 :=
  let m := shli (andi h (broadcast S20x128 32767#32)) (broadcast S20x128 13#32)
  let norm := select (cmpi .sge m (broadcast S20x128 260046848#32)) (addi m (broadcast S20x128 1879048192#32)) (addi m (broadcast S20x128 939524096#32))
  let s := subi (ctlz m) (broadcast S20x128 8#32)
  let tiny := select (cmpi .eq m (broadcast S20x128 0#32)) (broadcast S20x128 0#32)
    (addi (shli m s) (shli (subi (broadcast S20x128 112#32) s) (broadcast S20x128 23#32)))
  ori (select (cmpi .slt m (broadcast S20x128 8388608#32)) tiny norm) (shli (andi h (broadcast S20x128 32768#32)) (broadcast S20x128 16#32))

/-- The shift of each lane's row within its word. -/
def shiftRow : IVec S1x128 32 := shli (andi (iota .tc S1x128 32 [1] iota_S1x128_d1_w32) (broadcast S1x128 3#32)) (broadcast S1x128 3#32)

/-- A hundred and twenty-eight narrow rows from the sub-scales and super-scales of as many vocabulary entries. -/
def tableVal (sb : IVec S160x128 8) (sp : IVec S20x128 16) : IVec S128x64 32 :=
  transpose S128x64 [1, 0] (concatenate S64x128 0
    [⟨S40x128, (bitcast S40x128 32 sb bitcasts_S160x128_w8_S40x128_w32 : IVec S40x128 32)⟩, ⟨S20x128, widenBits (extsi 32 sp natLt_16_32)⟩,
     ⟨S3x128, (broadcast S3x128 0#32 : IVec S3x128 32)⟩, ⟨S1x128, shiftRow⟩] concatenates_S40x128_S20x128_S3x128_S1x128_S64x128_d0) transposes_S64x128_p1_0_S128x64

def tileOff (k u : Nat) : BitVec 32 :=
  Scalar.muli (Scalar.addi (Scalar.muli (Scalar.addi 0#32 (Scalar.muli (Scf.iv 0#32 1#32 k) 1#32)) 5#32) (BitVec.ofNat 32 u)) 128#32
theorem tileOff_val (k u : Nat) (hk : k < 25) (hu : u < 5) : (Scalar.indexCast (tileOff k u)).toNat = 128 * (5 * k + u) := by
  have h : ∀ (k : Fin 25) (u : Fin 5), (Scalar.indexCast (tileOff k.val u.val)).toNat = 128 * (5 * k.val + u.val) := by decide
  exact h ⟨k, hk⟩ ⟨u, hu⟩
theorem tileSub_inb (k u : Nat) (hk : k < 25) (hu : u < 5) : ∀ a, (![0, (Scalar.indexCast (tileOff k u)).toNat] : Fin 2 → Nat) a + S160x128.size a ≤ S160x16000.size a := by
  intro a; fin_cases a
  · exact Nat.le_refl _
  · show (Scalar.indexCast (tileOff k u)).toNat + 128 ≤ 16000; rw [tileOff_val k u hk hu]; omega
theorem tileSup_inb (k u : Nat) (hk : k < 25) (hu : u < 5) : ∀ a, (![0, (Scalar.indexCast (tileOff k u)).toNat] : Fin 2 → Nat) a + S20x128.size a ≤ S20x16000.size a := by
  intro a; fin_cases a
  · exact Nat.le_refl _
  · show (Scalar.indexCast (tileOff k u)).toNat + 128 ≤ 16000; rw [tileOff_val k u hk hu]; omega
theorem tileTab_inb (k u : Nat) (hk : k < 25) (hu : u < 5) : ∀ a, (![(Scalar.indexCast (tileOff k u)).toNat, 0] : Fin 2 → Nat) a + S128x64.size a ≤ S16000x128.size a := by
  intro a; fin_cases a
  · show (Scalar.indexCast (tileOff k u)).toNat + 128 ≤ 16000; rw [tileOff_val k u hk hu]; omega
  · show 0 + 64 ≤ 128; omega

def tiles {α : Type} (k : Nat) (hk : k < 25) (K : P F α) : (n u : Nat) → u + n ≤ 5 → P F α
  | 0, _, _ => K
  | n + 1, u, h =>
    .op (.load R.sub (Rect.unit (s := S160x16000) ![0, (Scalar.indexCast (tileOff k u)).toNat] S160x128.size (tileSub_inb k u hk (by omega))).toLoadRect (View.loadsAt_vmem h_S160x128)) fun sb =>
    .op (.load R.sup (Rect.unit (s := S20x16000) ![0, (Scalar.indexCast (tileOff k u)).toNat] S20x128.size (tileSup_inb k u hk (by omega))).toLoadRect (View.loadsAt_vmem h_S20x128)) fun sp =>
    .op (.load R.table (Rect.unit (s := S16000x128) ![(Scalar.indexCast (tileOff k u)).toNat, 0] S128x64.size (tileTab_inb k u hk (by omega))).toLoadRect (View.loadsAt_vmem h_S128x64)) fun _ =>
    .op (.store R.table (Rect.unit (s := S16000x128) ![(Scalar.indexCast (tileOff k u)).toNat, 0] S128x64.size (tileTab_inb k u hk (by omega)))
      (shapeCast S128x64 (tableVal (sb : Vec F S160x128 .i8) (sp : Vec F S20x128 .i16)) shapeCasts_S128x64_S128x64) Finset.univ (View.stores_vmem_bits_univ h_S128x64 rfl) (.inl rfl)) fun _ =>
    tiles k hk K n (u + 1) (by omega)

/-! ## The whole kernel -/

def spreadAll {α : Type} (p0 p1 : Nat → FVec F S8x128 .f32) (K : P F α) : (n j : Nat) → j + n ≤ 20 → P F α
  | 0, _, _ => K
  | n + 1, j, h => spreadGroups R j (by omega) p0 p1 (spreadAll p0 p1 K n (j + 1) (by omega)) 8 0 (by omega)

def body1 (k : Fin k0_t1_loop.trips) (_ : Unit) : P F Unit := fetchRows R (w1 k) (w1_lt k (by have := lt1 k; omega)) (.ret ()) 64 0 (by omega)
def body2 (k : Fin k0_t2_loop.trips) (_ : Unit) : P F Unit := tiles R k (lt2 k) (.ret ()) 5 0 (by omega)
def body3 (k : Fin k0_t3_loop.trips) (mx : Mxu F) : P F (Mxu F) :=
  step R (fetchAhead R (Scalar.addi (w1 k) 10#32) (w1_add_lt k (lt3 k))) (w1 k) (w1_lt k (by have := lt3 k; omega)) mx
def body4 (k : Fin k0_t4_loop.trips) (mx : Mxu F) : P F (Mxu F) := step R fetchNone (w4 k) (w4_lt k (lt4 k)) mx

/-- What the kernel does before its first step: ids, the first ten chunks' fetches, permutation, table, first scales. -/
def prologue {α : Type} (b1 : Fin k0_t1_loop.trips → Unit → P F Unit) (b2 : Fin k0_t2_loop.trips → Unit → P F Unit) (K : Mxu F → P F α) : P F α :=
  startIds R
    (.op (.enqueueDma R.subT (.here R.sub) (.dma R.subSem) R.hsubT.wordExact R.hsub.wordExact ⟨Or.inl rfl, trivial⟩) fun _ =>
     .op (.enqueueDma R.supT (.here R.sup) (.dma R.supSem) R.hsupT.wordExact R.hsup.wordExact ⟨Or.inl rfl, trivial⟩) fun _ =>
     waitIds R
      (Scf.Loop.for k0_t1_loop k0_t1_ok ⟨⟩ b1 >>= fun _ =>
       storePerm R <| loadUnit R 0 Mxu.init fun mx => loadUnit R 1 mx fun mx =>
       .op (.waitDma2 R.subSem R.subT R.sub R.hsubT.wordExact R.hsub.wordExact) fun _ =>
       .op (.waitDma2 R.supSem R.supT R.sup R.hsupT.wordExact R.hsup.wordExact) fun _ =>
       Scf.Loop.for k0_t2_loop k0_t2_ok ⟨⟩ b2 >>= fun _ =>
       narrow R 0#32 (by decide) fun w0 w1 w2 =>
       spreadAll R (fun g => part 0#32 (w0 g)) (fun g => part 128#32 (w1 g))
        (storeShifts R (fun g => shiftOf (w2 g)) (K mx) 8 0 (by omega)) 20 0 (by omega))
      16 0 (by omega))
    16 0 (by omega)

def kernelP (b1 : Fin k0_t1_loop.trips → Unit → P F Unit) (b2 : Fin k0_t2_loop.trips → Unit → P F Unit)
    (b3 : Fin k0_t3_loop.trips → Mxu F → P F (Mxu F)) (b4 : Fin k0_t4_loop.trips → Mxu F → P F (Mxu F)) : P F PUnit :=
  prologue R b1 b2 fun mx =>
  Scf.Loop.for k0_t3_loop k0_t3_ok mx b3 >>= fun mx =>
  Scf.Loop.for k0_t4_loop k0_t4_ok mx b4 >>= fun mx =>
  waitOut R 30#32 (by decide) <| waitOut R 31#32 (by decide) <|
  mx.exit >>= fun _ => .ret ⟨⟩

end Cert.Kernel.Lookup
-- ==== Proof.Contents.lean ====
/-
  What each buffer of the kernel holds, as functions of the arrays it was given, coordinates as natural numbers.
-/
module
public import proofs.«01_k».proof.Proof.Body
public import Idealize.ShloMosaic.Lib.ValueIdxCore
@[expose] public section
noncomputable section
namespace Cert.Kernel.Lookup
open Cert.Kernel
open Idealize.ShloMosaic Idealize.ShloMosaic.TcCoe Idealize.ShloMosaic.Tactic
open Idealize.SL Idealize.SL.Sem
open Shapes1.Facts₀ K0.Facts₀
open Idealize.ShloMosaic.ValueIdx
variable {F : FTy → Type} [FloatOps F]

/-- An array read at coordinates given as numbers, each taken modulo its extent. -/
def at2 {α : Type} {a b : ℕ} [NeZero a] [NeZero b] (f : (⟨2, ![a, b]⟩ : Shape).Idx → α) (i j : ℕ) : α := f (ix2 (Fin.ofNat a i) (Fin.ofNat b j))
theorem at2_val {α : Type} {a b : ℕ} [NeZero a] [NeZero b] (f : (⟨2, ![a, b]⟩ : Shape).Idx → α) (y : (⟨2, ![a, b]⟩ : Shape).Idx) :
    at2 f (y 0).val (y 1).val = f y := by
  unfold at2
  congr 1
  funext k
  match k with
  | ⟨0, _⟩ => exact Fin.ext (Nat.mod_eq_of_lt (y 0).isLt)
  | ⟨1, _⟩ => exact Fin.ext (Nat.mod_eq_of_lt (y 1).isLt)

/-- The arrays of which the kernel picks lines: ids and code words. -/
structure Inp (F : FTy → Type) where
  ids : S2x1024.Idx → BitVec 32
  words : S4000x2560.Idx → BitVec 32

namespace Inp
variable (X : Inp F)

/-- Id `i` in the order the kernel takes them: chunks of 64, two of each batch row in turn. -/
def id (i : ℕ) : BitVec 32 := at2 X.ids (i / 128 % 2) (128 * (i / 256) + i % 128)
/-- Every id names a vocabulary entry. -/
def Ok : Prop := ∀ i, (X.id i).toNat < 16000
/-- Code word `c` of row `r` of chunk `n`. -/
def word (n r c : ℕ) : BitVec 32 := at2 X.words ((X.id (64 * n + r)).toNat / 4) c
/-- The tile each unit holds. -/
def permTile : Mxu.Staged F := ⟨.bf16, false, permVal⟩
end Inp

theorem off4_val (v : BitVec 32) (h : v.toNat < 16000) : k0_off4 v = ![v.toNat / 4, 0] := by
  have : (Scalar.shrsi v 2#32).toNat = v.toNat / 4 := by
    show (v.sshiftRight 2).toNat = _
    have hm : v.msb = false := by rw [BitVec.msb_eq_false_iff_two_mul_lt]; omega
    rw [BitVec.sshiftRight_eq_of_msb_false hm, BitVec.toNat_ushiftRight, Nat.shiftRight_eq_div_pow]
  show ![(Scalar.shrsi v 2#32).toNat, 0] = _
  rw [this]
theorem chk1_ok (v : BitVec 32) (h : v.toNat < 16000) : k0_chk1 v := by
  show ∀ a, _
  rw [off4_val v h]
  intro a; fin_cases a
  · show v.toNat / 4 + 1 ≤ 4000; omega
  · exact Nat.le_refl _
theorem off762_val (v : BitVec 32) : k0_off762 v = ![v.toNat, 0] := rfl
theorem chk257_ok (v : BitVec 32) (h : v.toNat < 16000) : k0_chk257 v := by
  show ∀ a, _
  rw [off762_val v]
  intro a; fin_cases a
  · show v.toNat + 1 ≤ 16000; omega
  · exact Nat.le_refl _

/-! ## The matrix unit -/

/-- Between blocks: the permutation loaded in both units, blocks `p ≤ j < d` accumulated and not yet read. -/
structure MxOk (p d : ℕ) (mx : Mxu F) : Prop where
  reg : ∀ q r, mx.reg q r = none
  gmr : ∀ q, mx.gmr q = some Inp.permTile
  live : ∀ (q : Fin 2) (A : Fin 1024), mx.live q A = true ↔ ∃ j, p ≤ j ∧ j < d ∧ j % 2 = q.val ∧ A.val / 64 = j / 2

theorem MxOk.start {p : ℕ} (p' : ℕ) {mx : Mxu F} (h : MxOk p p mx) : MxOk p' p' mx where
  reg := h.reg
  gmr := h.gmr
  live q A := by
    constructor
    · intro hl; obtain ⟨j, h1, h2, -⟩ := (h.live q A).1 hl; omega
    · rintro ⟨j, h1, h2, -⟩; omega

theorem MxOk.drained {p : ℕ} {mx : Mxu F} (h : MxOk p p mx) : mx.Drained := by
  refine ⟨fun q r => by rw [h.reg]; rfl, fun q A => ?_⟩
  by_contra hc
  obtain ⟨j, h1, h2, -⟩ := (h.live q A).1 (by simpa using hc)
  omega

theorem MxOk.accBy {p j : ℕ} {mx : Mxu F} (h : MxOk p j mx) (hp : p ≤ j) (hj : j < 20) (lhs : FVec F S64x256 .bf16) :
    MxOk p (j + 1) (mx.accBy (unitOf j) Inp.permTile (16 * (j / 2)) lhs (accFits j hj)) where
  reg q r := h.reg q r
  gmr q := h.gmr q
  live q A := by
    show (if q = unitOf j ∧ 4 * (16 * (j / 2)) ≤ A.val ∧ A.val < 4 * (16 * (j / 2)) + 64 then true else mx.live q A) = true ↔ _
    split
    · rename_i hc
      refine ⟨fun _ => ⟨j, hp, by omega, ?_, by omega⟩, fun _ => rfl⟩
      rw [hc.1]
    · rename_i hc
      rw [h.live]
      constructor
      · rintro ⟨i, h1, h2, h3⟩; exact ⟨i, h1, by omega, h3⟩
      · rintro ⟨i, h1, h2, h3, h4⟩
        rcases Nat.lt_or_ge i j with hi | hi
        · exact ⟨i, h1, hi, h3, h4⟩
        · obtain rfl : i = j := by omega
          exact absurd ⟨Fin.ext h3.symm, by omega, by omega⟩ hc

theorem MxOk.pop {p d : ℕ} {mx : Mxu F} (h : MxOk p d mx) (hp : p < 20) :
    MxOk (p + 1) d (mx.pop (unitOf p) (16 * (p / 2)) 64 (accFits p hp)) where
  reg q r := h.reg q r
  gmr q := h.gmr q
  live q A := by
    show (if q = unitOf p ∧ 4 * (16 * (p / 2)) ≤ A.val ∧ A.val < 4 * (16 * (p / 2)) + 64 then false else mx.live q A) = true ↔ _
    split
    · rename_i hc
      refine ⟨fun hf => absurd hf (by decide), ?_⟩
      rintro ⟨i, h1, h2, h3, h4⟩
      have hq : q.val = p % 2 := by rw [hc.1]
      omega
    · rename_i hc
      rw [h.live]
      constructor
      · rintro ⟨i, h1, h2, h3, h4⟩
        rcases Nat.lt_or_ge p i with hi | hi
        · exact ⟨i, hi, h2, h3, h4⟩
        · obtain rfl : i = p := by omega
          exact absurd ⟨Fin.ext h3.symm, by omega, by omega⟩ hc
      · rintro ⟨i, h1, h2, h3, h4⟩; exact ⟨i, by omega, h2, h3, h4⟩

/-- A unit after the permutation is loaded: no register staged, no row live, the permutation in its slot. -/
theorem loaded_ok (q : Fin 2) (mx : Mxu F) (hr : ∀ q r, mx.reg q r = none) (hl : ∀ q A, mx.live q A = false) :
    mx.PushOk q 0 false
    ∧ (∀ q' r, ((((mx.pushed q 0 false (φ := .bf16) permVal).pop q 0 64 fits_0_64).accLhs q 0 0 zeroLhs fits_0_64).pop q 0 64 fits_0_64).reg q' r = none)
    ∧ (∀ q' A, ((((mx.pushed q 0 false (φ := .bf16) permVal).pop q 0 64 fits_0_64).accLhs q 0 0 zeroLhs fits_0_64).pop q 0 64 fits_0_64).live q' A = false)
    ∧ (∀ q', ((((mx.pushed q 0 false (φ := .bf16) permVal).pop q 0 64 fits_0_64).accLhs q 0 0 zeroLhs fits_0_64).pop q 0 64 fits_0_64).gmr q'
        = if q' = q then some (Inp.permTile (F := F)) else mx.gmr q') := by
  have e : mx.pushed q 0 false (φ := .bf16) permVal = { mx with reg := fun q' r' => if q' = q ∧ r' = 0 then some ⟨.bf16, false, permVal⟩ else mx.reg q' r' } := by
    unfold Mxu.pushed; rw [hr]
  refine ⟨fun t ht => (by rw [hr] at ht; cases ht), ?_, ?_, ?_⟩ <;> rw [e]
  · intro q' r
    show (if q' = q ∧ r = 0 then none else if q' = q ∧ r = 0 then _ else mx.reg q' r) = none
    split
    · rfl
    · exact hr q' r
  · intro q' A
    show (if q' = q ∧ 4 * 0 ≤ A.val ∧ A.val < 4 * 0 + 64 then false else if q' = q ∧ 4 * 0 ≤ A.val ∧ A.val < 4 * 0 + 64 then true
      else if q' = q ∧ 4 * 0 ≤ A.val ∧ A.val < 4 * 0 + 64 then false else mx.live q' A) = false
    split
    · rfl
    · exact hl q' A
  · intro q'
    show (if q' = q then some ((if q = q ∧ (0 : Fin 2) = 0 then some (⟨.bf16, false, permVal⟩ : Mxu.Staged F) else mx.reg q 0).getD _) else mx.gmr q') = _
    rw [if_pos (show q = q ∧ (0 : Fin 2) = 0 from ⟨rfl, rfl⟩)]
    rfl

end Cert.Kernel.Lookup
-- ==== Proof.Own.lean ====
/-
  Holding part of a buffer at stated contents. `Own d m S q g`: core `d` holds the elements of memref `m` whose
  index lies in `S`, at share `q`, and element `y` of them reads `g y`.
-/
module
public import Idealize.ShloMosaic.Lib.Batch
public import Idealize.ShloMosaic.Lib.Scf
public import Idealize.ShloMosaic.Lib.Tactic
@[expose] public section
noncomputable section
namespace Cert.Lookup
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {nD : Nat} {τ : Topo} {sig : RefSig} {Val : EltTy → Type} [∀ e, Nonempty (Val e)] {U : Type} [URA U] {Λ : Labels}
variable {sp sp' : Space} {s s' : Shape} {e e' : EltTy}

local notation "𝕄" => MT nD τ sig Unit Val ℕ U ℕ

/-- The elements of `m` at the indices in `S`, held at share `q` and reading `g`. -/
def Own (d : Dev nD) (m : Memref sig .tc sp s e) (S : Finset s.Idx) (q : PosShare TreeShare) (g : s.Idx → Val e) : sProp 𝕄 :=
  iprop(∃ f : Buf Val (m.view.loc (d : Thread nD τ)), ⌜∀ y ∈ S, m.view.read Val f y = g y⌝ ∗ m.view.loc (d : Thread nD τ) ↦[m.view.setOn S]{q} f)

instance (d : Dev nD) (m : Memref sig .tc sp s e) (S : Finset s.Idx) (q : PosShare TreeShare) (g : s.Idx → Val e) :
    Storable (upEmb : UEmb _ 𝕄) (Own d m S q g) := by unfold Own; infer_instance

variable {d : Dev nD} {m : Memref sig .tc sp s e} {S T : Finset s.Idx} {q : PosShare TreeShare} {g g' : s.Idx → Val e}

theorem emb_mem (r : Rect s) (x : r.shape.Idx) : r.emb x ∈ r.set := by
  rw [← Rect.map_emb_univ]; exact Finset.mem_map_of_mem _ (Finset.mem_univ x)
theorem of_mem {r : Rect s} {y : s.Idx} (h : y ∈ r.set) : ∃ x, r.emb x = y := by
  rw [← Rect.map_emb_univ] at h
  obtain ⟨x, -, hx⟩ := Finset.mem_map.1 h
  exact ⟨x, hx⟩

theorem own_congr (h : ∀ y ∈ S, g y = g' y) : (Own d m S q g : sProp 𝕄) ⊢ Own d m S q g' := by
  unfold Own
  iintro ⟨%f, %hf, H⟩
  iexists f
  isplitr
  · ipureintro; exact fun y hy => (hf y hy).trans (h y hy)
  iexact H

theorem own_split (h : S ⊆ T) : (Own d m T q g : sProp 𝕄) ⊢ iprop(Own d m S q g ∗ Own d m (T \ S) q g) := by
  have hs : m.view.setOn S ⊆ m.view.setOn T := Finset.map_subset_map.2 h
  have hd : m.view.setOn T \ m.view.setOn S = m.view.setOn (T \ S) := by
    unfold View.setOn; exact (Finset.map_sdiff ..).symm
  unfold Own
  iintro ⟨%f, %hf, H⟩
  ihave H' := (pointsTo_split_subset hs).1 $$ H
  icases H' with ⟨H1, H2⟩
  isplitl [H1]
  · iexists f
    isplitr
    · ipureintro; exact fun y hy => hf y (h hy)
    iexact H1
  · iexists f
    isplitr
    · ipureintro; exact fun y hy => hf y (Finset.mem_sdiff.1 hy).1
    rw [hd]
    iexact H2

theorem own_join (h : Disjoint S T) : iprop(Own d m S q g ∗ Own d m T q g) ⊢ (Own d m (S ∪ T) q g : sProp 𝕄) := by
  have hdj : Disjoint (m.view.setOn S) (m.view.setOn T) := (Finset.disjoint_map _).2 h
  have hu : m.view.setOn S ∪ m.view.setOn T = m.view.setOn (S ∪ T) := (Finset.map_union ..).symm
  unfold Own
  iintro ⟨⟨%f, %hf, H1⟩, ⟨%f', %hf', H2⟩⟩
  ihave H := (pointsTo_join (ℓ := m.view.loc (d : Thread nD τ)) hdj) $$ [H1 H2]
  · isplitl [H1] <;> iassumption
  iexists ((m.view.setOn T).piecewise f' f)
  isplitr
  · ipureintro
    intro y hy
    by_cases hT : y ∈ T
    · rw [← hf' y hT]
      show cast _ (Finset.piecewise _ _ _ (m.view.emb y)) = _
      rw [Finset.piecewise_eq_of_mem _ _ _ ((View.mem_setOn _).2 hT)]; rfl
    · rw [← hf y ((Finset.mem_union.1 hy).resolve_right hT)]
      show cast _ (Finset.piecewise _ _ _ (m.view.emb y)) = _
      rw [Finset.piecewise_eq_of_notMem _ _ _ (fun hc => hT ((View.mem_setOn _).1 hc))]; rfl
  rw [← hu]
  iexact H

/-- Part of a rectangle of a memref is the corresponding part of the slice. -/
theorem own_slice_in {r : Rect s} {hr : ∀ a, r.stride a = 1} {T : Finset r.shape.Idx} {gs : r.shape.Idx → Val e}
    (hS : ∀ y ∈ S, ∃ x ∈ T, r.emb x = y) (hT : ∀ x ∈ T, r.emb x ∈ S) (hg : ∀ x ∈ T, g (r.emb x) = gs x) :
    (Own d m S q g : sProp 𝕄) ⊢ Own d (m.slice r hr) T q gs := by
  obtain rfl : S = T.map r.emb := by
    ext y; rw [Finset.mem_map]
    exact ⟨fun h => hS y h, fun ⟨x, hx, he⟩ => he ▸ hT x hx⟩
  have hs : m.view.setOn (T.map r.emb) = (m.slice r hr).view.setOn T := Finset.map_map ..
  unfold Own
  iintro ⟨%f, %hf, H⟩
  iexists f
  isplitr
  · ipureintro; exact fun x hx => (hf (r.emb x) (Finset.mem_map_of_mem _ hx)).trans (hg x hx)
  rw [← hs]
  iexact H
theorem own_slice_out {r : Rect s} {hr : ∀ a, r.stride a = 1} {T : Finset r.shape.Idx} {gs : r.shape.Idx → Val e}
    (hS : ∀ y ∈ S, ∃ x ∈ T, r.emb x = y) (hT : ∀ x ∈ T, r.emb x ∈ S) (hg : ∀ x ∈ T, g (r.emb x) = gs x) :
    Own d (m.slice r hr) T q gs ⊢ (Own d m S q g : sProp 𝕄) := by
  obtain rfl : S = T.map r.emb := by
    ext y; rw [Finset.mem_map]
    exact ⟨fun h => hS y h, fun ⟨x, hx, he⟩ => he ▸ hT x hx⟩
  have hs : m.view.setOn (T.map r.emb) = (m.slice r hr).view.setOn T := Finset.map_map ..
  unfold Own
  iintro ⟨%f, %hf, H⟩
  iexists f
  isplitr
  · ipureintro
    intro y hy
    obtain ⟨x, hx, rfl⟩ := Finset.mem_map.1 hy
    exact (hf x hx).trans (hg x hx).symm
  rw [hs]
  iexact H

/-- Part of a memref is the corresponding part of the memref squeezed. -/
theorem own_squeeze_in {h : s.Squeezes s'} {T : Finset s'.Idx} {gs : s'.Idx → Val e}
    (hS : ∀ y ∈ S, ∃ x ∈ T, Shape.reshapeEquiv h.numel_eq x = y) (hT : ∀ x ∈ T, Shape.reshapeEquiv h.numel_eq x ∈ S)
    (hg : ∀ x ∈ T, g (Shape.reshapeEquiv h.numel_eq x) = gs x) :
    (Own d m S q g : sProp 𝕄) ⊢ Own d (m.squeeze s' h) T q gs := by
  obtain rfl : S = T.map (Shape.reshapeEquiv h.numel_eq).toEmbedding := by
    ext y; rw [Finset.mem_map]
    exact ⟨fun h => hS y h, fun ⟨x, hx, he⟩ => he ▸ hT x hx⟩
  have hs : m.view.setOn (T.map (Shape.reshapeEquiv h.numel_eq).toEmbedding) = (m.squeeze s' h).view.setOn T := Finset.map_map ..
  unfold Own
  iintro ⟨%f, %hf, H⟩
  iexists f
  isplitr
  · ipureintro; exact fun x hx => (hf _ (Finset.mem_map_of_mem _ hx)).trans (hg x hx)
  rw [← hs]
  iexact H
theorem own_squeeze_out {h : s.Squeezes s'} {T : Finset s'.Idx} {gs : s'.Idx → Val e}
    (hS : ∀ y ∈ S, ∃ x ∈ T, Shape.reshapeEquiv h.numel_eq x = y) (hT : ∀ x ∈ T, Shape.reshapeEquiv h.numel_eq x ∈ S)
    (hg : ∀ x ∈ T, g (Shape.reshapeEquiv h.numel_eq x) = gs x) :
    Own d (m.squeeze s' h) T q gs ⊢ (Own d m S q g : sProp 𝕄) := by
  obtain rfl : S = T.map (Shape.reshapeEquiv h.numel_eq).toEmbedding := by
    ext y; rw [Finset.mem_map]
    exact ⟨fun h => hS y h, fun ⟨x, hx, he⟩ => he ▸ hT x hx⟩
  have hs : m.view.setOn (T.map (Shape.reshapeEquiv h.numel_eq).toEmbedding) = (m.squeeze s' h).view.setOn T := Finset.map_map ..
  unfold Own
  iintro ⟨%f, %hf, H⟩
  iexists f
  isplitr
  · ipureintro
    intro y hy
    obtain ⟨x, hx, rfl⟩ := Finset.mem_map.1 hy
    exact (hf x hx).trans (hg x hx).symm
  rw [hs]
  iexact H

theorem own_empty : ⊢ (Own d m ∅ q g : sProp 𝕄) := by
  unfold Own
  iintro
  iexists (fun _ => Classical.choice inferInstance)
  isplitr
  · ipureintro; exact fun y hy => absurd hy (Finset.notMem_empty y)
  rw [show m.view.setOn ∅ = ∅ from rfl, pointsTo_empty]
  iempintro

/-- Disjoint parts at the same contents make one. -/
theorem own_bigSep {ι : Type} [DecidableEq ι] (I : Finset ι) (K : ι → Finset s.Idx) (hK : ∀ i ∈ I, ∀ j ∈ I, i ≠ j → Disjoint (K i) (K j)) :
    bigSep I (fun t => Own d m (K t) q g) ⊢ (Own d m (I.biUnion K) q g : sProp 𝕄) := by
  induction I using Finset.induction_on with
  | empty =>
    rw [Finset.biUnion_empty]
    iintro -
    iapply own_empty
  | insert a I ha ih =>
    have hd : Disjoint (K a) (I.biUnion K) := by
      rw [Finset.disjoint_biUnion_right]
      exact fun i hi => hK a (Finset.mem_insert_self ..) i (Finset.mem_insert_of_mem hi) (fun h => ha (h ▸ hi))
    rw [Finset.biUnion_insert]
    refine Entails.trans (Entails.of_eq (BI.bigSep_insert ha)) ?_
    refine Entails.trans ?_ (own_join hd)
    exact sep_mono_right (ih fun i hi j hj => hK i (Finset.mem_insert_of_mem hi) j (Finset.mem_insert_of_mem hj))

/-- Holding an array at some share: what reading asks for, and enough for any number of readers. -/
def Read (d : Dev nD) (m : Memref sig .tc sp s e) (g : s.Idx → Val e) : sProp 𝕄 := iprop(∃ q, Own d m Finset.univ q g)

theorem own_halve : (Own d m S q g : sProp 𝕄) ⊢ iprop(∃ q₁ q₂, Own d m S q₁ g ∗ Own d m S q₂ g) := by
  unfold Own
  iintro ⟨%f, %hf, H⟩
  ihave H' := (pointsTo_share (PosShare.mem_left_op_right q)).1 $$ H
  icases H' with ⟨H1, H2⟩
  iexists _, _
  isplitl [H1]
  · iexists f
    isplitr
    · ipureintro; exact hf
    iexact H1
  · iexists f
    isplitr
    · ipureintro; exact hf
    iexact H2
theorem read_dup : (Read d m g : sProp 𝕄) ⊢ iprop(Read d m g ∗ Read d m g) := by
  unfold Read
  iintro ⟨%q, H⟩
  ihave H' := own_halve $$ H
  icases H' with ⟨%q1, %q2, H1, H2⟩
  isplitl [H1]
  · iexists q1; iexact H1
  · iexists q2; iexact H2

variable {defs : Defs nD τ sig Val Λ} {𝒱 : Variants} {bd : Option 𝒱.V} {α : Type} {Q : α → sProp (MT nD τ sig Unit Val ℕ U ℕ)}

/-- What a program with continuation `Q` needs. -/
abbrev Wp (defs : Defs nD τ sig Val Λ) (𝒱 : Variants) (bd : Option 𝒱.V) (d : Dev nD) {α : Type} (p : Prog (TpuEff nD τ sig Val Λ .tc) α)
    (Q : α → sProp 𝕄) : sProp 𝕄 :=
  wp frame (wpE defs 𝒱 (d : Thread nD τ) bd) Set.univ p Q

theorem own_load {cs : CoreSpace} {m : Memref sig .tc cs s e} {r : Rect s} {hl : m.view.LoadsAt r.toLoadRect}
    {k : (r.shape.Idx → Val e) → Prog (TpuEff nD τ sig Val Λ .tc) α} {S : Finset s.Idx} {g : s.Idx → Val e} (hS : r.set ⊆ S) :
    (Own d m S q g : sProp 𝕄) ⊢ iprop((Own d m S q g -∗ Wp defs 𝒱 bd d (k fun x => g (r.emb x)) Q)
      -∗ Wp defs 𝒱 bd d (.op (.load m r.toLoadRect hl) k) Q) := by
  unfold Own
  iintro ⟨%f, %hf, H⟩ Hk
  have hv : (m.access r).read Val f = fun x => g (r.emb x) := funext fun x => hf (r.emb x) (hS (emb_mem r x))
  iapply (wp_load_rect 𝒱 (d : Thread nD τ) bd Set.univ (m := m) (r := r) (S := m.view.setOn S) (by rw [View.set_slice]; exact Finset.map_subset_map.2 hS)) $$ H
  iintro H
  rw [hv]
  iapply Hk
  iexists f
  isplitr
  · ipureintro; exact hf
  iexact H

theorem own_smemLoad {m : Memref sig .tc .smem s e} {r : Rect s} {hn : r.shape.numel = 1} {hw}
    {k : Val e → Prog (TpuEff nD τ sig Val Λ .tc) α} {S : Finset s.Idx} {g : s.Idx → Val e} (hS : r.set ⊆ S) (y : s.Idx) (hy : ∀ x, r.emb x = y) :
    (Own d m S q g : sProp 𝕄) ⊢ iprop((Own d m S q g -∗ Wp defs 𝒱 bd d (k (g y)) Q)
      -∗ Wp defs 𝒱 bd d (smemLoad m r hn hw >>= k) Q) := by
  unfold Own
  iintro ⟨%f, %hf, H⟩ Hk
  have hv : ∀ x, (m.access r).read Val f x = g y := fun x => by
    rw [← hy x]; exact hf (r.emb x) (hS (emb_mem r x))
  iapply (wp_load_rect 𝒱 (d : Thread nD τ) bd Set.univ (m := m) (r := r) (S := m.view.setOn S) (by rw [View.set_slice]; exact Finset.map_subset_map.2 hS)) $$ H
  iintro H
  simp only [hv, Prog.bind]
  iapply Hk
  iexists f
  isplitr
  · ipureintro; exact hf
  iexact H

theorem own_store {cs : CoreSpace} {m : Memref sig .tc cs s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ .tc) α} {S : Finset s.Idx} {g : s.Idx → Val e} (g' : s.Idx → Val e) (hS : r.set ⊆ S)
    (hin : ∀ x, g' (r.emb x) = w x) (hout : ∀ y ∈ S, y ∉ r.set → g' y = g y) :
    (Own d m S fullShare g : sProp 𝕄) ⊢ iprop((Own d m S fullShare g' -∗ Wp defs 𝒱 bd d (k ⟨⟩) Q)
      -∗ Wp defs 𝒱 bd d (.op (.store m r w Finset.univ hx hm) k) Q) := by
  unfold Own
  iintro ⟨%f, %hf, H⟩ Hk
  iapply (wp_store 𝒱 (d : Thread nD τ) bd Set.univ (m := m) (r := r) (S := m.view.setOn S)
    (by rw [View.setOn_univ, View.set_slice]; exact Finset.map_subset_map.2 hS)) $$ H
  iintro H
  iapply Hk
  iexists _
  isplitr [H]
  rotate_left
  · iexact H
  ipureintro
  intro y hy
  by_cases h : y ∈ r.set
  · obtain ⟨x, rfl⟩ := of_mem h
    exact (View.read_slice_write_emb (v := m.view) r f w (Finset.mem_univ x)).trans (hin x).symm
  · rw [View.read_slice_write_of_not_mem (v := m.view) r f w _ (by rw [Rect.map_emb_univ]; exact h), hf y hy, hout y hy h]

/-- A copy started into a batch: the source read, the destination handed over; what it delivers is the source and the destination at the source's contents. -/
theorem own_dma (EC : UEmb Counters 𝕄) [EC.LandsIn (upEmb : UEmb _ 𝕄)] {n : ℕ}
    {src : Memref sig .tc sp s e} {dst : Memref sig .tc sp' s e} {sm : DmaSem sig}
    {hsrc : src.view.WordExact} {hdst : dst.view.WordExact} {hsem : DmaTarget.Typed (nD := nD) sp (.dma sm) (DmaTarget.here (p := (Proc.tc : Proc τ)) dst)}
    {k : PUnit → Prog (TpuEff nD τ sig Val Λ .tc) α} {gs gd : s.Idx → Val e} {D : Fin n → sProp 𝕄} {j u : ℕ}
    (N : ℕ) (hN : dst.view.dmaCredit = N) (hj : j < n) (hu : u ≤ j * N)
    (hD : iprop(Own d src Finset.univ q gs ∗ Own d dst Finset.univ fullShare gs) ⊢ D ⟨j, hj⟩) :
    iprop(Own d src Finset.univ q gs ∗ Own d dst Finset.univ fullShare gd ∗ Transfers.Batch EC (d : Thread nD τ) (.dma sm) () N D j u)
      ⊢ iprop((Transfers.Batch EC (d : Thread nD τ) (.dma sm) () N D (j + 1) u -∗ Wp defs 𝒱 bd d (k ⟨⟩) Q)
          -∗ Wp defs 𝒱 bd d (.op (.enqueueDma src (.here dst) (.dma sm) hsrc hdst hsem) k) Q) := by
  unfold Own
  iintro ⟨⟨%fs, %hfs, Hs⟩, ⟨%fd, %hfd, Hd⟩, HB⟩ Hk
  have hD' : iprop((dst.view.loc (d : Thread nD τ) ↦[dst.view.set]{fullShare} (dst.view.write Val fd (ReadAs.same.apply (src.view.read Val fs)) Finset.univ))
              ∗ (src.view.loc (d : Thread nD τ) ↦[src.view.set]{q} fs)) ⊢ D ⟨j, hj⟩ := by
    refine Entails.trans ?_ hD
    unfold Own
    iintro ⟨Hd, Hs⟩
    isplitl [Hs]
    · iexists fs
      isplitr
      · ipureintro; exact hfs
      iexact Hs
    iexists _
    isplitr [Hd]
    rotate_left
    · iexact Hd
    ipureintro
    intro y _
    rw [View.read_write_univ]
    exact hfs y (Finset.mem_univ y)
  iapply (Transfers.wp_dmaBatch EC 𝒱 (d : Thread nD τ) bd (src := src) (dst := dst) (sm := .dma sm) () N hN subset_rfl (D := D) (j := j) (u := u) hj hu hD') $$ [Hs Hd HB]
  · isplitl [Hs]; · iexact Hs
    isplitl [Hd]; · iexact Hd
    iexact HB
  iexact Hk

/-! ## Whatever the contents -/

/-- A part of a buffer owned whole, at any contents. -/
def Any (d : Dev nD) {ms : Space} (m : Memref sig .tc ms s e) (S : Finset s.Idx) : sProp 𝕄 := iprop(∃ g, Own d m S fullShare g)
instance {ms : Space} {m : Memref sig .tc ms s e} {S : Finset s.Idx} : Storable (upEmb : UEmb _ 𝕄) (Any d m S : sProp 𝕄) := by unfold Any; infer_instance

theorem any_of {ms : Space} {m : Memref sig .tc ms s e} {S : Finset s.Idx} {g : s.Idx → Val e} : (Own d m S fullShare g : sProp 𝕄) ⊢ Any d m S := by
  unfold Any; iintro H; iexists g; iexact H
theorem any_split {ms : Space} {m : Memref sig .tc ms s e} {S T : Finset s.Idx} (h : S ⊆ T) : (Any d m T : sProp 𝕄) ⊢ iprop(Any d m S ∗ Any d m (T \ S)) := by
  unfold Any
  iintro ⟨%g, H⟩
  ihave H' := (own_split h) $$ H
  icases H' with ⟨H1, H2⟩
  isplitl [H1]
  · iexists g; iexact H1
  · iexists g; iexact H2

theorem any_load {cs : CoreSpace} {m : Memref sig .tc cs s e} {r : Rect s} {hl : m.view.LoadsAt r.toLoadRect}
    {k : (r.shape.Idx → Val e) → Prog (TpuEff nD τ sig Val Λ .tc) α} {S : Finset s.Idx} (hS : r.set ⊆ S) :
    (Any d m S : sProp 𝕄) ⊢ iprop((∀ v, Any d m S -∗ Wp defs 𝒱 bd d (k v) Q) -∗ Wp defs 𝒱 bd d (.op (.load m r.toLoadRect hl) k) Q) := by
  unfold Any
  iintro ⟨%g, H⟩ Hk
  iapply (own_load hS) $$ H
  iintro H
  iapply Hk
  iexists g; iexact H

open Classical in
theorem any_store {cs : CoreSpace} {m : Memref sig .tc cs s e} {r : Rect s} {w : r.shape.Idx → Val e} {hx : (m.access r).Stores Finset.univ}
    {hm : (Finset.univ : Finset r.shape.Idx) = Finset.univ ∨ ∀ a, r.stride a = 1}
    {k : PUnit → Prog (TpuEff nD τ sig Val Λ .tc) α} {S : Finset s.Idx} (hS : r.set ⊆ S) :
    (Any d m S : sProp 𝕄) ⊢ iprop((Any d m S -∗ Wp defs 𝒱 bd d (k ⟨⟩) Q) -∗ Wp defs 𝒱 bd d (.op (.store m r w Finset.univ hx hm) k) Q) := by
  unfold Any
  iintro ⟨%g, H⟩ Hk
  have h1 : ∀ x, (fun y => if h : ∃ x, r.emb x = y then w h.choose else g y) (r.emb x) = w x := fun x => by
    have h : ∃ x', r.emb x' = r.emb x := ⟨x, rfl⟩
    show (if h : ∃ x', r.emb x' = r.emb x then w h.choose else _) = _
    rw [dif_pos h, r.emb.injective h.choose_spec]
  have h2 : ∀ y ∈ S, y ∉ r.set → (fun y => if h : ∃ x, r.emb x = y then w h.choose else g y) y = g y := fun y _ hy => dif_neg (by rintro ⟨x, rfl⟩; exact hy (emb_mem r x))
  iapply (own_store (fun y => if h : ∃ x, r.emb x = y then w h.choose else g y) hS h1 h2) $$ H
  iintro H
  iapply Hk
  iexists _; iexact H

end Cert.Lookup
-- ==== Proof.Fetch.lean ====
/-
  The fetch of code words: one batch of sixty-four copies a chunk, into the chunk's slot of the ring.
-/
module
public import proofs.«01_k».proof.Proof.Contents
public import proofs.«01_k».proof.Proof.Own
public import Idealize.ShloMosaic.Lib.ValueLayout
@[expose] public section
noncomputable section
namespace Cert.Kernel.Lookup
open Cert.Kernel Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))] {defs : Defs nD τ sig (Elt F) Λ₀} {𝒱 : Variants} {bd : Option 𝒱.V}
variable {d : Dev nD} {α : Type} {Q : α → sProp (MT nD τ sig Unit (Elt F) ℕ U ℕ)} (R : Refs) (X : Inp F)

theorem drop_left {A B : sProp (MT nD τ sig Unit (Elt F) ℕ U ℕ)} : iprop(A ∗ B) ⊢ B := by iintro ⟨-, H⟩; iexact H
theorem fin1 {n : ℕ} (x : Fin n) (h : n = 1) : x.val = 0 := by omega

/-- The copied ids. -/
def Inp.idsAt : S2048.Idx → Elt F .i32 := fun y => X.id (y 0).val
abbrev Ids (d : Dev nD) : sProp 𝕄 := Own d R.idw Finset.univ fullShare X.idsAt

theorem id_idx {base : BitVec 32} (hb : base.toNat ≤ 1984) {r : ℕ} (hr : r < 64) (hv : base.toNat + r < 2048) (x : S1.Idx) :
    (Rect.unit (s := S2048) (gOff base r) S1.size (gOff_inb base hb r hr)).emb x = ix1 (⟨base.toNat + r, hv⟩ : Fin 2048) := by
  funext a; obtain rfl : a = 0 := Subsingleton.elim _ _
  refine Fin.ext ?_
  have h0 : (x 0).val = 0 := fin1 (x 0) rfl
  show gOff base r 0 + 1 * (x 0).val = base.toNat + r
  rw [gOff_val base hb r hr, h0]
  rfl
theorem idsAt_ix {i : ℕ} (hi : i < 2048) : X.idsAt (ix1 (⟨i, hi⟩ : Fin 2048)) = X.id i := rfl
theorem wp_id {base : BitVec 32} (hb : base.toNat ≤ 1984) {r : ℕ} (hr : r < 64) {k : BitVec 32 → P F α} :
    (Ids R X d : sProp (MT nD τ sig Unit (Elt F) ℕ U ℕ)) ⊢ iprop((Ids R X d -∗ Wp defs 𝒱 bd d (k (X.id (base.toNat + r))) Q)
      -∗ Wp defs 𝒱 bd d (smemLoad R.idw (Rect.unit (s := S2048) (gOff base r) S1.size (gOff_inb base hb r hr)) numel1_S1 rfl >>= k) Q) := by
  have hv : base.toNat + r < 2048 := by omega
  rw [← idsAt_ix X hv]
  exact own_smemLoad (U := U) (𝒱 := 𝒱) (defs := defs) (bd := bd) (Val := Elt F) (nD := nD) (τ := τ) (Λ := Λ₀) (m := R.idw) (r := Rect.unit (s := S2048) (gOff base r) S1.size (gOff_inb base hb r hr)) (k := k)
    (Finset.subset_univ _) (ix1 (⟨base.toNat + r, hv⟩ : Fin 2048)) (id_idx hb hr hv)

/-- Part of a chunk's slot in the ring: rows from `a` to `b`. -/
def ringRows (n a b : ℕ) : Finset S11x64x2560.Idx := Finset.univ.filter fun y => (y 0).val = n % 11 ∧ a ≤ (y 1).val ∧ (y 1).val < b
theorem mem_ringRows {n a b : ℕ} {y : S11x64x2560.Idx} : y ∈ ringRows n a b ↔ (y 0).val = n % 11 ∧ a ≤ (y 1).val ∧ (y 1).val < b := by
  unfold ringRows; rw [Finset.mem_filter]; exact ⟨fun h => h.2, fun h => ⟨Finset.mem_univ _, h⟩⟩
/-- Chunk `n`'s code words. -/
def Inp.ringAt (n : ℕ) : S11x64x2560.Idx → Elt F .i32 := fun y => X.word n (y 1).val (y 2).val

theorem rect_congr {s : Shape} {o o' z : Fin s.rank → ℕ} {h : ∀ a, o a + z a ≤ s.size a} {h' : ∀ a, o' a + z a ≤ s.size a} (e : o = o') :
    Rect.unit (s := s) o z h = Rect.unit o' z h' := by subst e; rfl
theorem ringSem_inb (n : ℕ) : ∀ a, (![n % 11] : Fin 1 → ℕ) a + S1.size a ≤ S11.size a := by
  intro a; obtain rfl : a = 0 := Subsingleton.elim _ _
  show n % 11 + 1 ≤ 11; omega
/-- The semaphore at an offset of the ring's. -/
def Refs.ringSemAt (o : Fin 1 → ℕ) (h : ∀ a, o a + S1.size a ≤ S11.size a) : DmaSem sig := ((R.semRing.slice (Rect.unit (s := S11) o S1.size h)).squeeze S_ squeezes_S1_S_).sem
theorem ringSemAt_congr {o o' : Fin 1 → ℕ} {h h'} (e : o = o') : R.ringSemAt o h = R.ringSemAt o' h' := by subst e; rfl
/-- The semaphore of a chunk's slot. -/
def Refs.ringSem (n : ℕ) : DmaSem sig := R.ringSemAt ![n % 11] (ringSem_inb n)
theorem slotSem_eq (w : BitVec 32) (hw : w.toNat < 32) : R.slotSem w hw = R.ringSem w.toNat :=
  ringSemAt_congr R (h := slotOff1_inb w hw) (by unfold slotOff1; rw [slot_val w hw])
theorem ringSem_add (n : ℕ) : R.ringSem (n + 11) = R.ringSem n :=
  ringSemAt_congr R (by rw [show (n + 11) % 11 = n % 11 by omega])
theorem ringRows_add (n a b : ℕ) : ringRows (n + 11) a b = ringRows n a b := by
  have e : (n + 11) % 11 = n % 11 := by omega
  unfold ringRows; simp only [e]

/-- What one row's copy counts on its semaphore. -/
abbrev Refs.rowCredit : ℕ := sig.dmaCredit .tc (Kind.table .tc .vmem) R.ring.view.buf S1x2560 .i32

/-- Chunk `n`'s batch with `j` copies started and `u` units waited for. -/
abbrev Flight (d : Dev nD) (n j u : ℕ) : sProp 𝕄 :=
  Transfers.Batch EC (d : Thread nD τ) (.dma (R.ringSem n)) () R.rowCredit
    (fun t : Fin 64 => Own d R.ring (ringRows n t.val (t.val + 1)) fullShare (X.ringAt n)) j u

abbrev wordsAt (d : Dev nD) : sProp 𝕄 := Read d R.words (X.words : S4000x2560.Idx → Elt F .i32)

theorem slot_idx (w : BitVec 32) (hw : w.toNat < 32) (x : S64x2560.Idx) : ∀ a,
    (((Rect.unit (s := S11x64x2560) (slotOff3 w 0) S1x64x2560.size (slotOff3_inb w hw)).emb
      (Shape.reshapeEquiv (squeezes_S1x64x2560_S64x2560).numel_eq x)) a).val = (![w.toNat % 11, (x 0).val, (x 1).val] : Fin 3 → ℕ) a := by
  have e : Shape.reshapeEquiv (squeezes_S1x64x2560_S64x2560).numel_eq x = ix3 (⟨0, Nat.one_pos⟩ : Fin 1) (x 0) (x 1) := by
    conv_lhs => rw [eq_ix2 x]
    exact reshapeEquiv_ix2_1ab _ _ _
  rw [e]
  intro a
  fin_cases a
  · show (Scalar.remsi w 11#32).toNat + 1 * 0 = w.toNat % 11
    rw [slot_val w hw]; omega
  · show 0 + 1 * (x 0).val = (x 0).val; omega
  · show 0 + 1 * (x 1).val = (x 1).val; omega

/-- Row `r` of a chunk's slot as the copy addresses it. -/
abbrev Refs.slotRow (w : BitVec 32) (hw : w.toNat < 32) (r : ℕ) (hr : r < 64) : Memref sig .tc .vmem S1x2560 .i32 :=
  (R.slot w hw).slice (Rect.unit (s := S64x2560) ![r, 0] S1x2560.size (ringRow_inb r hr)) (fun _ => rfl)

/-- The elements of the slot, by row, as elements of the ring. -/
theorem slot_iff (w : BitVec 32) (hw : w.toNat < 32) (a b : ℕ) :
    (∀ y ∈ ringRows w.toNat a b, ∃ x ∈ (Finset.univ.filter fun x : S1x64x2560.Idx => a ≤ (x 1).val ∧ (x 1).val < b),
      (Rect.unit (s := S11x64x2560) (slotOff3 w 0) S1x64x2560.size (slotOff3_inb w hw)).emb x = y)
    ∧ (∀ x ∈ (Finset.univ.filter fun x : S1x64x2560.Idx => a ≤ (x 1).val ∧ (x 1).val < b),
      (Rect.unit (s := S11x64x2560) (slotOff3 w 0) S1x64x2560.size (slotOff3_inb w hw)).emb x ∈ ringRows w.toNat a b) := by
  have hs := slot_val w hw
  constructor
  · intro y hy
    obtain ⟨h0, h1, h2⟩ := mem_ringRows.1 hy
    refine ⟨ix3 (⟨0, Nat.one_pos⟩ : Fin 1) (y 1) (y 2), Finset.mem_filter.2 ⟨Finset.mem_univ _, h1, h2⟩, ?_⟩
    funext k
    match k with
    | ⟨0, _⟩ => exact Fin.ext (show (Scalar.remsi w 11#32).toNat + 1 * 0 = (y 0).val by rw [hs, h0]; omega)
    | ⟨1, _⟩ => exact Fin.ext (show 0 + 1 * (y 1).val = (y 1).val by omega)
    | ⟨2, _⟩ => exact Fin.ext (show 0 + 1 * (y 2).val = (y 2).val by omega)
  · intro x hx
    obtain ⟨-, h1, h2⟩ := Finset.mem_filter.1 hx
    refine mem_ringRows.2 ⟨?_, ?_, ?_⟩
    · have h0 : (x 0).val = 0 := fin1 (x 0) rfl
      show (Scalar.remsi w 11#32).toNat + 1 * (x 0).val = _; rw [hs, h0]; omega
    · show a ≤ 0 + 1 * (x 1).val; omega
    · show 0 + 1 * (x 1).val < b; omega

theorem squeeze_iff (r : ℕ) (hr : r < 64) :
    (∀ y ∈ (Finset.univ.filter fun x : S1x64x2560.Idx => r ≤ (x 1).val ∧ (x 1).val < r + 1),
      ∃ x ∈ (Finset.univ.filter fun x : S64x2560.Idx => (x 0).val = r), Shape.reshapeEquiv (squeezes_S1x64x2560_S64x2560).numel_eq x = y)
    ∧ (∀ x ∈ (Finset.univ.filter fun x : S64x2560.Idx => (x 0).val = r),
      Shape.reshapeEquiv (squeezes_S1x64x2560_S64x2560).numel_eq x ∈ (Finset.univ.filter fun x : S1x64x2560.Idx => r ≤ (x 1).val ∧ (x 1).val < r + 1)) := by
  constructor
  · intro y hy
    obtain ⟨-, h1, h2⟩ := Finset.mem_filter.1 hy
    refine ⟨ix2 (y 1) (y 2), Finset.mem_filter.2 ⟨Finset.mem_univ _, show (y 1).val = r by omega⟩, ?_⟩
    refine (reshapeEquiv_ix2_1ab _ _ _).trans ?_
    funext k
    match k with
    | ⟨0, _⟩ => exact Fin.ext (fin1 (y 0) rfl).symm
    | ⟨1, _⟩ => rfl
    | ⟨2, _⟩ => rfl
  · intro x hx
    obtain ⟨-, h1⟩ := Finset.mem_filter.1 hx
    rw [show Shape.reshapeEquiv (squeezes_S1x64x2560_S64x2560).numel_eq x = ix3 (⟨0, Nat.one_pos⟩ : Fin 1) (x 0) (x 1) from
      (congrArg _ (eq_ix2 x)).trans (reshapeEquiv_ix2_1ab _ _ _)]
    exact Finset.mem_filter.2 ⟨Finset.mem_univ _, show r ≤ (x 0).val by omega, show (x 0).val < r + 1 by omega⟩

theorem row_iff (r : ℕ) (hr : r < 64) :
    (∀ y ∈ (Finset.univ.filter fun x : S64x2560.Idx => (x 0).val = r), ∃ x ∈ (Finset.univ : Finset S1x2560.Idx),
      (Rect.unit (s := S64x2560) ![r, 0] S1x2560.size (ringRow_inb r hr)).emb x = y)
    ∧ (∀ x ∈ (Finset.univ : Finset S1x2560.Idx),
      (Rect.unit (s := S64x2560) ![r, 0] S1x2560.size (ringRow_inb r hr)).emb x ∈ (Finset.univ.filter fun x : S64x2560.Idx => (x 0).val = r)) := by
  constructor
  · intro y hy
    obtain ⟨-, h1⟩ := Finset.mem_filter.1 hy
    refine ⟨ix2 (⟨0, Nat.one_pos⟩ : Fin 1) (y 1), Finset.mem_univ _, ?_⟩
    funext k
    match k with
    | ⟨0, _⟩ => exact Fin.ext (show r + 1 * 0 = (y 0).val by omega)
    | ⟨1, _⟩ => exact Fin.ext (show 0 + 1 * (y 1).val = (y 1).val by omega)
  · intro x _
    have h0 : (x 0).val = 0 := fin1 (x 0) rfl
    exact Finset.mem_filter.2 ⟨Finset.mem_univ _, show r + 1 * (x 0).val = r by omega⟩

variable {q : PosShare TreeShare}

/-- A function on the ring read through a row of a chunk's slot. -/
abbrev viaRow {β : Type} (w : BitVec 32) (hw : w.toNat < 32) (r : ℕ) (hr : r < 64) (g : S11x64x2560.Idx → β) : S1x2560.Idx → β := fun x =>
  g ((Rect.unit (s := S11x64x2560) (slotOff3 w 0) S1x64x2560.size (slotOff3_inb w hw)).emb
    (Shape.reshapeEquiv (squeezes_S1x64x2560_S64x2560).numel_eq ((Rect.unit (s := S64x2560) ![r, 0] S1x2560.size (ringRow_inb r hr)).emb x)))

theorem row_in (w : BitVec 32) (hw : w.toNat < 32) (r : ℕ) (hr : r < 64) (g : S11x64x2560.Idx → Elt F .i32) :
    (Own d R.ring (ringRows w.toNat r (r + 1)) q g : sProp 𝕄) ⊢ Own d (R.slotRow w hw r hr) Finset.univ q (viaRow w hw r hr g) :=
  ((own_slice_in (slot_iff w hw r (r + 1)).1 (slot_iff w hw r (r + 1)).2 fun _ _ => rfl).trans
    (own_squeeze_in (squeeze_iff r hr).1 (squeeze_iff r hr).2 fun _ _ => rfl)).trans (own_slice_in (row_iff r hr).1 (row_iff r hr).2 fun _ _ => rfl)
theorem row_out (w : BitVec 32) (hw : w.toNat < 32) (r : ℕ) (hr : r < 64) (g : S11x64x2560.Idx → Elt F .i32) :
    Own d (R.slotRow w hw r hr) Finset.univ q (viaRow w hw r hr g) ⊢ (Own d R.ring (ringRows w.toNat r (r + 1)) q g : sProp 𝕄) :=
  have h1 : (Own d (R.slotRow w hw r hr) Finset.univ q (viaRow w hw r hr g) : sProp 𝕄) ⊢ Own d (R.slot w hw) (Finset.univ.filter fun x : S64x2560.Idx => (x 0).val = r) q
      (fun x => g ((Rect.unit (s := S11x64x2560) (slotOff3 w 0) S1x64x2560.size (slotOff3_inb w hw)).emb (Shape.reshapeEquiv (squeezes_S1x64x2560_S64x2560).numel_eq x))) :=
    own_slice_out (row_iff r hr).1 (row_iff r hr).2 fun _ _ => rfl
  have h2 : (Own d (R.slot w hw) (Finset.univ.filter fun x : S64x2560.Idx => (x 0).val = r) q
      (fun x => g ((Rect.unit (s := S11x64x2560) (slotOff3 w 0) S1x64x2560.size (slotOff3_inb w hw)).emb (Shape.reshapeEquiv (squeezes_S1x64x2560_S64x2560).numel_eq x))) : sProp 𝕄)
      ⊢ Own d (R.ring.slice (Rect.unit (s := S11x64x2560) (slotOff3 w 0) S1x64x2560.size (slotOff3_inb w hw)) (fun _ => rfl))
        (Finset.univ.filter fun x : S1x64x2560.Idx => r ≤ (x 1).val ∧ (x 1).val < r + 1) q
        (fun x => g ((Rect.unit (s := S11x64x2560) (slotOff3 w 0) S1x64x2560.size (slotOff3_inb w hw)).emb x)) :=
    own_squeeze_out (squeeze_iff r hr).1 (squeeze_iff r hr).2 fun _ _ => rfl
  (h1.trans h2).trans (own_slice_out (slot_iff w hw r (r + 1)).1 (slot_iff w hw r (r + 1)).2 fun _ _ => rfl)

theorem src_val {X : Inp F} (n r : ℕ) (hid : (X.id (64 * n + r)).toNat < 16000) (h) (x : S1x2560.Idx) :
    X.words ((Rect.unit (s := S4000x2560) (k0_off4 (X.id (64 * n + r))) S1x2560.size h).emb x) = X.word n r (x 1).val := by
  have h0 : (x 0).val = 0 := fin1 (x 0) rfl
  have e0 : ((Rect.unit (s := S4000x2560) (k0_off4 (X.id (64 * n + r))) S1x2560.size h).emb x 0).val = (X.id (64 * n + r)).toNat / 4 := by
    show k0_off4 (X.id (64 * n + r)) 0 + 1 * (x 0).val = _
    rw [off4_val _ hid, h0]; rfl
  have e1 : ((Rect.unit (s := S4000x2560) (k0_off4 (X.id (64 * n + r))) S1x2560.size h).emb x 1).val = (x 1).val := by
    show k0_off4 (X.id (64 * n + r)) 1 + 1 * (x 1).val = _
    rw [off4_val _ hid, Nat.one_mul]; exact Nat.zero_add _
  refine (at2_val (a := 4000) (b := 2560) X.words _).symm.trans ?_
  exact congrArg₂ (at2 X.words) e0 e1

theorem src_in {X : Inp F} (n r : ℕ) (hid : (X.id (64 * n + r)).toNat < 16000) (h) (h2) (w : BitVec 32) (hw : w.toNat < 32) (hn : w.toNat = n) (hr : r < 64) :
    (Own d R.words (Rect.unit (s := S4000x2560) (k0_off4 (X.id (64 * n + r))) S1x2560.size h).set q X.words : sProp (MT nD τ sig Unit (Elt F) ℕ U ℕ))
      ⊢ Own d (R.words.slice (Rect.unit (s := S4000x2560) (k0_off4 (X.id (64 * n + r))) S1x2560.size h) h2) Finset.univ q (viaRow w hw r hr (X.ringAt n)) := by
  refine own_slice_in (fun y hy => (of_mem hy).imp fun x h => ⟨Finset.mem_univ x, h⟩) (fun x _ => emb_mem _ x) ?_
  intro x _
  rw [src_val n r hid]
  have h0 : (x 0).val = 0 := fin1 (x 0) rfl
  have e := slot_idx w hw ((Rect.unit (s := S64x2560) ![r, 0] S1x2560.size (ringRow_inb r hr)).emb x)
  unfold viaRow Inp.ringAt
  refine Eq.symm ((congrArg₂ (X.word n) (e 1) (e 2)).trans ?_)
  refine congrArg₂ (X.word n) (?_ : r + 1 * (x 0).val = r) ((Nat.zero_add _).trans (Nat.one_mul _) : 0 + 1 * (x 1).val = (x 1).val)
  rw [h0]; rfl

theorem wp_fetchRow (hX : X.Ok) (w : BitVec 32) (hw : w.toNat < 32) (r : ℕ) (hr : r < 64) (K : P F α) (g : S11x64x2560.Idx → Elt F .i32) :
    iprop(Ids R X d ∗ wordsAt R X d ∗ Own d R.ring (ringRows w.toNat r 64) fullShare g ∗ Flight EC R X d w.toNat r 0)
      ⊢ iprop((iprop(Ids R X d ∗ wordsAt R X d ∗ Own d R.ring (ringRows w.toNat (r + 1) 64) fullShare g ∗ Flight EC R X d w.toNat (r + 1) 0)
          -∗ Wp defs 𝒱 bd d K Q) -∗ Wp defs 𝒱 bd d (fetchRow R w hw r hr K) Q) := by
  have hid := hX (64 * w.toNat + r)
  have hsub : ringRows w.toNat r (r + 1) ⊆ ringRows w.toNat r 64 := fun y hy => by
    rw [mem_ringRows] at hy ⊢; omega
  have hrest : ringRows w.toNat r 64 \ ringRows w.toNat r (r + 1) = ringRows w.toNat (r + 1) 64 := by
    ext y; rw [Finset.mem_sdiff, mem_ringRows, mem_ringRows, mem_ringRows]; omega
  unfold fetchRow Flight
  rw [← slotSem_eq R w hw]
  iintro ⟨Hid, Hw, Hr, HB⟩ Hk
  iapply (wp_id R X (mul64_le w hw) hr) $$ Hid
  iintro Hid
  rw [mul64 w hw]
  iapply (wp_assume 𝒱 (d : Thread nD τ) bd Set.univ (chk1_ok _ hid))
  ihave Hw' := read_dup $$ Hw
  icases Hw' with ⟨Hw, Hw2⟩
  unfold Read
  icases Hw2 with ⟨%q, Hw2⟩
  ihave Hr' := (own_split hsub) $$ Hr
  icases Hr' with ⟨Hrow, Hr⟩
  rw [hrest]
  ihave Hrow' := (row_in R w hw r hr g) $$ Hrow
  ihave Hs := (own_split (Finset.subset_univ (Rect.unit (s := S4000x2560) (k0_off4 (X.id (64 * w.toNat + r))) S1x2560.size (k0_off4_inb _ (chk1_ok _ hid))).set)) $$ Hw2
  icases Hs with ⟨Hs, -⟩
  ihave Hs' := (src_in R w.toNat r hid (k0_off4_inb _ (chk1_ok _ hid)) (fun _ => rfl) w hw rfl hr) $$ Hs
  have hD : iprop(Own d (R.words.slice (Rect.unit (s := S4000x2560) (k0_off4 (X.id (64 * w.toNat + r))) S1x2560.size (k0_off4_inb _ (chk1_ok _ hid))) (fun _ => rfl))
        Finset.univ q (viaRow w hw r hr (X.ringAt w.toNat)) ∗ Own d (R.slotRow w hw r hr) Finset.univ fullShare (viaRow w hw r hr (X.ringAt w.toNat)))
      ⊢ (fun t : Fin 64 => (Own d R.ring (ringRows w.toNat t.val (t.val + 1)) fullShare (X.ringAt w.toNat) : sProp (MT nD τ sig Unit (Elt F) ℕ U ℕ))) ⟨r, hr⟩ :=
    drop_left.trans (row_out R w hw r hr (X.ringAt w.toNat))
  iapply (own_dma EC (D := fun t : Fin 64 => Own d R.ring (ringRows w.toNat t.val (t.val + 1)) fullShare (X.ringAt w.toNat)) R.rowCredit rfl hr (Nat.zero_le _) hD) $$ [Hs' Hrow' HB]
  · isplitl [Hs']; · iexact Hs'
    isplitl [Hrow']; · iexact Hrow'
    iexact HB
  iintro HB
  iapply Hk
  isplitl [Hid]; · iexact Hid
  isplitl [Hw]; · unfold wordsAt Read; iexact Hw
  isplitl [Hr]; · iexact Hr
  iexact HB

theorem wp_fetchRows (hX : X.Ok) (w : BitVec 32) (hw : w.toNat < 32) (K : P F α) (g : S11x64x2560.Idx → Elt F .i32) :
    ∀ (n r : ℕ) (h : r + n ≤ 64), iprop(Ids R X d ∗ wordsAt R X d ∗ Own d R.ring (ringRows w.toNat r 64) fullShare g ∗ Flight EC R X d w.toNat r 0)
      ⊢ iprop((iprop(Ids R X d ∗ wordsAt R X d ∗ Own d R.ring (ringRows w.toNat (r + n) 64) fullShare g ∗ Flight EC R X d w.toNat (r + n) 0)
          -∗ Wp defs 𝒱 bd d K Q) -∗ Wp defs 𝒱 bd d (fetchRows R w hw K n r h) Q)
  | 0, r, h => by
    iintro H Hk
    iapply Hk
    iexact H
  | n + 1, r, h => by
    have e : r + (n + 1) = r + 1 + n := by omega
    rw [e]
    iintro H Hk
    unfold fetchRows
    iapply (wp_fetchRow EC R X hX w hw r _ _ g) $$ H
    iintro H
    iapply (wp_fetchRows hX w hw K g n (r + 1) _) $$ H
    iexact Hk

/-- A slot of the ring free: any contents, its semaphore at zero. -/
abbrev Free (d : Dev nD) (n : ℕ) : sProp (MT nD τ sig Unit (Elt F) ℕ U ℕ) := iprop(Any d R.ring (ringRows n 0 64) ∗ semVal ((d : Thread nD τ), SemLoc.dma (R.ringSem n)) 0)
/-- A chunk's slot while its rows are being started: `j` of them so far. -/
abbrev Filling (d : Dev nD) (n j : ℕ) : sProp (MT nD τ sig Unit (Elt F) ℕ U ℕ) := iprop((∃ g, Own d R.ring (ringRows n j 64) fullShare g) ∗ Flight EC R X d n j 0)

theorem wp_filling (hX : X.Ok) (w : BitVec 32) (hw : w.toNat < 32) (K : P F α) (n r : ℕ) (h : r + n ≤ 64) :
    iprop(Ids R X d ∗ wordsAt R X d ∗ Filling EC R X d w.toNat r)
      ⊢ iprop((iprop(Ids R X d ∗ wordsAt R X d ∗ Filling EC R X d w.toNat (r + n)) -∗ Wp defs 𝒱 bd d K Q) -∗ Wp defs 𝒱 bd d (fetchRows R w hw K n r h) Q) := by
  iintro ⟨H1, H2, ⟨%g, H3⟩, H4⟩ Hk
  iapply (wp_fetchRows EC R X hX w hw K g n r h) $$ [H1 H2 H3 H4]
  · isplitl [H1]; · iexact H1
    isplitl [H2]; · iexact H2
    isplitl [H3]; · iexact H3
    iexact H4
  iintro ⟨H1, H2, H3, H4⟩
  iapply Hk
  isplitl [H1]; · iexact H1
  isplitl [H2]; · iexact H2
  isplitl [H3]; · iexists g; iexact H3
  iexact H4

theorem free_fill (n : ℕ) : (Free R d n : sProp (MT nD τ sig Unit (Elt F) ℕ U ℕ)) ⊢ |={Set.univ}=> Filling EC R X d n 0 := by
  iintro ⟨H, Hv⟩
  unfold Any
  imod (Transfers.batch_alloc' EC (d : Thread nD τ) () R.rowCredit (fun t : Fin 64 => Own d R.ring (ringRows n t.val (t.val + 1)) fullShare (X.ringAt n))
    (sm := .dma (R.ringSem n)) (E := Set.univ)) $$ Hv with HB
  imodintro
  isplitl [H]; · iexact H
  iexact HB

theorem slot_credit (w : BitVec 32) (hw : w.toNat < 32) (hc : sig.dmaCredit .tc (Kind.table .tc .vmem) R.ring.view.buf S64x2560 .i32 = 64 * R.rowCredit) :
    (R.slot w hw).view.dmaCredit = 64 * R.rowCredit := hc

abbrev Ows (d : Dev nD) : sProp (MT nD τ sig Unit (Elt F) ℕ U ℕ) := iprop(∃ W, owes (d : Thread nD τ) 0 W)

theorem ring_union (n : ℕ) : (Finset.univ : Finset (Fin 64)).biUnion (fun t => ringRows n t.val (t.val + 1)) = ringRows n 0 64 := by
  ext y
  rw [Finset.mem_biUnion, mem_ringRows]
  constructor
  · rintro ⟨t, -, ht⟩; rw [mem_ringRows] at ht; have := t.isLt; omega
  · rintro ⟨h0, -, h2⟩; exact ⟨⟨(y 1).val, h2⟩, Finset.mem_univ _, mem_ringRows.2 ⟨h0, Nat.le_refl _, Nat.lt_succ_self _⟩⟩

theorem wp_waitSlot (w : BitVec 32) (hw : w.toNat < 32) (K : P F α) (hN : 0 < R.rowCredit)
    (hc : sig.dmaCredit .tc (Kind.table .tc .vmem) R.ring.view.buf S64x2560 .i32 = 64 * R.rowCredit) :
    iprop(Flight EC R X d w.toNat 64 0 ∗ Ows d)
      ⊢ iprop((iprop(Free R d w.toNat ∗ Ows d) -∗ Wp defs 𝒱 bd d K Q) -∗ Wp defs 𝒱 bd d (waitSlot R w hw K) Q) := by
  unfold waitSlot Free Flight
  rw [← slotSem_eq R w hw]
  iintro ⟨HB, ⟨%W, HO⟩⟩ Hk
  iapply (Transfers.wp_waitBatchAll EC 𝒱 (d : Thread nD τ) bd () (slot_credit R w hw hc) hN (D := (fun t : Fin 64 => Own d R.ring (ringRows w.toNat t.val (t.val + 1)) fullShare (X.ringAt w.toNat))) (u := 0) (by rw [Nat.zero_add, Nat.mul_comm])) $$ [HB HO]
  · isplitl [HB]; · iexact HB
    iexact HO
  iintro ⟨HD, Hv, HO⟩
  ihave HD' := (own_bigSep Finset.univ (fun t : Fin 64 => ringRows w.toNat t.val (t.val + 1)) (by
    intro a _ b _ hab
    rw [Finset.disjoint_left]
    intro y ha hb
    rw [mem_ringRows] at ha hb
    exact hab (Fin.ext (by omega)))) $$ HD
  rw [ring_union]
  iapply Hk
  isplitl [HD' Hv]
  · isplitl [HD']
    · iapply any_of; iexact HD'
    iexact Hv
  iexists _; iexact HO

end Cert.Kernel.Lookup
-- ==== Proof.Scales.lean ====
/-
  The pieces of the kernel between copies: the narrow rows, the scales, the blocks. Every access is inside its buffer,
  and the matrix unit is used in order.
-/
module
public import proofs.«01_k».proof.Proof.Fetch
@[expose] public section
noncomputable section
namespace Cert.Kernel.Lookup
open Cert.Kernel Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

abbrev All {s : Shape} {e : EltTy} (d : Dev nD) {ms : Space} (m : Memref sig .tc ms s e) : sProp (MT nD τ sig Unit (Elt F) ℕ U ℕ) := Any d m Finset.univ

theorem wp_gatherRow (hX : X.Ok) (base : BitVec 32) (hb : base.toNat ≤ 1984) (r : ℕ) (hr : r < 64) (K : P F α) :
    iprop(Ids R X d ∗ All d R.table ∗ All d R.rows)
      ⊢ iprop((iprop(Ids R X d ∗ All d R.table ∗ All d R.rows) -∗ Wp defs 𝒱 bd d K Q) -∗ Wp defs 𝒱 bd d (gatherRow R base hb r hr K) Q) := by
  have hid := hX (base.toNat + r)
  unfold gatherRow
  iintro ⟨Hid, Ht, Hr⟩ Hk
  iapply (wp_id R X hb hr) $$ Hid
  iintro Hid
  iapply (wp_assume 𝒱 (d : Thread nD τ) bd Set.univ (chk257_ok _ hid))
  iapply (any_load (Finset.subset_univ _)) $$ Ht
  iintro %v Ht
  iapply (any_load (Finset.subset_univ _)) $$ Hr
  iintro %v' Hr
  iapply (any_store (Finset.subset_univ _)) $$ Hr
  iintro Hr
  iapply Hk
  isplitl [Hid]; · iexact Hid
  isplitl [Ht]; · iexact Ht
  iexact Hr

theorem wp_gatherRows (hX : X.Ok) (base : BitVec 32) (hb : base.toNat ≤ 1984) (K : P F α) : ∀ (n r : ℕ) (h : r + n ≤ 64),
    iprop(Ids R X d ∗ All d R.table ∗ All d R.rows)
      ⊢ iprop((iprop(Ids R X d ∗ All d R.table ∗ All d R.rows) -∗ Wp defs 𝒱 bd d K Q) -∗ Wp defs 𝒱 bd d (gatherRows R base hb K n r h) Q)
  | 0, r, h => by
    iintro H Hk
    iapply Hk
    iexact H
  | n + 1, r, h => by
    iintro H Hk
    unfold gatherRows
    iapply (wp_gatherRow R X hX base hb r _ _) $$ H
    iintro H
    iapply (wp_gatherRows hX base hb K n (r + 1) _) $$ H
    iexact Hk

theorem wp_loadGroups (K : (ℕ → IVec S8x128 32) → P F α) : ∀ (n g : ℕ) (h : g + n ≤ 8) (ws : ℕ → IVec S8x128 32),
    (All d R.rows : sProp (MT nD τ sig Unit (Elt F) ℕ U ℕ))
      ⊢ iprop((∀ ws, All d R.rows -∗ Wp defs 𝒱 bd d (K ws) Q) -∗ Wp defs 𝒱 bd d (loadGroups R K n g h ws) Q)
  | 0, g, h, ws => by
    unfold loadGroups
    iintro H Hk
    iapply Hk $$ %ws
    iexact H
  | n + 1, g, h, ws => by
    iintro H Hk
    unfold loadGroups
    iapply (any_load (Finset.subset_univ _)) $$ H
    iintro %v H
    iapply (wp_loadGroups K n (g + 1) _ _) $$ H
    iexact Hk

theorem wp_narrow (hX : X.Ok) (base : BitVec 32) (hb : base.toNat ≤ 1984)
    (K : (ℕ → IVec S8x128 32) → (ℕ → IVec S8x128 32) → (ℕ → IVec S8x128 32) → P F α) :
    iprop(Ids R X d ∗ All d R.table ∗ All d R.rows)
      ⊢ iprop((∀ w0 w1 w2, iprop(Ids R X d ∗ All d R.table ∗ All d R.rows) -∗ Wp defs 𝒱 bd d (K w0 w1 w2) Q)
        -∗ Wp defs 𝒱 bd d (narrow R base hb K) Q) := by
  unfold narrow
  iintro H Hk
  iapply (wp_gatherRows R X hX base hb _ 64 0 _) $$ H
  iintro ⟨Hid, Ht, Hr⟩
  iapply (wp_loadGroups R _ 8 0 _ _) $$ Hr
  iintro %w0 Hr
  iapply (wp_loadGroups R _ 8 0 _ _) $$ Hr
  iintro %w1 Hr
  iapply (wp_loadGroups R _ 8 0 _ _) $$ Hr
  iintro %w2 Hr
  iapply Hk
  isplitl [Hid]; · iexact Hid
  isplitl [Ht]; · iexact Ht
  iexact Hr

theorem wp_spreadGroups (j : ℕ) (hj : j < 20) (p0 p1 : ℕ → FVec F S8x128 .f32) (K : P F α) : ∀ (n g : ℕ) (h : g + n ≤ 8),
    (All d R.scale : sProp (MT nD τ sig Unit (Elt F) ℕ U ℕ))
      ⊢ iprop((All d R.scale -∗ Wp defs 𝒱 bd d K Q) -∗ Wp defs 𝒱 bd d (spreadGroups R j hj p0 p1 K n g h) Q)
  | 0, g, h => by
    iintro H Hk
    iapply Hk
    iexact H
  | n + 1, g, h => by
    iintro H Hk
    unfold spreadGroups
    iapply (any_load (Finset.subset_univ _)) $$ H
    iintro %v H
    iapply (any_store (Finset.subset_univ _)) $$ H
    iintro H
    iapply (wp_spreadGroups j hj p0 p1 K n (g + 1) _) $$ H
    iexact Hk

theorem wp_spreadAll (p0 p1 : ℕ → FVec F S8x128 .f32) (K : P F α) : ∀ (n j : ℕ) (h : j + n ≤ 20),
    (All d R.scale : sProp (MT nD τ sig Unit (Elt F) ℕ U ℕ))
      ⊢ iprop((All d R.scale -∗ Wp defs 𝒱 bd d K Q) -∗ Wp defs 𝒱 bd d (spreadAll R p0 p1 K n j h) Q)
  | 0, j, h => by
    iintro H Hk
    iapply Hk
    iexact H
  | n + 1, j, h => by
    iintro H Hk
    unfold spreadAll
    iapply (wp_spreadGroups R j _ p0 p1 _ 8 0 _) $$ H
    iintro H
    iapply (wp_spreadAll p0 p1 K n (j + 1) _) $$ H
    iexact Hk

theorem wp_storeShifts (sh : ℕ → IVec S8x128 32) (K : P F α) : ∀ (n g : ℕ) (h : g + n ≤ 8),
    (All d R.shift : sProp (MT nD τ sig Unit (Elt F) ℕ U ℕ))
      ⊢ iprop((All d R.shift -∗ Wp defs 𝒱 bd d K Q) -∗ Wp defs 𝒱 bd d (storeShifts R sh K n g h) Q)
  | 0, g, h => by
    iintro H Hk
    iapply Hk
    iexact H
  | n + 1, g, h => by
    iintro H Hk
    unfold storeShifts
    iapply (any_load (Finset.subset_univ _)) $$ H
    iintro %v H
    iapply (any_store (Finset.subset_univ _)) $$ H
    iintro H
    iapply (wp_storeShifts sh K n (g + 1) _) $$ H
    iexact Hk

theorem wp_tiles (k : ℕ) (hk : k < 25) (K : P F α) : ∀ (n u : ℕ) (h : u + n ≤ 5),
    iprop(All d R.sub ∗ All d R.sup ∗ All d R.table)
      ⊢ (iprop((iprop(All d R.sub ∗ All d R.sup ∗ All d R.table) -∗ Wp defs 𝒱 bd d K Q) -∗ Wp defs 𝒱 bd d (tiles R k hk K n u h) Q)
        : sProp (MT nD τ sig Unit (Elt F) ℕ U ℕ))
  | 0, u, h => by
    iintro H Hk
    iapply Hk
    iexact H
  | n + 1, u, h => by
    iintro ⟨H1, H2, H3⟩ Hk
    unfold tiles
    iapply (any_load (Finset.subset_univ _)) $$ H1
    iintro %v1 H1
    iapply (any_load (Finset.subset_univ _)) $$ H2
    iintro %v2 H2
    iapply (any_load (Finset.subset_univ _)) $$ H3
    iintro %v3 H3
    iapply (any_store (Finset.subset_univ _)) $$ H3
    iintro H3
    iapply (wp_tiles k hk K n (u + 1) _) $$ [H1 H2 H3]
    · isplitl [H1]; · iexact H1
      isplitl [H2]; · iexact H2
      iexact H3
    iexact Hk

theorem wp_storePerm (K : P F α) :
    (All d R.perm : sProp (MT nD τ sig Unit (Elt F) ℕ U ℕ))
      ⊢ iprop((Own d R.perm Finset.univ fullShare permVal -∗ Wp defs 𝒱 bd d K Q) -∗ Wp defs 𝒱 bd d (storePerm R K) Q) := by
  have hall : ∀ x : S256x256.Idx, (Rect.unit (s := S256x256) ![0, 0] S256x256.size inb_S256x256_S256x256_0_0).emb x = x := by
    intro x; funext a; fin_cases a
    · exact Fin.ext (show 0 + 1 * (x 0).val = (x 0).val by omega)
    · exact Fin.ext (show 0 + 1 * (x 1).val = (x 1).val by omega)
  unfold storePerm
  iintro H Hk
  iapply (any_load (Finset.subset_univ _)) $$ H
  iintro %v H
  unfold Any
  icases H with ⟨%g, H⟩
  have h1 : ∀ x, (permVal : FVec F S256x256 .bf16) ((Rect.unit (s := S256x256) ![0, 0] S256x256.size inb_S256x256_S256x256_0_0).emb x)
      = (shapeCast S256x256 permVal shapeCasts_S256x256_S256x256 : FVec F S256x256 .bf16) x := fun x => by
    rw [hall x]; exact congrArg permVal (Shape.reshapeEquiv_self _ _).symm
  have h2 : ∀ y ∈ (Finset.univ : Finset S256x256.Idx), y ∉ (Rect.unit (s := S256x256) ![0, 0] S256x256.size inb_S256x256_S256x256_0_0).set →
    (permVal : FVec F S256x256 .bf16) y = g y := fun y _ hy => absurd (by have := emb_mem (Rect.unit (s := S256x256) ![0, 0] S256x256.size inb_S256x256_S256x256_0_0) y; rwa [hall] at this) hy
  iapply (own_store (permVal : FVec F S256x256 .bf16) (Finset.subset_univ _) h1 h2) $$ H
  iexact Hk

end Cert.Kernel.Lookup
-- ==== Proof.Outs.lean ====
/-
  The copies of finished chunks to the result: two slots in turn, one batch of one copy each.
-/
module
public import proofs.«01_k».proof.Proof.Scales
@[expose] public section
noncomputable section
namespace Cert.Kernel.Lookup
open Cert.Kernel Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

/-- Part of a buffer read through a slice of it with a unit axis dropped. -/
theorem view_in {s s' : Shape} {e : EltTy} {ms : Space} {m : Memref sig .tc ms s e} {r : Rect s} {hr : ∀ a, r.stride a = 1} {h : r.shape.Squeezes s'}
    {q : PosShare TreeShare} {g : s.Idx → Elt F e} :
    (Own d m r.set q g : sProp (MT nD τ sig Unit (Elt F) ℕ U ℕ))
      ⊢ Own d ((m.slice r hr).squeeze s' h) Finset.univ q (fun x => g (r.emb (Shape.reshapeEquiv h.numel_eq x))) := by
  have h1 : (Own d m r.set q g : sProp (MT nD τ sig Unit (Elt F) ℕ U ℕ)) ⊢ Own d (m.slice r hr) Finset.univ q (fun x => g (r.emb x)) :=
    own_slice_in (fun y hy => (of_mem hy).imp fun x h => ⟨Finset.mem_univ x, h⟩) (fun x _ => emb_mem _ x) fun _ _ => rfl
  exact h1.trans (own_squeeze_in (fun y _ => ⟨(Shape.reshapeEquiv h.numel_eq).symm y, Finset.mem_univ _, Equiv.apply_symm_apply _ _⟩) (fun _ _ => Finset.mem_univ _) fun _ _ => rfl)

theorem any_view_in {s s' : Shape} {e : EltTy} {ms : Space} {m : Memref sig .tc ms s e} {r : Rect s} {hr : ∀ a, r.stride a = 1} {h : r.shape.Squeezes s'} :
    (Any d m r.set : sProp (MT nD τ sig Unit (Elt F) ℕ U ℕ)) ⊢ Any d ((m.slice r hr).squeeze s' h) Finset.univ := by
  unfold Any
  iintro ⟨%g, H⟩
  iexists _
  iapply view_in
  iexact H

/-- And back. -/
theorem any_view_out {s s' : Shape} {e : EltTy} {ms : Space} {m : Memref sig .tc ms s e} {r : Rect s} {hr : ∀ a, r.stride a = 1} {h : r.shape.Squeezes s'}
    {gs : s'.Idx → Elt F e} :
    (Own d ((m.slice r hr).squeeze s' h) Finset.univ fullShare gs : sProp (MT nD τ sig Unit (Elt F) ℕ U ℕ)) ⊢ Any d m r.set := by
  classical
  haveI := Elt.nonempty F e
  have h1 : (Own d ((m.slice r hr).squeeze s' h) Finset.univ fullShare gs : sProp (MT nD τ sig Unit (Elt F) ℕ U ℕ))
      ⊢ Own d (m.slice r hr) Finset.univ fullShare (fun y => gs ((Shape.reshapeEquiv h.numel_eq).symm y)) :=
    own_squeeze_out (fun y _ => ⟨(Shape.reshapeEquiv h.numel_eq).symm y, Finset.mem_univ _, Equiv.apply_symm_apply _ _⟩) (fun _ _ => Finset.mem_univ _)
      fun x _ => congrArg gs (Equiv.symm_apply_apply _ _)
  have h2 : ∀ x, (fun y => if hy : ∃ x, r.emb x = y then gs ((Shape.reshapeEquiv h.numel_eq).symm hy.choose) else Classical.arbitrary _) (r.emb x)
      = gs ((Shape.reshapeEquiv h.numel_eq).symm x) := fun x => by
    have hx : ∃ x', r.emb x' = r.emb x := ⟨x, rfl⟩
    show (if hy : ∃ x', r.emb x' = r.emb x then gs ((Shape.reshapeEquiv h.numel_eq).symm hy.choose) else _) = _
    rw [dif_pos hx, r.emb.injective hx.choose_spec]
  refine (h1.trans (own_slice_out (S := r.set) (g := fun y => if hy : ∃ x, r.emb x = y then gs ((Shape.reshapeEquiv h.numel_eq).symm hy.choose) else Classical.arbitrary _) (fun y hy => (of_mem hy).imp fun x h => ⟨Finset.mem_univ x, h⟩) (fun x _ => emb_mem _ x) fun x _ => h2 x)).trans any_of

theorem one_out (D : Fin 1 → sProp (MT nD τ sig Unit (Elt F) ℕ U ℕ)) : bigSep Finset.univ D ⊢ D 0 := by
  rw [show (Finset.univ : Finset (Fin 1)) = {0} from rfl, BI.bigSep_singleton]

/-- A slot of the output buffer. -/
def outRows (n : ℕ) : Finset S2x64x5120.Idx := Finset.univ.filter fun y => (y 0).val = n % 2
theorem mem_outRows {n : ℕ} {y : S2x64x5120.Idx} : y ∈ outRows n ↔ (y 0).val = n % 2 := by
  unfold outRows; rw [Finset.mem_filter]; exact ⟨fun h => h.2, fun h => ⟨Finset.mem_univ _, h⟩⟩
theorem outRows_add (n : ℕ) : outRows (n + 2) = outRows n := by ext y; rw [mem_outRows, mem_outRows, Nat.add_mod_right]
theorem outSlot_set (w : BitVec 32) (hw : w.toNat < 32) :
    (Rect.unit (s := S2x64x5120) (outOff3 w 0) S1x64x5120.size (outOff3_inb w hw)).set = outRows w.toNat := by
  have hp := par_val w hw
  ext y
  rw [mem_outRows]
  have h1 : (y 1).val < 64 := (y 1).isLt
  have h2 : (y 2).val < 5120 := (y 2).isLt
  constructor
  · intro h
    have h0 := (Rect.mem_set_unit.1 h) 0
    have h0' : (Scalar.remsi w 2#32).toNat ≤ (y 0).val ∧ (y 0).val < (Scalar.remsi w 2#32).toNat + 1 := h0
    omega
  · intro h
    refine Rect.mem_set_unit.2 fun a => ?_
    match a with
    | ⟨0, _⟩ => exact (show (Scalar.remsi w 2#32).toNat ≤ (y 0).val ∧ (y 0).val < (Scalar.remsi w 2#32).toNat + 1 by omega)
    | ⟨1, _⟩ => exact (show 0 ≤ (y 1).val ∧ (y 1).val < 0 + 64 by omega)
    | ⟨2, _⟩ => exact (show 0 ≤ (y 2).val ∧ (y 2).val < 0 + 5120 by omega)

/-- The chunk of an element of the result. -/
def chunkOf (y : S2x1024x5120.Idx) : ℕ := 4 * ((y 1).val / 128) + 2 * (y 0).val + (y 1).val % 128 / 64
/-- The chunks from `n` on. -/
def todo (n : ℕ) : Finset S2x1024x5120.Idx := Finset.univ.filter fun y => n ≤ chunkOf y
theorem mem_todo {n : ℕ} {y : S2x1024x5120.Idx} : y ∈ todo n ↔ n ≤ chunkOf y := by
  unfold todo; rw [Finset.mem_filter]; exact ⟨fun h => h.2, fun h => ⟨Finset.mem_univ _, h⟩⟩
theorem hbm_mem (w : BitVec 32) (hw : w.toNat < 32) (y : S2x1024x5120.Idx) :
    y ∈ (Rect.unit (s := S2x1024x5120) (hbmOff w) S1x64x5120.size (hbmOff_inb w hw)).set ↔ chunkOf y = w.toNat := by
  have hv := hbm_val w hw
  have v0 : hbmOff w 0 = w.toNat / 2 % 2 := by rw [hv]; rfl
  have v1 : hbmOff w 1 = w.toNat / 4 * 128 + w.toNat % 2 * 64 := by rw [hv]; rfl
  have v2 : hbmOff w 2 = 0 := rfl
  have h0 : (y 0).val < 2 := (y 0).isLt
  have h1 : (y 1).val < 1024 := (y 1).isLt
  have h2 : (y 2).val < 5120 := (y 2).isLt
  unfold chunkOf
  constructor
  · intro h
    have a0 : hbmOff w 0 ≤ (y 0).val ∧ (y 0).val < hbmOff w 0 + 1 := (Rect.mem_set_unit.1 h) 0
    have a1 : hbmOff w 1 ≤ (y 1).val ∧ (y 1).val < hbmOff w 1 + 64 := (Rect.mem_set_unit.1 h) 1
    rw [v0] at a0; rw [v1] at a1
    omega
  · intro h
    refine Rect.mem_set_unit.2 fun a => ?_
    match a with
    | ⟨0, _⟩ => exact (show hbmOff w 0 ≤ (y 0).val ∧ (y 0).val < hbmOff w 0 + 1 by rw [v0]; omega)
    | ⟨1, _⟩ => exact (show hbmOff w 1 ≤ (y 1).val ∧ (y 1).val < hbmOff w 1 + 64 by rw [v1]; omega)
    | ⟨2, _⟩ => exact (show hbmOff w 2 ≤ (y 2).val ∧ (y 2).val < hbmOff w 2 + 5120 by rw [v2]; omega)

theorem outSem_inb (n : ℕ) : ∀ a, (![n % 2] : Fin 1 → ℕ) a + S1.size a ≤ S2.size a := by
  intro a; obtain rfl : a = 0 := Subsingleton.elim _ _
  show n % 2 + 1 ≤ 2; omega
def Refs.outSemAt (o : Fin 1 → ℕ) (h : ∀ a, o a + S1.size a ≤ S2.size a) : DmaSem sig := ((R.semOut.slice (Rect.unit (s := S2) o S1.size h)).squeeze S_ squeezes_S1_S_).sem
theorem outSemAt_congr {o o' : Fin 1 → ℕ} {h h'} (e : o = o') : R.outSemAt o h = R.outSemAt o' h' := by subst e; rfl
/-- The semaphore of a chunk's output slot. -/
def Refs.outSemN (n : ℕ) : DmaSem sig := R.outSemAt ![n % 2] (outSem_inb n)
theorem outSem_eq (w : BitVec 32) (hw : w.toNat < 32) : R.outSem w hw = R.outSemN w.toNat :=
  outSemAt_congr R (h := outOff1_inb w hw) (by unfold outOff1; rw [par_val w hw])
theorem outSemN_add (n : ℕ) : R.outSemN (n + 2) = R.outSemN n :=
  outSemAt_congr R (by rw [show (n + 2) % 2 = n % 2 by omega])

abbrev Refs.outCredit : ℕ := sig.dmaCredit .tc (Kind.table .tc .hbm) R.out.view.buf S64x5120 .bf16
/-- A chunk on its way to the result. -/
abbrev OutFlight (d : Dev nD) (n j : ℕ) : sProp (MT nD τ sig Unit (Elt F) ℕ U ℕ) :=
  Transfers.Batch EC (d : Thread nD τ) (.dma (R.outSemN n)) () R.outCredit (fun _ : Fin 1 => Any d R.outs (outRows n)) j 0
/-- An output slot free. -/
abbrev OutFree (d : Dev nD) (n : ℕ) : sProp (MT nD τ sig Unit (Elt F) ℕ U ℕ) :=
  iprop(Any d R.outs (outRows n) ∗ semVal ((d : Thread nD τ), SemLoc.dma (R.outSemN n)) 0)
theorem outFree_add (n : ℕ) : (OutFree R d (n + 2) : sProp (MT nD τ sig Unit (Elt F) ℕ U ℕ)) = OutFree R d n := by
  unfold OutFree; rw [outRows_add, outSemN_add]

theorem wp_waitOut (w : BitVec 32) (hw : w.toNat < 32) (K : P F α) (hN : 0 < R.outCredit) :
    iprop(OutFlight EC R d w.toNat 1 ∗ Ows d)
      ⊢ iprop((iprop(OutFree R d w.toNat ∗ Ows d) -∗ Wp defs 𝒱 bd d K Q) -∗ Wp defs 𝒱 bd d (waitOut R w hw K) Q) := by
  unfold waitOut OutFree OutFlight
  rw [← outSem_eq R w hw]
  iintro ⟨HB, ⟨%W, HO⟩⟩ Hk
  iapply (Transfers.wp_waitBatchAll EC 𝒱 (d : Thread nD τ) bd () (show (R.outHbm w hw).view.dmaCredit = R.outCredit from rfl) hN
    (D := (fun _ : Fin 1 => Any d R.outs (outRows w.toNat))) (u := 0) (by rw [Nat.zero_add, Nat.mul_one])) $$ [HB HO]
  · isplitl [HB]; · iexact HB
    iexact HO
  iintro ⟨HD, Hv, HO⟩
  ihave HD' := (one_out (fun _ : Fin 1 => (Any d R.outs (outRows w.toNat) : sProp (MT nD τ sig Unit (Elt F) ℕ U ℕ)))) $$ HD
  iapply Hk
  isplitl [HD' Hv]
  · isplitl [HD']
    · iexact HD'
    iexact Hv
  iexists _; iexact HO

theorem wp_startOut (w : BitVec 32) (hw : w.toNat < 32) (K : P F α) :
    iprop(OutFree R d w.toNat ∗ Any d R.out (todo w.toNat))
      ⊢ iprop((iprop(OutFlight EC R d w.toNat 1 ∗ Any d R.out (todo (w.toNat + 1))) -∗ Wp defs 𝒱 bd d K Q) -∗ Wp defs 𝒱 bd d (startOut R w hw K) Q) := by
  have hsub : (Rect.unit (s := S2x1024x5120) (hbmOff w) S1x64x5120.size (hbmOff_inb w hw)).set ⊆ todo w.toNat := fun y hy => by
    rw [mem_todo, (hbm_mem w hw y).1 hy]
  have hrest : todo w.toNat \ (Rect.unit (s := S2x1024x5120) (hbmOff w) S1x64x5120.size (hbmOff_inb w hw)).set = todo (w.toNat + 1) := by
    ext y; rw [Finset.mem_sdiff, mem_todo, hbm_mem w hw, mem_todo]; omega
  unfold startOut OutFree OutFlight
  rw [← outSem_eq R w hw, ← outSlot_set w hw]
  iintro ⟨⟨Hs, Hv⟩, Ho⟩ Hk
  ihave Ho' := (any_split hsub) $$ Ho
  icases Ho' with ⟨Hd, Ho⟩
  rw [hrest]
  ihave Hs' := (any_view_in (hr := fun _ => rfl) (h := squeezes_S1x64x5120_S64x5120)) $$ Hs
  ihave Hd' := (any_view_in (hr := fun _ => rfl) (h := squeezes_S1x64x5120_S64x5120)) $$ Hd
  iapply fupd_wp
  imod (Transfers.batch_alloc' EC (d : Thread nD τ) () R.outCredit (fun _ : Fin 1 => Any d R.outs (Rect.unit (s := S2x64x5120) (outOff3 w 0) S1x64x5120.size (outOff3_inb w hw)).set)
    (sm := .dma (R.outSem w hw)) (E := Set.univ)) $$ Hv with HB
  imodintro
  unfold Any
  icases Hs' with ⟨%gs, Hs⟩
  icases Hd' with ⟨%gd, Hd⟩
  have hD : iprop(Own d (R.outSlot w hw) Finset.univ fullShare gs ∗ Own d (R.outHbm w hw) Finset.univ fullShare gs)
      ⊢ (fun _ : Fin 1 => (Any d R.outs (Rect.unit (s := S2x64x5120) (outOff3 w 0) S1x64x5120.size (outOff3_inb w hw)).set : sProp (MT nD τ sig Unit (Elt F) ℕ U ℕ))) ⟨0, Nat.one_pos⟩ := by
    iintro ⟨H, -⟩
    iapply any_view_out
    iexact H
  iapply (own_dma EC (D := fun _ : Fin 1 => Any d R.outs (Rect.unit (s := S2x64x5120) (outOff3 w 0) S1x64x5120.size (outOff3_inb w hw)).set) R.outCredit rfl Nat.one_pos (Nat.zero_le _) hD) $$ [Hs Hd HB]
  · isplitl [Hs]; · iexact Hs
    isplitl [Hd]; · iexact Hd
    iexact HB
  iintro HB
  iapply Hk
  isplitl [HB]; · iexact HB
  iexact Ho

end Cert.Kernel.Lookup
-- ==== Proof.Step.lean ====
/-
  One step: a chunk computed while the one ten ahead is fetched.
-/
module
public import proofs.«01_k».proof.Proof.Outs
@[expose] public section
noncomputable section
namespace Cert.Kernel.Lookup
open Cert.Kernel Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

abbrev Slot (d : Dev nD) (n : ℕ) : sProp (MT nD τ sig Unit (Elt F) ℕ U ℕ) := Any d R.ring (ringRows n 0 64)

theorem wp_loadUnit (q : Fin 2) (mx : Mxu F) (K : Mxu F → P F α) (h : mx.PushOk q 0 false) :
    (Own d R.perm Finset.univ fullShare permVal : sProp (MT nD τ sig Unit (Elt F) ℕ U ℕ))
      ⊢ iprop((Own d R.perm Finset.univ fullShare permVal
          -∗ Wp defs 𝒱 bd d (K ((((mx.pushed q 0 false (φ := .bf16) permVal).pop q 0 64 fits_0_64).accLhs q 0 0 zeroLhs fits_0_64).pop q 0 64 fits_0_64)) Q)
        -∗ Wp defs 𝒱 bd d (loadUnit R q mx K) Q) := by
  have hv : (fun x => (permVal : FVec F S256x256 .bf16) ((Rect.unit (s := S256x256) ![0, 0] S256x256.size inb_S256x256_S256x256_0_0).emb x)) = permVal := by
    funext x
    congr 1
    funext a; fin_cases a
    · exact Fin.ext (show 0 + 1 * (x 0).val = (x 0).val by omega)
    · exact Fin.ext (show 0 + 1 * (x 1).val = (x 1).val by omega)
  unfold loadUnit
  iintro H Hk
  iapply (own_load (Finset.subset_univ _)) $$ H
  iintro H
  rw [hv]
  iapply (Mxu.wp_pushRhs (c := (d : Thread nD τ)) permVal h)
  iapply Hk
  iexact H

theorem wp_dequant (w : BitVec 32) (hw : w.toNat < 32) (j : ℕ) (hj : j < 20) {p : ℕ} (hp : p ≤ j) {mx : Mxu F} (hm : MxOk p j mx) (K : Mxu F → P F α) :
    iprop(Slot R d w.toNat ∗ All d R.shift ∗ All d R.scale)
      ⊢ (iprop((∀ mx', ⌜MxOk p (j + 1) mx'⌝ -∗ iprop(Slot R d w.toNat ∗ All d R.shift ∗ All d R.scale) -∗ Wp defs 𝒱 bd d (K mx') Q)
        -∗ Wp defs 𝒱 bd d (dequant R w hw j hj mx K) Q) : sProp (MT nD τ sig Unit (Elt F) ℕ U ℕ)) := by
  have hs := slot_val w hw
  have hsub : (Rect.unit (s := S11x64x2560) (slotOff3 w (128 * j)) S1x64x128.size (slotOff3b_inb w hw j hj)).set ⊆ ringRows w.toNat 0 64 := fun y hy => by
    have h0 : (Scalar.remsi w 11#32).toNat ≤ (y 0).val ∧ (y 0).val < (Scalar.remsi w 11#32).toNat + 1 := (Rect.mem_set_unit.1 hy) 0
    have h1 : (y 1).val < 64 := (y 1).isLt
    rw [mem_ringRows]; omega
  unfold dequant
  iintro ⟨H1, H2, H3⟩ Hk
  iapply (any_load hsub) $$ H1
  iintro %v1 H1
  iapply (any_load (Finset.subset_univ _)) $$ H2
  iintro %v2 H2
  iapply (any_load (Finset.subset_univ _)) $$ H3
  iintro %v3 H3
  iapply (Mxu.wp_accLhsLoaded (c := (d : Thread nD τ)) _ _ (hm.gmr _))
  iapply Hk
  · ipureintro; exact hm.accBy hp hj _
  isplitl [H1]; · iexact H1
  isplitl [H2]; · iexact H2
  iexact H3

theorem wp_readOut (w : BitVec 32) (hw : w.toNat < 32) (j : ℕ) (hj : j < 20) {p : ℕ} {mx : Mxu F} (hm : MxOk j p mx) (K : Mxu F → P F α) :
    (Any d R.outs (outRows w.toNat) : sProp (MT nD τ sig Unit (Elt F) ℕ U ℕ))
      ⊢ iprop((∀ mx', ⌜MxOk (j + 1) p mx'⌝ -∗ Any d R.outs (outRows w.toNat) -∗ Wp defs 𝒱 bd d (K mx') Q)
        -∗ Wp defs 𝒱 bd d (readOut R w hw j hj mx K) Q) := by
  have hs := par_val w hw
  have hsub : (Rect.unit (s := S2x64x5120) (outOff3 w (256 * j)) S1x64x256.size (outOff3b_inb w hw j hj)).set ⊆ outRows w.toNat := fun y hy => by
    have h0 : (Scalar.remsi w 2#32).toNat ≤ (y 0).val ∧ (y 0).val < (Scalar.remsi w 2#32).toNat + 1 := (Rect.mem_set_unit.1 hy) 0
    rw [mem_outRows]; omega
  unfold readOut
  iintro H Hk
  iapply (any_load hsub) $$ H
  iintro %v H
  iapply (any_store hsub) $$ H
  iintro H
  iapply Hk
  · ipureintro; exact hm.pop hj
  iexact H

/-- What a step's own fetch needs and keeps: the ids, the code words, and its progress `Fe j` before block `j`. -/
def FetchOk (d : Dev nD) (defs : Defs nD τ sig (Elt F) Λ₀) (𝒱 : Variants) (bd : Option 𝒱.V) (Q : α → sProp (MT nD τ sig Unit (Elt F) ℕ U ℕ))
    (fe : Fetcher F α) (Fe : ℕ → sProp (MT nD τ sig Unit (Elt F) ℕ U ℕ)) : Prop :=
  ∀ (j : ℕ) (hj : j < 20) (K : P F α), iprop(Ids R X d ∗ wordsAt R X d ∗ Fe j)
    ⊢ iprop((iprop(Ids R X d ∗ wordsAt R X d ∗ Fe (j + 1)) -∗ Wp defs 𝒱 bd d K Q) -∗ Wp defs 𝒱 bd d (fe j hj K) Q)

variable {fe : Fetcher F α} {Fe : ℕ → sProp (MT nD τ sig Unit (Elt F) ℕ U ℕ)}
/-- What the blocks that are filled need, before block `j`. -/
abbrev Fill (Fe : ℕ → sProp (MT nD τ sig Unit (Elt F) ℕ U ℕ)) (d : Dev nD) (n j : ℕ) : sProp (MT nD τ sig Unit (Elt F) ℕ U ℕ) :=
  iprop(iprop(Ids R X d ∗ wordsAt R X d ∗ Fe j) ∗ iprop(Slot R d n ∗ All d R.shift ∗ All d R.scale))

theorem wp_fillBlock (hfe : FetchOk R X d defs 𝒱 bd Q fe Fe) (w : BitVec 32) (hw : w.toNat < 32) (p0 p1 : ℕ → FVec F S8x128 .f32) (j : ℕ) (hj : j < 20)
    {p : ℕ} (hp : p ≤ j) {mx : Mxu F} (hm : MxOk p j mx) (K : Mxu F → P F α) :
    Fill R X Fe d w.toNat j
      ⊢ iprop((∀ mx', ⌜MxOk p (j + 1) mx'⌝ -∗ Fill R X Fe d w.toNat (j + 1) -∗ Wp defs 𝒱 bd d (K mx') Q)
        -∗ Wp defs 𝒱 bd d (fillBlock R fe w hw p0 p1 j hj mx K) Q) := by
  unfold fillBlock
  iintro ⟨H, H'⟩ Hk
  iapply (hfe j hj _) $$ H
  iintro H
  iapply (wp_dequant R w hw j hj hp hm _) $$ H'
  iintro %mx' %hm' ⟨H1, H2, H3⟩
  iapply (wp_spreadGroups R j hj p0 p1 _ 8 0 _) $$ H3
  iintro H3
  iapply Hk
  · ipureintro; exact hm'
  isplitl [H]; · iexact H
  isplitl [H1]; · iexact H1
  isplitl [H2]; · iexact H2
  iexact H3

theorem wp_blocksA (hfe : FetchOk R X d defs 𝒱 bd Q fe Fe) (w : BitVec 32) (hw : w.toNat < 32) (p0 p1 : ℕ → FVec F S8x128 .f32) (K : Mxu F → P F α) :
    ∀ (n j : ℕ) (h : j + n ≤ 4) (mx : Mxu F) (_ : MxOk 0 j mx), Fill R X Fe d w.toNat j
      ⊢ iprop((∀ mx', ⌜MxOk 0 (j + n) mx'⌝ -∗ Fill R X Fe d w.toNat (j + n) -∗ Wp defs 𝒱 bd d (K mx') Q)
        -∗ Wp defs 𝒱 bd d (blocksA R fe w hw p0 p1 K n j h mx) Q)
  | 0, j, h, mx, hm => by
    unfold blocksA
    iintro H Hk
    iapply Hk
    · ipureintro; exact hm
    iexact H
  | n + 1, j, h, mx, hm => by
    have e : j + (n + 1) = j + 1 + n := by omega
    rw [e]
    unfold blocksA
    iintro H Hk
    iapply (wp_fillBlock R X hfe w hw p0 p1 j _ (Nat.zero_le _) hm _) $$ H
    iintro %mx' %hm' H
    iapply (wp_blocksA hfe w hw p0 p1 K n (j + 1) _ mx' hm') $$ H
    iexact Hk

theorem wp_blocksB (hfe : FetchOk R X d defs 𝒱 bd Q fe Fe) (w : BitVec 32) (hw : w.toNat < 32) (p0 p1 : ℕ → FVec F S8x128 .f32) (K : Mxu F → P F α) :
    ∀ (n j : ℕ) (h : j + n ≤ 16) (mx : Mxu F) (_ : MxOk j (j + 4) mx), iprop(Fill R X Fe d w.toNat (j + 4) ∗ Any d R.outs (outRows w.toNat))
      ⊢ iprop((∀ mx', ⌜MxOk (j + n) (j + n + 4) mx'⌝ -∗ iprop(Fill R X Fe d w.toNat (j + n + 4) ∗ Any d R.outs (outRows w.toNat)) -∗ Wp defs 𝒱 bd d (K mx') Q)
        -∗ Wp defs 𝒱 bd d (blocksB R fe w hw p0 p1 K n j h mx) Q)
  | 0, j, h, mx, hm => by
    unfold blocksB
    iintro H Hk
    iapply Hk
    · ipureintro; exact hm
    iexact H
  | n + 1, j, h, mx, hm => by
    have e : j + (n + 1) = j + 1 + n := by omega
    rw [e]
    have e2 : j + 4 + 1 = j + 1 + 4 := by omega
    unfold blocksB
    iintro ⟨H, Ho⟩ Hk
    iapply (wp_fillBlock R X hfe w hw p0 p1 (j + 4) _ (show j ≤ j + 4 by omega) hm _) $$ H
    iintro %mx' %hm' H
    rw [e2] at hm' ⊢
    iapply (wp_readOut R w hw j _ hm' _) $$ Ho
    iintro %mx2 %hm2 Ho
    iapply (wp_blocksB hfe w hw p0 p1 K n (j + 1) _ mx2 hm2) $$ [H Ho]
    · isplitl [H]; · iexact H
      iexact Ho
    iexact Hk

theorem wp_blocksC (w : BitVec 32) (hw : w.toNat < 32) (K : Mxu F → P F α) :
    ∀ (n j : ℕ) (h : j + n ≤ 20) (mx : Mxu F) (_ : MxOk j 20 mx), (Any d R.outs (outRows w.toNat) : sProp (MT nD τ sig Unit (Elt F) ℕ U ℕ))
      ⊢ iprop((∀ mx', ⌜MxOk (j + n) 20 mx'⌝ -∗ Any d R.outs (outRows w.toNat) -∗ Wp defs 𝒱 bd d (K mx') Q)
        -∗ Wp defs 𝒱 bd d (blocksC R w hw K n j h mx) Q)
  | 0, j, h, mx, hm => by
    unfold blocksC
    iintro H Hk
    iapply Hk
    · ipureintro; exact hm
    iexact H
  | n + 1, j, h, mx, hm => by
    have e : j + (n + 1) = j + 1 + n := by omega
    rw [e]
    unfold blocksC
    iintro H Hk
    iapply (wp_readOut R w hw j _ hm _) $$ H
    iintro %mx' %hm' H
    iapply (wp_blocksC w hw K n (j + 1) _ mx' hm') $$ H
    iexact Hk

/-- The state of the slot of chunk `i`'s parity before step `i` or `i - 1`: the copy started two steps before under way, if there was one. -/
def OutCell (d : Dev nD) (i : ℕ) : sProp (MT nD τ sig Unit (Elt F) ℕ U ℕ) :=
  if 2 ≤ i ∧ i < 34 then OutFlight EC R d (i - 2) 1 else OutFree R d i

/-- The buffers a step uses and leaves at other contents. -/
abbrev Bufs (d : Dev nD) : sProp (MT nD τ sig Unit (Elt F) ℕ U ℕ) :=
  iprop(All d R.table ∗ All d R.rows ∗ All d R.scale ∗ All d R.shift)

theorem wp_done {a : α} : Q a ⊢ Wp defs 𝒱 bd d (.ret a) Q := by
  show _ ⊢ iprop(|={Set.univ}[Idealize.ShloMosaic.frame]=> Q a)
  iintro H
  imodintro
  iexact H

theorem wp_waitPrev (w : BitVec 32) (hw : w.toNat < 32) (K : P F α) (hN : 0 < R.outCredit) :
    iprop(OutCell EC R d w.toNat ∗ Ows d)
      ⊢ iprop((iprop(OutFree R d w.toNat ∗ Ows d) -∗ Wp defs 𝒱 bd d K Q)
        -∗ Wp defs 𝒱 bd d ((if h : hasOut w = 1#1 then waitOut R (Scalar.subi w 2#32) (prev_lt w hw h) (.ret ⟨⟩) else (.ret ⟨⟩ : P F PUnit)) >>= fun _ => K) Q) := by
  by_cases h : hasOut w = 1#1
  · have h2 := (hasOut_iff w hw).1 h
    have hpv := prev_val w hw h2
    have e : w.toNat = (Scalar.subi w 2#32).toNat + 2 := by omega
    rw [dif_pos h]
    unfold OutCell
    rw [if_pos ⟨h2, by omega⟩, ← hpv]
    have e3 : (OutFree R d w.toNat : sProp (MT nD τ sig Unit (Elt F) ℕ U ℕ)) = OutFree R d (Scalar.subi w 2#32).toNat := by rw [e]; exact outFree_add R _
    rw [e3]
    exact wp_waitOut EC R (Scalar.subi w 2#32) (prev_lt w hw h) K hN
  · have h2 : ¬ 2 ≤ w.toNat := fun h2 => h ((hasOut_iff w hw).2 h2)
    rw [dif_neg h]
    unfold OutCell
    rw [if_neg (fun hc => h2 hc.1)]
    iintro H Hk
    iapply Hk
    iexact H

theorem wp_step {Q : Mxu F → sProp (MT nD τ sig Unit (Elt F) ℕ U ℕ)} {fe : Fetcher F (Mxu F)} (hX : X.Ok) (hfe : FetchOk R X d defs 𝒱 bd Q fe Fe) (w : BitVec 32) (hw : w.toNat < 32) (mx : Mxu F) (hm : MxOk 0 0 mx)
    (hN : 0 < R.rowCredit) (hc : sig.dmaCredit .tc (Kind.table .tc .vmem) R.ring.view.buf S64x2560 .i32 = 64 * R.rowCredit) (hN' : 0 < R.outCredit) :
    iprop(Ids R X d ∗ wordsAt R X d ∗ Fe 0 ∗ Bufs R d ∗ Flight EC R X d w.toNat 64 0 ∗ OutCell EC R d w.toNat ∗ Any d R.out (todo w.toNat) ∗ Ows d)
      ⊢ iprop((∀ mx', ⌜MxOk 20 20 mx'⌝ -∗ iprop(Ids R X d ∗ wordsAt R X d ∗ Fe 20 ∗ Bufs R d ∗ Free R d w.toNat ∗ OutCell EC R d (w.toNat + 2) ∗ Any d R.out (todo (w.toNat + 1)) ∗ Ows d) -∗ Q mx')
        -∗ Wp defs 𝒱 bd d (step R fe w hw mx) Q) := by
  unfold step
  iintro ⟨Hid, Hwd, Hfe, ⟨Ht, Hr, Hsc, Hsh⟩, Hfl, Hoc, Ho, HO⟩ Hk
  iapply (wp_waitSlot EC R X w hw _ hN hc) $$ [Hfl HO]
  · isplitl [Hfl]; · iexact Hfl
    iexact HO
  iintro ⟨⟨Hslot, Hsem⟩, HO⟩
  iapply (wp_waitPrev EC R w hw _ hN') $$ [Hoc HO]
  · isplitl [Hoc]; · iexact Hoc
    iexact HO
  iintro ⟨⟨Hos, Hosem⟩, HO⟩
  iapply (wp_narrow R X hX _ _ _) $$ [Hid Ht Hr]
  · isplitl [Hid]; · iexact Hid
    isplitl [Ht]; · iexact Ht
    iexact Hr
  iintro %w0 %w1 %w2 ⟨Hid, Ht, Hr⟩
  iapply (wp_blocksA R X hfe w hw _ _ _ 4 0 _ mx hm) $$ [Hid Hwd Hfe Hslot Hsh Hsc]
  · isplitl [Hid Hwd Hfe]
    · isplitl [Hid]; · iexact Hid
      isplitl [Hwd]; · iexact Hwd
      iexact Hfe
    isplitl [Hslot]; · iexact Hslot
    isplitl [Hsh]; · iexact Hsh
    iexact Hsc
  iintro %mx1 %hm1 Hfill
  iapply (wp_blocksB R X hfe w hw _ _ _ 16 0 _ mx1 hm1) $$ [Hfill Hos]
  · isplitl [Hfill]; · iexact Hfill
    iexact Hos
  iintro %mx2 %hm2 ⟨⟨⟨Hid, Hwd, Hfe⟩, ⟨Hslot, Hsh, Hsc⟩⟩, Hos⟩
  iapply (wp_blocksC R w hw _ 4 16 _ mx2 hm2) $$ Hos
  iintro %mx3 %hm3 Hos
  iapply (wp_storeShifts R _ _ 8 0 _) $$ Hsh
  iintro Hsh
  iapply (wp_startOut EC R w hw _) $$ [Hos Hosem Ho]
  · isplitl [Hos Hosem]
    · isplitl [Hos]; · iexact Hos
      iexact Hosem
    iexact Ho
  iintro ⟨Hof, Ho⟩
  iapply wp_done
  iapply Hk
  · ipureintro; exact hm3
  isplitl [Hid]; · iexact Hid
  isplitl [Hwd]; · iexact Hwd
  isplitl [Hfe]; · iexact Hfe
  isplitl [Ht Hr Hsc Hsh]
  · isplitl [Ht]; · iexact Ht
    isplitl [Hr]; · iexact Hr
    isplitl [Hsc]; · iexact Hsc
    iexact Hsh
  isplitl [Hslot Hsem]
  · isplitl [Hslot]; · iexact Hslot
    iexact Hsem
  isplitl [Hof]
  · unfold OutCell
    rw [if_pos ⟨by omega, by omega⟩, Nat.add_sub_cancel]
    iexact Hof
  isplitl [Ho]; · iexact Ho
  iexact HO

theorem wp_fill_to (hX : X.Ok) (w : BitVec 32) (hw : w.toNat < 32) (K : P F α) (n r m : ℕ) (e : r + n = m) (h : r + n ≤ 64) :
    iprop(Ids R X d ∗ wordsAt R X d ∗ Filling EC R X d w.toNat r)
      ⊢ iprop((iprop(Ids R X d ∗ wordsAt R X d ∗ Filling EC R X d w.toNat m) -∗ Wp defs 𝒱 bd d K Q) -∗ Wp defs 𝒱 bd d (fetchRows R w hw K n r h) Q) := by
  subst e; exact wp_filling EC R X hX w hw K n r h

theorem fetchNone_ok {Fe : sProp (MT nD τ sig Unit (Elt F) ℕ U ℕ)} : FetchOk R X d defs 𝒱 bd Q (fetchNone (F := F)) (fun _ => Fe) := by
  intro j hj K
  unfold fetchNone
  iintro H Hk
  iapply Hk
  iexact H

theorem fetchAhead_ok (hX : X.Ok) (w : BitVec 32) (hw : w.toNat < 32) :
    FetchOk R X d defs 𝒱 bd Q (fetchAhead R w hw) (fun j => Filling EC R X d w.toNat (64 * j / 20)) := by
  intro j hj K
  unfold fetchAhead
  have e : 64 * (j + 1) / 20 = 64 * j / 20 + (64 * (j + 1) / 20 - 64 * j / 20) := by omega
  exact wp_fill_to EC R X hX w hw K _ _ _ e.symm _

end Cert.Kernel.Lookup
-- ==== Proof.Ids.lean ====
module
public import proofs.«01_k».proof.Proof.Step
@[expose] public section
noncomputable section
namespace Cert.Kernel.Lookup
open Cert.Kernel Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

/-- The words of the copied ids from strip `a` to strip `b`, 128 to a strip. -/
def idStrip (a b : ℕ) : Finset S2048.Idx := Finset.univ.filter fun y => 128 * a ≤ (y 0).val ∧ (y 0).val < 128 * b
theorem mem_idStrip {a b : ℕ} {y : S2048.Idx} : y ∈ idStrip a b ↔ 128 * a ≤ (y 0).val ∧ (y 0).val < 128 * b := by
  unfold idStrip; rw [Finset.mem_filter]; exact ⟨fun h => h.2, fun h => ⟨Finset.mem_univ _, h⟩⟩
theorem idStrip_all : idStrip 0 16 = Finset.univ := by
  ext y; rw [mem_idStrip]
  have h : (y 0).val < 2048 := (y 0).isLt
  exact ⟨fun _ => Finset.mem_univ y, fun _ => by omega⟩
theorem idStrip_union : (Finset.univ : Finset (Fin 16)).biUnion (fun t => idStrip t.val (t.val + 1)) = Finset.univ := by
  ext y
  have h : (y 0).val < 2048 := (y 0).isLt
  refine ⟨fun _ => Finset.mem_univ y, fun _ => Finset.mem_biUnion.2 ⟨⟨(y 0).val / 128, by omega⟩, Finset.mem_univ _, mem_idStrip.2 ?_⟩⟩
  constructor
  · show 128 * ((y 0).val / 128) ≤ _; omega
  · show _ < 128 * ((y 0).val / 128 + 1); omega
theorem idDst_set (r : ℕ) (hr : r < 16) : (Rect.unit (s := S2048) ![128 * r] S128.size (idDst_inb r hr)).set = idStrip r (r + 1) := by
  ext y
  rw [mem_idStrip, Rect.mem_set_unit]
  constructor
  · intro h
    have h0 : 128 * r ≤ (y 0).val ∧ (y 0).val < 128 * r + 128 := h 0
    omega
  · intro h a
    obtain rfl : a = 0 := Subsingleton.elim _ _
    exact (show 128 * r ≤ (y 0).val ∧ (y 0).val < 128 * r + 128 by omega)

/-- The ids of one strip. -/
def Inp.strip (r : ℕ) : S128.Idx → Elt F .i32 := fun x => X.id (128 * r + (x 0).val)

theorem reshape_row {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    omega)
theorem idSrc_val (r : ℕ) (hr : r < 16) (x : S128.Idx) :
    X.ids ((Rect.unit (s := S2x1024) ![r % 2, 128 * (r / 2)] S1x128.size (idSrc_inb r hr)).emb (Shape.reshapeEquiv squeezes_S1x128_S128.numel_eq x))
      = X.strip r x := by
  have hx : (x 0).val < 128 := (x 0).isLt
  have e : Shape.reshapeEquiv squeezes_S1x128_S128.numel_eq x = ix2 (⟨0, Nat.one_pos⟩ : Fin 1) (x 0) := by
    conv_lhs => rw [eq_ix1 x]
    exact reshape_row _ _
  rw [e]
  refine (at2_val (a := 2) (b := 1024) X.ids _).symm.trans ?_
  unfold Inp.strip Inp.id
  refine congrArg₂ (at2 X.ids) ?_ ?_
  · show r % 2 + 1 * 0 = (128 * r + (x 0).val) / 128 % 2
    omega
  · show 128 * (r / 2) + 1 * (x 0).val = 128 * ((128 * r + (x 0).val) / 256) + (128 * r + (x 0).val) % 128
    omega

theorem idSrc_in {q : PosShare TreeShare} (r : ℕ) (hr : r < 16) :
    (Own d R.ids Finset.univ q X.ids : sProp 𝕄) ⊢ Own d (R.idSrc r hr) Finset.univ q (X.strip r) := by
  refine ((own_split (Finset.subset_univ (Rect.unit (s := S2x1024) ![r % 2, 128 * (r / 2)] S1x128.size (idSrc_inb r hr)).set)).trans sep_elim_left).trans ?_
  refine Entails.trans (own_slice_in (T := Finset.univ) (hr := fun _ => rfl)
    (gs := fun x => X.ids ((Rect.unit (s := S2x1024) ![r % 2, 128 * (r / 2)] S1x128.size (idSrc_inb r hr)).emb x))
    (fun y hy => (of_mem hy).imp fun x h => ⟨Finset.mem_univ x, h⟩) (fun x _ => emb_mem _ x) fun _ _ => rfl) ?_
  exact own_squeeze_in (T := Finset.univ)
    (fun y _ => ⟨(Shape.reshapeEquiv squeezes_S1x128_S128.numel_eq).symm y, Finset.mem_univ _, Equiv.apply_symm_apply _ y⟩)
    (fun _ _ => Finset.mem_univ _) fun x _ => idSrc_val X r hr x

theorem idDst_in (r : ℕ) (hr : r < 16) :
    (Any d R.idw (idStrip r (r + 1)) : sProp 𝕄) ⊢ Any d (R.idDst r hr) Finset.univ := by
  unfold Any
  iintro ⟨%g, H⟩
  iexists (fun x => g ((Rect.unit (s := S2048) ![128 * r] S128.size (idDst_inb r hr)).emb x))
  rw [← idDst_set r hr]
  iapply (own_slice_in (T := Finset.univ) (fun y hy => (of_mem hy).imp fun x h => ⟨Finset.mem_univ x, h⟩) (fun x _ => emb_mem _ x) fun _ _ => rfl)
  iexact H
theorem idDst_out (r : ℕ) (hr : r < 16) :
    Own d (R.idDst r hr) Finset.univ fullShare (X.strip r) ⊢ (Own d R.idw (idStrip r (r + 1)) fullShare X.idsAt : sProp 𝕄) := by
  rw [← idDst_set r hr]
  exact own_slice_out (fun y hy => (of_mem hy).imp fun x h => ⟨Finset.mem_univ x, h⟩) (fun x _ => emb_mem _ x) fun x _ =>
    congrArg X.id (show 128 * r + 1 * (x 0).val = 128 * r + (x 0).val by rw [Nat.one_mul])

/-- What one strip's copy counts on the ids' semaphore. -/
abbrev Refs.idCredit : ℕ := sig.dmaCredit .tc (Kind.table .tc .smem) R.idw.view.buf S128 .i32
/-- The ids' copies with `j` of them started and `u` units waited for. -/
abbrev IdFlight (d : Dev nD) (j u : ℕ) : sProp (MT nD τ sig Unit (Elt F) ℕ U ℕ) :=
  Transfers.Batch EC (d : Thread nD τ) (.dma R.idSem) () R.idCredit (fun t : Fin 16 => Own d R.idw (idStrip t.val (t.val + 1)) fullShare X.idsAt) j u

theorem wp_startIds (K : P F α) : ∀ (n r : ℕ) (h : r + n ≤ 16),
    iprop(Read d R.ids (X.ids : S2x1024.Idx → Elt F .i32) ∗ Any d R.idw (idStrip r 16) ∗ IdFlight EC R X d r 0)
      ⊢ iprop((IdFlight EC R X d (r + n) 0 -∗ Wp defs 𝒱 bd d K Q) -∗ Wp defs 𝒱 bd d (startIds R K n r h) Q)
  | 0, r, h => by
    unfold startIds
    iintro ⟨-, -, H⟩ Hk
    iapply Hk
    iexact H
  | n + 1, r, h => by
    have hr : r < 16 := by omega
    have hsub : idStrip r (r + 1) ⊆ idStrip r 16 := fun y hy => by rw [mem_idStrip] at hy ⊢; omega
    have hrest : idStrip r 16 \ idStrip r (r + 1) = idStrip (r + 1) 16 := by
      ext y; rw [Finset.mem_sdiff, mem_idStrip, mem_idStrip, mem_idStrip]; omega
    have e : r + (n + 1) = r + 1 + n := by omega
    rw [e]
    iintro ⟨Hs, Hd, HB⟩ Hk
    unfold startIds
    ihave Hs' := read_dup $$ Hs
    icases Hs' with ⟨Hs, Hs2⟩
    ihave Hd' := (any_split hsub) $$ Hd
    icases Hd' with ⟨Hd1, Hd⟩
    rw [hrest]
    ihave Hd1' := (idDst_in R r hr) $$ Hd1
    unfold Read Any
    icases Hs2 with ⟨%q, Hs2⟩
    icases Hd1' with ⟨%gd, Hd1⟩
    ihave Hs2' := (idSrc_in R X r hr) $$ Hs2
    have hD : iprop(Own d (R.idSrc r hr) Finset.univ q (X.strip r) ∗ Own d (R.idDst r hr) Finset.univ fullShare (X.strip r))
      ⊢ (fun t : Fin 16 => (Own d R.idw (idStrip t.val (t.val + 1)) fullShare X.idsAt : sProp 𝕄)) ⟨r, hr⟩ :=
      drop_left.trans (idDst_out R X r hr)
    iapply (own_dma EC (D := fun t : Fin 16 => Own d R.idw (idStrip t.val (t.val + 1)) fullShare X.idsAt) R.idCredit rfl hr (Nat.zero_le _) hD) $$ [Hs2' Hd1 HB]
    · isplitl [Hs2']; · iexact Hs2'
      isplitl [Hd1]; · iexact Hd1
      iexact HB
    iintro HB
    iapply (wp_startIds K n (r + 1) _) $$ [Hs Hd HB]
    · isplitl [Hs]; · unfold Read; iexact Hs
      isplitl [Hd]; · unfold Any; iexact Hd
      iexact HB
    iexact Hk

/-- The waits but for the last. -/
theorem wp_waitIds (K : P F α) (hN : 0 < R.idCredit) : ∀ (n r : ℕ) (h : r + n ≤ 16) (hn : r + n = 16) (hp : 0 < n),
    iprop(IdFlight EC R X d 16 (r * R.idCredit) ∗ Ows d)
      ⊢ iprop((iprop(Ids R X d ∗ semVal ((d : Thread nD τ), SemLoc.dma R.idSem) 0 ∗ Ows d) -∗ Wp defs 𝒱 bd d K Q) -∗ Wp defs 𝒱 bd d (waitIds R K n r h) Q)
  | 0, r, h, hn, hp => absurd hp (Nat.lt_irrefl 0)
  | 1, r, h, hn, hp => by
    have hr : r < 16 := by omega
    unfold waitIds waitIds
    iintro ⟨HB, ⟨%W, HO⟩⟩ Hk
    iapply (Transfers.wp_waitBatchAll EC 𝒱 (d : Thread nD τ) bd () (J := R.idCredit) rfl hN
      (D := (fun t : Fin 16 => Own d R.idw (idStrip t.val (t.val + 1)) fullShare X.idsAt)) (u := r * R.idCredit)
      (by rw [show r = 15 by omega, Nat.mul_comm R.idCredit]; exact (Nat.succ_mul 15 _).symm)) $$ [HB HO]
    · isplitl [HB]; · iexact HB
      iexact HO
    iintro ⟨HD, Hv, HO⟩
    ihave HD' := (own_bigSep Finset.univ (fun t : Fin 16 => idStrip t.val (t.val + 1)) (by
      intro a _ b _ hab
      rw [Finset.disjoint_left]
      intro y ha hb
      rw [mem_idStrip] at ha hb
      exact hab (Fin.ext (by omega)))) $$ HD
    rw [idStrip_union]
    iapply Hk
    isplitl [HD']; · iexact HD'
    isplitl [Hv]; · iexact Hv
    iexists _; iexact HO
  | n + 2, r, h, hn, hp => by
    unfold waitIds
    iintro ⟨HB, ⟨%W, HO⟩⟩ Hk
    iapply (Transfers.wp_waitBatch EC 𝒱 (d : Thread nD τ) bd () (N := R.idCredit) rfl
      (D := (fun t : Fin 16 => Own d R.idw (idStrip t.val (t.val + 1)) fullShare X.idsAt)) (u := r * R.idCredit)
      (by rw [Nat.mul_comm R.idCredit, ← Nat.succ_mul]; exact Nat.mul_lt_mul_of_pos_right (by omega) hN)) $$ [HB HO]
    · isplitl [HB]; · iexact HB
      iexact HO
    iintro ⟨HB, HO⟩
    have e : r * R.idCredit + R.idCredit = (r + 1) * R.idCredit := (Nat.succ_mul r _).symm
    rw [e]
    iapply (wp_waitIds K hN (n + 1) (r + 1) _ (by omega) (by omega)) $$ [HB HO]
    · isplitl [HB]; · iexact HB
      iexists _; iexact HO
    iexact Hk

/-- A whole array's copy, started or waited for: what it delivers is its destination. -/
abbrev Load {s : Shape} {e : EltTy} (d : Dev nD) (m : Memref sig .tc .vmem s e) (sm : DmaSem sig) (j : ℕ) : sProp (MT nD τ sig Unit (Elt F) ℕ U ℕ) :=
  Transfers.Batch EC (d : Thread nD τ) (.dma sm) () m.view.dmaCredit (fun _ : Fin 1 => All d m) j 0

theorem wp_startLoad {s : Shape} {e : EltTy} {src : Memref sig .tc .hbm s e} {dst : Memref sig .tc .vmem s e} {sm : DmaSem sig}
    {hs hd hsem} {k : PUnit → P F α} {ns : s.Idx → Elt F e} :
    iprop(Read d src ns ∗ All d dst ∗ semVal ((d : Thread nD τ), SemLoc.dma sm) 0)
      ⊢ iprop((Load EC d dst sm 1 -∗ Wp defs 𝒱 bd d (k ⟨⟩) Q) -∗ Wp defs 𝒱 bd d (.op (.enqueueDma src (.here dst) (.dma sm) hs hd hsem) k) Q) := by
  iintro ⟨Hs, Hd, Hv⟩ Hk
  iapply fupd_wp
  imod (Transfers.batch_alloc' EC (d : Thread nD τ) () dst.view.dmaCredit (fun _ : Fin 1 => All d dst) (sm := .dma sm) (E := Set.univ)) $$ Hv with HB
  imodintro
  unfold Read
  icases Hs with ⟨%q, Hs⟩
  have hD : iprop(Own d src Finset.univ q ns ∗ Own d dst Finset.univ fullShare ns) ⊢ (fun _ : Fin 1 => (All d dst : sProp 𝕄)) ⟨0, Nat.one_pos⟩ :=
    drop_left.trans any_of
  unfold All Any
  icases Hd with ⟨%gd, Hd⟩
  iapply (own_dma EC (D := fun _ : Fin 1 => All d dst) dst.view.dmaCredit rfl Nat.one_pos (Nat.zero_le _) hD) $$ [Hs Hd HB]
  · isplitl [Hs]; · iexact Hs
    isplitl [Hd]; · iexact Hd
    unfold All Any; iexact HB
  unfold Load All Any
  iexact Hk

theorem wp_waitLoad {s : Shape} {e : EltTy} {src : Memref sig .tc .hbm s e} {dst : Memref sig .tc .vmem s e} {sm : DmaSem sig}
    {hs hd} {k : PUnit → P F α} (hN : 0 < dst.view.dmaCredit) :
    iprop(Load EC d dst sm 1 ∗ Ows d)
      ⊢ iprop((iprop(All d dst ∗ semVal ((d : Thread nD τ), SemLoc.dma sm) 0 ∗ Ows d) -∗ Wp defs 𝒱 bd d (k ⟨⟩) Q)
        -∗ Wp defs 𝒱 bd d (.op (.waitDma2 sm src dst hs hd) k) Q) := by
  iintro ⟨HB, ⟨%W, HO⟩⟩ Hk
  iapply (Transfers.wp_waitBatchAll EC 𝒱 (d : Thread nD τ) bd () (J := dst.view.dmaCredit) rfl hN (D := (fun _ : Fin 1 => All d dst)) (u := 0) (by omega)) $$ [HB HO]
  · isplitl [HB]; · iexact HB
    iexact HO
  iintro ⟨HD, Hv, HO⟩
  iapply Hk
  isplitl [HD]
  · iapply (one_out (fun _ : Fin 1 => All d dst)); iexact HD
  isplitl [Hv]; · iexact Hv
  iexists _; iexact HO

end Cert.Kernel.Lookup
-- ==== Proof.Cells.lean ====
module
public import Idealize.SL.BI.BigOpNat
public import proofs.«01_k».proof.Proof.Ids
@[expose] public section
noncomputable section
namespace Cert.Kernel.Lookup
open Cert.Kernel Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

open Classical in
/-- Two disjoint parts, each at any contents, are their union at some. -/
theorem any_join {ms : Space} {s : Shape} {e : EltTy} {m : Memref sig .tc ms s e} {S T : Finset s.Idx} (h : Disjoint S T) :
    iprop(Any d m S ∗ Any d m T) ⊢ (Any d m (S ∪ T) : sProp (MT nD τ sig Unit (Elt F) ℕ U ℕ)) := by
  unfold Any
  iintro ⟨⟨%g, H1⟩, ⟨%g', H2⟩⟩
  iexists (fun y => if y ∈ S then g y else g' y)
  iapply (own_join h)
  isplitl [H1]
  · iapply (own_congr fun y hy => (if_pos hy).symm); iexact H1
  · iapply (own_congr fun y hy => (if_neg (fun hs => (Finset.disjoint_left.1 h hs hy))).symm); iexact H2

theorem any_apart {ms : Space} {s : Shape} {e : EltTy} {m : Memref sig .tc ms s e} {ι : Type} [DecidableEq ι] (I : Finset ι) (K : ι → Finset s.Idx)
    (hK : ∀ i ∈ I, ∀ j ∈ I, i ≠ j → Disjoint (K i) (K j)) :
    (Any d m (I.biUnion K) : sProp (MT nD τ sig Unit (Elt F) ℕ U ℕ)) ⊢ bigSep I (fun t => Any d m (K t)) := by
  induction I using Finset.induction_on with
  | empty => rw [BI.bigSep_empty]; iintro -; iempintro
  | insert a I ha ih =>
    have hd : Disjoint (K a) (I.biUnion K) := by
      rw [Finset.disjoint_biUnion_right]
      exact fun i hi => hK a (Finset.mem_insert_self ..) i (Finset.mem_insert_of_mem hi) (fun h => ha (h ▸ hi))
    have e : (insert a I).biUnion K \ K a = I.biUnion K := by
      rw [Finset.biUnion_insert, Finset.union_sdiff_left, Finset.sdiff_eq_self_iff_disjoint]; exact hd.symm
    refine Entails.trans ?_ (Entails.of_eq (BI.bigSep_insert ha).symm)
    refine (any_split (S := K a) (by rw [Finset.biUnion_insert]; exact Finset.subset_union_left)).trans ?_
    rw [e]
    exact sep_mono_right (ih fun i hi j hj => hK i (Finset.mem_insert_of_mem hi) j (Finset.mem_insert_of_mem hj))
theorem any_together {ms : Space} {s : Shape} {e : EltTy} {m : Memref sig .tc ms s e} {ι : Type} [DecidableEq ι] (I : Finset ι) (K : ι → Finset s.Idx)
    (hK : ∀ i ∈ I, ∀ j ∈ I, i ≠ j → Disjoint (K i) (K j)) :
    bigSep I (fun t => Any d m (K t)) ⊢ (Any d m (I.biUnion K) : sProp (MT nD τ sig Unit (Elt F) ℕ U ℕ)) := by
  induction I using Finset.induction_on with
  | empty =>
    rw [Finset.biUnion_empty]
    iintro -
    unfold Any
    iexists (fun _ => Classical.choice (Elt.nonempty F e))
    iapply own_empty
  | insert a I ha ih =>
    have hd : Disjoint (K a) (I.biUnion K) := by
      rw [Finset.disjoint_biUnion_right]
      exact fun i hi => hK a (Finset.mem_insert_self ..) i (Finset.mem_insert_of_mem hi) (fun h => ha (h ▸ hi))
    rw [Finset.biUnion_insert]
    refine Entails.trans (Entails.of_eq (BI.bigSep_insert ha)) ?_
    refine Entails.trans ?_ (any_join hd)
    exact sep_mono_right (ih fun i hi j hj => hK i (Finset.mem_insert_of_mem hi) j (Finset.mem_insert_of_mem hj))

/-! ## The ring's slots -/

theorem free_add (n : ℕ) : (Free R d (n + 11) : sProp (MT nD τ sig Unit (Elt F) ℕ U ℕ)) = Free R d n := by
  unfold Free; rw [ringRows_add, ringSem_add]

/-- The semaphores of the ring's slots, at zero. -/
abbrev RingSems (d : Dev nD) : sProp (MT nD τ sig Unit (Elt F) ℕ U ℕ) :=
  bigSep (Finset.Ico 0 11) fun n => semVal ((d : Thread nD τ), SemLoc.dma (R.ringSem n)) 0

theorem slots_union : (Finset.Ico 0 11).biUnion (fun n => ringRows n 0 64) = Finset.univ := by
  ext y
  have h0 : (y 0).val < 11 := (y 0).isLt
  have h1 : (y 1).val < 64 := (y 1).isLt
  refine ⟨fun _ => Finset.mem_univ y, fun _ => Finset.mem_biUnion.2 ⟨(y 0).val, Finset.mem_Ico.2 ⟨Nat.zero_le _, h0⟩, mem_ringRows.2 ?_⟩⟩
  omega
theorem slots_disjoint : ∀ i ∈ Finset.Ico 0 11, ∀ j ∈ Finset.Ico 0 11, i ≠ j → Disjoint (ringRows i 0 64) (ringRows j 0 64) := by
  intro i hi j hj hij
  rw [Finset.mem_Ico] at hi hj
  rw [Finset.disjoint_left]
  intro y h1 h2
  rw [mem_ringRows] at h1 h2
  omega

theorem ring_apart : iprop(All d R.ring ∗ RingSems R d) ⊢ (bigSep (Finset.Ico 0 11) (fun n => Free R d n) : sProp (MT nD τ sig Unit (Elt F) ℕ U ℕ)) := by
  refine Entails.trans ?_ (Entails.of_eq (BI.bigSep_sep _ _ _).symm)
  refine sep_mono_left ?_
  unfold All
  rw [← slots_union]
  exact any_apart _ _ slots_disjoint
theorem ring_together : (bigSep (Finset.Ico 0 11) (fun n => Free R d n) : sProp (MT nD τ sig Unit (Elt F) ℕ U ℕ)) ⊢ iprop(All d R.ring ∗ RingSems R d) := by
  refine Entails.trans (Entails.of_eq (BI.bigSep_sep _ _ _)) ?_
  refine sep_mono_left ?_
  unfold All
  rw [← slots_union]
  exact any_together _ _ slots_disjoint

/-- Chunk `c`'s slot: the chunk on its way, or, past the last chunk, free. -/
def Cell (d : Dev nD) (c : ℕ) : sProp (MT nD τ sig Unit (Elt F) ℕ U ℕ) := if c < 32 then Flight EC R X d c 64 0 else Free R d c
theorem cell_flight {c : ℕ} (h : c < 32) : (Cell EC R X d c : sProp (MT nD τ sig Unit (Elt F) ℕ U ℕ)) = Flight EC R X d c 64 0 := if_pos h
theorem cell_free {c : ℕ} (h : 32 ≤ c) : (Cell EC R X d c : sProp (MT nD τ sig Unit (Elt F) ℕ U ℕ)) = Free R d c := if_neg (Nat.not_lt.2 h)

/-- The ring before step `n`: ten slots under way, or free past the last chunk, and one free. -/
abbrev Ring (d : Dev nD) (n : ℕ) : sProp (MT nD τ sig Unit (Elt F) ℕ U ℕ) :=
  iprop(bigSep (Finset.Ico n (n + 10)) (Cell EC R X d) ∗ Free R d (n + 10))

/-- The slot of chunk `n` taken out of the ring and, emptied, put back with the slot of chunk `n + 10`. -/
theorem ring_take (n : ℕ) : (Ring EC R X d n : sProp (MT nD τ sig Unit (Elt F) ℕ U ℕ))
    ⊢ iprop(Cell EC R X d n ∗ Free R d (n + 10) ∗ (iprop(Free R d n ∗ Cell EC R X d (n + 10)) -∗ Ring EC R X d (n + 1))) := by
  unfold Ring
  rw [BI.bigSep_Ico_succ_bot (show n < n + 10 by omega)]
  iintro ⟨⟨H, Hs⟩, Hf⟩
  isplitl [H]; · iexact H
  isplitl [Hf]; · iexact Hf
  iintro ⟨Hn, Hc⟩
  isplitl [Hs Hc]
  · rw [show n + 1 + 10 = n + 10 + 1 by omega, BI.bigSep_Ico_succ_top (show n + 1 ≤ n + 10 by omega)]
    isplitl [Hc]; · iexact Hc
    iexact Hs
  · rw [show n + 1 + 10 = n + 11 by omega, free_add]
    iexact Hn

theorem shift (Φ : ℕ → sProp (MT nD τ sig Unit (Elt F) ℕ U ℕ)) (c : ℕ) : ∀ (n a : ℕ),
    bigSep (Finset.Ico (a + c) (a + n + c)) Φ ⊢ bigSep (Finset.Ico a (a + n)) (fun i => Φ (i + c))
  | 0, a => by
    rw [Nat.add_zero, Finset.Ico_self, Finset.Ico_self, BI.bigSep_empty, BI.bigSep_empty]
  | n + 1, a => by
    rw [show a + (n + 1) + c = a + n + c + 1 by omega, show a + (n + 1) = a + n + 1 by omega,
      BI.bigSep_Ico_succ_top (show a + c ≤ a + n + c by omega), BI.bigSep_Ico_succ_top (show a ≤ a + n by omega)]
    exact sep_mono_right (shift Φ c n a)

/-- After the last chunk the ring is free. -/
theorem ring_done : (Ring EC R X d 32 : sProp (MT nD τ sig Unit (Elt F) ℕ U ℕ)) ⊢ bigSep (Finset.Ico 0 11) (fun n => Free R d n) := by
  have e32 : (Free R d (42 + 1) : sProp (MT nD τ sig Unit (Elt F) ℕ U ℕ)) = Free R d 32 := free_add R 32
  have e33 : ∀ i, (Free R d (i + 33) : sProp (MT nD τ sig Unit (Elt F) ℕ U ℕ)) = Free R d i := fun i =>
    (free_add R (i + 22)).trans ((free_add R (i + 11)).trans (free_add R i))
  have h1 : (bigSep (Finset.Ico 32 42) (Cell EC R X d) : sProp (MT nD τ sig Unit (Elt F) ℕ U ℕ)) ⊢ bigSep (Finset.Ico 32 42) (fun n => Free R d n) :=
    BI.bigSep_mono fun i hi => Entails.of_eq (cell_free EC R X (Finset.mem_Ico.1 hi).1)
  have h2 : (Ring EC R X d 32 : sProp (MT nD τ sig Unit (Elt F) ℕ U ℕ)) ⊢ bigSep (Finset.Ico 33 44) (fun n => Free R d n) := by
    unfold Ring
    rw [show (44 : ℕ) = 43 + 1 from rfl, BI.bigSep_Ico_succ_top (show 33 ≤ 43 by omega), show (43 : ℕ) = 42 + 1 from rfl, BI.bigSep_Ico_succ_top (show 33 ≤ 42 by omega)]
    refine (sep_mono_left h1).trans ?_
    rw [BI.bigSep_Ico_succ_bot (show 32 < 42 by omega)]
    iintro ⟨⟨H, Hs⟩, Hf⟩
    isplitl [H]
    · rw [e32]; iexact H
    isplitl [Hf]; · iexact Hf
    iexact Hs
  refine h2.trans ((shift (fun n => Free R d n) 33 11 0).trans ?_)
  simp only [e33]
  exact Entails.of_eq rfl

/-! ## The slots of the result -/

theorem outs_union : outRows 0 ∪ outRows 1 = Finset.univ := by
  ext y
  have h0 : (y 0).val < 2 := (y 0).isLt
  refine ⟨fun _ => Finset.mem_univ y, fun _ => Finset.mem_union.2 ?_⟩
  rw [mem_outRows, mem_outRows]; omega
theorem outs_disjoint : Disjoint (outRows 0) (outRows 1) := by
  rw [Finset.disjoint_left]
  intro y h1 h2
  rw [mem_outRows] at h1 h2
  omega
/-- The semaphores of the result's slots, at zero. -/
abbrev OutSems (d : Dev nD) : sProp (MT nD τ sig Unit (Elt F) ℕ U ℕ) :=
  iprop(semVal ((d : Thread nD τ), SemLoc.dma (R.outSemN 0)) 0 ∗ semVal ((d : Thread nD τ), SemLoc.dma (R.outSemN 1)) 0)
theorem outs_apart : iprop(All d R.outs ∗ OutSems R d) ⊢ (iprop(OutCell EC R d 0 ∗ OutCell EC R d 1) : sProp (MT nD τ sig Unit (Elt F) ℕ U ℕ)) := by
  unfold OutCell
  rw [if_neg (by omega), if_neg (by omega)]
  unfold All
  rw [← outs_union]
  iintro ⟨H, Hs0, Hs1⟩
  ihave H' := (any_split Finset.subset_union_left) $$ H
  rw [Finset.union_sdiff_left, Finset.sdiff_eq_self_iff_disjoint.2 outs_disjoint.symm]
  icases H' with ⟨H0, H1⟩
  isplitl [H0 Hs0]
  · isplitl [H0]; · iexact H0
    iexact Hs0
  · isplitl [H1]; · iexact H1
    iexact Hs1
theorem outs_together : iprop(OutFree R d 30 ∗ OutFree R d 31) ⊢ (iprop(All d R.outs ∗ OutSems R d) : sProp (MT nD τ sig Unit (Elt F) ℕ U ℕ)) := by
  have e : ∀ n i : ℕ, (OutFree R d (i + 2 * n) : sProp (MT nD τ sig Unit (Elt F) ℕ U ℕ)) = OutFree R d i := by
    intro n i
    induction n with
    | zero => rfl
    | succ n ih => rw [show i + 2 * (n + 1) = i + 2 * n + 2 by omega, outFree_add, ih]
  rw [show 30 = 0 + 2 * 15 from rfl, show 31 = 1 + 2 * 15 from rfl, e, e]
  unfold All
  rw [← outs_union]
  iintro ⟨⟨H0, Hs0⟩, H1, Hs1⟩
  isplitl [H0 H1]
  · iapply (any_join outs_disjoint)
    isplitl [H0]; · iexact H0
    iexact H1
  isplitl [Hs0]; · iexact Hs0
  iexact Hs1

end Cert.Kernel.Lookup
-- ==== Proof.Whole.lean ====
module
public import proofs.«01_k».proof.Proof.Cells
@[expose] public section
noncomputable section
namespace Cert.Kernel.Lookup
open Cert.Kernel Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

/-- A loop at the head of a program, at a known number of trips. -/
theorem wp_loop {σ : Type} (l : Scf.Loop 32) (hok : l.OK) (init : σ) (body : Fin l.trips → σ → P F σ) (n : ℕ) (hn : l.trips = n)
    (I : ℕ → σ → sProp (MT nD τ sig Unit (Elt F) ℕ U ℕ)) (hbody : ∀ (k : Fin l.trips), k.val < n → ∀ acc, I k.val acc ⊢ Wp defs 𝒱 bd d (body k acc) (I (k.val + 1)))
    {kk : σ → P F α} :
    I 0 init ⊢ iprop((∀ acc, I n acc -∗ Wp defs 𝒱 bd d (kk acc) Q) -∗ Wp defs 𝒱 bd d (Scf.Loop.for l hok init body >>= kk) Q) := by
  subst hn
  exact Scf.wp_for_bind _ _ _ l.lb l.ub l.st hok init body I fun k acc => hbody k k.isLt acc

/-- What the copies' counts must satisfy: none counts nothing, and a slot counts its 64 rows. -/
structure Refs.Counts (R : Refs) : Prop where
  row : 0 < R.rowCredit
  slot : sig.dmaCredit .tc (Kind.table .tc .vmem) R.ring.view.buf S64x2560 .i32 = 64 * R.rowCredit
  out : 0 < R.outCredit
  ids : 0 < R.idCredit
  sub : 0 < R.sub.view.dmaCredit
  sup : 0 < R.sup.view.dmaCredit

/-- The ring being primed: `k` chunks on their way. -/
abbrev Primed (d : Dev nD) (k : ℕ) : sProp (MT nD τ sig Unit (Elt F) ℕ U ℕ) :=
  iprop(Ids R X d ∗ wordsAt R X d ∗ bigSep (Finset.Ico 0 k) (Cell EC R X d) ∗ bigSep (Finset.Ico k 11) (fun n => Free R d n))

theorem wp_prime (hX : X.Ok) (w : BitVec 32) (hw : w.toNat < 32) (k : ℕ) (hk : k < 10) (e : w.toNat = k) (h : 0 + 64 ≤ 64) :
    (Primed EC R X d k : sProp (MT nD τ sig Unit (Elt F) ℕ U ℕ)) ⊢ Wp defs 𝒱 bd d (fetchRows R w hw (.ret () : P F Unit) 64 0 h) (fun _ => Primed EC R X d (k + 1)) := by
  subst e
  unfold Primed
  rw [BI.bigSep_Ico_succ_bot (show w.toNat < 11 by omega)]
  iintro ⟨H1, H2, H3, H4, H5⟩
  iapply fupd_wp
  imod (free_fill EC R X w.toNat) $$ H4 with H4
  imodintro
  iapply (wp_filling EC R X hX w hw _ 64 0 h) $$ [H1 H2 H4]
  · isplitl [H1]; · iexact H1
    isplitl [H2]; · iexact H2
    iexact H4
  iintro ⟨H1, H2, -, H4⟩
  iapply wp_done
  isplitl [H1]; · iexact H1
  isplitl [H2]; · iexact H2
  isplitl [H3 H4]
  · rw [BI.bigSep_Ico_succ_top (Nat.zero_le _)]
    isplitl [H4]
    · rw [cell_flight EC R X hw]; iexact H4
    iexact H3
  iexact H5

/-- What the steps work on, before step `n`. -/
abbrev State (d : Dev nD) (n : ℕ) : sProp (MT nD τ sig Unit (Elt F) ℕ U ℕ) :=
  iprop(Ids R X d ∗ wordsAt R X d ∗ Bufs R d ∗ Ring EC R X d n ∗ (OutCell EC R d n ∗ OutCell EC R d (n + 1)) ∗ Any d R.out (todo n) ∗ Ows d)

theorem wp_ahead (hX : X.Ok) (hR : R.Counts) (w w' : BitVec 32) (hw : w.toNat < 32) (hw' : w'.toNat < 32) (n : ℕ) (e : w.toNat = n) (e' : w'.toNat = n + 10)
    (mx : Mxu F) (hm : MxOk 0 0 mx) :
    (State EC R X d n : sProp (MT nD τ sig Unit (Elt F) ℕ U ℕ)) ⊢ Wp defs 𝒱 bd d (step R (fetchAhead R w' hw') w hw mx) (fun mx' => iprop(⌜MxOk 0 0 mx'⌝ ∗ State EC R X d (n + 1))) := by
  subst e
  unfold State
  iintro ⟨H1, H2, H3, H4, ⟨H5, H6⟩, H7, H8⟩
  ihave H4' := (ring_take EC R X w.toNat) $$ H4
  rw [cell_flight EC R X hw]
  icases H4' with ⟨Hc, Hf, Hback⟩
  iapply fupd_wp
  imod (free_fill EC R X (w.toNat + 10)) $$ Hf with Hf
  imodintro
  iapply (wp_step EC R X hX (fetchAhead_ok EC R X hX w' hw') w hw mx hm hR.row hR.slot hR.out) $$ [H1 H2 H3 Hc Hf H5 H7 H8]
  · isplitl [H1]; · iexact H1
    isplitl [H2]; · iexact H2
    isplitl [Hf]; · rw [e']; iexact Hf
    isplitl [H3]; · iexact H3
    isplitl [Hc]; · iexact Hc
    isplitl [H5]; · iexact H5
    isplitl [H7]; · iexact H7
    iexact H8
  iintro %mx' %hm' ⟨H1, H2, Hf, H3, Hn, H5, H7, H8⟩
  rw [e']
  isplitr
  · ipureintro; exact hm'.start 0
  isplitl [H1]; · iexact H1
  isplitl [H2]; · iexact H2
  isplitl [H3]; · iexact H3
  isplitl [Hback Hn Hf]
  · iapply Hback
    isplitl [Hn]; · iexact Hn
    rw [cell_flight EC R X (show w.toNat + 10 < 32 by omega)]
    icases Hf with ⟨-, Hf⟩
    iexact Hf
  isplitl [H6 H5]
  · isplitl [H6]; · iexact H6
    iexact H5
  isplitl [H7]; · iexact H7
  iexact H8

theorem wp_last (hX : X.Ok) (hR : R.Counts) (w : BitVec 32) (hw : w.toNat < 32) (n : ℕ) (e : w.toNat = n) (hn : 22 ≤ n)
    (mx : Mxu F) (hm : MxOk 0 0 mx) :
    (State EC R X d n : sProp (MT nD τ sig Unit (Elt F) ℕ U ℕ)) ⊢ Wp defs 𝒱 bd d (step R fetchNone w hw mx) (fun mx' => iprop(⌜MxOk 0 0 mx'⌝ ∗ State EC R X d (n + 1))) := by
  subst e
  unfold State
  iintro ⟨H1, H2, H3, H4, ⟨H5, H6⟩, H7, H8⟩
  ihave H4' := (ring_take EC R X w.toNat) $$ H4
  rw [cell_flight EC R X hw]
  icases H4' with ⟨Hc, Hf, Hback⟩
  iapply (wp_step EC R X hX (fetchNone_ok R X (Fe := Free R d (w.toNat + 10))) w hw mx hm hR.row hR.slot hR.out) $$ [H1 H2 H3 Hc Hf H5 H7 H8]
  · isplitl [H1]; · iexact H1
    isplitl [H2]; · iexact H2
    isplitl [Hf]; · iexact Hf
    isplitl [H3]; · iexact H3
    isplitl [Hc]; · iexact Hc
    isplitl [H5]; · iexact H5
    isplitl [H7]; · iexact H7
    iexact H8
  iintro %mx' %hm' ⟨H1, H2, Hf, H3, Hn, H5, H7, H8⟩
  isplitr
  · ipureintro; exact hm'.start 0
  isplitl [H1]; · iexact H1
  isplitl [H2]; · iexact H2
  isplitl [H3]; · iexact H3
  isplitl [Hback Hn Hf]
  · iapply Hback
    isplitl [Hn]; · iexact Hn
    rw [cell_free EC R X (show 32 ≤ w.toNat + 10 by omega)]
    iexact Hf
  isplitl [H6 H5]
  · isplitl [H6]; · iexact H6
    iexact H5
  isplitl [H7]; · iexact H7
  iexact H8

/-- The buffers of the kernel's own but the ids. -/
abbrev Scratch (d : Dev nD) : sProp (MT nD τ sig Unit (Elt F) ℕ U ℕ) :=
  iprop(All d R.sub ∗ All d R.sup ∗ Bufs R d ∗ All d R.perm ∗ All d R.ring ∗ All d R.outs)
/-- The kernel's semaphores, at zero. -/
abbrev Sems (d : Dev nD) : sProp (MT nD τ sig Unit (Elt F) ℕ U ℕ) :=
  iprop(semVal ((d : Thread nD τ), SemLoc.dma R.idSem) 0 ∗ semVal ((d : Thread nD τ), SemLoc.dma R.subSem) 0 ∗ semVal ((d : Thread nD τ), SemLoc.dma R.supSem) 0
    ∗ RingSems R d ∗ OutSems R d)
/-- The arrays the kernel reads, and the result's. -/
abbrev Arrays (sb : S160x16000.Idx → Elt F .i8) (sp : S20x16000.Idx → Elt F .i16) (d : Dev nD) : sProp (MT nD τ sig Unit (Elt F) ℕ U ℕ) :=
  iprop(Read d R.ids (X.ids : S2x1024.Idx → Elt F .i32) ∗ wordsAt R X d ∗ Read d R.subT sb ∗ Read d R.supT sp ∗ All d R.out)

theorem wp_prologue (hX : X.Ok) (hR : R.Counts) (sb : S160x16000.Idx → Elt F .i8) (sp : S20x16000.Idx → Elt F .i16) (K : Mxu F → P F α) :
    iprop(Arrays R X sb sp d ∗ All d R.idw ∗ Scratch R d ∗ Sems R d ∗ Ows d)
      ⊢ iprop((∀ mx, ⌜MxOk 0 0 mx⌝ -∗ iprop(State EC R X d 0 ∗ All d R.sub ∗ All d R.sup ∗ All d R.perm
            ∗ semVal ((d : Thread nD τ), SemLoc.dma R.idSem) 0 ∗ semVal ((d : Thread nD τ), SemLoc.dma R.subSem) 0 ∗ semVal ((d : Thread nD τ), SemLoc.dma R.supSem) 0)
          -∗ Wp defs 𝒱 bd d (K mx) Q)
        -∗ Wp defs 𝒱 bd d (prologue R (body1 R) (body2 R) K) Q) := by
  unfold prologue
  iintro ⟨⟨Aid, Awd, Asb, Asp, Aout⟩, Bid, ⟨Bsb, Bsp, ⟨Bt, Br, Bsc, Bsh⟩, Bp, Bring, Bouts⟩, ⟨Sid, Ssb, Ssp, Sring, Sout⟩, HO⟩ Hk
  iapply fupd_wp
  imod (Transfers.batch_alloc' EC (d : Thread nD τ) () R.idCredit (fun t : Fin 16 => Own d R.idw (idStrip t.val (t.val + 1)) fullShare X.idsAt)
    (sm := .dma R.idSem) (E := Set.univ)) $$ Sid with Fid
  imodintro
  iapply (wp_startIds EC R X _ 16 0 _) $$ [Aid Bid Fid]
  · isplitl [Aid]; · iexact Aid
    isplitl [Bid]; · rw [idStrip_all]; iexact Bid
    iexact Fid
  iintro Fid
  iapply (wp_startLoad EC) $$ [Asb Bsb Ssb]
  · isplitl [Asb]; · iexact Asb
    isplitl [Bsb]; · iexact Bsb
    iexact Ssb
  iintro Fsb
  iapply (wp_startLoad EC) $$ [Asp Bsp Ssp]
  · isplitl [Asp]; · iexact Asp
    isplitl [Bsp]; · iexact Bsp
    iexact Ssp
  iintro Fsp
  iapply (wp_waitIds EC R X _ hR.ids 16 0 _ rfl (by omega)) $$ [Fid HO]
  · isplitl [Fid]; · rw [Nat.zero_mul]; iexact Fid
    iexact HO
  iintro ⟨Hid, Sid, HO⟩
  ihave Hring := (ring_apart R) $$ [Bring Sring]
  · isplitl [Bring]; · iexact Bring
    iexact Sring
  iapply (wp_loop k0_t1_loop k0_t1_ok ⟨⟩ (body1 R) 10 t1_trips (fun k _ => Primed EC R X d k)
    (fun k hk _ => wp_prime EC R X hX _ _ k.val hk (w1_val ⟨k.val, by omega⟩) _)) $$ [Hid Awd Hring]
  · isplitl [Hid]; · iexact Hid
    isplitl [Awd]; · iexact Awd
    isplitr
    · rw [Finset.Ico_self, BI.bigSep_empty]; iempintro
    iexact Hring
  iintro %_ ⟨Hid, Awd, Hcells, Hfree⟩
  iapply (wp_storePerm R _) $$ Bp
  iintro Bp
  obtain ⟨hp0, hr0, hl0, hg0⟩ := loaded_ok (F := F) 0 Mxu.init (fun _ _ => rfl) (fun _ _ => rfl)
  iapply (wp_loadUnit R 0 Mxu.init _ hp0) $$ Bp
  iintro Bp
  obtain ⟨hp1, hr1, hl1, hg1⟩ := loaded_ok (F := F) 1 _ hr0 hl0
  iapply (wp_loadUnit R 1 _ _ hp1) $$ Bp
  iintro Bp
  have hm : MxOk (F := F) 0 0 _ := ⟨hr1, fun q => by
    rw [hg1]
    by_cases h : q = 1
    · rw [if_pos h]
    · rw [if_neg h, hg0, if_pos (by omega)], fun q A => by
    rw [hl1]
    constructor
    · intro h; exact absurd h Bool.false_ne_true
    · rintro ⟨j, -, h, -⟩; omega⟩
  iapply (wp_waitLoad EC hR.sub) $$ [Fsb HO]
  · isplitl [Fsb]; · iexact Fsb
    iexact HO
  iintro ⟨Bsb, Ssb, HO⟩
  iapply (wp_waitLoad EC hR.sup) $$ [Fsp HO]
  · isplitl [Fsp]; · iexact Fsp
    iexact HO
  iintro ⟨Bsp, Ssp, HO⟩
  iapply (wp_loop k0_t2_loop k0_t2_ok ⟨⟩ (body2 R) 25 t2_trips (fun _ _ => iprop(All d R.sub ∗ All d R.sup ∗ All d R.table))
    (fun k hk _ => by
      iintro H
      unfold body2
      iapply (wp_tiles R k.val hk _ 5 0 _) $$ H
      iintro H
      iapply wp_done
      iexact H)) $$ [Bsb Bsp Bt]
  · isplitl [Bsb]; · iexact Bsb
    isplitl [Bsp]; · iexact Bsp
    iexact Bt
  iintro %_ ⟨Bsb, Bsp, Bt⟩
  iapply (wp_narrow R X hX _ _ _) $$ [Hid Bt Br]
  · isplitl [Hid]; · iexact Hid
    isplitl [Bt]; · iexact Bt
    iexact Br
  iintro %w0 %w1 %w2 ⟨Hid, Bt, Br⟩
  iapply (wp_spreadAll R _ _ _ 20 0 _) $$ Bsc
  iintro Bsc
  iapply (wp_storeShifts R _ _ 8 0 _) $$ Bsh
  iintro Bsh
  ihave Houts := (outs_apart EC R) $$ [Bouts Sout]
  · isplitl [Bouts]; · iexact Bouts
    iexact Sout
  iapply Hk
  · ipureintro; exact hm
  isplitr [Bsb Bsp Bp Sid Ssb Ssp]
  · isplitl [Hid]; · iexact Hid
    isplitl [Awd]; · iexact Awd
    isplitl [Bt Br Bsc Bsh]
    · isplitl [Bt]; · iexact Bt
      isplitl [Br]; · iexact Br
      isplitl [Bsc]; · iexact Bsc
      iexact Bsh
    isplitl [Hcells Hfree]
    · isplitl [Hcells]; · iexact Hcells
      have e10 : (bigSep (Finset.Ico 10 11) (fun n => Free R d n) : sProp (MT nD τ sig Unit (Elt F) ℕ U ℕ)) = Free R d (0 + 10) := BI.bigSep_Ico_one 10 _
      rw [← e10]
      iexact Hfree
    isplitl [Houts]; · iexact Houts
    isplitl [Aout]
    · rw [show todo 0 = Finset.univ from Finset.filter_true_of_mem fun _ _ => Nat.zero_le _]
      iexact Aout
    iexact HO
  isplitl [Bsb]; · iexact Bsb
  isplitl [Bsp]; · iexact Bsp
  isplitl [Bp]; · iapply any_of; iexact Bp
  isplitl [Sid]; · iexact Sid
  isplitl [Ssb]; · iexact Ssb
  iexact Ssp

theorem wp_waitOutN (w : BitVec 32) (hw : w.toNat < 32) (n : ℕ) (e : w.toNat = n) (K : P F α) (hN : 0 < R.outCredit) :
    iprop(OutFlight EC R d n 1 ∗ Ows d)
      ⊢ iprop((iprop(OutFree R d n ∗ Ows d) -∗ Wp defs 𝒱 bd d K Q) -∗ Wp defs 𝒱 bd d (waitOut R w hw K) Q) := by
  subst e; exact wp_waitOut EC R w hw K hN

/-- What the last step leaves. -/
theorem state_done : (State EC R X d 32 : sProp (MT nD τ sig Unit (Elt F) ℕ U ℕ))
    ⊢ iprop(Ids R X d ∗ Bufs R d ∗ bigSep (Finset.Ico 0 11) (fun n => Free R d n) ∗ OutFlight EC R d 30 1 ∗ OutFlight EC R d 31 1 ∗ Ows d) := by
  have e0 : (OutCell EC R d 32 : sProp (MT nD τ sig Unit (Elt F) ℕ U ℕ)) = OutFlight EC R d 30 1 := if_pos (by omega)
  have e1 : (OutCell EC R d (32 + 1) : sProp (MT nD τ sig Unit (Elt F) ℕ U ℕ)) = OutFlight EC R d 31 1 := if_pos (by omega)
  unfold State
  iintro ⟨H1, -, H3, H4, ⟨H5, H6⟩, -, HO⟩
  isplitl [H1]; · iexact H1
  isplitl [H3]; · iexact H3
  isplitl [H4]; · iapply (ring_done EC R X); iexact H4
  isplitl [H5]; · rw [← e0]; iexact H5
  isplitl [H6]; · rw [← e1]; iexact H6
  iexact HO

include EC in
/-- THE KERNEL: at any contents whose ids name vocabulary entries it comes to its end, its buffers returned and its semaphores at zero. -/
theorem wp_kernel {Q : PUnit → sProp (MT nD τ sig Unit (Elt F) ℕ U ℕ)} (hX : X.Ok) (hR : R.Counts) (sb : S160x16000.Idx → Elt F .i8) (sp : S20x16000.Idx → Elt F .i16) :
    iprop(Arrays R X sb sp d ∗ All d R.idw ∗ Scratch R d ∗ Sems R d ∗ Ows d)
      ⊢ iprop((iprop(All d R.idw ∗ Scratch R d ∗ Sems R d ∗ Ows d) -∗ Q ⟨⟩)
        -∗ Wp defs 𝒱 bd d (kernelP R (body1 R) (body2 R) (body3 R) (body4 R) : P F PUnit) Q) := by
  unfold kernelP
  iintro H Hk
  iapply (wp_prologue EC R X hX hR sb sp _) $$ H
  iintro %mx %hm ⟨HS, Bsb, Bsp, Bp, Sid, Ssb, Ssp⟩
  iapply (wp_loop k0_t3_loop k0_t3_ok mx (body3 R) 22 t3_trips (fun n mx => iprop(⌜MxOk 0 0 mx⌝ ∗ State EC R X d n))
    (fun k hk mx => by
      iintro ⟨%hm, H⟩
      unfold body3
      iapply (wp_ahead EC R X hX hR _ _ _ _ k.val (w1_val ⟨k.val, by omega⟩) (w1_add ⟨k.val, hk⟩) mx hm)
      iexact H)) $$ [HS]
  · isplitr
    · ipureintro; exact hm
    iexact HS
  iintro %mx ⟨%hm, HS⟩
  iapply (wp_loop k0_t4_loop k0_t4_ok mx (body4 R) 10 t4_trips (fun n mx => iprop(⌜MxOk 0 0 mx⌝ ∗ State EC R X d (22 + n)))
    (fun k hk mx => by
      iintro ⟨%hm, H⟩
      unfold body4
      iapply (wp_last EC R X hX hR _ _ (22 + k.val) (w4_val ⟨k.val, hk⟩) (by omega) mx hm)
      iexact H)) $$ [HS]
  · isplitr
    · ipureintro; exact hm
    iexact HS
  iintro %mx ⟨%hm, HS⟩
  ihave HS' := (state_done EC R X) $$ HS
  icases HS' with ⟨H1, H3, Hring, H5, H6, HO⟩
  iapply (wp_waitOutN EC R 30#32 _ 30 rfl _ hR.out) $$ [H5 HO]
  · isplitl [H5]; · iexact H5
    iexact HO
  iintro ⟨H5, HO⟩
  iapply (wp_waitOutN EC R 31#32 _ 31 rfl _ hR.out) $$ [H6 HO]
  · isplitl [H6]; · iexact H6
    iexact HO
  iintro ⟨H6, HO⟩
  iapply (Mxu.wp_exit hm.drained)
  ihave Hring' := (ring_together R) $$ Hring
  icases Hring' with ⟨Bring, Sring⟩
  ihave Houts := (outs_together R) $$ [H5 H6]
  · isplitl [H5]; · iexact H5
    iexact H6
  icases Houts with ⟨Bouts, Sout⟩
  iapply wp_done
  iapply Hk
  isplitl [H1]; · iapply any_of; iexact H1
  isplitl [Bsb Bsp H3 Bp Bring Bouts]
  · isplitl [Bsb]; · iexact Bsb
    isplitl [Bsp]; · iexact Bsp
    isplitl [H3]; · iexact H3
    isplitl [Bp]; · iexact Bp
    isplitl [Bring]; · iexact Bring
    iexact Bouts
  isplitl [Sid Ssb Ssp Sring Sout]
  · isplitl [Sid]; · iexact Sid
    isplitl [Ssb]; · iexact Ssb
    isplitl [Ssp]; · iexact Ssp
    isplitl [Sring]; · iexact Sring
    iexact Sout
  iexact HO

end Cert.Kernel.Lookup
-- ==== Proof.Trips.lean ====
/-
  The printed trips of the two main loops are the structured step, at every trip number.
-/
module
public import proofs.«01_k».proof.Proof.Body
public import Mathlib.Tactic.IntervalCases
@[expose] public section
noncomputable section
namespace Cert.Kernel.Lookup
open Cert.Kernel
open Idealize.ShloMosaic Idealize.ShloMosaic.TcCoe Idealize.ShloMosaic.Tactic
open Idealize.SL Idealize.SL.Sem
open Shapes1.Facts₀ K0.Facts₀
variable {F : FTy → Type} [FloatOps F]

variable (arg0 : Memref sig .tc .hbm S2x1024 .i32) (harg0 : arg0.IsWhole) (arg1 : Memref sig .tc .hbm S4000x2560 .i32) (harg1 : arg1.IsWhole) (arg2 : Memref sig .tc .hbm S160x16000 .i8) (harg2 : arg2.IsWhole) (arg3 : Memref sig .tc .hbm S20x16000 .i16) (harg3 : arg3.IsWhole) (arg4 : Memref sig .tc .hbm S2x1024x5120 .bf16) (harg4 : arg4.IsWhole) (arg5 : Memref sig .tc .smem S2048 .i32) (harg5 : arg5.IsWhole) (arg6 : Memref sig .tc .vmem S160x16000 .i8) (harg6 : arg6.IsWhole) (arg7 : Memref sig .tc .vmem S20x16000 .i16) (harg7 : arg7.IsWhole) (arg8 : Memref sig .tc .vmem S16000x128 .i32) (harg8 : arg8.IsWhole) (arg9 : Memref sig .tc .vmem S64x128 .i32) (harg9 : arg9.IsWhole) (arg10 : Memref sig .tc .vmem S20x64x128 .f32) (harg10 : arg10.IsWhole) (arg11 : Memref sig .tc .vmem S64x128 .i32) (harg11 : arg11.IsWhole) (arg12 : Memref sig .tc .vmem S256x256 .bf16) (harg12 : arg12.IsWhole) (arg13 : Memref sig .tc .vmem S11x64x2560 .i32) (harg13 : arg13.IsWhole) (arg14 : Memref sig .tc .vmem S2x64x5120 .bf16) (harg14 : arg14.IsWhole) (arg15 : DmaSems sig S3) (arg16 : DmaSems sig S11) (arg17 : DmaSems sig S2)

set_option maxRecDepth 65536 in
theorem t3_eq (m0 : Mxu F) (x0 x1 x2 x3 x4 x5 x6 x7 : IVec S8x128 32) (k : Fin k0_t3_loop.trips) (mx : Mxu F) :
    Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 m0 lane x0 x1 x2 x3 x4 x5 x6 x7 k mx = body3 ⟨arg0, arg1, arg2, arg3, arg4, arg5, arg6, arg7, arg8, arg9, arg10, arg11, arg12, arg13, arg14, arg15, arg16, arg17, harg2, harg3, harg4, harg6, harg7, harg12, harg14⟩ k mx := by
  obtain ⟨k, hk⟩ := k
  have hk' : k < 22 := t3_trips ▸ hk
  interval_cases k <;> sl_kernel_rfl

set_option maxRecDepth 65536 in
theorem t4_eq (m0 : Mxu F) (x0 x1 x2 x3 x4 x5 x6 x7 : IVec S8x128 32) (k : Fin k0_t4_loop.trips) (mx : Mxu F) :
    Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 m0 lane x0 x1 x2 x3 x4 x5 x6 x7 k mx = body4 ⟨arg0, arg1, arg2, arg3, arg4, arg5, arg6, arg7, arg8, arg9, arg10, arg11, arg12, arg13, arg14, arg15, arg16, arg17, harg2, harg3, harg4, harg6, harg7, harg12, harg14⟩ k mx := by
  obtain ⟨k, hk⟩ := k
  have hk' : k < 10 := t4_trips ▸ hk
  interval_cases k <;> sl_kernel_rfl

end Cert.Kernel.Lookup
-- ==== Proof.Root.lean ====
/-
  The printed kernel cut at its four loops, and its equality with the structured program.
-/
module
public import proofs.«01_k».proof.Proof.Trips
public import Idealize.ShloMosaic.Lib.Tactic.OpenCalls
public import Idealize.ShloMosaic.Lib.Tactic.Stretches
@[expose] public section
noncomputable section
namespace Cert.Kernel.Lookup
open Cert.Kernel
open Idealize.ShloMosaic Idealize.ShloMosaic.TcCoe Idealize.ShloMosaic.Tactic
open Idealize.SL Idealize.SL.Sem
open Shapes1.Facts₀ K0.Facts₀
variable {F : FTy → Type} [FloatOps F]

set_option maxHeartbeats 0 in
set_option maxRecDepth 65536 in
open_calls opened := cc0_q4_lookup [k0_part417, k0_part418, k0_part309, k0_part312, k0_part416]

set_option maxHeartbeats 0 in
set_option maxRecDepth 65536 in
cut_chain seg := opened at 10, 15, 153, 154

variable (arg0 : Memref sig .tc .hbm S2x1024 .i32) (harg0 : arg0.IsWhole) (arg1 : Memref sig .tc .hbm S4000x2560 .i32) (harg1 : arg1.IsWhole) (arg2 : Memref sig .tc .hbm S160x16000 .i8) (harg2 : arg2.IsWhole) (arg3 : Memref sig .tc .hbm S20x16000 .i16) (harg3 : arg3.IsWhole) (arg4 : Memref sig .tc .hbm S2x1024x5120 .bf16) (harg4 : arg4.IsWhole) (arg5 : Memref sig .tc .smem S2048 .i32) (harg5 : arg5.IsWhole) (arg6 : Memref sig .tc .vmem S160x16000 .i8) (harg6 : arg6.IsWhole) (arg7 : Memref sig .tc .vmem S20x16000 .i16) (harg7 : arg7.IsWhole) (arg8 : Memref sig .tc .vmem S16000x128 .i32) (harg8 : arg8.IsWhole) (arg9 : Memref sig .tc .vmem S64x128 .i32) (harg9 : arg9.IsWhole) (arg10 : Memref sig .tc .vmem S20x64x128 .f32) (harg10 : arg10.IsWhole) (arg11 : Memref sig .tc .vmem S64x128 .i32) (harg11 : arg11.IsWhole) (arg12 : Memref sig .tc .vmem S256x256 .bf16) (harg12 : arg12.IsWhole) (arg13 : Memref sig .tc .vmem S11x64x2560 .i32) (harg13 : arg13.IsWhole) (arg14 : Memref sig .tc .vmem S2x64x5120 .bf16) (harg14 : arg14.IsWhole) (arg15 : DmaSems sig S3) (arg16 : DmaSems sig S11) (arg17 : DmaSems sig S2)

/-- The first scales, written after the table is built. -/
def firstScales {α : Type} (R : Refs) (K : P F α) : P F α :=
  narrow R 0#32 (by decide) fun w0 w1 w2 =>
  spreadAll R (fun g => part 0#32 (w0 g)) (fun g => part 128#32 (w1 g)) (storeShifts R (fun g => shiftOf (w2 g)) K 8 0 (by omega)) 20 0 (by omega)

set_option maxRecDepth 65536 in
theorem seg1_eq {α : Type} (κ : Mxu F → P F α) : seg1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 κ =
    startIds ⟨arg0, arg1, arg2, arg3, arg4, arg5, arg6, arg7, arg8, arg9, arg10, arg11, arg12, arg13, arg14, arg15, arg16, arg17, harg2, harg3, harg4, harg6, harg7, harg12, harg14⟩ (.op (.enqueueDma arg2 (.here arg6) (.dma (Refs.subSem ⟨arg0, arg1, arg2, arg3, arg4, arg5, arg6, arg7, arg8, arg9, arg10, arg11, arg12, arg13, arg14, arg15, arg16, arg17, harg2, harg3, harg4, harg6, harg7, harg12, harg14⟩)) harg2.wordExact harg6.wordExact ⟨Or.inl rfl, trivial⟩) fun _ =>
     .op (.enqueueDma arg3 (.here arg7) (.dma (Refs.supSem ⟨arg0, arg1, arg2, arg3, arg4, arg5, arg6, arg7, arg8, arg9, arg10, arg11, arg12, arg13, arg14, arg15, arg16, arg17, harg2, harg3, harg4, harg6, harg7, harg12, harg14⟩)) harg3.wordExact harg7.wordExact ⟨Or.inl rfl, trivial⟩) fun _ =>
     waitIds ⟨arg0, arg1, arg2, arg3, arg4, arg5, arg6, arg7, arg8, arg9, arg10, arg11, arg12, arg13, arg14, arg15, arg16, arg17, harg2, harg3, harg4, harg6, harg7, harg12, harg14⟩ (Scf.Loop.for k0_t1_loop k0_t1_ok ⟨⟩ (body1 ⟨arg0, arg1, arg2, arg3, arg4, arg5, arg6, arg7, arg8, arg9, arg10, arg11, arg12, arg13, arg14, arg15, arg16, arg17, harg2, harg3, harg4, harg6, harg7, harg12, harg14⟩) >>= fun _ => κ Mxu.init) 16 0 (by omega)) 16 0 (by omega) := by sl_kernel_rfl

set_option maxRecDepth 65536 in
theorem seg2_eq {α : Type} (mx : Mxu F) (κ : Mxu F → FVec F S64x256 .bf16 → P F α) : seg2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx κ =
    storePerm ⟨arg0, arg1, arg2, arg3, arg4, arg5, arg6, arg7, arg8, arg9, arg10, arg11, arg12, arg13, arg14, arg15, arg16, arg17, harg2, harg3, harg4, harg6, harg7, harg12, harg14⟩ (loadUnit ⟨arg0, arg1, arg2, arg3, arg4, arg5, arg6, arg7, arg8, arg9, arg10, arg11, arg12, arg13, arg14, arg15, arg16, arg17, harg2, harg3, harg4, harg6, harg7, harg12, harg14⟩ 0 mx fun mx =>
     .op (.load arg12 (Rect.unit (s := S256x256) ![0, 0] S256x256.size inb_S256x256_S256x256_0_0).toLoadRect (View.loadsAt_vmem h_S256x256)) fun p =>
     mx.pushRhs 1 0 false (p : Vec F S256x256 .bf16) >>= fun mx =>
     .op (.waitDma2 (Refs.subSem ⟨arg0, arg1, arg2, arg3, arg4, arg5, arg6, arg7, arg8, arg9, arg10, arg11, arg12, arg13, arg14, arg15, arg16, arg17, harg2, harg3, harg4, harg6, harg7, harg12, harg14⟩) arg2 arg6 harg2.wordExact harg6.wordExact) fun _ =>
     .op (.waitDma2 (Refs.supSem ⟨arg0, arg1, arg2, arg3, arg4, arg5, arg6, arg7, arg8, arg9, arg10, arg11, arg12, arg13, arg14, arg15, arg16, arg17, harg2, harg3, harg4, harg6, harg7, harg12, harg14⟩) arg3 arg7 harg3.wordExact harg7.wordExact) fun _ =>
     Scf.Loop.for k0_t2_loop k0_t2_ok ⟨⟩ (body2 ⟨arg0, arg1, arg2, arg3, arg4, arg5, arg6, arg7, arg8, arg9, arg10, arg11, arg12, arg13, arg14, arg15, arg16, arg17, harg2, harg3, harg4, harg6, harg7, harg12, harg14⟩) >>= fun _ => κ (mx.pop 1 0 64 fits_0_64) zeroLhs) := by sl_kernel_rfl

set_option maxRecDepth 65536 in
theorem seg3_eq {α : Type} (mx : Mxu F) (z : FVec F S64x256 .bf16) (κ : Mxu F → P F α) : seg3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx z κ =
    firstScales ⟨arg0, arg1, arg2, arg3, arg4, arg5, arg6, arg7, arg8, arg9, arg10, arg11, arg12, arg13, arg14, arg15, arg16, arg17, harg2, harg3, harg4, harg6, harg7, harg12, harg14⟩ (Scf.Loop.for k0_t3_loop k0_t3_ok ((mx.accLhs 1 0 0 z fits_0_64).pop 1 0 64 fits_0_64) (Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 Mxu.init lane (fun _ => 0#32) (fun _ => 0#32) (fun _ => 0#32) (fun _ => 0#32) (fun _ => 0#32) (fun _ => 0#32) (fun _ => 0#32) (fun _ => 0#32)) >>= κ) := by sl_kernel_rfl

set_option maxRecDepth 65536 in
theorem seg4_eq {α : Type} (mx : Mxu F) (κ : Mxu F → P F α) : seg4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx κ =
    Scf.Loop.for k0_t4_loop k0_t4_ok mx (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 Mxu.init lane (fun _ => 0#32) (fun _ => 0#32) (fun _ => 0#32) (fun _ => 0#32) (fun _ => 0#32) (fun _ => 0#32) (fun _ => 0#32) (fun _ => 0#32)) >>= κ := by sl_kernel_rfl

set_option maxRecDepth 65536 in
theorem last_eq (mx : Mxu F) : seg4.tail arg4 harg4 arg14 harg14 arg17 mx =
    waitOut ⟨arg0, arg1, arg2, arg3, arg4, arg5, arg6, arg7, arg8, arg9, arg10, arg11, arg12, arg13, arg14, arg15, arg16, arg17, harg2, harg3, harg4, harg6, harg7, harg12, harg14⟩ 30#32 (by decide) (waitOut ⟨arg0, arg1, arg2, arg3, arg4, arg5, arg6, arg7, arg8, arg9, arg10, arg11, arg12, arg13, arg14, arg15, arg16, arg17, harg2, harg3, harg4, harg6, harg7, harg12, harg14⟩ 31#32 (by decide) (mx.exit >>= fun _ => .ret ⟨⟩)) := by sl_kernel_rfl

/-- The printed kernel is the structured program. -/
theorem root_eq : cc0_q4_lookup (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 = kernelP ⟨arg0, arg1, arg2, arg3, arg4, arg5, arg6, arg7, arg8, arg9, arg10, arg11, arg12, arg13, arg14, arg15, arg16, arg17, harg2, harg3, harg4, harg6, harg7, harg12, harg14⟩ (body1 ⟨arg0, arg1, arg2, arg3, arg4, arg5, arg6, arg7, arg8, arg9, arg10, arg11, arg12, arg13, arg14, arg15, arg16, arg17, harg2, harg3, harg4, harg6, harg7, harg12, harg14⟩) (body2 ⟨arg0, arg1, arg2, arg3, arg4, arg5, arg6, arg7, arg8, arg9, arg10, arg11, arg12, arg13, arg14, arg15, arg16, arg17, harg2, harg3, harg4, harg6, harg7, harg12, harg14⟩) (body3 ⟨arg0, arg1, arg2, arg3, arg4, arg5, arg6, arg7, arg8, arg9, arg10, arg11, arg12, arg13, arg14, arg15, arg16, arg17, harg2, harg3, harg4, harg6, harg7, harg12, harg14⟩) (body4 ⟨arg0, arg1, arg2, arg3, arg4, arg5, arg6, arg7, arg8, arg9, arg10, arg11, arg12, arg13, arg14, arg15, arg16, arg17, harg2, harg3, harg4, harg6, harg7, harg12, harg14⟩) := by
  have e3 : (Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 Mxu.init lane (fun _ => 0#32) (fun _ => 0#32) (fun _ => 0#32) (fun _ => 0#32) (fun _ => 0#32) (fun _ => 0#32) (fun _ => 0#32) (fun _ => 0#32)) = body3 ⟨arg0, arg1, arg2, arg3, arg4, arg5, arg6, arg7, arg8, arg9, arg10, arg11, arg12, arg13, arg14, arg15, arg16, arg17, harg2, harg3, harg4, harg6, harg7, harg12, harg14⟩ := funext fun k => funext fun mx => t3_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 _ _ _ _ _ _ _ _ _ k mx
  have e4 : (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 Mxu.init lane (fun _ => 0#32) (fun _ => 0#32) (fun _ => 0#32) (fun _ => 0#32) (fun _ => 0#32) (fun _ => 0#32) (fun _ => 0#32) (fun _ => 0#32)) = body4 ⟨arg0, arg1, arg2, arg3, arg4, arg5, arg6, arg7, arg8, arg9, arg10, arg11, arg12, arg13, arg14, arg15, arg16, arg17, harg2, harg3, harg4, harg6, harg7, harg12, harg14⟩ := funext fun k => funext fun mx => t4_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 _ _ _ _ _ _ _ _ _ k mx
  have h5 := fun mx => (seg4.eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx).trans (seg4_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx _)
  simp only [last_eq arg0 arg1 arg2 harg2 arg3 harg3 arg4 harg4 arg5 arg6 harg6 arg7 harg7 arg8 arg9 arg10 arg11 arg12 harg12 arg13 arg14 harg14 arg15 arg16 arg17, e4] at h5
  have h3 := fun mx z => (seg3.eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx z).trans (seg3_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx z _)
  simp only [h5, e3] at h3
  have h2 := fun mx => (seg2.eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx).trans (seg2_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx _)
  simp only [h3] at h2
  have h1 := (seg1.eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17).trans (seg1_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 _)
  simp only [h2] at h1
  exact (opened.eq_at (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17).trans (h1.trans (by sl_kernel_rfl))

end Cert.Kernel.Lookup
-- ==== Proof.Launch.lean ====
/- The run of the whole program: the host's rearrangements, then the kernel on whole buffers, given the ids name vocabulary entries. -/
module
public import proofs.«01_k».proof.Proof.Whole
public import proofs.«01_k».proof.Proof.Root
public import proofs.«01_k».proof.Proof.Gen.Kernel.Frame
public import Idealize.ShloMosaic.Lib.Pipeline.KitQuiescent
public import Idealize.ShloMosaic.Lib.ReduceAll
@[expose] public section
noncomputable section
namespace Cert.Kernel.Lookup
open Cert.Kernel Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
open Idealize.ShloMosaic.Pipeline (Dat BodyObligation)
open Cert.Kernel.Gen
open Idealize.ShloMosaic.Rounds
variable {F : FTy → Type} [FloatOps F]

/-! ## The kernel's buffers as the program gives them -/

/-- The program's operands and the kernel's own buffers and semaphores. -/
abbrev R₀ : Refs where
  ids := Memref.whole main_arg0
  words := Memref.whole main_v2
  subT := Memref.whole main_v3
  supT := Memref.whole main_v4
  out := Memref.whole main_v5
  idw := Memref.whole cc0_scratch0
  sub := Memref.whole cc0_scratch1
  sup := Memref.whole cc0_scratch2
  table := Memref.whole cc0_scratch3
  rows := Memref.whole cc0_scratch4
  scale := Memref.whole cc0_scratch5
  shift := Memref.whole cc0_scratch6
  perm := Memref.whole cc0_scratch7
  ring := Memref.whole cc0_scratch8
  outs := Memref.whole cc0_scratch9
  semIn := cc0_scratch10
  semRing := cc0_scratch11
  semOut := cc0_scratch12
  hsubT := Memref.isWhole_whole _
  hsupT := Memref.isWhole_whole _
  hout := Memref.isWhole_whole _
  hsub := Memref.isWhole_whole _
  hsup := Memref.isWhole_whole _
  hperm := Memref.isWhole_whole _
  houts := Memref.isWhole_whole _

theorem counts₀ : R₀.Counts where
  row := by decide
  slot := by decide
  out := by decide
  ids := by decide
  sub := by decide
  sup := by decide

/-- The pipeline's rounds, and beside them the counters of the kernel's own copies. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- A whole buffer, owned, is its reference owned whole. -/
theorem own_of_whole (d : Dev nD) (b : Ref sig .tc) (q : PosShare TreeShare) (f : Buf (Elt F) ((d : Thread nD τ).loc b)) :
    ((d : Thread nD τ).loc b ↦{q} f : sProp 𝕄) ⊢ Own d (Memref.whole b) Finset.univ q f := by
  unfold Own
  iintro H
  iexists f
  isplitr; · ipureintro; exact fun _ _ => rfl
  rw [show (Memref.whole b).view.setOn Finset.univ = Finset.univ from View.setOn_whole_univ b]
  iexact H

theorem any_of_whole (d : Dev nD) (b : Ref sig .tc) :
    (iprop(∃ f : Buf (Elt F) ((d : Thread nD τ).loc b), (d : Thread nD τ).loc b ↦{fullShare} f) : sProp 𝕄) ⊢ Any d (Memref.whole b) Finset.univ := by
  iintro ⟨%f, H⟩
  iapply any_of
  iapply (own_of_whole d b fullShare f) $$ H

theorem whole_of_any (d : Dev nD) (b : Ref sig .tc) :
    (Any d (Memref.whole b) Finset.univ : sProp 𝕄) ⊢ iprop(∃ f : Buf (Elt F) ((d : Thread nD τ).loc b), (d : Thread nD τ).loc b ↦{fullShare} f) := by
  unfold Any Own
  rw [show (Memref.whole b).view.setOn Finset.univ = Finset.univ from View.setOn_whole_univ b]
  iintro ⟨%g, %f, -, H⟩
  iexists f
  iexact H

/-! ## Its semaphores -/

/-- The kernel's own semaphores: the three of its loads, the ring's eleven and the two of its results. -/
abbrev osem : Fin 16 → SemLoc sig := fun i =>
  if i.val = 0 then .dma R₀.idSem else if i.val = 1 then .dma R₀.subSem else if i.val = 2 then .dma R₀.supSem
  else if i.val < 14 then .dma (R₀.ringSem (i.val - 3)) else .dma (R₀.outSemN (i.val - 14))
theorem ownSemFacts : Pipeline.OwnSemFacts (cfgs 0).spec osem := by decide

/-- One of them at zero. -/
abbrev SV (c : Dev nD) (i : Fin 16) : sProp (MT nD τ sig Unit (Elt F) ℕ (UU nD τ) ℕ) := semVal ((c : Thread nD τ), osem i) 0

theorem ring_sems (c : Dev nD) : (RingSems R₀ c : sProp 𝕄) = iprop(SV c 3 ∗ SV c 4 ∗ SV c 5 ∗ SV c 6 ∗ SV c 7 ∗ SV c 8 ∗ SV c 9 ∗ SV c 10 ∗ SV c 11 ∗ SV c 12 ∗ SV c 13) :=
  (congrArg (fun S => bigSep S fun n => semVal ((c : Thread nD τ), SemLoc.dma (R₀.ringSem n)) 0) (show Finset.Ico 0 11 = [0, 1, 2, 3, 4, 5, 6, 7, 8, 9, 10].toFinset by decide)).trans
    (BI.bigSep_eq_bigSepL _ (by decide) _)
theorem own_sems (c : Dev nD) : (Pipeline.ownSems0 (Ix := Unit) (Name := ℕ) (U := UU nD τ) (Lvl := ℕ) (Val := Elt F) (τ := τ) osem c : sProp 𝕄)
    = iprop(SV c 0 ∗ SV c 1 ∗ SV c 2 ∗ SV c 3 ∗ SV c 4 ∗ SV c 5 ∗ SV c 6 ∗ SV c 7 ∗ SV c 8 ∗ SV c 9 ∗ SV c 10 ∗ SV c 11 ∗ SV c 12 ∗ SV c 13 ∗ SV c 14 ∗ SV c 15) :=
  Pipeline.ownSems0_eq_of_list c osem [0, 1, 2, 3, 4, 5, 6, 7, 8, 9, 10, 11, 12, 13, 14, 15] (by decide) (by decide)

theorem sems_of_own (c : Dev nD) : (Pipeline.ownSems0 (Ix := Unit) (Name := ℕ) (U := UU nD τ) (Lvl := ℕ) (Val := Elt F) (τ := τ) osem c : sProp 𝕄) ⊢ Sems R₀ c := by
  unfold Sems
  rw [own_sems, ring_sems]
  iintro ⟨H0, H1, H2, H3, H4, H5, H6, H7, H8, H9, HA, HB, HC, HD, HE, HF⟩
  isplitl [H0]; · iexact H0
  isplitl [H1]; · iexact H1
  isplitl [H2]; · iexact H2
  isplitr [HE HF]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HB]; · iexact HB
    isplitl [HC]; · iexact HC
    iexact HD
  isplitl [HE]; · iexact HE
  iexact HF

theorem own_of_sems (c : Dev nD) : (Sems R₀ c : sProp 𝕄) ⊢ Pipeline.ownSems0 (Ix := Unit) (Name := ℕ) (U := UU nD τ) (Lvl := ℕ) (Val := Elt F) (τ := τ) osem c := by
  unfold Sems
  rw [own_sems, ring_sems]
  iintro ⟨H0, H1, H2, ⟨H3, H4, H5, H6, H7, H8, H9, HA, HB, HC, HD⟩, HE, HF⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HC]; · iexact HC
  isplitl [HD]; · iexact HD
  isplitl [HE]; · iexact HE
  iexact HF

/-! ## Its own buffers -/

theorem scratch_of_rest (c : Dev nD) : (Pipeline.scopedRest (Ix := Unit) (Name := ℕ) (U := UU nD τ) (Lvl := ℕ) (Val := Elt F) cfg0.spec c : sProp 𝕄)
    ⊢ iprop(All c R₀.idw ∗ Scratch R₀ c) := by
  rw [scopedRest0_eq]
  iintro ⟨H1, H2, H3, H4, H5, H6, H7, H8, H9, H0⟩
  isplitl [H0]; · iapply (any_of_whole c cc0_scratch0); iexact H0
  isplitl [H1]; · iapply (any_of_whole c cc0_scratch1); iexact H1
  isplitl [H2]; · iapply (any_of_whole c cc0_scratch2); iexact H2
  isplitl [H3 H4 H5 H6]
  · isplitl [H3]; · iapply (any_of_whole c cc0_scratch3); iexact H3
    isplitl [H4]; · iapply (any_of_whole c cc0_scratch4); iexact H4
    isplitl [H5]; · iapply (any_of_whole c cc0_scratch5); iexact H5
    iapply (any_of_whole c cc0_scratch6); iexact H6
  isplitl [H7]; · iapply (any_of_whole c cc0_scratch7); iexact H7
  isplitl [H8]; · iapply (any_of_whole c cc0_scratch8); iexact H8
  iapply (any_of_whole c cc0_scratch9); iexact H9

theorem rest_of_scratch (c : Dev nD) : (iprop(All c R₀.idw ∗ Scratch R₀ c) : sProp 𝕄)
    ⊢ Pipeline.scopedRest (Ix := Unit) (Name := ℕ) (U := UU nD τ) (Lvl := ℕ) (Val := Elt F) cfg0.spec c := by
  rw [scopedRest0_eq]
  iintro ⟨H0, H1, H2, ⟨H3, H4, H5, H6⟩, H7, H8, H9⟩
  isplitl [H1]; · iapply (whole_of_any c cc0_scratch1); iexact H1
  isplitl [H2]; · iapply (whole_of_any c cc0_scratch2); iexact H2
  isplitl [H3]; · iapply (whole_of_any c cc0_scratch3); iexact H3
  isplitl [H4]; · iapply (whole_of_any c cc0_scratch4); iexact H4
  isplitl [H5]; · iapply (whole_of_any c cc0_scratch5); iexact H5
  isplitl [H6]; · iapply (whole_of_any c cc0_scratch6); iexact H6
  isplitl [H7]; · iapply (whole_of_any c cc0_scratch7); iexact H7
  isplitl [H8]; · iapply (whole_of_any c cc0_scratch8); iexact H8
  isplitl [H9]; · iapply (whole_of_any c cc0_scratch9); iexact H9
  iapply (whole_of_any c cc0_scratch0); iexact H0

/-! ## The arrays -/

variable (m : (ℓ : Loc nD τ sig) → Buf (Elt F) ℓ) (ρ : Dev nD → PrngReg)

/-- Every id names a vocabulary entry. -/
def IdsOk : Prop := ∀ (c : Dev nD) (y : S2x1024.Idx), ((m ((c : Thread nD τ).loc main_arg0) y : BitVec 32)).toNat < 16000

/-- What the kernel is given: the ids and the code words. -/
def inp (c : Dev nD) : Inp F where
  ids := V m c main_arg0
  words := V m c main_v2

theorem inp_ok (h : IdsOk m) (c : Dev nD) : (inp m c).Ok := by
  intro i
  show ((V m c main_arg0 _ : BitVec 32)).toNat < 16000
  rw [V_main_arg0]
  exact h c _

/-- Before the kernel: the arrays it reads, the result's, its buffers and its semaphores. -/
def before (c : Dev nD) : sProp 𝕄 :=
  iprop(Arrays R₀ (inp m c) (V m c main_v3) (V m c main_v4) c ∗ All c R₀.idw ∗ Scratch R₀ c ∗ Sems R₀ c)
/-- After it: its buffers and its semaphores. -/
def done (c : Dev nD) : sProp 𝕄 := iprop(All c R₀.idw ∗ Scratch R₀ c ∗ Sems R₀ c)

def dats (_ : Fin 1) (c : Dev nD) : Dat τ (Elt F) Unit ℕ (UU nD τ) ℕ cfg0 c where
  A := fun w => w.elim0
  after := fun w => w.elim0
  Φ := fun t => if t.val = 0 then before m c else done c
  q := fun _ => fullShare
  owed := fun _ => 0

theorem dats_at (c : Dev nD) (t : Fin (cfg0.N + 1)) : (dats m 0 c).Φ t = if t.val = 0 then before m c else done c := rfl
theorem dats_before (c : Dev nD) (t : Fin (cfg0.N + 1)) (h : t.val = 0) : (dats m 0 c).Φ t = before m c := (dats_at m c t).trans (if_pos h)
theorem dats_done (c : Dev nD) (t : Fin (cfg0.N + 1)) (h : t.val ≠ 0) : (dats m 0 c).Φ t = done c := (dats_at m c t).trans (if_neg h)

theorem body_obligation (h : IdsOk m) (c : Dev nD) : BodyObligation (dats m 0 c) (defs₀ (F := F)) 𝒱₀ () Set.univ := fun t => by
  obtain rfl := fin_N0 t
  rw [dats_before m c (Fin.castSucc t0_0) rfl, dats_done m c (Fin.succ t0_0) (by decide)]
  unfold Dat.owesAt Pipeline.owesWithin
  rw [show (dats m 0 c).owed (Fin.castSucc t0_0) = 0 from rfl, show (dats m 0 c).owed (Fin.succ t0_0) = 0 from rfl]
  unfold before done
  iintro ⟨⟨HA, HI, HC, HS⟩, ⟨%W, -, HW⟩, HN⟩
  have e : (defs₀ (F := F)) .tc cfg0.body (cfg0.bodyArgs t0_0 (cfg0.slots t0_0)) = kernelP R₀ (body1 R₀) (body2 R₀) (body3 R₀) (body4 R₀) :=
    (show _ = cc0_q4_lookup (F := F) (Memref.whole main_arg0) _ _ _ _ _ _ _ _ _ _ _ _ _ _ _ _ _ _ _ _ _ _ _ _ _ _ _ _ _ _ _ _ from rfl).trans (root_eq ..)
  sl_rw [e]
  iapply (wp_kernel countersEmb R₀ (inp m c) (inp_ok m h c) counts₀ (V m c main_v3) (V m c main_v4)) $$ [HA HI HC HS HW]
  · isplitl [HA]; · iexact HA
    isplitl [HI]; · iexact HI
    isplitl [HC]; · iexact HC
    isplitl [HS]; · iexact HS
    iexists W; iexact HW
  iintro ⟨HI, HC, HS, ⟨%W', HW⟩⟩
  isplitl [HI HC HS]
  · isplitl [HI]; · iexact HI
    isplitl [HC]; · iexact HC
    iexact HS
  isplitl [HW]
  · iexists W'; isplitr; · ipureintro; exact fun _ _ => Or.inl trivial
    iexact HW
  iexact HN

/-! ## The run -/

/-- The arguments kept aside while the kernel runs. -/
def kept (c : Dev nD) : sProp 𝕄 :=
  iprop((∃ q, ((c : Thread nD τ).loc main_arg0) ↦{q} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3))
/-- What the kernel is given of the program's. -/
def given (c : Dev nD) : sProp 𝕄 := iprop(Arrays R₀ (inp m c) (V m c main_v3) (V m c main_v4) c ∗ Sems R₀ c)
def u₀ : UU nD τ := (initOf (Pipeline.cells cfgs cellOf_inj) (Pipeline.launchToks cfgs cellOf_inj), 1)

/-- The arguments as they were. -/
def Kept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)

theorem read_of_whole (d : Dev nD) (b : Ref sig .tc) (q : PosShare TreeShare) (f : Buf (Elt F) ((d : Thread nD τ).loc b)) :
    ((d : Thread nD τ).loc b ↦{q} f : sProp 𝕄) ⊢ Read d (Memref.whole b) f := by
  unfold Read
  iintro H
  iexists q
  iapply (own_of_whole d b q f); iexact H

theorem apart (c : Dev nD) : (iprop(Pipeline.unscopedRest cfg0.spec c (V m c) ∗ Pipeline.ownSems0 osem c) : sProp 𝕄) ⊢ iprop(given m c ∗ kept m c) := by
  rw [unscopedRest0_eq]
  unfold given kept
  iintro ⟨⟨A0, A1, A2, A3, -, -, B2, B3, B4, B5⟩, HS⟩
  ihave A0' := (pointsTo_share (PosShare.mem_left_op_right fullShare)).1 $$ A0
  icases A0' with ⟨A0, A0'⟩
  isplitr [A0' A1 A2 A3]
  · isplitr [HS]
    · isplitl [A0]; · iapply (read_of_whole c main_arg0); iexact A0
      isplitl [B2]; · iapply (read_of_whole c main_v2); iexact B2
      isplitl [B3]; · iapply (read_of_whole c main_v3); iexact B3
      isplitl [B4]; · iapply (read_of_whole c main_v4); iexact B4
      iapply (any_of_whole c main_v5); iexists _; iexact B5
    iapply (sems_of_own c); iexact HS
  isplitl [A0']; · iexists _; iexact A0'
  isplitl [A1]; · iexact A1
  isplitl [A2]; · iexact A2
  iexact A3

set_option backward.isDefEq.respectTransparency.types false in
theorem run_main (h : IdsOk m) : θ_run defs (onTc (τ := τ) (main (F := F))) ⟨m, fun _ => 0, ρ⟩ (fun r => (∀ c, Kept m c r.2) ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := given m) (Y := fun _ => iprop(emp)) (Z := kept m)
    (hX := fun c => by
      iintro ⟨H0, HS, -, -, -⟩; imodintro
      iapply (apart m c)
      isplitl [H0]; · iexact H0
      iexact HS)
    (hin := fun c => by
      rw [dats_before m c 0 rfl]
      unfold given before
      iintro ⟨⟨HA, HS⟩, HC⟩
      ihave HC' := (scratch_of_rest c) $$ HC
      icases HC' with ⟨HI, HC⟩
      isplitl [HA]; · iexact HA
      isplitl [HI]; · iexact HI
      isplitl [HC]; · iexact HC
      iexact HS)
    (hout := fun c => by
      rw [dats_done m c (Fin.last cfg0.N) (by decide)]
      unfold done
      iintro ⟨HI, HC, HS⟩
      isplitr; · iempintro
      isplitl [HS]; · iapply (own_of_sems c); iexact HS
      iapply (rest_of_scratch c)
      isplitl [HI]; · iexact HI
      iexact HC)
    (QY := Kept m)
    (hY := fun c s' => by
      unfold kept Kept
      rw [V_main_arg0, V_main_arg1, V_main_arg2, V_main_arg3]
      iintro ⟨-, ⟨⟨%q, H0⟩, H1, H2, H3⟩, HSI⟩
      icombine HSI H0 gives %h0
      icombine HSI H1 gives %h1
      icombine HSI H2 gives %h2
      icombine HSI H3 gives %h3
      imodintro
      isplitr; · ipureintro; exact ⟨Buf.eq_of_forall_mem_univ h0, Buf.eq_of_forall_mem_univ h1, Buf.eq_of_forall_mem_univ h2, Buf.eq_of_forall_mem_univ h3⟩
      iexact HSI)
    (hQ := fun _ hh hz => ⟨fun c => (hh c).2, hz⟩)

end Cert.Kernel.Lookup
end
-- ==== Proof.Frame.lean ====
/- The kernel's program runs, leaves its arguments and ends with its semaphores at zero. -/
module
public import proofs.«01_k».proof.Proof.Words
public import proofs.«01_k».proof.Proof.Launch
@[expose] public section
noncomputable section
namespace Cert.Kernel.Lookup
open Idealize.ShloMosaic Idealize.SL.Sem

theorem frame [Cert.Pre_pre.Facts] : Cert.quiescent_Kernel := fun m ρ hpre =>
  run_main m ρ fun c y => Cert.Lookup.ids_of_pre (hpre c) y

end Cert.Kernel.Lookup
end
-- ==== Proof.Ideal.Body.lean ====
/-
  The kernel's body as a structured program: the same effects in the same order, with the unrolled
  statements folded back into recursions over rows, row groups and blocks.
-/
module
public import proofs.«01_k».proof.Proof.Gen.KernelIdeal.Skeleton
public import Idealize.ShloMosaic.Lib.Tactic
public import Idealize.ShloMosaic.Lib.Mxu
@[expose] public section
noncomputable section
namespace Cert.KernelIdeal.Lookup
open Cert.KernelIdeal
open Idealize.ShloMosaic Idealize.ShloMosaic.TcCoe Idealize.ShloMosaic.Tactic
open Idealize.SL Idealize.SL.Sem
open Shapes1.Facts₀ K0.Facts₀
variable {F : FTy → Type} [FloatOps F]

/-- The kernel's operands and buffers. -/
structure Refs where
  ids : Memref sig .tc .hbm S2x1024 .i32
  words : Memref sig .tc .hbm S4000x2560 .i32
  subT : Memref sig .tc .hbm S160x16000 .i8
  supT : Memref sig .tc .hbm S20x16000 .i16
  out : Memref sig .tc .hbm S2x1024x5120 .bf16
  idw : Memref sig .tc .smem S2048 .i32
  sub : Memref sig .tc .vmem S160x16000 .i8
  sup : Memref sig .tc .vmem S20x16000 .i16
  table : Memref sig .tc .vmem S16000x128 .i32
  rows : Memref sig .tc .vmem S64x128 .i32
  scale : Memref sig .tc .vmem S20x64x128 .f32
  shift : Memref sig .tc .vmem S64x128 .i32
  perm : Memref sig .tc .vmem S256x256 .bf16
  ring : Memref sig .tc .vmem S11x64x2560 .i32
  outs : Memref sig .tc .vmem S2x64x5120 .bf16
  semIn : DmaSems sig S3
  semRing : DmaSems sig S11
  semOut : DmaSems sig S2
  hsubT : subT.IsWhole
  hsupT : supT.IsWhole
  hout : out.IsWhole
  hsub : sub.IsWhole
  hsup : sup.IsWhole
  hperm : perm.IsWhole
  houts : outs.IsWhole

/-- Programs of the body. -/
abbrev P (F : FTy → Type) [FloatOps F] (α : Type) := Prog (TpuEff nD τ sig (Elt F) Λ₀ .tc) α

theorem of32 (Q : BitVec 32 → Prop) (h : ∀ n : Fin 32, Q (BitVec.ofNat 32 n.val)) (w : BitVec 32) (hw : w.toNat < 32) : Q w := by
  have := h ⟨w.toNat, hw⟩
  rwa [show BitVec.ofNat 32 w.toNat = w from BitVec.eq_of_toNat_eq (by simp)] at this

/-! ## Offsets -/

/-- Where word `r` of the chunk starting at `base` lies in the copied ids. -/
def gOff (base : BitVec 32) (r : Nat) : Fin 1 → Nat := ![(Scalar.indexCast (Scalar.addi base (BitVec.ofNat 32 r))).toNat]
theorem gOff_val (base : BitVec 32) (hb : base.toNat ≤ 1984) (r : Nat) (hr : r < 64) : gOff base r 0 = base.toNat + r := by
  show (Scalar.addi base (BitVec.ofNat 32 r)).toNat = _
  show (base + BitVec.ofNat 32 r).toNat = _
  rw [BitVec.toNat_add, BitVec.toNat_ofNat]; omega
theorem gOff_inb (base : BitVec 32) (hb : base.toNat ≤ 1984) (r : Nat) (hr : r < 64) : ∀ a, gOff base r a + S1.size a ≤ S2048.size a := by
  intro a; obtain rfl : a = 0 := Subsingleton.elim _ _
  rw [gOff_val base hb r hr]; show base.toNat + r + 1 ≤ 2048; omega
theorem mul64 (w : BitVec 32) (hw : w.toNat < 32) : (Scalar.muli w 64#32).toNat = 64 * w.toNat := by
  show (w * 64#32).toNat = _
  rw [BitVec.toNat_mul]; simp; omega
theorem mul64_le (w : BitVec 32) (hw : w.toNat < 32) : (Scalar.muli w 64#32).toNat ≤ 1984 := by rw [mul64 w hw]; omega

def slotOff1 (w : BitVec 32) : Fin 1 → Nat := ![(Scalar.remsi w 11#32).toNat]
def slotOff3 (w : BitVec 32) (c : Nat) : Fin 3 → Nat := ![(Scalar.indexCast (Scalar.remsi w 11#32)).toNat, 0, c]
theorem slot_val (w : BitVec 32) (hw : w.toNat < 32) : (Scalar.remsi w 11#32).toNat = w.toNat % 11 :=
  of32 (fun w => (Scalar.remsi w 11#32).toNat = w.toNat % 11) (by decide) w hw
theorem slotOff1_inb (w : BitVec 32) (hw : w.toNat < 32) : ∀ a, slotOff1 w a + S1.size a ≤ S11.size a := by
  intro a; obtain rfl : a = 0 := Subsingleton.elim _ _
  show (Scalar.remsi w 11#32).toNat + 1 ≤ 11; rw [slot_val w hw]; omega
theorem slotOff3_inb (w : BitVec 32) (hw : w.toNat < 32) : ∀ a, slotOff3 w 0 a + S1x64x2560.size a ≤ S11x64x2560.size a := by
  intro a; fin_cases a
  · show (Scalar.remsi w 11#32).toNat + 1 ≤ 11; rw [slot_val w hw]; omega
  · exact Nat.le_refl _
  · exact Nat.le_refl _
theorem slotOff3b_inb (w : BitVec 32) (hw : w.toNat < 32) (j : Nat) (hj : j < 20) :
    ∀ a, slotOff3 w (128 * j) a + S1x64x128.size a ≤ S11x64x2560.size a := by
  intro a; fin_cases a
  · show (Scalar.remsi w 11#32).toNat + 1 ≤ 11; rw [slot_val w hw]; omega
  · exact Nat.le_refl _
  · show 128 * j + 128 ≤ 2560; omega
theorem ringRow_inb (r : Nat) (hr : r < 64) : ∀ a, (![r, 0] : Fin 2 → Nat) a + S1x2560.size a ≤ S64x2560.size a := by
  intro a; fin_cases a
  · show r + 1 ≤ 64; omega
  · exact Nat.le_refl _
theorem row_inb (r : Nat) (hr : r < 64) : ∀ a, (![r, 0] : Fin 2 → Nat) a + S1x128.size a ≤ S64x128.size a := by
  intro a; fin_cases a
  · show r + 1 ≤ 64; omega
  · exact Nat.le_refl _
theorem grp_inb (g : Nat) (hg : g < 8) : ∀ a, (![8 * g, 0] : Fin 2 → Nat) a + S8x128.size a ≤ S64x128.size a := by
  intro a; fin_cases a
  · show 8 * g + 8 ≤ 64; omega
  · exact Nat.le_refl _
theorem scale_inb (j : Nat) (hj : j < 20) : ∀ a, (![j, 0, 0] : Fin 3 → Nat) a + S1x64x128.size a ≤ S20x64x128.size a := by
  intro a; fin_cases a
  · show j + 1 ≤ 20; omega
  · exact Nat.le_refl _
  · exact Nat.le_refl _
theorem scaleg_inb (j : Nat) (hj : j < 20) (g : Nat) (hg : g < 8) :
    ∀ a, (![j, 8 * g, 0] : Fin 3 → Nat) a + S1x8x128.size a ≤ S20x64x128.size a := by
  intro a; fin_cases a
  · show j + 1 ≤ 20; omega
  · show 8 * g + 8 ≤ 64; omega
  · exact Nat.le_refl _
def outOff1 (w : BitVec 32) : Fin 1 → Nat := ![(Scalar.remsi w 2#32).toNat]
def outOff3 (w : BitVec 32) (c : Nat) : Fin 3 → Nat := ![(Scalar.indexCast (Scalar.remsi w 2#32)).toNat, 0, c]
theorem par_val (w : BitVec 32) (hw : w.toNat < 32) : (Scalar.remsi w 2#32).toNat = w.toNat % 2 :=
  of32 (fun w => (Scalar.remsi w 2#32).toNat = w.toNat % 2) (by decide) w hw
theorem outOff1_inb (w : BitVec 32) (hw : w.toNat < 32) : ∀ a, outOff1 w a + S1.size a ≤ S2.size a := by
  intro a; obtain rfl : a = 0 := Subsingleton.elim _ _
  show (Scalar.remsi w 2#32).toNat + 1 ≤ 2; rw [par_val w hw]; omega
theorem outOff3_inb (w : BitVec 32) (hw : w.toNat < 32) : ∀ a, outOff3 w 0 a + S1x64x5120.size a ≤ S2x64x5120.size a := by
  intro a; fin_cases a
  · show (Scalar.remsi w 2#32).toNat + 1 ≤ 2; rw [par_val w hw]; omega
  · exact Nat.le_refl _
  · exact Nat.le_refl _
theorem outOff3b_inb (w : BitVec 32) (hw : w.toNat < 32) (j : Nat) (hj : j < 20) :
    ∀ a, outOff3 w (256 * j) a + S1x64x256.size a ≤ S2x64x5120.size a := by
  intro a; fin_cases a
  · show (Scalar.remsi w 2#32).toNat + 1 ≤ 2; rw [par_val w hw]; omega
  · exact Nat.le_refl _
  · show 256 * j + 256 ≤ 5120; omega
theorem outOff3b_packed (w : BitVec 32) (hw : w.toNat < 32) (j : Nat) (hj : j < 20) :
    (Rect.unit (s := S2x64x5120) (outOff3 w (256 * j)) S1x64x256.size (outOff3b_inb w hw j hj)).PackedRows (EltTy.packing .bf16) := by
  have h : ∀ (b : Fin 2) (j : Fin 20) (h : ∀ a, (![b.val, 0, 256 * j.val] : Fin 3 → Nat) a + S1x64x256.size a ≤ S2x64x5120.size a),
      (Rect.unit (s := S2x64x5120) ![b.val, 0, 256 * j.val] S1x64x256.size h).PackedRows (EltTy.packing .bf16) := by decide
  have e : outOff3 w (256 * j) = ![w.toNat % 2, 0, 256 * j] := by
    show ![(Scalar.remsi w 2#32).toNat, 0, 256 * j] = _; rw [par_val w hw]
  have := h ⟨w.toNat % 2, Nat.mod_lt _ (by decide)⟩ ⟨j, hj⟩ (e ▸ outOff3b_inb w hw j hj)
  simp only [e]; exact this
theorem outOff3_words (w : BitVec 32) (hw : w.toNat < 32) :
    (Rect.unit (s := S2x64x5120) (outOff3 w 0) S1x64x5120.size (outOff3_inb w hw)).WholeWords (EltTy.packing .bf16) := by
  have h : ∀ (b : Fin 2) (h : ∀ a, (![b.val, 0, 0] : Fin 3 → Nat) a + S1x64x5120.size a ≤ S2x64x5120.size a),
      (Rect.unit (s := S2x64x5120) ![b.val, 0, 0] S1x64x5120.size h).WholeWords (EltTy.packing .bf16) := by decide
  have e : outOff3 w 0 = ![w.toNat % 2, 0, 0] := by
    show ![(Scalar.remsi w 2#32).toNat, 0, 0] = _; rw [par_val w hw]
  have := h ⟨w.toNat % 2, Nat.mod_lt _ (by decide)⟩ (e ▸ outOff3_inb w hw)
  simp only [e]; exact this

/-- Division of a nonnegative-or-negative word rounded down, as the scalar unit computes it. -/
def sFloorDiv (x n : BitVec 32) : BitVec 32 :=
  Scalar.select (Scalar.andi
      (Scalar.cmpi .ne (Scalar.subi (Scalar.extui (Scalar.cmpi .sgt x 0#32)) (Scalar.extui (Scalar.cmpi .slt x 0#32)))
        (Scalar.subi (Scalar.extui (Scalar.cmpi .sgt n 0#32)) (Scalar.extui (Scalar.cmpi .slt n 0#32))))
      (Scalar.cmpi .ne (Scalar.remsi x n) 0#32))
    (Scalar.subi (Scalar.divsi x n) 1#32) (Scalar.divsi x n)
/-- Where chunk `w` of the result lies: batch row, sequence position. -/
def hbmOff (w : BitVec 32) : Fin 3 → Nat :=
  ![(Scalar.remsi (sFloorDiv w 2#32) 2#32).toNat,
    (Scalar.addi (Scalar.muli (sFloorDiv (sFloorDiv w 2#32) 2#32) 128#32) (Scalar.muli (Scalar.remsi w 2#32) 64#32)).toNat, 0]
theorem hbm_val (w : BitVec 32) (hw : w.toNat < 32) : hbmOff w = ![w.toNat / 2 % 2, w.toNat / 4 * 128 + w.toNat % 2 * 64, 0] :=
  of32 (fun w => hbmOff w = ![w.toNat / 2 % 2, w.toNat / 4 * 128 + w.toNat % 2 * 64, 0]) (by decide) w hw
theorem hbmOff_inb (w : BitVec 32) (hw : w.toNat < 32) : ∀ a, hbmOff w a + S1x64x5120.size a ≤ S2x1024x5120.size a := by
  rw [hbm_val w hw]; intro a; fin_cases a
  · show w.toNat / 2 % 2 + 1 ≤ 2; omega
  · show w.toNat / 4 * 128 + w.toNat % 2 * 64 + 64 ≤ 1024; omega
  · exact Nat.le_refl _
theorem hbmOff_words (w : BitVec 32) (hw : w.toNat < 32) :
    (Rect.unit (s := S2x1024x5120) (hbmOff w) S1x64x5120.size (hbmOff_inb w hw)).WholeWords (EltTy.packing .bf16) := by
  have h : 2 ∣ hbmOff w 1 := by
    rw [hbm_val w hw]; show 2 ∣ w.toNat / 4 * 128 + w.toNat % 2 * 64; omega
  have h2 : 2 ≤ S2x1024x5120.rank := by decide
  exact .inl (.inr ⟨h2, rfl, .inl ⟨h, ⟨32, rfl⟩⟩⟩)

/-! ## Views -/

/-- Slot of chunk `w` in the ring of code words. -/
abbrev Refs.slot (R : Refs) (w : BitVec 32) (hw : w.toNat < 32) : Memref sig .tc .vmem S64x2560 .i32 :=
  (R.ring.slice (Rect.unit (s := S11x64x2560) (slotOff3 w 0) S1x64x2560.size (slotOff3_inb w hw)) (fun _ => rfl)).squeeze S64x2560 squeezes_S1x64x2560_S64x2560
abbrev Refs.slotSem (R : Refs) (w : BitVec 32) (hw : w.toNat < 32) : DmaSem sig :=
  ((R.semRing.slice (Rect.unit (s := S11) (slotOff1 w) S1.size (slotOff1_inb w hw))).squeeze S_ squeezes_S1_S_).sem
abbrev Refs.outSlot (R : Refs) (w : BitVec 32) (hw : w.toNat < 32) : Memref sig .tc .vmem S64x5120 .bf16 :=
  (R.outs.slice (Rect.unit (s := S2x64x5120) (outOff3 w 0) S1x64x5120.size (outOff3_inb w hw)) (fun _ => rfl)).squeeze S64x5120 squeezes_S1x64x5120_S64x5120
abbrev Refs.outHbm (R : Refs) (w : BitVec 32) (hw : w.toNat < 32) : Memref sig .tc .hbm S64x5120 .bf16 :=
  (R.out.slice (Rect.unit (s := S2x1024x5120) (hbmOff w) S1x64x5120.size (hbmOff_inb w hw)) (fun _ => rfl)).squeeze S64x5120 squeezes_S1x64x5120_S64x5120
abbrev Refs.outSem (R : Refs) (w : BitVec 32) (hw : w.toNat < 32) : DmaSem sig :=
  ((R.semOut.slice (Rect.unit (s := S2) (outOff1 w) S1.size (outOff1_inb w hw))).squeeze S_ squeezes_S1_S_).sem

variable (R : Refs)

/-! ## The fetch of code words -/

/-- Row `r` of chunk `w`: read the id, start the copy of its line of code words into the ring. -/
def fetchRow {α : Type} (w : BitVec 32) (hw : w.toNat < 32) (r : Nat) (hr : r < 64) (K : P F α) : P F α :=
  smemLoad R.idw (Rect.unit (s := S2048) (gOff (Scalar.muli w 64#32) r) S1.size (gOff_inb _ (mul64_le w hw) r hr)) numel1_S1 rfl >>= fun v =>
  .op (TpuEff.assume (k0_chk1 v) (k0_chk1.dec v)) fun h =>
  .op (.enqueueDma (R.words.slice (Rect.unit (s := S4000x2560) (k0_off4 v) S1x2560.size (k0_off4_inb v h.down)) (fun _ => rfl))
    (.here ((R.slot w hw).slice (Rect.unit (s := S64x2560) ![r, 0] S1x2560.size (ringRow_inb r hr)) (fun _ => rfl)))
    (.dma (R.slotSem w hw)) (View.wordExact_bits rfl) (View.wordExact_bits rfl) ⟨Or.inl rfl, trivial⟩) fun _ => K

def fetchRows {α : Type} (w : BitVec 32) (hw : w.toNat < 32) (K : P F α) : (n r : Nat) → r + n ≤ 64 → P F α
  | 0, _, _ => K
  | n + 1, r, h => fetchRow R w hw r (by omega) (fetchRows w hw K n (r + 1) (by omega))

/-! ## The scales -/

/-- Row `r` of the narrow table rows of the chunk whose ids start at `base`. -/
def gatherRow {α : Type} (base : BitVec 32) (hb : base.toNat ≤ 1984) (r : Nat) (hr : r < 64) (K : P F α) : P F α :=
  smemLoad R.idw (Rect.unit (s := S2048) (gOff base r) S1.size (gOff_inb base hb r hr)) numel1_S1 rfl >>= fun v =>
  .op (TpuEff.assume (k0_chk257 v) (k0_chk257.dec v)) fun h =>
  .op (.load R.table (Rect.unit (s := S16000x128) (k0_off762 v) S1x128.size (k0_off762_inb v h.down)).toLoadRect (View.loadsAt_vmem h_S1x128)) fun x =>
  .op (.load R.rows (Rect.unit (s := S64x128) ![r, 0] S1x128.size (row_inb r hr)).toLoadRect (View.loadsAt_vmem h_S1x128)) fun _ =>
  .op (.store R.rows (Rect.unit (s := S64x128) ![r, 0] S1x128.size (row_inb r hr)) (shapeCast S1x128 (x : Vec F S1x128 .i32) shapeCasts_S1x128_S1x128) Finset.univ
    (View.stores_vmem_bits_univ h_S1x128 rfl) (.inl rfl)) fun _ => K

def gatherRows {α : Type} (base : BitVec 32) (hb : base.toNat ≤ 1984) (K : P F α) : (n r : Nat) → r + n ≤ 64 → P F α
  | 0, _, _ => K
  | n + 1, r, h => gatherRow R base hb r (by omega) (gatherRows base hb K n (r + 1) (by omega))

/-- A family of values with the one at `g` replaced. -/
def upd {β : Type} (f : Nat → β) (g : Nat) (x : β) : Nat → β := fun i => cond (Nat.beq i g) x (f i)

/-- The eight row groups of the narrow rows, read in order. -/
def loadGroups {α : Type} (K : (Nat → IVec S8x128 32) → P F α) : (n g : Nat) → g + n ≤ 8 → (Nat → IVec S8x128 32) → P F α
  | 0, _, _, ws => K ws
  | n + 1, g, h, ws =>
    .op (.load R.rows (Rect.unit (s := S64x128) ![8 * g, 0] S8x128.size (grp_inb g (by omega))).toLoadRect (View.loadsAt_vmem h_S8x128)) fun x =>
    loadGroups K n (g + 1) (by omega) (upd ws g x)

/-- The lane number. -/
def lane : IVec S8x128 32 := iota .tc S8x128 32 [1] iota_S8x128_d1_w32

/-- Division of every element rounded down, as the vector unit computes it. -/
def vFloorDiv {s : Shape} (x : IVec s 32) (n : BitVec 32) : IVec s 32 :=
  select (andi
      (cmpi .ne (subi (extui 32 (cmpi .sgt x (broadcast s 0#32)) natLt_1_32) (extui 32 (cmpi .slt x (broadcast s 0#32)) natLt_1_32))
        (broadcast s (Scalar.subi (Scalar.extui (Scalar.cmpi .sgt n 0#32)) (Scalar.extui (Scalar.cmpi .slt n 0#32)))))
      (cmpi .ne (remsi x (broadcast s n)) (broadcast s 0#32)))
    (subi (divsi x (broadcast s n)) (broadcast s 1#32)) (divsi x (broadcast s n))

/-- A divisor, a zero one replaced by one. -/
def sDivisor (n : BitVec 32) : BitVec 32 := Scalar.select (Scalar.cmpi .eq n 0#32) 1#32 n
/-- The remainder that goes with `vFloorDiv`. -/
def vFloorMod {s : Shape} (x : IVec s 32) (n : BitVec 32) (hb : s.Broadcasts s) : IVec s 32 :=
  select (andi (xori (cmpi .slt (remsi x (broadcast s (sDivisor n))) (broadcast s 0#32))
        (broadcastTo s (broadcast s (Scalar.cmpi .slt (sDivisor n) 0#32) : IVec s 1) hb))
      (cmpi .ne (remsi x (broadcast s (sDivisor n))) (broadcast s 0#32)))
    (addi (remsi x (broadcast s (sDivisor n))) (broadcast s (sDivisor n))) (remsi x (broadcast s (sDivisor n)))

/-- A lane index, a negative one counted from the end. -/
def wrapIdx (x : IVec S8x128 32) : IVec S8x128 32 :=
  shapeCast S8x128 (shapeCast S8x128x1 (select (cmpi .slt x (broadcast S8x128 0#32)) (addi x (broadcast S8x128 128#32)) x)
    shapeCasts_S8x128_S8x128x1) shapeCasts_S8x128x1_S8x128

/-- The group of each lane, lanes past the last group repeating it. -/
def group (first : BitVec 32) : IVec S8x128 32 := minsi (addi (broadcast S8x128 first) lane) (broadcast S8x128 159#32)

/-- The scales of 128 groups from eight narrow rows. -/
def part (first : BitVec 32) (w : IVec S8x128 32) : FVec F S8x128 .f32 :=
  mulf (sitofp .f32 (andi (shrsi (dynamicGather 1 w (wrapIdx (vFloorDiv (group first) 4#32)))
        (muli (vFloorMod (group first) 4#32 broadcasts_S8x128_S8x128) (broadcast S8x128 8#32))) (broadcast S8x128 255#32)))
    (dynamicGather 1 (bitcastToFloat .f32 w) (wrapIdx (addi (broadcast S8x128 40#32) (vFloorDiv (group first) 8#32))))

/-- The shifts of eight rows. -/
def shiftOf (w : IVec S8x128 32) : IVec S8x128 32 := dynamicGather 1 w (wrapIdx (broadcast S8x128 63#32))

/-- A chunk's narrow rows, read three times. -/
def narrow {α : Type} (base : BitVec 32) (hb : base.toNat ≤ 1984)
    (K : (Nat → IVec S8x128 32) → (Nat → IVec S8x128 32) → (Nat → IVec S8x128 32) → P F α) : P F α :=
  gatherRows R base hb
    (loadGroups R (fun w0 => loadGroups R (fun w1 => loadGroups R (fun w2 => K w0 w1 w2) 8 0 (by omega) fun _ _ => 0#32) 8 0 (by omega) fun _ _ => 0#32)
      8 0 (by omega) fun _ _ => 0#32)
    64 0 (by omega)

/-- The scales of block `j` for one row group: each of eight groups' scales on sixteen lanes. -/
def spreadVal (j : Nat) (p0 p1 : FVec F S8x128 .f32) : FVec F S8x128 .f32 :=
  dynamicGather 1 (cond (Nat.blt j 16) p0 p1)
    (wrapIdx (addi (broadcast S8x128 (BitVec.ofNat 32 (j * 8 % 128))) (vFloorDiv lane 16#32)))

def spreadGroups {α : Type} (j : Nat) (hj : j < 20) (p0 p1 : Nat → FVec F S8x128 .f32) (K : P F α) : (n g : Nat) → g + n ≤ 8 → P F α
  | 0, _, _ => K
  | n + 1, g, h =>
    .op (.load R.scale (Rect.unit (s := S20x64x128) ![j, 8 * g, 0] S1x8x128.size (scaleg_inb j hj g (by omega))).toLoadRect (View.loadsAt_vmem h_S1x8x128)) fun _ =>
    .op (.store R.scale (Rect.unit (s := S20x64x128) ![j, 8 * g, 0] S1x8x128.size (scaleg_inb j hj g (by omega)))
      (shapeCast S1x8x128 (spreadVal j (p0 g) (p1 g)) shapeCasts_S8x128_S1x8x128) Finset.univ (View.stores_vmem_bits_univ h_S1x8x128 rfl) (.inl rfl)) fun _ =>
    spreadGroups j hj p0 p1 K n (g + 1) (by omega)

def storeShifts {α : Type} (sh : Nat → IVec S8x128 32) (K : P F α) : (n g : Nat) → g + n ≤ 8 → P F α
  | 0, _, _ => K
  | n + 1, g, h =>
    .op (.load R.shift (Rect.unit (s := S64x128) ![8 * g, 0] S8x128.size (grp_inb g (by omega))).toLoadRect (View.loadsAt_vmem h_S8x128)) fun _ =>
    .op (.store R.shift (Rect.unit (s := S64x128) ![8 * g, 0] S8x128.size (grp_inb g (by omega)))
      (shapeCast S8x128 (sh g) shapeCasts_S8x128_S8x128) Finset.univ (View.stores_vmem_bits_univ h_S8x128 rfl) (.inl rfl)) fun _ =>
    storeShifts sh K n (g + 1) (by omega)

/-! ## A block -/

/-- Sixty-four rows of one block: nibbles to values, times the scales, low nibbles beside high ones. -/
def lhsOf (c : IVec S64x128 32) (sh : IVec S64x128 32) (s : FVec F S64x128 .f32) : FVec F S64x256 .bf16 :=
  truncf .bf16 (concatenate S64x256 1
    [⟨S64x128, mulf (subf (bitcastToFloat .f32 (ori (andi (shrui c sh) (broadcast S64x128 15#32)) (broadcast S64x128 1258291200#32)))
        (broadcast S64x128 (Scalar.ofBits .f32 0x4B000008#32))) s⟩,
     ⟨S64x128, mulf (subf (bitcastToFloat .f32 (ori (andi (shrui c sh) (broadcast S64x128 240#32)) (broadcast S64x128 1224736768#32)))
        (broadcast S64x128 (Scalar.ofBits .f32 0x49000080#32))) s⟩]
    concatenates_S64x128_S64x128_S64x256_d1) bitsLt_bf16_f32

theorem accFits (j : Nat) (hj : j < 20) : Mxu.Fits (16 * (j / 2)) 64 := ⟨by omega, by decide, by omega⟩
abbrev unitOf (j : Nat) : Fin 2 := ⟨j % 2, Nat.mod_lt _ (by decide)⟩

def dequant {α : Type} (w : BitVec 32) (hw : w.toNat < 32) (j : Nat) (hj : j < 20) (mx : Mxu F) (K : Mxu F → P F α) : P F α :=
  .op (.load R.ring (Rect.unit (s := S11x64x2560) (slotOff3 w (128 * j)) S1x64x128.size (slotOff3b_inb w hw j hj)).toLoadRect (View.loadsAt_vmem h_S1x64x128)) fun c =>
  .op (.load R.shift (Rect.unit (s := S64x128) ![0, 0] S64x128.size inb_S64x128_S64x128_0_0).toLoadRect (View.loadsAt_vmem h_S64x128)) fun sh =>
  .op (.load R.scale (Rect.unit (s := S20x64x128) ![j, 0, 0] S1x64x128.size (scale_inb j hj)).toLoadRect (View.loadsAt_vmem h_S1x64x128)) fun s =>
  mx.accLhsLoaded (unitOf j) (16 * (j / 2))
    (lhsOf (shapeCast S64x128 (c : Vec F S1x64x128 .i32) shapeCasts_S1x64x128_S64x128) sh (shapeCast S64x128 (s : Vec F S1x64x128 .f32) shapeCasts_S1x64x128_S64x128))
    (accFits j hj) >>= K

def readOut {α : Type} (w : BitVec 32) (hw : w.toNat < 32) (j : Nat) (hj : j < 20) (mx : Mxu F) (K : Mxu F → P F α) : P F α :=
  .op (.load R.outs (Rect.unit (s := S2x64x5120) (outOff3 w (256 * j)) S1x64x256.size (outOff3b_inb w hw j hj)).toLoadRect (View.loadsAt_vmem h_S1x64x256)) fun _ =>
  .op (.store R.outs (Rect.unit (s := S2x64x5120) (outOff3 w (256 * j)) S1x64x256.size (outOff3b_inb w hw j hj))
    (shapeCast S1x64x256 (truncf .bf16 (mx.read (unitOf j) (16 * (j / 2)) (accFits j hj)) bitsLt_bf16_f32 : FVec F S64x256 .bf16) shapeCasts_S64x256_S1x64x256) Finset.univ
    (View.stores_vmem h_S1x64x256 (R.houts.storeExact_slice rfl _ (outOff3b_packed w hw j hj)) (fun _ => rfl)) (.inl rfl)) fun _ =>
  K (mx.pop (unitOf j) (16 * (j / 2)) 64 (accFits j hj))

/-- What a step fetches while it computes block `j`. -/
abbrev Fetcher (F : FTy → Type) [FloatOps F] (α : Type) := (j : Nat) → j < 20 → P F α → P F α

def fillBlock {α : Type} (fe : Fetcher F α) (w : BitVec 32) (hw : w.toNat < 32) (p0 p1 : Nat → FVec F S8x128 .f32) (j : Nat) (hj : j < 20)
    (mx : Mxu F) (K : Mxu F → P F α) : P F α :=
  fe j hj (dequant R w hw j hj mx fun mx' => spreadGroups R j hj p0 p1 (K mx') 8 0 (by omega))

def blocksA {α : Type} (fe : Fetcher F α) (w : BitVec 32) (hw : w.toNat < 32) (p0 p1 : Nat → FVec F S8x128 .f32) (K : Mxu F → P F α) :
    (n j : Nat) → j + n ≤ 4 → Mxu F → P F α
  | 0, _, _, mx => K mx
  | n + 1, j, h, mx => fillBlock R fe w hw p0 p1 j (by omega) mx fun mx => blocksA fe w hw p0 p1 K n (j + 1) (by omega) mx
def blocksB {α : Type} (fe : Fetcher F α) (w : BitVec 32) (hw : w.toNat < 32) (p0 p1 : Nat → FVec F S8x128 .f32) (K : Mxu F → P F α) :
    (n j : Nat) → j + n ≤ 16 → Mxu F → P F α
  | 0, _, _, mx => K mx
  | n + 1, j, h, mx => fillBlock R fe w hw p0 p1 (j + 4) (by omega) mx fun mx => readOut R w hw j (by omega) mx fun mx =>
      blocksB fe w hw p0 p1 K n (j + 1) (by omega) mx
def blocksC {α : Type} (w : BitVec 32) (hw : w.toNat < 32) (K : Mxu F → P F α) :
    (n j : Nat) → j + n ≤ 20 → Mxu F → P F α
  | 0, _, _, mx => K mx
  | n + 1, j, h, mx => readOut R w hw j (by omega) mx fun mx => blocksC w hw K n (j + 1) (by omega) mx

/-! ## A step -/

def waitSlot {α : Type} (w : BitVec 32) (hw : w.toNat < 32) (K : P F α) : P F α :=
  .op (.waitDma2 (R.slotSem w hw) (R.words.slice (Rect.unit (s := S4000x2560) ![0, 0] S64x2560.size inb_S4000x2560_S64x2560_0_0) (fun _ => rfl)) (R.slot w hw)
    (View.wordExact_bits rfl) ((View.wordExact_bits rfl).reshape _ _)) fun _ => K
def waitOut {α : Type} (w : BitVec 32) (hw : w.toNat < 32) (K : P F α) : P F α :=
  .op (.waitDma2 (R.outSem w hw) (R.outSlot w hw) (R.outHbm w hw) ((R.houts.wordExact_slice rfl _ (outOff3_words w hw)).reshape _ _)
    ((R.hout.wordExact_slice rfl _ (hbmOff_words w hw)).reshape _ _)) fun _ => K
def startOut {α : Type} (w : BitVec 32) (hw : w.toNat < 32) (K : P F α) : P F α :=
  .op (.enqueueDma (R.outSlot w hw) (.here (R.outHbm w hw)) (.dma (R.outSem w hw)) ((R.houts.wordExact_slice rfl _ (outOff3_words w hw)).reshape _ _)
    ((R.hout.wordExact_slice rfl _ (hbmOff_words w hw)).reshape _ _) ⟨Or.inl rfl, trivial⟩) fun _ => K

def hasOut (w : BitVec 32) : BitVec 1 := Scalar.cmpi .ne (Scalar.extui (Scalar.cmpi .sge w 2#32)) 0#32
theorem hasOut_iff (w : BitVec 32) (hw : w.toNat < 32) : hasOut w = 1#1 ↔ 2 ≤ w.toNat :=
  of32 (fun w => hasOut w = 1#1 ↔ 2 ≤ w.toNat) (by decide) w hw
theorem prev_val (w : BitVec 32) (hw : w.toNat < 32) (h : 2 ≤ w.toNat) : (Scalar.subi w 2#32).toNat = w.toNat - 2 :=
  of32 (fun w => 2 ≤ w.toNat → (Scalar.subi w 2#32).toNat = w.toNat - 2) (by decide) w hw h
theorem prev_lt (w : BitVec 32) (hw : w.toNat < 32) (h : hasOut w = 1#1) : (Scalar.subi w 2#32).toNat < 32 := by
  rw [prev_val w hw ((hasOut_iff w hw).1 h)]; omega
def next (w : BitVec 32) : BitVec 32 := Scalar.minsi (Scalar.addi w 1#32) 31#32
theorem next_val (w : BitVec 32) (hw : w.toNat < 32) : (next w).toNat = min (w.toNat + 1) 31 :=
  of32 (fun w => (next w).toNat = min (w.toNat + 1) 31) (by decide) w hw
theorem next_lt (w : BitVec 32) (hw : w.toNat < 32) : (next w).toNat < 32 := by rw [next_val w hw]; omega

def step (fe : Fetcher F (Mxu F)) (w : BitVec 32) (hw : w.toNat < 32) (mx : Mxu F) : P F (Mxu F) :=
  waitSlot R w hw <|
  (if h : hasOut w = 1#1 then waitOut R (Scalar.subi w 2#32) (prev_lt w hw h) (.ret ⟨⟩) else (.ret ⟨⟩ : P F PUnit)) >>= fun _ =>
  narrow R (Scalar.muli (next w) 64#32) (mul64_le _ (next_lt w hw)) fun w0 w1 w2 =>
  blocksA R fe w hw (fun g => part 0#32 (w0 g)) (fun g => part 128#32 (w1 g))
    (blocksB R fe w hw (fun g => part 0#32 (w0 g)) (fun g => part 128#32 (w1 g))
      (blocksC R w hw (fun mx => storeShifts R (fun g => shiftOf (w2 g)) (startOut R w hw (.ret mx)) 8 0 (by omega)) 4 16 (by omega))
      16 0 (by omega))
    4 0 (by omega) mx

/-- The step that also fetches the chunk ten ahead, three or four rows a block. -/
def fetchAhead {α : Type} (w : BitVec 32) (hw : w.toNat < 32) : Fetcher F α := fun j hj K =>
  fetchRows R w hw K (64 * (j + 1) / 20 - 64 * j / 20) (64 * j / 20) (by omega)
def fetchNone {α : Type} : Fetcher F α := fun _ _ K => K

def w1 (k : Nat) : BitVec 32 := Scalar.addi 0#32 (Scalar.muli (Scf.iv 0#32 1#32 k) 1#32)
def w4 (k : Nat) : BitVec 32 := Scalar.addi 22#32 (Scalar.muli (Scf.iv 0#32 1#32 k) 1#32)
theorem w1_val (k : Fin 32) : (w1 k.val).toNat = k.val := by revert k; decide
theorem w4_val (k : Fin 10) : (w4 k.val).toNat = 22 + k.val := by revert k; decide
theorem w1_add (k : Fin 22) : (Scalar.addi (w1 k.val) 10#32).toNat = k.val + 10 := by revert k; decide
theorem w1_lt (k : Nat) (hk : k < 32) : (w1 k).toNat < 32 := by rw [w1_val ⟨k, hk⟩]; exact hk
theorem w4_lt (k : Nat) (hk : k < 10) : (w4 k).toNat < 32 := by rw [w4_val ⟨k, hk⟩]; show 22 + k < 32; omega
theorem w1_add_lt (k : Nat) (hk : k < 22) : (Scalar.addi (w1 k) 10#32).toNat < 32 := by rw [w1_add ⟨k, hk⟩]; show k + 10 < 32; omega
theorem t1_trips : k0_t1_loop.trips = 10 := by decide
theorem t2_trips : k0_t2_loop.trips = 25 := by decide
theorem t3_trips : k0_t3_loop.trips = 22 := by decide
theorem t4_trips : k0_t4_loop.trips = 10 := by decide
theorem lt1 (k : Fin k0_t1_loop.trips) : k.val < 10 := t1_trips ▸ k.isLt
theorem lt2 (k : Fin k0_t2_loop.trips) : k.val < 25 := t2_trips ▸ k.isLt
theorem lt3 (k : Fin k0_t3_loop.trips) : k.val < 22 := t3_trips ▸ k.isLt
theorem lt4 (k : Fin k0_t4_loop.trips) : k.val < 10 := t4_trips ▸ k.isLt

/-! ## The ids -/

theorem idSrc_inb (n : Nat) (hn : n < 16) : ∀ a, (![n % 2, 128 * (n / 2)] : Fin 2 → Nat) a + S1x128.size a ≤ S2x1024.size a := by
  intro a; fin_cases a
  · show n % 2 + 1 ≤ 2; omega
  · show 128 * (n / 2) + 128 ≤ 1024; omega
theorem idDst_inb (n : Nat) (hn : n < 16) : ∀ a, (![128 * n] : Fin 1 → Nat) a + S128.size a ≤ S2048.size a := by
  intro a; obtain rfl : a = 0 := Subsingleton.elim _ _
  show 128 * n + 128 ≤ 2048; omega

/-- Strip `n` of the ids, in the argument and in scalar memory. -/
abbrev Refs.idSrc (n : Nat) (hn : n < 16) : Memref sig .tc .hbm S128 .i32 :=
  (R.ids.slice (Rect.unit (s := S2x1024) ![n % 2, 128 * (n / 2)] S1x128.size (idSrc_inb n hn)) (fun _ => rfl)).squeeze S128 squeezes_S1x128_S128
abbrev Refs.idDst (n : Nat) (hn : n < 16) : Memref sig .tc .smem S128 .i32 :=
  R.idw.slice (Rect.unit (s := S2048) ![128 * n] S128.size (idDst_inb n hn)) (fun _ => rfl)
abbrev Refs.idSem : DmaSem sig := ((R.semIn.slice (Rect.unit (s := S3) ![0] S1.size inb_S3_S1_0)).squeeze S_ squeezes_S1_S_).sem
abbrev Refs.subSem : DmaSem sig := ((R.semIn.slice (Rect.unit (s := S3) ![1] S1.size inb_S3_S1_1)).squeeze S_ squeezes_S1_S_).sem
abbrev Refs.supSem : DmaSem sig := ((R.semIn.slice (Rect.unit (s := S3) ![2] S1.size inb_S3_S1_2)).squeeze S_ squeezes_S1_S_).sem

def startIds {α : Type} (K : P F α) : (n r : Nat) → r + n ≤ 16 → P F α
  | 0, _, _ => K
  | n + 1, r, h => .op (.enqueueDma (R.idSrc r (by omega)) (.here (R.idDst r (by omega))) (.dma R.idSem)
      ((View.wordExact_bits rfl).reshape _ _) (View.wordExact_bits rfl) ⟨Or.inl rfl, trivial⟩) fun _ => startIds K n (r + 1) (by omega)
def waitIds {α : Type} (K : P F α) : (n r : Nat) → r + n ≤ 16 → P F α
  | 0, _, _ => K
  | n + 1, r, h => .op (.waitDma2 R.idSem (R.idSrc r (by omega)) (R.idDst r (by omega))
      ((View.wordExact_bits rfl).reshape _ _) (View.wordExact_bits rfl)) fun _ => waitIds K n (r + 1) (by omega)

/-! ## The permutation -/

/-- The source row of each column of the permutation. -/
def permSrc : IVec S256x256 32 :=
  let n : IVec S256x256 32 := iota .tc S256x256 32 [1] iota_S256x256_d1_w32
  addi (addi (muli (vFloorDiv n 32#32) (broadcast S256x256 16#32)) (vFloorMod n 16#32 broadcasts_S256x256_S256x256))
    (muli (vFloorDiv (vFloorMod n 32#32 broadcasts_S256x256_S256x256) 16#32) (broadcast S256x256 128#32))
def permVal : FVec F S256x256 .bf16 :=
  truncf .bf16 (sitofp .f32 (extui 32 (cmpi .eq (iota .tc S256x256 32 [0] iota_S256x256_d0_w32) permSrc) natLt_1_32)) bitsLt_bf16_f32
def zeroLhs : FVec F S64x256 .bf16 := broadcast S64x256 (Scalar.ofBits .bf16 0x0000#16 : F .bf16)

theorem fits0 : Mxu.Fits 0 64 := fits_0_64

/-- Loading the permutation into one unit. -/
def loadUnit {α : Type} (q : Fin 2) (mx : Mxu F) (K : Mxu F → P F α) : P F α :=
  .op (.load R.perm (Rect.unit (s := S256x256) ![0, 0] S256x256.size inb_S256x256_S256x256_0_0).toLoadRect (View.loadsAt_vmem h_S256x256)) fun p =>
  mx.pushRhs q 0 false (p : Vec F S256x256 .bf16) >>= fun mx =>
  K ((((mx.pop q 0 64 fits_0_64).accLhs q 0 0 zeroLhs fits_0_64)).pop q 0 64 fits_0_64)

def storePerm {α : Type} (K : P F α) : P F α :=
  .op (.load R.perm (Rect.unit (s := S256x256) ![0, 0] S256x256.size inb_S256x256_S256x256_0_0).toLoadRect (View.loadsAt_vmem h_S256x256)) fun _ =>
  .op (.store R.perm (Rect.unit (s := S256x256) ![0, 0] S256x256.size inb_S256x256_S256x256_0_0) (shapeCast S256x256 permVal shapeCasts_S256x256_S256x256) Finset.univ
    (View.stores_vmem h_S256x256 (R.hperm.storeExact_slice rfl _ packedbf16_S256x256_S256x256_0_0) (fun _ => rfl)) (.inl rfl)) fun _ => K

/-! ## The narrow table -/

/-- An `f16` word as `f32` bits, in integers. -/
def widenBits (h : IVec S20x128 32) : IVec S20x128 32 :=
  let m := shli (andi h (broadcast S20x128 32767#32)) (broadcast S20x128 13#32)
  let norm := select (cmpi .sge m (broadcast S20x128 260046848#32)) (addi m (broadcast S20x128 1879048192#32)) (addi m (broadcast S20x128 939524096#32))
  let s := subi (ctlz m) (broadcast S20x128 8#32)
  let tiny := select (cmpi .eq m (broadcast S20x128 0#32)) (broadcast S20x128 0#32)
    (addi (shli m s) (shli (subi (broadcast S20x128 112#32) s) (broadcast S20x128 23#32)))
  ori (select (cmpi .slt m (broadcast S20x128 8388608#32)) tiny norm) (shli (andi h (broadcast S20x128 32768#32)) (broadcast S20x128 16#32))

/-- The shift of each lane's row within its word. -/
def shiftRow : IVec S1x128 32 := shli (andi (iota .tc S1x128 32 [1] iota_S1x128_d1_w32) (broadcast S1x128 3#32)) (broadcast S1x128 3#32)

/-- A hundred and twenty-eight narrow rows from the sub-scales and super-scales of as many vocabulary entries. -/
def tableVal (sb : IVec S160x128 8) (sp : IVec S20x128 16) : IVec S128x64 32 :=
  transpose S128x64 [1, 0] (concatenate S64x128 0
    [⟨S40x128, (bitcast S40x128 32 sb bitcasts_S160x128_w8_S40x128_w32 : IVec S40x128 32)⟩, ⟨S20x128, widenBits (extsi 32 sp natLt_16_32)⟩,
     ⟨S3x128, (broadcast S3x128 0#32 : IVec S3x128 32)⟩, ⟨S1x128, shiftRow⟩] concatenates_S40x128_S20x128_S3x128_S1x128_S64x128_d0) transposes_S64x128_p1_0_S128x64

def tileOff (k u : Nat) : BitVec 32 :=
  Scalar.muli (Scalar.addi (Scalar.muli (Scalar.addi 0#32 (Scalar.muli (Scf.iv 0#32 1#32 k) 1#32)) 5#32) (BitVec.ofNat 32 u)) 128#32
theorem tileOff_val (k u : Nat) (hk : k < 25) (hu : u < 5) : (Scalar.indexCast (tileOff k u)).toNat = 128 * (5 * k + u) := by
  have h : ∀ (k : Fin 25) (u : Fin 5), (Scalar.indexCast (tileOff k.val u.val)).toNat = 128 * (5 * k.val + u.val) := by decide
  exact h ⟨k, hk⟩ ⟨u, hu⟩
theorem tileSub_inb (k u : Nat) (hk : k < 25) (hu : u < 5) : ∀ a, (![0, (Scalar.indexCast (tileOff k u)).toNat] : Fin 2 → Nat) a + S160x128.size a ≤ S160x16000.size a := by
  intro a; fin_cases a
  · exact Nat.le_refl _
  · show (Scalar.indexCast (tileOff k u)).toNat + 128 ≤ 16000; rw [tileOff_val k u hk hu]; omega
theorem tileSup_inb (k u : Nat) (hk : k < 25) (hu : u < 5) : ∀ a, (![0, (Scalar.indexCast (tileOff k u)).toNat] : Fin 2 → Nat) a + S20x128.size a ≤ S20x16000.size a := by
  intro a; fin_cases a
  · exact Nat.le_refl _
  · show (Scalar.indexCast (tileOff k u)).toNat + 128 ≤ 16000; rw [tileOff_val k u hk hu]; omega
theorem tileTab_inb (k u : Nat) (hk : k < 25) (hu : u < 5) : ∀ a, (![(Scalar.indexCast (tileOff k u)).toNat, 0] : Fin 2 → Nat) a + S128x64.size a ≤ S16000x128.size a := by
  intro a; fin_cases a
  · show (Scalar.indexCast (tileOff k u)).toNat + 128 ≤ 16000; rw [tileOff_val k u hk hu]; omega
  · show 0 + 64 ≤ 128; omega

def tiles {α : Type} (k : Nat) (hk : k < 25) (K : P F α) : (n u : Nat) → u + n ≤ 5 → P F α
  | 0, _, _ => K
  | n + 1, u, h =>
    .op (.load R.sub (Rect.unit (s := S160x16000) ![0, (Scalar.indexCast (tileOff k u)).toNat] S160x128.size (tileSub_inb k u hk (by omega))).toLoadRect (View.loadsAt_vmem h_S160x128)) fun sb =>
    .op (.load R.sup (Rect.unit (s := S20x16000) ![0, (Scalar.indexCast (tileOff k u)).toNat] S20x128.size (tileSup_inb k u hk (by omega))).toLoadRect (View.loadsAt_vmem h_S20x128)) fun sp =>
    .op (.load R.table (Rect.unit (s := S16000x128) ![(Scalar.indexCast (tileOff k u)).toNat, 0] S128x64.size (tileTab_inb k u hk (by omega))).toLoadRect (View.loadsAt_vmem h_S128x64)) fun _ =>
    .op (.store R.table (Rect.unit (s := S16000x128) ![(Scalar.indexCast (tileOff k u)).toNat, 0] S128x64.size (tileTab_inb k u hk (by omega)))
      (shapeCast S128x64 (tableVal (sb : Vec F S160x128 .i8) (sp : Vec F S20x128 .i16)) shapeCasts_S128x64_S128x64) Finset.univ (View.stores_vmem_bits_univ h_S128x64 rfl) (.inl rfl)) fun _ =>
    tiles k hk K n (u + 1) (by omega)

/-! ## The whole kernel -/

def spreadAll {α : Type} (p0 p1 : Nat → FVec F S8x128 .f32) (K : P F α) : (n j : Nat) → j + n ≤ 20 → P F α
  | 0, _, _ => K
  | n + 1, j, h => spreadGroups R j (by omega) p0 p1 (spreadAll p0 p1 K n (j + 1) (by omega)) 8 0 (by omega)

def body1 (k : Fin k0_t1_loop.trips) (_ : Unit) : P F Unit := fetchRows R (w1 k) (w1_lt k (by have := lt1 k; omega)) (.ret ()) 64 0 (by omega)
def body2 (k : Fin k0_t2_loop.trips) (_ : Unit) : P F Unit := tiles R k (lt2 k) (.ret ()) 5 0 (by omega)
def body3 (k : Fin k0_t3_loop.trips) (mx : Mxu F) : P F (Mxu F) :=
  step R (fetchAhead R (Scalar.addi (w1 k) 10#32) (w1_add_lt k (lt3 k))) (w1 k) (w1_lt k (by have := lt3 k; omega)) mx
def body4 (k : Fin k0_t4_loop.trips) (mx : Mxu F) : P F (Mxu F) := step R fetchNone (w4 k) (w4_lt k (lt4 k)) mx

/-- What the kernel does before its first step: ids, the first ten chunks' fetches, permutation, table, first scales. -/
def prologue {α : Type} (b1 : Fin k0_t1_loop.trips → Unit → P F Unit) (b2 : Fin k0_t2_loop.trips → Unit → P F Unit) (K : Mxu F → P F α) : P F α :=
  startIds R
    (.op (.enqueueDma R.subT (.here R.sub) (.dma R.subSem) R.hsubT.wordExact R.hsub.wordExact ⟨Or.inl rfl, trivial⟩) fun _ =>
     .op (.enqueueDma R.supT (.here R.sup) (.dma R.supSem) R.hsupT.wordExact R.hsup.wordExact ⟨Or.inl rfl, trivial⟩) fun _ =>
     waitIds R
      (Scf.Loop.for k0_t1_loop k0_t1_ok ⟨⟩ b1 >>= fun _ =>
       storePerm R <| loadUnit R 0 Mxu.init fun mx => loadUnit R 1 mx fun mx =>
       .op (.waitDma2 R.subSem R.subT R.sub R.hsubT.wordExact R.hsub.wordExact) fun _ =>
       .op (.waitDma2 R.supSem R.supT R.sup R.hsupT.wordExact R.hsup.wordExact) fun _ =>
       Scf.Loop.for k0_t2_loop k0_t2_ok ⟨⟩ b2 >>= fun _ =>
       narrow R 0#32 (by decide) fun w0 w1 w2 =>
       spreadAll R (fun g => part 0#32 (w0 g)) (fun g => part 128#32 (w1 g))
        (storeShifts R (fun g => shiftOf (w2 g)) (K mx) 8 0 (by omega)) 20 0 (by omega))
      16 0 (by omega))
    16 0 (by omega)

def kernelP (b1 : Fin k0_t1_loop.trips → Unit → P F Unit) (b2 : Fin k0_t2_loop.trips → Unit → P F Unit)
    (b3 : Fin k0_t3_loop.trips → Mxu F → P F (Mxu F)) (b4 : Fin k0_t4_loop.trips → Mxu F → P F (Mxu F)) : P F PUnit :=
  prologue R b1 b2 fun mx =>
  Scf.Loop.for k0_t3_loop k0_t3_ok mx b3 >>= fun mx =>
  Scf.Loop.for k0_t4_loop k0_t4_ok mx b4 >>= fun mx =>
  waitOut R 30#32 (by decide) <| waitOut R 31#32 (by decide) <|
  mx.exit >>= fun _ => .ret ⟨⟩

end Cert.KernelIdeal.Lookup
-- ==== Proof.Ideal.Contents.lean ====
/-
  What each buffer of the kernel holds, as functions of the arrays it was given, coordinates as natural numbers.
-/
module
public import proofs.«01_k».proof.Proof.Ideal.Body
public import Idealize.ShloMosaic.Lib.ValueIdxCore
@[expose] public section
noncomputable section
namespace Cert.KernelIdeal.Lookup
open Cert.KernelIdeal
open Idealize.ShloMosaic Idealize.ShloMosaic.TcCoe Idealize.ShloMosaic.Tactic
open Idealize.SL Idealize.SL.Sem
open Shapes1.Facts₀ K0.Facts₀
open Idealize.ShloMosaic.ValueIdx
variable {F : FTy → Type} [FloatOps F]

/-- An array read at coordinates given as numbers, each taken modulo its extent. -/
def at2 {α : Type} {a b : ℕ} [NeZero a] [NeZero b] (f : (⟨2, ![a, b]⟩ : Shape).Idx → α) (i j : ℕ) : α := f (ix2 (Fin.ofNat a i) (Fin.ofNat b j))
theorem at2_val {α : Type} {a b : ℕ} [NeZero a] [NeZero b] (f : (⟨2, ![a, b]⟩ : Shape).Idx → α) (y : (⟨2, ![a, b]⟩ : Shape).Idx) :
    at2 f (y 0).val (y 1).val = f y := by
  unfold at2
  congr 1
  funext k
  match k with
  | ⟨0, _⟩ => exact Fin.ext (Nat.mod_eq_of_lt (y 0).isLt)
  | ⟨1, _⟩ => exact Fin.ext (Nat.mod_eq_of_lt (y 1).isLt)

/-- An array of rank three read likewise. -/
def at3 {α : Type} {a b c : ℕ} [NeZero a] [NeZero b] [NeZero c] (f : (⟨3, ![a, b, c]⟩ : Shape).Idx → α) (i j k : ℕ) : α :=
  f (ix3 (Fin.ofNat a i) (Fin.ofNat b j) (Fin.ofNat c k))
theorem at3_val {α : Type} {a b c : ℕ} [NeZero a] [NeZero b] [NeZero c] (f : (⟨3, ![a, b, c]⟩ : Shape).Idx → α) (y : (⟨3, ![a, b, c]⟩ : Shape).Idx) :
    at3 f (y 0).val (y 1).val (y 2).val = f y := by
  unfold at3
  congr 1
  funext k
  match k with
  | ⟨0, _⟩ => exact Fin.ext (Nat.mod_eq_of_lt (y 0).isLt)
  | ⟨1, _⟩ => exact Fin.ext (Nat.mod_eq_of_lt (y 1).isLt)
  | ⟨2, _⟩ => exact Fin.ext (Nat.mod_eq_of_lt (y 2).isLt)

/-- The arrays the kernel reads: ids, code words, sub-scales and super-scales (both by vocabulary entry in the last axis). -/
structure Inp (F : FTy → Type) where
  ids : S2x1024.Idx → BitVec 32
  words : S4000x2560.Idx → BitVec 32
  sub : S160x16000.Idx → BitVec 8
  sup : S20x16000.Idx → BitVec 16

namespace Inp
variable (X : Inp F)

/-- Id `i` in the order the kernel takes them: chunks of 64, two of each batch row in turn. -/
def id (i : ℕ) : BitVec 32 := at2 X.ids (i / 128 % 2) (128 * (i / 256) + i % 128)
/-- Every id names a vocabulary entry. -/
def Ok : Prop := ∀ i, (X.id i).toNat < 16000
/-- Code word `c` of row `r` of chunk `n`. -/
def word (n r c : ℕ) : BitVec 32 := at2 X.words ((X.id (64 * n + r)).toNat / 4) c
/-- The tile each unit holds. -/
def permTile : Mxu.Staged F := ⟨.bf16, false, permVal⟩

/-- The narrow rows of vocabulary entries `128 t` to `128 t + 127`. -/
def tile (t : ℕ) : IVec S128x64 32 :=
  tableVal (fun x => at2 X.sub (x 0).val (128 * t + (x 1).val)) (fun x => at2 X.sup (x 0).val (128 * t + (x 1).val))
/-- Lane `l` of the narrow row of vocabulary entry `v`. -/
def tab (v l : ℕ) : BitVec 32 := at2 (X.tile (v / 128)) (v % 128) l
/-- A table whose written lanes hold the narrow rows; its other lanes hold anything. -/
def TabOk (T : S16000x128.Idx → BitVec 32) : Prop := ∀ y, (y 1).val < 64 → T y = X.tab (y 0).val (y 1).val

variable (T : S16000x128.Idx → BitVec 32)
/-- Lane `l` of the table row of row `r` of chunk `n`. -/
def row (n r l : ℕ) : BitVec 32 := at2 T (X.id (64 * n + r)).toNat l
/-- The table rows of chunk `n`. -/
def rowsAt (n : ℕ) : S64x128.Idx → BitVec 32 := fun y => X.row T n (y 0).val (y 1).val
/-- Eight of them. -/
def grp (n g : ℕ) : IVec S8x128 32 := fun y => X.row T n (8 * g + (y 0).val) (y 1).val
/-- The shifts of chunk `n`. -/
def shiftAt (n : ℕ) : S64x128.Idx → BitVec 32 := fun y => at2 (shiftOf (X.grp T n ((y 0).val / 8))) ((y 0).val % 8) (y 1).val
/-- The scales of chunk `n`, block by block. -/
def scaleAt (n : ℕ) : S20x64x128.Idx → F .f32 := fun y =>
  at2 (spreadVal (y 0).val (part 0#32 (X.grp T n ((y 1).val / 8))) (part 128#32 (X.grp T n ((y 1).val / 8))) : FVec F S8x128 .f32) ((y 1).val % 8) (y 2).val
/-- Block `j` of chunk `n` before the permutation. -/
def lhsAt (n j : ℕ) : FVec F S64x256 .bf16 :=
  lhsOf (fun y => X.word n (y 0).val (128 * j + (y 1).val)) (X.shiftAt T n) (fun y => at3 (X.scaleAt T n) j (y 0).val (y 1).val)
/-- And after it. -/
def prodAt (n j : ℕ) : FVec F S64x256 .f32 := (permTile (F := F)).pass (X.lhsAt T n j)
def blockAt (n j : ℕ) : FVec F S64x256 .bf16 := truncf .bf16 (X.prodAt T n j) bitsLt_bf16_f32
/-- A chunk of the result in its output slot. -/
def outsAt (n : ℕ) : S2x64x5120.Idx → F .bf16 := fun y => at2 (X.blockAt T n ((y 2).val / 256)) (y 1).val ((y 2).val % 256)
end Inp

theorem off4_val (v : BitVec 32) (h : v.toNat < 16000) : k0_off4 v = ![v.toNat / 4, 0] := by
  have : (Scalar.shrsi v 2#32).toNat = v.toNat / 4 := by
    show (v.sshiftRight 2).toNat = _
    have hm : v.msb = false := by rw [BitVec.msb_eq_false_iff_two_mul_lt]; omega
    rw [BitVec.sshiftRight_eq_of_msb_false hm, BitVec.toNat_ushiftRight, Nat.shiftRight_eq_div_pow]
  show ![(Scalar.shrsi v 2#32).toNat, 0] = _
  rw [this]
theorem chk1_ok (v : BitVec 32) (h : v.toNat < 16000) : k0_chk1 v := by
  show ∀ a, _
  rw [off4_val v h]
  intro a; fin_cases a
  · show v.toNat / 4 + 1 ≤ 4000; omega
  · exact Nat.le_refl _
theorem off762_val (v : BitVec 32) : k0_off762 v = ![v.toNat, 0] := rfl
theorem chk257_ok (v : BitVec 32) (h : v.toNat < 16000) : k0_chk257 v := by
  show ∀ a, _
  rw [off762_val v]
  intro a; fin_cases a
  · show v.toNat + 1 ≤ 16000; omega
  · exact Nat.le_refl _

/-! ## The matrix unit -/

/-- Between blocks: the permutation loaded in both units, blocks `p ≤ j < d` accumulated, block `j` at `L j`, and not yet read. -/
structure MxOk (L : ℕ → FVec F S64x256 .f32) (p d : ℕ) (mx : Mxu F) : Prop where
  reg : ∀ q r, mx.reg q r = none
  gmr : ∀ q, mx.gmr q = some Inp.permTile
  live : ∀ (q : Fin 2) (A : Fin 1024), mx.live q A = true ↔ ∃ j, p ≤ j ∧ j < d ∧ j % 2 = q.val ∧ A.val / 64 = j / 2
  acc : ∀ (j : ℕ) (hj : j < 20), p ≤ j → j < d → mx.read (unitOf j) (16 * (j / 2)) (accFits j hj) = L j

variable {L : ℕ → FVec F S64x256 .f32}
theorem MxOk.start {p : ℕ} (p' : ℕ) (L' : ℕ → FVec F S64x256 .f32) {mx : Mxu F} (h : MxOk L p p mx) : MxOk L' p' p' mx where
  reg := h.reg
  gmr := h.gmr
  live q A := by
    constructor
    · intro hl; obtain ⟨j, h1, h2, -⟩ := (h.live q A).1 hl; omega
    · rintro ⟨j, h1, h2, -⟩; omega
  acc j hj h1 h2 := by omega

theorem MxOk.drained {p : ℕ} {mx : Mxu F} (h : MxOk L p p mx) : mx.Drained := by
  refine ⟨fun q r => by rw [h.reg]; rfl, fun q A => ?_⟩
  by_contra hc
  obtain ⟨j, h1, h2, -⟩ := (h.live q A).1 (by simpa using hc)
  omega

theorem MxOk.accBy {p j : ℕ} {mx : Mxu F} (h : MxOk L p j mx) (hp : p ≤ j) (hj : j < 20) (lhs : FVec F S64x256 .bf16)
    (hL : (Inp.permTile (F := F)).pass lhs = L j) :
    MxOk L p (j + 1) (mx.accBy (unitOf j) Inp.permTile (16 * (j / 2)) lhs (accFits j hj)) where
  reg q r := h.reg q r
  gmr q := h.gmr q
  live q A := by
    show (if q = unitOf j ∧ 4 * (16 * (j / 2)) ≤ A.val ∧ A.val < 4 * (16 * (j / 2)) + 64 then true else mx.live q A) = true ↔ _
    split
    · rename_i hc
      refine ⟨fun _ => ⟨j, hp, by omega, ?_, by omega⟩, fun _ => rfl⟩
      rw [hc.1]
    · rename_i hc
      rw [h.live]
      constructor
      · rintro ⟨i, h1, h2, h3⟩; exact ⟨i, h1, by omega, h3⟩
      · rintro ⟨i, h1, h2, h3, h4⟩
        rcases Nat.lt_or_ge i j with hi | hi
        · exact ⟨i, h1, hi, h3, h4⟩
        · obtain rfl : i = j := by omega
          exact absurd ⟨Fin.ext h3.symm, by omega, by omega⟩ hc
  acc i hi h1 h2 := by
    funext x
    have hx : (x 0).val < 64 := (x 0).isLt
    have hr : (Mxu.row (accFits i hi) (x 0)).val = 4 * (16 * (i / 2)) + (x 0).val := rfl
    show (if hq : unitOf i = unitOf j ∧ 4 * (16 * (j / 2)) ≤ (Mxu.row (accFits i hi) (x 0)).val ∧ (Mxu.row (accFits i hi) (x 0)).val < 4 * (16 * (j / 2)) + 64 then
        Mxu.deposit (mx.live (unitOf i) (Mxu.row (accFits i hi) (x 0))) (mx.acc (unitOf i) (Mxu.row (accFits i hi) (x 0)) (x 1))
          ((Inp.permTile (F := F)).pass lhs (Mxu.ix ⟨(Mxu.row (accFits i hi) (x 0)).val - 4 * (16 * (j / 2)), by omega⟩ (x 1)))
        else mx.acc (unitOf i) (Mxu.row (accFits i hi) (x 0)) (x 1)) = L i x
    split
    · rename_i hc
      have hu : i % 2 = j % 2 := congrArg Fin.val hc.1
      obtain rfl : i = j := by omega
      have hl : mx.live (unitOf i) (Mxu.row (accFits i hi) (x 0)) = false := by
        by_contra hc2
        obtain ⟨k, k1, k2, k3, k4⟩ := (h.live _ _).1 (by simpa using hc2)
        have k3' : k % 2 = i % 2 := k3
        omega
      rw [hl, ← hL]
      show (Inp.permTile (F := F)).pass lhs _ = _
      congr 1
      funext a
      match a with
      | ⟨0, _⟩ => exact Fin.ext (show (Mxu.row (accFits i hi) (x 0)).val - 4 * (16 * (i / 2)) = (x 0).val by omega)
      | ⟨1, _⟩ => rfl
    · rename_i hc
      rcases Nat.lt_or_ge i j with hij | hij
      · exact congrFun (h.acc i hi h1 hij) x
      · obtain rfl : i = j := by omega
        exact absurd ⟨rfl, by omega, by omega⟩ hc

theorem MxOk.pop {p d : ℕ} {mx : Mxu F} (h : MxOk L p d mx) (hp : p < 20) :
    MxOk L (p + 1) d (mx.pop (unitOf p) (16 * (p / 2)) 64 (accFits p hp)) where
  reg q r := h.reg q r
  gmr q := h.gmr q
  live q A := by
    show (if q = unitOf p ∧ 4 * (16 * (p / 2)) ≤ A.val ∧ A.val < 4 * (16 * (p / 2)) + 64 then false else mx.live q A) = true ↔ _
    split
    · rename_i hc
      refine ⟨fun hf => absurd hf (by decide), ?_⟩
      rintro ⟨i, h1, h2, h3, h4⟩
      have hq : q.val = p % 2 := by rw [hc.1]
      omega
    · rename_i hc
      rw [h.live]
      constructor
      · rintro ⟨i, h1, h2, h3, h4⟩
        rcases Nat.lt_or_ge p i with hi | hi
        · exact ⟨i, hi, h2, h3, h4⟩
        · obtain rfl : i = p := by omega
          exact absurd ⟨Fin.ext h3.symm, by omega, by omega⟩ hc
      · rintro ⟨i, h1, h2, h3, h4⟩; exact ⟨i, by omega, h2, h3, h4⟩
  acc i hi h1 h2 := by
    funext x
    have hx : (x 0).val < 64 := (x 0).isLt
    have hr : (Mxu.row (accFits i hi) (x 0)).val = 4 * (16 * (i / 2)) + (x 0).val := rfl
    show (if unitOf i = unitOf p ∧ 4 * (16 * (p / 2)) ≤ (Mxu.row (accFits i hi) (x 0)).val ∧ (Mxu.row (accFits i hi) (x 0)).val < 4 * (16 * (p / 2)) + 64 then
        _ else mx.acc (unitOf i) (Mxu.row (accFits i hi) (x 0)) (x 1)) = L i x
    rw [if_neg]
    · exact congrFun (h.acc i hi (by omega) h2) x
    · intro hc
      have hu : i % 2 = p % 2 := congrArg Fin.val hc.1
      omega

/-- A unit after the permutation is loaded: no register staged, no row live, the permutation in its slot. -/
theorem loaded_ok (q : Fin 2) (mx : Mxu F) (hr : ∀ q r, mx.reg q r = none) (hl : ∀ q A, mx.live q A = false) :
    mx.PushOk q 0 false
    ∧ (∀ q' r, ((((mx.pushed q 0 false (φ := .bf16) permVal).pop q 0 64 fits_0_64).accLhs q 0 0 zeroLhs fits_0_64).pop q 0 64 fits_0_64).reg q' r = none)
    ∧ (∀ q' A, ((((mx.pushed q 0 false (φ := .bf16) permVal).pop q 0 64 fits_0_64).accLhs q 0 0 zeroLhs fits_0_64).pop q 0 64 fits_0_64).live q' A = false)
    ∧ (∀ q', ((((mx.pushed q 0 false (φ := .bf16) permVal).pop q 0 64 fits_0_64).accLhs q 0 0 zeroLhs fits_0_64).pop q 0 64 fits_0_64).gmr q'
        = if q' = q then some (Inp.permTile (F := F)) else mx.gmr q') := by
  have e : mx.pushed q 0 false (φ := .bf16) permVal = { mx with reg := fun q' r' => if q' = q ∧ r' = 0 then some ⟨.bf16, false, permVal⟩ else mx.reg q' r' } := by
    unfold Mxu.pushed; rw [hr]
  refine ⟨fun t ht => (by rw [hr] at ht; cases ht), ?_, ?_, ?_⟩ <;> rw [e]
  · intro q' r
    show (if q' = q ∧ r = 0 then none else if q' = q ∧ r = 0 then _ else mx.reg q' r) = none
    split
    · rfl
    · exact hr q' r
  · intro q' A
    show (if q' = q ∧ 4 * 0 ≤ A.val ∧ A.val < 4 * 0 + 64 then false else if q' = q ∧ 4 * 0 ≤ A.val ∧ A.val < 4 * 0 + 64 then true
      else if q' = q ∧ 4 * 0 ≤ A.val ∧ A.val < 4 * 0 + 64 then false else mx.live q' A) = false
    split
    · rfl
    · exact hl q' A
  · intro q'
    show (if q' = q then some ((if q = q ∧ (0 : Fin 2) = 0 then some (⟨.bf16, false, permVal⟩ : Mxu.Staged F) else mx.reg q 0).getD _) else mx.gmr q') = _
    rw [if_pos (show q = q ∧ (0 : Fin 2) = 0 from ⟨rfl, rfl⟩)]
    rfl

end Cert.KernelIdeal.Lookup
-- ==== Proof.Ideal.Fetch.lean ====
/-
  The fetch of code words: one batch of sixty-four copies a chunk, into the chunk's slot of the ring.
-/
module
public import proofs.«01_k».proof.Proof.Ideal.Contents
public import proofs.«01_k».proof.Proof.Own
public import Idealize.ShloMosaic.Lib.ValueLayout
@[expose] public section
noncomputable section
namespace Cert.KernelIdeal.Lookup
open Cert.KernelIdeal Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))] {defs : Defs nD τ sig (Elt F) Λ₀} {𝒱 : Variants} {bd : Option 𝒱.V}
variable {d : Dev nD} {α : Type} {Q : α → sProp (MT nD τ sig Unit (Elt F) ℕ U ℕ)} (R : Refs) (X : Inp F)

theorem drop_left {A B : sProp (MT nD τ sig Unit (Elt F) ℕ U ℕ)} : iprop(A ∗ B) ⊢ B := by iintro ⟨-, H⟩; iexact H
theorem fin1 {n : ℕ} (x : Fin n) (h : n = 1) : x.val = 0 := by omega

/-- The copied ids. -/
def Inp.idsAt : S2048.Idx → Elt F .i32 := fun y => X.id (y 0).val
abbrev Ids (d : Dev nD) : sProp 𝕄 := Own d R.idw Finset.univ fullShare X.idsAt

theorem id_idx {base : BitVec 32} (hb : base.toNat ≤ 1984) {r : ℕ} (hr : r < 64) (hv : base.toNat + r < 2048) (x : S1.Idx) :
    (Rect.unit (s := S2048) (gOff base r) S1.size (gOff_inb base hb r hr)).emb x = ix1 (⟨base.toNat + r, hv⟩ : Fin 2048) := by
  funext a; obtain rfl : a = 0 := Subsingleton.elim _ _
  refine Fin.ext ?_
  have h0 : (x 0).val = 0 := fin1 (x 0) rfl
  show gOff base r 0 + 1 * (x 0).val = base.toNat + r
  rw [gOff_val base hb r hr, h0]
  rfl
theorem idsAt_ix {i : ℕ} (hi : i < 2048) : X.idsAt (ix1 (⟨i, hi⟩ : Fin 2048)) = X.id i := rfl
theorem wp_id {base : BitVec 32} (hb : base.toNat ≤ 1984) {r : ℕ} (hr : r < 64) {k : BitVec 32 → P F α} :
    (Ids R X d : sProp (MT nD τ sig Unit (Elt F) ℕ U ℕ)) ⊢ iprop((Ids R X d -∗ Wp defs 𝒱 bd d (k (X.id (base.toNat + r))) Q)
      -∗ Wp defs 𝒱 bd d (smemLoad R.idw (Rect.unit (s := S2048) (gOff base r) S1.size (gOff_inb base hb r hr)) numel1_S1 rfl >>= k) Q) := by
  have hv : base.toNat + r < 2048 := by omega
  rw [← idsAt_ix X hv]
  exact own_smemLoad (U := U) (𝒱 := 𝒱) (defs := defs) (bd := bd) (Val := Elt F) (nD := nD) (τ := τ) (Λ := Λ₀) (m := R.idw) (r := Rect.unit (s := S2048) (gOff base r) S1.size (gOff_inb base hb r hr)) (k := k)
    (Finset.subset_univ _) (ix1 (⟨base.toNat + r, hv⟩ : Fin 2048)) (id_idx hb hr hv)

/-- Part of a chunk's slot in the ring: rows from `a` to `b`. -/
def ringRows (n a b : ℕ) : Finset S11x64x2560.Idx := Finset.univ.filter fun y => (y 0).val = n % 11 ∧ a ≤ (y 1).val ∧ (y 1).val < b
theorem mem_ringRows {n a b : ℕ} {y : S11x64x2560.Idx} : y ∈ ringRows n a b ↔ (y 0).val = n % 11 ∧ a ≤ (y 1).val ∧ (y 1).val < b := by
  unfold ringRows; rw [Finset.mem_filter]; exact ⟨fun h => h.2, fun h => ⟨Finset.mem_univ _, h⟩⟩
/-- Chunk `n`'s code words. -/
def Inp.ringAt (n : ℕ) : S11x64x2560.Idx → Elt F .i32 := fun y => X.word n (y 1).val (y 2).val

theorem rect_congr {s : Shape} {o o' z : Fin s.rank → ℕ} {h : ∀ a, o a + z a ≤ s.size a} {h' : ∀ a, o' a + z a ≤ s.size a} (e : o = o') :
    Rect.unit (s := s) o z h = Rect.unit o' z h' := by subst e; rfl
theorem ringSem_inb (n : ℕ) : ∀ a, (![n % 11] : Fin 1 → ℕ) a + S1.size a ≤ S11.size a := by
  intro a; obtain rfl : a = 0 := Subsingleton.elim _ _
  show n % 11 + 1 ≤ 11; omega
/-- The semaphore at an offset of the ring's. -/
def Refs.ringSemAt (o : Fin 1 → ℕ) (h : ∀ a, o a + S1.size a ≤ S11.size a) : DmaSem sig := ((R.semRing.slice (Rect.unit (s := S11) o S1.size h)).squeeze S_ squeezes_S1_S_).sem
theorem ringSemAt_congr {o o' : Fin 1 → ℕ} {h h'} (e : o = o') : R.ringSemAt o h = R.ringSemAt o' h' := by subst e; rfl
/-- The semaphore of a chunk's slot. -/
def Refs.ringSem (n : ℕ) : DmaSem sig := R.ringSemAt ![n % 11] (ringSem_inb n)
theorem slotSem_eq (w : BitVec 32) (hw : w.toNat < 32) : R.slotSem w hw = R.ringSem w.toNat :=
  ringSemAt_congr R (h := slotOff1_inb w hw) (by unfold slotOff1; rw [slot_val w hw])
theorem ringSem_add (n : ℕ) : R.ringSem (n + 11) = R.ringSem n :=
  ringSemAt_congr R (by rw [show (n + 11) % 11 = n % 11 by omega])
theorem ringRows_add (n a b : ℕ) : ringRows (n + 11) a b = ringRows n a b := by
  have e : (n + 11) % 11 = n % 11 := by omega
  unfold ringRows; simp only [e]

/-- What one row's copy counts on its semaphore. -/
abbrev Refs.rowCredit : ℕ := sig.dmaCredit .tc (Kind.table .tc .vmem) R.ring.view.buf S1x2560 .i32

/-- Chunk `n`'s batch with `j` copies started and `u` units waited for. -/
abbrev Flight (d : Dev nD) (n j u : ℕ) : sProp 𝕄 :=
  Transfers.Batch EC (d : Thread nD τ) (.dma (R.ringSem n)) () R.rowCredit
    (fun t : Fin 64 => Own d R.ring (ringRows n t.val (t.val + 1)) fullShare (X.ringAt n)) j u

abbrev wordsAt (d : Dev nD) : sProp 𝕄 := Read d R.words (X.words : S4000x2560.Idx → Elt F .i32)

theorem slot_idx (w : BitVec 32) (hw : w.toNat < 32) (x : S64x2560.Idx) : ∀ a,
    (((Rect.unit (s := S11x64x2560) (slotOff3 w 0) S1x64x2560.size (slotOff3_inb w hw)).emb
      (Shape.reshapeEquiv (squeezes_S1x64x2560_S64x2560).numel_eq x)) a).val = (![w.toNat % 11, (x 0).val, (x 1).val] : Fin 3 → ℕ) a := by
  have e : Shape.reshapeEquiv (squeezes_S1x64x2560_S64x2560).numel_eq x = ix3 (⟨0, Nat.one_pos⟩ : Fin 1) (x 0) (x 1) := by
    conv_lhs => rw [eq_ix2 x]
    exact reshapeEquiv_ix2_1ab _ _ _
  rw [e]
  intro a
  fin_cases a
  · show (Scalar.remsi w 11#32).toNat + 1 * 0 = w.toNat % 11
    rw [slot_val w hw]; omega
  · show 0 + 1 * (x 0).val = (x 0).val; omega
  · show 0 + 1 * (x 1).val = (x 1).val; omega

/-- Row `r` of a chunk's slot as the copy addresses it. -/
abbrev Refs.slotRow (w : BitVec 32) (hw : w.toNat < 32) (r : ℕ) (hr : r < 64) : Memref sig .tc .vmem S1x2560 .i32 :=
  (R.slot w hw).slice (Rect.unit (s := S64x2560) ![r, 0] S1x2560.size (ringRow_inb r hr)) (fun _ => rfl)

/-- The elements of the slot, by row, as elements of the ring. -/
theorem slot_iff (w : BitVec 32) (hw : w.toNat < 32) (a b : ℕ) :
    (∀ y ∈ ringRows w.toNat a b, ∃ x ∈ (Finset.univ.filter fun x : S1x64x2560.Idx => a ≤ (x 1).val ∧ (x 1).val < b),
      (Rect.unit (s := S11x64x2560) (slotOff3 w 0) S1x64x2560.size (slotOff3_inb w hw)).emb x = y)
    ∧ (∀ x ∈ (Finset.univ.filter fun x : S1x64x2560.Idx => a ≤ (x 1).val ∧ (x 1).val < b),
      (Rect.unit (s := S11x64x2560) (slotOff3 w 0) S1x64x2560.size (slotOff3_inb w hw)).emb x ∈ ringRows w.toNat a b) := by
  have hs := slot_val w hw
  constructor
  · intro y hy
    obtain ⟨h0, h1, h2⟩ := mem_ringRows.1 hy
    refine ⟨ix3 (⟨0, Nat.one_pos⟩ : Fin 1) (y 1) (y 2), Finset.mem_filter.2 ⟨Finset.mem_univ _, h1, h2⟩, ?_⟩
    funext k
    match k with
    | ⟨0, _⟩ => exact Fin.ext (show (Scalar.remsi w 11#32).toNat + 1 * 0 = (y 0).val by rw [hs, h0]; omega)
    | ⟨1, _⟩ => exact Fin.ext (show 0 + 1 * (y 1).val = (y 1).val by omega)
    | ⟨2, _⟩ => exact Fin.ext (show 0 + 1 * (y 2).val = (y 2).val by omega)
  · intro x hx
    obtain ⟨-, h1, h2⟩ := Finset.mem_filter.1 hx
    refine mem_ringRows.2 ⟨?_, ?_, ?_⟩
    · have h0 : (x 0).val = 0 := fin1 (x 0) rfl
      show (Scalar.remsi w 11#32).toNat + 1 * (x 0).val = _; rw [hs, h0]; omega
    · show a ≤ 0 + 1 * (x 1).val; omega
    · show 0 + 1 * (x 1).val < b; omega

theorem squeeze_iff (r : ℕ) (hr : r < 64) :
    (∀ y ∈ (Finset.univ.filter fun x : S1x64x2560.Idx => r ≤ (x 1).val ∧ (x 1).val < r + 1),
      ∃ x ∈ (Finset.univ.filter fun x : S64x2560.Idx => (x 0).val = r), Shape.reshapeEquiv (squeezes_S1x64x2560_S64x2560).numel_eq x = y)
    ∧ (∀ x ∈ (Finset.univ.filter fun x : S64x2560.Idx => (x 0).val = r),
      Shape.reshapeEquiv (squeezes_S1x64x2560_S64x2560).numel_eq x ∈ (Finset.univ.filter fun x : S1x64x2560.Idx => r ≤ (x 1).val ∧ (x 1).val < r + 1)) := by
  constructor
  · intro y hy
    obtain ⟨-, h1, h2⟩ := Finset.mem_filter.1 hy
    refine ⟨ix2 (y 1) (y 2), Finset.mem_filter.2 ⟨Finset.mem_univ _, show (y 1).val = r by omega⟩, ?_⟩
    refine (reshapeEquiv_ix2_1ab _ _ _).trans ?_
    funext k
    match k with
    | ⟨0, _⟩ => exact Fin.ext (fin1 (y 0) rfl).symm
    | ⟨1, _⟩ => rfl
    | ⟨2, _⟩ => rfl
  · intro x hx
    obtain ⟨-, h1⟩ := Finset.mem_filter.1 hx
    rw [show Shape.reshapeEquiv (squeezes_S1x64x2560_S64x2560).numel_eq x = ix3 (⟨0, Nat.one_pos⟩ : Fin 1) (x 0) (x 1) from
      (congrArg _ (eq_ix2 x)).trans (reshapeEquiv_ix2_1ab _ _ _)]
    exact Finset.mem_filter.2 ⟨Finset.mem_univ _, show r ≤ (x 0).val by omega, show (x 0).val < r + 1 by omega⟩

theorem row_iff (r : ℕ) (hr : r < 64) :
    (∀ y ∈ (Finset.univ.filter fun x : S64x2560.Idx => (x 0).val = r), ∃ x ∈ (Finset.univ : Finset S1x2560.Idx),
      (Rect.unit (s := S64x2560) ![r, 0] S1x2560.size (ringRow_inb r hr)).emb x = y)
    ∧ (∀ x ∈ (Finset.univ : Finset S1x2560.Idx),
      (Rect.unit (s := S64x2560) ![r, 0] S1x2560.size (ringRow_inb r hr)).emb x ∈ (Finset.univ.filter fun x : S64x2560.Idx => (x 0).val = r)) := by
  constructor
  · intro y hy
    obtain ⟨-, h1⟩ := Finset.mem_filter.1 hy
    refine ⟨ix2 (⟨0, Nat.one_pos⟩ : Fin 1) (y 1), Finset.mem_univ _, ?_⟩
    funext k
    match k with
    | ⟨0, _⟩ => exact Fin.ext (show r + 1 * 0 = (y 0).val by omega)
    | ⟨1, _⟩ => exact Fin.ext (show 0 + 1 * (y 1).val = (y 1).val by omega)
  · intro x _
    have h0 : (x 0).val = 0 := fin1 (x 0) rfl
    exact Finset.mem_filter.2 ⟨Finset.mem_univ _, show r + 1 * (x 0).val = r by omega⟩

variable {q : PosShare TreeShare}

/-- A function on the ring read through a row of a chunk's slot. -/
abbrev viaRow {β : Type} (w : BitVec 32) (hw : w.toNat < 32) (r : ℕ) (hr : r < 64) (g : S11x64x2560.Idx → β) : S1x2560.Idx → β := fun x =>
  g ((Rect.unit (s := S11x64x2560) (slotOff3 w 0) S1x64x2560.size (slotOff3_inb w hw)).emb
    (Shape.reshapeEquiv (squeezes_S1x64x2560_S64x2560).numel_eq ((Rect.unit (s := S64x2560) ![r, 0] S1x2560.size (ringRow_inb r hr)).emb x)))

theorem row_in (w : BitVec 32) (hw : w.toNat < 32) (r : ℕ) (hr : r < 64) (g : S11x64x2560.Idx → Elt F .i32) :
    (Own d R.ring (ringRows w.toNat r (r + 1)) q g : sProp 𝕄) ⊢ Own d (R.slotRow w hw r hr) Finset.univ q (viaRow w hw r hr g) :=
  ((own_slice_in (slot_iff w hw r (r + 1)).1 (slot_iff w hw r (r + 1)).2 fun _ _ => rfl).trans
    (own_squeeze_in (squeeze_iff r hr).1 (squeeze_iff r hr).2 fun _ _ => rfl)).trans (own_slice_in (row_iff r hr).1 (row_iff r hr).2 fun _ _ => rfl)
theorem row_out (w : BitVec 32) (hw : w.toNat < 32) (r : ℕ) (hr : r < 64) (g : S11x64x2560.Idx → Elt F .i32) :
    Own d (R.slotRow w hw r hr) Finset.univ q (viaRow w hw r hr g) ⊢ (Own d R.ring (ringRows w.toNat r (r + 1)) q g : sProp 𝕄) :=
  have h1 : (Own d (R.slotRow w hw r hr) Finset.univ q (viaRow w hw r hr g) : sProp 𝕄) ⊢ Own d (R.slot w hw) (Finset.univ.filter fun x : S64x2560.Idx => (x 0).val = r) q
      (fun x => g ((Rect.unit (s := S11x64x2560) (slotOff3 w 0) S1x64x2560.size (slotOff3_inb w hw)).emb (Shape.reshapeEquiv (squeezes_S1x64x2560_S64x2560).numel_eq x))) :=
    own_slice_out (row_iff r hr).1 (row_iff r hr).2 fun _ _ => rfl
  have h2 : (Own d (R.slot w hw) (Finset.univ.filter fun x : S64x2560.Idx => (x 0).val = r) q
      (fun x => g ((Rect.unit (s := S11x64x2560) (slotOff3 w 0) S1x64x2560.size (slotOff3_inb w hw)).emb (Shape.reshapeEquiv (squeezes_S1x64x2560_S64x2560).numel_eq x))) : sProp 𝕄)
      ⊢ Own d (R.ring.slice (Rect.unit (s := S11x64x2560) (slotOff3 w 0) S1x64x2560.size (slotOff3_inb w hw)) (fun _ => rfl))
        (Finset.univ.filter fun x : S1x64x2560.Idx => r ≤ (x 1).val ∧ (x 1).val < r + 1) q
        (fun x => g ((Rect.unit (s := S11x64x2560) (slotOff3 w 0) S1x64x2560.size (slotOff3_inb w hw)).emb x)) :=
    own_squeeze_out (squeeze_iff r hr).1 (squeeze_iff r hr).2 fun _ _ => rfl
  (h1.trans h2).trans (own_slice_out (slot_iff w hw r (r + 1)).1 (slot_iff w hw r (r + 1)).2 fun _ _ => rfl)

theorem src_val {X : Inp F} (n r : ℕ) (hid : (X.id (64 * n + r)).toNat < 16000) (h) (x : S1x2560.Idx) :
    X.words ((Rect.unit (s := S4000x2560) (k0_off4 (X.id (64 * n + r))) S1x2560.size h).emb x) = X.word n r (x 1).val := by
  have h0 : (x 0).val = 0 := fin1 (x 0) rfl
  have e0 : ((Rect.unit (s := S4000x2560) (k0_off4 (X.id (64 * n + r))) S1x2560.size h).emb x 0).val = (X.id (64 * n + r)).toNat / 4 := by
    show k0_off4 (X.id (64 * n + r)) 0 + 1 * (x 0).val = _
    rw [off4_val _ hid, h0]; rfl
  have e1 : ((Rect.unit (s := S4000x2560) (k0_off4 (X.id (64 * n + r))) S1x2560.size h).emb x 1).val = (x 1).val := by
    show k0_off4 (X.id (64 * n + r)) 1 + 1 * (x 1).val = _
    rw [off4_val _ hid, Nat.one_mul]; exact Nat.zero_add _
  refine (at2_val (a := 4000) (b := 2560) X.words _).symm.trans ?_
  exact congrArg₂ (at2 X.words) e0 e1

theorem src_in {X : Inp F} (n r : ℕ) (hid : (X.id (64 * n + r)).toNat < 16000) (h) (h2) (w : BitVec 32) (hw : w.toNat < 32) (hn : w.toNat = n) (hr : r < 64) :
    (Own d R.words (Rect.unit (s := S4000x2560) (k0_off4 (X.id (64 * n + r))) S1x2560.size h).set q X.words : sProp (MT nD τ sig Unit (Elt F) ℕ U ℕ))
      ⊢ Own d (R.words.slice (Rect.unit (s := S4000x2560) (k0_off4 (X.id (64 * n + r))) S1x2560.size h) h2) Finset.univ q (viaRow w hw r hr (X.ringAt n)) := by
  refine own_slice_in (fun y hy => (of_mem hy).imp fun x h => ⟨Finset.mem_univ x, h⟩) (fun x _ => emb_mem _ x) ?_
  intro x _
  rw [src_val n r hid]
  have h0 : (x 0).val = 0 := fin1 (x 0) rfl
  have e := slot_idx w hw ((Rect.unit (s := S64x2560) ![r, 0] S1x2560.size (ringRow_inb r hr)).emb x)
  unfold viaRow Inp.ringAt
  refine Eq.symm ((congrArg₂ (X.word n) (e 1) (e 2)).trans ?_)
  refine congrArg₂ (X.word n) (?_ : r + 1 * (x 0).val = r) ((Nat.zero_add _).trans (Nat.one_mul _) : 0 + 1 * (x 1).val = (x 1).val)
  rw [h0]; rfl

theorem wp_fetchRow (hX : X.Ok) (w : BitVec 32) (hw : w.toNat < 32) (r : ℕ) (hr : r < 64) (K : P F α) (g : S11x64x2560.Idx → Elt F .i32) :
    iprop(Ids R X d ∗ wordsAt R X d ∗ Own d R.ring (ringRows w.toNat r 64) fullShare g ∗ Flight EC R X d w.toNat r 0)
      ⊢ iprop((iprop(Ids R X d ∗ wordsAt R X d ∗ Own d R.ring (ringRows w.toNat (r + 1) 64) fullShare g ∗ Flight EC R X d w.toNat (r + 1) 0)
          -∗ Wp defs 𝒱 bd d K Q) -∗ Wp defs 𝒱 bd d (fetchRow R w hw r hr K) Q) := by
  have hid := hX (64 * w.toNat + r)
  have hsub : ringRows w.toNat r (r + 1) ⊆ ringRows w.toNat r 64 := fun y hy => by
    rw [mem_ringRows] at hy ⊢; omega
  have hrest : ringRows w.toNat r 64 \ ringRows w.toNat r (r + 1) = ringRows w.toNat (r + 1) 64 := by
    ext y; rw [Finset.mem_sdiff, mem_ringRows, mem_ringRows, mem_ringRows]; omega
  unfold fetchRow Flight
  rw [← slotSem_eq R w hw]
  iintro ⟨Hid, Hw, Hr, HB⟩ Hk
  iapply (wp_id R X (mul64_le w hw) hr) $$ Hid
  iintro Hid
  rw [mul64 w hw]
  iapply (wp_assume 𝒱 (d : Thread nD τ) bd Set.univ (chk1_ok _ hid))
  ihave Hw' := read_dup $$ Hw
  icases Hw' with ⟨Hw, Hw2⟩
  unfold Read
  icases Hw2 with ⟨%q, Hw2⟩
  ihave Hr' := (own_split hsub) $$ Hr
  icases Hr' with ⟨Hrow, Hr⟩
  rw [hrest]
  ihave Hrow' := (row_in R w hw r hr g) $$ Hrow
  ihave Hs := (own_split (Finset.subset_univ (Rect.unit (s := S4000x2560) (k0_off4 (X.id (64 * w.toNat + r))) S1x2560.size (k0_off4_inb _ (chk1_ok _ hid))).set)) $$ Hw2
  icases Hs with ⟨Hs, -⟩
  ihave Hs' := (src_in R w.toNat r hid (k0_off4_inb _ (chk1_ok _ hid)) (fun _ => rfl) w hw rfl hr) $$ Hs
  have hD : iprop(Own d (R.words.slice (Rect.unit (s := S4000x2560) (k0_off4 (X.id (64 * w.toNat + r))) S1x2560.size (k0_off4_inb _ (chk1_ok _ hid))) (fun _ => rfl))
        Finset.univ q (viaRow w hw r hr (X.ringAt w.toNat)) ∗ Own d (R.slotRow w hw r hr) Finset.univ fullShare (viaRow w hw r hr (X.ringAt w.toNat)))
      ⊢ (fun t : Fin 64 => (Own d R.ring (ringRows w.toNat t.val (t.val + 1)) fullShare (X.ringAt w.toNat) : sProp (MT nD τ sig Unit (Elt F) ℕ U ℕ))) ⟨r, hr⟩ :=
    drop_left.trans (row_out R w hw r hr (X.ringAt w.toNat))
  iapply (own_dma EC (D := fun t : Fin 64 => Own d R.ring (ringRows w.toNat t.val (t.val + 1)) fullShare (X.ringAt w.toNat)) R.rowCredit rfl hr (Nat.zero_le _) hD) $$ [Hs' Hrow' HB]
  · isplitl [Hs']; · iexact Hs'
    isplitl [Hrow']; · iexact Hrow'
    iexact HB
  iintro HB
  iapply Hk
  isplitl [Hid]; · iexact Hid
  isplitl [Hw]; · unfold wordsAt Read; iexact Hw
  isplitl [Hr]; · iexact Hr
  iexact HB

theorem wp_fetchRows (hX : X.Ok) (w : BitVec 32) (hw : w.toNat < 32) (K : P F α) (g : S11x64x2560.Idx → Elt F .i32) :
    ∀ (n r : ℕ) (h : r + n ≤ 64), iprop(Ids R X d ∗ wordsAt R X d ∗ Own d R.ring (ringRows w.toNat r 64) fullShare g ∗ Flight EC R X d w.toNat r 0)
      ⊢ iprop((iprop(Ids R X d ∗ wordsAt R X d ∗ Own d R.ring (ringRows w.toNat (r + n) 64) fullShare g ∗ Flight EC R X d w.toNat (r + n) 0)
          -∗ Wp defs 𝒱 bd d K Q) -∗ Wp defs 𝒱 bd d (fetchRows R w hw K n r h) Q)
  | 0, r, h => by
    iintro H Hk
    iapply Hk
    iexact H
  | n + 1, r, h => by
    have e : r + (n + 1) = r + 1 + n := by omega
    rw [e]
    iintro H Hk
    unfold fetchRows
    iapply (wp_fetchRow EC R X hX w hw r _ _ g) $$ H
    iintro H
    iapply (wp_fetchRows hX w hw K g n (r + 1) _) $$ H
    iexact Hk

/-- A slot of the ring free: any contents, its semaphore at zero. -/
abbrev Free (d : Dev nD) (n : ℕ) : sProp (MT nD τ sig Unit (Elt F) ℕ U ℕ) := iprop(Any d R.ring (ringRows n 0 64) ∗ semVal ((d : Thread nD τ), SemLoc.dma (R.ringSem n)) 0)
/-- A chunk's slot while its rows are being started: `j` of them so far. -/
abbrev Filling (d : Dev nD) (n j : ℕ) : sProp (MT nD τ sig Unit (Elt F) ℕ U ℕ) := iprop((∃ g, Own d R.ring (ringRows n j 64) fullShare g) ∗ Flight EC R X d n j 0)

theorem wp_filling (hX : X.Ok) (w : BitVec 32) (hw : w.toNat < 32) (K : P F α) (n r : ℕ) (h : r + n ≤ 64) :
    iprop(Ids R X d ∗ wordsAt R X d ∗ Filling EC R X d w.toNat r)
      ⊢ iprop((iprop(Ids R X d ∗ wordsAt R X d ∗ Filling EC R X d w.toNat (r + n)) -∗ Wp defs 𝒱 bd d K Q) -∗ Wp defs 𝒱 bd d (fetchRows R w hw K n r h) Q) := by
  iintro ⟨H1, H2, ⟨%g, H3⟩, H4⟩ Hk
  iapply (wp_fetchRows EC R X hX w hw K g n r h) $$ [H1 H2 H3 H4]
  · isplitl [H1]; · iexact H1
    isplitl [H2]; · iexact H2
    isplitl [H3]; · iexact H3
    iexact H4
  iintro ⟨H1, H2, H3, H4⟩
  iapply Hk
  isplitl [H1]; · iexact H1
  isplitl [H2]; · iexact H2
  isplitl [H3]; · iexists g; iexact H3
  iexact H4

theorem free_fill (n : ℕ) : (Free R d n : sProp (MT nD τ sig Unit (Elt F) ℕ U ℕ)) ⊢ |={Set.univ}=> Filling EC R X d n 0 := by
  iintro ⟨H, Hv⟩
  unfold Any
  imod (Transfers.batch_alloc' EC (d : Thread nD τ) () R.rowCredit (fun t : Fin 64 => Own d R.ring (ringRows n t.val (t.val + 1)) fullShare (X.ringAt n))
    (sm := .dma (R.ringSem n)) (E := Set.univ)) $$ Hv with HB
  imodintro
  isplitl [H]; · iexact H
  iexact HB

theorem slot_credit (w : BitVec 32) (hw : w.toNat < 32) (hc : sig.dmaCredit .tc (Kind.table .tc .vmem) R.ring.view.buf S64x2560 .i32 = 64 * R.rowCredit) :
    (R.slot w hw).view.dmaCredit = 64 * R.rowCredit := hc

abbrev Ows (d : Dev nD) : sProp (MT nD τ sig Unit (Elt F) ℕ U ℕ) := iprop(∃ W, owes (d : Thread nD τ) 0 W)

/-- A chunk's slot with its code words in, its semaphore at zero. -/
abbrev Landed (d : Dev nD) (n : ℕ) : sProp (MT nD τ sig Unit (Elt F) ℕ U ℕ) :=
  iprop(Own d R.ring (ringRows n 0 64) fullShare (X.ringAt n) ∗ semVal ((d : Thread nD τ), SemLoc.dma (R.ringSem n)) 0)
theorem landed_free (n : ℕ) : (Landed R X d n : sProp (MT nD τ sig Unit (Elt F) ℕ U ℕ)) ⊢ Free R d n := by
  iintro ⟨H, Hv⟩
  isplitl [H]
  · iapply any_of; iexact H
  iexact Hv

theorem ring_union (n : ℕ) : (Finset.univ : Finset (Fin 64)).biUnion (fun t => ringRows n t.val (t.val + 1)) = ringRows n 0 64 := by
  ext y
  rw [Finset.mem_biUnion, mem_ringRows]
  constructor
  · rintro ⟨t, -, ht⟩; rw [mem_ringRows] at ht; have := t.isLt; omega
  · rintro ⟨h0, -, h2⟩; exact ⟨⟨(y 1).val, h2⟩, Finset.mem_univ _, mem_ringRows.2 ⟨h0, Nat.le_refl _, Nat.lt_succ_self _⟩⟩

theorem wp_waitSlot (w : BitVec 32) (hw : w.toNat < 32) (K : P F α) (hN : 0 < R.rowCredit)
    (hc : sig.dmaCredit .tc (Kind.table .tc .vmem) R.ring.view.buf S64x2560 .i32 = 64 * R.rowCredit) :
    iprop(Flight EC R X d w.toNat 64 0 ∗ Ows d)
      ⊢ iprop((iprop(Landed R X d w.toNat ∗ Ows d) -∗ Wp defs 𝒱 bd d K Q) -∗ Wp defs 𝒱 bd d (waitSlot R w hw K) Q) := by
  unfold waitSlot Landed Flight
  rw [← slotSem_eq R w hw]
  iintro ⟨HB, ⟨%W, HO⟩⟩ Hk
  iapply (Transfers.wp_waitBatchAll EC 𝒱 (d : Thread nD τ) bd () (slot_credit R w hw hc) hN (D := (fun t : Fin 64 => Own d R.ring (ringRows w.toNat t.val (t.val + 1)) fullShare (X.ringAt w.toNat))) (u := 0) (by rw [Nat.zero_add, Nat.mul_comm])) $$ [HB HO]
  · isplitl [HB]; · iexact HB
    iexact HO
  iintro ⟨HD, Hv, HO⟩
  ihave HD' := (own_bigSep Finset.univ (fun t : Fin 64 => ringRows w.toNat t.val (t.val + 1)) (by
    intro a _ b _ hab
    rw [Finset.disjoint_left]
    intro y ha hb
    rw [mem_ringRows] at ha hb
    exact hab (Fin.ext (by omega)))) $$ HD
  rw [ring_union]
  iapply Hk
  isplitl [HD' Hv]
  · isplitl [HD']
    · iexact HD'
    iexact Hv
  iexists _; iexact HO

end Cert.KernelIdeal.Lookup
-- ==== Proof.Part.lean ====
/-
  Holding a part of a buffer, some of which is known: `Part d m S P G` holds the elements of `S` at full share, and
  those of them satisfying `P` read as `G` says.
-/
module
public import proofs.«01_k».proof.Proof.Own
@[expose] public section
noncomputable section
namespace Cert.Lookup
open Idealize.ShloMosaic Idealize.ShloMosaic.TcCoe Idealize.ShloMosaic.Tactic
open Idealize.SL
open Idealize.SL.BI (sProp bigSep Storable)
open scoped Idealize.SL.BI
open Idealize.SL.BI.BIBase Idealize.SL.BI.Laws Idealize.SL.Sem Idealize.SL.ProofMode
open Idealize.SL.RA

variable {nD : Nat} {τ : Topo} {sig : RefSig} {Val : EltTy → Type} [∀ e, Nonempty (Val e)] {U : Type} [URA U] {Λ : Labels}
variable {sp sp' : Space} {s s' : Shape} {e e' : EltTy}

local notation "𝕄" => MT nD τ sig Unit Val ℕ U ℕ

/-- Membership in a rectangle of unit strides, axis by axis. -/
theorem mem_unit {o z : Fin s.rank → ℕ} {h : ∀ a, o a + z a ≤ s.size a} {y : s.Idx} :
    y ∈ (Rect.unit (s := s) o z h).set ↔ ∀ a, o a ≤ (y a).val ∧ (y a).val < o a + z a := by
  constructor
  · intro hy a
    obtain ⟨x, rfl⟩ := of_mem hy
    have hx : (x a).val < z a := (x a).isLt
    have he : ((Rect.unit (s := s) o z h).emb x a).val = o a + 1 * (x a).val := rfl
    omega
  · intro hy
    have hlt : ∀ a, (y a).val - o a < z a := fun a => by have := hy a; omega
    have he : (Rect.unit (s := s) o z h).emb (fun a => ⟨(y a).val - o a, hlt a⟩) = y := by
      funext a
      refine Fin.ext ?_
      show o a + 1 * ((y a).val - o a) = (y a).val
      have := hy a; omega
    rw [← he]; exact emb_mem _ _

def Part (d : Dev nD) {ms : Space} (m : Memref sig .tc ms s e) (S : Finset s.Idx) (P : s.Idx → Prop) (G : s.Idx → Val e) : sProp 𝕄 :=
  iprop(∃ g, ⌜∀ y ∈ S, P y → g y = G y⌝ ∗ Own d m S fullShare g)

variable {d : Dev nD} {ms : Space} {m : Memref sig .tc ms s e} {S : Finset s.Idx} {P P' : s.Idx → Prop} {G G' : s.Idx → Val e}

theorem part_congr (h : ∀ y ∈ S, P' y → P y ∧ G y = G' y) : (Part d m S P G : sProp 𝕄) ⊢ Part d m S P' G' := by
  unfold Part
  iintro ⟨%g, %hg, H⟩
  iexists g
  isplitr
  · ipureintro; exact fun y hy hp => (hg y hy (h y hy hp).1).trans (h y hy hp).2
  iexact H
theorem part_of_any (G : s.Idx → Val e) (h : ∀ y ∈ S, ¬ P y) : (Any d m S : sProp 𝕄) ⊢ Part d m S P G := by
  unfold Part Any
  iintro ⟨%g, H⟩
  iexists g
  isplitr
  · ipureintro; exact fun y hy hp => absurd hp (h y hy)
  iexact H
theorem any_of_part : (Part d m S P G : sProp 𝕄) ⊢ Any d m S := by
  unfold Part Any
  iintro ⟨%g, -, H⟩
  iexists g
  iexact H
theorem own_of_part (h : ∀ y ∈ S, P y) : (Part d m S P G : sProp 𝕄) ⊢ Own d m S fullShare G := by
  unfold Part
  iintro ⟨%g, %hg, H⟩
  iapply (own_congr (fun y hy => hg y hy (h y hy)))
  iexact H
theorem part_of_own : (Own d m S fullShare G : sProp 𝕄) ⊢ Part d m S P G := by
  unfold Part
  iintro H
  iexists G
  isplitr
  · ipureintro; exact fun _ _ _ => rfl
  iexact H

variable {defs : Defs nD τ sig Val Λ} {𝒱 : Variants} {bd : Option 𝒱.V} {α : Type} {Q : α → sProp (MT nD τ sig Unit Val ℕ U ℕ)}

theorem part_load {cs : CoreSpace} {m : Memref sig .tc cs s e} {r : Rect s} {hl : m.view.LoadsAt r.toLoadRect}
    {k : (r.shape.Idx → Val e) → Prog (TpuEff nD τ sig Val Λ .tc) α} (hS : r.set ⊆ S) (v : r.shape.Idx → Val e) (hP : ∀ x, P (r.emb x) ∧ G (r.emb x) = v x) :
    (Part d m S P G : sProp 𝕄) ⊢ iprop((Part d m S P G -∗ Wp defs 𝒱 bd d (k v) Q) -∗ Wp defs 𝒱 bd d (.op (.load m r.toLoadRect hl) k) Q) := by
  unfold Part
  iintro ⟨%g, %hg, H⟩ Hk
  iapply (own_load hS) $$ H
  iintro H
  rw [show (fun x => g (r.emb x)) = v from funext fun x => (hg _ (hS (emb_mem r x)) (hP x).1).trans (hP x).2]
  iapply Hk
  iexists g
  isplitr
  · ipureintro; exact hg
  iexact H

/-- A load whose value is not used. -/
theorem part_skip {cs : CoreSpace} {m : Memref sig .tc cs s e} {r : Rect s} {hl : m.view.LoadsAt r.toLoadRect}
    {p : Prog (TpuEff nD τ sig Val Λ .tc) α} (hS : r.set ⊆ S) :
    (Part d m S P G : sProp 𝕄) ⊢ iprop((Part d m S P G -∗ Wp defs 𝒱 bd d p Q) -∗ Wp defs 𝒱 bd d (.op (.load m r.toLoadRect hl) fun _ => p) Q) := by
  unfold Part
  iintro ⟨%g, %hg, H⟩ Hk
  iapply (own_load hS) $$ H
  iintro H
  iapply Hk
  iexists g
  isplitr
  · ipureintro; exact hg
  iexact H

open Classical in
theorem part_store {cs : CoreSpace} {m : Memref sig .tc cs s e} {r : Rect s} {w : r.shape.Idx → Val e} {hx : (m.access r).Stores Finset.univ}
    {hm : (Finset.univ : Finset r.shape.Idx) = Finset.univ ∨ ∀ a, r.stride a = 1} {k : PUnit → Prog (TpuEff nD τ sig Val Λ .tc) α}
    (P' : s.Idx → Prop) (G' : s.Idx → Val e) (hS : r.set ⊆ S)
    (hin : ∀ x, G' (r.emb x) = w x) (hout : ∀ y ∈ S, y ∉ r.set → P' y → P y ∧ G y = G' y) :
    (Part d m S P G : sProp 𝕄) ⊢ iprop((Part d m S P' G' -∗ Wp defs 𝒱 bd d (k ⟨⟩) Q)
      -∗ Wp defs 𝒱 bd d (.op (.store m r w Finset.univ hx hm) k) Q) := by
  unfold Part
  iintro ⟨%g, %hg, H⟩ Hk
  have h1 : ∀ x, (fun y => if y ∈ r.set then G' y else g y) (r.emb x) = w x := fun x => by
    show (if r.emb x ∈ r.set then _ else _) = _
    rw [if_pos (emb_mem r x)]; exact hin x
  have h2 : ∀ y ∈ S, y ∉ r.set → (fun y => if y ∈ r.set then G' y else g y) y = g y := fun y _ hy => if_neg hy
  iapply (own_store (fun y => if y ∈ r.set then G' y else g y) hS h1 h2) $$ H
  iintro H
  iapply Hk
  iexists _
  isplitr [H]
  rotate_left
  · iexact H
  ipureintro
  intro y hy hp
  show (if y ∈ r.set then G' y else g y) = _
  split
  · rfl
  · rename_i hn
    exact (hg y hy (hout y hy hn hp).1).trans (hout y hy hn hp).2

end Cert.Lookup
-- ==== Proof.Ideal.Scales.lean ====
/-
  The pieces of the kernel between copies: the narrow rows, the scales, the blocks. Every access is inside its buffer,
  and the matrix unit is used in order.
-/
module
public import proofs.«01_k».proof.Proof.Ideal.Fetch
public import proofs.«01_k».proof.Proof.Part
@[expose] public section
noncomputable section
namespace Cert.KernelIdeal.Lookup
open Cert.KernelIdeal Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

abbrev All {s : Shape} {e : EltTy} (d : Dev nD) {ms : Space} (m : Memref sig .tc ms s e) : sProp (MT nD τ sig Unit (Elt F) ℕ U ℕ) := Any d m Finset.univ

variable (T : S16000x128.Idx → Elt F .i32)

theorem cast_same {s : Shape} {β : Type} (v : s.Idx → β) (h : s.ShapeCasts s) (x : s.Idx) : shapeCast s v h x = v x :=
  congrArg v (Shape.reshapeEquiv_self _ _)

/-- The table filled. -/
abbrev Tab (d : Dev nD) : sProp (MT nD τ sig Unit (Elt F) ℕ U ℕ) := Own d R.table Finset.univ fullShare T
/-- The narrow rows of chunk `n` up to row `r`. -/
abbrev Rows (d : Dev nD) (n r : ℕ) : sProp (MT nD τ sig Unit (Elt F) ℕ U ℕ) :=
  Part d R.rows Finset.univ (fun y => (y 0).val < r) (X.rowsAt T n)

theorem tab_val (n r : ℕ) (hid : (X.id (64 * n + r)).toNat < 16000) (h) (x : S1x128.Idx) :
    T ((Rect.unit (s := S16000x128) (k0_off762 (X.id (64 * n + r))) S1x128.size h).emb x) = X.row T n r (x 1).val := by
  have h0 : (x 0).val = 0 := fin1 (x 0) rfl
  have e0 : ((Rect.unit (s := S16000x128) (k0_off762 (X.id (64 * n + r))) S1x128.size h).emb x 0).val = (X.id (64 * n + r)).toNat := by
    show k0_off762 (X.id (64 * n + r)) 0 + 1 * (x 0).val = _
    rw [off762_val, h0]; rfl
  have e1 : ((Rect.unit (s := S16000x128) (k0_off762 (X.id (64 * n + r))) S1x128.size h).emb x 1).val = (x 1).val := by
    show k0_off762 (X.id (64 * n + r)) 1 + 1 * (x 1).val = _
    rw [off762_val, Nat.one_mul]; exact Nat.zero_add _
  refine (at2_val (a := 16000) (b := 128) T _).symm.trans ?_
  exact congrArg₂ (at2 T) e0 e1

theorem wp_gatherRow (hX : X.Ok) (n : ℕ) (base : BitVec 32) (hn : base.toNat = 64 * n) (hb : base.toNat ≤ 1984) (r : ℕ) (hr : r < 64) (K : P F α) :
    iprop(Ids R X d ∗ Tab R T d ∗ Rows R X T d n r)
      ⊢ iprop((iprop(Ids R X d ∗ Tab R T d ∗ Rows R X T d n (r + 1)) -∗ Wp defs 𝒱 bd d K Q) -∗ Wp defs 𝒱 bd d (gatherRow R base hb r hr K) Q) := by
  have hid := hX (64 * n + r)
  unfold gatherRow
  iintro ⟨Hid, Ht, Hr⟩ Hk
  iapply (wp_id R X hb hr) $$ Hid
  iintro Hid
  rw [hn]
  iapply (wp_assume 𝒱 (d : Thread nD τ) bd Set.univ (chk257_ok _ hid))
  iapply (own_load (Finset.subset_univ _)) $$ Ht
  iintro Ht
  iapply (part_skip (Finset.subset_univ _)) $$ Hr
  iintro Hr
  have hin : ∀ x : S1x128.Idx, X.rowsAt T n ((Rect.unit (s := S64x128) ![r, 0] S1x128.size (row_inb r hr)).emb x)
      = (shapeCast S1x128 (fun x => T ((Rect.unit (s := S16000x128) (k0_off762 (X.id (64 * n + r))) S1x128.size (k0_off762_inb _ (chk257_ok _ hid))).emb x) : Vec F S1x128 .i32)
          shapeCasts_S1x128_S1x128) x := by
    intro x
    have h0 : (x 0).val = 0 := fin1 (x 0) rfl
    rw [cast_same]
    exact (congrArg₂ (X.row T n) (show r + 1 * (x 0).val = r by omega) (show 0 + 1 * (x 1).val = (x 1).val by omega)).trans (tab_val X T n r hid _ x).symm
  have hout : ∀ y ∈ (Finset.univ : Finset S64x128.Idx), y ∉ (Rect.unit (s := S64x128) ![r, 0] S1x128.size (row_inb r hr)).set →
      (y 0).val < r + 1 → (y 0).val < r ∧ X.rowsAt T n y = X.rowsAt T n y := by
    intro y _ hy hlt
    refine ⟨?_, rfl⟩
    by_contra hc
    refine hy (mem_unit.2 fun a => ?_)
    match a with
    | ⟨0, _⟩ => exact ⟨show r ≤ (y 0).val by omega, show (y 0).val < r + 1 by omega⟩
    | ⟨1, _⟩ => exact ⟨Nat.zero_le _, show (y 1).val < 0 + 128 by have : (y 1).val < 128 := (y 1).isLt; omega⟩
  iapply (part_store (fun y => (y 0).val < r + 1) (X.rowsAt T n) (Finset.subset_univ _) hin hout) $$ Hr
  iintro Hr
  iapply Hk
  isplitl [Hid]; · iexact Hid
  isplitl [Ht]; · iexact Ht
  iexact Hr

theorem wp_gatherRows (hX : X.Ok) (m : ℕ) (base : BitVec 32) (hm : base.toNat = 64 * m) (hb : base.toNat ≤ 1984) (K : P F α) : ∀ (n r : ℕ) (h : r + n ≤ 64),
    iprop(Ids R X d ∗ Tab R T d ∗ Rows R X T d m r)
      ⊢ iprop((iprop(Ids R X d ∗ Tab R T d ∗ Rows R X T d m (r + n)) -∗ Wp defs 𝒱 bd d K Q) -∗ Wp defs 𝒱 bd d (gatherRows R base hb K n r h) Q)
  | 0, r, h => by
    iintro H Hk
    iapply Hk
    iexact H
  | n + 1, r, h => by
    have e : r + (n + 1) = r + 1 + n := by omega
    rw [e]
    iintro H Hk
    unfold gatherRows
    iapply (wp_gatherRow R X T hX m base hm hb r _ _) $$ H
    iintro H
    iapply (wp_gatherRows hX m base hm hb K n (r + 1) _) $$ H
    iexact Hk

theorem wp_loadGroups (m : ℕ) (K : (ℕ → IVec S8x128 32) → P F α) : ∀ (n g : ℕ) (h : g + n ≤ 8) (ws : ℕ → IVec S8x128 32) (_ : ∀ i < g, ws i = X.grp T m i),
    (Rows R X T d m 64 : sProp (MT nD τ sig Unit (Elt F) ℕ U ℕ))
      ⊢ iprop((∀ ws, ⌜∀ i < g + n, ws i = X.grp T m i⌝ -∗ Rows R X T d m 64 -∗ Wp defs 𝒱 bd d (K ws) Q) -∗ Wp defs 𝒱 bd d (loadGroups R K n g h ws) Q)
  | 0, g, h, ws, hws => by
    unfold loadGroups
    iintro H Hk
    iapply Hk $$ %ws %hws
    iexact H
  | n + 1, g, h, ws, hws => by
    have hg : g < 8 := by omega
    have hv : ∀ x : S8x128.Idx, ((fun y : S64x128.Idx => (y 0).val < 64) ((Rect.unit (s := S64x128) ![8 * g, 0] S8x128.size (grp_inb g hg)).emb x))
        ∧ X.rowsAt T m ((Rect.unit (s := S64x128) ![8 * g, 0] S8x128.size (grp_inb g hg)).emb x) = X.grp T m g x := by
      intro x
      have hx : (x 0).val < 8 := (x 0).isLt
      exact ⟨show 8 * g + 1 * (x 0).val < 64 by omega,
        congrArg₂ (X.row T m) (show 8 * g + 1 * (x 0).val = 8 * g + (x 0).val by omega) (show 0 + 1 * (x 1).val = (x 1).val by omega)⟩
    have hu : ∀ i < g + 1, upd ws g (X.grp T m g) i = X.grp T m i := by
      intro i hi
      unfold upd
      rcases Nat.lt_or_ge i g with h1 | h1
      · have : Nat.beq i g = false := by
          rw [← Bool.not_eq_true, Nat.beq_eq]; omega
        rw [this]; exact hws i h1
      · obtain rfl : i = g := by omega
        rw [Nat.beq_refl]; rfl
    have e : g + (n + 1) = g + 1 + n := by omega
    rw [e]
    iintro H Hk
    unfold loadGroups
    iapply (part_load (Finset.subset_univ _) (X.grp T m g) hv) $$ H
    iintro H
    iapply (wp_loadGroups m K n (g + 1) _ _ hu) $$ H
    iexact Hk

theorem wp_narrow (hX : X.Ok) (n : ℕ) (base : BitVec 32) (hn : base.toNat = 64 * n) (hb : base.toNat ≤ 1984)
    (K : (ℕ → IVec S8x128 32) → (ℕ → IVec S8x128 32) → (ℕ → IVec S8x128 32) → P F α) :
    iprop(Ids R X d ∗ Tab R T d ∗ All d R.rows)
      ⊢ iprop((∀ w0 w1 w2, ⌜(∀ i < 8, w0 i = X.grp T n i) ∧ (∀ i < 8, w1 i = X.grp T n i) ∧ ∀ i < 8, w2 i = X.grp T n i⌝
          -∗ iprop(Ids R X d ∗ Tab R T d ∗ All d R.rows) -∗ Wp defs 𝒱 bd d (K w0 w1 w2) Q)
        -∗ Wp defs 𝒱 bd d (narrow R base hb K) Q) := by
  unfold narrow
  iintro ⟨Hid, Ht, Hr⟩ Hk
  ihave Hr' := (part_of_any (P := fun y : S64x128.Idx => (y 0).val < 0) (X.rowsAt T n) (fun y _ => Nat.not_lt_zero _)) $$ Hr
  iapply (wp_gatherRows R X T hX n base hn hb _ 64 0 _) $$ [Hid Ht Hr']
  · isplitl [Hid]; · iexact Hid
    isplitl [Ht]; · iexact Ht
    iexact Hr'
  iintro ⟨Hid, Ht, Hr⟩
  iapply (wp_loadGroups R X T n _ 8 0 _ _ (fun i hi => absurd hi (Nat.not_lt_zero i))) $$ Hr
  iintro %w0 %h0 Hr
  iapply (wp_loadGroups R X T n _ 8 0 _ _ (fun i hi => absurd hi (Nat.not_lt_zero i))) $$ Hr
  iintro %w1 %h1 Hr
  iapply (wp_loadGroups R X T n _ 8 0 _ _ (fun i hi => absurd hi (Nat.not_lt_zero i))) $$ Hr
  iintro %w2 %h2 Hr
  iapply Hk $$ %w0 %w1 %w2 %(⟨h0, h1, h2⟩)
  isplitl [Hid]; · iexact Hid
  isplitl [Ht]; · iexact Ht
  iapply any_of_part
  iexact Hr

theorem wp_spreadGroups (A : S20x64x128.Idx → Prop) (G : S20x64x128.Idx → Elt F .f32) (j : ℕ) (hj : j < 20) (p0 p1 : ℕ → FVec F S8x128 .f32) (K : P F α)
    (hG : ∀ y : S20x64x128.Idx, (y 0).val = j → G y = at2 (spreadVal j (p0 ((y 1).val / 8)) (p1 ((y 1).val / 8)) : FVec F S8x128 .f32) ((y 1).val % 8) (y 2).val) :
    ∀ (n g : ℕ) (h : g + n ≤ 8),
    (Part d R.scale Finset.univ (fun y => A y ∨ ((y 0).val = j ∧ (y 1).val < 8 * g)) G : sProp (MT nD τ sig Unit (Elt F) ℕ U ℕ))
      ⊢ iprop((Part d R.scale Finset.univ (fun y => A y ∨ ((y 0).val = j ∧ (y 1).val < 8 * (g + n))) G -∗ Wp defs 𝒱 bd d K Q)
        -∗ Wp defs 𝒱 bd d (spreadGroups R j hj p0 p1 K n g h) Q)
  | 0, g, h => by
    iintro H Hk
    iapply Hk
    iexact H
  | n + 1, g, h => by
    have hg : g < 8 := by omega
    have hin : ∀ x : S1x8x128.Idx, G ((Rect.unit (s := S20x64x128) ![j, 8 * g, 0] S1x8x128.size (scaleg_inb j hj g hg)).emb x)
        = (shapeCast S1x8x128 (spreadVal j (p0 g) (p1 g)) shapeCasts_S8x128_S1x8x128 : FVec F S1x8x128 .f32) x := by
      intro x
      have h0 : (x 0).val = 0 := fin1 (x 0) rfl
      have h1 : (x 1).val < 8 := (x 1).isLt
      have e1 : (((Rect.unit (s := S20x64x128) ![j, 8 * g, 0] S1x8x128.size (scaleg_inb j hj g hg)).emb x) 1).val = 8 * g + (x 1).val := by
        show 8 * g + 1 * (x 1).val = _; omega
      have e2 : (((Rect.unit (s := S20x64x128) ![j, 8 * g, 0] S1x8x128.size (scaleg_inb j hj g hg)).emb x) 2).val = (x 2).val := by
        show 0 + 1 * (x 2).val = _; omega
      rw [hG _ (show j + 1 * (x 0).val = j by omega), e1, e2, show (8 * g + (x 1).val) / 8 = g by omega, show (8 * g + (x 1).val) % 8 = (x 1).val by omega]
      refine (at2_val (a := 8) (b := 128) (spreadVal j (p0 g) (p1 g)) (ix2 (x 1) (x 2))).trans ?_
      exact ((congrArg _ (eq_ix3 x)).trans (shapeCast_ab_1ab_apply (a := 8) (b := 128) (spreadVal j (p0 g) (p1 g)) shapeCasts_S8x128_S1x8x128 (x 0) (x 1) (x 2))).symm
    have hout : ∀ y ∈ (Finset.univ : Finset S20x64x128.Idx), y ∉ (Rect.unit (s := S20x64x128) ![j, 8 * g, 0] S1x8x128.size (scaleg_inb j hj g hg)).set →
        (A y ∨ ((y 0).val = j ∧ (y 1).val < 8 * (g + 1))) → (A y ∨ ((y 0).val = j ∧ (y 1).val < 8 * g)) ∧ G y = G y := by
      intro y _ hy hp
      refine ⟨hp.imp_right fun ⟨hp0, hp1⟩ => ⟨hp0, ?_⟩, rfl⟩
      by_contra hc
      refine hy (mem_unit.2 fun a => ?_)
      match a with
      | ⟨0, _⟩ => exact ⟨show j ≤ (y 0).val by omega, show (y 0).val < j + 1 by omega⟩
      | ⟨1, _⟩ => exact ⟨show 8 * g ≤ (y 1).val by omega, show (y 1).val < 8 * g + 8 by omega⟩
      | ⟨2, _⟩ => exact ⟨Nat.zero_le _, show (y 2).val < 0 + 128 by have : (y 2).val < 128 := (y 2).isLt; omega⟩
    have e : g + (n + 1) = g + 1 + n := by omega
    rw [e]
    iintro H Hk
    unfold spreadGroups
    iapply (part_skip (Finset.subset_univ _)) $$ H
    iintro H
    iapply (part_store (fun y => A y ∨ ((y 0).val = j ∧ (y 1).val < 8 * (g + 1))) G (Finset.subset_univ _) hin hout) $$ H
    iintro H
    iapply (wp_spreadGroups A G j hj p0 p1 K hG n (g + 1) _) $$ H
    iexact Hk

/-- Both halves of the group scales are those of chunk `n`. -/
def PartsOk (n : ℕ) (p0 p1 : ℕ → FVec F S8x128 .f32) : Prop := ∀ g < 8, p0 g = part 0#32 (X.grp T n g) ∧ p1 g = part 128#32 (X.grp T n g)
theorem parts_ok {n : ℕ} {w0 w1 : ℕ → IVec S8x128 32} (h0 : ∀ i < 8, w0 i = X.grp T n i) (h1 : ∀ i < 8, w1 i = X.grp T n i) :
    PartsOk X T n (fun g => (part 0#32 (w0 g) : FVec F S8x128 .f32)) (fun g => part 128#32 (w1 g)) :=
  fun g hg => ⟨congrArg _ (h0 g hg), congrArg _ (h1 g hg)⟩
theorem scale_spread {n j : ℕ} {p0 p1 : ℕ → FVec F S8x128 .f32} (h : PartsOk X T n p0 p1) (y : S20x64x128.Idx) (hy : (y 0).val = j) :
    X.scaleAt T n y = at2 (spreadVal j (p0 ((y 1).val / 8)) (p1 ((y 1).val / 8)) : FVec F S8x128 .f32) ((y 1).val % 8) (y 2).val := by
  have h1 : (y 1).val < 64 := (y 1).isLt
  obtain ⟨e0, e1⟩ := h ((y 1).val / 8) (by omega)
  rw [e0, e1, ← hy]
  rfl

theorem wp_spreadAll (m : ℕ) (p0 p1 : ℕ → FVec F S8x128 .f32) (hp : PartsOk X T m p0 p1) (K : P F α) : ∀ (n j : ℕ) (h : j + n ≤ 20),
    (Part d R.scale Finset.univ (fun y => (y 0).val < j) (X.scaleAt T m) : sProp (MT nD τ sig Unit (Elt F) ℕ U ℕ))
      ⊢ iprop((Part d R.scale Finset.univ (fun y => (y 0).val < j + n) (X.scaleAt T m) -∗ Wp defs 𝒱 bd d K Q) -∗ Wp defs 𝒱 bd d (spreadAll R p0 p1 K n j h) Q)
  | 0, j, h => by
    iintro H Hk
    iapply Hk
    iexact H
  | n + 1, j, h => by
    have e : j + (n + 1) = j + 1 + n := by omega
    rw [e]
    iintro H Hk
    unfold spreadAll
    have h1 : ∀ y ∈ (Finset.univ : Finset S20x64x128.Idx), ((y 0).val < j ∨ ((y 0).val = j ∧ (y 1).val < 8 * 0)) → (y 0).val < j ∧ X.scaleAt T m y = X.scaleAt T m y :=
      fun y _ h => ⟨by omega, rfl⟩
    have h2 : ∀ y ∈ (Finset.univ : Finset S20x64x128.Idx), (y 0).val < j + 1 → ((y 0).val < j ∨ ((y 0).val = j ∧ (y 1).val < 8 * (0 + 8))) ∧ X.scaleAt T m y = X.scaleAt T m y :=
      fun y _ h => ⟨by have : (y 1).val < 64 := (y 1).isLt; omega, rfl⟩
    ihave H' := (part_congr h1) $$ H
    iapply (wp_spreadGroups R (fun y => (y 0).val < j) (X.scaleAt T m) j _ p0 p1 _ (fun y hy => scale_spread X T hp y hy) 8 0 _) $$ H'
    iintro H
    ihave H' := (part_congr h2) $$ H
    iapply (wp_spreadAll m p0 p1 hp K n (j + 1) _) $$ H'
    iexact Hk

theorem wp_storeShifts (m : ℕ) (sh : ℕ → IVec S8x128 32) (hsh : ∀ i < 8, sh i = shiftOf (X.grp T m i)) (K : P F α) : ∀ (n g : ℕ) (h : g + n ≤ 8),
    (Part d R.shift Finset.univ (fun y => (y 0).val < 8 * g) (X.shiftAt T m) : sProp (MT nD τ sig Unit (Elt F) ℕ U ℕ))
      ⊢ iprop((Part d R.shift Finset.univ (fun y => (y 0).val < 8 * (g + n)) (X.shiftAt T m) -∗ Wp defs 𝒱 bd d K Q) -∗ Wp defs 𝒱 bd d (storeShifts R sh K n g h) Q)
  | 0, g, h => by
    iintro H Hk
    iapply Hk
    iexact H
  | n + 1, g, h => by
    have hg : g < 8 := by omega
    have hin : ∀ x : S8x128.Idx, X.shiftAt T m ((Rect.unit (s := S64x128) ![8 * g, 0] S8x128.size (grp_inb g hg)).emb x)
        = (shapeCast S8x128 (sh g) shapeCasts_S8x128_S8x128 : IVec S8x128 32) x := by
      intro x
      have h0 : (x 0).val < 8 := (x 0).isLt
      have e0 : (((Rect.unit (s := S64x128) ![8 * g, 0] S8x128.size (grp_inb g hg)).emb x) 0).val = 8 * g + (x 0).val := by
        show 8 * g + 1 * (x 0).val = _; omega
      have e1 : (((Rect.unit (s := S64x128) ![8 * g, 0] S8x128.size (grp_inb g hg)).emb x) 1).val = (x 1).val := by
        show 0 + 1 * (x 1).val = _; omega
      unfold Inp.shiftAt
      rw [e0, e1, show (8 * g + (x 0).val) / 8 = g by omega, show (8 * g + (x 0).val) % 8 = (x 0).val by omega, cast_same, hsh g hg]
      exact at2_val (a := 8) (b := 128) _ x
    have hout : ∀ y ∈ (Finset.univ : Finset S64x128.Idx), y ∉ (Rect.unit (s := S64x128) ![8 * g, 0] S8x128.size (grp_inb g hg)).set →
        (y 0).val < 8 * (g + 1) → (y 0).val < 8 * g ∧ X.shiftAt T m y = X.shiftAt T m y := by
      intro y _ hy hp
      refine ⟨?_, rfl⟩
      by_contra hc
      refine hy (mem_unit.2 fun a => ?_)
      match a with
      | ⟨0, _⟩ => exact ⟨show 8 * g ≤ (y 0).val by omega, show (y 0).val < 8 * g + 8 by omega⟩
      | ⟨1, _⟩ => exact ⟨Nat.zero_le _, show (y 1).val < 0 + 128 by have : (y 1).val < 128 := (y 1).isLt; omega⟩
    have e : g + (n + 1) = g + 1 + n := by omega
    rw [e]
    iintro H Hk
    unfold storeShifts
    iapply (part_skip (Finset.subset_univ _)) $$ H
    iintro H
    iapply (part_store (fun y => (y 0).val < 8 * (g + 1)) (X.shiftAt T m) (Finset.subset_univ _) hin hout) $$ H
    iintro H
    iapply (wp_storeShifts m sh hsh K n (g + 1) _) $$ H
    iexact Hk

/-- The table's written lanes. -/
def Inp.tabF : S16000x128.Idx → Elt F .i32 := fun y => X.tab (y 0).val (y 1).val
/-- The table with the narrow rows of its first `t` tiles. -/
abbrev TabTo (d : Dev nD) (t : ℕ) : sProp (MT nD τ sig Unit (Elt F) ℕ U ℕ) :=
  Part d R.table Finset.univ (fun y => (y 0).val < 128 * t ∧ (y 1).val < 64) X.tabF
/-- The copied sub-scales and super-scales. -/
abbrev Sub (d : Dev nD) : sProp (MT nD τ sig Unit (Elt F) ℕ U ℕ) := Own d R.sub Finset.univ fullShare (X.sub : S160x16000.Idx → Elt F .i8)
abbrev Sup (d : Dev nD) : sProp (MT nD τ sig Unit (Elt F) ℕ U ℕ) := Own d R.sup Finset.univ fullShare (X.sup : S20x16000.Idx → Elt F .i16)

theorem wp_tiles (k : ℕ) (hk : k < 25) (K : P F α) : ∀ (n u : ℕ) (h : u + n ≤ 5),
    iprop(Sub R X d ∗ Sup R X d ∗ TabTo R X d (5 * k + u))
      ⊢ (iprop((iprop(Sub R X d ∗ Sup R X d ∗ TabTo R X d (5 * k + (u + n))) -∗ Wp defs 𝒱 bd d K Q) -∗ Wp defs 𝒱 bd d (tiles R k hk K n u h) Q)
        : sProp (MT nD τ sig Unit (Elt F) ℕ U ℕ))
  | 0, u, h => by
    iintro H Hk
    iapply Hk
    iexact H
  | n + 1, u, h => by
    have hu : u < 5 := by omega
    have ho := tileOff_val k u hk hu
    have hsb : (fun x : S160x128.Idx => X.sub ((Rect.unit (s := S160x16000) ![0, (Scalar.indexCast (tileOff k u)).toNat] S160x128.size (tileSub_inb k u hk hu)).emb x))
        = fun x => at2 X.sub (x 0).val (128 * (5 * k + u) + (x 1).val) := by
      funext x
      refine (at2_val (a := 160) (b := 16000) X.sub _).symm.trans (congrArg₂ (at2 X.sub) (show 0 + 1 * (x 0).val = (x 0).val by omega) ?_)
      show (Scalar.indexCast (tileOff k u)).toNat + 1 * (x 1).val = _
      rw [ho, Nat.one_mul]
    have hsp : (fun x : S20x128.Idx => X.sup ((Rect.unit (s := S20x16000) ![0, (Scalar.indexCast (tileOff k u)).toNat] S20x128.size (tileSup_inb k u hk hu)).emb x))
        = fun x => at2 X.sup (x 0).val (128 * (5 * k + u) + (x 1).val) := by
      funext x
      refine (at2_val (a := 20) (b := 16000) X.sup _).symm.trans (congrArg₂ (at2 X.sup) (show 0 + 1 * (x 0).val = (x 0).val by omega) ?_)
      show (Scalar.indexCast (tileOff k u)).toNat + 1 * (x 1).val = _
      rw [ho, Nat.one_mul]
    have hin : ∀ x : S128x64.Idx, X.tabF ((Rect.unit (s := S16000x128) ![(Scalar.indexCast (tileOff k u)).toNat, 0] S128x64.size (tileTab_inb k u hk hu)).emb x)
        = (shapeCast S128x64 (tableVal (fun x : S160x128.Idx => X.sub ((Rect.unit (s := S160x16000) ![0, (Scalar.indexCast (tileOff k u)).toNat] S160x128.size (tileSub_inb k u hk hu)).emb x))
            (fun x : S20x128.Idx => X.sup ((Rect.unit (s := S20x16000) ![0, (Scalar.indexCast (tileOff k u)).toNat] S20x128.size (tileSup_inb k u hk hu)).emb x)))
          shapeCasts_S128x64_S128x64 : IVec S128x64 32) x := by
      intro x
      rw [hsb, hsp]
      have h0 : (x 0).val < 128 := (x 0).isLt
      have e0 : (((Rect.unit (s := S16000x128) ![(Scalar.indexCast (tileOff k u)).toNat, 0] S128x64.size (tileTab_inb k u hk hu)).emb x) 0).val = 128 * (5 * k + u) + (x 0).val := by
        show (Scalar.indexCast (tileOff k u)).toNat + 1 * (x 0).val = _; rw [ho]; omega
      have e1 : (((Rect.unit (s := S16000x128) ![(Scalar.indexCast (tileOff k u)).toNat, 0] S128x64.size (tileTab_inb k u hk hu)).emb x) 1).val = (x 1).val := by
        show 0 + 1 * (x 1).val = _; omega
      unfold Inp.tabF Inp.tab
      rw [e0, e1, show (128 * (5 * k + u) + (x 0).val) / 128 = 5 * k + u by omega, show (128 * (5 * k + u) + (x 0).val) % 128 = (x 0).val by omega, cast_same]
      exact at2_val (a := 128) (b := 64) _ x
    have hout : ∀ y ∈ (Finset.univ : Finset S16000x128.Idx), y ∉ (Rect.unit (s := S16000x128) ![(Scalar.indexCast (tileOff k u)).toNat, 0] S128x64.size (tileTab_inb k u hk hu)).set →
        ((y 0).val < 128 * (5 * k + (u + 1)) ∧ (y 1).val < 64) → ((y 0).val < 128 * (5 * k + u) ∧ (y 1).val < 64) ∧ X.tabF y = X.tabF y := by
      intro y _ hy ⟨hp, hp1⟩
      refine ⟨⟨?_, hp1⟩, rfl⟩
      by_contra hc
      refine hy (mem_unit.2 fun a => ?_)
      match a with
      | ⟨0, _⟩ => exact ⟨show (Scalar.indexCast (tileOff k u)).toNat ≤ (y 0).val by rw [ho]; omega, show (y 0).val < (Scalar.indexCast (tileOff k u)).toNat + 128 by rw [ho]; omega⟩
      | ⟨1, _⟩ => exact ⟨Nat.zero_le _, show (y 1).val < 0 + 64 by omega⟩
    have e : u + (n + 1) = u + 1 + n := by omega
    rw [e]
    iintro ⟨H1, H2, H3⟩ Hk
    unfold tiles
    iapply (own_load (Finset.subset_univ _)) $$ H1
    iintro H1
    iapply (own_load (Finset.subset_univ _)) $$ H2
    iintro H2
    iapply (part_skip (Finset.subset_univ _)) $$ H3
    iintro H3
    iapply (part_store (fun y => (y 0).val < 128 * (5 * k + (u + 1)) ∧ (y 1).val < 64) X.tabF (Finset.subset_univ _) hin hout) $$ H3
    iintro H3
    iapply (wp_tiles k hk K n (u + 1) _) $$ [H1 H2 H3]
    · isplitl [H1]; · iexact H1
      isplitl [H2]; · iexact H2
      iexact H3
    iexact Hk

theorem wp_storePerm (K : P F α) :
    (All d R.perm : sProp (MT nD τ sig Unit (Elt F) ℕ U ℕ))
      ⊢ iprop((Own d R.perm Finset.univ fullShare permVal -∗ Wp defs 𝒱 bd d K Q) -∗ Wp defs 𝒱 bd d (storePerm R K) Q) := by
  have hall : ∀ x : S256x256.Idx, (Rect.unit (s := S256x256) ![0, 0] S256x256.size inb_S256x256_S256x256_0_0).emb x = x := by
    intro x; funext a; fin_cases a
    · exact Fin.ext (show 0 + 1 * (x 0).val = (x 0).val by omega)
    · exact Fin.ext (show 0 + 1 * (x 1).val = (x 1).val by omega)
  unfold storePerm
  iintro H Hk
  iapply (any_load (Finset.subset_univ _)) $$ H
  iintro %v H
  unfold Any
  icases H with ⟨%g, H⟩
  have h1 : ∀ x, (permVal : FVec F S256x256 .bf16) ((Rect.unit (s := S256x256) ![0, 0] S256x256.size inb_S256x256_S256x256_0_0).emb x)
      = (shapeCast S256x256 permVal shapeCasts_S256x256_S256x256 : FVec F S256x256 .bf16) x := fun x => by
    rw [hall x]; exact congrArg permVal (Shape.reshapeEquiv_self _ _).symm
  have h2 : ∀ y ∈ (Finset.univ : Finset S256x256.Idx), y ∉ (Rect.unit (s := S256x256) ![0, 0] S256x256.size inb_S256x256_S256x256_0_0).set →
    (permVal : FVec F S256x256 .bf16) y = g y := fun y _ hy => absurd (by have := emb_mem (Rect.unit (s := S256x256) ![0, 0] S256x256.size inb_S256x256_S256x256_0_0) y; rwa [hall] at this) hy
  iapply (own_store (permVal : FVec F S256x256 .bf16) (Finset.subset_univ _) h1 h2) $$ H
  iexact Hk

end Cert.KernelIdeal.Lookup
-- ==== Proof.Ideal.Outs.lean ====
/-
  The copies of finished chunks to the result: two slots in turn, one batch of one copy each.
-/
module
public import proofs.«01_k».proof.Proof.Ideal.Scales
@[expose] public section
noncomputable section
namespace Cert.KernelIdeal.Lookup
open Cert.KernelIdeal Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

/-- Part of a buffer read through a slice of it with a unit axis dropped. -/
theorem view_in {s s' : Shape} {e : EltTy} {ms : Space} {m : Memref sig .tc ms s e} {r : Rect s} {hr : ∀ a, r.stride a = 1} {h : r.shape.Squeezes s'}
    {q : PosShare TreeShare} {g : s.Idx → Elt F e} :
    (Own d m r.set q g : sProp (MT nD τ sig Unit (Elt F) ℕ U ℕ))
      ⊢ Own d ((m.slice r hr).squeeze s' h) Finset.univ q (fun x => g (r.emb (Shape.reshapeEquiv h.numel_eq x))) := by
  have h1 : (Own d m r.set q g : sProp (MT nD τ sig Unit (Elt F) ℕ U ℕ)) ⊢ Own d (m.slice r hr) Finset.univ q (fun x => g (r.emb x)) :=
    own_slice_in (fun y hy => (of_mem hy).imp fun x h => ⟨Finset.mem_univ x, h⟩) (fun x _ => emb_mem _ x) fun _ _ => rfl
  exact h1.trans (own_squeeze_in (fun y _ => ⟨(Shape.reshapeEquiv h.numel_eq).symm y, Finset.mem_univ _, Equiv.apply_symm_apply _ _⟩) (fun _ _ => Finset.mem_univ _) fun _ _ => rfl)

theorem any_view_in {s s' : Shape} {e : EltTy} {ms : Space} {m : Memref sig .tc ms s e} {r : Rect s} {hr : ∀ a, r.stride a = 1} {h : r.shape.Squeezes s'} :
    (Any d m r.set : sProp (MT nD τ sig Unit (Elt F) ℕ U ℕ)) ⊢ Any d ((m.slice r hr).squeeze s' h) Finset.univ := by
  unfold Any
  iintro ⟨%g, H⟩
  iexists _
  iapply view_in
  iexact H

/-- And back, contents kept. -/
theorem view_out {s s' : Shape} {e : EltTy} {ms : Space} {m : Memref sig .tc ms s e} {r : Rect s} {hr : ∀ a, r.stride a = 1} {h : r.shape.Squeezes s'}
    {q : PosShare TreeShare} {gs : s'.Idx → Elt F e} (g : s.Idx → Elt F e) (hg : ∀ x, g (r.emb (Shape.reshapeEquiv h.numel_eq x)) = gs x) :
    (Own d ((m.slice r hr).squeeze s' h) Finset.univ q gs : sProp (MT nD τ sig Unit (Elt F) ℕ U ℕ)) ⊢ Own d m r.set q g := by
  have h1 : (Own d ((m.slice r hr).squeeze s' h) Finset.univ q gs : sProp (MT nD τ sig Unit (Elt F) ℕ U ℕ)) ⊢ Own d (m.slice r hr) Finset.univ q (fun x => g (r.emb x)) :=
    own_squeeze_out (fun y _ => ⟨(Shape.reshapeEquiv h.numel_eq).symm y, Finset.mem_univ _, Equiv.apply_symm_apply _ _⟩) (fun _ _ => Finset.mem_univ _) fun x _ => hg x
  exact h1.trans (own_slice_out (fun y hy => (of_mem hy).imp fun x h => ⟨Finset.mem_univ x, h⟩) (fun x _ => emb_mem _ x) fun _ _ => rfl)

/-- And back. -/
theorem any_view_out {s s' : Shape} {e : EltTy} {ms : Space} {m : Memref sig .tc ms s e} {r : Rect s} {hr : ∀ a, r.stride a = 1} {h : r.shape.Squeezes s'}
    {gs : s'.Idx → Elt F e} :
    (Own d ((m.slice r hr).squeeze s' h) Finset.univ fullShare gs : sProp (MT nD τ sig Unit (Elt F) ℕ U ℕ)) ⊢ Any d m r.set := by
  classical
  haveI := Elt.nonempty F e
  have h1 : (Own d ((m.slice r hr).squeeze s' h) Finset.univ fullShare gs : sProp (MT nD τ sig Unit (Elt F) ℕ U ℕ))
      ⊢ Own d (m.slice r hr) Finset.univ fullShare (fun y => gs ((Shape.reshapeEquiv h.numel_eq).symm y)) :=
    own_squeeze_out (fun y _ => ⟨(Shape.reshapeEquiv h.numel_eq).symm y, Finset.mem_univ _, Equiv.apply_symm_apply _ _⟩) (fun _ _ => Finset.mem_univ _)
      fun x _ => congrArg gs (Equiv.symm_apply_apply _ _)
  have h2 : ∀ x, (fun y => if hy : ∃ x, r.emb x = y then gs ((Shape.reshapeEquiv h.numel_eq).symm hy.choose) else Classical.arbitrary _) (r.emb x)
      = gs ((Shape.reshapeEquiv h.numel_eq).symm x) := fun x => by
    have hx : ∃ x', r.emb x' = r.emb x := ⟨x, rfl⟩
    show (if hy : ∃ x', r.emb x' = r.emb x then gs ((Shape.reshapeEquiv h.numel_eq).symm hy.choose) else _) = _
    rw [dif_pos hx, r.emb.injective hx.choose_spec]
  refine (h1.trans (own_slice_out (S := r.set) (g := fun y => if hy : ∃ x, r.emb x = y then gs ((Shape.reshapeEquiv h.numel_eq).symm hy.choose) else Classical.arbitrary _) (fun y hy => (of_mem hy).imp fun x h => ⟨Finset.mem_univ x, h⟩) (fun x _ => emb_mem _ x) fun x _ => h2 x)).trans any_of

theorem one_out (D : Fin 1 → sProp (MT nD τ sig Unit (Elt F) ℕ U ℕ)) : bigSep Finset.univ D ⊢ D 0 := by
  rw [show (Finset.univ : Finset (Fin 1)) = {0} from rfl, BI.bigSep_singleton]

/-- A slot of the output buffer. -/
def outRows (n : ℕ) : Finset S2x64x5120.Idx := Finset.univ.filter fun y => (y 0).val = n % 2
theorem mem_outRows {n : ℕ} {y : S2x64x5120.Idx} : y ∈ outRows n ↔ (y 0).val = n % 2 := by
  unfold outRows; rw [Finset.mem_filter]; exact ⟨fun h => h.2, fun h => ⟨Finset.mem_univ _, h⟩⟩
theorem outRows_add (n : ℕ) : outRows (n + 2) = outRows n := by ext y; rw [mem_outRows, mem_outRows, Nat.add_mod_right]
theorem outSlot_set (w : BitVec 32) (hw : w.toNat < 32) :
    (Rect.unit (s := S2x64x5120) (outOff3 w 0) S1x64x5120.size (outOff3_inb w hw)).set = outRows w.toNat := by
  have hp := par_val w hw
  ext y
  rw [mem_outRows]
  have h1 : (y 1).val < 64 := (y 1).isLt
  have h2 : (y 2).val < 5120 := (y 2).isLt
  constructor
  · intro h
    have h0 := (Rect.mem_set_unit.1 h) 0
    have h0' : (Scalar.remsi w 2#32).toNat ≤ (y 0).val ∧ (y 0).val < (Scalar.remsi w 2#32).toNat + 1 := h0
    omega
  · intro h
    refine Rect.mem_set_unit.2 fun a => ?_
    match a with
    | ⟨0, _⟩ => exact (show (Scalar.remsi w 2#32).toNat ≤ (y 0).val ∧ (y 0).val < (Scalar.remsi w 2#32).toNat + 1 by omega)
    | ⟨1, _⟩ => exact (show 0 ≤ (y 1).val ∧ (y 1).val < 0 + 64 by omega)
    | ⟨2, _⟩ => exact (show 0 ≤ (y 2).val ∧ (y 2).val < 0 + 5120 by omega)

/-- The chunk of an element of the result. -/
def chunkOf (y : S2x1024x5120.Idx) : ℕ := 4 * ((y 1).val / 128) + 2 * (y 0).val + (y 1).val % 128 / 64
/-- The chunks from `n` on. -/
def todo (n : ℕ) : Finset S2x1024x5120.Idx := Finset.univ.filter fun y => n ≤ chunkOf y
theorem mem_todo {n : ℕ} {y : S2x1024x5120.Idx} : y ∈ todo n ↔ n ≤ chunkOf y := by
  unfold todo; rw [Finset.mem_filter]; exact ⟨fun h => h.2, fun h => ⟨Finset.mem_univ _, h⟩⟩
/-- The elements of chunk `n`. -/
def chunkSet (n : ℕ) : Finset S2x1024x5120.Idx := Finset.univ.filter fun y => chunkOf y = n
theorem mem_chunkSet {n : ℕ} {y : S2x1024x5120.Idx} : y ∈ chunkSet n ↔ chunkOf y = n := by
  unfold chunkSet; rw [Finset.mem_filter]; exact ⟨fun h => h.2, fun h => ⟨Finset.mem_univ _, h⟩⟩
/-- The chunks before `n`. -/
def before (n : ℕ) : Finset S2x1024x5120.Idx := Finset.univ.filter fun y => chunkOf y < n
theorem mem_before {n : ℕ} {y : S2x1024x5120.Idx} : y ∈ before n ↔ chunkOf y < n := by
  unfold before; rw [Finset.mem_filter]; exact ⟨fun h => h.2, fun h => ⟨Finset.mem_univ _, h⟩⟩
theorem before_succ (n : ℕ) : before n ∪ chunkSet n = before (n + 1) := by
  ext y; rw [Finset.mem_union, mem_before, mem_chunkSet, mem_before]; omega
theorem before_disjoint (n : ℕ) : Disjoint (before n) (chunkSet n) := by
  rw [Finset.disjoint_left]; intro y h1 h2; rw [mem_before] at h1; rw [mem_chunkSet] at h2; omega
theorem before_all : before 32 = Finset.univ := by
  refine Finset.filter_true_of_mem fun y _ => ?_
  have h0 : (y 0).val < 2 := (y 0).isLt
  have h1 : (y 1).val < 1024 := (y 1).isLt
  unfold chunkOf; omega

variable (T : S16000x128.Idx → Elt F .i32)
/-- THE RESULT as the kernel forms it: each element from its chunk's block. -/
def Inp.resAt : S2x1024x5120.Idx → Elt F .bf16 := fun y => at2 (X.blockAt T (chunkOf y) ((y 2).val / 256)) ((y 1).val % 64) ((y 2).val % 256)

theorem hbm_mem (w : BitVec 32) (hw : w.toNat < 32) (y : S2x1024x5120.Idx) :
    y ∈ (Rect.unit (s := S2x1024x5120) (hbmOff w) S1x64x5120.size (hbmOff_inb w hw)).set ↔ chunkOf y = w.toNat := by
  have hv := hbm_val w hw
  have v0 : hbmOff w 0 = w.toNat / 2 % 2 := by rw [hv]; rfl
  have v1 : hbmOff w 1 = w.toNat / 4 * 128 + w.toNat % 2 * 64 := by rw [hv]; rfl
  have v2 : hbmOff w 2 = 0 := rfl
  have h0 : (y 0).val < 2 := (y 0).isLt
  have h1 : (y 1).val < 1024 := (y 1).isLt
  have h2 : (y 2).val < 5120 := (y 2).isLt
  unfold chunkOf
  constructor
  · intro h
    have a0 : hbmOff w 0 ≤ (y 0).val ∧ (y 0).val < hbmOff w 0 + 1 := (Rect.mem_set_unit.1 h) 0
    have a1 : hbmOff w 1 ≤ (y 1).val ∧ (y 1).val < hbmOff w 1 + 64 := (Rect.mem_set_unit.1 h) 1
    rw [v0] at a0; rw [v1] at a1
    omega
  · intro h
    refine Rect.mem_set_unit.2 fun a => ?_
    match a with
    | ⟨0, _⟩ => exact (show hbmOff w 0 ≤ (y 0).val ∧ (y 0).val < hbmOff w 0 + 1 by rw [v0]; omega)
    | ⟨1, _⟩ => exact (show hbmOff w 1 ≤ (y 1).val ∧ (y 1).val < hbmOff w 1 + 64 by rw [v1]; omega)
    | ⟨2, _⟩ => exact (show hbmOff w 2 ≤ (y 2).val ∧ (y 2).val < hbmOff w 2 + 5120 by rw [v2]; omega)

theorem outSem_inb (n : ℕ) : ∀ a, (![n % 2] : Fin 1 → ℕ) a + S1.size a ≤ S2.size a := by
  intro a; obtain rfl : a = 0 := Subsingleton.elim _ _
  show n % 2 + 1 ≤ 2; omega
def Refs.outSemAt (o : Fin 1 → ℕ) (h : ∀ a, o a + S1.size a ≤ S2.size a) : DmaSem sig := ((R.semOut.slice (Rect.unit (s := S2) o S1.size h)).squeeze S_ squeezes_S1_S_).sem
theorem outSemAt_congr {o o' : Fin 1 → ℕ} {h h'} (e : o = o') : R.outSemAt o h = R.outSemAt o' h' := by subst e; rfl
/-- The semaphore of a chunk's output slot. -/
def Refs.outSemN (n : ℕ) : DmaSem sig := R.outSemAt ![n % 2] (outSem_inb n)
theorem outSem_eq (w : BitVec 32) (hw : w.toNat < 32) : R.outSem w hw = R.outSemN w.toNat :=
  outSemAt_congr R (h := outOff1_inb w hw) (by unfold outOff1; rw [par_val w hw])
theorem outSemN_add (n : ℕ) : R.outSemN (n + 2) = R.outSemN n :=
  outSemAt_congr R (by rw [show (n + 2) % 2 = n % 2 by omega])

theorem hbm_set (w : BitVec 32) (hw : w.toNat < 32) :
    (Rect.unit (s := S2x1024x5120) (hbmOff w) S1x64x5120.size (hbmOff_inb w hw)).set = chunkSet w.toNat := by
  ext y; rw [hbm_mem w hw, mem_chunkSet]

theorem res_eq {n : ℕ} (y : S2x1024x5120.Idx) (y' : S2x64x5120.Idx) (h0 : chunkOf y = n) (h1 : (y 1).val % 64 = (y' 1).val) (h2 : (y 2).val = (y' 2).val) :
    X.resAt T y = X.outsAt T n y' := by
  unfold Inp.resAt Inp.outsAt; rw [h0, h1, h2]
/-- A chunk's slot holds what the result gets. -/
theorem res_val (w : BitVec 32) (hw : w.toNat < 32) (x : S64x5120.Idx) :
    X.resAt T ((Rect.unit (s := S2x1024x5120) (hbmOff w) S1x64x5120.size (hbmOff_inb w hw)).emb (Shape.reshapeEquiv squeezes_S1x64x5120_S64x5120.numel_eq x))
      = X.outsAt T w.toNat ((Rect.unit (s := S2x64x5120) (outOff3 w 0) S1x64x5120.size (outOff3_inb w hw)).emb (Shape.reshapeEquiv squeezes_S1x64x5120_S64x5120.numel_eq x)) := by
  have hv := hbm_val w hw
  have v1 : hbmOff w 1 = w.toNat / 4 * 128 + w.toNat % 2 * 64 := by rw [hv]; rfl
  generalize Shape.reshapeEquiv squeezes_S1x64x5120_S64x5120.numel_eq x = z
  have hz : (z 1).val < 64 := (z 1).isLt
  refine res_eq X T _ _ ((hbm_mem w hw _).1 (emb_mem _ _)) ?_ rfl
  show (hbmOff w 1 + 1 * (z 1).val) % 64 = 0 + 1 * (z 1).val
  rw [v1]; omega

abbrev Refs.outCredit : ℕ := sig.dmaCredit .tc (Kind.table .tc .hbm) R.out.view.buf S64x5120 .bf16
/-- What a chunk's copy gives back: its slot, and its part of the result. -/
abbrev Sent (d : Dev nD) (n : ℕ) : sProp (MT nD τ sig Unit (Elt F) ℕ U ℕ) :=
  iprop(Any d R.outs (outRows n) ∗ Own d R.out (chunkSet n) fullShare (X.resAt T))
/-- A chunk on its way to the result. -/
abbrev OutFlight (d : Dev nD) (n j : ℕ) : sProp (MT nD τ sig Unit (Elt F) ℕ U ℕ) :=
  Transfers.Batch EC (d : Thread nD τ) (.dma (R.outSemN n)) () R.outCredit (fun _ : Fin 1 => Sent R X T d n) j 0
/-- An output slot free. -/
abbrev OutFree (d : Dev nD) (n : ℕ) : sProp (MT nD τ sig Unit (Elt F) ℕ U ℕ) :=
  iprop(Any d R.outs (outRows n) ∗ semVal ((d : Thread nD τ), SemLoc.dma (R.outSemN n)) 0)
theorem outFree_add (n : ℕ) : (OutFree R d (n + 2) : sProp (MT nD τ sig Unit (Elt F) ℕ U ℕ)) = OutFree R d n := by
  unfold OutFree; rw [outRows_add, outSemN_add]

theorem wp_waitOut (w : BitVec 32) (hw : w.toNat < 32) (K : P F α) (hN : 0 < R.outCredit) :
    iprop(OutFlight EC R X T d w.toNat 1 ∗ Ows d)
      ⊢ iprop((iprop(OutFree R d w.toNat ∗ Own d R.out (chunkSet w.toNat) fullShare (X.resAt T) ∗ Ows d) -∗ Wp defs 𝒱 bd d K Q) -∗ Wp defs 𝒱 bd d (waitOut R w hw K) Q) := by
  unfold waitOut OutFree OutFlight
  rw [← outSem_eq R w hw]
  iintro ⟨HB, ⟨%W, HO⟩⟩ Hk
  iapply (Transfers.wp_waitBatchAll EC 𝒱 (d : Thread nD τ) bd () (show (R.outHbm w hw).view.dmaCredit = R.outCredit from rfl) hN
    (D := (fun _ : Fin 1 => Sent R X T d w.toNat)) (u := 0) (by rw [Nat.zero_add, Nat.mul_one])) $$ [HB HO]
  · isplitl [HB]; · iexact HB
    iexact HO
  iintro ⟨HD, Hv, HO⟩
  ihave HD' := (one_out (fun _ : Fin 1 => (Sent R X T d w.toNat : sProp (MT nD τ sig Unit (Elt F) ℕ U ℕ)))) $$ HD
  icases HD' with ⟨HD', Hres⟩
  iapply Hk
  isplitl [HD' Hv]
  · isplitl [HD']
    · iexact HD'
    iexact Hv
  isplitl [Hres]; · iexact Hres
  iexists _; iexact HO

theorem wp_startOut (w : BitVec 32) (hw : w.toNat < 32) (K : P F α) :
    iprop(iprop(Own d R.outs (outRows w.toNat) fullShare (X.outsAt T w.toNat) ∗ semVal ((d : Thread nD τ), SemLoc.dma (R.outSemN w.toNat)) 0) ∗ Any d R.out (todo w.toNat))
      ⊢ iprop((iprop(OutFlight EC R X T d w.toNat 1 ∗ Any d R.out (todo (w.toNat + 1))) -∗ Wp defs 𝒱 bd d K Q) -∗ Wp defs 𝒱 bd d (startOut R w hw K) Q) := by
  have hsub : (Rect.unit (s := S2x1024x5120) (hbmOff w) S1x64x5120.size (hbmOff_inb w hw)).set ⊆ todo w.toNat := fun y hy => by
    rw [mem_todo, (hbm_mem w hw y).1 hy]
  have hrest : todo w.toNat \ (Rect.unit (s := S2x1024x5120) (hbmOff w) S1x64x5120.size (hbmOff_inb w hw)).set = todo (w.toNat + 1) := by
    ext y; rw [Finset.mem_sdiff, mem_todo, hbm_mem w hw, mem_todo]; omega
  unfold startOut OutFlight Sent
  rw [← outSem_eq R w hw, ← outSlot_set w hw, ← hbm_set w hw]
  iintro ⟨⟨Hs, Hv⟩, Ho⟩ Hk
  ihave Ho' := (any_split hsub) $$ Ho
  icases Ho' with ⟨Hd, Ho⟩
  rw [hrest]
  ihave Hs' := (view_in (hr := fun _ => rfl) (h := squeezes_S1x64x5120_S64x5120)) $$ Hs
  ihave Hd' := (any_view_in (hr := fun _ => rfl) (h := squeezes_S1x64x5120_S64x5120)) $$ Hd
  iapply fupd_wp
  imod (Transfers.batch_alloc' EC (d : Thread nD τ) () R.outCredit (fun _ : Fin 1 => iprop(Any d R.outs (Rect.unit (s := S2x64x5120) (outOff3 w 0) S1x64x5120.size (outOff3_inb w hw)).set
      ∗ Own d R.out (Rect.unit (s := S2x1024x5120) (hbmOff w) S1x64x5120.size (hbmOff_inb w hw)).set fullShare (X.resAt T)))
    (sm := .dma (R.outSem w hw)) (E := Set.univ)) $$ Hv with HB
  imodintro
  have hD : iprop(Own d (R.outSlot w hw) Finset.univ fullShare (fun x => X.outsAt T w.toNat ((Rect.unit (s := S2x64x5120) (outOff3 w 0) S1x64x5120.size (outOff3_inb w hw)).emb (Shape.reshapeEquiv squeezes_S1x64x5120_S64x5120.numel_eq x)))
        ∗ Own d (R.outHbm w hw) Finset.univ fullShare (fun x => X.outsAt T w.toNat ((Rect.unit (s := S2x64x5120) (outOff3 w 0) S1x64x5120.size (outOff3_inb w hw)).emb (Shape.reshapeEquiv squeezes_S1x64x5120_S64x5120.numel_eq x))))
      ⊢ (fun _ : Fin 1 => (iprop(Any d R.outs (Rect.unit (s := S2x64x5120) (outOff3 w 0) S1x64x5120.size (outOff3_inb w hw)).set
        ∗ Own d R.out (Rect.unit (s := S2x1024x5120) (hbmOff w) S1x64x5120.size (hbmOff_inb w hw)).set fullShare (X.resAt T)) : sProp (MT nD τ sig Unit (Elt F) ℕ U ℕ))) ⟨0, Nat.one_pos⟩ := by
    iintro ⟨H1, H2⟩
    isplitl [H1]
    · iapply any_view_out
      iexact H1
    · iapply (view_out (X.resAt T) (res_val X T w hw))
      iexact H2
  unfold Any
  icases Hd' with ⟨%gd, Hd⟩
  iapply (own_dma EC (D := fun _ : Fin 1 => iprop(Any d R.outs (Rect.unit (s := S2x64x5120) (outOff3 w 0) S1x64x5120.size (outOff3_inb w hw)).set
      ∗ Own d R.out (Rect.unit (s := S2x1024x5120) (hbmOff w) S1x64x5120.size (hbmOff_inb w hw)).set fullShare (X.resAt T))) R.outCredit rfl Nat.one_pos (Nat.zero_le _) hD) $$ [Hs' Hd HB]
  · isplitl [Hs']; · iexact Hs'
    isplitl [Hd]; · iexact Hd
    iexact HB
  iintro HB
  iapply Hk
  isplitl [HB]; · iexact HB
  iexact Ho

end Cert.KernelIdeal.Lookup
-- ==== Proof.Ideal.Step.lean ====
/-
  One step: a chunk computed while the one ten ahead is fetched.
-/
module
public import proofs.«01_k».proof.Proof.Ideal.Outs
@[expose] public section
noncomputable section
namespace Cert.KernelIdeal.Lookup
open Cert.KernelIdeal Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

variable (T : S16000x128.Idx → Elt F .i32)
/-- A chunk's code words in its slot of the ring. -/
abbrev Slot (d : Dev nD) (n : ℕ) : sProp (MT nD τ sig Unit (Elt F) ℕ U ℕ) := Own d R.ring (ringRows n 0 64) fullShare (X.ringAt n)
/-- The shifts of chunk `n`. -/
abbrev Shift (d : Dev nD) (n : ℕ) : sProp (MT nD τ sig Unit (Elt F) ℕ U ℕ) := Own d R.shift Finset.univ fullShare (X.shiftAt T n)
/-- The scales while chunk `n` is computed: of the chunk after it in the blocks before `j`, its own from there. -/
def Inp.mixAt (n j : ℕ) : S20x64x128.Idx → Elt F .f32 := fun y => if (y 0).val < j then X.scaleAt T (min (n + 1) 31) y else X.scaleAt T n y
abbrev Mix (d : Dev nD) (n j : ℕ) : sProp (MT nD τ sig Unit (Elt F) ℕ U ℕ) := Own d R.scale Finset.univ fullShare (X.mixAt T n j)
/-- An output slot with the blocks before `j` of chunk `n`. -/
abbrev Fore (d : Dev nD) (n j : ℕ) : sProp (MT nD τ sig Unit (Elt F) ℕ U ℕ) := Part d R.outs (outRows n) (fun y => (y 2).val < 256 * j) (X.outsAt T n)

theorem wp_loadUnit (q : Fin 2) (mx : Mxu F) (K : Mxu F → P F α) (h : mx.PushOk q 0 false) :
    (Own d R.perm Finset.univ fullShare permVal : sProp (MT nD τ sig Unit (Elt F) ℕ U ℕ))
      ⊢ iprop((Own d R.perm Finset.univ fullShare permVal
          -∗ Wp defs 𝒱 bd d (K ((((mx.pushed q 0 false (φ := .bf16) permVal).pop q 0 64 fits_0_64).accLhs q 0 0 zeroLhs fits_0_64).pop q 0 64 fits_0_64)) Q)
        -∗ Wp defs 𝒱 bd d (loadUnit R q mx K) Q) := by
  have hv : (fun x => (permVal : FVec F S256x256 .bf16) ((Rect.unit (s := S256x256) ![0, 0] S256x256.size inb_S256x256_S256x256_0_0).emb x)) = permVal := by
    funext x
    congr 1
    funext a; fin_cases a
    · exact Fin.ext (show 0 + 1 * (x 0).val = (x 0).val by omega)
    · exact Fin.ext (show 0 + 1 * (x 1).val = (x 1).val by omega)
  unfold loadUnit
  iintro H Hk
  iapply (own_load (Finset.subset_univ _)) $$ H
  iintro H
  rw [hv]
  iapply (Mxu.wp_pushRhs (c := (d : Thread nD τ)) permVal h)
  iapply Hk
  iexact H

theorem lhs_val (w : BitVec 32) (hw : w.toNat < 32) (j : ℕ) (hj : j < 20) :
    lhsOf (shapeCast S64x128 (fun x => X.ringAt w.toNat ((Rect.unit (s := S11x64x2560) (slotOff3 w (128 * j)) S1x64x128.size (slotOff3b_inb w hw j hj)).emb x) : Vec F S1x64x128 .i32) shapeCasts_S1x64x128_S64x128)
      (fun x => X.shiftAt T w.toNat ((Rect.unit (s := S64x128) ![0, 0] S64x128.size inb_S64x128_S64x128_0_0).emb x))
      (shapeCast S64x128 (fun x => X.mixAt T w.toNat j ((Rect.unit (s := S20x64x128) ![j, 0, 0] S1x64x128.size (scale_inb j hj)).emb x) : Vec F S1x64x128 .f32) shapeCasts_S1x64x128_S64x128)
      = X.lhsAt T w.toNat j := by
  unfold Inp.lhsAt
  have e1 : (shapeCast S64x128 (fun x => X.ringAt w.toNat ((Rect.unit (s := S11x64x2560) (slotOff3 w (128 * j)) S1x64x128.size (slotOff3b_inb w hw j hj)).emb x) : Vec F S1x64x128 .i32) shapeCasts_S1x64x128_S64x128 : IVec S64x128 32)
      = fun y => X.word w.toNat (y 0).val (128 * j + (y 1).val) := by
    funext y
    refine ((congrArg _ (eq_ix2 y)).trans (shapeCast_1ab_ab_apply (a := 64) (b := 128) _ shapeCasts_S1x64x128_S64x128 (y 0) (y 1))).trans ?_
    exact congrArg₂ (X.word w.toNat) (show 0 + 1 * (y 0).val = (y 0).val by omega) (show 128 * j + 1 * (y 1).val = 128 * j + (y 1).val by omega)
  have e2 : (fun x => X.shiftAt T w.toNat ((Rect.unit (s := S64x128) ![0, 0] S64x128.size inb_S64x128_S64x128_0_0).emb x)) = X.shiftAt T w.toNat := by
    funext x
    congr 1
    funext a; fin_cases a
    · exact Fin.ext (show 0 + 1 * (x 0).val = (x 0).val by omega)
    · exact Fin.ext (show 0 + 1 * (x 1).val = (x 1).val by omega)
  have e3 : (shapeCast S64x128 (fun x => X.mixAt T w.toNat j ((Rect.unit (s := S20x64x128) ![j, 0, 0] S1x64x128.size (scale_inb j hj)).emb x) : Vec F S1x64x128 .f32) shapeCasts_S1x64x128_S64x128 : FVec F S64x128 .f32)
      = fun y => at3 (X.scaleAt T w.toNat) j (y 0).val (y 1).val := by
    funext y
    refine ((congrArg _ (eq_ix2 y)).trans (shapeCast_1ab_ab_apply (a := 64) (b := 128) _ shapeCasts_S1x64x128_S64x128 (y 0) (y 1))).trans ?_
    refine Eq.trans (if_neg (show ¬ (j + 1 * 0 < j) by omega)) ?_
    refine (at3_val (a := 20) (b := 64) (c := 128) (X.scaleAt T w.toNat) _).symm.trans ?_
    exact congr (congrArg₂ (at3 (X.scaleAt T w.toNat)) (show j + 1 * 0 = j by omega) (show 0 + 1 * (y 0).val = (y 0).val by omega)) (show 0 + 1 * (y 1).val = (y 1).val by omega)
  exact congr (congrArg₂ lhsOf e1 e2) e3

theorem wp_dequant (w : BitVec 32) (hw : w.toNat < 32) (j : ℕ) (hj : j < 20) {p : ℕ} (hp : p ≤ j) {mx : Mxu F} (hm : MxOk (X.prodAt T w.toNat) p j mx) (K : Mxu F → P F α) :
    iprop(Slot R X d w.toNat ∗ Shift R X T d w.toNat ∗ Mix R X T d w.toNat j)
      ⊢ (iprop((∀ mx', ⌜MxOk (X.prodAt T w.toNat) p (j + 1) mx'⌝ -∗ iprop(Slot R X d w.toNat ∗ Shift R X T d w.toNat ∗ Mix R X T d w.toNat j) -∗ Wp defs 𝒱 bd d (K mx') Q)
        -∗ Wp defs 𝒱 bd d (dequant R w hw j hj mx K) Q) : sProp (MT nD τ sig Unit (Elt F) ℕ U ℕ)) := by
  have hs := slot_val w hw
  have hsub : (Rect.unit (s := S11x64x2560) (slotOff3 w (128 * j)) S1x64x128.size (slotOff3b_inb w hw j hj)).set ⊆ ringRows w.toNat 0 64 := fun y hy => by
    have h0 : (Scalar.remsi w 11#32).toNat ≤ (y 0).val ∧ (y 0).val < (Scalar.remsi w 11#32).toNat + 1 := (Rect.mem_set_unit.1 hy) 0
    have h1 : (y 1).val < 64 := (y 1).isLt
    rw [mem_ringRows]; omega
  unfold dequant
  iintro ⟨H1, H2, H3⟩ Hk
  iapply (own_load hsub) $$ H1
  iintro H1
  iapply (own_load (Finset.subset_univ _)) $$ H2
  iintro H2
  iapply (own_load (Finset.subset_univ _)) $$ H3
  iintro H3
  iapply (Mxu.wp_accLhsLoaded (c := (d : Thread nD τ)) _ _ (hm.gmr _))
  iapply Hk
  · ipureintro
    refine hm.accBy hp hj _ ?_
    exact congrArg (Mxu.Staged.pass _) (lhs_val X T w hw j hj)
  isplitl [H1]; · iexact H1
  isplitl [H2]; · iexact H2
  iexact H3

theorem wp_readOut (w : BitVec 32) (hw : w.toNat < 32) (j : ℕ) (hj : j < 20) {p : ℕ} (hjp : j < p) {mx : Mxu F} (hm : MxOk (X.prodAt T w.toNat) j p mx) (K : Mxu F → P F α) :
    (Fore R X T d w.toNat j : sProp (MT nD τ sig Unit (Elt F) ℕ U ℕ))
      ⊢ iprop((∀ mx', ⌜MxOk (X.prodAt T w.toNat) (j + 1) p mx'⌝ -∗ Fore R X T d w.toNat (j + 1) -∗ Wp defs 𝒱 bd d (K mx') Q)
        -∗ Wp defs 𝒱 bd d (readOut R w hw j hj mx K) Q) := by
  have hs := par_val w hw
  have hsub : (Rect.unit (s := S2x64x5120) (outOff3 w (256 * j)) S1x64x256.size (outOff3b_inb w hw j hj)).set ⊆ outRows w.toNat := fun y hy => by
    have h0 : (Scalar.remsi w 2#32).toNat ≤ (y 0).val ∧ (y 0).val < (Scalar.remsi w 2#32).toNat + 1 := (Rect.mem_set_unit.1 hy) 0
    rw [mem_outRows]; omega
  have hin : ∀ x : S1x64x256.Idx, (X.outsAt T w.toNat : S2x64x5120.Idx → Elt F .bf16) ((Rect.unit (s := S2x64x5120) (outOff3 w (256 * j)) S1x64x256.size (outOff3b_inb w hw j hj)).emb x)
      = (shapeCast S1x64x256 (truncf .bf16 (mx.read (unitOf j) (16 * (j / 2)) (accFits j hj)) bitsLt_bf16_f32 : FVec F S64x256 .bf16) shapeCasts_S64x256_S1x64x256 : S1x64x256.Idx → Elt F .bf16) x := by
    intro x
    have h2 : (x 2).val < 256 := (x 2).isLt
    have e1 : ((Rect.unit (s := S2x64x5120) (outOff3 w (256 * j)) S1x64x256.size (outOff3b_inb w hw j hj)).emb x 1).val = (x 1).val := by
      show 0 + 1 * (x 1).val = _; omega
    have e2 : ((Rect.unit (s := S2x64x5120) (outOff3 w (256 * j)) S1x64x256.size (outOff3b_inb w hw j hj)).emb x 2).val = 256 * j + (x 2).val := by
      show 256 * j + 1 * (x 2).val = _; omega
    unfold Inp.outsAt
    rw [e1, e2, show (256 * j + (x 2).val) / 256 = j by omega, show (256 * j + (x 2).val) % 256 = (x 2).val by omega, hm.acc j hj (Nat.le_refl _) hjp]
    refine (at2_val (a := 64) (b := 256) (X.blockAt T w.toNat j) (ix2 (x 1) (x 2))).trans ?_
    exact ((congrArg _ (eq_ix3 x)).trans (shapeCast_ab_1ab_apply (a := 64) (b := 256) (X.blockAt T w.toNat j) shapeCasts_S64x256_S1x64x256 (x 0) (x 1) (x 2))).symm
  have hout : ∀ y ∈ outRows w.toNat, y ∉ (Rect.unit (s := S2x64x5120) (outOff3 w (256 * j)) S1x64x256.size (outOff3b_inb w hw j hj)).set →
      (y 2).val < 256 * (j + 1) → (y 2).val < 256 * j ∧ X.outsAt T w.toNat y = X.outsAt T w.toNat y := by
    intro y hy0 hy hp
    refine ⟨?_, rfl⟩
    rw [mem_outRows] at hy0
    by_contra hc
    refine hy (mem_unit.2 fun a => ?_)
    match a with
    | ⟨0, _⟩ => exact ⟨show (Scalar.remsi w 2#32).toNat ≤ (y 0).val by omega, show (y 0).val < (Scalar.remsi w 2#32).toNat + 1 by omega⟩
    | ⟨1, _⟩ => exact ⟨Nat.zero_le _, show (y 1).val < 0 + 64 by have : (y 1).val < 64 := (y 1).isLt; omega⟩
    | ⟨2, _⟩ => exact ⟨show 256 * j ≤ (y 2).val by omega, show (y 2).val < 256 * j + 256 by omega⟩
  unfold readOut
  iintro H Hk
  iapply (part_skip hsub) $$ H
  iintro H
  iapply (part_store (Val := Elt F) (m := R.outs) (fun y => (y 2).val < 256 * (j + 1)) (X.outsAt T w.toNat : S2x64x5120.Idx → Elt F .bf16) hsub hin hout) $$ H
  iintro H
  iapply Hk
  · ipureintro; exact hm.pop hj
  iexact H

/-- What a step's own fetch needs and keeps: the ids, the code words, and its progress `Fe j` before block `j`. -/
def FetchOk (d : Dev nD) (defs : Defs nD τ sig (Elt F) Λ₀) (𝒱 : Variants) (bd : Option 𝒱.V) (Q : α → sProp (MT nD τ sig Unit (Elt F) ℕ U ℕ))
    (fe : Fetcher F α) (Fe : ℕ → sProp (MT nD τ sig Unit (Elt F) ℕ U ℕ)) : Prop :=
  ∀ (j : ℕ) (hj : j < 20) (K : P F α), iprop(Ids R X d ∗ wordsAt R X d ∗ Fe j)
    ⊢ iprop((iprop(Ids R X d ∗ wordsAt R X d ∗ Fe (j + 1)) -∗ Wp defs 𝒱 bd d K Q) -∗ Wp defs 𝒱 bd d (fe j hj K) Q)

variable {fe : Fetcher F α} {Fe : ℕ → sProp (MT nD τ sig Unit (Elt F) ℕ U ℕ)}
/-- What the blocks that are filled need, before block `j`. -/
abbrev Fill (Fe : ℕ → sProp (MT nD τ sig Unit (Elt F) ℕ U ℕ)) (d : Dev nD) (n j : ℕ) : sProp (MT nD τ sig Unit (Elt F) ℕ U ℕ) :=
  iprop(iprop(Ids R X d ∗ wordsAt R X d ∗ Fe j) ∗ iprop(Slot R X d n ∗ Shift R X T d n ∗ Mix R X T d n j))

theorem wp_fillBlock (hfe : FetchOk R X d defs 𝒱 bd Q fe Fe) (w : BitVec 32) (hw : w.toNat < 32) (p0 p1 : ℕ → FVec F S8x128 .f32) (hpp : PartsOk X T (min (w.toNat + 1) 31) p0 p1) (j : ℕ) (hj : j < 20)
    {p : ℕ} (hp : p ≤ j) {mx : Mxu F} (hm : MxOk (X.prodAt T w.toNat) p j mx) (K : Mxu F → P F α) :
    Fill R X T Fe d w.toNat j
      ⊢ iprop((∀ mx', ⌜MxOk (X.prodAt T w.toNat) p (j + 1) mx'⌝ -∗ Fill R X T Fe d w.toNat (j + 1) -∗ Wp defs 𝒱 bd d (K mx') Q)
        -∗ Wp defs 𝒱 bd d (fillBlock R fe w hw p0 p1 j hj mx K) Q) := by
  unfold fillBlock
  iintro ⟨H, H'⟩ Hk
  iapply (hfe j hj _) $$ H
  iintro H
  have h1 : ∀ y ∈ (Finset.univ : Finset S20x64x128.Idx), ((y 0).val ≠ j ∨ ((y 0).val = j ∧ (y 1).val < 8 * 0)) → True ∧ X.mixAt T w.toNat j y = X.mixAt T w.toNat (j + 1) y := by
    intro y _ hy
    refine ⟨trivial, ?_⟩
    unfold Inp.mixAt
    by_cases h : (y 0).val < j
    · rw [if_pos h, if_pos (by omega)]
    · rw [if_neg h, if_neg (by omega)]
  have h2 : ∀ y ∈ (Finset.univ : Finset S20x64x128.Idx), (y 0).val ≠ j ∨ ((y 0).val = j ∧ (y 1).val < 8 * (0 + 8)) := fun y _ => by
    have : (y 1).val < 64 := (y 1).isLt
    omega
  have h3 : ∀ y : S20x64x128.Idx, (y 0).val = j → X.mixAt T w.toNat (j + 1) y
      = at2 (spreadVal j (p0 ((y 1).val / 8)) (p1 ((y 1).val / 8)) : FVec F S8x128 .f32) ((y 1).val % 8) (y 2).val := fun y hy =>
    (if_pos (show (y 0).val < j + 1 by omega)).trans (scale_spread X T hpp y hy)
  iapply (wp_dequant R X T w hw j hj hp hm _) $$ H'
  iintro %mx' %hm' ⟨H1, H2, H3⟩
  ihave H3 := (part_of_own (P := fun _ => True)) $$ H3
  ihave H3 := (part_congr h1) $$ H3
  iapply (wp_spreadGroups R (fun y => (y 0).val ≠ j) (X.mixAt T w.toNat (j + 1)) j hj p0 p1 _ h3 8 0 _) $$ H3
  iintro H3
  ihave H3 := (own_of_part h2) $$ H3
  iapply Hk
  · ipureintro; exact hm'
  isplitl [H]; · iexact H
  isplitl [H1]; · iexact H1
  isplitl [H2]; · iexact H2
  iexact H3

theorem wp_blocksA (hfe : FetchOk R X d defs 𝒱 bd Q fe Fe) (w : BitVec 32) (hw : w.toNat < 32) (p0 p1 : ℕ → FVec F S8x128 .f32) (hpp : PartsOk X T (min (w.toNat + 1) 31) p0 p1) (K : Mxu F → P F α) :
    ∀ (n j : ℕ) (h : j + n ≤ 4) (mx : Mxu F) (_ : MxOk (X.prodAt T w.toNat) 0 j mx), Fill R X T Fe d w.toNat j
      ⊢ iprop((∀ mx', ⌜MxOk (X.prodAt T w.toNat) 0 (j + n) mx'⌝ -∗ Fill R X T Fe d w.toNat (j + n) -∗ Wp defs 𝒱 bd d (K mx') Q)
        -∗ Wp defs 𝒱 bd d (blocksA R fe w hw p0 p1 K n j h mx) Q)
  | 0, j, h, mx, hm => by
    unfold blocksA
    iintro H Hk
    iapply Hk
    · ipureintro; exact hm
    iexact H
  | n + 1, j, h, mx, hm => by
    have e : j + (n + 1) = j + 1 + n := by omega
    rw [e]
    unfold blocksA
    iintro H Hk
    iapply (wp_fillBlock R X T hfe w hw p0 p1 hpp j _ (Nat.zero_le _) hm _) $$ H
    iintro %mx' %hm' H
    iapply (wp_blocksA hfe w hw p0 p1 hpp K n (j + 1) _ mx' hm') $$ H
    iexact Hk

theorem wp_blocksB (hfe : FetchOk R X d defs 𝒱 bd Q fe Fe) (w : BitVec 32) (hw : w.toNat < 32) (p0 p1 : ℕ → FVec F S8x128 .f32) (hpp : PartsOk X T (min (w.toNat + 1) 31) p0 p1) (K : Mxu F → P F α) :
    ∀ (n j : ℕ) (h : j + n ≤ 16) (mx : Mxu F) (_ : MxOk (X.prodAt T w.toNat) j (j + 4) mx), iprop(Fill R X T Fe d w.toNat (j + 4) ∗ Fore R X T d w.toNat j)
      ⊢ iprop((∀ mx', ⌜MxOk (X.prodAt T w.toNat) (j + n) (j + n + 4) mx'⌝ -∗ iprop(Fill R X T Fe d w.toNat (j + n + 4) ∗ Fore R X T d w.toNat (j + n)) -∗ Wp defs 𝒱 bd d (K mx') Q)
        -∗ Wp defs 𝒱 bd d (blocksB R fe w hw p0 p1 K n j h mx) Q)
  | 0, j, h, mx, hm => by
    unfold blocksB
    iintro H Hk
    iapply Hk
    · ipureintro; exact hm
    iexact H
  | n + 1, j, h, mx, hm => by
    have e : j + (n + 1) = j + 1 + n := by omega
    rw [e]
    have e2 : j + 4 + 1 = j + 1 + 4 := by omega
    unfold blocksB
    iintro ⟨H, Ho⟩ Hk
    iapply (wp_fillBlock R X T hfe w hw p0 p1 hpp (j + 4) _ (show j ≤ j + 4 by omega) hm _) $$ H
    iintro %mx' %hm' H
    rw [e2] at hm' ⊢
    iapply (wp_readOut R X T w hw j _ (by omega) hm' _) $$ Ho
    iintro %mx2 %hm2 Ho
    iapply (wp_blocksB hfe w hw p0 p1 hpp K n (j + 1) _ mx2 hm2) $$ [H Ho]
    · isplitl [H]; · iexact H
      iexact Ho
    iexact Hk

theorem wp_blocksC (w : BitVec 32) (hw : w.toNat < 32) (K : Mxu F → P F α) :
    ∀ (n j : ℕ) (h : j + n ≤ 20) (mx : Mxu F) (_ : MxOk (X.prodAt T w.toNat) j 20 mx), (Fore R X T d w.toNat j : sProp (MT nD τ sig Unit (Elt F) ℕ U ℕ))
      ⊢ iprop((∀ mx', ⌜MxOk (X.prodAt T w.toNat) (j + n) 20 mx'⌝ -∗ Fore R X T d w.toNat (j + n) -∗ Wp defs 𝒱 bd d (K mx') Q)
        -∗ Wp defs 𝒱 bd d (blocksC R w hw K n j h mx) Q)
  | 0, j, h, mx, hm => by
    unfold blocksC
    iintro H Hk
    iapply Hk
    · ipureintro; exact hm
    iexact H
  | n + 1, j, h, mx, hm => by
    have e : j + (n + 1) = j + 1 + n := by omega
    rw [e]
    unfold blocksC
    iintro H Hk
    iapply (wp_readOut R X T w hw j _ (by omega) hm _) $$ H
    iintro %mx' %hm' H
    iapply (wp_blocksC w hw K n (j + 1) _ mx' hm') $$ H
    iexact Hk

/-- The state of the slot of chunk `i`'s parity before step `i` or `i - 1`: the copy started two steps before under way, if there was one. -/
def OutCell (d : Dev nD) (i : ℕ) : sProp (MT nD τ sig Unit (Elt F) ℕ U ℕ) :=
  if 2 ≤ i ∧ i < 34 then OutFlight EC R X T d (i - 2) 1 else OutFree R d i

/-- The buffers a step uses, at any contents. -/
abbrev Bufs (d : Dev nD) : sProp (MT nD τ sig Unit (Elt F) ℕ U ℕ) :=
  iprop(All d R.table ∗ All d R.rows ∗ All d R.scale ∗ All d R.shift)
/-- The buffers a step uses, before step `n`: the table, and chunk `n`'s scales and shifts. -/
abbrev Held (d : Dev nD) (n : ℕ) : sProp (MT nD τ sig Unit (Elt F) ℕ U ℕ) :=
  iprop(Tab R T d ∗ All d R.rows ∗ Own d R.scale Finset.univ fullShare (X.scaleAt T (min n 31)) ∗ Shift R X T d (min n 31))
/-- The chunks of the result copied out before step `n`. -/
abbrev Done (d : Dev nD) (n : ℕ) : sProp (MT nD τ sig Unit (Elt F) ℕ U ℕ) := Own d R.out (before (n - 2)) fullShare (X.resAt T)

theorem wp_done {a : α} : Q a ⊢ Wp defs 𝒱 bd d (.ret a) Q := by
  show _ ⊢ iprop(|={Set.univ}[Idealize.ShloMosaic.frame]=> Q a)
  iintro H
  imodintro
  iexact H

theorem wp_waitPrev (w : BitVec 32) (hw : w.toNat < 32) (K : P F α) (hN : 0 < R.outCredit) :
    iprop(OutCell EC R X T d w.toNat ∗ Done R X T d w.toNat ∗ Ows d)
      ⊢ iprop((iprop(OutFree R d w.toNat ∗ Done R X T d (w.toNat + 1) ∗ Ows d) -∗ Wp defs 𝒱 bd d K Q)
        -∗ Wp defs 𝒱 bd d ((if h : hasOut w = 1#1 then waitOut R (Scalar.subi w 2#32) (prev_lt w hw h) (.ret ⟨⟩) else (.ret ⟨⟩ : P F PUnit)) >>= fun _ => K) Q) := by
  by_cases h : hasOut w = 1#1
  · have h2 := (hasOut_iff w hw).1 h
    have hpv := prev_val w hw h2
    have e : w.toNat = (Scalar.subi w 2#32).toNat + 2 := by omega
    rw [dif_pos h]
    unfold OutCell
    rw [if_pos ⟨h2, by omega⟩, ← hpv]
    have e3 : (OutFree R d w.toNat : sProp (MT nD τ sig Unit (Elt F) ℕ U ℕ)) = OutFree R d (Scalar.subi w 2#32).toNat := by rw [e]; exact outFree_add R _
    rw [e3]
    iintro ⟨H1, H2, HO⟩ Hk
    iapply (wp_waitOut EC R X T (Scalar.subi w 2#32) (prev_lt w hw h) K hN) $$ [H1 HO]
    · isplitl [H1]; · iexact H1
      iexact HO
    iintro ⟨H1, H3, HO⟩
    iapply Hk
    isplitl [H1]; · iexact H1
    isplitl [H2 H3]
    · unfold Done
      rw [show w.toNat + 1 - 2 = w.toNat - 2 + 1 by omega, ← before_succ, hpv]
      iapply (own_join (before_disjoint _))
      isplitl [H2]; · iexact H2
      iexact H3
    iexact HO
  · have h2 : ¬ 2 ≤ w.toNat := fun h2 => h ((hasOut_iff w hw).2 h2)
    rw [dif_neg h]
    unfold OutCell
    unfold Done
    rw [if_neg (fun hc => h2 hc.1), show w.toNat + 1 - 2 = w.toNat - 2 by omega]
    iintro H Hk
    iapply Hk
    iexact H

theorem wp_step {Q : Mxu F → sProp (MT nD τ sig Unit (Elt F) ℕ U ℕ)} {fe : Fetcher F (Mxu F)} (hX : X.Ok) (hfe : FetchOk R X d defs 𝒱 bd Q fe Fe) (w : BitVec 32) (hw : w.toNat < 32) (mx : Mxu F) (hm : MxOk (X.prodAt T 0) 0 0 mx)
    (hN : 0 < R.rowCredit) (hc : sig.dmaCredit .tc (Kind.table .tc .vmem) R.ring.view.buf S64x2560 .i32 = 64 * R.rowCredit) (hN' : 0 < R.outCredit) :
    iprop(Ids R X d ∗ wordsAt R X d ∗ Fe 0 ∗ Held R X T d w.toNat ∗ Flight EC R X d w.toNat 64 0 ∗ OutCell EC R X T d w.toNat ∗ Any d R.out (todo w.toNat) ∗ Done R X T d w.toNat ∗ Ows d)
      ⊢ iprop((∀ mx', ⌜MxOk (X.prodAt T w.toNat) 20 20 mx'⌝ -∗ iprop(Ids R X d ∗ wordsAt R X d ∗ Fe 20 ∗ Held R X T d (w.toNat + 1) ∗ Free R d w.toNat ∗ OutCell EC R X T d (w.toNat + 2) ∗ Any d R.out (todo (w.toNat + 1)) ∗ Done R X T d (w.toNat + 1) ∗ Ows d) -∗ Q mx')
        -∗ Wp defs 𝒱 bd d (step R fe w hw mx) Q) := by
  have hmin : min w.toNat 31 = w.toNat := by omega
  have hbase : (Scalar.muli (next w) 64#32).toNat = 64 * min (w.toNat + 1) 31 := by rw [mul64 _ (next_lt w hw), next_val w hw]
  have hmix0 : X.mixAt T w.toNat 0 = X.scaleAt T w.toNat := by funext y; exact if_neg (Nat.not_lt_zero _)
  have hmix20 : X.mixAt T w.toNat 20 = X.scaleAt T (min (w.toNat + 1) 31) := by funext y; exact if_pos (y 0).isLt
  have hsh1 : ∀ y ∈ (Finset.univ : Finset S64x128.Idx), (y 0).val < 8 * (0 + 8) := fun y _ => (y 0).isLt
  have hou1 : ∀ y ∈ outRows w.toNat, (y 2).val < 256 * (16 + 4) := fun y _ => (y 2).isLt
  unfold step
  iintro ⟨Hid, Hwd, Hfe, ⟨Ht, Hr, Hsc, Hsh⟩, Hfl, Hoc, Ho, Hdn, HO⟩ Hk
  iapply (wp_waitSlot EC R X w hw _ hN hc) $$ [Hfl HO]
  · isplitl [Hfl]; · iexact Hfl
    iexact HO
  iintro ⟨⟨Hslot, Hsem⟩, HO⟩
  iapply (wp_waitPrev EC R X T w hw _ hN') $$ [Hoc Hdn HO]
  · isplitl [Hoc]; · iexact Hoc
    isplitl [Hdn]; · iexact Hdn
    iexact HO
  iintro ⟨⟨Hos, Hosem⟩, Hdn, HO⟩
  iapply (wp_narrow R X T hX (min (w.toNat + 1) 31) _ hbase _ _) $$ [Hid Ht Hr]
  · isplitl [Hid]; · iexact Hid
    isplitl [Ht]; · iexact Ht
    iexact Hr
  iintro %w0 %w1 %w2 %hws ⟨Hid, Ht, Hr⟩
  obtain ⟨hw0, hw1, hw2⟩ := hws
  have hpp := parts_ok X T hw0 hw1
  rw [hmin, ← hmix0]
  iapply (wp_blocksA R X T hfe w hw _ _ hpp _ 4 0 _ mx (hm.start 0 (X.prodAt T w.toNat))) $$ [Hid Hwd Hfe Hslot Hsh Hsc]
  · isplitl [Hid Hwd Hfe]
    · isplitl [Hid]; · iexact Hid
      isplitl [Hwd]; · iexact Hwd
      iexact Hfe
    isplitl [Hslot]; · iexact Hslot
    isplitl [Hsh]; · iexact Hsh
    iexact Hsc
  iintro %mx1 %hm1 Hfill
  ihave Hos := (part_of_any (P := fun y : S2x64x5120.Idx => (y 2).val < 256 * 0) (X.outsAt T w.toNat) (fun y _ => Nat.not_lt_zero _)) $$ Hos
  iapply (wp_blocksB R X T hfe w hw _ _ hpp _ 16 0 _ mx1 hm1) $$ [Hfill Hos]
  · isplitl [Hfill]; · iexact Hfill
    iexact Hos
  iintro %mx2 %hm2 ⟨⟨⟨Hid, Hwd, Hfe⟩, ⟨Hslot, Hsh, Hsc⟩⟩, Hos⟩
  iapply (wp_blocksC R X T w hw _ 4 16 _ mx2 hm2) $$ Hos
  iintro %mx3 %hm3 Hos
  ihave Hsh := any_of $$ Hsh
  ihave Hsh := (part_of_any (P := fun y : S64x128.Idx => (y 0).val < 8 * 0) (X.shiftAt T (min (w.toNat + 1) 31)) (fun y _ => Nat.not_lt_zero _)) $$ Hsh
  iapply (wp_storeShifts R X T (min (w.toNat + 1) 31) _ (fun i hi => congrArg shiftOf (hw2 i hi)) _ 8 0 _) $$ Hsh
  iintro Hsh
  ihave Hsh := (own_of_part hsh1) $$ Hsh
  ihave Hos := (own_of_part hou1) $$ Hos
  iapply (wp_startOut EC R X T w hw _) $$ [Hos Hosem Ho]
  · isplitl [Hos Hosem]
    · isplitl [Hos]; · iexact Hos
      iexact Hosem
    iexact Ho
  iintro ⟨Hof, Ho⟩
  iapply wp_done
  iapply Hk
  · ipureintro; exact hm3
  isplitl [Hid]; · iexact Hid
  isplitl [Hwd]; · iexact Hwd
  isplitl [Hfe]; · iexact Hfe
  isplitl [Ht Hr Hsc Hsh]
  · isplitl [Ht]; · iexact Ht
    isplitl [Hr]; · iexact Hr
    isplitl [Hsc]
    · rw [← hmix20]; iexact Hsc
    iexact Hsh
  isplitl [Hslot Hsem]
  · iapply (landed_free R X)
    isplitl [Hslot]; · iexact Hslot
    iexact Hsem
  isplitl [Hof]
  · unfold OutCell
    rw [if_pos ⟨by omega, by omega⟩, Nat.add_sub_cancel]
    iexact Hof
  isplitl [Ho]; · iexact Ho
  isplitl [Hdn]; · iexact Hdn
  iexact HO

theorem wp_fill_to (hX : X.Ok) (w : BitVec 32) (hw : w.toNat < 32) (K : P F α) (n r m : ℕ) (e : r + n = m) (h : r + n ≤ 64) :
    iprop(Ids R X d ∗ wordsAt R X d ∗ Filling EC R X d w.toNat r)
      ⊢ iprop((iprop(Ids R X d ∗ wordsAt R X d ∗ Filling EC R X d w.toNat m) -∗ Wp defs 𝒱 bd d K Q) -∗ Wp defs 𝒱 bd d (fetchRows R w hw K n r h) Q) := by
  subst e; exact wp_filling EC R X hX w hw K n r h

theorem fetchNone_ok {Fe : sProp (MT nD τ sig Unit (Elt F) ℕ U ℕ)} : FetchOk R X d defs 𝒱 bd Q (fetchNone (F := F)) (fun _ => Fe) := by
  intro j hj K
  unfold fetchNone
  iintro H Hk
  iapply Hk
  iexact H

theorem fetchAhead_ok (hX : X.Ok) (w : BitVec 32) (hw : w.toNat < 32) :
    FetchOk R X d defs 𝒱 bd Q (fetchAhead R w hw) (fun j => Filling EC R X d w.toNat (64 * j / 20)) := by
  intro j hj K
  unfold fetchAhead
  have e : 64 * (j + 1) / 20 = 64 * j / 20 + (64 * (j + 1) / 20 - 64 * j / 20) := by omega
  exact wp_fill_to EC R X hX w hw K _ _ _ e.symm _

end Cert.KernelIdeal.Lookup
-- ==== Proof.Ideal.Ids.lean ====
module
public import proofs.«01_k».proof.Proof.Ideal.Step
@[expose] public section
noncomputable section
namespace Cert.KernelIdeal.Lookup
open Cert.KernelIdeal Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

/-- The words of the copied ids from strip `a` to strip `b`, 128 to a strip. -/
def idStrip (a b : ℕ) : Finset S2048.Idx := Finset.univ.filter fun y => 128 * a ≤ (y 0).val ∧ (y 0).val < 128 * b
theorem mem_idStrip {a b : ℕ} {y : S2048.Idx} : y ∈ idStrip a b ↔ 128 * a ≤ (y 0).val ∧ (y 0).val < 128 * b := by
  unfold idStrip; rw [Finset.mem_filter]; exact ⟨fun h => h.2, fun h => ⟨Finset.mem_univ _, h⟩⟩
theorem idStrip_all : idStrip 0 16 = Finset.univ := by
  ext y; rw [mem_idStrip]
  have h : (y 0).val < 2048 := (y 0).isLt
  exact ⟨fun _ => Finset.mem_univ y, fun _ => by omega⟩
theorem idStrip_union : (Finset.univ : Finset (Fin 16)).biUnion (fun t => idStrip t.val (t.val + 1)) = Finset.univ := by
  ext y
  have h : (y 0).val < 2048 := (y 0).isLt
  refine ⟨fun _ => Finset.mem_univ y, fun _ => Finset.mem_biUnion.2 ⟨⟨(y 0).val / 128, by omega⟩, Finset.mem_univ _, mem_idStrip.2 ?_⟩⟩
  constructor
  · show 128 * ((y 0).val / 128) ≤ _; omega
  · show _ < 128 * ((y 0).val / 128 + 1); omega
theorem idDst_set (r : ℕ) (hr : r < 16) : (Rect.unit (s := S2048) ![128 * r] S128.size (idDst_inb r hr)).set = idStrip r (r + 1) := by
  ext y
  rw [mem_idStrip, Rect.mem_set_unit]
  constructor
  · intro h
    have h0 : 128 * r ≤ (y 0).val ∧ (y 0).val < 128 * r + 128 := h 0
    omega
  · intro h a
    obtain rfl : a = 0 := Subsingleton.elim _ _
    exact (show 128 * r ≤ (y 0).val ∧ (y 0).val < 128 * r + 128 by omega)

/-- The ids of one strip. -/
def Inp.strip (r : ℕ) : S128.Idx → Elt F .i32 := fun x => X.id (128 * r + (x 0).val)

theorem reshape_row {a : ℕ} (h : (⟨1, ![a]⟩ : Shape).numel = (⟨2, ![1, a]⟩ : Shape).numel) (x : Fin a) :
    Shape.reshapeEquiv h (ix1 x) = ix2 (⟨0, Nat.one_pos⟩ : Fin 1) x :=
  Shape.reshapeEquiv_eq_of_rowMajor h (by
    rw [Shape.rowMajor_val_two, Shape.rowMajor_val_one]
    show 0 * a + x.val = x.val
    omega)
theorem idSrc_val (r : ℕ) (hr : r < 16) (x : S128.Idx) :
    X.ids ((Rect.unit (s := S2x1024) ![r % 2, 128 * (r / 2)] S1x128.size (idSrc_inb r hr)).emb (Shape.reshapeEquiv squeezes_S1x128_S128.numel_eq x))
      = X.strip r x := by
  have hx : (x 0).val < 128 := (x 0).isLt
  have e : Shape.reshapeEquiv squeezes_S1x128_S128.numel_eq x = ix2 (⟨0, Nat.one_pos⟩ : Fin 1) (x 0) := by
    conv_lhs => rw [eq_ix1 x]
    exact reshape_row _ _
  rw [e]
  refine (at2_val (a := 2) (b := 1024) X.ids _).symm.trans ?_
  unfold Inp.strip Inp.id
  refine congrArg₂ (at2 X.ids) ?_ ?_
  · show r % 2 + 1 * 0 = (128 * r + (x 0).val) / 128 % 2
    omega
  · show 128 * (r / 2) + 1 * (x 0).val = 128 * ((128 * r + (x 0).val) / 256) + (128 * r + (x 0).val) % 128
    omega

theorem idSrc_in {q : PosShare TreeShare} (r : ℕ) (hr : r < 16) :
    (Own d R.ids Finset.univ q X.ids : sProp 𝕄) ⊢ Own d (R.idSrc r hr) Finset.univ q (X.strip r) := by
  refine ((own_split (Finset.subset_univ (Rect.unit (s := S2x1024) ![r % 2, 128 * (r / 2)] S1x128.size (idSrc_inb r hr)).set)).trans sep_elim_left).trans ?_
  refine Entails.trans (own_slice_in (T := Finset.univ) (hr := fun _ => rfl)
    (gs := fun x => X.ids ((Rect.unit (s := S2x1024) ![r % 2, 128 * (r / 2)] S1x128.size (idSrc_inb r hr)).emb x))
    (fun y hy => (of_mem hy).imp fun x h => ⟨Finset.mem_univ x, h⟩) (fun x _ => emb_mem _ x) fun _ _ => rfl) ?_
  exact own_squeeze_in (T := Finset.univ)
    (fun y _ => ⟨(Shape.reshapeEquiv squeezes_S1x128_S128.numel_eq).symm y, Finset.mem_univ _, Equiv.apply_symm_apply _ y⟩)
    (fun _ _ => Finset.mem_univ _) fun x _ => idSrc_val X r hr x

theorem idDst_in (r : ℕ) (hr : r < 16) :
    (Any d R.idw (idStrip r (r + 1)) : sProp 𝕄) ⊢ Any d (R.idDst r hr) Finset.univ := by
  unfold Any
  iintro ⟨%g, H⟩
  iexists (fun x => g ((Rect.unit (s := S2048) ![128 * r] S128.size (idDst_inb r hr)).emb x))
  rw [← idDst_set r hr]
  iapply (own_slice_in (T := Finset.univ) (fun y hy => (of_mem hy).imp fun x h => ⟨Finset.mem_univ x, h⟩) (fun x _ => emb_mem _ x) fun _ _ => rfl)
  iexact H
theorem idDst_out (r : ℕ) (hr : r < 16) :
    Own d (R.idDst r hr) Finset.univ fullShare (X.strip r) ⊢ (Own d R.idw (idStrip r (r + 1)) fullShare X.idsAt : sProp 𝕄) := by
  rw [← idDst_set r hr]
  exact own_slice_out (fun y hy => (of_mem hy).imp fun x h => ⟨Finset.mem_univ x, h⟩) (fun x _ => emb_mem _ x) fun x _ =>
    congrArg X.id (show 128 * r + 1 * (x 0).val = 128 * r + (x 0).val by rw [Nat.one_mul])

/-- What one strip's copy counts on the ids' semaphore. -/
abbrev Refs.idCredit : ℕ := sig.dmaCredit .tc (Kind.table .tc .smem) R.idw.view.buf S128 .i32
/-- The ids' copies with `j` of them started and `u` units waited for. -/
abbrev IdFlight (d : Dev nD) (j u : ℕ) : sProp (MT nD τ sig Unit (Elt F) ℕ U ℕ) :=
  Transfers.Batch EC (d : Thread nD τ) (.dma R.idSem) () R.idCredit (fun t : Fin 16 => Own d R.idw (idStrip t.val (t.val + 1)) fullShare X.idsAt) j u

theorem wp_startIds (K : P F α) : ∀ (n r : ℕ) (h : r + n ≤ 16),
    iprop(Read d R.ids (X.ids : S2x1024.Idx → Elt F .i32) ∗ Any d R.idw (idStrip r 16) ∗ IdFlight EC R X d r 0)
      ⊢ iprop((IdFlight EC R X d (r + n) 0 -∗ Wp defs 𝒱 bd d K Q) -∗ Wp defs 𝒱 bd d (startIds R K n r h) Q)
  | 0, r, h => by
    unfold startIds
    iintro ⟨-, -, H⟩ Hk
    iapply Hk
    iexact H
  | n + 1, r, h => by
    have hr : r < 16 := by omega
    have hsub : idStrip r (r + 1) ⊆ idStrip r 16 := fun y hy => by rw [mem_idStrip] at hy ⊢; omega
    have hrest : idStrip r 16 \ idStrip r (r + 1) = idStrip (r + 1) 16 := by
      ext y; rw [Finset.mem_sdiff, mem_idStrip, mem_idStrip, mem_idStrip]; omega
    have e : r + (n + 1) = r + 1 + n := by omega
    rw [e]
    iintro ⟨Hs, Hd, HB⟩ Hk
    unfold startIds
    ihave Hs' := read_dup $$ Hs
    icases Hs' with ⟨Hs, Hs2⟩
    ihave Hd' := (any_split hsub) $$ Hd
    icases Hd' with ⟨Hd1, Hd⟩
    rw [hrest]
    ihave Hd1' := (idDst_in R r hr) $$ Hd1
    unfold Read Any
    icases Hs2 with ⟨%q, Hs2⟩
    icases Hd1' with ⟨%gd, Hd1⟩
    ihave Hs2' := (idSrc_in R X r hr) $$ Hs2
    have hD : iprop(Own d (R.idSrc r hr) Finset.univ q (X.strip r) ∗ Own d (R.idDst r hr) Finset.univ fullShare (X.strip r))
      ⊢ (fun t : Fin 16 => (Own d R.idw (idStrip t.val (t.val + 1)) fullShare X.idsAt : sProp 𝕄)) ⟨r, hr⟩ :=
      drop_left.trans (idDst_out R X r hr)
    iapply (own_dma EC (D := fun t : Fin 16 => Own d R.idw (idStrip t.val (t.val + 1)) fullShare X.idsAt) R.idCredit rfl hr (Nat.zero_le _) hD) $$ [Hs2' Hd1 HB]
    · isplitl [Hs2']; · iexact Hs2'
      isplitl [Hd1]; · iexact Hd1
      iexact HB
    iintro HB
    iapply (wp_startIds K n (r + 1) _) $$ [Hs Hd HB]
    · isplitl [Hs]; · unfold Read; iexact Hs
      isplitl [Hd]; · unfold Any; iexact Hd
      iexact HB
    iexact Hk

/-- The waits but for the last. -/
theorem wp_waitIds (K : P F α) (hN : 0 < R.idCredit) : ∀ (n r : ℕ) (h : r + n ≤ 16) (hn : r + n = 16) (hp : 0 < n),
    iprop(IdFlight EC R X d 16 (r * R.idCredit) ∗ Ows d)
      ⊢ iprop((iprop(Ids R X d ∗ semVal ((d : Thread nD τ), SemLoc.dma R.idSem) 0 ∗ Ows d) -∗ Wp defs 𝒱 bd d K Q) -∗ Wp defs 𝒱 bd d (waitIds R K n r h) Q)
  | 0, r, h, hn, hp => absurd hp (Nat.lt_irrefl 0)
  | 1, r, h, hn, hp => by
    have hr : r < 16 := by omega
    unfold waitIds waitIds
    iintro ⟨HB, ⟨%W, HO⟩⟩ Hk
    iapply (Transfers.wp_waitBatchAll EC 𝒱 (d : Thread nD τ) bd () (J := R.idCredit) rfl hN
      (D := (fun t : Fin 16 => Own d R.idw (idStrip t.val (t.val + 1)) fullShare X.idsAt)) (u := r * R.idCredit)
      (by rw [show r = 15 by omega, Nat.mul_comm R.idCredit]; exact (Nat.succ_mul 15 _).symm)) $$ [HB HO]
    · isplitl [HB]; · iexact HB
      iexact HO
    iintro ⟨HD, Hv, HO⟩
    ihave HD' := (own_bigSep Finset.univ (fun t : Fin 16 => idStrip t.val (t.val + 1)) (by
      intro a _ b _ hab
      rw [Finset.disjoint_left]
      intro y ha hb
      rw [mem_idStrip] at ha hb
      exact hab (Fin.ext (by omega)))) $$ HD
    rw [idStrip_union]
    iapply Hk
    isplitl [HD']; · iexact HD'
    isplitl [Hv]; · iexact Hv
    iexists _; iexact HO
  | n + 2, r, h, hn, hp => by
    unfold waitIds
    iintro ⟨HB, ⟨%W, HO⟩⟩ Hk
    iapply (Transfers.wp_waitBatch EC 𝒱 (d : Thread nD τ) bd () (N := R.idCredit) rfl
      (D := (fun t : Fin 16 => Own d R.idw (idStrip t.val (t.val + 1)) fullShare X.idsAt)) (u := r * R.idCredit)
      (by rw [Nat.mul_comm R.idCredit, ← Nat.succ_mul]; exact Nat.mul_lt_mul_of_pos_right (by omega) hN)) $$ [HB HO]
    · isplitl [HB]; · iexact HB
      iexact HO
    iintro ⟨HB, HO⟩
    have e : r * R.idCredit + R.idCredit = (r + 1) * R.idCredit := (Nat.succ_mul r _).symm
    rw [e]
    iapply (wp_waitIds K hN (n + 1) (r + 1) _ (by omega) (by omega)) $$ [HB HO]
    · isplitl [HB]; · iexact HB
      iexists _; iexact HO
    iexact Hk

/-- A whole array's copy, started or waited for: what it delivers is its destination. -/
abbrev Load {s : Shape} {e : EltTy} (d : Dev nD) (m : Memref sig .tc .vmem s e) (sm : DmaSem sig) (ns : s.Idx → Elt F e) (j : ℕ) : sProp (MT nD τ sig Unit (Elt F) ℕ U ℕ) :=
  Transfers.Batch EC (d : Thread nD τ) (.dma sm) () m.view.dmaCredit (fun _ : Fin 1 => Own d m Finset.univ fullShare ns) j 0

theorem wp_startLoad {s : Shape} {e : EltTy} {src : Memref sig .tc .hbm s e} {dst : Memref sig .tc .vmem s e} {sm : DmaSem sig}
    {hs hd hsem} {k : PUnit → P F α} {ns : s.Idx → Elt F e} :
    iprop(Read d src ns ∗ All d dst ∗ semVal ((d : Thread nD τ), SemLoc.dma sm) 0)
      ⊢ iprop((Load EC d dst sm ns 1 -∗ Wp defs 𝒱 bd d (k ⟨⟩) Q) -∗ Wp defs 𝒱 bd d (.op (.enqueueDma src (.here dst) (.dma sm) hs hd hsem) k) Q) := by
  iintro ⟨Hs, Hd, Hv⟩ Hk
  iapply fupd_wp
  imod (Transfers.batch_alloc' EC (d : Thread nD τ) () dst.view.dmaCredit (fun _ : Fin 1 => Own d dst Finset.univ fullShare ns) (sm := .dma sm) (E := Set.univ)) $$ Hv with HB
  imodintro
  unfold Read
  icases Hs with ⟨%q, Hs⟩
  have hD : iprop(Own d src Finset.univ q ns ∗ Own d dst Finset.univ fullShare ns) ⊢ (fun _ : Fin 1 => (Own d dst Finset.univ fullShare ns : sProp 𝕄)) ⟨0, Nat.one_pos⟩ :=
    drop_left
  unfold All Any
  icases Hd with ⟨%gd, Hd⟩
  iapply (own_dma EC (D := fun _ : Fin 1 => Own d dst Finset.univ fullShare ns) dst.view.dmaCredit rfl Nat.one_pos (Nat.zero_le _) hD) $$ [Hs Hd HB]
  · isplitl [Hs]; · iexact Hs
    isplitl [Hd]; · iexact Hd
    iexact HB
  unfold Load
  iexact Hk

theorem wp_waitLoad {s : Shape} {e : EltTy} {src : Memref sig .tc .hbm s e} {dst : Memref sig .tc .vmem s e} {sm : DmaSem sig}
    {hs hd} {k : PUnit → P F α} {ns : s.Idx → Elt F e} (hN : 0 < dst.view.dmaCredit) :
    iprop(Load EC d dst sm ns 1 ∗ Ows d)
      ⊢ iprop((iprop(Own d dst Finset.univ fullShare ns ∗ semVal ((d : Thread nD τ), SemLoc.dma sm) 0 ∗ Ows d) -∗ Wp defs 𝒱 bd d (k ⟨⟩) Q)
        -∗ Wp defs 𝒱 bd d (.op (.waitDma2 sm src dst hs hd) k) Q) := by
  iintro ⟨HB, ⟨%W, HO⟩⟩ Hk
  iapply (Transfers.wp_waitBatchAll EC 𝒱 (d : Thread nD τ) bd () (J := dst.view.dmaCredit) rfl hN (D := (fun _ : Fin 1 => Own d dst Finset.univ fullShare ns)) (u := 0) (by omega)) $$ [HB HO]
  · isplitl [HB]; · iexact HB
    iexact HO
  iintro ⟨HD, Hv, HO⟩
  iapply Hk
  isplitl [HD]
  · iapply (one_out (fun _ : Fin 1 => Own d dst Finset.univ fullShare ns)); iexact HD
  isplitl [Hv]; · iexact Hv
  iexists _; iexact HO

end Cert.KernelIdeal.Lookup
-- ==== Proof.Ideal.Cells.lean ====
module
public import Idealize.SL.BI.BigOpNat
public import proofs.«01_k».proof.Proof.Ideal.Ids
@[expose] public section
noncomputable section
namespace Cert.KernelIdeal.Lookup
open Cert.KernelIdeal Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

open Classical in
/-- Two disjoint parts, each at any contents, are their union at some. -/
theorem any_join {ms : Space} {s : Shape} {e : EltTy} {m : Memref sig .tc ms s e} {S T : Finset s.Idx} (h : Disjoint S T) :
    iprop(Any d m S ∗ Any d m T) ⊢ (Any d m (S ∪ T) : sProp (MT nD τ sig Unit (Elt F) ℕ U ℕ)) := by
  unfold Any
  iintro ⟨⟨%g, H1⟩, ⟨%g', H2⟩⟩
  iexists (fun y => if y ∈ S then g y else g' y)
  iapply (own_join h)
  isplitl [H1]
  · iapply (own_congr fun y hy => (if_pos hy).symm); iexact H1
  · iapply (own_congr fun y hy => (if_neg (fun hs => (Finset.disjoint_left.1 h hs hy))).symm); iexact H2

theorem any_apart {ms : Space} {s : Shape} {e : EltTy} {m : Memref sig .tc ms s e} {ι : Type} [DecidableEq ι] (I : Finset ι) (K : ι → Finset s.Idx)
    (hK : ∀ i ∈ I, ∀ j ∈ I, i ≠ j → Disjoint (K i) (K j)) :
    (Any d m (I.biUnion K) : sProp (MT nD τ sig Unit (Elt F) ℕ U ℕ)) ⊢ bigSep I (fun t => Any d m (K t)) := by
  induction I using Finset.induction_on with
  | empty => rw [BI.bigSep_empty]; iintro -; iempintro
  | insert a I ha ih =>
    have hd : Disjoint (K a) (I.biUnion K) := by
      rw [Finset.disjoint_biUnion_right]
      exact fun i hi => hK a (Finset.mem_insert_self ..) i (Finset.mem_insert_of_mem hi) (fun h => ha (h ▸ hi))
    have e : (insert a I).biUnion K \ K a = I.biUnion K := by
      rw [Finset.biUnion_insert, Finset.union_sdiff_left, Finset.sdiff_eq_self_iff_disjoint]; exact hd.symm
    refine Entails.trans ?_ (Entails.of_eq (BI.bigSep_insert ha).symm)
    refine (any_split (S := K a) (by rw [Finset.biUnion_insert]; exact Finset.subset_union_left)).trans ?_
    rw [e]
    exact sep_mono_right (ih fun i hi j hj => hK i (Finset.mem_insert_of_mem hi) j (Finset.mem_insert_of_mem hj))
theorem any_together {ms : Space} {s : Shape} {e : EltTy} {m : Memref sig .tc ms s e} {ι : Type} [DecidableEq ι] (I : Finset ι) (K : ι → Finset s.Idx)
    (hK : ∀ i ∈ I, ∀ j ∈ I, i ≠ j → Disjoint (K i) (K j)) :
    bigSep I (fun t => Any d m (K t)) ⊢ (Any d m (I.biUnion K) : sProp (MT nD τ sig Unit (Elt F) ℕ U ℕ)) := by
  induction I using Finset.induction_on with
  | empty =>
    rw [Finset.biUnion_empty]
    iintro -
    unfold Any
    iexists (fun _ => Classical.choice (Elt.nonempty F e))
    iapply own_empty
  | insert a I ha ih =>
    have hd : Disjoint (K a) (I.biUnion K) := by
      rw [Finset.disjoint_biUnion_right]
      exact fun i hi => hK a (Finset.mem_insert_self ..) i (Finset.mem_insert_of_mem hi) (fun h => ha (h ▸ hi))
    rw [Finset.biUnion_insert]
    refine Entails.trans (Entails.of_eq (BI.bigSep_insert ha)) ?_
    refine Entails.trans ?_ (any_join hd)
    exact sep_mono_right (ih fun i hi j hj => hK i (Finset.mem_insert_of_mem hi) j (Finset.mem_insert_of_mem hj))

/-! ## The ring's slots -/

theorem free_add (n : ℕ) : (Free R d (n + 11) : sProp (MT nD τ sig Unit (Elt F) ℕ U ℕ)) = Free R d n := by
  unfold Free; rw [ringRows_add, ringSem_add]

/-- The semaphores of the ring's slots, at zero. -/
abbrev RingSems (d : Dev nD) : sProp (MT nD τ sig Unit (Elt F) ℕ U ℕ) :=
  bigSep (Finset.Ico 0 11) fun n => semVal ((d : Thread nD τ), SemLoc.dma (R.ringSem n)) 0

theorem slots_union : (Finset.Ico 0 11).biUnion (fun n => ringRows n 0 64) = Finset.univ := by
  ext y
  have h0 : (y 0).val < 11 := (y 0).isLt
  have h1 : (y 1).val < 64 := (y 1).isLt
  refine ⟨fun _ => Finset.mem_univ y, fun _ => Finset.mem_biUnion.2 ⟨(y 0).val, Finset.mem_Ico.2 ⟨Nat.zero_le _, h0⟩, mem_ringRows.2 ?_⟩⟩
  omega
theorem slots_disjoint : ∀ i ∈ Finset.Ico 0 11, ∀ j ∈ Finset.Ico 0 11, i ≠ j → Disjoint (ringRows i 0 64) (ringRows j 0 64) := by
  intro i hi j hj hij
  rw [Finset.mem_Ico] at hi hj
  rw [Finset.disjoint_left]
  intro y h1 h2
  rw [mem_ringRows] at h1 h2
  omega

theorem ring_apart : iprop(All d R.ring ∗ RingSems R d) ⊢ (bigSep (Finset.Ico 0 11) (fun n => Free R d n) : sProp (MT nD τ sig Unit (Elt F) ℕ U ℕ)) := by
  refine Entails.trans ?_ (Entails.of_eq (BI.bigSep_sep _ _ _).symm)
  refine sep_mono_left ?_
  unfold All
  rw [← slots_union]
  exact any_apart _ _ slots_disjoint
theorem ring_together : (bigSep (Finset.Ico 0 11) (fun n => Free R d n) : sProp (MT nD τ sig Unit (Elt F) ℕ U ℕ)) ⊢ iprop(All d R.ring ∗ RingSems R d) := by
  refine Entails.trans (Entails.of_eq (BI.bigSep_sep _ _ _)) ?_
  refine sep_mono_left ?_
  unfold All
  rw [← slots_union]
  exact any_together _ _ slots_disjoint

/-- Chunk `c`'s slot: the chunk on its way, or, past the last chunk, free. -/
def Cell (d : Dev nD) (c : ℕ) : sProp (MT nD τ sig Unit (Elt F) ℕ U ℕ) := if c < 32 then Flight EC R X d c 64 0 else Free R d c
theorem cell_flight {c : ℕ} (h : c < 32) : (Cell EC R X d c : sProp (MT nD τ sig Unit (Elt F) ℕ U ℕ)) = Flight EC R X d c 64 0 := if_pos h
theorem cell_free {c : ℕ} (h : 32 ≤ c) : (Cell EC R X d c : sProp (MT nD τ sig Unit (Elt F) ℕ U ℕ)) = Free R d c := if_neg (Nat.not_lt.2 h)

/-- The ring before step `n`: ten slots under way, or free past the last chunk, and one free. -/
abbrev Ring (d : Dev nD) (n : ℕ) : sProp (MT nD τ sig Unit (Elt F) ℕ U ℕ) :=
  iprop(bigSep (Finset.Ico n (n + 10)) (Cell EC R X d) ∗ Free R d (n + 10))

/-- The slot of chunk `n` taken out of the ring and, emptied, put back with the slot of chunk `n + 10`. -/
theorem ring_take (n : ℕ) : (Ring EC R X d n : sProp (MT nD τ sig Unit (Elt F) ℕ U ℕ))
    ⊢ iprop(Cell EC R X d n ∗ Free R d (n + 10) ∗ (iprop(Free R d n ∗ Cell EC R X d (n + 10)) -∗ Ring EC R X d (n + 1))) := by
  unfold Ring
  rw [BI.bigSep_Ico_succ_bot (show n < n + 10 by omega)]
  iintro ⟨⟨H, Hs⟩, Hf⟩
  isplitl [H]; · iexact H
  isplitl [Hf]; · iexact Hf
  iintro ⟨Hn, Hc⟩
  isplitl [Hs Hc]
  · rw [show n + 1 + 10 = n + 10 + 1 by omega, BI.bigSep_Ico_succ_top (show n + 1 ≤ n + 10 by omega)]
    isplitl [Hc]; · iexact Hc
    iexact Hs
  · rw [show n + 1 + 10 = n + 11 by omega, free_add]
    iexact Hn

theorem shift (Φ : ℕ → sProp (MT nD τ sig Unit (Elt F) ℕ U ℕ)) (c : ℕ) : ∀ (n a : ℕ),
    bigSep (Finset.Ico (a + c) (a + n + c)) Φ ⊢ bigSep (Finset.Ico a (a + n)) (fun i => Φ (i + c))
  | 0, a => by
    rw [Nat.add_zero, Finset.Ico_self, Finset.Ico_self, BI.bigSep_empty, BI.bigSep_empty]
  | n + 1, a => by
    rw [show a + (n + 1) + c = a + n + c + 1 by omega, show a + (n + 1) = a + n + 1 by omega,
      BI.bigSep_Ico_succ_top (show a + c ≤ a + n + c by omega), BI.bigSep_Ico_succ_top (show a ≤ a + n by omega)]
    exact sep_mono_right (shift Φ c n a)

/-- After the last chunk the ring is free. -/
theorem ring_done : (Ring EC R X d 32 : sProp (MT nD τ sig Unit (Elt F) ℕ U ℕ)) ⊢ bigSep (Finset.Ico 0 11) (fun n => Free R d n) := by
  have e32 : (Free R d (42 + 1) : sProp (MT nD τ sig Unit (Elt F) ℕ U ℕ)) = Free R d 32 := free_add R 32
  have e33 : ∀ i, (Free R d (i + 33) : sProp (MT nD τ sig Unit (Elt F) ℕ U ℕ)) = Free R d i := fun i =>
    (free_add R (i + 22)).trans ((free_add R (i + 11)).trans (free_add R i))
  have h1 : (bigSep (Finset.Ico 32 42) (Cell EC R X d) : sProp (MT nD τ sig Unit (Elt F) ℕ U ℕ)) ⊢ bigSep (Finset.Ico 32 42) (fun n => Free R d n) :=
    BI.bigSep_mono fun i hi => Entails.of_eq (cell_free EC R X (Finset.mem_Ico.1 hi).1)
  have h2 : (Ring EC R X d 32 : sProp (MT nD τ sig Unit (Elt F) ℕ U ℕ)) ⊢ bigSep (Finset.Ico 33 44) (fun n => Free R d n) := by
    unfold Ring
    rw [show (44 : ℕ) = 43 + 1 from rfl, BI.bigSep_Ico_succ_top (show 33 ≤ 43 by omega), show (43 : ℕ) = 42 + 1 from rfl, BI.bigSep_Ico_succ_top (show 33 ≤ 42 by omega)]
    refine (sep_mono_left h1).trans ?_
    rw [BI.bigSep_Ico_succ_bot (show 32 < 42 by omega)]
    iintro ⟨⟨H, Hs⟩, Hf⟩
    isplitl [H]
    · rw [e32]; iexact H
    isplitl [Hf]; · iexact Hf
    iexact Hs
  refine h2.trans ((shift (fun n => Free R d n) 33 11 0).trans ?_)
  simp only [e33]
  exact Entails.of_eq rfl

/-! ## The slots of the result -/

theorem outs_union : outRows 0 ∪ outRows 1 = Finset.univ := by
  ext y
  have h0 : (y 0).val < 2 := (y 0).isLt
  refine ⟨fun _ => Finset.mem_univ y, fun _ => Finset.mem_union.2 ?_⟩
  rw [mem_outRows, mem_outRows]; omega
theorem outs_disjoint : Disjoint (outRows 0) (outRows 1) := by
  rw [Finset.disjoint_left]
  intro y h1 h2
  rw [mem_outRows] at h1 h2
  omega
/-- The semaphores of the result's slots, at zero. -/
abbrev OutSems (d : Dev nD) : sProp (MT nD τ sig Unit (Elt F) ℕ U ℕ) :=
  iprop(semVal ((d : Thread nD τ), SemLoc.dma (R.outSemN 0)) 0 ∗ semVal ((d : Thread nD τ), SemLoc.dma (R.outSemN 1)) 0)
theorem outs_apart (T : S16000x128.Idx → Elt F .i32) : iprop(All d R.outs ∗ OutSems R d) ⊢ (iprop(OutCell EC R X T d 0 ∗ OutCell EC R X T d 1) : sProp (MT nD τ sig Unit (Elt F) ℕ U ℕ)) := by
  unfold OutCell
  rw [if_neg (by omega), if_neg (by omega)]
  unfold All
  rw [← outs_union]
  iintro ⟨H, Hs0, Hs1⟩
  ihave H' := (any_split Finset.subset_union_left) $$ H
  rw [Finset.union_sdiff_left, Finset.sdiff_eq_self_iff_disjoint.2 outs_disjoint.symm]
  icases H' with ⟨H0, H1⟩
  isplitl [H0 Hs0]
  · isplitl [H0]; · iexact H0
    iexact Hs0
  · isplitl [H1]; · iexact H1
    iexact Hs1
theorem outs_together : iprop(OutFree R d 30 ∗ OutFree R d 31) ⊢ (iprop(All d R.outs ∗ OutSems R d) : sProp (MT nD τ sig Unit (Elt F) ℕ U ℕ)) := by
  have e : ∀ n i : ℕ, (OutFree R d (i + 2 * n) : sProp (MT nD τ sig Unit (Elt F) ℕ U ℕ)) = OutFree R d i := by
    intro n i
    induction n with
    | zero => rfl
    | succ n ih => rw [show i + 2 * (n + 1) = i + 2 * n + 2 by omega, outFree_add, ih]
  rw [show 30 = 0 + 2 * 15 from rfl, show 31 = 1 + 2 * 15 from rfl, e, e]
  unfold All
  rw [← outs_union]
  iintro ⟨⟨H0, Hs0⟩, H1, Hs1⟩
  isplitl [H0 H1]
  · iapply (any_join outs_disjoint)
    isplitl [H0]; · iexact H0
    iexact H1
  isplitl [Hs0]; · iexact Hs0
  iexact Hs1

end Cert.KernelIdeal.Lookup
-- ==== Proof.Ideal.Whole.lean ====
module
public import proofs.«01_k».proof.Proof.Ideal.Cells
@[expose] public section
noncomputable section
namespace Cert.KernelIdeal.Lookup
open Cert.KernelIdeal Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
variable {F : FTy → Type} [FloatOps F] {U : Type} [URA U]
local notation "𝕄" => MT nD τ sig Unit (Elt F) ℕ U ℕ
variable (EC : UEmb Counters (MT nD τ sig Unit (Elt F) ℕ U ℕ)) [EC.LandsIn (upEmb : UEmb _ (MT nD τ sig Unit (Elt F) ℕ U ℕ))]
variable {defs : Defs nD τ sig (Elt F) Λ₀} {𝒱 : Variants} {bd : Option 𝒱.V}
variable {d : Dev nD} {α : Type} {Q : α → sProp (MT nD τ sig Unit (Elt F) ℕ U ℕ)} (R : Refs) (X : Inp F)

/-- A loop at the head of a program, at a known number of trips. -/
theorem wp_loop {σ : Type} (l : Scf.Loop 32) (hok : l.OK) (init : σ) (body : Fin l.trips → σ → P F σ) (n : ℕ) (hn : l.trips = n)
    (I : ℕ → σ → sProp (MT nD τ sig Unit (Elt F) ℕ U ℕ)) (hbody : ∀ (k : Fin l.trips), k.val < n → ∀ acc, I k.val acc ⊢ Wp defs 𝒱 bd d (body k acc) (I (k.val + 1)))
    {kk : σ → P F α} :
    I 0 init ⊢ iprop((∀ acc, I n acc -∗ Wp defs 𝒱 bd d (kk acc) Q) -∗ Wp defs 𝒱 bd d (Scf.Loop.for l hok init body >>= kk) Q) := by
  subst hn
  exact Scf.wp_for_bind _ _ _ l.lb l.ub l.st hok init body I fun k acc => hbody k k.isLt acc

/-- What the copies' counts must satisfy: none counts nothing, and a slot counts its 64 rows. -/
structure Refs.Counts (R : Refs) : Prop where
  row : 0 < R.rowCredit
  slot : sig.dmaCredit .tc (Kind.table .tc .vmem) R.ring.view.buf S64x2560 .i32 = 64 * R.rowCredit
  out : 0 < R.outCredit
  ids : 0 < R.idCredit
  sub : 0 < R.sub.view.dmaCredit
  sup : 0 < R.sup.view.dmaCredit

/-- The ring being primed: `k` chunks on their way. -/
abbrev Primed (d : Dev nD) (k : ℕ) : sProp (MT nD τ sig Unit (Elt F) ℕ U ℕ) :=
  iprop(Ids R X d ∗ wordsAt R X d ∗ bigSep (Finset.Ico 0 k) (Cell EC R X d) ∗ bigSep (Finset.Ico k 11) (fun n => Free R d n))

theorem wp_prime (hX : X.Ok) (w : BitVec 32) (hw : w.toNat < 32) (k : ℕ) (hk : k < 10) (e : w.toNat = k) (h : 0 + 64 ≤ 64) :
    (Primed EC R X d k : sProp (MT nD τ sig Unit (Elt F) ℕ U ℕ)) ⊢ Wp defs 𝒱 bd d (fetchRows R w hw (.ret () : P F Unit) 64 0 h) (fun _ => Primed EC R X d (k + 1)) := by
  subst e
  unfold Primed
  rw [BI.bigSep_Ico_succ_bot (show w.toNat < 11 by omega)]
  iintro ⟨H1, H2, H3, H4, H5⟩
  iapply fupd_wp
  imod (free_fill EC R X w.toNat) $$ H4 with H4
  imodintro
  iapply (wp_filling EC R X hX w hw _ 64 0 h) $$ [H1 H2 H4]
  · isplitl [H1]; · iexact H1
    isplitl [H2]; · iexact H2
    iexact H4
  iintro ⟨H1, H2, -, H4⟩
  iapply wp_done
  isplitl [H1]; · iexact H1
  isplitl [H2]; · iexact H2
  isplitl [H3 H4]
  · rw [BI.bigSep_Ico_succ_top (Nat.zero_le _)]
    isplitl [H4]
    · rw [cell_flight EC R X hw]; iexact H4
    iexact H3
  iexact H5

variable (T : S16000x128.Idx → Elt F .i32)
/-- What the steps work on, before step `n`. -/
abbrev State (d : Dev nD) (n : ℕ) : sProp (MT nD τ sig Unit (Elt F) ℕ U ℕ) :=
  iprop(Ids R X d ∗ wordsAt R X d ∗ Held R X T d n ∗ Ring EC R X d n ∗ (OutCell EC R X T d n ∗ OutCell EC R X T d (n + 1)) ∗ Any d R.out (todo n) ∗ Done R X T d n ∗ Ows d)

theorem wp_ahead (hX : X.Ok) (hR : R.Counts) (w w' : BitVec 32) (hw : w.toNat < 32) (hw' : w'.toNat < 32) (n : ℕ) (e : w.toNat = n) (e' : w'.toNat = n + 10)
    (mx : Mxu F) (hm : MxOk (X.prodAt T 0) 0 0 mx) :
    (State EC R X T d n : sProp (MT nD τ sig Unit (Elt F) ℕ U ℕ)) ⊢ Wp defs 𝒱 bd d (step R (fetchAhead R w' hw') w hw mx) (fun mx' => iprop(⌜MxOk (X.prodAt T 0) 0 0 mx'⌝ ∗ State EC R X T d (n + 1))) := by
  subst e
  unfold State
  iintro ⟨H1, H2, H3, H4, ⟨H5, H6⟩, H7, H9, H8⟩
  ihave H4' := (ring_take EC R X w.toNat) $$ H4
  rw [cell_flight EC R X hw]
  icases H4' with ⟨Hc, Hf, Hback⟩
  iapply fupd_wp
  imod (free_fill EC R X (w.toNat + 10)) $$ Hf with Hf
  imodintro
  iapply (wp_step EC R X T hX (fetchAhead_ok EC R X hX w' hw') w hw mx hm hR.row hR.slot hR.out) $$ [H1 H2 H3 Hc Hf H5 H7 H9 H8]
  · isplitl [H1]; · iexact H1
    isplitl [H2]; · iexact H2
    isplitl [Hf]; · rw [e']; iexact Hf
    isplitl [H3]; · iexact H3
    isplitl [Hc]; · iexact Hc
    isplitl [H5]; · iexact H5
    isplitl [H7]; · iexact H7
    isplitl [H9]; · iexact H9
    iexact H8
  iintro %mx' %hm' ⟨H1, H2, Hf, H3, Hn, H5, H7, H9, H8⟩
  rw [e']
  isplitr
  · ipureintro; exact hm'.start 0 _
  isplitl [H1]; · iexact H1
  isplitl [H2]; · iexact H2
  isplitl [H3]; · iexact H3
  isplitl [Hback Hn Hf]
  · iapply Hback
    isplitl [Hn]; · iexact Hn
    rw [cell_flight EC R X (show w.toNat + 10 < 32 by omega)]
    icases Hf with ⟨-, Hf⟩
    iexact Hf
  isplitl [H6 H5]
  · isplitl [H6]; · iexact H6
    iexact H5
  isplitl [H7]; · iexact H7
  isplitl [H9]; · iexact H9
  iexact H8

theorem wp_last (hX : X.Ok) (hR : R.Counts) (w : BitVec 32) (hw : w.toNat < 32) (n : ℕ) (e : w.toNat = n) (hn : 22 ≤ n)
    (mx : Mxu F) (hm : MxOk (X.prodAt T 0) 0 0 mx) :
    (State EC R X T d n : sProp (MT nD τ sig Unit (Elt F) ℕ U ℕ)) ⊢ Wp defs 𝒱 bd d (step R fetchNone w hw mx) (fun mx' => iprop(⌜MxOk (X.prodAt T 0) 0 0 mx'⌝ ∗ State EC R X T d (n + 1))) := by
  subst e
  unfold State
  iintro ⟨H1, H2, H3, H4, ⟨H5, H6⟩, H7, H9, H8⟩
  ihave H4' := (ring_take EC R X w.toNat) $$ H4
  rw [cell_flight EC R X hw]
  icases H4' with ⟨Hc, Hf, Hback⟩
  iapply (wp_step EC R X T hX (fetchNone_ok R X (Fe := Free R d (w.toNat + 10))) w hw mx hm hR.row hR.slot hR.out) $$ [H1 H2 H3 Hc Hf H5 H7 H9 H8]
  · isplitl [H1]; · iexact H1
    isplitl [H2]; · iexact H2
    isplitl [Hf]; · iexact Hf
    isplitl [H3]; · iexact H3
    isplitl [Hc]; · iexact Hc
    isplitl [H5]; · iexact H5
    isplitl [H7]; · iexact H7
    isplitl [H9]; · iexact H9
    iexact H8
  iintro %mx' %hm' ⟨H1, H2, Hf, H3, Hn, H5, H7, H9, H8⟩
  isplitr
  · ipureintro; exact hm'.start 0 _
  isplitl [H1]; · iexact H1
  isplitl [H2]; · iexact H2
  isplitl [H3]; · iexact H3
  isplitl [Hback Hn Hf]
  · iapply Hback
    isplitl [Hn]; · iexact Hn
    rw [cell_free EC R X (show 32 ≤ w.toNat + 10 by omega)]
    iexact Hf
  isplitl [H6 H5]
  · isplitl [H6]; · iexact H6
    iexact H5
  isplitl [H7]; · iexact H7
  isplitl [H9]; · iexact H9
  iexact H8

/-- The buffers of the kernel's own but the ids. -/
abbrev Scratch (d : Dev nD) : sProp (MT nD τ sig Unit (Elt F) ℕ U ℕ) :=
  iprop(All d R.sub ∗ All d R.sup ∗ Bufs R d ∗ All d R.perm ∗ All d R.ring ∗ All d R.outs)
/-- The kernel's semaphores, at zero. -/
abbrev Sems (d : Dev nD) : sProp (MT nD τ sig Unit (Elt F) ℕ U ℕ) :=
  iprop(semVal ((d : Thread nD τ), SemLoc.dma R.idSem) 0 ∗ semVal ((d : Thread nD τ), SemLoc.dma R.subSem) 0 ∗ semVal ((d : Thread nD τ), SemLoc.dma R.supSem) 0
    ∗ RingSems R d ∗ OutSems R d)
/-- The arrays the kernel reads, and the result's. -/
abbrev Arrays (d : Dev nD) : sProp (MT nD τ sig Unit (Elt F) ℕ U ℕ) :=
  iprop(Read d R.ids (X.ids : S2x1024.Idx → Elt F .i32) ∗ wordsAt R X d ∗ Read d R.subT (X.sub : S160x16000.Idx → Elt F .i8) ∗ Read d R.supT (X.sup : S20x16000.Idx → Elt F .i16) ∗ All d R.out)

theorem wp_prologue (hX : X.Ok) (hR : R.Counts) (K : Mxu F → P F α) :
    iprop(Arrays R X d ∗ All d R.idw ∗ Scratch R d ∗ Sems R d ∗ Ows d)
      ⊢ iprop((∀ mx T, ⌜MxOk (X.prodAt T 0) 0 0 mx ∧ X.TabOk T⌝ -∗ iprop(State EC R X T d 0 ∗ All d R.sub ∗ All d R.sup ∗ All d R.perm
            ∗ semVal ((d : Thread nD τ), SemLoc.dma R.idSem) 0 ∗ semVal ((d : Thread nD τ), SemLoc.dma R.subSem) 0 ∗ semVal ((d : Thread nD τ), SemLoc.dma R.supSem) 0)
          -∗ Wp defs 𝒱 bd d (K mx) Q)
        -∗ Wp defs 𝒱 bd d (prologue R (body1 R) (body2 R) K) Q) := by
  unfold prologue
  iintro ⟨⟨Aid, Awd, Asb, Asp, Aout⟩, Bid, ⟨Bsb, Bsp, ⟨Bt, Br, Bsc, Bsh⟩, Bp, Bring, Bouts⟩, ⟨Sid, Ssb, Ssp, Sring, Sout⟩, HO⟩ Hk
  iapply fupd_wp
  imod (Transfers.batch_alloc' EC (d : Thread nD τ) () R.idCredit (fun t : Fin 16 => Own d R.idw (idStrip t.val (t.val + 1)) fullShare X.idsAt)
    (sm := .dma R.idSem) (E := Set.univ)) $$ Sid with Fid
  imodintro
  iapply (wp_startIds EC R X _ 16 0 _) $$ [Aid Bid Fid]
  · isplitl [Aid]; · iexact Aid
    isplitl [Bid]; · rw [idStrip_all]; iexact Bid
    iexact Fid
  iintro Fid
  iapply (wp_startLoad EC) $$ [Asb Bsb Ssb]
  · isplitl [Asb]; · iexact Asb
    isplitl [Bsb]; · iexact Bsb
    iexact Ssb
  iintro Fsb
  iapply (wp_startLoad EC) $$ [Asp Bsp Ssp]
  · isplitl [Asp]; · iexact Asp
    isplitl [Bsp]; · iexact Bsp
    iexact Ssp
  iintro Fsp
  iapply (wp_waitIds EC R X _ hR.ids 16 0 _ rfl (by omega)) $$ [Fid HO]
  · isplitl [Fid]; · rw [Nat.zero_mul]; iexact Fid
    iexact HO
  iintro ⟨Hid, Sid, HO⟩
  ihave Hring := (ring_apart R) $$ [Bring Sring]
  · isplitl [Bring]; · iexact Bring
    iexact Sring
  iapply (wp_loop k0_t1_loop k0_t1_ok ⟨⟩ (body1 R) 10 t1_trips (fun k _ => Primed EC R X d k)
    (fun k hk _ => wp_prime EC R X hX _ _ k.val hk (w1_val ⟨k.val, by omega⟩) _)) $$ [Hid Awd Hring]
  · isplitl [Hid]; · iexact Hid
    isplitl [Awd]; · iexact Awd
    isplitr
    · rw [Finset.Ico_self, BI.bigSep_empty]; iempintro
    iexact Hring
  iintro %_ ⟨Hid, Awd, Hcells, Hfree⟩
  iapply (wp_storePerm R _) $$ Bp
  iintro Bp
  obtain ⟨hp0, hr0, hl0, hg0⟩ := loaded_ok (F := F) 0 Mxu.init (fun _ _ => rfl) (fun _ _ => rfl)
  iapply (wp_loadUnit R 0 Mxu.init _ hp0) $$ Bp
  iintro Bp
  obtain ⟨hp1, hr1, hl1, hg1⟩ := loaded_ok (F := F) 1 _ hr0 hl0
  iapply (wp_loadUnit R 1 _ _ hp1) $$ Bp
  iintro Bp
  have hm : ∀ L, MxOk (F := F) L 0 0 _ := fun L => ⟨hr1, fun q => by
    rw [hg1]
    by_cases h : q = 1
    · rw [if_pos h]
    · rw [if_neg h, hg0, if_pos (by omega)], fun q A => by
    rw [hl1]
    constructor
    · intro h; exact absurd h Bool.false_ne_true
    · rintro ⟨j, -, h, -⟩; omega, fun j _ _ h => absurd h (Nat.not_lt_zero j)⟩
  iapply (wp_waitLoad EC hR.sub) $$ [Fsb HO]
  · isplitl [Fsb]; · iexact Fsb
    iexact HO
  iintro ⟨Bsb, Ssb, HO⟩
  iapply (wp_waitLoad EC hR.sup) $$ [Fsp HO]
  · isplitl [Fsp]; · iexact Fsp
    iexact HO
  iintro ⟨Bsp, Ssp, HO⟩
  iapply (wp_loop k0_t2_loop k0_t2_ok ⟨⟩ (body2 R) 25 t2_trips (fun n _ => iprop(Sub R X d ∗ Sup R X d ∗ TabTo R X d (5 * n)))
    (fun k hk _ => by
      iintro H
      unfold body2
      iapply (wp_tiles R X k.val hk _ 5 0 _) $$ H
      iintro H
      iapply wp_done
      iexact H)) $$ [Bsb Bsp Bt]
  · isplitl [Bsb]; · iexact Bsb
    isplitl [Bsp]; · iexact Bsp
    iapply (part_of_any (P := fun y : S16000x128.Idx => (y 0).val < 128 * (5 * 0) ∧ (y 1).val < 64) X.tabF (fun y _ h => Nat.not_lt_zero _ h.1))
    iexact Bt
  iintro %_ ⟨Bsb, Bsp, Bt⟩
  unfold TabTo Cert.Lookup.Part
  icases Bt with ⟨%T, %hT, Bt⟩
  have hTab : X.TabOk T := fun y hy => hT y (Finset.mem_univ y) ⟨show (y 0).val < 128 * (5 * 25) from (y 0).isLt, hy⟩
  iapply (wp_narrow R X T hX 0 0#32 rfl _ _) $$ [Hid Bt Br]
  · isplitl [Hid]; · iexact Hid
    isplitl [Bt]; · iexact Bt
    iexact Br
  iintro %w0 %w1 %w2 %hws ⟨Hid, Bt, Br⟩
  obtain ⟨hw0, hw1, hw2⟩ := hws
  ihave Bsc := (part_of_any (P := fun y : S20x64x128.Idx => (y 0).val < 0) (X.scaleAt T 0) (fun y _ => Nat.not_lt_zero _)) $$ Bsc
  iapply (wp_spreadAll R X T 0 _ _ (parts_ok X T hw0 hw1) _ 20 0 _) $$ Bsc
  iintro Bsc
  ihave Bsc := (own_of_part (fun (y : S20x64x128.Idx) _ => show (y 0).val < 0 + 20 from (Nat.zero_add 20).symm ▸ (y 0).isLt)) $$ Bsc
  ihave Bsh := (part_of_any (P := fun y : S64x128.Idx => (y 0).val < 8 * 0) (X.shiftAt T 0) (fun y _ => Nat.not_lt_zero _)) $$ Bsh
  iapply (wp_storeShifts R X T 0 _ (fun i hi => congrArg shiftOf (hw2 i hi)) _ 8 0 _) $$ Bsh
  iintro Bsh
  ihave Bsh := (own_of_part (fun (y : S64x128.Idx) _ => show (y 0).val < 8 * (0 + 8) from (y 0).isLt)) $$ Bsh
  ihave Houts := (outs_apart EC R X T) $$ [Bouts Sout]
  · isplitl [Bouts]; · iexact Bouts
    iexact Sout
  iapply Hk $$ %_ %T
  · ipureintro; exact ⟨hm _, hTab⟩
  isplitr [Bsb Bsp Bp Sid Ssb Ssp]
  · isplitl [Hid]; · iexact Hid
    isplitl [Awd]; · iexact Awd
    isplitl [Bt Br Bsc Bsh]
    · isplitl [Bt]; · iexact Bt
      isplitl [Br]; · iexact Br
      isplitl [Bsc]; · iexact Bsc
      iexact Bsh
    isplitl [Hcells Hfree]
    · isplitl [Hcells]; · iexact Hcells
      have e10 : (bigSep (Finset.Ico 10 11) (fun n => Free R d n) : sProp (MT nD τ sig Unit (Elt F) ℕ U ℕ)) = Free R d (0 + 10) := BI.bigSep_Ico_one 10 _
      rw [← e10]
      iexact Hfree
    isplitl [Houts]; · iexact Houts
    isplitl [Aout]
    · rw [show todo 0 = Finset.univ from Finset.filter_true_of_mem fun _ _ => Nat.zero_le _]
      iexact Aout
    isplitr
    · unfold Done
      rw [show before (0 - 2) = ∅ from Finset.filter_eq_empty_iff.2 fun y _ => Nat.not_lt_zero _]
      iapply own_empty
    iexact HO
  isplitl [Bsb]; · iapply any_of; iexact Bsb
  isplitl [Bsp]; · iapply any_of; iexact Bsp
  isplitl [Bp]; · iapply any_of; iexact Bp
  isplitl [Sid]; · iexact Sid
  isplitl [Ssb]; · iexact Ssb
  iexact Ssp

theorem wp_waitOutN (T : S16000x128.Idx → Elt F .i32) (w : BitVec 32) (hw : w.toNat < 32) (n : ℕ) (e : w.toNat = n) (K : P F α) (hN : 0 < R.outCredit) :
    iprop(OutFlight EC R X T d n 1 ∗ Ows d)
      ⊢ iprop((iprop(OutFree R d n ∗ Own d R.out (chunkSet n) fullShare (X.resAt T) ∗ Ows d) -∗ Wp defs 𝒱 bd d K Q) -∗ Wp defs 𝒱 bd d (waitOut R w hw K) Q) := by
  subst e; exact wp_waitOut EC R X T w hw K hN

/-- What the last step leaves. -/
theorem state_done (T : S16000x128.Idx → Elt F .i32) : (State EC R X T d 32 : sProp (MT nD τ sig Unit (Elt F) ℕ U ℕ))
    ⊢ iprop(Ids R X d ∗ Bufs R d ∗ bigSep (Finset.Ico 0 11) (fun n => Free R d n) ∗ OutFlight EC R X T d 30 1 ∗ OutFlight EC R X T d 31 1 ∗ Own d R.out (before 30) fullShare (X.resAt T) ∗ Ows d) := by
  have e0 : (OutCell EC R X T d 32 : sProp (MT nD τ sig Unit (Elt F) ℕ U ℕ)) = OutFlight EC R X T d 30 1 := if_pos (by omega)
  have e1 : (OutCell EC R X T d (32 + 1) : sProp (MT nD τ sig Unit (Elt F) ℕ U ℕ)) = OutFlight EC R X T d 31 1 := if_pos (by omega)
  unfold State
  iintro ⟨H1, -, ⟨Ht, Hr, Hsc, Hsh⟩, H4, ⟨H5, H6⟩, -, H7, HO⟩
  isplitl [H1]; · iexact H1
  isplitl [Ht Hr Hsc Hsh]
  · isplitl [Ht]; · iapply any_of; iexact Ht
    isplitl [Hr]; · iexact Hr
    isplitl [Hsc]; · iapply any_of; iexact Hsc
    iapply any_of; iexact Hsh
  isplitl [H4]; · iapply (ring_done EC R X); iexact H4
  isplitl [H5]; · rw [← e0]; iexact H5
  isplitl [H6]; · rw [← e1]; iexact H6
  isplitl [H7]; · iexact H7
  iexact HO

include EC in
/-- THE KERNEL: at any contents whose ids name vocabulary entries it comes to its end, its buffers returned and its semaphores at zero, the result the one its chunks' blocks make. -/
theorem wp_kernel {Q : PUnit → sProp (MT nD τ sig Unit (Elt F) ℕ U ℕ)} (hX : X.Ok) (hR : R.Counts) :
    iprop(Arrays R X d ∗ All d R.idw ∗ Scratch R d ∗ Sems R d ∗ Ows d)
      ⊢ iprop((∀ T, ⌜X.TabOk T⌝ -∗ iprop(All d R.idw ∗ Scratch R d ∗ Sems R d ∗ Own d R.out Finset.univ fullShare (X.resAt T) ∗ Ows d) -∗ Q ⟨⟩)
        -∗ Wp defs 𝒱 bd d (kernelP R (body1 R) (body2 R) (body3 R) (body4 R) : P F PUnit) Q) := by
  unfold kernelP
  iintro H Hk
  iapply (wp_prologue EC R X hX hR _) $$ H
  iintro %mx %T %hmT ⟨HS, Bsb, Bsp, Bp, Sid, Ssb, Ssp⟩
  obtain ⟨hm, hT⟩ := hmT
  iapply (wp_loop k0_t3_loop k0_t3_ok mx (body3 R) 22 t3_trips (fun n mx => iprop(⌜MxOk (X.prodAt T 0) 0 0 mx⌝ ∗ State EC R X T d n))
    (fun k hk mx => by
      iintro ⟨%hm, H⟩
      unfold body3
      iapply (wp_ahead EC R X T hX hR _ _ _ _ k.val (w1_val ⟨k.val, by omega⟩) (w1_add ⟨k.val, hk⟩) mx hm)
      iexact H)) $$ [HS]
  · isplitr
    · ipureintro; exact hm
    iexact HS
  iintro %mx ⟨%hm, HS⟩
  iapply (wp_loop k0_t4_loop k0_t4_ok mx (body4 R) 10 t4_trips (fun n mx => iprop(⌜MxOk (X.prodAt T 0) 0 0 mx⌝ ∗ State EC R X T d (22 + n)))
    (fun k hk mx => by
      iintro ⟨%hm, H⟩
      unfold body4
      iapply (wp_last EC R X T hX hR _ _ (22 + k.val) (w4_val ⟨k.val, hk⟩) (by omega) mx hm)
      iexact H)) $$ [HS]
  · isplitr
    · ipureintro; exact hm
    iexact HS
  iintro %mx ⟨%hm, HS⟩
  ihave HS' := (state_done EC R X T) $$ HS
  icases HS' with ⟨H1, H3, Hring, H5, H6, H7, HO⟩
  iapply (wp_waitOutN EC R X T 30#32 _ 30 rfl _ hR.out) $$ [H5 HO]
  · isplitl [H5]; · iexact H5
    iexact HO
  iintro ⟨H5, H8, HO⟩
  ihave H7 := (own_join (before_disjoint 30)) $$ [H7 H8]
  · isplitl [H7]; · iexact H7
    iexact H8
  rw [before_succ]
  iapply (wp_waitOutN EC R X T 31#32 _ 31 rfl _ hR.out) $$ [H6 HO]
  · isplitl [H6]; · iexact H6
    iexact HO
  iintro ⟨H6, H8, HO⟩
  ihave H7 := (own_join (before_disjoint 31)) $$ [H7 H8]
  · isplitl [H7]; · iexact H7
    iexact H8
  rw [before_succ, before_all]
  iapply (Mxu.wp_exit hm.drained)
  ihave Hring' := (ring_together R) $$ Hring
  icases Hring' with ⟨Bring, Sring⟩
  ihave Houts := (outs_together R) $$ [H5 H6]
  · isplitl [H5]; · iexact H5
    iexact H6
  icases Houts with ⟨Bouts, Sout⟩
  iapply wp_done
  iapply Hk $$ %T %hT
  isplitl [H1]; · iapply any_of; iexact H1
  isplitl [Bsb Bsp H3 Bp Bring Bouts]
  · isplitl [Bsb]; · iexact Bsb
    isplitl [Bsp]; · iexact Bsp
    isplitl [H3]; · iexact H3
    isplitl [Bp]; · iexact Bp
    isplitl [Bring]; · iexact Bring
    iexact Bouts
  isplitl [Sid Ssb Ssp Sring Sout]
  · isplitl [Sid]; · iexact Sid
    isplitl [Ssb]; · iexact Ssb
    isplitl [Ssp]; · iexact Ssp
    isplitl [Sring]; · iexact Sring
    iexact Sout
  isplitl [H7]; · iexact H7
  iexact HO

end Cert.KernelIdeal.Lookup
-- ==== Proof.Ideal.Trips.lean ====
/-
  The printed trips of the two main loops are the structured step, at every trip number.
-/
module
public import proofs.«01_k».proof.Proof.Ideal.Body
public import Mathlib.Tactic.IntervalCases
@[expose] public section
noncomputable section
namespace Cert.KernelIdeal.Lookup
open Cert.KernelIdeal
open Idealize.ShloMosaic Idealize.ShloMosaic.TcCoe Idealize.ShloMosaic.Tactic
open Idealize.SL Idealize.SL.Sem
open Shapes1.Facts₀ K0.Facts₀
variable {F : FTy → Type} [FloatOps F]

variable (arg0 : Memref sig .tc .hbm S2x1024 .i32) (harg0 : arg0.IsWhole) (arg1 : Memref sig .tc .hbm S4000x2560 .i32) (harg1 : arg1.IsWhole) (arg2 : Memref sig .tc .hbm S160x16000 .i8) (harg2 : arg2.IsWhole) (arg3 : Memref sig .tc .hbm S20x16000 .i16) (harg3 : arg3.IsWhole) (arg4 : Memref sig .tc .hbm S2x1024x5120 .bf16) (harg4 : arg4.IsWhole) (arg5 : Memref sig .tc .smem S2048 .i32) (harg5 : arg5.IsWhole) (arg6 : Memref sig .tc .vmem S160x16000 .i8) (harg6 : arg6.IsWhole) (arg7 : Memref sig .tc .vmem S20x16000 .i16) (harg7 : arg7.IsWhole) (arg8 : Memref sig .tc .vmem S16000x128 .i32) (harg8 : arg8.IsWhole) (arg9 : Memref sig .tc .vmem S64x128 .i32) (harg9 : arg9.IsWhole) (arg10 : Memref sig .tc .vmem S20x64x128 .f32) (harg10 : arg10.IsWhole) (arg11 : Memref sig .tc .vmem S64x128 .i32) (harg11 : arg11.IsWhole) (arg12 : Memref sig .tc .vmem S256x256 .bf16) (harg12 : arg12.IsWhole) (arg13 : Memref sig .tc .vmem S11x64x2560 .i32) (harg13 : arg13.IsWhole) (arg14 : Memref sig .tc .vmem S2x64x5120 .bf16) (harg14 : arg14.IsWhole) (arg15 : DmaSems sig S3) (arg16 : DmaSems sig S11) (arg17 : DmaSems sig S2)

set_option maxRecDepth 65536 in
theorem t3_eq (m0 : Mxu F) (x0 x1 x2 x3 x4 x5 x6 x7 : IVec S8x128 32) (k : Fin k0_t3_loop.trips) (mx : Mxu F) :
    Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 m0 lane x0 x1 x2 x3 x4 x5 x6 x7 k mx = body3 ⟨arg0, arg1, arg2, arg3, arg4, arg5, arg6, arg7, arg8, arg9, arg10, arg11, arg12, arg13, arg14, arg15, arg16, arg17, harg2, harg3, harg4, harg6, harg7, harg12, harg14⟩ k mx := by
  obtain ⟨k, hk⟩ := k
  have hk' : k < 22 := t3_trips ▸ hk
  interval_cases k <;> sl_kernel_rfl

set_option maxRecDepth 65536 in
theorem t4_eq (m0 : Mxu F) (x0 x1 x2 x3 x4 x5 x6 x7 : IVec S8x128 32) (k : Fin k0_t4_loop.trips) (mx : Mxu F) :
    Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 m0 lane x0 x1 x2 x3 x4 x5 x6 x7 k mx = body4 ⟨arg0, arg1, arg2, arg3, arg4, arg5, arg6, arg7, arg8, arg9, arg10, arg11, arg12, arg13, arg14, arg15, arg16, arg17, harg2, harg3, harg4, harg6, harg7, harg12, harg14⟩ k mx := by
  obtain ⟨k, hk⟩ := k
  have hk' : k < 10 := t4_trips ▸ hk
  interval_cases k <;> sl_kernel_rfl

end Cert.KernelIdeal.Lookup
-- ==== Proof.Ideal.Root.lean ====
/-
  The printed kernel cut at its four loops, and its equality with the structured program.
-/
module
public import proofs.«01_k».proof.Proof.Ideal.Trips
public import Idealize.ShloMosaic.Lib.Tactic.OpenCalls
public import Idealize.ShloMosaic.Lib.Tactic.Stretches
@[expose] public section
noncomputable section
namespace Cert.KernelIdeal.Lookup
open Cert.KernelIdeal
open Idealize.ShloMosaic Idealize.ShloMosaic.TcCoe Idealize.ShloMosaic.Tactic
open Idealize.SL Idealize.SL.Sem
open Shapes1.Facts₀ K0.Facts₀
variable {F : FTy → Type} [FloatOps F]

set_option maxHeartbeats 0 in
set_option maxRecDepth 65536 in
open_calls opened := cc0_q4_lookup [k0_part417, k0_part418, k0_part309, k0_part312, k0_part416]

set_option maxHeartbeats 0 in
set_option maxRecDepth 65536 in
cut_chain seg := opened at 10, 15, 153, 154

variable (arg0 : Memref sig .tc .hbm S2x1024 .i32) (harg0 : arg0.IsWhole) (arg1 : Memref sig .tc .hbm S4000x2560 .i32) (harg1 : arg1.IsWhole) (arg2 : Memref sig .tc .hbm S160x16000 .i8) (harg2 : arg2.IsWhole) (arg3 : Memref sig .tc .hbm S20x16000 .i16) (harg3 : arg3.IsWhole) (arg4 : Memref sig .tc .hbm S2x1024x5120 .bf16) (harg4 : arg4.IsWhole) (arg5 : Memref sig .tc .smem S2048 .i32) (harg5 : arg5.IsWhole) (arg6 : Memref sig .tc .vmem S160x16000 .i8) (harg6 : arg6.IsWhole) (arg7 : Memref sig .tc .vmem S20x16000 .i16) (harg7 : arg7.IsWhole) (arg8 : Memref sig .tc .vmem S16000x128 .i32) (harg8 : arg8.IsWhole) (arg9 : Memref sig .tc .vmem S64x128 .i32) (harg9 : arg9.IsWhole) (arg10 : Memref sig .tc .vmem S20x64x128 .f32) (harg10 : arg10.IsWhole) (arg11 : Memref sig .tc .vmem S64x128 .i32) (harg11 : arg11.IsWhole) (arg12 : Memref sig .tc .vmem S256x256 .bf16) (harg12 : arg12.IsWhole) (arg13 : Memref sig .tc .vmem S11x64x2560 .i32) (harg13 : arg13.IsWhole) (arg14 : Memref sig .tc .vmem S2x64x5120 .bf16) (harg14 : arg14.IsWhole) (arg15 : DmaSems sig S3) (arg16 : DmaSems sig S11) (arg17 : DmaSems sig S2)

/-- The first scales, written after the table is built. -/
def firstScales {α : Type} (R : Refs) (K : P F α) : P F α :=
  narrow R 0#32 (by decide) fun w0 w1 w2 =>
  spreadAll R (fun g => part 0#32 (w0 g)) (fun g => part 128#32 (w1 g)) (storeShifts R (fun g => shiftOf (w2 g)) K 8 0 (by omega)) 20 0 (by omega)

set_option maxRecDepth 65536 in
theorem seg1_eq {α : Type} (κ : Mxu F → P F α) : seg1 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 κ =
    startIds ⟨arg0, arg1, arg2, arg3, arg4, arg5, arg6, arg7, arg8, arg9, arg10, arg11, arg12, arg13, arg14, arg15, arg16, arg17, harg2, harg3, harg4, harg6, harg7, harg12, harg14⟩ (.op (.enqueueDma arg2 (.here arg6) (.dma (Refs.subSem ⟨arg0, arg1, arg2, arg3, arg4, arg5, arg6, arg7, arg8, arg9, arg10, arg11, arg12, arg13, arg14, arg15, arg16, arg17, harg2, harg3, harg4, harg6, harg7, harg12, harg14⟩)) harg2.wordExact harg6.wordExact ⟨Or.inl rfl, trivial⟩) fun _ =>
     .op (.enqueueDma arg3 (.here arg7) (.dma (Refs.supSem ⟨arg0, arg1, arg2, arg3, arg4, arg5, arg6, arg7, arg8, arg9, arg10, arg11, arg12, arg13, arg14, arg15, arg16, arg17, harg2, harg3, harg4, harg6, harg7, harg12, harg14⟩)) harg3.wordExact harg7.wordExact ⟨Or.inl rfl, trivial⟩) fun _ =>
     waitIds ⟨arg0, arg1, arg2, arg3, arg4, arg5, arg6, arg7, arg8, arg9, arg10, arg11, arg12, arg13, arg14, arg15, arg16, arg17, harg2, harg3, harg4, harg6, harg7, harg12, harg14⟩ (Scf.Loop.for k0_t1_loop k0_t1_ok ⟨⟩ (body1 ⟨arg0, arg1, arg2, arg3, arg4, arg5, arg6, arg7, arg8, arg9, arg10, arg11, arg12, arg13, arg14, arg15, arg16, arg17, harg2, harg3, harg4, harg6, harg7, harg12, harg14⟩) >>= fun _ => κ Mxu.init) 16 0 (by omega)) 16 0 (by omega) := by sl_kernel_rfl

set_option maxRecDepth 65536 in
theorem seg2_eq {α : Type} (mx : Mxu F) (κ : Mxu F → FVec F S64x256 .bf16 → P F α) : seg2 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx κ =
    storePerm ⟨arg0, arg1, arg2, arg3, arg4, arg5, arg6, arg7, arg8, arg9, arg10, arg11, arg12, arg13, arg14, arg15, arg16, arg17, harg2, harg3, harg4, harg6, harg7, harg12, harg14⟩ (loadUnit ⟨arg0, arg1, arg2, arg3, arg4, arg5, arg6, arg7, arg8, arg9, arg10, arg11, arg12, arg13, arg14, arg15, arg16, arg17, harg2, harg3, harg4, harg6, harg7, harg12, harg14⟩ 0 mx fun mx =>
     .op (.load arg12 (Rect.unit (s := S256x256) ![0, 0] S256x256.size inb_S256x256_S256x256_0_0).toLoadRect (View.loadsAt_vmem h_S256x256)) fun p =>
     mx.pushRhs 1 0 false (p : Vec F S256x256 .bf16) >>= fun mx =>
     .op (.waitDma2 (Refs.subSem ⟨arg0, arg1, arg2, arg3, arg4, arg5, arg6, arg7, arg8, arg9, arg10, arg11, arg12, arg13, arg14, arg15, arg16, arg17, harg2, harg3, harg4, harg6, harg7, harg12, harg14⟩) arg2 arg6 harg2.wordExact harg6.wordExact) fun _ =>
     .op (.waitDma2 (Refs.supSem ⟨arg0, arg1, arg2, arg3, arg4, arg5, arg6, arg7, arg8, arg9, arg10, arg11, arg12, arg13, arg14, arg15, arg16, arg17, harg2, harg3, harg4, harg6, harg7, harg12, harg14⟩) arg3 arg7 harg3.wordExact harg7.wordExact) fun _ =>
     Scf.Loop.for k0_t2_loop k0_t2_ok ⟨⟩ (body2 ⟨arg0, arg1, arg2, arg3, arg4, arg5, arg6, arg7, arg8, arg9, arg10, arg11, arg12, arg13, arg14, arg15, arg16, arg17, harg2, harg3, harg4, harg6, harg7, harg12, harg14⟩) >>= fun _ => κ (mx.pop 1 0 64 fits_0_64) zeroLhs) := by sl_kernel_rfl

set_option maxRecDepth 65536 in
theorem seg3_eq {α : Type} (mx : Mxu F) (z : FVec F S64x256 .bf16) (κ : Mxu F → P F α) : seg3 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx z κ =
    firstScales ⟨arg0, arg1, arg2, arg3, arg4, arg5, arg6, arg7, arg8, arg9, arg10, arg11, arg12, arg13, arg14, arg15, arg16, arg17, harg2, harg3, harg4, harg6, harg7, harg12, harg14⟩ (Scf.Loop.for k0_t3_loop k0_t3_ok ((mx.accLhs 1 0 0 z fits_0_64).pop 1 0 64 fits_0_64) (Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 Mxu.init lane (fun _ => 0#32) (fun _ => 0#32) (fun _ => 0#32) (fun _ => 0#32) (fun _ => 0#32) (fun _ => 0#32) (fun _ => 0#32) (fun _ => 0#32)) >>= κ) := by sl_kernel_rfl

set_option maxRecDepth 65536 in
theorem seg4_eq {α : Type} (mx : Mxu F) (κ : Mxu F → P F α) : seg4 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx κ =
    Scf.Loop.for k0_t4_loop k0_t4_ok mx (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 Mxu.init lane (fun _ => 0#32) (fun _ => 0#32) (fun _ => 0#32) (fun _ => 0#32) (fun _ => 0#32) (fun _ => 0#32) (fun _ => 0#32) (fun _ => 0#32)) >>= κ := by sl_kernel_rfl

set_option maxRecDepth 65536 in
theorem last_eq (mx : Mxu F) : seg4.tail arg4 harg4 arg14 harg14 arg17 mx =
    waitOut ⟨arg0, arg1, arg2, arg3, arg4, arg5, arg6, arg7, arg8, arg9, arg10, arg11, arg12, arg13, arg14, arg15, arg16, arg17, harg2, harg3, harg4, harg6, harg7, harg12, harg14⟩ 30#32 (by decide) (waitOut ⟨arg0, arg1, arg2, arg3, arg4, arg5, arg6, arg7, arg8, arg9, arg10, arg11, arg12, arg13, arg14, arg15, arg16, arg17, harg2, harg3, harg4, harg6, harg7, harg12, harg14⟩ 31#32 (by decide) (mx.exit >>= fun _ => .ret ⟨⟩)) := by sl_kernel_rfl

/-- The printed kernel is the structured program. -/
theorem root_eq : cc0_q4_lookup (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 = kernelP ⟨arg0, arg1, arg2, arg3, arg4, arg5, arg6, arg7, arg8, arg9, arg10, arg11, arg12, arg13, arg14, arg15, arg16, arg17, harg2, harg3, harg4, harg6, harg7, harg12, harg14⟩ (body1 ⟨arg0, arg1, arg2, arg3, arg4, arg5, arg6, arg7, arg8, arg9, arg10, arg11, arg12, arg13, arg14, arg15, arg16, arg17, harg2, harg3, harg4, harg6, harg7, harg12, harg14⟩) (body2 ⟨arg0, arg1, arg2, arg3, arg4, arg5, arg6, arg7, arg8, arg9, arg10, arg11, arg12, arg13, arg14, arg15, arg16, arg17, harg2, harg3, harg4, harg6, harg7, harg12, harg14⟩) (body3 ⟨arg0, arg1, arg2, arg3, arg4, arg5, arg6, arg7, arg8, arg9, arg10, arg11, arg12, arg13, arg14, arg15, arg16, arg17, harg2, harg3, harg4, harg6, harg7, harg12, harg14⟩) (body4 ⟨arg0, arg1, arg2, arg3, arg4, arg5, arg6, arg7, arg8, arg9, arg10, arg11, arg12, arg13, arg14, arg15, arg16, arg17, harg2, harg3, harg4, harg6, harg7, harg12, harg14⟩) := by
  have e3 : (Gen.k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 Mxu.init lane (fun _ => 0#32) (fun _ => 0#32) (fun _ => 0#32) (fun _ => 0#32) (fun _ => 0#32) (fun _ => 0#32) (fun _ => 0#32) (fun _ => 0#32)) = body3 ⟨arg0, arg1, arg2, arg3, arg4, arg5, arg6, arg7, arg8, arg9, arg10, arg11, arg12, arg13, arg14, arg15, arg16, arg17, harg2, harg3, harg4, harg6, harg7, harg12, harg14⟩ := funext fun k => funext fun mx => t3_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 _ _ _ _ _ _ _ _ _ k mx
  have e4 : (Gen.k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 Mxu.init lane (fun _ => 0#32) (fun _ => 0#32) (fun _ => 0#32) (fun _ => 0#32) (fun _ => 0#32) (fun _ => 0#32) (fun _ => 0#32) (fun _ => 0#32)) = body4 ⟨arg0, arg1, arg2, arg3, arg4, arg5, arg6, arg7, arg8, arg9, arg10, arg11, arg12, arg13, arg14, arg15, arg16, arg17, harg2, harg3, harg4, harg6, harg7, harg12, harg14⟩ := funext fun k => funext fun mx => t4_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 _ _ _ _ _ _ _ _ _ k mx
  have h5 := fun mx => (seg4.eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx).trans (seg4_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx _)
  simp only [last_eq arg0 arg1 arg2 harg2 arg3 harg3 arg4 harg4 arg5 arg6 harg6 arg7 harg7 arg8 arg9 arg10 arg11 arg12 harg12 arg13 arg14 harg14 arg15 arg16 arg17, e4] at h5
  have h3 := fun mx z => (seg3.eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx z).trans (seg3_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx z _)
  simp only [h5, e3] at h3
  have h2 := fun mx => (seg2.eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx).trans (seg2_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 mx _)
  simp only [h3] at h2
  have h1 := (seg1.eq (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17).trans (seg1_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17 _)
  simp only [h2] at h1
  exact (opened.eq_at (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 arg16 arg17).trans (h1.trans (by sl_kernel_rfl))

end Cert.KernelIdeal.Lookup
-- ==== Proof.Ideal.Launch.lean ====
/- The run of the whole program: the host's rearrangements, then the kernel on whole buffers, given the ids name vocabulary entries. -/
module
public import proofs.«01_k».proof.Proof.Ideal.Whole
public import proofs.«01_k».proof.Proof.Ideal.Root
public import proofs.«01_k».proof.Proof.Gen.KernelIdeal.Frame
public import Idealize.ShloMosaic.Lib.Pipeline.KitQuiescent
public import Idealize.ShloMosaic.Lib.ReduceAll
@[expose] public section
noncomputable section
namespace Cert.KernelIdeal.Lookup
open Cert.KernelIdeal Cert.Lookup
open Idealize.ShloMosaic Idealize.ShloMosaic.TcCoe Idealize.ShloMosaic.Tactic Idealize.ShloMosaic.ValueIdx
open Idealize.SL
open Idealize.SL.BI (sProp bigSep Storable)
open scoped Idealize.SL.BI
open Idealize.SL.BI.BIBase Idealize.SL.BI.Laws Idealize.SL.Sem Idealize.SL.ProofMode
open Idealize.SL.RA
open Shapes1.Facts₀ K0.Facts₀
open Idealize.ShloMosaic.Pipeline (Dat BodyObligation)
open Cert.KernelIdeal.Gen
open Idealize.ShloMosaic.Rounds
variable {F : FTy → Type} [FloatOps F]

/-! ## The kernel's buffers as the program gives them -/

/-- The program's operands and the kernel's own buffers and semaphores. -/
abbrev R₀ : Refs where
  ids := Memref.whole main_arg0
  words := Memref.whole main_v2
  subT := Memref.whole main_v3
  supT := Memref.whole main_v4
  out := Memref.whole main_v5
  idw := Memref.whole cc0_scratch0
  sub := Memref.whole cc0_scratch1
  sup := Memref.whole cc0_scratch2
  table := Memref.whole cc0_scratch3
  rows := Memref.whole cc0_scratch4
  scale := Memref.whole cc0_scratch5
  shift := Memref.whole cc0_scratch6
  perm := Memref.whole cc0_scratch7
  ring := Memref.whole cc0_scratch8
  outs := Memref.whole cc0_scratch9
  semIn := cc0_scratch10
  semRing := cc0_scratch11
  semOut := cc0_scratch12
  hsubT := Memref.isWhole_whole _
  hsupT := Memref.isWhole_whole _
  hout := Memref.isWhole_whole _
  hsub := Memref.isWhole_whole _
  hsup := Memref.isWhole_whole _
  hperm := Memref.isWhole_whole _
  houts := Memref.isWhole_whole _

theorem counts₀ : R₀.Counts where
  row := by decide
  slot := by decide
  out := by decide
  ids := by decide
  sub := by decide
  sup := by decide

/-- The pipeline's rounds, and beside them the counters of the kernel's own copies. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- A whole buffer, owned, is its reference owned whole. -/
theorem own_of_whole (d : Dev nD) (b : Ref sig .tc) (q : PosShare TreeShare) (f : Buf (Elt F) ((d : Thread nD τ).loc b)) :
    ((d : Thread nD τ).loc b ↦{q} f : sProp 𝕄) ⊢ Own d (Memref.whole b) Finset.univ q f := by
  unfold Own
  iintro H
  iexists f
  isplitr; · ipureintro; exact fun _ _ => rfl
  rw [show (Memref.whole b).view.setOn Finset.univ = Finset.univ from View.setOn_whole_univ b]
  iexact H

theorem any_of_whole (d : Dev nD) (b : Ref sig .tc) :
    (iprop(∃ f : Buf (Elt F) ((d : Thread nD τ).loc b), (d : Thread nD τ).loc b ↦{fullShare} f) : sProp 𝕄) ⊢ Any d (Memref.whole b) Finset.univ := by
  iintro ⟨%f, H⟩
  iapply any_of
  iapply (own_of_whole d b fullShare f) $$ H

theorem whole_of_any (d : Dev nD) (b : Ref sig .tc) :
    (Any d (Memref.whole b) Finset.univ : sProp 𝕄) ⊢ iprop(∃ f : Buf (Elt F) ((d : Thread nD τ).loc b), (d : Thread nD τ).loc b ↦{fullShare} f) := by
  unfold Any Own
  rw [show (Memref.whole b).view.setOn Finset.univ = Finset.univ from View.setOn_whole_univ b]
  iintro ⟨%g, %f, -, H⟩
  iexists f
  iexact H

/-! ## Its semaphores -/

/-- The kernel's own semaphores: the three of its loads, the ring's eleven and the two of its results. -/
abbrev osem : Fin 16 → SemLoc sig := fun i =>
  if i.val = 0 then .dma R₀.idSem else if i.val = 1 then .dma R₀.subSem else if i.val = 2 then .dma R₀.supSem
  else if i.val < 14 then .dma (R₀.ringSem (i.val - 3)) else .dma (R₀.outSemN (i.val - 14))
theorem ownSemFacts : Pipeline.OwnSemFacts (cfgs 0).spec osem := by decide

/-- One of them at zero. -/
abbrev SV (c : Dev nD) (i : Fin 16) : sProp (MT nD τ sig Unit (Elt F) ℕ (UU nD τ) ℕ) := semVal ((c : Thread nD τ), osem i) 0

theorem ring_sems (c : Dev nD) : (RingSems R₀ c : sProp 𝕄) = iprop(SV c 3 ∗ SV c 4 ∗ SV c 5 ∗ SV c 6 ∗ SV c 7 ∗ SV c 8 ∗ SV c 9 ∗ SV c 10 ∗ SV c 11 ∗ SV c 12 ∗ SV c 13) :=
  (congrArg (fun S => bigSep S fun n => semVal ((c : Thread nD τ), SemLoc.dma (R₀.ringSem n)) 0) (show Finset.Ico 0 11 = [0, 1, 2, 3, 4, 5, 6, 7, 8, 9, 10].toFinset by decide)).trans
    (BI.bigSep_eq_bigSepL _ (by decide) _)
theorem own_sems (c : Dev nD) : (Pipeline.ownSems0 (Ix := Unit) (Name := ℕ) (U := UU nD τ) (Lvl := ℕ) (Val := Elt F) (τ := τ) osem c : sProp 𝕄)
    = iprop(SV c 0 ∗ SV c 1 ∗ SV c 2 ∗ SV c 3 ∗ SV c 4 ∗ SV c 5 ∗ SV c 6 ∗ SV c 7 ∗ SV c 8 ∗ SV c 9 ∗ SV c 10 ∗ SV c 11 ∗ SV c 12 ∗ SV c 13 ∗ SV c 14 ∗ SV c 15) :=
  Pipeline.ownSems0_eq_of_list c osem [0, 1, 2, 3, 4, 5, 6, 7, 8, 9, 10, 11, 12, 13, 14, 15] (by decide) (by decide)

theorem sems_of_own (c : Dev nD) : (Pipeline.ownSems0 (Ix := Unit) (Name := ℕ) (U := UU nD τ) (Lvl := ℕ) (Val := Elt F) (τ := τ) osem c : sProp 𝕄) ⊢ Sems R₀ c := by
  unfold Sems
  rw [own_sems, ring_sems]
  iintro ⟨H0, H1, H2, H3, H4, H5, H6, H7, H8, H9, HA, HB, HC, HD, HE, HF⟩
  isplitl [H0]; · iexact H0
  isplitl [H1]; · iexact H1
  isplitl [H2]; · iexact H2
  isplitr [HE HF]
  · isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HB]; · iexact HB
    isplitl [HC]; · iexact HC
    iexact HD
  isplitl [HE]; · iexact HE
  iexact HF

theorem own_of_sems (c : Dev nD) : (Sems R₀ c : sProp 𝕄) ⊢ Pipeline.ownSems0 (Ix := Unit) (Name := ℕ) (U := UU nD τ) (Lvl := ℕ) (Val := Elt F) (τ := τ) osem c := by
  unfold Sems
  rw [own_sems, ring_sems]
  iintro ⟨H0, H1, H2, ⟨H3, H4, H5, H6, H7, H8, H9, HA, HB, HC, HD⟩, HE, HF⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  isplitl [HC]; · iexact HC
  isplitl [HD]; · iexact HD
  isplitl [HE]; · iexact HE
  iexact HF

/-! ## Its own buffers -/

theorem scratch_of_rest (c : Dev nD) : (Pipeline.scopedRest (Ix := Unit) (Name := ℕ) (U := UU nD τ) (Lvl := ℕ) (Val := Elt F) cfg0.spec c : sProp 𝕄)
    ⊢ iprop(All c R₀.idw ∗ Scratch R₀ c) := by
  rw [scopedRest0_eq]
  iintro ⟨H1, H2, H3, H4, H5, H6, H7, H8, H9, H0⟩
  isplitl [H0]; · iapply (any_of_whole c cc0_scratch0); iexact H0
  isplitl [H1]; · iapply (any_of_whole c cc0_scratch1); iexact H1
  isplitl [H2]; · iapply (any_of_whole c cc0_scratch2); iexact H2
  isplitl [H3 H4 H5 H6]
  · isplitl [H3]; · iapply (any_of_whole c cc0_scratch3); iexact H3
    isplitl [H4]; · iapply (any_of_whole c cc0_scratch4); iexact H4
    isplitl [H5]; · iapply (any_of_whole c cc0_scratch5); iexact H5
    iapply (any_of_whole c cc0_scratch6); iexact H6
  isplitl [H7]; · iapply (any_of_whole c cc0_scratch7); iexact H7
  isplitl [H8]; · iapply (any_of_whole c cc0_scratch8); iexact H8
  iapply (any_of_whole c cc0_scratch9); iexact H9

theorem rest_of_scratch (c : Dev nD) : (iprop(All c R₀.idw ∗ Scratch R₀ c) : sProp 𝕄)
    ⊢ Pipeline.scopedRest (Ix := Unit) (Name := ℕ) (U := UU nD τ) (Lvl := ℕ) (Val := Elt F) cfg0.spec c := by
  rw [scopedRest0_eq]
  iintro ⟨H0, H1, H2, ⟨H3, H4, H5, H6⟩, H7, H8, H9⟩
  isplitl [H1]; · iapply (whole_of_any c cc0_scratch1); iexact H1
  isplitl [H2]; · iapply (whole_of_any c cc0_scratch2); iexact H2
  isplitl [H3]; · iapply (whole_of_any c cc0_scratch3); iexact H3
  isplitl [H4]; · iapply (whole_of_any c cc0_scratch4); iexact H4
  isplitl [H5]; · iapply (whole_of_any c cc0_scratch5); iexact H5
  isplitl [H6]; · iapply (whole_of_any c cc0_scratch6); iexact H6
  isplitl [H7]; · iapply (whole_of_any c cc0_scratch7); iexact H7
  isplitl [H8]; · iapply (whole_of_any c cc0_scratch8); iexact H8
  isplitl [H9]; · iapply (whole_of_any c cc0_scratch9); iexact H9
  iapply (whole_of_any c cc0_scratch0); iexact H0

/-! ## The arrays -/

variable (m : (ℓ : Loc nD τ sig) → Buf (Elt F) ℓ) (ρ : Dev nD → PrngReg)

/-- Every id names a vocabulary entry. -/
def IdsOk : Prop := ∀ (c : Dev nD) (y : S2x1024.Idx), ((m ((c : Thread nD τ).loc main_arg0) y : BitVec 32)).toNat < 16000

/-- What the kernel is given: the ids, the code words and the scales. -/
def inp (c : Dev nD) : Inp F where
  ids := V m c main_arg0
  words := V m c main_v2
  sub := V m c main_v3
  sup := V m c main_v4

theorem inp_ok (h : IdsOk m) (c : Dev nD) : (inp m c).Ok := by
  intro i
  show ((V m c main_arg0 _ : BitVec 32)).toNat < 16000
  rw [V_main_arg0]
  exact h c _

/-- Before the kernel: the arrays it reads, the result's, its buffers and its semaphores. -/
def entry (c : Dev nD) : sProp 𝕄 :=
  iprop(Arrays R₀ (inp m c) c ∗ All c R₀.idw ∗ Scratch R₀ c ∗ Sems R₀ c)
/-- The result in its array. -/
def Result (c : Dev nD) : sProp 𝕄 := iprop(∃ T, ⌜(inp m c).TabOk T⌝ ∗ Own c R₀.out Finset.univ fullShare ((inp m c).resAt T))
/-- After it: its buffers, its semaphores and the result. -/
def done (c : Dev nD) : sProp 𝕄 := iprop(All c R₀.idw ∗ Scratch R₀ c ∗ Sems R₀ c ∗ Result m c)

def dats (_ : Fin 1) (c : Dev nD) : Dat τ (Elt F) Unit ℕ (UU nD τ) ℕ cfg0 c where
  A := fun w => w.elim0
  after := fun w => w.elim0
  Φ := fun t => if t.val = 0 then entry m c else done m c
  q := fun _ => fullShare
  owed := fun _ => 0

theorem dats_at (c : Dev nD) (t : Fin (cfg0.N + 1)) : (dats m 0 c).Φ t = if t.val = 0 then entry m c else done m c := rfl
theorem dats_entry (c : Dev nD) (t : Fin (cfg0.N + 1)) (h : t.val = 0) : (dats m 0 c).Φ t = entry m c := (dats_at m c t).trans (if_pos h)
theorem dats_done (c : Dev nD) (t : Fin (cfg0.N + 1)) (h : t.val ≠ 0) : (dats m 0 c).Φ t = done m c := (dats_at m c t).trans (if_neg h)

theorem body_obligation (h : IdsOk m) (c : Dev nD) : BodyObligation (dats m 0 c) (defs₀ (F := F)) 𝒱₀ () Set.univ := fun t => by
  obtain rfl := fin_N0 t
  rw [dats_entry m c (Fin.castSucc t0_0) rfl, dats_done m c (Fin.succ t0_0) (by decide)]
  unfold Dat.owesAt Pipeline.owesWithin
  rw [show (dats m 0 c).owed (Fin.castSucc t0_0) = 0 from rfl, show (dats m 0 c).owed (Fin.succ t0_0) = 0 from rfl]
  unfold entry done
  iintro ⟨⟨HA, HI, HC, HS⟩, ⟨%W, -, HW⟩, HN⟩
  have e : (defs₀ (F := F)) .tc cfg0.body (cfg0.bodyArgs t0_0 (cfg0.slots t0_0)) = kernelP R₀ (body1 R₀) (body2 R₀) (body3 R₀) (body4 R₀) :=
    (show _ = cc0_q4_lookup (F := F) (Memref.whole main_arg0) _ _ _ _ _ _ _ _ _ _ _ _ _ _ _ _ _ _ _ _ _ _ _ _ _ _ _ _ _ _ _ _ from rfl).trans (root_eq ..)
  sl_rw [e]
  iapply (wp_kernel countersEmb R₀ (inp m c) (inp_ok m h c) counts₀) $$ [HA HI HC HS HW]
  · isplitl [HA]; · iexact HA
    isplitl [HI]; · iexact HI
    isplitl [HC]; · iexact HC
    isplitl [HS]; · iexact HS
    iexists W; iexact HW
  iintro %T %hT ⟨HI, HC, HS, HR, ⟨%W', HW⟩⟩
  isplitl [HI HC HS HR]
  · isplitl [HI]; · iexact HI
    isplitl [HC]; · iexact HC
    isplitl [HS]; · iexact HS
    unfold Result
    iexists T
    isplitr; · ipureintro; exact hT
    iexact HR
  isplitl [HW]
  · iexists W'; isplitr; · ipureintro; exact fun _ _ => Or.inl trivial
    iexact HW
  iexact HN

/-! ## The run -/

/-- The arguments kept aside while the kernel runs. -/
def kept (c : Dev nD) : sProp 𝕄 :=
  iprop((∃ q, ((c : Thread nD τ).loc main_arg0) ↦{q} V m c main_arg0) ∗ (((c : Thread nD τ).loc main_arg1) ↦{fullShare} V m c main_arg1)
    ∗ (((c : Thread nD τ).loc main_arg2) ↦{fullShare} V m c main_arg2) ∗ (((c : Thread nD τ).loc main_arg3) ↦{fullShare} V m c main_arg3))
/-- What the kernel is given of the program's. -/
def given (c : Dev nD) : sProp 𝕄 := iprop(Arrays R₀ (inp m c) c ∗ Sems R₀ c)
def u₀ : UU nD τ := (initOf (Pipeline.cells cfgs cellOf_inj) (Pipeline.launchToks cfgs cellOf_inj), 1)

/-- The arguments as they were. -/
def Kept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_arg2) = m ((c : Thread nD τ).loc main_arg2) ∧ s.mem ((c : Thread nD τ).loc main_arg3) = m ((c : Thread nD τ).loc main_arg3)

/-- The result as the kernel forms it. -/
def Formed (c : Dev nD) (s : MemSt nD τ sig (Elt F)) : Prop :=
  ∃ T, (inp m c).TabOk T ∧ s.mem ((c : Thread nD τ).loc main_v5) = (inp m c).resAt T

theorem read_of_whole (d : Dev nD) (b : Ref sig .tc) (q : PosShare TreeShare) (f : Buf (Elt F) ((d : Thread nD τ).loc b)) :
    ((d : Thread nD τ).loc b ↦{q} f : sProp 𝕄) ⊢ Read d (Memref.whole b) f := by
  unfold Read
  iintro H
  iexists q
  iapply (own_of_whole d b q f); iexact H

theorem apart (c : Dev nD) : (iprop(Pipeline.unscopedRest cfg0.spec c (V m c) ∗ Pipeline.ownSems0 osem c) : sProp 𝕄) ⊢ iprop(given m c ∗ kept m c) := by
  rw [unscopedRest0_eq]
  unfold given kept
  iintro ⟨⟨A0, A1, A2, A3, -, -, B2, B3, B4, B5⟩, HS⟩
  ihave A0' := (pointsTo_share (PosShare.mem_left_op_right fullShare)).1 $$ A0
  icases A0' with ⟨A0, A0'⟩
  isplitr [A0' A1 A2 A3]
  · isplitr [HS]
    · isplitl [A0]; · iapply (read_of_whole c main_arg0); iexact A0
      isplitl [B2]; · iapply (read_of_whole c main_v2); iexact B2
      isplitl [B3]; · iapply (read_of_whole c main_v3); iexact B3
      isplitl [B4]; · iapply (read_of_whole c main_v4); iexact B4
      iapply (any_of_whole c main_v5); iexists _; iexact B5
    iapply (sems_of_own c); iexact HS
  isplitl [A0']; · iexists _; iexact A0'
  isplitl [A1]; · iexact A1
  isplitl [A2]; · iexact A2
  iexact A3

set_option backward.isDefEq.respectTransparency.types false in
theorem run_main (h : IdsOk m) : θ_run defs (onTc (τ := τ) (main (F := F))) ⟨m, fun _ => 0, ρ⟩ (fun r => (∀ c, Kept m c r.2 ∧ Formed m c r.2) ∧ r.2.sem = fun _ => 0) :=
  Pipeline.θ_run_region_kit_quiescent cfgs (dats m) () (0 : Fin 1) launch0 ownSemFacts EP defs₀ 𝒱₀ m ρ main
    (hbody := fun c => (body_obligation m h c).loose) (hshare := fun c => (dats m 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m)
    (hmain := Pipeline.hmain_prefix cfgs 0 defs₀ 𝒱₀ m main hostOps0 hostOps0_sub hostOps0_fresh main_chain)
    (hA := fun _ w => w.elim0)
    (X := given m) (Y := Result m) (Z := kept m)
    (hX := fun c => by
      iintro ⟨H0, HS, -, -, -⟩; imodintro
      iapply (apart m c)
      isplitl [H0]; · iexact H0
      iexact HS)
    (hin := fun c => by
      rw [dats_entry m c 0 rfl]
      unfold given entry
      iintro ⟨⟨HA, HS⟩, HC⟩
      ihave HC' := (scratch_of_rest c) $$ HC
      icases HC' with ⟨HI, HC⟩
      isplitl [HA]; · iexact HA
      isplitl [HI]; · iexact HI
      isplitl [HC]; · iexact HC
      iexact HS)
    (hout := fun c => by
      rw [dats_done m c (Fin.last cfg0.N) (by decide)]
      unfold done
      iintro ⟨HI, HC, HS, HR⟩
      isplitl [HR]; · iexact HR
      isplitl [HS]; · iapply (own_of_sems c); iexact HS
      iapply (rest_of_scratch c)
      isplitl [HI]; · iexact HI
      iexact HC)
    (QY := fun c s => Kept m c s ∧ Formed m c s)
    (hY := fun c s' => by
      unfold kept Kept Result Own
      rw [show (R₀.out).view.setOn Finset.univ = Finset.univ from View.setOn_whole_univ main_v5]
      rw [V_main_arg0, V_main_arg1, V_main_arg2, V_main_arg3]
      iintro ⟨⟨%T, %hT, %f, %hf, H4⟩, ⟨⟨%q, H0⟩, H1, H2, H3⟩, HSI⟩
      icombine HSI H0 gives %h0
      icombine HSI H1 gives %h1
      icombine HSI H2 gives %h2
      icombine HSI H3 gives %h3
      icombine HSI H4 gives %h4
      imodintro
      isplitr; · ipureintro; exact ⟨⟨Buf.eq_of_forall_mem_univ h0, Buf.eq_of_forall_mem_univ h1, Buf.eq_of_forall_mem_univ h2, Buf.eq_of_forall_mem_univ h3⟩,
        T, hT, (Buf.eq_of_forall_mem_univ h4).trans (funext fun y => hf y (Finset.mem_univ y))⟩
      iexact HSI)
    (hQ := fun _ hh hz => ⟨fun c => (hh c).2, hz⟩)

end Cert.KernelIdeal.Lookup
end
-- ==== Proof.Ideal.Frame.lean ====
/- The kernel's program runs, leaves its arguments and ends with its semaphores at zero. -/
module
public import proofs.«01_k».proof.Proof.Words
public import proofs.«01_k».proof.Proof.Ideal.Launch
@[expose] public section
noncomputable section
namespace Cert.KernelIdeal.Lookup
open Idealize.ShloMosaic Idealize.SL.Sem

theorem frame [Cert.Pre_pre.Facts] : Cert.quiescent_KernelIdeal := fun m ρ hpre =>
  (θ_run _ _ _).mono (fun _ h => ⟨fun c => (h.1 c).1, h.2⟩) (run_main m ρ fun c y => Cert.Lookup.ids_of_pre (hpre c) y)

end Cert.KernelIdeal.Lookup
end
-- ==== Proof.Rows.lean ====
/-
  A host gather of whole rows, read at an index.
-/
module
public import Idealize.ShloMosaic.Lib.ValueIdxCore
@[expose] public section
noncomputable section
namespace Cert.Lookup
open Idealize.ShloMosaic Idealize.ShloMosaic.ValueIdx
variable {α : Type}

/-- Rows `idx[b, s, 0]` of an `N × C` array. -/
abbrev rowsDims (N C B S : ℕ) (wf : GatherDims.WF ⟨2, ![N, C]⟩ ⟨3, ![B, S, 1]⟩ ⟨3, ![B, S, C]⟩ [2] [0] [] [0] [] 2 ![1, C]) :
    GatherDims ⟨2, ![N, C]⟩ ⟨3, ![B, S, 1]⟩ ⟨3, ![B, S, C]⟩ where
  offsetDims := [2]
  collapsedSliceDims := [0]
  operandBatchingDims := []
  startIndicesBatchingDims := []
  startIndexMap := [0]
  indexVectorDim := 2
  sliceSizes := ![1, C]
  wf := wf

theorem gather_rows_apply {N C B S w : ℕ} (hN : 0 < N)
    (wf : GatherDims.WF ⟨2, ![N, C]⟩ ⟨3, ![B, S, 1]⟩ ⟨3, ![B, S, C]⟩ [2] [0] [] [0] [] 2 ![1, C])
    (x : (⟨2, ![N, C]⟩ : Shape).Idx → α) (idx : IVec ⟨3, ![B, S, 1]⟩ w) (b : Fin B) (s : Fin S) (c : Fin C) :
    Host.gather (rowsDims N C B S wf) x idx (ix3 b s c) = x (ix2 ⟨min (idx (ix3 b s 0)).toInt.toNat (N - 1), by omega⟩ c) := by
  unfold Host.gather
  congr 1
  funext a
  refine Fin.ext ?_
  show (rowsDims N C B S wf).start (ix3 b s c) idx a + (rowsDims N C B S wf).batchCoord (ix3 b s c) a
      + (rowsDims N C B S wf).offCoord (ix3 b s c) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C B S wf).startIndexMap from List.mem_singleton.mpr rfl)]
    have hsi : (rowsDims N C B S wf).siIdx (ix3 b s c) ⟨List.idxOf (0 : Fin 2) (rowsDims N C B S wf).startIndexMap,
        List.idxOf_lt_length_iff.2 (List.mem_singleton.mpr rfl)⟩ = ix3 b s 0 := by
      funext d; refine Fin.ext ?_
      match d with
      | ⟨0, _⟩ => rfl
      | ⟨1, _⟩ => rfl
      | ⟨2, _⟩ => rfl
    rw [hsi]
    rfl
  · rw [GatherDims.batchCoord_eq_zero _ _ _ (fun h => by simp at h)]
    unfold GatherDims.start GatherDims.offCoord
    rw [dif_neg (fun h => by simp at h)]
    rw [dif_pos ((GatherDims.mem_sKept _ _).mpr ⟨fun h => by simp at h, fun h => by simp at h⟩)]
    show 0 + 0 + _ = c.val
    rw [Nat.zero_add]
    rfl
end Cert.Lookup
-- ==== Proof.Spec.lean ====
/-
  The value both programs compute at one position: a code less 8, times its sub-scale times its super-scale.
-/
module
public import Idealize.ShloMosaic.PureOps.Ideal.Laws
@[expose] public section
noncomputable section
namespace Cert.Lookup
open Idealize.ShloMosaic

/-- Half `h` of a code byte, dequantised. -/
def value (code : BitVec 8) (h : ℕ) (sub : BitVec 8) (sup : BitVec 16) : EReal :=
  (((code.toNat / 16 ^ h % 16 : ℕ) : ℝ) - 8 : ℝ) * (((sub.toNat : ℝ) : EReal) * Ideal.ofBits .f16 sup)
end Cert.Lookup
-- ==== Proof.Entry.lean ====
/-
  The reference's arithmetic on whole arrays, read at an element.
-/
module
public import proofs.«01_k».proof.Proof.Gen.ReferenceIdeal
public import proofs.«01_k».proof.Proof.Rows
public import proofs.«01_k».proof.Proof.Spec
public import Idealize.ShloMosaic.Lib.Pipeline.Value
public import Idealize.ShloMosaic.PureOps.Ideal.Laws
@[expose] public section
noncomputable section
namespace Cert.ReferenceIdeal.Lookup
open Cert.ReferenceIdeal Cert.ReferenceIdeal.Gen Cert.Lookup
open Idealize.ShloMosaic
open Idealize.ShloMosaic.ValueIdx

/-- An index of a five-dimensional array. -/
abbrev at5 {a b c d e : ℕ} (i : Fin a) (j : Fin b) (k : Fin c) (l : Fin d) (n : Fin e) : (⟨5, ![a, b, c, d, e]⟩ : Shape).Idx
  | ⟨0, _⟩ => i
  | ⟨1, _⟩ => j
  | ⟨2, _⟩ => k
  | ⟨3, _⟩ => l
  | ⟨4, _⟩ => n

/-- The line each id names, a negative id counting from the end. -/
def lines (ids : S2x1024.Idx → BitVec 32) : S2x1024x1.Idx → BitVec 32 :=
  broadcastInDim S2x1024x1 ![0, 1] bcast_S2x1024_S2x1024x1_0_1
    (select (cmpi .slt ids (broadcastInDim S2x1024 ![] bcast_S_S2x1024 (constantI S_ 32 0#32)))
      (addi ids (broadcastInDim S2x1024 ![] bcast_S_S2x1024 (constantI S_ 32 16000#32))) ids)

/-- The code bytes of the rows, by group. -/
def codeRows (codes : S16000x2560.Idx → BitVec 8) (ids : S2x1024.Idx → BitVec 32) : S2x1024x160x1x16.Idx → BitVec 32 :=
  extui 32 (shapeCast S2x1024x160x1x16
    (Host.gather gather_S16000x2560_S2x1024x1_S2x1024x2560_2_0_n_n_0_2_12560 codes (lines ids)) shapeCasts_S2x1024x2560_S2x1024x160x1x16) natLt_8_32

/-- The codes of the rows, recentred. -/
def codeVals (rows : S2x1024x160x1x16.Idx → BitVec 32) (shifts : S2.Idx → BitVec 32) : FVec Ideal S2x1024x160x2x16 .f32 :=
  sitofp .f32 (subi (andi (Host.shrsi (broadcastInDim S2x1024x160x2x16 ![0, 1, 2, 3, 4] bcast_S2x1024x160x1x16_S2x1024x160x2x16_0_1_2_3_4 rows)
      (broadcastInDim S2x1024x160x2x16 ![0, 1, 2, 3, 4] bcast_S1x1x1x2x1_S2x1024x160x2x16_0_1_2_3_4
        (broadcastInDim S1x1x1x2x1 ![3, 4] bcast_S2x1_S1x1x1x2x1_3_4 (shapeCast S2x1 shifts shapeCasts_S2_S2x1))))
    (broadcastInDim S2x1024x160x2x16 ![] bcast_S_S2x1024x160x2x16 (constantI S_ 32 15#32)))
    (broadcastInDim S2x1024x160x2x16 ![] bcast_S_S2x1024x160x2x16 (constantI S_ 32 8#32)))

/-- The scales of the rows, one for each group. -/
def scales (sup : FVec Ideal S16000x20 .f32) (sub : S16000x160.Idx → BitVec 8) (ids : S2x1024.Idx → BitVec 32) : FVec Ideal S2x1024x160x1x1 .f32 :=
  shapeCast S2x1024x160x1x1
    (mulf (shapeCast S2x1024x20x8 (sitofp (F := Ideal) .f32 (extui 32 (Host.gather gather_S16000x160_S2x1024x1_S2x1024x160_2_0_n_n_0_2_1160 sub (lines ids)) natLt_8_32))
        shapeCasts_S2x1024x160_S2x1024x20x8)
      (broadcastInDim S2x1024x20x8 ![0, 1, 2, 3] bcast_S2x1024x20x1_S2x1024x20x8_0_1_2_3
        (broadcastInDim S2x1024x20x1 ![0, 1, 2] bcast_S2x1024x20_S2x1024x20x1_0_1_2
          (Host.gather gather_S16000x20_S2x1024x1_S2x1024x20_2_0_n_n_0_2_120 sup (lines ids))))) shapeCasts_S2x1024x20x8_S2x1024x160x1x1

/-- The looked-up rows. -/
def rowsOf (codes : FVec Ideal S2x1024x160x2x16 .f32) (scale : FVec Ideal S2x1024x160x1x1 .f32) : FVec Ideal S2x1024x5120 .bf16 :=
  truncf .bf16 (shapeCast S2x1024x5120
    (mulf codes (broadcastInDim S2x1024x160x2x16 ![0, 1, 2, 3, 4] bcast_S2x1024x160x1x1_S2x1024x160x2x16_0_1_2_3_4 scale))
    shapeCasts_S2x1024x160x2x16_S2x1024x5120) bitsLt_bf16_f32

theorem byte_toInt (b : BitVec 8) : (b.setWidth 32).toInt = (b.toNat : ℤ) := by revert b; decide +kernel

section
variable (ids : S2x1024.Idx → BitVec 32) (h : ∀ y, (ids y).toNat < 16000)
include h

theorem lines_apply (b : Fin 2) (s : Fin 1024) : lines ids (ix3 b s 0) = ids (ix2 b s) := by
  unfold lines
  refine (broadcastInDim_apply _ _ _ (ix3 b s 0) (ix2 b s) (fun a => ?_)).trans ?_
  · match a with
    | ⟨0, _⟩ => rfl
    | ⟨1, _⟩ => rfl
  show Scalar.select (IntOp.cmpi .slt (ids (ix2 b s)) 0#32) _ (ids (ix2 b s)) = _
  have hv := h (ix2 b s)
  have : IntOp.cmpi .slt (ids (ix2 b s)) 0#32 = 0#1 := by
    generalize ids (ix2 b s) = v at hv
    have : v.slt 0#32 = false := by
      rw [BitVec.slt_zero_eq_msb, BitVec.msb_eq_false_iff_two_mul_lt]; omega
    show BitVec.ofBool (v.slt 0#32) = 0#1
    rw [this]; rfl
  rw [this]; rfl

theorem line_val (b : Fin 2) (s : Fin 1024) : min (lines ids (ix3 b s 0)).toInt.toNat (16000 - 1) = (ids (ix2 b s)).toNat := by
  rw [lines_apply ids h]
  have hv := h (ix2 b s)
  rw [BitVec.toInt_eq_toNat_of_lt (by omega)]
  omega

/-- A gather of the lines, at an element. -/
theorem gather_lines {α : Type} {C : ℕ} (wf) (x : (⟨2, ![16000, C]⟩ : Shape).Idx → α) (b : Fin 2) (s : Fin 1024) (k : Fin C) :
    Host.gather (rowsDims 16000 C 2 1024 wf) x (lines ids) (ix3 b s k) = x (ix2 ⟨(ids (ix2 b s)).toNat, h _⟩ k) := by
  refine (gather_rows_apply (by decide) wf x (lines ids) b s k).trans ?_
  exact congrArg (fun z => x (ix2 z k)) (Fin.ext (line_val ids h b s))

theorem codeRows_apply (codes : S16000x2560.Idx → BitVec 8) (b : Fin 2) (s : Fin 1024) (g : Fin 160) (l : Fin 16) :
    codeRows codes ids (at5 b s g 0 l) = (codes (ix2 ⟨(ids (ix2 b s)).toNat, h _⟩ ⟨16 * g.val + l.val, by omega⟩)).setWidth 32 := by
  unfold codeRows
  refine congrArg (BitVec.setWidth 32) ((shapeCast_apply _ _ _ (ix3 b s ⟨16 * g.val + l.val, by omega⟩) ?_).trans (gather_lines ids h _ codes b s _))
  rw [Shape.rowMajor_val_three, Shape.rowMajor_val_five]
  show (b.val * 1024 + s.val) * 2560 + (16 * g.val + l.val) = (((b.val * 1024 + s.val) * 160 + g.val) * 1 + 0) * 16 + l.val
  ring

theorem scales_apply (sup : FVec Ideal S16000x20 .f32) (sub : S16000x160.Idx → BitVec 8) (b : Fin 2) (s : Fin 1024) (g : Fin 160) :
    scales sup sub ids (at5 b s g 0 0)
      = (((sub (ix2 ⟨(ids (ix2 b s)).toNat, h _⟩ g)).toNat : ℝ) : EReal) * sup (ix2 ⟨(ids (ix2 b s)).toNat, h _⟩ ⟨g.val / 8, by omega⟩) := by
  unfold scales
  refine (shapeCast_apply _ _ _ (ix4 b s (⟨g.val / 8, by omega⟩ : Fin 20) (⟨g.val % 8, Nat.mod_lt _ (by decide)⟩ : Fin 8)) ?_).trans ?_
  · rw [Shape.rowMajor_val_four, Shape.rowMajor_val_five]
    show ((b.val * 1024 + s.val) * 20 + g.val / 8) * 8 + g.val % 8 = (((b.val * 1024 + s.val) * 160 + g.val) * 1 + 0) * 1 + 0
    omega
  refine congrArg₂ (fun x y : EReal => x * y) ?_ ?_
  · refine (shapeCast_apply _ _ _ (ix3 b s g) ?_).trans ?_
    · rw [Shape.rowMajor_val_four, Shape.rowMajor_val_three]
      show (b.val * 1024 + s.val) * 160 + g.val = ((b.val * 1024 + s.val) * 20 + g.val / 8) * 8 + g.val % 8
      omega
    show (((((Host.gather gather_S16000x160_S2x1024x1_S2x1024x160_2_0_n_n_0_2_1160 sub (lines ids) (ix3 b s g)).setWidth 32).toInt : ℤ) : ℝ) : EReal) = _
    rw [show Host.gather gather_S16000x160_S2x1024x1_S2x1024x160_2_0_n_n_0_2_1160 sub (lines ids) (ix3 b s g) = _ from gather_lines ids h _ sub b s g, byte_toInt]
    rfl
  · refine (broadcastInDim_apply _ _ _ _ (ix4 b s (⟨g.val / 8, by omega⟩ : Fin 20) (0 : Fin 1)) (fun a => ?_)).trans ?_
    · match a with
      | ⟨0, _⟩ => rfl
      | ⟨1, _⟩ => rfl
      | ⟨2, _⟩ => rfl
      | ⟨3, _⟩ => rfl
    refine (broadcastInDim_apply _ _ _ _ (ix3 b s (⟨g.val / 8, by omega⟩ : Fin 20)) (fun a => ?_)).trans ?_
    · match a with
      | ⟨0, _⟩ => rfl
      | ⟨1, _⟩ => rfl
      | ⟨2, _⟩ => rfl
    exact gather_lines ids h _ sup b s _
end

theorem nibble_lo (b : BitVec 8) : (IntOp.subi (IntOp.andi (IntOp.shrsi .host (b.setWidth 32) 0#32) 15#32) 8#32).toInt = ((b.toNat / 16 ^ 0 % 16 : ℕ) : ℤ) - 8 := by
  revert b; decide +kernel
theorem nibble_hi (b : BitVec 8) : (IntOp.subi (IntOp.andi (IntOp.shrsi .host (b.setWidth 32) 4#32) 15#32) 8#32).toInt = ((b.toNat / 16 ^ 1 % 16 : ℕ) : ℤ) - 8 := by
  revert b; decide +kernel

theorem codeVals_apply (rows : S2x1024x160x1x16.Idx → BitVec 32) (b : Fin 2) (s : Fin 1024) (g : Fin 160) (p : Fin 2) (l : Fin 16) (x : BitVec 8)
    (hx : rows (at5 b s g 0 l) = x.setWidth 32) :
    codeVals rows (fun i => lit0 (S2.rowMajor i)) (at5 b s g p l) = (((x.toNat / 16 ^ p.val % 16 : ℕ) : ℝ) - 8 : ℝ) := by
  have e1 : broadcastInDim S2x1024x160x2x16 ![0, 1, 2, 3, 4] bcast_S2x1024x160x1x16_S2x1024x160x2x16_0_1_2_3_4 rows (at5 b s g p l) = x.setWidth 32 := by
    refine (broadcastInDim_apply _ _ _ _ (at5 b s g 0 l) (fun a => ?_)).trans hx
    match a with
    | ⟨0, _⟩ => rfl
    | ⟨1, _⟩ => rfl
    | ⟨2, _⟩ => rfl
    | ⟨3, _⟩ => rfl
    | ⟨4, _⟩ => rfl
  have e2 : (broadcastInDim S2x1024x160x2x16 ![0, 1, 2, 3, 4] bcast_S1x1x1x2x1_S2x1024x160x2x16_0_1_2_3_4
        (broadcastInDim S1x1x1x2x1 ![3, 4] bcast_S2x1_S1x1x1x2x1_3_4 (shapeCast S2x1 (fun i => lit0 (S2.rowMajor i)) shapeCasts_S2_S2x1))) (at5 b s g p l) = lit0 p := by
    refine (broadcastInDim_apply _ _ _ _ (at5 (0 : Fin 1) (0 : Fin 1) (0 : Fin 1) p (0 : Fin 1)) (fun a => ?_)).trans ?_
    · match a with
      | ⟨0, _⟩ => rfl
      | ⟨1, _⟩ => rfl
      | ⟨2, _⟩ => rfl
      | ⟨3, _⟩ => rfl
      | ⟨4, _⟩ => rfl
    refine (broadcastInDim_apply _ _ _ _ (ix2 p (0 : Fin 1)) (fun a => ?_)).trans ?_
    · match a with
      | ⟨0, _⟩ => rfl
      | ⟨1, _⟩ => rfl
    refine (shapeCast_apply _ _ _ (fun | ⟨0, _⟩ => p) ?_).trans ?_
    · rw [Shape.rowMajor_val_one, Shape.rowMajor_val_two]
      show p.val = p.val * 1 + 0
      omega
    · exact congrArg lit0 (Fin.ext (Shape.rowMajor_val_one _))
  show ((((IntOp.subi (IntOp.andi (IntOp.shrsi .host
    (broadcastInDim S2x1024x160x2x16 ![0, 1, 2, 3, 4] bcast_S2x1024x160x1x16_S2x1024x160x2x16_0_1_2_3_4 rows (at5 b s g p l))
    ((broadcastInDim S2x1024x160x2x16 ![0, 1, 2, 3, 4] bcast_S1x1x1x2x1_S2x1024x160x2x16_0_1_2_3_4
        (broadcastInDim S1x1x1x2x1 ![3, 4] bcast_S2x1_S1x1x1x2x1_3_4 (shapeCast S2x1 (fun i => lit0 (S2.rowMajor i)) shapeCasts_S2_S2x1))) (at5 b s g p l))) 15#32) 8#32).toInt : ℝ)) : EReal) = _
  rw [e1, e2]
  congr 1
  match p with
  | ⟨0, _⟩ => rw [show lit0 ⟨0, _⟩ = 0#32 from rfl, nibble_lo]; push_cast; rfl
  | ⟨1, _⟩ => rw [show lit0 ⟨1, _⟩ = 4#32 from rfl, nibble_hi]; push_cast; rfl

theorem rowsOf_apply (codes : FVec Ideal S2x1024x160x2x16 .f32) (scale : FVec Ideal S2x1024x160x1x1 .f32) (b : Fin 2) (s : Fin 1024) (i : Fin 5120) :
    rowsOf codes scale (ix3 b s i)
      = ((codes (at5 b s (⟨i.val / 32, by omega⟩ : Fin 160) (⟨i.val % 32 / 16, by omega⟩ : Fin 2) (⟨i.val % 16, by omega⟩ : Fin 16)) : EReal)
        * (scale (at5 b s (⟨i.val / 32, by omega⟩ : Fin 160) (0 : Fin 1) (0 : Fin 1)) : EReal) : EReal) := by
  show shapeCast S2x1024x5120 (mulf codes (broadcastInDim S2x1024x160x2x16 ![0, 1, 2, 3, 4] bcast_S2x1024x160x1x1_S2x1024x160x2x16_0_1_2_3_4 scale))
    shapeCasts_S2x1024x160x2x16_S2x1024x5120 (ix3 b s i) = _
  refine (shapeCast_apply _ shapeCasts_S2x1024x160x2x16_S2x1024x5120 (ix3 b s i)
    (at5 b s (⟨i.val / 32, by omega⟩ : Fin 160) (⟨i.val % 32 / 16, by omega⟩ : Fin 2) (⟨i.val % 16, by omega⟩ : Fin 16)) ?_).trans ?_
  · rw [Shape.rowMajor_val_three, Shape.rowMajor_val_five]
    show (((b.val * 1024 + s.val) * 160 + i.val / 32) * 2 + i.val % 32 / 16) * 16 + i.val % 16 = (b.val * 1024 + s.val) * 5120 + i.val
    omega
  refine congrArg (fun y : EReal => _ * y) ?_
  refine broadcastInDim_apply _ _ _ _ (at5 b s (⟨i.val / 32, by omega⟩ : Fin 160) (0 : Fin 1) (0 : Fin 1)) (fun a => ?_)
  match a with
  | ⟨0, _⟩ => rfl
  | ⟨1, _⟩ => rfl
  | ⟨2, _⟩ => rfl
  | ⟨3, _⟩ => rfl
  | ⟨4, _⟩ => rfl

/-- The reference's result at an element. -/
theorem result_apply (ids : S2x1024.Idx → BitVec 32) (h : ∀ y, (ids y).toNat < 16000) (codes : S16000x2560.Idx → BitVec 8)
    (sup : S16000x20.Idx → BitVec 16) (sub : S16000x160.Idx → BitVec 8) (b : Fin 2) (s : Fin 1024) (i : Fin 5120) :
    rowsOf (codeVals (codeRows codes ids) (fun i => lit0 (S2.rowMajor i))) (scales (fun i => Ideal.ofBits .f16 (sup i)) sub ids) (ix3 b s i)
      = value (codes (ix2 ⟨(ids (ix2 b s)).toNat, h _⟩ ⟨16 * (i.val / 32) + i.val % 16, by omega⟩)) (i.val % 32 / 16)
        (sub (ix2 ⟨(ids (ix2 b s)).toNat, h _⟩ ⟨i.val / 32, by omega⟩)) (sup (ix2 ⟨(ids (ix2 b s)).toNat, h _⟩ ⟨i.val / 256, by omega⟩)) := by
  rw [rowsOf_apply, codeVals_apply _ b s _ _ _ _ (codeRows_apply ids h codes b s _ _), scales_apply ids h]
  unfold value
  have e : (⟨i.val / 32 / 8, by omega⟩ : Fin 20) = ⟨i.val / 256, by omega⟩ := Fin.ext (by show i.val / 32 / 8 = i.val / 256; omega)
  rw [e]
end Cert.ReferenceIdeal.Lookup
-- ==== Proof.Reference.lean ====
/-
  What the reference's run leaves in its result: the looked-up rows, as a function of the arguments.
-/
module
public import proofs.«01_k».proof.Proof.Gen.ReferenceIdeal.Frame
public import proofs.«01_k».proof.Proof.Entry
public import Idealize.ShloMosaic.Lib.Pipeline.ValueKit
public import Idealize.ShloMosaic.Lib.StableHlo.Run
@[expose] public section
noncomputable section
namespace Cert.ReferenceIdeal.Lookup
open Cert.ReferenceIdeal Cert.ReferenceIdeal.Gen
open Idealize.ShloMosaic
open Idealize.ShloMosaic.TcCoe
open Idealize.SL Idealize.SL.Sem
variable (m : (ℓ : Loc nD τ sig) → Buf (Elt Ideal) ℓ) (c : Dev nD)

/-- The arguments: ids, code bytes, super-scales, sub-scales. -/
def argIds : S2x1024.Idx → BitVec 32 := m ((c : Thread nD τ).loc main_arg0)
def argCodes : S16000x2560.Idx → BitVec 8 := m ((c : Thread nD τ).loc main_arg1)
def argSup : S16000x20.Idx → BitVec 16 := m ((c : Thread nD τ).loc main_arg2)
def argSub : S16000x160.Idx → BitVec 8 := m ((c : Thread nD τ).loc main_arg3)

/-- The super-scales as the reference's cast leaves them. -/
theorem widened : (dats m 0 c).arrAt 1 cfg0.N = fun i => Ideal.ofBits .f16 (argSup m c i) := by
  refine (dats m 0 c).arrAt_eq_of_after_last 1 t0_0 (by decide +kernel) _ (fun j => ?_)
  blk_simp
  rw [after0_1]
  frame_out
  unfold k0_pay1 iblk
  have e : ((cfg0.win 0).blk t0_0).view.emb j = j := by
    funext a
    match a with
    | ⟨0, _⟩ => exact Fin.ext (by blk_simp; exact Nat.zero_add _)
    | ⟨1, _⟩ => exact Fin.ext (by blk_simp; exact Nat.zero_add _)
  show Ideal.ofBits .f16 (V m c main_arg2 (((cfg0.win 0).blk t0_0).view.emb j)) = _
  rw [V_main_arg2 m c, e]
  rfl

theorem rows_eq : V m c main_v8 = codeRows (argCodes m c) (argIds m c) := by
  show StableHlo.after hostOps0 _ (Proc.devRef .tc main_v8) = _; after_results
  rfl
theorem shifts_eq : V m c main_c = fun i => lit0 (S2.rowMajor i) := by
  show StableHlo.after hostOps0 _ (Proc.devRef .tc main_c) = _; after_results
  try rfl

/-- The lines after the cast, from what they read. -/
theorem tail (W : Valuation τ sig (Elt Ideal)) : StableHlo.after (hostOps1 (F := Ideal)) W (Proc.devRef .tc main_v44)
    = rowsOf (codeVals (W (Proc.devRef .tc main_v8)) (W (Proc.devRef .tc main_c)))
      (scales (W (Proc.devRef .tc main_v9)) (W (Proc.devRef .tc main_arg3)) (W (Proc.devRef .tc main_arg0))) := by
  after_results
  rfl

theorem out_eq : Pipeline.afterTail₀ cfgs (dats m) 0 (V0 m) [hostOps1] c main_v44
    = rowsOf (codeVals (codeRows (argCodes m c) (argIds m c)) (fun i => lit0 (S2.rowMajor i)))
      (scales (fun i => Ideal.ofBits .f16 (argSup m c i)) (argSub m c) (argIds m c)) := by
  have ne (b : Ref sig .tc) (hb : ∀ w, Pipeline.arrRef spec0 w ≠ b) :=
    Pipeline.withArrays_of_ne spec0 c (V0 m c) (fun w => (dats m 0 c).arrAt w cfg0.N) b hb
  have e8 := (ne main_v8 (by decide)).trans (rows_eq m c)
  have ec := (ne main_c (by decide)).trans (shifts_eq m c)
  have e3 := (ne main_arg3 (by decide)).trans (V_main_arg3 m c)
  have e0 := (ne main_arg0 (by decide)).trans (V_main_arg0 m c)
  have e9 := (Pipeline.withArrays_arr spec0 launch0.win.arr_inj c (V0 m c) (fun w => (dats m 0 c).arrAt w cfg0.N) 1).trans (widened m c)
  refine (tail _).trans ?_
  exact congrArg₂ rowsOf (congrArg₂ codeVals e8 ec) (by
    refine (congrArg (fun z => scales z _ _) e9).trans ?_
    exact congrArg₂ (fun z y => scales _ z y) e3 e0)

/-- The reference's run. -/
theorem run (ρ : Dev nD → PrngReg) : θ_run defs (onTc (τ := τ) (main (F := Ideal))) ⟨m, fun _ => 0, ρ⟩ (fun r => ∀ c : Dev nD,
    r.2.mem ((c.tc : Thread nD τ).loc main_v44)
      = rowsOf (codeVals (codeRows (argCodes m c) (argIds m c)) (fun i => lit0 (S2.rowMajor i)))
        (scales (fun i => Ideal.ofBits .f16 (argSup m c i)) (argSub m c) (argIds m c))) :=
  (θ_run defs _ _).mono (fun _ h c => ((h c).2 main_v44 (Pipeline.mem_restRefs_of main_v44 (by decide) (by decide))).trans (out_eq m c))
    (run_main m ρ)
end Cert.ReferenceIdeal.Lookup
-- ==== Proof.Ideal.Widen.lean ====
/-
  The fields of an `f16` word widened to `f32` bits as the kernel does it, for every word.
-/
module
public import proofs.«01_k».proof.Proof.Ideal.Body
public import Idealize.ShloMosaic.PureOps.Ideal.Laws
@[expose] public section
noncomputable section
namespace Cert.KernelIdeal.Lookup
open Cert.KernelIdeal
open Idealize.ShloMosaic

/-- The widening, on one word. -/
def widen1 (h : BitVec 32) : BitVec 32 :=
  let m := IntOp.shli .vector (IntOp.andi h 32767#32) 13#32
  let norm := Scalar.select (IntOp.cmpi .sge m 260046848#32) (m + 1879048192#32) (m + 939524096#32)
  let s := IntOp.ctlz m - 8#32
  let tiny := Scalar.select (IntOp.cmpi .eq m 0#32) 0#32 (IntOp.shli .vector m s + IntOp.shli .vector (112#32 - s) 23#32)
  IntOp.ori (Scalar.select (IntOp.cmpi .slt m 8388608#32) tiny norm) (IntOp.shli .vector (IntOp.andi h 32768#32) 16#32)
theorem widenBits_apply (h : IVec S20x128 32) (i : S20x128.Idx) : widenBits h i = widen1 (h i) := rfl

/-- What the fields of the widened word are. -/
def widenOk (h : BitVec 16) : Bool :=
  let w := widen1 (h.signExtend 32)
  let e := (h.extractLsb' 10 5).toNat
  let f := (h.extractLsb' 0 10).toNat
  w.extractLsb' 31 1 == h.extractLsb' 15 1 &&
  (if e = 0 then (if f = 0 then (w.extractLsb' 23 8).toNat == 0 && (w.extractLsb' 0 23).toNat == 0
      else (w.extractLsb' 23 8).toNat == 103 + Nat.log2 f && (w.extractLsb' 0 23).toNat + 8388608 == f * 2 ^ (23 - Nat.log2 f) && Nat.log2 f < 10)
    else if e = 31 then (w.extractLsb' 23 8).toNat == 255 && (w.extractLsb' 0 23).toNat == 8192 * f
    else (w.extractLsb' 23 8).toNat == e + 112 && (w.extractLsb' 0 23).toNat == 8192 * f)
theorem widenOk_test : ∀ a : Fin 256, ∀ b : Fin 256, widenOk (BitVec.ofNat 16 (256 * a.val + b.val)) = true := by decide +kernel

theorem widen_ok (h : BitVec 16) : widenOk h = true := by
  have := widenOk_test ⟨h.toNat / 256, by have := h.isLt; omega⟩ ⟨h.toNat % 256, by omega⟩
  rwa [show 256 * (h.toNat / 256) + h.toNat % 256 = h.toNat by omega, BitVec.ofNat_toNat, BitVec.setWidth_eq] at this

end Cert.KernelIdeal.Lookup
-- ==== Proof.Ideal.Numbers.lean ====
/-
  What the words the kernel makes mean as numbers: the two nibble tricks, and an `f16` word widened to `f32` bits.
-/
module
public import proofs.«01_k».proof.Proof.Ideal.Widen
public import Idealize.ShloMosaic.PureOps.Ideal.Laws
@[expose] public section
noncomputable section
namespace Cert.KernelIdeal.Lookup
open Cert.KernelIdeal
open Idealize.ShloMosaic

/-- A normal `f32` pattern from its fields. -/
theorem f32_normal (b : BitVec 32) (e f : ℕ) (he : (b.extractLsb' 23 8).toNat = e) (hf : (b.extractLsb' 0 23).toNat = f) (h0 : e ≠ 0) (h1 : e ≠ 255) :
    Ideal.ofBits .f32 b = (((if b.extractLsb' 31 1 == 1#1 then -1 else 1) * (2 ^ 23 + f : ℕ) * (2 : ℝ) ^ ((e : ℤ) - 150) : ℝ) : EReal) := by
  show Ideal.ieee 8 23 b = _
  unfold Ideal.ieee
  simp only [he, hf]
  rw [if_neg (by omega), if_neg h0]
  congr 3
  push_cast; ring

/-- The code of a low nibble. -/
theorem lo_val (k : ℕ) (hk : k < 16) :
    Ideal.ofBits .f32 (BitVec.ofNat 32 k ||| 1258291200#32) - Ideal.ofBits .f32 0x4B000008#32 = (((k : ℝ) - 8 : ℝ) : EReal) := by
  have h : ∀ k : Fin 16, ((BitVec.ofNat 32 k.val ||| 1258291200#32).extractLsb' 23 8).toNat = 150
      ∧ ((BitVec.ofNat 32 k.val ||| 1258291200#32).extractLsb' 0 23).toNat = k.val
      ∧ ((BitVec.ofNat 32 k.val ||| 1258291200#32).extractLsb' 31 1 == 1#1) = false := by decide
  obtain ⟨a, b, c⟩ := h ⟨k, hk⟩
  rw [f32_normal _ 150 k a b (by decide) (by decide), f32_normal 0x4B000008#32 150 8 (by decide) (by decide) (by decide) (by decide), c,
    show ((0x4B000008#32 : BitVec 32).extractLsb' 31 1 == 1#1) = false by decide, ← EReal.coe_sub]
  congr 1
  push_cast; norm_num; ring
/-- The code of a high nibble. -/
theorem hi_val (k : ℕ) (hk : k < 16) :
    Ideal.ofBits .f32 (BitVec.ofNat 32 (16 * k) ||| 1224736768#32) - Ideal.ofBits .f32 0x49000080#32 = (((k : ℝ) - 8 : ℝ) : EReal) := by
  have h : ∀ k : Fin 16, ((BitVec.ofNat 32 (16 * k.val) ||| 1224736768#32).extractLsb' 23 8).toNat = 146
      ∧ ((BitVec.ofNat 32 (16 * k.val) ||| 1224736768#32).extractLsb' 0 23).toNat = 16 * k.val
      ∧ ((BitVec.ofNat 32 (16 * k.val) ||| 1224736768#32).extractLsb' 31 1 == 1#1) = false := by decide
  obtain ⟨a, b, c⟩ := h ⟨k, hk⟩
  rw [f32_normal _ 146 (16 * k) a b (by decide) (by decide), f32_normal 0x49000080#32 146 128 (by decide) (by decide) (by decide) (by decide), c,
    show ((0x49000080#32 : BitVec 32).extractLsb' 31 1 == 1#1) = false by decide, ← EReal.coe_sub]
  congr 1
  push_cast; norm_num [zpow_neg]; ring

/-- An `f16` word widened by the kernel means the same number. -/
theorem widen_val (h : BitVec 16) : Ideal.ofBits .f32 (widen1 (h.signExtend 32)) = Ideal.ofBits .f16 h := by
  have hw := widen_ok h
  unfold widenOk at hw
  generalize widen1 (h.signExtend 32) = w at hw
  show Ideal.ieee 8 23 w = Ideal.ieee 5 10 h
  unfold Ideal.ieee
  simp only [Bool.and_eq_true, beq_iff_eq] at hw
  obtain ⟨hs, hw⟩ := hw
  rw [show (8 + 23 : ℕ) = 31 from rfl, show (5 + 10 : ℕ) = 15 from rfl, hs]
  generalize h.extractLsb' 15 1 = s at *
  have he : (h.extractLsb' 10 5).toNat < 32 := BitVec.isLt _
  generalize (h.extractLsb' 10 5).toNat = e at *
  generalize (h.extractLsb' 0 10).toNat = f at *
  generalize (w.extractLsb' 23 8).toNat = e' at *
  generalize (w.extractLsb' 0 23).toNat = f' at *
  generalize (s == 1#1) = sg at *
  dsimp only
  generalize hz : (if sg = true then (-1 : ℝ) else 1) = z
  by_cases h0 : e = 0
  · subst h0
    by_cases hf : f = 0
    · subst hf
      simp at hw
      obtain ⟨rfl, rfl⟩ := hw
      simp
    · rw [if_pos rfl, if_neg hf] at hw
      simp only [Bool.and_eq_true, beq_iff_eq, decide_eq_true_eq] at hw
      obtain ⟨⟨h1, h2⟩, h3⟩ := hw
      generalize Nat.log2 f = k at *
      subst h1
      rw [if_neg (by omega), if_neg (by omega), if_neg (by decide), if_pos rfl]
      have e1 : (2 ^ 23 + f' : ℕ) = f * 2 ^ (23 - k) := by omega
      rw [e1]
      congr 1
      push_cast
      rw [mul_assoc, mul_assoc, mul_assoc]
      congr 2
      rw [← zpow_natCast, ← zpow_add₀ (by norm_num)]
      congr 1
      push_cast [show k ≤ 23 by omega]
      ring
  · rw [if_neg h0] at hw
    by_cases h31 : e = 31
    · subst h31
      rw [if_pos rfl] at hw
      simp only [Bool.and_eq_true, beq_iff_eq] at hw
      obtain ⟨rfl, rfl⟩ := hw
      simp
    · rw [if_neg h31] at hw
      simp only [Bool.and_eq_true, beq_iff_eq] at hw
      obtain ⟨rfl, rfl⟩ := hw
      rw [if_neg (show ¬ e + 112 = 2 ^ 8 - 1 by have : e < 32 := he; omega), if_neg (show ¬ e + 112 = 0 by omega), if_neg (show ¬ e = 2 ^ 5 - 1 by omega), if_neg h0]
      congr 1
      have e1 : (2 ^ 23 + 8192 * f : ℕ) = (2 ^ 10 + f) * 2 ^ 13 := by ring
      rw [e1]
      push_cast
      rw [mul_assoc, mul_assoc, mul_assoc]
      congr 2
      rw [show (8192:ℝ) = (2:ℝ) ^ (13 : ℤ) by norm_num, ← zpow_add₀ (by norm_num)]
      congr 1
      ring
end Cert.KernelIdeal.Lookup
-- ==== Proof.Ideal.Table.lean ====
/-
  The narrow rows read lane by lane: the sub-scales' bytes, the super-scales widened, the shift.
-/
module
public import proofs.«01_k».proof.Proof.Ideal.Widen
public import proofs.«01_k».proof.Proof.Ideal.Contents
public import Idealize.ShloMosaic.Lib.BitcastFour
public import Idealize.ShloMosaic.Lib.ValueLayout
public import Idealize.ShloMosaic.Lib.Pointwise.SelectCore
@[expose] public section
noncomputable section
namespace Cert.KernelIdeal.Lookup
open Cert.KernelIdeal
open Idealize.ShloMosaic hiding ix2 ix3
open Idealize.ShloMosaic.ValueIdx
open Shapes1.Facts₀

theorem tableVal_sub (sb : IVec S160x128 8) (sp : IVec S20x128 16) (u : Fin 128) (l : ℕ) (hl : l < 40) :
    tableVal sb sp (ix2 u ⟨l, by omega⟩) = (bitcast S40x128 32 sb bitcasts_S160x128_w8_S40x128_w32 : IVec S40x128 32) (ix2 ⟨l, hl⟩ u) := by
  refine (transpose_ix2_apply (a := 64) (b := 128) _ transposes_S64x128_p1_0_S128x64 u ⟨l, by omega⟩).trans ?_
  refine (concatenate_cons_apply _ _ _ _ _ _ _).trans <| (concatenateAt_cons _ _ _ _ _ _ _ _).trans <| (dif_pos (show l < 40 from hl)).trans ?_
  refine congrArg _ (funext fun b => ?_)
  match b with
  | ⟨0, _⟩ => rfl
  | ⟨1, _⟩ => rfl
theorem tableVal_sup (sb : IVec S160x128 8) (sp : IVec S20x128 16) (u : Fin 128) (b : ℕ) (hb : b < 20) :
    tableVal sb sp (ix2 u ⟨40 + b, by omega⟩) = widen1 ((sp (ix2 ⟨b, hb⟩ u)).signExtend 32) := by
  refine (transpose_ix2_apply (a := 64) (b := 128) _ transposes_S64x128_p1_0_S128x64 u ⟨40 + b, by omega⟩).trans ?_
  refine (concatenate_cons_apply _ _ _ _ _ _ _).trans <| (concatenateAt_cons _ _ _ _ _ _ _ _).trans <| (dif_neg (show ¬ 40 + b < 40 by omega)).trans <| (concatenateAt_cons _ _ _ _ _ _ _ _).trans <|
    (dif_pos (show 40 + b - 40 < 20 by omega)).trans ?_
  rw [widenBits_apply]
  show widen1 ((sp _).signExtend 32) = _
  refine congrArg (fun z => widen1 ((sp z).signExtend 32)) (funext fun c => ?_)
  match c with
  | ⟨0, _⟩ => exact Fin.ext (Nat.add_sub_cancel_left (n := 40) (m := b))
  | ⟨1, _⟩ => rfl
theorem shiftRow_val : ∀ u : Fin 128, IntOp.shli .vector (IntOp.andi (BitVec.ofNat 32 u.val) 3#32) 3#32 = BitVec.ofNat 32 (8 * (u.val % 4)) := by decide +kernel
theorem shiftRow_apply (i : S1x128.Idx) : shiftRow i = BitVec.ofNat 32 (8 * ((i 1).val % 4)) := by
  show IntOp.shli .vector (IntOp.andi (BitVec.ofNat 32 (0 * 128 + (i 1).val)) 3#32) 3#32 = _
  rw [Nat.zero_mul, Nat.zero_add]
  exact shiftRow_val (i 1)
theorem tableVal_shift (sb : IVec S160x128 8) (sp : IVec S20x128 16) (u : Fin 128) :
    tableVal sb sp (ix2 u ⟨63, by omega⟩) = BitVec.ofNat 32 (8 * (u.val % 4)) := by
  refine (transpose_ix2_apply (a := 64) (b := 128) _ transposes_S64x128_p1_0_S128x64 u ⟨63, by omega⟩).trans ?_
  refine (concatenate_cons_apply _ _ _ _ _ _ _).trans <| (concatenateAt_cons _ _ _ _ _ _ _ _).trans <| (dif_neg (show ¬ 63 < 40 by omega)).trans <| (concatenateAt_cons _ _ _ _ _ _ _ _).trans <|
    (dif_neg (show ¬ 63 - 40 < 20 by omega)).trans <| (concatenateAt_cons _ _ _ _ _ _ _ _).trans <|
    (dif_neg (show ¬ 63 - 40 - 20 < 3 by omega)).trans <| (concatenateAt_singleton _ _ _ _ _ _).trans <| (shiftRow_apply _).trans ?_
  rfl

/-- The byte of a word taken out by a shift and a mask. -/
theorem byte_of_word (w : BitVec 32) (x : BitVec 8) (q : ℕ) (hq : q < 4) (h : ∀ i, i < 8 → w.getLsbD (8 * q + i) = x.getLsbD i) :
    IntOp.andi (IntOp.shrsi .vector w (BitVec.ofNat 32 (8 * q))) 255#32 = x.setWidth 32 := by
  have e : (BitVec.ofNat 32 (8 * q)).toNat = 8 * q := by rw [BitVec.toNat_ofNat]; omega
  unfold IntOp.shrsi IntOp.andi
  rw [if_pos (by omega)]
  apply BitVec.eq_of_getLsbD_eq
  intro i hi
  rw [BitVec.getLsbD_and, BitVec.sshiftRight', e, BitVec.getLsbD_sshiftRight, BitVec.getLsbD_setWidth]
  have h255 : (255#32 : BitVec 32).getLsbD i = decide (i < 8) := by
    revert hi; revert i; decide
  rw [h255]
  by_cases h8 : i < 8
  · have := h i h8
    simpa [h8, hi, show ¬ 32 ≤ i by omega, show 8 * q + i < 32 by omega] using this
  · have : x.getLsbD i = false := BitVec.getLsbD_of_ge _ _ (by omega)
    simp [h8, this]

variable {F : FTy → Type} [FloatOps F] (X : Inp F)

theorem Inp.tab_sub (v g : ℕ) (hv : v < 16000) (hg : g < 160) :
    IntOp.andi (IntOp.shrsi .vector (X.tab v (g / 4)) (BitVec.ofNat 32 (8 * (g % 4)))) 255#32 = (at2 X.sub g v).setWidth 32 := by
  refine byte_of_word _ _ _ (Nat.mod_lt _ (by decide)) fun i hi => ?_
  have e : X.tab v (g / 4) = X.tile (v / 128) (ix2 ⟨v % 128, Nat.mod_lt _ (by decide)⟩ ⟨g / 4, by omega⟩) := by
    unfold Inp.tab at2
    refine congrArg _ (congrArg₂ ix2 (Fin.ext (Nat.mod_mod _ _)) (Fin.ext (Nat.mod_eq_of_lt (by omega))))
  rw [e]
  unfold Inp.tile
  rw [tableVal_sub _ _ _ _ (show g / 4 < 40 by omega)]
  refine (bitcast_8_32_getLsbD_ix2 (R := 160) (r := 40) (n := 128) _ _ ⟨g / 4, by omega⟩ ⟨v % 128, Nat.mod_lt _ (by decide)⟩ (8 * (g % 4) + i) (by omega) ⟨g, hg⟩ (by show g = 4 * (g / 4) + _; omega)).trans ?_
  show (at2 X.sub g (128 * (v / 128) + v % 128)).getLsbD _ = _
  rw [Nat.div_add_mod, show (8 * (g % 4) + i) % 8 = i by omega]
theorem Inp.tab_sup (v b : ℕ) (hv : v < 16000) (hb : b < 20) : X.tab v (40 + b) = widen1 ((at2 X.sup b v).signExtend 32) := by
  have e : X.tab v (40 + b) = X.tile (v / 128) (ix2 ⟨v % 128, Nat.mod_lt _ (by decide)⟩ ⟨40 + b, by omega⟩) := by
    unfold Inp.tab at2
    refine congrArg _ (congrArg₂ ix2 (Fin.ext (Nat.mod_mod _ _)) (Fin.ext (Nat.mod_eq_of_lt (by omega))))
  rw [e]
  unfold Inp.tile
  rw [tableVal_sup _ _ _ _ hb]
  show widen1 ((at2 X.sup b (128 * (v / 128) + v % 128)).signExtend 32) = _
  rw [Nat.div_add_mod]
theorem Inp.tab_shift (v : ℕ) : X.tab v 63 = BitVec.ofNat 32 (8 * (v % 4)) := by
  have e : X.tab v 63 = X.tile (v / 128) (ix2 ⟨v % 128, Nat.mod_lt _ (by decide)⟩ ⟨63, by omega⟩) := by
    unfold Inp.tab at2
    refine congrArg _ (congrArg₂ ix2 (Fin.ext (Nat.mod_mod _ _)) (Fin.ext rfl))
  rw [e]
  unfold Inp.tile
  rw [tableVal_shift, show (v % 128) % 4 = v % 4 by omega]
end Cert.KernelIdeal.Lookup
-- ==== Proof.Ideal.Lanes.lean ====
/-
  The index arithmetic of the vector unit, lane by lane.
-/
module
public import proofs.«01_k».proof.Proof.Ideal.Contents
public import Idealize.ShloMosaic.PureOps.Ideal.Laws
@[expose] public section
noncomputable section
namespace Cert.KernelIdeal.Lookup
open Cert.KernelIdeal
open Idealize.ShloMosaic Idealize.ShloMosaic.ValueIdx

/-- `vFloorDiv` on one word. -/
def fdiv1 (x n : BitVec 32) : BitVec 32 :=
  Scalar.select (IntOp.andi
      (IntOp.cmpi .ne (IntOp.subi ((IntOp.cmpi .sgt x 0#32).setWidth 32) ((IntOp.cmpi .slt x 0#32).setWidth 32))
        (Scalar.subi (Scalar.extui (Scalar.cmpi .sgt n 0#32)) (Scalar.extui (Scalar.cmpi .slt n 0#32))))
      (IntOp.cmpi .ne (IntOp.remsi .vector x n) 0#32))
    (IntOp.subi (IntOp.divsi .vector x n) 1#32) (IntOp.divsi .vector x n)
theorem vFloorDiv_apply {s : Shape} (x : IVec s 32) (n : BitVec 32) (i : s.Idx) : vFloorDiv x n i = fdiv1 (x i) n := rfl

/-- `vFloorMod` on one word. -/
def fmod1 (x n : BitVec 32) : BitVec 32 :=
  Scalar.select (IntOp.andi (IntOp.xori (IntOp.cmpi .slt (IntOp.remsi .vector x (sDivisor n)) 0#32) (Scalar.cmpi .slt (sDivisor n) 0#32))
      (IntOp.cmpi .ne (IntOp.remsi .vector x (sDivisor n)) 0#32))
    (IntOp.addi (IntOp.remsi .vector x (sDivisor n)) (sDivisor n)) (IntOp.remsi .vector x (sDivisor n))
theorem vFloorMod_apply {s : Shape} (x : IVec s 32) (n : BitVec 32) (hb : s.Broadcasts s) (i : s.Idx) : vFloorMod x n hb i = fmod1 (x i) n := rfl

/-- `wrapIdx` on one word. -/
def wrap1 (x : BitVec 32) : BitVec 32 := Scalar.select (IntOp.cmpi .slt x 0#32) (IntOp.addi x 128#32) x
theorem wrapIdx_apply (x : IVec S8x128 32) (i : S8x128.Idx) : wrapIdx x i = wrap1 (x i) := by
  show (select (cmpi .slt x (broadcast S8x128 0#32)) (addi x (broadcast S8x128 128#32)) x)
    (Shape.reshapeEquiv _ (Shape.reshapeEquiv _ i)) = _
  rw [Shape.reshapeEquiv_reshapeEquiv, Shape.reshapeEquiv_self]
  rfl

theorem dynamicGather_apply {α : Type} (x : S8x128.Idx → α) (idx : IVec S8x128 32) (i : S8x128.Idx) :
    dynamicGather 1 x idx i = at2 (a := 8) (b := 128) x (i 0).val (idx i).toNat := by
  unfold dynamicGather at2
  congr 1
  funext k
  match k with
  | ⟨0, _⟩ => exact Fin.ext (Nat.mod_eq_of_lt (i 0).isLt).symm
  | ⟨1, _⟩ => exact Fin.ext rfl

/-- `group` on one lane. -/
def group1 (first : BitVec 32) (l : ℕ) : BitVec 32 := IntOp.minsi (IntOp.addi first (BitVec.ofNat 32 l)) 159#32
theorem lane_apply (i : S8x128.Idx) : lane i = BitVec.ofNat 32 (i 1).val := by
  show BitVec.ofNat 32 (0 * 128 + (i 1).val) = _
  rw [Nat.zero_mul, Nat.zero_add]
theorem group_apply (first : BitVec 32) (i : S8x128.Idx) : group first i = group1 first (i 1).val := by
  show IntOp.minsi (IntOp.addi first (lane i)) 159#32 = _
  rw [lane_apply]; rfl

/-- Which group lane `l` is, when the first is `f`. -/
def grpNo (f l : ℕ) : ℕ := min (f + l) 159
theorem group_word : ∀ (h : Fin 2) (l : Fin 128), (wrap1 (fdiv1 (group1 (BitVec.ofNat 32 (128 * h.val)) l.val) 4#32)).toNat = grpNo (128 * h.val) l.val / 4
    ∧ IntOp.muli (fmod1 (group1 (BitVec.ofNat 32 (128 * h.val)) l.val) 4#32) 8#32 = BitVec.ofNat 32 (8 * (grpNo (128 * h.val) l.val % 4))
    ∧ (wrap1 (IntOp.addi 40#32 (fdiv1 (group1 (BitVec.ofNat 32 (128 * h.val)) l.val) 8#32))).toNat = 40 + grpNo (128 * h.val) l.val / 8 := by decide +kernel
theorem spread_word : ∀ (j : Fin 20) (l : Fin 128), (wrap1 (IntOp.addi (BitVec.ofNat 32 (j.val * 8 % 128)) (fdiv1 (BitVec.ofNat 32 l.val) 16#32))).toNat = j.val * 8 % 128 + l.val / 16 := by decide +kernel

theorem shiftOf_apply (w : IVec S8x128 32) (i : S8x128.Idx) : shiftOf w i = at2 (a := 8) (b := 128) w (i 0).val 63 := by
  unfold shiftOf
  rw [dynamicGather_apply, wrapIdx_apply]
  rfl

/-- The scale of one lane of `part`. -/
theorem part_apply (h : Fin 2) (w : IVec S8x128 32) (i : S8x128.Idx) :
    part (F := Ideal) (BitVec.ofNat 32 (128 * h.val)) w i
      = (((IntOp.andi (IntOp.shrsi .vector (at2 (a := 8) (b := 128) w (i 0).val (grpNo (128 * h.val) (i 1).val / 4)) (BitVec.ofNat 32 (8 * (grpNo (128 * h.val) (i 1).val % 4)))) 255#32).toInt : ℝ) : EReal)
        * Ideal.ofBits .f32 (at2 (a := 8) (b := 128) w (i 0).val (40 + grpNo (128 * h.val) (i 1).val / 8)) := by
  obtain ⟨h1, h2, h3⟩ := group_word h (i 1)
  show (((IntOp.andi (IntOp.shrsi .vector (dynamicGather 1 w (wrapIdx (vFloorDiv (group (BitVec.ofNat 32 (128 * h.val))) 4#32)) i)
      (IntOp.muli (vFloorMod (group (BitVec.ofNat 32 (128 * h.val))) 4#32 _ i) 8#32)) 255#32).toInt : ℝ) : EReal)
    * dynamicGather 1 (fun k => Ideal.ofBits .f32 (w k)) (wrapIdx (addi (broadcast S8x128 40#32) (vFloorDiv (group (BitVec.ofNat 32 (128 * h.val))) 8#32))) i = _
  rw [dynamicGather_apply, dynamicGather_apply, wrapIdx_apply, wrapIdx_apply, vFloorDiv_apply, vFloorMod_apply, group_apply, h1, h2,
    show addi (broadcast S8x128 40#32) (vFloorDiv (group (BitVec.ofNat 32 (128 * h.val))) 8#32) i
      = IntOp.addi 40#32 (fdiv1 (group (BitVec.ofNat 32 (128 * h.val)) i) 8#32) from rfl, group_apply, h3]
  rfl

theorem spreadVal_apply {F : FTy → Type} [FloatOps F] (j : Fin 20) (p0 p1 : FVec F S8x128 .f32) (i : S8x128.Idx) :
    spreadVal j.val p0 p1 i = at2 (a := 8) (b := 128) (if j.val < 16 then p0 else p1) (i 0).val (j.val * 8 % 128 + (i 1).val / 16) := by
  unfold spreadVal
  rw [dynamicGather_apply, wrapIdx_apply,
    show addi (broadcast S8x128 (BitVec.ofNat 32 (j.val * 8 % 128))) (vFloorDiv lane 16#32) i = IntOp.addi (BitVec.ofNat 32 (j.val * 8 % 128)) (fdiv1 (lane i) 16#32) from rfl,
    lane_apply, spread_word j (i 1)]
  congr 1
  by_cases h : j.val < 16
  · rw [if_pos h, show Nat.blt j.val 16 = true from by simpa using h]; rfl
  · rw [if_neg h, show Nat.blt j.val 16 = false from Bool.eq_false_iff.2 fun hb => h (Nat.le_of_ble_eq_true hb)]; rfl
end Cert.KernelIdeal.Lookup
-- ==== Proof.Ideal.Perm.lean ====
/-
  The permutation product: column `c` of the result is one column of the operand.
-/
module
public import proofs.«01_k».proof.Proof.Ideal.Lanes
public import Idealize.ShloMosaic.Lib.MatmulPlain
public import Idealize.ShloMosaic.PureOps.Ideal.Laws
@[expose] public section
noncomputable section
namespace Cert.KernelIdeal.Lookup
open Cert.KernelIdeal
open Idealize.ShloMosaic Idealize.ShloMosaic.ValueIdx
open scoped BigOperators

/-- Where column `c` of a permuted block comes from. -/
def srcCol (c : ℕ) : ℕ := c / 32 * 16 + c % 16 + c % 32 / 16 * 128
theorem srcCol_lt {c : ℕ} (hc : c < 256) : srcCol c < 256 := by unfold srcCol; omega

/-- `permSrc` for the column whose number is given. -/
def permSrc1 (n : BitVec 32) : BitVec 32 :=
  IntOp.addi (IntOp.addi (IntOp.muli (fdiv1 n 32#32) 16#32) (fmod1 n 16#32)) (IntOp.muli (fdiv1 (fmod1 n 32#32) 16#32) 128#32)
theorem permSrc_apply (k c : Fin 256) : permSrc (ix2 k c) = permSrc1 (BitVec.ofNat 32 (0 * 256 + c.val)) := by
  unfold permSrc permSrc1
  show IntOp.addi (IntOp.addi (IntOp.muli (vFloorDiv _ 32#32 (ix2 k c)) 16#32) (vFloorMod _ 16#32 _ (ix2 k c))) (IntOp.muli (vFloorDiv (vFloorMod _ 32#32 _) 16#32 (ix2 k c)) 128#32) = _
  rw [vFloorDiv_apply, vFloorDiv_apply, vFloorMod_apply, vFloorMod_apply]
  rfl
theorem permSrc1_val : ∀ c : Fin 256, permSrc1 (BitVec.ofNat 32 c.val) = BitVec.ofNat 32 (srcCol c.val) := by decide +kernel

theorem permVal_apply (k c : Fin 256) : (permVal (F := Ideal)) (ix2 k c) = if k.val = srcCol c.val then (1 : EReal) else 0 := by
  have h : (permVal (F := Ideal)) (ix2 k c) = (((((IntOp.cmpi .eq (BitVec.ofNat 32 (0 * 256 + k.val)) (permSrc (ix2 k c))).setWidth 32 : BitVec 32).toInt : ℝ)) : EReal) := rfl
  rw [h, permSrc_apply, Nat.zero_mul, Nat.zero_add, Nat.zero_add, permSrc1_val]
  have hs := srcCol_lt c.isLt
  by_cases hk : k.val = srcCol c.val
  · rw [if_pos hk, hk]
    simp [IntOp.cmpi]
  · rw [if_neg hk]
    have : BitVec.ofNat 32 k.val ≠ BitVec.ofNat 32 (srcCol c.val) := by
      intro he
      have := congrArg BitVec.toNat he
      simp only [BitVec.toNat_ofNat] at this
      have := k.isLt
      omega
    have hb : (BitVec.ofNat 32 k.val == BitVec.ofNat 32 (srcCol c.val)) = false := by simpa using this
    simp [IntOp.cmpi, hb]

theorem pass_apply (lhs : FVec Ideal S64x256 .bf16) (r : Fin 64) (c : Fin 256) :
    (Inp.permTile (F := Ideal)).pass lhs (ix2 r c) = lhs (ix2 r ⟨srcCol c.val, srcCol_lt c.isLt⟩) := by
  have h : (Inp.permTile (F := Ideal)).pass lhs (ix2 r c) = ∑ k : Fin 256, lhs (ix2 r k) * (permVal (F := Ideal)) (ix2 k c) := by
    show Ideal.mxuPass (DotDims.plain 64 256 256) lhs (permVal (F := Ideal)) (ix2 r c) = _
    unfold Ideal.mxuPass
    rw [← Equiv.sum_comp (DotDims.plainContr 64 256 256).symm]
    refine Finset.sum_congr rfl fun k _ => ?_
    have hk := contrEquiv1_symm_val _ 256 (DotDims.plain_contr_rank 64 256 256) (DotDims.plain_contr_size 64 256 256) k
    have el : (DotDims.plain 64 256 256).lhsIdx (ix2 r c) ((DotDims.plainContr 64 256 256).symm k) = ix2 r k := by
      funext a; apply Fin.ext
      match a with
      | ⟨0, _⟩ => rfl
      | ⟨1, _⟩ => exact hk
    have er : (DotDims.plain 64 256 256).rhsIdx (ix2 r c) ((DotDims.plainContr 64 256 256).symm k) = ix2 k c := by
      funext a; apply Fin.ext
      match a with
      | ⟨0, _⟩ => exact hk
      | ⟨1, _⟩ => rfl
    rw [el, er]
  rw [h, Finset.sum_eq_single ⟨srcCol c.val, srcCol_lt c.isLt⟩]
  · rw [permVal_apply, if_pos rfl, mul_one]
  · intro k _ hk
    rw [permVal_apply, if_neg (fun he => hk (Fin.ext he)), mul_zero]
  · intro hn; exact absurd (Finset.mem_univ _) hn
end Cert.KernelIdeal.Lookup
-- ==== Proof.Ideal.Value.lean ====
/-
  What the kernel's result holds, in the numbers of its inputs.
-/
module
public import proofs.«01_k».proof.Proof.Spec
public import proofs.«01_k».proof.Proof.Ideal.Numbers
public import proofs.«01_k».proof.Proof.Ideal.Table
public import proofs.«01_k».proof.Proof.Ideal.Perm
public import proofs.«01_k».proof.Proof.Ideal.Outs
@[expose] public section
noncomputable section
namespace Cert.KernelIdeal.Lookup
open Cert.KernelIdeal Cert.Lookup
open Idealize.ShloMosaic hiding ix2 ix3
open Idealize.ShloMosaic.ValueIdx
open Shapes1.Facts₀

theorem at2_mk {α : Type} {a b : ℕ} [NeZero a] [NeZero b] (f : (⟨2, ![a, b]⟩ : Shape).Idx → α) {i j : ℕ} (hi : i < a) (hj : j < b) :
    at2 f i j = f (ix2 ⟨i, hi⟩ ⟨j, hj⟩) :=
  congrArg f (congrArg₂ ix2 (Fin.ext (Nat.mod_eq_of_lt hi)) (Fin.ext (Nat.mod_eq_of_lt hj)))

/-! ## A block before the permutation -/

theorem cat_lo {α : Type} (x y : S64x128.Idx → α) (r : Fin 64) (k : ℕ) (hk : k < 128) :
    concatenate S64x256 1 [⟨S64x128, x⟩, ⟨S64x128, y⟩] concatenates_S64x128_S64x128_S64x256_d1 (ix2 r ⟨k, by omega⟩) = x (ix2 r ⟨k, hk⟩) :=
  concatenate_pair_apply_left (t := S64x256) 1 x y concatenates_S64x128_S64x128_S64x256_d1 (ix2 r ⟨k, by omega⟩ : S64x256.Idx) rfl (ix2 r ⟨k, hk⟩) fun b => match b with
    | ⟨0, _⟩ => rfl
    | ⟨1, _⟩ => rfl
theorem cat_hi {α : Type} (x y : S64x128.Idx → α) (r : Fin 64) (k : ℕ) (hk : k < 128) :
    concatenate S64x256 1 [⟨S64x128, x⟩, ⟨S64x128, y⟩] concatenates_S64x128_S64x128_S64x256_d1 (ix2 r ⟨128 + k, by omega⟩) = y (ix2 r ⟨k, hk⟩) :=
  concatenate_pair_apply_right (t := S64x256) 1 x y concatenates_S64x128_S64x128_S64x256_d1 (ix2 r ⟨128 + k, by omega⟩ : S64x256.Idx) rfl rfl (ix2 r ⟨k, hk⟩) (fun b hb => match b with
    | ⟨0, _⟩ => rfl
    | ⟨1, _⟩ => absurd rfl hb) (Nat.add_comm k 128)

theorem lhsOf_lo (c sh : IVec S64x128 32) (s : FVec Ideal S64x128 .f32) (r : Fin 64) (k : ℕ) (hk : k < 128) :
    lhsOf (F := Ideal) c sh s (ix2 r ⟨k, by omega⟩)
      = (Ideal.ofBits .f32 (IntOp.andi (IntOp.shrui .vector (c (ix2 r ⟨k, hk⟩)) (sh (ix2 r ⟨k, hk⟩))) 15#32 ||| 1258291200#32) - Ideal.ofBits .f32 0x4B000008#32)
        * s (ix2 r ⟨k, hk⟩) := cat_lo _ _ r k hk
theorem lhsOf_hi (c sh : IVec S64x128 32) (s : FVec Ideal S64x128 .f32) (r : Fin 64) (k : ℕ) (hk : k < 128) :
    lhsOf (F := Ideal) c sh s (ix2 r ⟨128 + k, by omega⟩)
      = (Ideal.ofBits .f32 (IntOp.andi (IntOp.shrui .vector (c (ix2 r ⟨k, hk⟩)) (sh (ix2 r ⟨k, hk⟩))) 240#32 ||| 1224736768#32) - Ideal.ofBits .f32 0x49000080#32)
        * s (ix2 r ⟨k, hk⟩) := cat_hi _ _ r k hk

theorem lo_of_word (w : BitVec 32) (x : BitVec 8) (q : ℕ) (hq : q < 4) (h : ∀ i, i < 8 → w.getLsbD (8 * q + i) = x.getLsbD i) :
    IntOp.andi (IntOp.shrui .vector w (BitVec.ofNat 32 (8 * q))) 15#32 = BitVec.ofNat 32 (x.toNat % 16)
    ∧ IntOp.andi (IntOp.shrui .vector w (BitVec.ofNat 32 (8 * q))) 240#32 = BitVec.ofNat 32 (16 * (x.toNat / 16)) := by
  have e : (BitVec.ofNat 32 (8 * q)).toNat = 8 * q := by rw [BitVec.toNat_ofNat]; omega
  have hx : ∀ x : BitVec 8, x.setWidth 32 &&& 15#32 = BitVec.ofNat 32 (x.toNat % 16) ∧ x.setWidth 32 &&& 240#32 = BitVec.ofNat 32 (16 * (x.toNat / 16)) := by
    decide +kernel
  have hm : ∀ m : BitVec 32, (∀ i, 8 ≤ i → i < 32 → m.getLsbD i = false) →
      IntOp.andi (IntOp.shrui .vector w (BitVec.ofNat 32 (8 * q))) m = x.setWidth 32 &&& m := by
    intro m hm
    unfold IntOp.shrui IntOp.andi
    rw [if_pos (by omega)]
    apply BitVec.eq_of_getLsbD_eq
    intro i hi
    rw [BitVec.getLsbD_and, BitVec.getLsbD_and, BitVec.ushiftRight_eq', e, BitVec.getLsbD_ushiftRight, BitVec.getLsbD_setWidth]
    by_cases h8 : i < 8
    · rw [h i h8]; simp [hi]
    · rw [hm i (by omega) hi]; simp
  rw [hm 15#32 (by decide), hm 240#32 (by decide)]
  exact hx x

variable (X : Inp Ideal) (T : S16000x128.Idx → BitVec 32)

theorem row_tab (hT : X.TabOk T) (hX : X.Ok) (n r l : ℕ) (hl : l < 64) : X.row T n r l = X.tab (X.id (64 * n + r)).toNat l := by
  unfold Inp.row
  rw [at2_mk (a := 16000) (b := 128) T (hX _) (show l < 128 by omega)]
  exact hT _ hl
theorem grp_row (n r l : ℕ) (hl : l < 128) : at2 (a := 8) (b := 128) (X.grp T n (r / 8)) (r % 8) l = X.row T n r l := by
  rw [at2_mk (a := 8) (b := 128) _ (Nat.mod_lt _ (by decide)) hl]
  show X.row T n (8 * (r / 8) + r % 8) l = _
  rw [Nat.div_add_mod]

theorem shiftAt_val (hT : X.TabOk T) (hX : X.Ok) (n : ℕ) (r : Fin 64) (k : Fin 128) :
    X.shiftAt T n (ix2 r k) = BitVec.ofNat 32 (8 * ((X.id (64 * n + r.val)).toNat % 4)) := by
  show at2 (a := 8) (b := 128) (shiftOf (X.grp T n (r.val / 8))) (r.val % 8) k.val = _
  rw [at2_mk (a := 8) (b := 128) _ (Nat.mod_lt _ (by decide)) k.isLt, shiftOf_apply]
  show at2 (a := 8) (b := 128) (X.grp T n (r.val / 8)) (r.val % 8) 63 = _
  rw [grp_row X T n r.val 63 (by decide), row_tab X T hT hX _ _ _ (by decide), X.tab_shift]

/-- The scale of group `g` of vocabulary entry `v`. -/
def scaleOf (v g : ℕ) : EReal := ((((at2 X.sub g v).toNat : ℝ) : EReal)) * Ideal.ofBits .f16 (at2 X.sup (g / 8) v)

theorem part_val (hT : X.TabOk T) (hX : X.Ok) (h : Fin 2) (n r l : ℕ) (hl : l < 128) :
    at2 (a := 8) (b := 128) (part (F := Ideal) (BitVec.ofNat 32 (128 * h.val)) (X.grp T n (r / 8))) (r % 8) l
      = scaleOf X (X.id (64 * n + r)).toNat (grpNo (128 * h.val) l) := by
  have hg : grpNo (128 * h.val) l < 160 := by unfold grpNo; omega
  rw [at2_mk (a := 8) (b := 128) _ (Nat.mod_lt _ (by decide)) hl, part_apply]
  show (((IntOp.andi (IntOp.shrsi .vector (at2 (a := 8) (b := 128) (X.grp T n (r / 8)) (r % 8) (grpNo (128 * h.val) l / 4)) (BitVec.ofNat 32 (8 * (grpNo (128 * h.val) l % 4)))) 255#32).toInt : ℝ) : EReal)
        * Ideal.ofBits .f32 (at2 (a := 8) (b := 128) (X.grp T n (r / 8)) (r % 8) (40 + grpNo (128 * h.val) l / 8)) = _
  generalize grpNo (128 * h.val) l = g at *
  rw [grp_row X T _ _ _ (by omega), grp_row X T _ _ _ (by omega), row_tab X T hT hX _ _ _ (by omega), row_tab X T hT hX _ _ _ (by omega),
    X.tab_sub _ _ (hX _) hg, X.tab_sup _ _ (hX _) (by omega), widen_val]
  unfold scaleOf
  have ht : ((at2 X.sub g (X.id (64 * n + r)).toNat).setWidth 32).toInt = ((at2 X.sub g (X.id (64 * n + r)).toNat).toNat : ℤ) := by
    generalize at2 X.sub g (X.id (64 * n + r)).toNat = b
    revert b; decide +kernel
  rw [ht]
  push_cast
  rfl

theorem scaleAt_val (hT : X.TabOk T) (hX : X.Ok) (n : ℕ) (j : Fin 20) (r : Fin 64) (k : Fin 128) :
    at3 (a := 20) (b := 64) (c := 128) (X.scaleAt T n) j.val r.val k.val = scaleOf X (X.id (64 * n + r.val)).toNat (8 * j.val + k.val / 16) := by
  refine (at3_val (a := 20) (b := 64) (c := 128) (X.scaleAt T n) (ix3 j r k)).trans ?_
  show at2 (a := 8) (b := 128) (spreadVal j.val _ _ : FVec Ideal S8x128 .f32) (r.val % 8) k.val = _
  rw [at2_mk (a := 8) (b := 128) _ (Nat.mod_lt _ (by decide)) k.isLt, spreadVal_apply]
  have hk := k.isLt
  have hj := j.isLt
  by_cases h : j.val < 16
  · rw [if_pos h]
    refine (part_val X T hT hX 0 n r.val (j.val * 8 % 128 + k.val / 16) (by omega)).trans ?_
    congr 1
    show min (128 * 0 + (j.val * 8 % 128 + k.val / 16)) 159 = _
    omega
  · rw [if_neg h]
    refine (part_val X T hT hX 1 n r.val (j.val * 8 % 128 + k.val / 16) (by omega)).trans ?_
    congr 1
    show min (128 * 1 + (j.val * 8 % 128 + k.val / 16)) 159 = _
    omega

/-! ## The result -/

/-- The code words hold the code bytes of four vocabulary entries each. -/
def Coded (cod : ℕ → ℕ → BitVec 8) : Prop :=
  ∀ v c, v < 16000 → c < 2560 → ∀ i, i < 8 → (at2 X.words (v / 4) c).getLsbD (8 * (v % 4) + i) = (cod v c).getLsbD i

variable {cod : ℕ → ℕ → BitVec 8}

theorem lhsAt_lo (hT : X.TabOk T) (hX : X.Ok) (hc : Coded X cod) (n : ℕ) (j : Fin 20) (r : Fin 64) (k : ℕ) (hk : k < 128) :
    X.lhsAt T n j.val (ix2 r ⟨k, by omega⟩) = ((((cod (X.id (64 * n + r.val)).toNat (128 * j.val + k)).toNat % 16 : ℕ) : ℝ) - 8 : ℝ)
      * scaleOf X (X.id (64 * n + r.val)).toNat (8 * j.val + k / 16) := by
  unfold Inp.lhsAt
  have hj := j.isLt
  rw [lhsOf_lo _ _ _ _ k hk, shiftAt_val X T hT hX]
  refine congrArg₂ (· * ·) ?_ (scaleAt_val X T hT hX n j r ⟨k, hk⟩)
  obtain ⟨h1, -⟩ := lo_of_word _ _ ((X.id (64 * n + r.val)).toNat % 4) (Nat.mod_lt _ (by decide)) (hc (X.id (64 * n + r.val)).toNat (128 * j.val + k) (hX _) (by omega))
  show Ideal.ofBits .f32 (IntOp.andi (IntOp.shrui .vector (at2 X.words ((X.id (64 * n + r.val)).toNat / 4) (128 * j.val + k)) _) 15#32 ||| 1258291200#32) - _ = _
  rw [h1, lo_val _ (Nat.mod_lt _ (by decide))]
theorem lhsAt_hi (hT : X.TabOk T) (hX : X.Ok) (hc : Coded X cod) (n : ℕ) (j : Fin 20) (r : Fin 64) (k : ℕ) (hk : k < 128) :
    X.lhsAt T n j.val (ix2 r ⟨128 + k, by omega⟩) = ((((cod (X.id (64 * n + r.val)).toNat (128 * j.val + k)).toNat / 16 : ℕ) : ℝ) - 8 : ℝ)
      * scaleOf X (X.id (64 * n + r.val)).toNat (8 * j.val + k / 16) := by
  unfold Inp.lhsAt
  have hj := j.isLt
  rw [lhsOf_hi _ _ _ _ k hk, shiftAt_val X T hT hX]
  refine congrArg₂ (· * ·) ?_ (scaleAt_val X T hT hX n j r ⟨k, hk⟩)
  obtain ⟨-, h1⟩ := lo_of_word _ _ ((X.id (64 * n + r.val)).toNat % 4) (Nat.mod_lt _ (by decide)) (hc (X.id (64 * n + r.val)).toNat (128 * j.val + k) (hX _) (by omega))
  show Ideal.ofBits .f32 (IntOp.andi (IntOp.shrui .vector (at2 X.words ((X.id (64 * n + r.val)).toNat / 4) (128 * j.val + k)) _) 240#32 ||| 1224736768#32) - _ = _
  rw [h1, hi_val _ (by have := (cod (X.id (64 * n + r.val)).toNat (128 * j.val + k)).isLt; omega)]

/-- Vocabulary entry `v`, element `i`. -/
def entryAt (cod : ℕ → ℕ → BitVec 8) (v i : ℕ) : EReal := value (cod v (16 * (i / 32) + i % 16)) (i % 32 / 16) (at2 X.sub (i / 32) v) (at2 X.sup (i / 256) v)

theorem blockAt_val (hT : X.TabOk T) (hX : X.Ok) (hc : Coded X cod) (n : ℕ) (j : Fin 20) (r : Fin 64) (c : Fin 256) :
    X.blockAt T n j.val (ix2 r c) = entryAt X cod (X.id (64 * n + r.val)).toNat (256 * j.val + c.val) := by
  show (Inp.permTile (F := Ideal)).pass (X.lhsAt T n j.val) (ix2 r c) = _
  rw [pass_apply]
  have hcl := c.isLt
  unfold entryAt value
  have es : scaleOf X (X.id (64 * n + r.val)).toNat ((256 * j.val + c.val) / 32)
      = (((at2 X.sub ((256 * j.val + c.val) / 32) (X.id (64 * n + r.val)).toNat).toNat : ℝ) : EReal) * Ideal.ofBits .f16 (at2 X.sup ((256 * j.val + c.val) / 256) (X.id (64 * n + r.val)).toNat) := by
    unfold scaleOf
    rw [show (256 * j.val + c.val) / 32 / 8 = (256 * j.val + c.val) / 256 by omega]
  rw [← es]
  by_cases h : c.val % 32 / 16 = 0
  · have e1 : srcCol c.val = c.val / 32 * 16 + c.val % 16 := by unfold srcCol; omega
    have e2 : (⟨srcCol c.val, srcCol_lt c.isLt⟩ : Fin 256) = ⟨c.val / 32 * 16 + c.val % 16, by omega⟩ := Fin.ext e1
    rw [e2, lhsAt_lo X T hT hX hc n j r _ (by omega), show (256 * j.val + c.val) % 32 / 16 = 0 by omega, pow_zero, Nat.div_one,
      show 128 * j.val + (c.val / 32 * 16 + c.val % 16) = 16 * ((256 * j.val + c.val) / 32) + (256 * j.val + c.val) % 16 by omega,
      show 8 * j.val + (c.val / 32 * 16 + c.val % 16) / 16 = (256 * j.val + c.val) / 32 by omega]
  · have e1 : srcCol c.val = 128 + (c.val / 32 * 16 + c.val % 16) := by unfold srcCol; omega
    have e2 : (⟨srcCol c.val, srcCol_lt c.isLt⟩ : Fin 256) = ⟨128 + (c.val / 32 * 16 + c.val % 16), by omega⟩ := Fin.ext e1
    rw [e2, lhsAt_hi X T hT hX hc n j r _ (by omega), show (256 * j.val + c.val) % 32 / 16 = 1 by omega, pow_one,
      show 128 * j.val + (c.val / 32 * 16 + c.val % 16) = 16 * ((256 * j.val + c.val) / 32) + (256 * j.val + c.val) % 16 by omega,
      show 8 * j.val + (c.val / 32 * 16 + c.val % 16) / 16 = (256 * j.val + c.val) / 32 by omega,
      Nat.mod_eq_of_lt (show (cod (X.id (64 * n + r.val)).toNat (16 * ((256 * j.val + c.val) / 32) + (256 * j.val + c.val) % 16)).toNat / 16 < 16 by
        have := (cod (X.id (64 * n + r.val)).toNat (16 * ((256 * j.val + c.val) / 32) + (256 * j.val + c.val) % 16)).isLt; omega)]

theorem resAt_val (hT : X.TabOk T) (hX : X.Ok) (hc : Coded X cod) (b : Fin 2) (s : Fin 1024) (i : Fin 5120) :
    X.resAt T (ix3 b s i) = entryAt X cod (X.ids (ix2 b s)).toNat i.val := by
  have hb := b.isLt; have hs := s.isLt; have hi := i.isLt
  show at2 (a := 64) (b := 256) (X.blockAt T (4 * (s.val / 128) + 2 * b.val + s.val % 128 / 64) (i.val / 256)) (s.val % 64) (i.val % 256) = _
  rw [at2_mk (a := 64) (b := 256) _ (Nat.mod_lt _ (by decide)) (Nat.mod_lt _ (by decide))]
  refine (blockAt_val X T hT hX hc _ ⟨i.val / 256, by omega⟩ ⟨s.val % 64, _⟩ ⟨i.val % 256, _⟩).trans ?_
  have e : X.id (64 * (4 * (s.val / 128) + 2 * b.val + s.val % 128 / 64) + s.val % 64) = X.ids (ix2 b s) := by
    unfold Inp.id
    rw [show (64 * (4 * (s.val / 128) + 2 * b.val + s.val % 128 / 64) + s.val % 64) / 128 % 2 = b.val by omega,
      show 128 * ((64 * (4 * (s.val / 128) + 2 * b.val + s.val % 128 / 64) + s.val % 64) / 256) + (64 * (4 * (s.val / 128) + 2 * b.val + s.val % 128 / 64) + s.val % 64) % 128 = s.val by omega]
    exact at2_val (a := 2) (b := 1024) X.ids (ix2 b s)
  show entryAt X cod (X.id (64 * (4 * (s.val / 128) + 2 * b.val + s.val % 128 / 64) + s.val % 64)).toNat (256 * (i.val / 256) + i.val % 256) = _
  rw [e, Nat.div_add_mod]
end Cert.KernelIdeal.Lookup
-- ==== Proof.Ideal.Inputs.lean ====
/-
  The arrays the kernel is given, in the numbers of the program's arguments: the host rearranges them.
-/
module
public import proofs.«01_k».proof.Proof.Ideal.Launch
public import proofs.«01_k».proof.Proof.Ideal.Value
public import Idealize.ShloMosaic.Lib.StableHlo.Run
public import Idealize.ShloMosaic.Lib.BitcastConvert
@[expose] public section
noncomputable section
namespace Cert.KernelIdeal.Lookup
open Cert.KernelIdeal Cert.Lookup Cert.KernelIdeal.Gen
open Idealize.ShloMosaic hiding ix2 ix3 eq_ix2 eq_ix3
open Idealize.ShloMosaic.TcCoe
open Idealize.ShloMosaic.ValueIdx

variable (m : (ℓ : Loc nD τ sig) → Buf (Elt Ideal) ℓ) (c : Dev nD)

/-- The arguments: ids, code bytes, super-scales, sub-scales. -/
def argIds : S2x1024.Idx → BitVec 32 := m ((c : Thread nD τ).loc main_arg0)
def argCodes : S16000x2560.Idx → BitVec 8 := m ((c : Thread nD τ).loc main_arg1)
def argSup : S16000x20.Idx → BitVec 16 := m ((c : Thread nD τ).loc main_arg2)
def argSub : S16000x160.Idx → BitVec 8 := m ((c : Thread nD τ).loc main_arg3)

/-- Rows of code bytes four at a time. -/
theorem rows_apply (x : S16000x2560.Idx → BitVec 8) (a : Fin 4000) (q : Fin 4) (k : Fin 2560) :
    shapeCast S4000x4x2560 x shapeCasts_S16000x2560_S4000x4x2560 (ix3 a q k) = x (ix2 ⟨4 * a.val + q.val, by omega⟩ k) := by
  refine congrArg x (Shape.reshapeEquiv_eq_of_rowMajor _ ?_)
  rw [Shape.rowMajor_val_two, Shape.rowMajor_val_three]
  show (4 * a.val + q.val) * 2560 + k.val = (a.val * 4 + q.val) * 2560 + k.val
  ring

theorem words_eq : V m c main_v2 = Host.bitcastConvertWiden S4000x2560 32
    (transpose S4000x2560x4 [0, 2, 1] (shapeCast S4000x4x2560 (argCodes m c) shapeCasts_S16000x2560_S4000x4x2560) transposes_S4000x4x2560_S4000x2560x4_0_2_1)
    splits_S4000x2560_w32_S4000x2560x4_w8 := by
  show StableHlo.after hostOps0 _ (Proc.devRef .tc main_v2) = _; after_results
  rfl
theorem sub_eq : V m c main_v3 = transpose S160x16000 [1, 0] (argSub m c) transposes_S16000x160_S160x16000_1_0 := by
  show StableHlo.after hostOps0 _ (Proc.devRef .tc main_v3) = _; after_results
  rfl
theorem sup_eq : V m c main_v4 = transpose S20x16000 [1, 0] (argSup m c) transposes_S16000x20_S20x16000_1_0 := by
  show StableHlo.after hostOps0 _ (Proc.devRef .tc main_v4) = _; after_results
  rfl

theorem coded : Coded (inp m c) (at2 (argCodes m c)) := by
  intro v k hv hk i hi
  show (at2 (V m c main_v2 : S4000x2560.Idx → BitVec 32) (v / 4) k).getLsbD _ = _
  rw [words_eq, at2_mk (a := 4000) (b := 2560) _ (show v / 4 < 4000 by omega) hk, Host.bitcastConvertWiden_getLsbD _ _ _ _ _ _ (show 8 * (v % 4) + i < 32 by omega)]
  have e : splits_S4000x2560_w32_S4000x2560x4_w8.snoc (ix2 ⟨v / 4, by omega⟩ ⟨k, hk⟩) ⟨(8 * (v % 4) + i) / 8, splits_S4000x2560_w32_S4000x2560x4_w8.div_lt (show 8 * (v % 4) + i < 32 by omega)⟩
      = ix3 ⟨v / 4, by omega⟩ ⟨k, hk⟩ ⟨v % 4, Nat.mod_lt _ (by decide)⟩ := by
    funext b
    match b with
    | ⟨0, _⟩ => rfl
    | ⟨1, _⟩ => rfl
    | ⟨2, _⟩ => exact Fin.ext (show (8 * (v % 4) + i) / 8 = v % 4 by omega)
  rw [e, show (8 * (v % 4) + i) % 8 = i by omega]
  refine congrArg (BitVec.getLsbD · i) ?_
  refine (transpose_ix3_021_apply (m := 4000) (a := 4) (b := 2560) _ transposes_S4000x4x2560_S4000x2560x4_0_2_1 ⟨v / 4, by omega⟩ ⟨k, hk⟩ ⟨v % 4, Nat.mod_lt _ (by decide)⟩).trans ?_
  rw [rows_apply, at2_mk (a := 16000) (b := 2560) _ hv hk]
  exact congrArg _ (congrArg₂ ix2 (Fin.ext (Nat.div_add_mod v 4)) rfl)
theorem sub_at (g v : ℕ) (hg : g < 160) (hv : v < 16000) : at2 (inp m c).sub g v = at2 (argSub m c) v g := by
  show at2 (V m c main_v3 : S160x16000.Idx → BitVec 8) g v = _
  rw [sub_eq, at2_mk (a := 160) (b := 16000) _ hg hv, at2_mk (a := 16000) (b := 160) _ hv hg]
  exact transpose_ix2_apply (a := 16000) (b := 160) _ _ _ _
theorem sup_at (b v : ℕ) (hb : b < 20) (hv : v < 16000) : at2 (inp m c).sup b v = at2 (argSup m c) v b := by
  show at2 (V m c main_v4 : S20x16000.Idx → BitVec 16) b v = _
  rw [sup_eq, at2_mk (a := 20) (b := 16000) _ hb hv, at2_mk (a := 16000) (b := 20) _ hv hb]
  exact transpose_ix2_apply (a := 16000) (b := 20) _ _ _ _

/-- Element `i` of the looked-up row at `(b, s)`. -/
def lookup (ids : S2x1024.Idx → BitVec 32) (codes : S16000x2560.Idx → BitVec 8) (sup : S16000x20.Idx → BitVec 16) (sub : S16000x160.Idx → BitVec 8) :
    S2x1024x5120.Idx → EReal := fun y =>
  value (at2 codes (ids (ix2 (y 0) (y 1))).toNat (16 * ((y 2).val / 32) + (y 2).val % 16)) ((y 2).val % 32 / 16)
    (at2 sub (ids (ix2 (y 0) (y 1))).toNat ((y 2).val / 32)) (at2 sup (ids (ix2 (y 0) (y 1))).toNat ((y 2).val / 256))

/-- The kernel's result, whatever the unwritten lanes of its table held. -/
theorem result_val (h : IdsOk m) (T : S16000x128.Idx → BitVec 32) (hT : (inp m c).TabOk T) :
    (inp m c).resAt T = lookup (argIds m c) (argCodes m c) (argSup m c) (argSub m c) := by
  have hX := inp_ok m h c
  funext y
  rw [eq_ix3 y]
  refine (resAt_val (inp m c) T hT hX (coded m c) (y 0) (y 1) (y 2)).trans ?_
  have hi : (y 2).val < 5120 := (y 2).isLt
  have hids : (inp m c).ids = argIds m c := V_main_arg0 m c
  have hv : ((inp m c).ids (ix2 (y 0) (y 1))).toNat < 16000 := by rw [hids]; exact h c _
  unfold entryAt
  rw [sub_at m c _ _ (by omega) hv, sup_at m c _ _ (by omega) hv, hids]
  rfl
end Cert.KernelIdeal.Lookup
-- ==== Proof.Algebraic.lean ====
/-
  On the reals with infinities the kernel and the reference leave the same result.
-/
module
public import proofs.«01_k».proof.Proof.Words
public import proofs.«01_k».proof.Proof.Reference
public import proofs.«01_k».proof.Proof.Ideal.Inputs
@[expose] public section
noncomputable section
namespace Cert.Lookup
open Idealize.ShloMosaic Idealize.SL.Sem
/-- The reference's rows are the looked-up ones. -/
theorem reference_val (ids : Cert.KernelIdeal.S2x1024.Idx → BitVec 32) (h : ∀ y, (ids y).toNat < 16000) (codes : Cert.KernelIdeal.S16000x2560.Idx → BitVec 8)
    (sup : Cert.KernelIdeal.S16000x20.Idx → BitVec 16) (sub : Cert.KernelIdeal.S16000x160.Idx → BitVec 8) :
    Cert.ReferenceIdeal.Lookup.rowsOf
        (Cert.ReferenceIdeal.Lookup.codeVals (Cert.ReferenceIdeal.Lookup.codeRows codes ids) (fun i => Cert.ReferenceIdeal.lit0 (Cert.ReferenceIdeal.S2.rowMajor i)))
        (Cert.ReferenceIdeal.Lookup.scales (fun i => Ideal.ofBits .f16 (sup i)) sub ids)
      = Cert.KernelIdeal.Lookup.lookup ids codes sup sub := by
  funext y
  have hi : (y 2).val < 5120 := (y 2).isLt
  have hv := h (ValueIdx.ix2 (y 0) (y 1))
  conv_lhs => rw [ValueIdx.eq_ix3 y]
  refine (Cert.ReferenceIdeal.Lookup.result_apply ids h codes sup sub (y 0) (y 1) (y 2)).trans ?_
  unfold Cert.KernelIdeal.Lookup.lookup
  rw [Cert.KernelIdeal.Lookup.at2_mk (a := 16000) (b := 2560) codes hv (show 16 * ((y 2).val / 32) + (y 2).val % 16 < 2560 by omega),
    Cert.KernelIdeal.Lookup.at2_mk (a := 16000) (b := 160) sub hv (show (y 2).val / 32 < 160 by omega),
    Cert.KernelIdeal.Lookup.at2_mk (a := 16000) (b := 20) sup hv (show (y 2).val / 256 < 20 by omega)]

theorem algebraic [Cert.Pre_pre.Facts] : Cert.algebraic_KernelIdeal_ReferenceIdeal := by
  intro m g m' g' hpre harg
  have hids : ∀ (c : Dev Cert.KernelIdeal.nD) y, (Cert.KernelIdeal.Lookup.argIds m c y).toNat < 16000 := fun c y => ids_of_pre (hpre c) y
  refine ⟨fun c => Cert.KernelIdeal.Lookup.lookup (Cert.KernelIdeal.Lookup.argIds m c) (Cert.KernelIdeal.Lookup.argCodes m c)
    (Cert.KernelIdeal.Lookup.argSup m c) (Cert.KernelIdeal.Lookup.argSub m c), ?_, ?_⟩
  · refine (θ_run _ _ _).mono (fun r h c => ?_) (Cert.KernelIdeal.Lookup.run_main m g hids)
    obtain ⟨hk, T, hT, ho⟩ := h.1 c
    exact ⟨ho.trans (Cert.KernelIdeal.Lookup.result_val m c hids T hT), hk⟩
  · refine (θ_run _ _ _).mono (fun r h c => ?_) (θ_run_and (Cert.ReferenceIdeal.Lookup.run m' g') (Cert.ReferenceIdeal.Gen.frame m' g'))
    obtain ⟨h0, h1, h2, h3⟩ := harg c
    refine ⟨(h.1 c).trans ?_, h.2.1 c⟩
    have a0 : Cert.ReferenceIdeal.Lookup.argIds m' c = Cert.KernelIdeal.Lookup.argIds m c := h0
    have a1 : Cert.ReferenceIdeal.Lookup.argCodes m' c = Cert.KernelIdeal.Lookup.argCodes m c := h1
    have a2 : Cert.ReferenceIdeal.Lookup.argSup m' c = Cert.KernelIdeal.Lookup.argSup m c := h2
    have a3 : Cert.ReferenceIdeal.Lookup.argSub m' c = Cert.KernelIdeal.Lookup.argSub m c := h3
    rw [a0, a1, a2, a3]
    exact reference_val _ (hids c) _ _ _
end Cert.Lookup
-- ==== Proof.lean ====
module

public import proofs.«01_k».proof.Defs
public import proofs.«01_k».proof.Proof.Frame
public import proofs.«01_k».proof.Proof.Ideal.Frame
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_pre

@[expose] public section

noncomputable section

namespace Cert.Proof

open Idealize.ShloMosaic Idealize.SL.Sem

theorem frameReference [Cert.Pre_pre.Facts] : Cert.quiescent_ReferenceIdeal := fun m ρ _ => Cert.ReferenceIdeal.Gen.frame m ρ

theorem claim : Cert.Claim := ⟨Cert.Kernel.Gen.facts, Cert.KernelIdeal.Gen.facts, Cert.ReferenceIdeal.Gen.facts, Cert.Pre_pre.Gen.facts,
  Cert.Kernel.Lookup.frame, Cert.KernelIdeal.Lookup.frame, frameReference, trivial, Cert.Lookup.algebraic⟩

end Cert.Proof

end
